-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_Send (m : (ℓ : Loc Cert.Send.nD Cert.Send.τ Cert.Send.sig) → Buf (Elt Bits) ℓ) : Prop :=
  True

def Pre_SendIdeal (m : (ℓ : Loc Cert.SendIdeal.nD Cert.SendIdeal.τ Cert.SendIdeal.sig) → Buf (Elt Ideal) ℓ) : Prop :=
  True

def Pre_SendReferenceIdeal (m : (ℓ : Loc Cert.SendReferenceIdeal.nD Cert.SendReferenceIdeal.τ Cert.SendReferenceIdeal.sig) → Buf (Elt Ideal) ℓ) : Prop :=
  True

def Pre_SendReference (m : (ℓ : Loc Cert.SendReference.nD Cert.SendReference.τ Cert.SendReference.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareReferenceIdeal (m : (ℓ : Loc Cert.ShareReferenceIdeal.nD Cert.ShareReferenceIdeal.τ Cert.ShareReferenceIdeal.sig) → Buf (Elt Ideal) ℓ) : Prop :=
  True

def Pre_ShareReference (m : (ℓ : Loc Cert.ShareReference.nD Cert.ShareReference.τ Cert.ShareReference.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamConvDw (m : (ℓ : Loc Cert.AdamConvDw.nD Cert.AdamConvDw.τ Cert.AdamConvDw.sig) → Buf (Elt Bits) ℓ) : Prop :=
  True

def Pre_AdamConvDwIdeal (m : (ℓ : Loc Cert.AdamConvDwIdeal.nD Cert.AdamConvDwIdeal.τ Cert.AdamConvDwIdeal.sig) → Buf (Elt Ideal) ℓ) : Prop :=
  True

def Pre_AdamConvDwReferenceIdeal (m : (ℓ : Loc Cert.AdamConvDwReferenceIdeal.nD Cert.AdamConvDwReferenceIdeal.τ Cert.AdamConvDwReferenceIdeal.sig) → Buf (Elt Ideal) ℓ) : Prop :=
  True

def Pre_AdamConvPw (m : (ℓ : Loc Cert.AdamConvPw.nD Cert.AdamConvPw.τ Cert.AdamConvPw.sig) → Buf (Elt Bits) ℓ) : Prop :=
  True

def Pre_AdamConvPwIdeal (m : (ℓ : Loc Cert.AdamConvPwIdeal.nD Cert.AdamConvPwIdeal.τ Cert.AdamConvPwIdeal.sig) → Buf (Elt Ideal) ℓ) : Prop :=
  True

def Pre_AdamConvPwReferenceIdeal (m : (ℓ : Loc Cert.AdamConvPwReferenceIdeal.nD Cert.AdamConvPwReferenceIdeal.τ Cert.AdamConvPwReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamFfnDw (m : (ℓ : Loc Cert.AdamFfnDw.nD Cert.AdamFfnDw.τ Cert.AdamFfnDw.sig) → Buf (Elt Bits) ℓ) : Prop :=
  True

def Pre_AdamFfnDwIdeal (m : (ℓ : Loc Cert.AdamFfnDwIdeal.nD Cert.AdamFfnDwIdeal.τ Cert.AdamFfnDwIdeal.sig) → Buf (Elt Ideal) ℓ) : Prop :=
  True

def Pre_AdamFfnDwReferenceIdeal (m : (ℓ : Loc Cert.AdamFfnDwReferenceIdeal.nD Cert.AdamFfnDwReferenceIdeal.τ Cert.AdamFfnDwReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AddSibling [hPre_a_core : Cert.Pre_a_core.Facts] (m : (ℓ : Loc Cert.AddSibling.nD Cert.AddSibling.τ Cert.AddSibling.sig) → Buf (Elt Bits) ℓ) : Prop :=
  ∀ c : Dev Cert.AddSibling.nD,
    (Cert.Pre_a_core.fn (F := Bits) (m ((c.tc : Thread Cert.AddSibling.nD Cert.AddSibling.τ).loc Cert.AddSibling.main_arg0)) (m ((c.tc : Thread Cert.AddSibling.nD Cert.AddSibling.τ).loc Cert.AddSibling.main_arg1)) (m ((c.tc : Thread Cert.AddSibling.nD Cert.AddSibling.τ).loc Cert.AddSibling.main_arg2))) = (fun _ => 1#1)

def Pre_AddSiblingIdeal [hPre_a_core : Cert.Pre_a_core.Facts] (m : (ℓ : Loc Cert.AddSiblingIdeal.nD Cert.AddSiblingIdeal.τ Cert.AddSiblingIdeal.sig) → Buf (Elt Ideal) ℓ) : Prop :=
  ∀ c : Dev Cert.AddSiblingIdeal.nD,
    (Cert.Pre_a_core.fn (F := Ideal) (m ((c.tc : Thread Cert.AddSiblingIdeal.nD Cert.AddSiblingIdeal.τ).loc Cert.AddSiblingIdeal.main_arg0)) (m ((c.tc : Thread Cert.AddSiblingIdeal.nD Cert.AddSiblingIdeal.τ).loc Cert.AddSiblingIdeal.main_arg1)) (m ((c.tc : Thread Cert.AddSiblingIdeal.nD Cert.AddSiblingIdeal.τ).loc Cert.AddSiblingIdeal.main_arg2))) = (fun _ => 1#1)

def Pre_AddSiblingReferenceIdeal (m : (ℓ : Loc Cert.AddSiblingReferenceIdeal.nD Cert.AddSiblingReferenceIdeal.τ Cert.AddSiblingReferenceIdeal.sig) → Buf (Elt Ideal) ℓ) : Prop :=
  True

def Pre_AddSiblingReferenceIdeal_a_core [hPre_a_core : Cert.Pre_a_core.Facts] (m : (ℓ : Loc Cert.AddSiblingReferenceIdeal.nD Cert.AddSiblingReferenceIdeal.τ Cert.AddSiblingReferenceIdeal.sig) → Buf (Elt Ideal) ℓ) : Prop :=
  ∀ c : Dev Cert.AddSiblingReferenceIdeal.nD,
    (Cert.Pre_a_core.fn (F := Ideal) (m ((c.tc : Thread Cert.AddSiblingReferenceIdeal.nD Cert.AddSiblingReferenceIdeal.τ).loc Cert.AddSiblingReferenceIdeal.main_arg0)) (m ((c.tc : Thread Cert.AddSiblingReferenceIdeal.nD Cert.AddSiblingReferenceIdeal.τ).loc Cert.AddSiblingReferenceIdeal.main_arg1)) (m ((c.tc : Thread Cert.AddSiblingReferenceIdeal.nD Cert.AddSiblingReferenceIdeal.τ).loc Cert.AddSiblingReferenceIdeal.main_arg2))) = (fun _ => 1#1)

def Pre_AddSiblingReference [hPre_a_core : Cert.Pre_a_core.Facts] (m : (ℓ : Loc Cert.AddSiblingReference.nD Cert.AddSiblingReference.τ Cert.AddSiblingReference.sig) → Buf (Elt Bits) ℓ) : Prop :=
  ∀ c : Dev Cert.AddSiblingReference.nD,
    (Cert.Pre_a_core.fn (F := Bits) (m ((c.tc : Thread Cert.AddSiblingReference.nD Cert.AddSiblingReference.τ).loc Cert.AddSiblingReference.main_arg0)) (m ((c.tc : Thread Cert.AddSiblingReference.nD Cert.AddSiblingReference.τ).loc Cert.AddSiblingReference.main_arg1)) (m ((c.tc : Thread Cert.AddSiblingReference.nD Cert.AddSiblingReference.τ).loc Cert.AddSiblingReference.main_arg2))) = (fun _ => 1#1)

def Pre_AddPartials [hPre_a_chip : Cert.Pre_a_chip.Facts] (m : (ℓ : Loc Cert.AddPartials.nD Cert.AddPartials.τ Cert.AddPartials.sig) → Buf (Elt Bits) ℓ) : Prop :=
  ∀ c : Dev Cert.AddPartials.nD,
    (Cert.Pre_a_chip.fn (F := Bits) (m ((c.tc : Thread Cert.AddPartials.nD Cert.AddPartials.τ).loc Cert.AddPartials.main_arg0)) (m ((c.tc : Thread Cert.AddPartials.nD Cert.AddPartials.τ).loc Cert.AddPartials.main_arg1)) (m ((c.tc : Thread Cert.AddPartials.nD Cert.AddPartials.τ).loc Cert.AddPartials.main_arg2))) = (fun _ => 1#1)

def Pre_AddPartialsIdeal [hPre_a_chip : Cert.Pre_a_chip.Facts] (m : (ℓ : Loc Cert.AddPartialsIdeal.nD Cert.AddPartialsIdeal.τ Cert.AddPartialsIdeal.sig) → Buf (Elt Ideal) ℓ) : Prop :=
  ∀ c : Dev Cert.AddPartialsIdeal.nD,
    (Cert.Pre_a_chip.fn (F := Ideal) (m ((c.tc : Thread Cert.AddPartialsIdeal.nD Cert.AddPartialsIdeal.τ).loc Cert.AddPartialsIdeal.main_arg0)) (m ((c.tc : Thread Cert.AddPartialsIdeal.nD Cert.AddPartialsIdeal.τ).loc Cert.AddPartialsIdeal.main_arg1)) (m ((c.tc : Thread Cert.AddPartialsIdeal.nD Cert.AddPartialsIdeal.τ).loc Cert.AddPartialsIdeal.main_arg2))) = (fun _ => 1#1)

def Pre_AddPartialsReferenceIdeal (m : (ℓ : Loc Cert.AddPartialsReferenceIdeal.nD Cert.AddPartialsReferenceIdeal.τ Cert.AddPartialsReferenceIdeal.sig) → Buf (Elt Ideal) ℓ) : Prop :=
  True

def Pre_AddPartialsReferenceIdeal_a_chip [hPre_a_chip : Cert.Pre_a_chip.Facts] (m : (ℓ : Loc Cert.AddPartialsReferenceIdeal.nD Cert.AddPartialsReferenceIdeal.τ Cert.AddPartialsReferenceIdeal.sig) → Buf (Elt Ideal) ℓ) : Prop :=
  ∀ c : Dev Cert.AddPartialsReferenceIdeal.nD,
    (Cert.Pre_a_chip.fn (F := Ideal) (m ((c.tc : Thread Cert.AddPartialsReferenceIdeal.nD Cert.AddPartialsReferenceIdeal.τ).loc Cert.AddPartialsReferenceIdeal.main_arg0)) (m ((c.tc : Thread Cert.AddPartialsReferenceIdeal.nD Cert.AddPartialsReferenceIdeal.τ).loc Cert.AddPartialsReferenceIdeal.main_arg1)) (m ((c.tc : Thread Cert.AddPartialsReferenceIdeal.nD Cert.AddPartialsReferenceIdeal.τ).loc Cert.AddPartialsReferenceIdeal.main_arg2))) = (fun _ => 1#1)

def Pre_AddPartialsReference [hPre_a_chip : Cert.Pre_a_chip.Facts] (m : (ℓ : Loc Cert.AddPartialsReference.nD Cert.AddPartialsReference.τ Cert.AddPartialsReference.sig) → Buf (Elt Bits) ℓ) : Prop :=
  ∀ c : Dev Cert.AddPartialsReference.nD,
    (Cert.Pre_a_chip.fn (F := Bits) (m ((c.tc : Thread Cert.AddPartialsReference.nD Cert.AddPartialsReference.τ).loc Cert.AddPartialsReference.main_arg0)) (m ((c.tc : Thread Cert.AddPartialsReference.nD Cert.AddPartialsReference.τ).loc Cert.AddPartialsReference.main_arg1)) (m ((c.tc : Thread Cert.AddPartialsReference.nD Cert.AddPartialsReference.τ).loc Cert.AddPartialsReference.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjFg (m : (ℓ : Loc Cert.ProjFg.nD Cert.ProjFg.τ Cert.ProjFg.sig) → Buf (Elt Bits) ℓ) : Prop :=
  True

def Pre_ProjFgIdeal (m : (ℓ : Loc Cert.ProjFgIdeal.nD Cert.ProjFgIdeal.τ Cert.ProjFgIdeal.sig) → Buf (Elt Ideal) ℓ) : Prop :=
  True

def Pre_ProjFgReferenceIdeal (m : (ℓ : Loc Cert.ProjFgReferenceIdeal.nD Cert.ProjFgReferenceIdeal.τ Cert.ProjFgReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def Pre_BackAct (m : (ℓ : Loc Cert.BackAct.nD Cert.BackAct.τ Cert.BackAct.sig) → Buf (Elt Bits) ℓ) : Prop :=
  True

def Pre_BackActIdeal (m : (ℓ : Loc Cert.BackActIdeal.nD Cert.BackActIdeal.τ Cert.BackActIdeal.sig) → Buf (Elt Ideal) ℓ) : Prop :=
  True

def Pre_BackActReferenceIdeal (m : (ℓ : Loc Cert.BackActReferenceIdeal.nD Cert.BackActReferenceIdeal.τ Cert.BackActReferenceIdeal.sig) → Buf (Elt Ideal) ℓ) : Prop :=
  True

def Pre_BackUp (m : (ℓ : Loc Cert.BackUp.nD Cert.BackUp.τ Cert.BackUp.sig) → Buf (Elt Bits) ℓ) : Prop :=
  True

def Pre_BackUpIdeal (m : (ℓ : Loc Cert.BackUpIdeal.nD Cert.BackUpIdeal.τ Cert.BackUpIdeal.sig) → Buf (Elt Ideal) ℓ) : Prop :=
  True

def Pre_BackUpReferenceIdeal (m : (ℓ : Loc Cert.BackUpReferenceIdeal.nD Cert.BackUpReferenceIdeal.τ Cert.BackUpReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_BackMix (m : (ℓ : Loc Cert.BackMix.nD Cert.BackMix.τ Cert.BackMix.sig) → Buf (Elt Bits) ℓ) : Prop :=
  True

def Pre_BackMixIdeal (m : (ℓ : Loc Cert.BackMixIdeal.nD Cert.BackMixIdeal.τ Cert.BackMixIdeal.sig) → Buf (Elt Ideal) ℓ) : Prop :=
  True

def Pre_BackMixReferenceIdeal (m : (ℓ : Loc Cert.BackMixReferenceIdeal.nD Cert.BackMixReferenceIdeal.τ Cert.BackMixReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_BackFg (m : (ℓ : Loc Cert.BackFg.nD Cert.BackFg.τ Cert.BackFg.sig) → Buf (Elt Bits) ℓ) : Prop :=
  True

def Pre_BackFgIdeal (m : (ℓ : Loc Cert.BackFgIdeal.nD Cert.BackFgIdeal.τ Cert.BackFgIdeal.sig) → Buf (Elt Ideal) ℓ) : Prop :=
  True

def Pre_BackFgReferenceIdeal (m : (ℓ : Loc Cert.BackFgReferenceIdeal.nD Cert.BackFgReferenceIdeal.τ Cert.BackFgReferenceIdeal.sig) → Buf (Elt Ideal) ℓ) : Prop :=
  True

def Pre_BackA (m : (ℓ : Loc Cert.BackA.nD Cert.BackA.τ Cert.BackA.sig) → Buf (Elt Bits) ℓ) : Prop :=
  True

def Pre_BackAIdeal (m : (ℓ : Loc Cert.BackAIdeal.nD Cert.BackAIdeal.τ Cert.BackAIdeal.sig) → Buf (Elt Ideal) ℓ) : Prop :=
  True

def Pre_BackAReferenceIdeal (m : (ℓ : Loc Cert.BackAReferenceIdeal.nD Cert.BackAReferenceIdeal.τ Cert.BackAReferenceIdeal.sig) → Buf (Elt Ideal) ℓ) : Prop :=
  True

def Pre_GradA (m : (ℓ : Loc Cert.GradA.nD Cert.GradA.τ Cert.GradA.sig) → Buf (Elt Bits) ℓ) : Prop :=
  True

def Pre_GradAIdeal (m : (ℓ : Loc Cert.GradAIdeal.nD Cert.GradAIdeal.τ Cert.GradAIdeal.sig) → Buf (Elt Ideal) ℓ) : Prop :=
  True

def Pre_GradAReferenceIdeal (m : (ℓ : Loc Cert.GradAReferenceIdeal.nD Cert.GradAReferenceIdeal.τ Cert.GradAReferenceIdeal.sig) → Buf (Elt Ideal) ℓ) : Prop :=
  True

def Pre_GradFg (m : (ℓ : Loc Cert.GradFg.nD Cert.GradFg.τ Cert.GradFg.sig) → Buf (Elt Bits) ℓ) : Prop :=
  True

def Pre_GradFgIdeal (m : (ℓ : Loc Cert.GradFgIdeal.nD Cert.GradFgIdeal.τ Cert.GradFgIdeal.sig) → Buf (Elt Ideal) ℓ) : Prop :=
  True

def Pre_GradFgReferenceIdeal (m : (ℓ : Loc Cert.GradFgReferenceIdeal.nD Cert.GradFgReferenceIdeal.τ Cert.GradFgReferenceIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0))
      ∧ r.2.sem = fun _ => 0)

def quiescent_Send [hSend : Cert.Send.Facts] : Prop :=
  ∀ (m : (ℓ : Loc Cert.Send.nD Cert.Send.τ Cert.Send.sig) → Buf (Elt Bits) ℓ) (g : Dev Cert.Send.nD → PrngReg), Pre_Send m →
    θ_run (Cert.Send.defs (F := Bits)) (onTc (τ := Cert.Send.τ) (Cert.Send.main (F := Bits))) ⟨m, fun _ => 0, g⟩ (fun r => (∀ c : Dev Cert.Send.nD,
      r.2.mem ((c.tc : Thread Cert.Send.nD Cert.Send.τ).loc Cert.Send.main_arg0) = m ((c.tc : Thread Cert.Send.nD Cert.Send.τ).loc Cert.Send.main_arg0))
      ∧ r.2.sem = fun _ => 0)

def quiescent_SendIdeal [hSendIdeal : Cert.SendIdeal.Facts] : Prop :=
  ∀ (m : (ℓ : Loc Cert.SendIdeal.nD Cert.SendIdeal.τ Cert.SendIdeal.sig) → Buf (Elt Ideal) ℓ) (g : Dev Cert.SendIdeal.nD → PrngReg), Pre_SendIdeal m →
    θ_run (Cert.SendIdeal.defs (F := Ideal)) (onTc (τ := Cert.SendIdeal.τ) (Cert.SendIdeal.main (F := Ideal))) ⟨m, fun _ => 0, g⟩ (fun r => (∀ c : Dev Cert.SendIdeal.nD,
      r.2.mem ((c.tc : Thread Cert.SendIdeal.nD Cert.SendIdeal.τ).loc Cert.SendIdeal.main_arg0) = m ((c.tc : Thread Cert.SendIdeal.nD Cert.SendIdeal.τ).loc Cert.SendIdeal.main_arg0))
      ∧ r.2.sem = fun _ => 0)

def quiescent_SendReferenceIdeal [hSendReferenceIdeal : Cert.SendReferenceIdeal.Facts] : Prop :=
  ∀ (m : (ℓ : Loc Cert.SendReferenceIdeal.nD Cert.SendReferenceIdeal.τ Cert.SendReferenceIdeal.sig) → Buf (Elt Ideal) ℓ) (g : Dev Cert.SendReferenceIdeal.nD → PrngReg), Pre_SendReferenceIdeal m →
    θ_run (Cert.SendReferenceIdeal.defs (F := Ideal)) (onTc (τ := Cert.SendReferenceIdeal.τ) (Cert.SendReferenceIdeal.main (F := Ideal))) ⟨m, fun _ => 0, g⟩ (fun r => (∀ c : Dev Cert.SendReferenceIdeal.nD,
      r.2.mem ((c.tc : Thread Cert.SendReferenceIdeal.nD Cert.SendReferenceIdeal.τ).loc Cert.SendReferenceIdeal.main_arg0) = m ((c.tc : Thread Cert.SendReferenceIdeal.nD Cert.SendReferenceIdeal.τ).loc Cert.SendReferenceIdeal.main_arg0))
      ∧ r.2.sem = fun _ => 0)

def quiescent_SendReference [hSendReference : Cert.SendReference.Facts] : Prop :=
  ∀ (m : (ℓ : Loc Cert.SendReference.nD Cert.SendReference.τ Cert.SendReference.sig) → Buf (Elt Bits) ℓ) (g : Dev Cert.SendReference.nD → PrngReg), Pre_SendReference m →
    θ_run (Cert.SendReference.defs (F := Bits)) (onTc (τ := Cert.SendReference.τ) (Cert.SendReference.main (F := Bits))) ⟨m, fun _ => 0, g⟩ (fun r => (∀ c : Dev Cert.SendReference.nD,
      r.2.mem ((c.tc : Thread Cert.SendReference.nD Cert.SendReference.τ).loc Cert.SendReference.main_arg0) = m ((c.tc : Thread Cert.SendReference.nD Cert.SendReference.τ).loc Cert.SendReference.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareReferenceIdeal [hShareReferenceIdeal : Cert.ShareReferenceIdeal.Facts] : Prop :=
  ∀ (m : (ℓ : Loc Cert.ShareReferenceIdeal.nD Cert.ShareReferenceIdeal.τ Cert.ShareReferenceIdeal.sig) → Buf (Elt Ideal) ℓ) (g : Dev Cert.ShareReferenceIdeal.nD → PrngReg), Pre_ShareReferenceIdeal m →
    θ_run (Cert.ShareReferenceIdeal.defs (F := Ideal)) (onTc (τ := Cert.ShareReferenceIdeal.τ) (Cert.ShareReferenceIdeal.main (F := Ideal))) ⟨m, fun _ => 0, g⟩ (fun r => (∀ c : Dev Cert.ShareReferenceIdeal.nD,
      r.2.mem ((c.tc : Thread Cert.ShareReferenceIdeal.nD Cert.ShareReferenceIdeal.τ).loc Cert.ShareReferenceIdeal.main_arg0) = m ((c.tc : Thread Cert.ShareReferenceIdeal.nD Cert.ShareReferenceIdeal.τ).loc Cert.ShareReferenceIdeal.main_arg0))
      ∧ r.2.sem = fun _ => 0)

def quiescent_ShareReference [hShareReference : Cert.ShareReference.Facts] : Prop :=
  ∀ (m : (ℓ : Loc Cert.ShareReference.nD Cert.ShareReference.τ Cert.ShareReference.sig) → Buf (Elt Bits) ℓ) (g : Dev Cert.ShareReference.nD → PrngReg), Pre_ShareReference m →
    θ_run (Cert.ShareReference.defs (F := Bits)) (onTc (τ := Cert.ShareReference.τ) (Cert.ShareReference.main (F := Bits))) ⟨m, fun _ => 0, g⟩ (fun r => (∀ c : Dev Cert.ShareReference.nD,
      r.2.mem ((c.tc : Thread Cert.ShareReference.nD Cert.ShareReference.τ).loc Cert.ShareReference.main_arg0) = m ((c.tc : Thread Cert.ShareReference.nD Cert.ShareReference.τ).loc Cert.ShareReference.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamConvDw [hAdamConvDw : Cert.AdamConvDw.Facts] : Prop :=
  ∀ (m : (ℓ : Loc Cert.AdamConvDw.nD Cert.AdamConvDw.τ Cert.AdamConvDw.sig) → Buf (Elt Bits) ℓ) (g : Dev Cert.AdamConvDw.nD → PrngReg), Pre_AdamConvDw m →
    θ_run (Cert.AdamConvDw.defs (F := Bits)) (onTc (τ := Cert.AdamConvDw.τ) (Cert.AdamConvDw.main (F := Bits))) ⟨m, fun _ => 0, g⟩ (fun r => (∀ c : Dev Cert.AdamConvDw.nD,
      r.2.mem ((c.tc : Thread Cert.AdamConvDw.nD Cert.AdamConvDw.τ).loc Cert.AdamConvDw.main_arg0) = m ((c.tc : Thread Cert.AdamConvDw.nD Cert.AdamConvDw.τ).loc Cert.AdamConvDw.main_arg0)
      ∧ r.2.mem ((c.tc : Thread Cert.AdamConvDw.nD Cert.AdamConvDw.τ).loc Cert.AdamConvDw.main_arg1) = m ((c.tc : Thread Cert.AdamConvDw.nD Cert.AdamConvDw.τ).loc Cert.AdamConvDw.main_arg1)
      ∧ r.2.mem ((c.tc : Thread Cert.AdamConvDw.nD Cert.AdamConvDw.τ).loc Cert.AdamConvDw.main_arg2) = m ((c.tc : Thread Cert.AdamConvDw.nD Cert.AdamConvDw.τ).loc Cert.AdamConvDw.main_arg2)
      ∧ r.2.mem ((c.tc : Thread Cert.AdamConvDw.nD Cert.AdamConvDw.τ).loc Cert.AdamConvDw.main_arg3) = m ((c.tc : Thread Cert.AdamConvDw.nD Cert.AdamConvDw.τ).loc Cert.AdamConvDw.main_arg3))
      ∧ r.2.sem = fun _ => 0)

def quiescent_AdamConvDwIdeal [hAdamConvDwIdeal : Cert.AdamConvDwIdeal.Facts] : Prop :=
  ∀ (m : (ℓ : Loc Cert.AdamConvDwIdeal.nD Cert.AdamConvDwIdeal.τ Cert.AdamConvDwIdeal.sig) → Buf (Elt Ideal) ℓ) (g : Dev Cert.AdamConvDwIdeal.nD → PrngReg), Pre_AdamConvDwIdeal m →
    θ_run (Cert.AdamConvDwIdeal.defs (F := Ideal)) (onTc (τ := Cert.AdamConvDwIdeal.τ) (Cert.AdamConvDwIdeal.main (F := Ideal))) ⟨m, fun _ => 0, g⟩ (fun r => (∀ c : Dev Cert.AdamConvDwIdeal.nD,
      r.2.mem ((c.tc : Thread Cert.AdamConvDwIdeal.nD Cert.AdamConvDwIdeal.τ).loc Cert.AdamConvDwIdeal.main_arg0) = m ((c.tc : Thread Cert.AdamConvDwIdeal.nD Cert.AdamConvDwIdeal.τ).loc Cert.AdamConvDwIdeal.main_arg0)
      ∧ r.2.mem ((c.tc : Thread Cert.AdamConvDwIdeal.nD Cert.AdamConvDwIdeal.τ).loc Cert.AdamConvDwIdeal.main_arg1) = m ((c.tc : Thread Cert.AdamConvDwIdeal.nD Cert.AdamConvDwIdeal.τ).loc Cert.AdamConvDwIdeal.main_arg1)
      ∧ r.2.mem ((c.tc : Thread Cert.AdamConvDwIdeal.nD Cert.AdamConvDwIdeal.τ).loc Cert.AdamConvDwIdeal.main_arg2) = m ((c.tc : Thread Cert.AdamConvDwIdeal.nD Cert.AdamConvDwIdeal.τ).loc Cert.AdamConvDwIdeal.main_arg2)
      ∧ r.2.mem ((c.tc : Thread Cert.AdamConvDwIdeal.nD Cert.AdamConvDwIdeal.τ).loc Cert.AdamConvDwIdeal.main_arg3) = m ((c.tc : Thread Cert.AdamConvDwIdeal.nD Cert.AdamConvDwIdeal.τ).loc Cert.AdamConvDwIdeal.main_arg3))
      ∧ r.2.sem = fun _ => 0)

def quiescent_AdamConvDwReferenceIdeal [hAdamConvDwReferenceIdeal : Cert.AdamConvDwReferenceIdeal.Facts] : Prop :=
  ∀ (m : (ℓ : Loc Cert.AdamConvDwReferenceIdeal.nD Cert.AdamConvDwReferenceIdeal.τ Cert.AdamConvDwReferenceIdeal.sig) → Buf (Elt Ideal) ℓ) (g : Dev Cert.AdamConvDwReferenceIdeal.nD → PrngReg), Pre_AdamConvDwReferenceIdeal m →
    θ_run (Cert.AdamConvDwReferenceIdeal.defs (F := Ideal)) (onTc (τ := Cert.AdamConvDwReferenceIdeal.τ) (Cert.AdamConvDwReferenceIdeal.main (F := Ideal))) ⟨m, fun _ => 0, g⟩ (fun r => (∀ c : Dev Cert.AdamConvDwReferenceIdeal.nD,
      r.2.mem ((c.tc : Thread Cert.AdamConvDwReferenceIdeal.nD Cert.AdamConvDwReferenceIdeal.τ).loc Cert.AdamConvDwReferenceIdeal.main_arg0) = m ((c.tc : Thread Cert.AdamConvDwReferenceIdeal.nD Cert.AdamConvDwReferenceIdeal.τ).loc Cert.AdamConvDwReferenceIdeal.main_arg0)
      ∧ r.2.mem ((c.tc : Thread Cert.AdamConvDwReferenceIdeal.nD Cert.AdamConvDwReferenceIdeal.τ).loc Cert.AdamConvDwReferenceIdeal.main_arg1) = m ((c.tc : Thread Cert.AdamConvDwReferenceIdeal.nD Cert.AdamConvDwReferenceIdeal.τ).loc Cert.AdamConvDwReferenceIdeal.main_arg1)
      ∧ r.2.mem ((c.tc : Thread Cert.AdamConvDwReferenceIdeal.nD Cert.AdamConvDwReferenceIdeal.τ).loc Cert.AdamConvDwReferenceIdeal.main_arg2) = m ((c.tc : Thread Cert.AdamConvDwReferenceIdeal.nD Cert.AdamConvDwReferenceIdeal.τ).loc Cert.AdamConvDwReferenceIdeal.main_arg2)
      ∧ r.2.mem ((c.tc : Thread Cert.AdamConvDwReferenceIdeal.nD Cert.AdamConvDwReferenceIdeal.τ).loc Cert.AdamConvDwReferenceIdeal.main_arg3) = m ((c.tc : Thread Cert.AdamConvDwReferenceIdeal.nD Cert.AdamConvDwReferenceIdeal.τ).loc Cert.AdamConvDwReferenceIdeal.main_arg3))
      ∧ r.2.sem = fun _ => 0)

def quiescent_AdamConvPw [hAdamConvPw : Cert.AdamConvPw.Facts] : Prop :=
  ∀ (m : (ℓ : Loc Cert.AdamConvPw.nD Cert.AdamConvPw.τ Cert.AdamConvPw.sig) → Buf (Elt Bits) ℓ) (g : Dev Cert.AdamConvPw.nD → PrngReg), Pre_AdamConvPw m →
    θ_run (Cert.AdamConvPw.defs (F := Bits)) (onTc (τ := Cert.AdamConvPw.τ) (Cert.AdamConvPw.main (F := Bits))) ⟨m, fun _ => 0, g⟩ (fun r => (∀ c : Dev Cert.AdamConvPw.nD,
      r.2.mem ((c.tc : Thread Cert.AdamConvPw.nD Cert.AdamConvPw.τ).loc Cert.AdamConvPw.main_arg0) = m ((c.tc : Thread Cert.AdamConvPw.nD Cert.AdamConvPw.τ).loc Cert.AdamConvPw.main_arg0)
      ∧ r.2.mem ((c.tc : Thread Cert.AdamConvPw.nD Cert.AdamConvPw.τ).loc Cert.AdamConvPw.main_arg1) = m ((c.tc : Thread Cert.AdamConvPw.nD Cert.AdamConvPw.τ).loc Cert.AdamConvPw.main_arg1)
      ∧ r.2.mem ((c.tc : Thread Cert.AdamConvPw.nD Cert.AdamConvPw.τ).loc Cert.AdamConvPw.main_arg2) = m ((c.tc : Thread Cert.AdamConvPw.nD Cert.AdamConvPw.τ).loc Cert.AdamConvPw.main_arg2)
      ∧ r.2.mem ((c.tc : Thread Cert.AdamConvPw.nD Cert.AdamConvPw.τ).loc Cert.AdamConvPw.main_arg3) = m ((c.tc : Thread Cert.AdamConvPw.nD Cert.AdamConvPw.τ).loc Cert.AdamConvPw.main_arg3))
      ∧ r.2.sem = fun _ => 0)

def quiescent_AdamConvPwIdeal [hAdamConvPwIdeal : Cert.AdamConvPwIdeal.Facts] : Prop :=
  ∀ (m : (ℓ : Loc Cert.AdamConvPwIdeal.nD Cert.AdamConvPwIdeal.τ Cert.AdamConvPwIdeal.sig) → Buf (Elt Ideal) ℓ) (g : Dev Cert.AdamConvPwIdeal.nD → PrngReg), Pre_AdamConvPwIdeal m →
    θ_run (Cert.AdamConvPwIdeal.defs (F := Ideal)) (onTc (τ := Cert.AdamConvPwIdeal.τ) (Cert.AdamConvPwIdeal.main (F := Ideal))) ⟨m, fun _ => 0, g⟩ (fun r => (∀ c : Dev Cert.AdamConvPwIdeal.nD,
      r.2.mem ((c.tc : Thread Cert.AdamConvPwIdeal.nD Cert.AdamConvPwIdeal.τ).loc Cert.AdamConvPwIdeal.main_arg0) = m ((c.tc : Thread Cert.AdamConvPwIdeal.nD Cert.AdamConvPwIdeal.τ).loc Cert.AdamConvPwIdeal.main_arg0)
      ∧ r.2.mem ((c.tc : Thread Cert.AdamConvPwIdeal.nD Cert.AdamConvPwIdeal.τ).loc Cert.AdamConvPwIdeal.main_arg1) = m ((c.tc : Thread Cert.AdamConvPwIdeal.nD Cert.AdamConvPwIdeal.τ).loc Cert.AdamConvPwIdeal.main_arg1)
      ∧ r.2.mem ((c.tc : Thread Cert.AdamConvPwIdeal.nD Cert.AdamConvPwIdeal.τ).loc Cert.AdamConvPwIdeal.main_arg2) = m ((c.tc : Thread Cert.AdamConvPwIdeal.nD Cert.AdamConvPwIdeal.τ).loc Cert.AdamConvPwIdeal.main_arg2)
      ∧ r.2.mem ((c.tc : Thread Cert.AdamConvPwIdeal.nD Cert.AdamConvPwIdeal.τ).loc Cert.AdamConvPwIdeal.main_arg3) = m ((c.tc : Thread Cert.AdamConvPwIdeal.nD Cert.AdamConvPwIdeal.τ).loc Cert.AdamConvPwIdeal.main_arg3))
      ∧ r.2.sem = fun _ => 0)

def quiescent_AdamConvPwReferenceIdeal [hAdamConvPwReferenceIdeal : Cert.AdamConvPwReferenceIdeal.Facts] : Prop :=
  ∀ (m : (ℓ : Loc Cert.AdamConvPwReferenceIdeal.nD Cert.AdamConvPwReferenceIdeal.τ Cert.AdamConvPwReferenceIdeal.sig) → Buf (Elt Ideal) ℓ) (g : Dev Cert.AdamConvPwReferenceIdeal.nD → PrngReg), Pre_AdamConvPwReferenceIdeal m →
    θ_run (Cert.AdamConvPwReferenceIdeal.defs (F := Ideal)) (onTc (τ := Cert.AdamConvPwReferenceIdeal.τ) (Cert.AdamConvPwReferenceIdeal.main (F := Ideal))) ⟨m, fun _ => 0, g⟩ (fun r => (∀ c : Dev Cert.AdamConvPwReferenceIdeal.nD,
      r.2.mem ((c.tc : Thread Cert.AdamConvPwReferenceIdeal.nD Cert.AdamConvPwReferenceIdeal.τ).loc Cert.AdamConvPwReferenceIdeal.main_arg0) = m ((c.tc : Thread Cert.AdamConvPwReferenceIdeal.nD Cert.AdamConvPwReferenceIdeal.τ).loc Cert.AdamConvPwReferenceIdeal.main_arg0)
      ∧ r.2.mem ((c.tc : Thread Cert.AdamConvPwReferenceIdeal.nD Cert.AdamConvPwReferenceIdeal.τ).loc Cert.AdamConvPwReferenceIdeal.main_arg1) = m ((c.tc : Thread Cert.AdamConvPwReferenceIdeal.nD Cert.AdamConvPwReferenceIdeal.τ).loc Cert.AdamConvPwReferenceIdeal.main_arg1)
      ∧ r.2.mem ((c.tc : Thread Cert.AdamConvPwReferenceIdeal.nD Cert.AdamConvPwReferenceIdeal.τ).loc Cert.AdamConvPwReferenceIdeal.main_arg2) = m ((c.tc : Thread Cert.AdamConvPwReferenceIdeal.nD Cert.AdamConvPwReferenceIdeal.τ).loc Cert.AdamConvPwReferenceIdeal.main_arg2)
      ∧ r.2.mem ((c.tc : Thread Cert.AdamConvPwReferenceIdeal.nD Cert.AdamConvPwReferenceIdeal.τ).loc Cert.AdamConvPwReferenceIdeal.main_arg3) = m ((c.tc : Thread Cert.AdamConvPwReferenceIdeal.nD Cert.AdamConvPwReferenceIdeal.τ).loc Cert.AdamConvPwReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamFfnDw [hAdamFfnDw : Cert.AdamFfnDw.Facts] : Prop :=
  ∀ (m : (ℓ : Loc Cert.AdamFfnDw.nD Cert.AdamFfnDw.τ Cert.AdamFfnDw.sig) → Buf (Elt Bits) ℓ) (g : Dev Cert.AdamFfnDw.nD → PrngReg), Pre_AdamFfnDw m →
    θ_run (Cert.AdamFfnDw.defs (F := Bits)) (onTc (τ := Cert.AdamFfnDw.τ) (Cert.AdamFfnDw.main (F := Bits))) ⟨m, fun _ => 0, g⟩ (fun r => (∀ c : Dev Cert.AdamFfnDw.nD,
      r.2.mem ((c.tc : Thread Cert.AdamFfnDw.nD Cert.AdamFfnDw.τ).loc Cert.AdamFfnDw.main_arg0) = m ((c.tc : Thread Cert.AdamFfnDw.nD Cert.AdamFfnDw.τ).loc Cert.AdamFfnDw.main_arg0)
      ∧ r.2.mem ((c.tc : Thread Cert.AdamFfnDw.nD Cert.AdamFfnDw.τ).loc Cert.AdamFfnDw.main_arg1) = m ((c.tc : Thread Cert.AdamFfnDw.nD Cert.AdamFfnDw.τ).loc Cert.AdamFfnDw.main_arg1)
      ∧ r.2.mem ((c.tc : Thread Cert.AdamFfnDw.nD Cert.AdamFfnDw.τ).loc Cert.AdamFfnDw.main_arg2) = m ((c.tc : Thread Cert.AdamFfnDw.nD Cert.AdamFfnDw.τ).loc Cert.AdamFfnDw.main_arg2)
      ∧ r.2.mem ((c.tc : Thread Cert.AdamFfnDw.nD Cert.AdamFfnDw.τ).loc Cert.AdamFfnDw.main_arg3) = m ((c.tc : Thread Cert.AdamFfnDw.nD Cert.AdamFfnDw.τ).loc Cert.AdamFfnDw.main_arg3))
      ∧ r.2.sem = fun _ => 0)

def quiescent_AdamFfnDwIdeal [hAdamFfnDwIdeal : Cert.AdamFfnDwIdeal.Facts] : Prop :=
  ∀ (m : (ℓ : Loc Cert.AdamFfnDwIdeal.nD Cert.AdamFfnDwIdeal.τ Cert.AdamFfnDwIdeal.sig) → Buf (Elt Ideal) ℓ) (g : Dev Cert.AdamFfnDwIdeal.nD → PrngReg), Pre_AdamFfnDwIdeal m →
    θ_run (Cert.AdamFfnDwIdeal.defs (F := Ideal)) (onTc (τ := Cert.AdamFfnDwIdeal.τ) (Cert.AdamFfnDwIdeal.main (F := Ideal))) ⟨m, fun _ => 0, g⟩ (fun r => (∀ c : Dev Cert.AdamFfnDwIdeal.nD,
      r.2.mem ((c.tc : Thread Cert.AdamFfnDwIdeal.nD Cert.AdamFfnDwIdeal.τ).loc Cert.AdamFfnDwIdeal.main_arg0) = m ((c.tc : Thread Cert.AdamFfnDwIdeal.nD Cert.AdamFfnDwIdeal.τ).loc Cert.AdamFfnDwIdeal.main_arg0)
      ∧ r.2.mem ((c.tc : Thread Cert.AdamFfnDwIdeal.nD Cert.AdamFfnDwIdeal.τ).loc Cert.AdamFfnDwIdeal.main_arg1) = m ((c.tc : Thread Cert.AdamFfnDwIdeal.nD Cert.AdamFfnDwIdeal.τ).loc Cert.AdamFfnDwIdeal.main_arg1)
      ∧ r.2.mem ((c.tc : Thread Cert.AdamFfnDwIdeal.nD Cert.AdamFfnDwIdeal.τ).loc Cert.AdamFfnDwIdeal.main_arg2) = m ((c.tc : Thread Cert.AdamFfnDwIdeal.nD Cert.AdamFfnDwIdeal.τ).loc Cert.AdamFfnDwIdeal.main_arg2)
      ∧ r.2.mem ((c.tc : Thread Cert.AdamFfnDwIdeal.nD Cert.AdamFfnDwIdeal.τ).loc Cert.AdamFfnDwIdeal.main_arg3) = m ((c.tc : Thread Cert.AdamFfnDwIdeal.nD Cert.AdamFfnDwIdeal.τ).loc Cert.AdamFfnDwIdeal.main_arg3))
      ∧ r.2.sem = fun _ => 0)

def quiescent_AdamFfnDwReferenceIdeal [hAdamFfnDwReferenceIdeal : Cert.AdamFfnDwReferenceIdeal.Facts] : Prop :=
  ∀ (m : (ℓ : Loc Cert.AdamFfnDwReferenceIdeal.nD Cert.AdamFfnDwReferenceIdeal.τ Cert.AdamFfnDwReferenceIdeal.sig) → Buf (Elt Ideal) ℓ) (g : Dev Cert.AdamFfnDwReferenceIdeal.nD → PrngReg), Pre_AdamFfnDwReferenceIdeal m →
    θ_run (Cert.AdamFfnDwReferenceIdeal.defs (F := Ideal)) (onTc (τ := Cert.AdamFfnDwReferenceIdeal.τ) (Cert.AdamFfnDwReferenceIdeal.main (F := Ideal))) ⟨m, fun _ => 0, g⟩ (fun r => (∀ c : Dev Cert.AdamFfnDwReferenceIdeal.nD,
      r.2.mem ((c.tc : Thread Cert.AdamFfnDwReferenceIdeal.nD Cert.AdamFfnDwReferenceIdeal.τ).loc Cert.AdamFfnDwReferenceIdeal.main_arg0) = m ((c.tc : Thread Cert.AdamFfnDwReferenceIdeal.nD Cert.AdamFfnDwReferenceIdeal.τ).loc Cert.AdamFfnDwReferenceIdeal.main_arg0)
      ∧ r.2.mem ((c.tc : Thread Cert.AdamFfnDwReferenceIdeal.nD Cert.AdamFfnDwReferenceIdeal.τ).loc Cert.AdamFfnDwReferenceIdeal.main_arg1) = m ((c.tc : Thread Cert.AdamFfnDwReferenceIdeal.nD Cert.AdamFfnDwReferenceIdeal.τ).loc Cert.AdamFfnDwReferenceIdeal.main_arg1)
      ∧ r.2.mem ((c.tc : Thread Cert.AdamFfnDwReferenceIdeal.nD Cert.AdamFfnDwReferenceIdeal.τ).loc Cert.AdamFfnDwReferenceIdeal.main_arg2) = m ((c.tc : Thread Cert.AdamFfnDwReferenceIdeal.nD Cert.AdamFfnDwReferenceIdeal.τ).loc Cert.AdamFfnDwReferenceIdeal.main_arg2)
      ∧ r.2.mem ((c.tc : Thread Cert.AdamFfnDwReferenceIdeal.nD Cert.AdamFfnDwReferenceIdeal.τ).loc Cert.AdamFfnDwReferenceIdeal.main_arg3) = m ((c.tc : Thread Cert.AdamFfnDwReferenceIdeal.nD Cert.AdamFfnDwReferenceIdeal.τ).loc Cert.AdamFfnDwReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31)
      ∧ r.2.mem ((c.tc : Thread Cert.AdamSmallReferenceIdeal.nD Cert.AdamSmallReferenceIdeal.τ).loc Cert.AdamSmallReferenceIdeal.main_arg32) = m ((c.tc : Thread Cert.AdamSmallReferenceIdeal.nD Cert.AdamSmallReferenceIdeal.τ).loc Cert.AdamSmallReferenceIdeal.main_arg32)
      ∧ r.2.mem ((c.tc : Thread Cert.AdamSmallReferenceIdeal.nD Cert.AdamSmallReferenceIdeal.τ).loc Cert.AdamSmallReferenceIdeal.main_arg33) = m ((c.tc : Thread Cert.AdamSmallReferenceIdeal.nD Cert.AdamSmallReferenceIdeal.τ).loc Cert.AdamSmallReferenceIdeal.main_arg33)
      ∧ r.2.mem ((c.tc : Thread Cert.AdamSmallReferenceIdeal.nD Cert.AdamSmallReferenceIdeal.τ).loc Cert.AdamSmallReferenceIdeal.main_arg34) = m ((c.tc : Thread Cert.AdamSmallReferenceIdeal.nD Cert.AdamSmallReferenceIdeal.τ).loc Cert.AdamSmallReferenceIdeal.main_arg34)
      ∧ r.2.mem ((c.tc : Thread Cert.AdamSmallReferenceIdeal.nD Cert.AdamSmallReferenceIdeal.τ).loc Cert.AdamSmallReferenceIdeal.main_arg35) = m ((c.tc : Thread Cert.AdamSmallReferenceIdeal.nD Cert.AdamSmallReferenceIdeal.τ).loc Cert.AdamSmallReferenceIdeal.main_arg35)
      ∧ r.2.mem ((c.tc : Thread Cert.AdamSmallReferenceIdeal.nD Cert.AdamSmallReferenceIdeal.τ).loc Cert.AdamSmallReferenceIdeal.main_arg36) = m ((c.tc : Thread Cert.AdamSmallReferenceIdeal.nD Cert.AdamSmallReferenceIdeal.τ).loc Cert.AdamSmallReferenceIdeal.main_arg36)
      ∧ r.2.mem ((c.tc : Thread Cert.AdamSmallReferenceIdeal.nD Cert.AdamSmallReferenceIdeal.τ).loc Cert.AdamSmallReferenceIdeal.main_arg37) = m ((c.tc : Thread Cert.AdamSmallReferenceIdeal.nD Cert.AdamSmallReferenceIdeal.τ).loc Cert.AdamSmallReferenceIdeal.main_arg37)
      ∧ r.2.mem ((c.tc : Thread Cert.AdamSmallReferenceIdeal.nD Cert.AdamSmallReferenceIdeal.τ).loc Cert.AdamSmallReferenceIdeal.main_arg38) = m ((c.tc : Thread Cert.AdamSmallReferenceIdeal.nD Cert.AdamSmallReferenceIdeal.τ).loc Cert.AdamSmallReferenceIdeal.main_arg38)
      ∧ r.2.mem ((c.tc : Thread Cert.AdamSmallReferenceIdeal.nD Cert.AdamSmallReferenceIdeal.τ).loc Cert.AdamSmallReferenceIdeal.main_arg39) = m ((c.tc : Thread Cert.AdamSmallReferenceIdeal.nD Cert.AdamSmallReferenceIdeal.τ).loc Cert.AdamSmallReferenceIdeal.main_arg39))
      ∧ r.2.sem = fun _ => 0)

def quiescent_AddSibling [hAddSibling : Cert.AddSibling.Facts] [hPre_a_core : Cert.Pre_a_core.Facts] : Prop :=
  ∀ (m : (ℓ : Loc Cert.AddSibling.nD Cert.AddSibling.τ Cert.AddSibling.sig) → Buf (Elt Bits) ℓ) (g : Dev Cert.AddSibling.nD → PrngReg), Pre_AddSibling m →
    θ_run (Cert.AddSibling.defs (F := Bits)) (onTc (τ := Cert.AddSibling.τ) (Cert.AddSibling.main (F := Bits))) ⟨m, fun _ => 0, g⟩ (fun r => (∀ c : Dev Cert.AddSibling.nD,
      r.2.mem ((c.tc : Thread Cert.AddSibling.nD Cert.AddSibling.τ).loc Cert.AddSibling.main_arg0) = m ((c.tc : Thread Cert.AddSibling.nD Cert.AddSibling.τ).loc Cert.AddSibling.main_arg0)
      ∧ r.2.mem ((c.tc : Thread Cert.AddSibling.nD Cert.AddSibling.τ).loc Cert.AddSibling.main_arg1) = m ((c.tc : Thread Cert.AddSibling.nD Cert.AddSibling.τ).loc Cert.AddSibling.main_arg1)
      ∧ r.2.mem ((c.tc : Thread Cert.AddSibling.nD Cert.AddSibling.τ).loc Cert.AddSibling.main_arg2) = m ((c.tc : Thread Cert.AddSibling.nD Cert.AddSibling.τ).loc Cert.AddSibling.main_arg2))
      ∧ r.2.sem = fun _ => 0)

def quiescent_AddSiblingIdeal [hAddSiblingIdeal : Cert.AddSiblingIdeal.Facts] [hPre_a_core : Cert.Pre_a_core.Facts] : Prop :=
  ∀ (m : (ℓ : Loc Cert.AddSiblingIdeal.nD Cert.AddSiblingIdeal.τ Cert.AddSiblingIdeal.sig) → Buf (Elt Ideal) ℓ) (g : Dev Cert.AddSiblingIdeal.nD → PrngReg), Pre_AddSiblingIdeal m →
    θ_run (Cert.AddSiblingIdeal.defs (F := Ideal)) (onTc (τ := Cert.AddSiblingIdeal.τ) (Cert.AddSiblingIdeal.main (F := Ideal))) ⟨m, fun _ => 0, g⟩ (fun r => (∀ c : Dev Cert.AddSiblingIdeal.nD,
      r.2.mem ((c.tc : Thread Cert.AddSiblingIdeal.nD Cert.AddSiblingIdeal.τ).loc Cert.AddSiblingIdeal.main_arg0) = m ((c.tc : Thread Cert.AddSiblingIdeal.nD Cert.AddSiblingIdeal.τ).loc Cert.AddSiblingIdeal.main_arg0)
      ∧ r.2.mem ((c.tc : Thread Cert.AddSiblingIdeal.nD Cert.AddSiblingIdeal.τ).loc Cert.AddSiblingIdeal.main_arg1) = m ((c.tc : Thread Cert.AddSiblingIdeal.nD Cert.AddSiblingIdeal.τ).loc Cert.AddSiblingIdeal.main_arg1)
      ∧ r.2.mem ((c.tc : Thread Cert.AddSiblingIdeal.nD Cert.AddSiblingIdeal.τ).loc Cert.AddSiblingIdeal.main_arg2) = m ((c.tc : Thread Cert.AddSiblingIdeal.nD Cert.AddSiblingIdeal.τ).loc Cert.AddSiblingIdeal.main_arg2))
      ∧ r.2.sem = fun _ => 0)

def quiescent_AddSiblingReferenceIdeal [hAddSiblingReferenceIdeal : Cert.AddSiblingReferenceIdeal.Facts] : Prop :=
  ∀ (m : (ℓ : Loc Cert.AddSiblingReferenceIdeal.nD Cert.AddSiblingReferenceIdeal.τ Cert.AddSiblingReferenceIdeal.sig) → Buf (Elt Ideal) ℓ) (g : Dev Cert.AddSiblingReferenceIdeal.nD → PrngReg), Pre_AddSiblingReferenceIdeal m →
    θ_run (Cert.AddSiblingReferenceIdeal.defs (F := Ideal)) (onTc (τ := Cert.AddSiblingReferenceIdeal.τ) (Cert.AddSiblingReferenceIdeal.main (F := Ideal))) ⟨m, fun _ => 0, g⟩ (fun r => (∀ c : Dev Cert.AddSiblingReferenceIdeal.nD,
      r.2.mem ((c.tc : Thread Cert.AddSiblingReferenceIdeal.nD Cert.AddSiblingReferenceIdeal.τ).loc Cert.AddSiblingReferenceIdeal.main_arg0) = m ((c.tc : Thread Cert.AddSiblingReferenceIdeal.nD Cert.AddSiblingReferenceIdeal.τ).loc Cert.AddSiblingReferenceIdeal.main_arg0)
      ∧ r.2.mem ((c.tc : Thread Cert.AddSiblingReferenceIdeal.nD Cert.AddSiblingReferenceIdeal.τ).loc Cert.AddSiblingReferenceIdeal.main_arg1) = m ((c.tc : Thread Cert.AddSiblingReferenceIdeal.nD Cert.AddSiblingReferenceIdeal.τ).loc Cert.AddSiblingReferenceIdeal.main_arg1)
      ∧ r.2.mem ((c.tc : Thread Cert.AddSiblingReferenceIdeal.nD Cert.AddSiblingReferenceIdeal.τ).loc Cert.AddSiblingReferenceIdeal.main_arg2) = m ((c.tc : Thread Cert.AddSiblingReferenceIdeal.nD Cert.AddSiblingReferenceIdeal.τ).loc Cert.AddSiblingReferenceIdeal.main_arg2))
      ∧ r.2.sem = fun _ => 0)

def quiescent_AddSiblingReferenceIdeal_pre_a_core [hAddSiblingReferenceIdeal : Cert.AddSiblingReferenceIdeal.Facts] [hPre_a_core : Cert.Pre_a_core.Facts] : Prop :=
  ∀ (m : (ℓ : Loc Cert.AddSiblingReferenceIdeal.nD Cert.AddSiblingReferenceIdeal.τ Cert.AddSiblingReferenceIdeal.sig) → Buf (Elt Ideal) ℓ) (g : Dev Cert.AddSiblingReferenceIdeal.nD → PrngReg), Pre_AddSiblingReferenceIdeal_a_core m →
    θ_run (Cert.AddSiblingReferenceIdeal.defs (F := Ideal)) (onTc (τ := Cert.AddSiblingReferenceIdeal.τ) (Cert.AddSiblingReferenceIdeal.main (F := Ideal))) ⟨m, fun _ => 0, g⟩ (fun r => (∀ c : Dev Cert.AddSiblingReferenceIdeal.nD,
      r.2.mem ((c.tc : Thread Cert.AddSiblingReferenceIdeal.nD Cert.AddSiblingReferenceIdeal.τ).loc Cert.AddSiblingReferenceIdeal.main_arg0) = m ((c.tc : Thread Cert.AddSiblingReferenceIdeal.nD Cert.AddSiblingReferenceIdeal.τ).loc Cert.AddSiblingReferenceIdeal.main_arg0)
      ∧ r.2.mem ((c.tc : Thread Cert.AddSiblingReferenceIdeal.nD Cert.AddSiblingReferenceIdeal.τ).loc Cert.AddSiblingReferenceIdeal.main_arg1) = m ((c.tc : Thread Cert.AddSiblingReferenceIdeal.nD Cert.AddSiblingReferenceIdeal.τ).loc Cert.AddSiblingReferenceIdeal.main_arg1)
      ∧ r.2.mem ((c.tc : Thread Cert.AddSiblingReferenceIdeal.nD Cert.AddSiblingReferenceIdeal.τ).loc Cert.AddSiblingReferenceIdeal.main_arg2) = m ((c.tc : Thread Cert.AddSiblingReferenceIdeal.nD Cert.AddSiblingReferenceIdeal.τ).loc Cert.AddSiblingReferenceIdeal.main_arg2))
      ∧ r.2.sem = fun _ => 0)

def quiescent_AddSiblingReference [hAddSiblingReference : Cert.AddSiblingReference.Facts] [hPre_a_core : Cert.Pre_a_core.Facts] : Prop :=
  ∀ (m : (ℓ : Loc Cert.AddSiblingReference.nD Cert.AddSiblingReference.τ Cert.AddSiblingReference.sig) → Buf (Elt Bits) ℓ) (g : Dev Cert.AddSiblingReference.nD → PrngReg), Pre_AddSiblingReference m →
    θ_run (Cert.AddSiblingReference.defs (F := Bits)) (onTc (τ := Cert.AddSiblingReference.τ) (Cert.AddSiblingReference.main (F := Bits))) ⟨m, fun _ => 0, g⟩ (fun r => (∀ c : Dev Cert.AddSiblingReference.nD,
      r.2.mem ((c.tc : Thread Cert.AddSiblingReference.nD Cert.AddSiblingReference.τ).loc Cert.AddSiblingReference.main_arg0) = m ((c.tc : Thread Cert.AddSiblingReference.nD Cert.AddSiblingReference.τ).loc Cert.AddSiblingReference.main_arg0)
      ∧ r.2.mem ((c.tc : Thread Cert.AddSiblingReference.nD Cert.AddSiblingReference.τ).loc Cert.AddSiblingReference.main_arg1) = m ((c.tc : Thread Cert.AddSiblingReference.nD Cert.AddSiblingReference.τ).loc Cert.AddSiblingReference.main_arg1)
      ∧ r.2.mem ((c.tc : Thread Cert.AddSiblingReference.nD Cert.AddSiblingReference.τ).loc Cert.AddSiblingReference.main_arg2) = m ((c.tc : Thread Cert.AddSiblingReference.nD Cert.AddSiblingReference.τ).loc Cert.AddSiblingReference.main_arg2))
      ∧ r.2.sem = fun _ => 0)

def quiescent_AddPartials [hAddPartials : Cert.AddPartials.Facts] [hPre_a_chip : Cert.Pre_a_chip.Facts] : Prop :=
  ∀ (m : (ℓ : Loc Cert.AddPartials.nD Cert.AddPartials.τ Cert.AddPartials.sig) → Buf (Elt Bits) ℓ) (g : Dev Cert.AddPartials.nD → PrngReg), Pre_AddPartials m →
    θ_run (Cert.AddPartials.defs (F := Bits)) (onTc (τ := Cert.AddPartials.τ) (Cert.AddPartials.main (F := Bits))) ⟨m, fun _ => 0, g⟩ (fun r => (∀ c : Dev Cert.AddPartials.nD,
      r.2.mem ((c.tc : Thread Cert.AddPartials.nD Cert.AddPartials.τ).loc Cert.AddPartials.main_arg0) = m ((c.tc : Thread Cert.AddPartials.nD Cert.AddPartials.τ).loc Cert.AddPartials.main_arg0)
      ∧ r.2.mem ((c.tc : Thread Cert.AddPartials.nD Cert.AddPartials.τ).loc Cert.AddPartials.main_arg1) = m ((c.tc : Thread Cert.AddPartials.nD Cert.AddPartials.τ).loc Cert.AddPartials.main_arg1)
      ∧ r.2.mem ((c.tc : Thread Cert.AddPartials.nD Cert.AddPartials.τ).loc Cert.AddPartials.main_arg2) = m ((c.tc : Thread Cert.AddPartials.nD Cert.AddPartials.τ).loc Cert.AddPartials.main_arg2))
      ∧ r.2.sem = fun _ => 0)

def quiescent_AddPartialsIdeal [hAddPartialsIdeal : Cert.AddPartialsIdeal.Facts] [hPre_a_chip : Cert.Pre_a_chip.Facts] : Prop :=
  ∀ (m : (ℓ : Loc Cert.AddPartialsIdeal.nD Cert.AddPartialsIdeal.τ Cert.AddPartialsIdeal.sig) → Buf (Elt Ideal) ℓ) (g : Dev Cert.AddPartialsIdeal.nD → PrngReg), Pre_AddPartialsIdeal m →
    θ_run (Cert.AddPartialsIdeal.defs (F := Ideal)) (onTc (τ := Cert.AddPartialsIdeal.τ) (Cert.AddPartialsIdeal.main (F := Ideal))) ⟨m, fun _ => 0, g⟩ (fun r => (∀ c : Dev Cert.AddPartialsIdeal.nD,
      r.2.mem ((c.tc : Thread Cert.AddPartialsIdeal.nD Cert.AddPartialsIdeal.τ).loc Cert.AddPartialsIdeal.main_arg0) = m ((c.tc : Thread Cert.AddPartialsIdeal.nD Cert.AddPartialsIdeal.τ).loc Cert.AddPartialsIdeal.main_arg0)
      ∧ r.2.mem ((c.tc : Thread Cert.AddPartialsIdeal.nD Cert.AddPartialsIdeal.τ).loc Cert.AddPartialsIdeal.main_arg1) = m ((c.tc : Thread Cert.AddPartialsIdeal.nD Cert.AddPartialsIdeal.τ).loc Cert.AddPartialsIdeal.main_arg1)
      ∧ r.2.mem ((c.tc : Thread Cert.AddPartialsIdeal.nD Cert.AddPartialsIdeal.τ).loc Cert.AddPartialsIdeal.main_arg2) = m ((c.tc : Thread Cert.AddPartialsIdeal.nD Cert.AddPartialsIdeal.τ).loc Cert.AddPartialsIdeal.main_arg2))
      ∧ r.2.sem = fun _ => 0)

def quiescent_AddPartialsReferenceIdeal [hAddPartialsReferenceIdeal : Cert.AddPartialsReferenceIdeal.Facts] : Prop :=
  ∀ (m : (ℓ : Loc Cert.AddPartialsReferenceIdeal.nD Cert.AddPartialsReferenceIdeal.τ Cert.AddPartialsReferenceIdeal.sig) → Buf (Elt Ideal) ℓ) (g : Dev Cert.AddPartialsReferenceIdeal.nD → PrngReg), Pre_AddPartialsReferenceIdeal m →
    θ_run (Cert.AddPartialsReferenceIdeal.defs (F := Ideal)) (onTc (τ := Cert.AddPartialsReferenceIdeal.τ) (Cert.AddPartialsReferenceIdeal.main (F := Ideal))) ⟨m, fun _ => 0, g⟩ (fun r => (∀ c : Dev Cert.AddPartialsReferenceIdeal.nD,
      r.2.mem ((c.tc : Thread Cert.AddPartialsReferenceIdeal.nD Cert.AddPartialsReferenceIdeal.τ).loc Cert.AddPartialsReferenceIdeal.main_arg0) = m ((c.tc : Thread Cert.AddPartialsReferenceIdeal.nD Cert.AddPartialsReferenceIdeal.τ).loc Cert.AddPartialsReferenceIdeal.main_arg0)
      ∧ r.2.mem ((c.tc : Thread Cert.AddPartialsReferenceIdeal.nD Cert.AddPartialsReferenceIdeal.τ).loc Cert.AddPartialsReferenceIdeal.main_arg1) = m ((c.tc : Thread Cert.AddPartialsReferenceIdeal.nD Cert.AddPartialsReferenceIdeal.τ).loc Cert.AddPartialsReferenceIdeal.main_arg1)
      ∧ r.2.mem ((c.tc : Thread Cert.AddPartialsReferenceIdeal.nD Cert.AddPartialsReferenceIdeal.τ).loc Cert.AddPartialsReferenceIdeal.main_arg2) = m ((c.tc : Thread Cert.AddPartialsReferenceIdeal.nD Cert.AddPartialsReferenceIdeal.τ).loc Cert.AddPartialsReferenceIdeal.main_arg2))
      ∧ r.2.sem = fun _ => 0)

def quiescent_AddPartialsReferenceIdeal_pre_a_chip [hAddPartialsReferenceIdeal : Cert.AddPartialsReferenceIdeal.Facts] [hPre_a_chip : Cert.Pre_a_chip.Facts] : Prop :=
  ∀ (m : (ℓ : Loc Cert.AddPartialsReferenceIdeal.nD Cert.AddPartialsReferenceIdeal.τ Cert.AddPartialsReferenceIdeal.sig) → Buf (Elt Ideal) ℓ) (g : Dev Cert.AddPartialsReferenceIdeal.nD → PrngReg), Pre_AddPartialsReferenceIdeal_a_chip m →
    θ_run (Cert.AddPartialsReferenceIdeal.defs (F := Ideal)) (onTc (τ := Cert.AddPartialsReferenceIdeal.τ) (Cert.AddPartialsReferenceIdeal.main (F := Ideal))) ⟨m, fun _ => 0, g⟩ (fun r => (∀ c : Dev Cert.AddPartialsReferenceIdeal.nD,
      r.2.mem ((c.tc : Thread Cert.AddPartialsReferenceIdeal.nD Cert.AddPartialsReferenceIdeal.τ).loc Cert.AddPartialsReferenceIdeal.main_arg0) = m ((c.tc : Thread Cert.AddPartialsReferenceIdeal.nD Cert.AddPartialsReferenceIdeal.τ).loc Cert.AddPartialsReferenceIdeal.main_arg0)
      ∧ r.2.mem ((c.tc : Thread Cert.AddPartialsReferenceIdeal.nD Cert.AddPartialsReferenceIdeal.τ).loc Cert.AddPartialsReferenceIdeal.main_arg1) = m ((c.tc : Thread Cert.AddPartialsReferenceIdeal.nD Cert.AddPartialsReferenceIdeal.τ).loc Cert.AddPartialsReferenceIdeal.main_arg1)
      ∧ r.2.mem ((c.tc : Thread Cert.AddPartialsReferenceIdeal.nD Cert.AddPartialsReferenceIdeal.τ).loc Cert.AddPartialsReferenceIdeal.main_arg2) = m ((c.tc : Thread Cert.AddPartialsReferenceIdeal.nD Cert.AddPartialsReferenceIdeal.τ).loc Cert.AddPartialsReferenceIdeal.main_arg2))
      ∧ r.2.sem = fun _ => 0)

def quiescent_AddPartialsReference [hAddPartialsReference : Cert.AddPartialsReference.Facts] [hPre_a_chip : Cert.Pre_a_chip.Facts] : Prop :=
  ∀ (m : (ℓ : Loc Cert.AddPartialsReference.nD Cert.AddPartialsReference.τ Cert.AddPartialsReference.sig) → Buf (Elt Bits) ℓ) (g : Dev Cert.AddPartialsReference.nD → PrngReg), Pre_AddPartialsReference m →
    θ_run (Cert.AddPartialsReference.defs (F := Bits)) (onTc (τ := Cert.AddPartialsReference.τ) (Cert.AddPartialsReference.main (F := Bits))) ⟨m, fun _ => 0, g⟩ (fun r => (∀ c : Dev Cert.AddPartialsReference.nD,
      r.2.mem ((c.tc : Thread Cert.AddPartialsReference.nD Cert.AddPartialsReference.τ).loc Cert.AddPartialsReference.main_arg0) = m ((c.tc : Thread Cert.AddPartialsReference.nD Cert.AddPartialsReference.τ).loc Cert.AddPartialsReference.main_arg0)
      ∧ r.2.mem ((c.tc : Thread Cert.AddPartialsReference.nD Cert.AddPartialsReference.τ).loc Cert.AddPartialsReference.main_arg1) = m ((c.tc : Thread Cert.AddPartialsReference.nD Cert.AddPartialsReference.τ).loc Cert.AddPartialsReference.main_arg1)
      ∧ r.2.mem ((c.tc : Thread Cert.AddPartialsReference.nD Cert.AddPartialsReference.τ).loc Cert.AddPartialsReference.main_arg2) = m ((c.tc : Thread Cert.AddPartialsReference.nD Cert.AddPartialsReference.τ).loc Cert.AddPartialsReference.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1))
      ∧ r.2.sem = fun _ => 0)

def quiescent_ProjFg [hProjFg : Cert.ProjFg.Facts] : Prop :=
  ∀ (m : (ℓ : Loc Cert.ProjFg.nD Cert.ProjFg.τ Cert.ProjFg.sig) → Buf (Elt Bits) ℓ) (g : Dev Cert.ProjFg.nD → PrngReg), Pre_ProjFg m →
    θ_run (Cert.ProjFg.defs (F := Bits)) (onTc (τ := Cert.ProjFg.τ) (Cert.ProjFg.main (F := Bits))) ⟨m, fun _ => 0, g⟩ (fun r => (∀ c : Dev Cert.ProjFg.nD,
      r.2.mem ((c.tc : Thread Cert.ProjFg.nD Cert.ProjFg.τ).loc Cert.ProjFg.main_arg0) = m ((c.tc : Thread Cert.ProjFg.nD Cert.ProjFg.τ).loc Cert.ProjFg.main_arg0)
      ∧ r.2.mem ((c.tc : Thread Cert.ProjFg.nD Cert.ProjFg.τ).loc Cert.ProjFg.main_arg1) = m ((c.tc : Thread Cert.ProjFg.nD Cert.ProjFg.τ).loc Cert.ProjFg.main_arg1))
      ∧ r.2.sem = fun _ => 0)

def quiescent_ProjFgIdeal [hProjFgIdeal : Cert.ProjFgIdeal.Facts] : Prop :=
  ∀ (m : (ℓ : Loc Cert.ProjFgIdeal.nD Cert.ProjFgIdeal.τ Cert.ProjFgIdeal.sig) → Buf (Elt Ideal) ℓ) (g : Dev Cert.ProjFgIdeal.nD → PrngReg), Pre_ProjFgIdeal m →
    θ_run (Cert.ProjFgIdeal.defs (F := Ideal)) (onTc (τ := Cert.ProjFgIdeal.τ) (Cert.ProjFgIdeal.main (F := Ideal))) ⟨m, fun _ => 0, g⟩ (fun r => (∀ c : Dev Cert.ProjFgIdeal.nD,
      r.2.mem ((c.tc : Thread Cert.ProjFgIdeal.nD Cert.ProjFgIdeal.τ).loc Cert.ProjFgIdeal.main_arg0) = m ((c.tc : Thread Cert.ProjFgIdeal.nD Cert.ProjFgIdeal.τ).loc Cert.ProjFgIdeal.main_arg0)
      ∧ r.2.mem ((c.tc : Thread Cert.ProjFgIdeal.nD Cert.ProjFgIdeal.τ).loc Cert.ProjFgIdeal.main_arg1) = m ((c.tc : Thread Cert.ProjFgIdeal.nD Cert.ProjFgIdeal.τ).loc Cert.ProjFgIdeal.main_arg1))
      ∧ r.2.sem = fun _ => 0)

def quiescent_ProjFgReferenceIdeal [hProjFgReferenceIdeal : Cert.ProjFgReferenceIdeal.Facts] : Prop :=
  ∀ (m : (ℓ : Loc Cert.ProjFgReferenceIdeal.nD Cert.ProjFgReferenceIdeal.τ Cert.ProjFgReferenceIdeal.sig) → Buf (Elt Ideal) ℓ) (g : Dev Cert.ProjFgReferenceIdeal.nD → PrngReg), Pre_ProjFgReferenceIdeal m →
    θ_run (Cert.ProjFgReferenceIdeal.defs (F := Ideal)) (onTc (τ := Cert.ProjFgReferenceIdeal.τ) (Cert.ProjFgReferenceIdeal.main (F := Ideal))) ⟨m, fun _ => 0, g⟩ (fun r => (∀ c : Dev Cert.ProjFgReferenceIdeal.nD,
      r.2.mem ((c.tc : Thread Cert.ProjFgReferenceIdeal.nD Cert.ProjFgReferenceIdeal.τ).loc Cert.ProjFgReferenceIdeal.main_arg0) = m ((c.tc : Thread Cert.ProjFgReferenceIdeal.nD Cert.ProjFgReferenceIdeal.τ).loc Cert.ProjFgReferenceIdeal.main_arg0)
      ∧ r.2.mem ((c.tc : Thread Cert.ProjFgReferenceIdeal.nD Cert.ProjFgReferenceIdeal.τ).loc Cert.ProjFgReferenceIdeal.main_arg1) = m ((c.tc : Thread Cert.ProjFgReferenceIdeal.nD Cert.ProjFgReferenceIdeal.τ).loc Cert.ProjFgReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2))
      ∧ r.2.sem = fun _ => 0)

def quiescent_BackAct [hBackAct : Cert.BackAct.Facts] : Prop :=
  ∀ (m : (ℓ : Loc Cert.BackAct.nD Cert.BackAct.τ Cert.BackAct.sig) → Buf (Elt Bits) ℓ) (g : Dev Cert.BackAct.nD → PrngReg), Pre_BackAct m →
    θ_run (Cert.BackAct.defs (F := Bits)) (onTc (τ := Cert.BackAct.τ) (Cert.BackAct.main (F := Bits))) ⟨m, fun _ => 0, g⟩ (fun r => (∀ c : Dev Cert.BackAct.nD,
      r.2.mem ((c.tc : Thread Cert.BackAct.nD Cert.BackAct.τ).loc Cert.BackAct.main_arg0) = m ((c.tc : Thread Cert.BackAct.nD Cert.BackAct.τ).loc Cert.BackAct.main_arg0)
      ∧ r.2.mem ((c.tc : Thread Cert.BackAct.nD Cert.BackAct.τ).loc Cert.BackAct.main_arg1) = m ((c.tc : Thread Cert.BackAct.nD Cert.BackAct.τ).loc Cert.BackAct.main_arg1))
      ∧ r.2.sem = fun _ => 0)

def quiescent_BackActIdeal [hBackActIdeal : Cert.BackActIdeal.Facts] : Prop :=
  ∀ (m : (ℓ : Loc Cert.BackActIdeal.nD Cert.BackActIdeal.τ Cert.BackActIdeal.sig) → Buf (Elt Ideal) ℓ) (g : Dev Cert.BackActIdeal.nD → PrngReg), Pre_BackActIdeal m →
    θ_run (Cert.BackActIdeal.defs (F := Ideal)) (onTc (τ := Cert.BackActIdeal.τ) (Cert.BackActIdeal.main (F := Ideal))) ⟨m, fun _ => 0, g⟩ (fun r => (∀ c : Dev Cert.BackActIdeal.nD,
      r.2.mem ((c.tc : Thread Cert.BackActIdeal.nD Cert.BackActIdeal.τ).loc Cert.BackActIdeal.main_arg0) = m ((c.tc : Thread Cert.BackActIdeal.nD Cert.BackActIdeal.τ).loc Cert.BackActIdeal.main_arg0)
      ∧ r.2.mem ((c.tc : Thread Cert.BackActIdeal.nD Cert.BackActIdeal.τ).loc Cert.BackActIdeal.main_arg1) = m ((c.tc : Thread Cert.BackActIdeal.nD Cert.BackActIdeal.τ).loc Cert.BackActIdeal.main_arg1))
      ∧ r.2.sem = fun _ => 0)

def quiescent_BackActReferenceIdeal [hBackActReferenceIdeal : Cert.BackActReferenceIdeal.Facts] : Prop :=
  ∀ (m : (ℓ : Loc Cert.BackActReferenceIdeal.nD Cert.BackActReferenceIdeal.τ Cert.BackActReferenceIdeal.sig) → Buf (Elt Ideal) ℓ) (g : Dev Cert.BackActReferenceIdeal.nD → PrngReg), Pre_BackActReferenceIdeal m →
    θ_run (Cert.BackActReferenceIdeal.defs (F := Ideal)) (onTc (τ := Cert.BackActReferenceIdeal.τ) (Cert.BackActReferenceIdeal.main (F := Ideal))) ⟨m, fun _ => 0, g⟩ (fun r => (∀ c : Dev Cert.BackActReferenceIdeal.nD,
      r.2.mem ((c.tc : Thread Cert.BackActReferenceIdeal.nD Cert.BackActReferenceIdeal.τ).loc Cert.BackActReferenceIdeal.main_arg0) = m ((c.tc : Thread Cert.BackActReferenceIdeal.nD Cert.BackActReferenceIdeal.τ).loc Cert.BackActReferenceIdeal.main_arg0)
      ∧ r.2.mem ((c.tc : Thread Cert.BackActReferenceIdeal.nD Cert.BackActReferenceIdeal.τ).loc Cert.BackActReferenceIdeal.main_arg1) = m ((c.tc : Thread Cert.BackActReferenceIdeal.nD Cert.BackActReferenceIdeal.τ).loc Cert.BackActReferenceIdeal.main_arg1))
      ∧ r.2.sem = fun _ => 0)

def quiescent_BackUp [hBackUp : Cert.BackUp.Facts] : Prop :=
  ∀ (m : (ℓ : Loc Cert.BackUp.nD Cert.BackUp.τ Cert.BackUp.sig) → Buf (Elt Bits) ℓ) (g : Dev Cert.BackUp.nD → PrngReg), Pre_BackUp m →
    θ_run (Cert.BackUp.defs (F := Bits)) (onTc (τ := Cert.BackUp.τ) (Cert.BackUp.main (F := Bits))) ⟨m, fun _ => 0, g⟩ (fun r => (∀ c : Dev Cert.BackUp.nD,
      r.2.mem ((c.tc : Thread Cert.BackUp.nD Cert.BackUp.τ).loc Cert.BackUp.main_arg0) = m ((c.tc : Thread Cert.BackUp.nD Cert.BackUp.τ).loc Cert.BackUp.main_arg0)
      ∧ r.2.mem ((c.tc : Thread Cert.BackUp.nD Cert.BackUp.τ).loc Cert.BackUp.main_arg1) = m ((c.tc : Thread Cert.BackUp.nD Cert.BackUp.τ).loc Cert.BackUp.main_arg1))
      ∧ r.2.sem = fun _ => 0)

def quiescent_BackUpIdeal [hBackUpIdeal : Cert.BackUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg), Pre_BackUpIdeal m →
    θ_run (Cert.BackUpIdeal.defs (F := Ideal)) (onTc (τ := Cert.BackUpIdeal.τ) (Cert.BackUpIdeal.main (F := Ideal))) ⟨m, fun _ => 0, g⟩ (fun r => (∀ c : Dev Cert.BackUpIdeal.nD,
      r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
      ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1))
      ∧ r.2.sem = fun _ => 0)

def quiescent_BackUpReferenceIdeal [hBackUpReferenceIdeal : Cert.BackUpReferenceIdeal.Facts] : Prop :=
  ∀ (m : (ℓ : Loc Cert.BackUpReferenceIdeal.nD Cert.BackUpReferenceIdeal.τ Cert.BackUpReferenceIdeal.sig) → Buf (Elt Ideal) ℓ) (g : Dev Cert.BackUpReferenceIdeal.nD → PrngReg), Pre_BackUpReferenceIdeal m →
    θ_run (Cert.BackUpReferenceIdeal.defs (F := Ideal)) (onTc (τ := Cert.BackUpReferenceIdeal.τ) (Cert.BackUpReferenceIdeal.main (F := Ideal))) ⟨m, fun _ => 0, g⟩ (fun r => (∀ c : Dev Cert.BackUpReferenceIdeal.nD,
      r.2.mem ((c.tc : Thread Cert.BackUpReferenceIdeal.nD Cert.BackUpReferenceIdeal.τ).loc Cert.BackUpReferenceIdeal.main_arg0) = m ((c.tc : Thread Cert.BackUpReferenceIdeal.nD Cert.BackUpReferenceIdeal.τ).loc Cert.BackUpReferenceIdeal.main_arg0)
      ∧ r.2.mem ((c.tc : Thread Cert.BackUpReferenceIdeal.nD Cert.BackUpReferenceIdeal.τ).loc Cert.BackUpReferenceIdeal.main_arg1) = m ((c.tc : Thread Cert.BackUpReferenceIdeal.nD Cert.BackUpReferenceIdeal.τ).loc Cert.BackUpReferenceIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_BackMix [hBackMix : Cert.BackMix.Facts] : Prop :=
  ∀ (m : (ℓ : Loc Cert.BackMix.nD Cert.BackMix.τ Cert.BackMix.sig) → Buf (Elt Bits) ℓ) (g : Dev Cert.BackMix.nD → PrngReg), Pre_BackMix m →
    θ_run (Cert.BackMix.defs (F := Bits)) (onTc (τ := Cert.BackMix.τ) (Cert.BackMix.main (F := Bits))) ⟨m, fun _ => 0, g⟩ (fun r => (∀ c : Dev Cert.BackMix.nD,
      r.2.mem ((c.tc : Thread Cert.BackMix.nD Cert.BackMix.τ).loc Cert.BackMix.main_arg0) = m ((c.tc : Thread Cert.BackMix.nD Cert.BackMix.τ).loc Cert.BackMix.main_arg0)
      ∧ r.2.mem ((c.tc : Thread Cert.BackMix.nD Cert.BackMix.τ).loc Cert.BackMix.main_arg1) = m ((c.tc : Thread Cert.BackMix.nD Cert.BackMix.τ).loc Cert.BackMix.main_arg1))
      ∧ r.2.sem = fun _ => 0)

def quiescent_BackMixIdeal [hBackMixIdeal : Cert.BackMixIdeal.Facts] : Prop :=
  ∀ (m : (ℓ : Loc Cert.BackMixIdeal.nD Cert.BackMixIdeal.τ Cert.BackMixIdeal.sig) → Buf (Elt Ideal) ℓ) (g : Dev Cert.BackMixIdeal.nD → PrngReg), Pre_BackMixIdeal m →
    θ_run (Cert.BackMixIdeal.defs (F := Ideal)) (onTc (τ := Cert.BackMixIdeal.τ) (Cert.BackMixIdeal.main (F := Ideal))) ⟨m, fun _ => 0, g⟩ (fun r => (∀ c : Dev Cert.BackMixIdeal.nD,
      r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
      ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1))
      ∧ r.2.sem = fun _ => 0)

def quiescent_BackMixReferenceIdeal [hBackMixReferenceIdeal : Cert.BackMixReferenceIdeal.Facts] : Prop :=
  ∀ (m : (ℓ : Loc Cert.BackMixReferenceIdeal.nD Cert.BackMixReferenceIdeal.τ Cert.BackMixReferenceIdeal.sig) → Buf (Elt Ideal) ℓ) (g : Dev Cert.BackMixReferenceIdeal.nD → PrngReg), Pre_BackMixReferenceIdeal m →
    θ_run (Cert.BackMixReferenceIdeal.defs (F := Ideal)) (onTc (τ := Cert.BackMixReferenceIdeal.τ) (Cert.BackMixReferenceIdeal.main (F := Ideal))) ⟨m, fun _ => 0, g⟩ (fun r => (∀ c : Dev Cert.BackMixReferenceIdeal.nD,
      r.2.mem ((c.tc : Thread Cert.BackMixReferenceIdeal.nD Cert.BackMixReferenceIdeal.τ).loc Cert.BackMixReferenceIdeal.main_arg0) = m ((c.tc : Thread Cert.BackMixReferenceIdeal.nD Cert.BackMixReferenceIdeal.τ).loc Cert.BackMixReferenceIdeal.main_arg0)
      ∧ r.2.mem ((c.tc : Thread Cert.BackMixReferenceIdeal.nD Cert.BackMixReferenceIdeal.τ).loc Cert.BackMixReferenceIdeal.main_arg1) = m ((c.tc : Thread Cert.BackMixReferenceIdeal.nD Cert.BackMixReferenceIdeal.τ).loc Cert.BackMixReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_BackFg [hBackFg : Cert.BackFg.Facts] : Prop :=
  ∀ (m : (ℓ : Loc Cert.BackFg.nD Cert.BackFg.τ Cert.BackFg.sig) → Buf (Elt Bits) ℓ) (g : Dev Cert.BackFg.nD → PrngReg), Pre_BackFg m →
    θ_run (Cert.BackFg.defs (F := Bits)) (onTc (τ := Cert.BackFg.τ) (Cert.BackFg.main (F := Bits))) ⟨m, fun _ => 0, g⟩ (fun r => (∀ c : Dev Cert.BackFg.nD,
      r.2.mem ((c.tc : Thread Cert.BackFg.nD Cert.BackFg.τ).loc Cert.BackFg.main_arg0) = m ((c.tc : Thread Cert.BackFg.nD Cert.BackFg.τ).loc Cert.BackFg.main_arg0)
      ∧ r.2.mem ((c.tc : Thread Cert.BackFg.nD Cert.BackFg.τ).loc Cert.BackFg.main_arg1) = m ((c.tc : Thread Cert.BackFg.nD Cert.BackFg.τ).loc Cert.BackFg.main_arg1))
      ∧ r.2.sem = fun _ => 0)

def quiescent_BackFgIdeal [hBackFgIdeal : Cert.BackFgIdeal.Facts] : Prop :=
  ∀ (m : (ℓ : Loc Cert.BackFgIdeal.nD Cert.BackFgIdeal.τ Cert.BackFgIdeal.sig) → Buf (Elt Ideal) ℓ) (g : Dev Cert.BackFgIdeal.nD → PrngReg), Pre_BackFgIdeal m →
    θ_run (Cert.BackFgIdeal.defs (F := Ideal)) (onTc (τ := Cert.BackFgIdeal.τ) (Cert.BackFgIdeal.main (F := Ideal))) ⟨m, fun _ => 0, g⟩ (fun r => (∀ c : Dev Cert.BackFgIdeal.nD,
      r.2.mem ((c.tc : Thread Cert.BackFgIdeal.nD Cert.BackFgIdeal.τ).loc Cert.BackFgIdeal.main_arg0) = m ((c.tc : Thread Cert.BackFgIdeal.nD Cert.BackFgIdeal.τ).loc Cert.BackFgIdeal.main_arg0)
      ∧ r.2.mem ((c.tc : Thread Cert.BackFgIdeal.nD Cert.BackFgIdeal.τ).loc Cert.BackFgIdeal.main_arg1) = m ((c.tc : Thread Cert.BackFgIdeal.nD Cert.BackFgIdeal.τ).loc Cert.BackFgIdeal.main_arg1))
      ∧ r.2.sem = fun _ => 0)

def quiescent_BackFgReferenceIdeal [hBackFgReferenceIdeal : Cert.BackFgReferenceIdeal.Facts] : Prop :=
  ∀ (m : (ℓ : Loc Cert.BackFgReferenceIdeal.nD Cert.BackFgReferenceIdeal.τ Cert.BackFgReferenceIdeal.sig) → Buf (Elt Ideal) ℓ) (g : Dev Cert.BackFgReferenceIdeal.nD → PrngReg), Pre_BackFgReferenceIdeal m →
    θ_run (Cert.BackFgReferenceIdeal.defs (F := Ideal)) (onTc (τ := Cert.BackFgReferenceIdeal.τ) (Cert.BackFgReferenceIdeal.main (F := Ideal))) ⟨m, fun _ => 0, g⟩ (fun r => (∀ c : Dev Cert.BackFgReferenceIdeal.nD,
      r.2.mem ((c.tc : Thread Cert.BackFgReferenceIdeal.nD Cert.BackFgReferenceIdeal.τ).loc Cert.BackFgReferenceIdeal.main_arg0) = m ((c.tc : Thread Cert.BackFgReferenceIdeal.nD Cert.BackFgReferenceIdeal.τ).loc Cert.BackFgReferenceIdeal.main_arg0)
      ∧ r.2.mem ((c.tc : Thread Cert.BackFgReferenceIdeal.nD Cert.BackFgReferenceIdeal.τ).loc Cert.BackFgReferenceIdeal.main_arg1) = m ((c.tc : Thread Cert.BackFgReferenceIdeal.nD Cert.BackFgReferenceIdeal.τ).loc Cert.BackFgReferenceIdeal.main_arg1))
      ∧ r.2.sem = fun _ => 0)

def quiescent_BackA [hBackA : Cert.BackA.Facts] : Prop :=
  ∀ (m : (ℓ : Loc Cert.BackA.nD Cert.BackA.τ Cert.BackA.sig) → Buf (Elt Bits) ℓ) (g : Dev Cert.BackA.nD → PrngReg), Pre_BackA m →
    θ_run (Cert.BackA.defs (F := Bits)) (onTc (τ := Cert.BackA.τ) (Cert.BackA.main (F := Bits))) ⟨m, fun _ => 0, g⟩ (fun r => (∀ c : Dev Cert.BackA.nD,
      r.2.mem ((c.tc : Thread Cert.BackA.nD Cert.BackA.τ).loc Cert.BackA.main_arg0) = m ((c.tc : Thread Cert.BackA.nD Cert.BackA.τ).loc Cert.BackA.main_arg0)
      ∧ r.2.mem ((c.tc : Thread Cert.BackA.nD Cert.BackA.τ).loc Cert.BackA.main_arg1) = m ((c.tc : Thread Cert.BackA.nD Cert.BackA.τ).loc Cert.BackA.main_arg1)
      ∧ r.2.mem ((c.tc : Thread Cert.BackA.nD Cert.BackA.τ).loc Cert.BackA.main_arg2) = m ((c.tc : Thread Cert.BackA.nD Cert.BackA.τ).loc Cert.BackA.main_arg2))
      ∧ r.2.sem = fun _ => 0)

def quiescent_BackAIdeal [hBackAIdeal : Cert.BackAIdeal.Facts] : Prop :=
  ∀ (m : (ℓ : Loc Cert.BackAIdeal.nD Cert.BackAIdeal.τ Cert.BackAIdeal.sig) → Buf (Elt Ideal) ℓ) (g : Dev Cert.BackAIdeal.nD → PrngReg), Pre_BackAIdeal m →
    θ_run (Cert.BackAIdeal.defs (F := Ideal)) (onTc (τ := Cert.BackAIdeal.τ) (Cert.BackAIdeal.main (F := Ideal))) ⟨m, fun _ => 0, g⟩ (fun r => (∀ c : Dev Cert.BackAIdeal.nD,
      r.2.mem ((c.tc : Thread Cert.BackAIdeal.nD Cert.BackAIdeal.τ).loc Cert.BackAIdeal.main_arg0) = m ((c.tc : Thread Cert.BackAIdeal.nD Cert.BackAIdeal.τ).loc Cert.BackAIdeal.main_arg0)
      ∧ r.2.mem ((c.tc : Thread Cert.BackAIdeal.nD Cert.BackAIdeal.τ).loc Cert.BackAIdeal.main_arg1) = m ((c.tc : Thread Cert.BackAIdeal.nD Cert.BackAIdeal.τ).loc Cert.BackAIdeal.main_arg1)
      ∧ r.2.mem ((c.tc : Thread Cert.BackAIdeal.nD Cert.BackAIdeal.τ).loc Cert.BackAIdeal.main_arg2) = m ((c.tc : Thread Cert.BackAIdeal.nD Cert.BackAIdeal.τ).loc Cert.BackAIdeal.main_arg2))
      ∧ r.2.sem = fun _ => 0)

def quiescent_BackAReferenceIdeal [hBackAReferenceIdeal : Cert.BackAReferenceIdeal.Facts] : Prop :=
  ∀ (m : (ℓ : Loc Cert.BackAReferenceIdeal.nD Cert.BackAReferenceIdeal.τ Cert.BackAReferenceIdeal.sig) → Buf (Elt Ideal) ℓ) (g : Dev Cert.BackAReferenceIdeal.nD → PrngReg), Pre_BackAReferenceIdeal m →
    θ_run (Cert.BackAReferenceIdeal.defs (F := Ideal)) (onTc (τ := Cert.BackAReferenceIdeal.τ) (Cert.BackAReferenceIdeal.main (F := Ideal))) ⟨m, fun _ => 0, g⟩ (fun r => (∀ c : Dev Cert.BackAReferenceIdeal.nD,
      r.2.mem ((c.tc : Thread Cert.BackAReferenceIdeal.nD Cert.BackAReferenceIdeal.τ).loc Cert.BackAReferenceIdeal.main_arg0) = m ((c.tc : Thread Cert.BackAReferenceIdeal.nD Cert.BackAReferenceIdeal.τ).loc Cert.BackAReferenceIdeal.main_arg0)
      ∧ r.2.mem ((c.tc : Thread Cert.BackAReferenceIdeal.nD Cert.BackAReferenceIdeal.τ).loc Cert.BackAReferenceIdeal.main_arg1) = m ((c.tc : Thread Cert.BackAReferenceIdeal.nD Cert.BackAReferenceIdeal.τ).loc Cert.BackAReferenceIdeal.main_arg1)
      ∧ r.2.mem ((c.tc : Thread Cert.BackAReferenceIdeal.nD Cert.BackAReferenceIdeal.τ).loc Cert.BackAReferenceIdeal.main_arg2) = m ((c.tc : Thread Cert.BackAReferenceIdeal.nD Cert.BackAReferenceIdeal.τ).loc Cert.BackAReferenceIdeal.main_arg2))
      ∧ r.2.sem = fun _ => 0)

def quiescent_GradA [hGradA : Cert.GradA.Facts] : Prop :=
  ∀ (m : (ℓ : Loc Cert.GradA.nD Cert.GradA.τ Cert.GradA.sig) → Buf (Elt Bits) ℓ) (g : Dev Cert.GradA.nD → PrngReg), Pre_GradA m →
    θ_run (Cert.GradA.defs (F := Bits)) (onTc (τ := Cert.GradA.τ) (Cert.GradA.main (F := Bits))) ⟨m, fun _ => 0, g⟩ (fun r => (∀ c : Dev Cert.GradA.nD,
      r.2.mem ((c.tc : Thread Cert.GradA.nD Cert.GradA.τ).loc Cert.GradA.main_arg0) = m ((c.tc : Thread Cert.GradA.nD Cert.GradA.τ).loc Cert.GradA.main_arg0)
      ∧ r.2.mem ((c.tc : Thread Cert.GradA.nD Cert.GradA.τ).loc Cert.GradA.main_arg1) = m ((c.tc : Thread Cert.GradA.nD Cert.GradA.τ).loc Cert.GradA.main_arg1))
      ∧ r.2.sem = fun _ => 0)

def quiescent_GradAIdeal [hGradAIdeal : Cert.GradAIdeal.Facts] : Prop :=
  ∀ (m : (ℓ : Loc Cert.GradAIdeal.nD Cert.GradAIdeal.τ Cert.GradAIdeal.sig) → Buf (Elt Ideal) ℓ) (g : Dev Cert.GradAIdeal.nD → PrngReg), Pre_GradAIdeal m →
    θ_run (Cert.GradAIdeal.defs (F := Ideal)) (onTc (τ := Cert.GradAIdeal.τ) (Cert.GradAIdeal.main (F := Ideal))) ⟨m, fun _ => 0, g⟩ (fun r => (∀ c : Dev Cert.GradAIdeal.nD,
      r.2.mem ((c.tc : Thread Cert.GradAIdeal.nD Cert.GradAIdeal.τ).loc Cert.GradAIdeal.main_arg0) = m ((c.tc : Thread Cert.GradAIdeal.nD Cert.GradAIdeal.τ).loc Cert.GradAIdeal.main_arg0)
      ∧ r.2.mem ((c.tc : Thread Cert.GradAIdeal.nD Cert.GradAIdeal.τ).loc Cert.GradAIdeal.main_arg1) = m ((c.tc : Thread Cert.GradAIdeal.nD Cert.GradAIdeal.τ).loc Cert.GradAIdeal.main_arg1))
      ∧ r.2.sem = fun _ => 0)

def quiescent_GradAReferenceIdeal [hGradAReferenceIdeal : Cert.GradAReferenceIdeal.Facts] : Prop :=
  ∀ (m : (ℓ : Loc Cert.GradAReferenceIdeal.nD Cert.GradAReferenceIdeal.τ Cert.GradAReferenceIdeal.sig) → Buf (Elt Ideal) ℓ) (g : Dev Cert.GradAReferenceIdeal.nD → PrngReg), Pre_GradAReferenceIdeal m →
    θ_run (Cert.GradAReferenceIdeal.defs (F := Ideal)) (onTc (τ := Cert.GradAReferenceIdeal.τ) (Cert.GradAReferenceIdeal.main (F := Ideal))) ⟨m, fun _ => 0, g⟩ (fun r => (∀ c : Dev Cert.GradAReferenceIdeal.nD,
      r.2.mem ((c.tc : Thread Cert.GradAReferenceIdeal.nD Cert.GradAReferenceIdeal.τ).loc Cert.GradAReferenceIdeal.main_arg0) = m ((c.tc : Thread Cert.GradAReferenceIdeal.nD Cert.GradAReferenceIdeal.τ).loc Cert.GradAReferenceIdeal.main_arg0)
      ∧ r.2.mem ((c.tc : Thread Cert.GradAReferenceIdeal.nD Cert.GradAReferenceIdeal.τ).loc Cert.GradAReferenceIdeal.main_arg1) = m ((c.tc : Thread Cert.GradAReferenceIdeal.nD Cert.GradAReferenceIdeal.τ).loc Cert.GradAReferenceIdeal.main_arg1))
      ∧ r.2.sem = fun _ => 0)

def quiescent_GradFg [hGradFg : Cert.GradFg.Facts] : Prop :=
  ∀ (m : (ℓ : Loc Cert.GradFg.nD Cert.GradFg.τ Cert.GradFg.sig) → Buf (Elt Bits) ℓ) (g : Dev Cert.GradFg.nD → PrngReg), Pre_GradFg m →
    θ_run (Cert.GradFg.defs (F := Bits)) (onTc (τ := Cert.GradFg.τ) (Cert.GradFg.main (F := Bits))) ⟨m, fun _ => 0, g⟩ (fun r => (∀ c : Dev Cert.GradFg.nD,
      r.2.mem ((c.tc : Thread Cert.GradFg.nD Cert.GradFg.τ).loc Cert.GradFg.main_arg0) = m ((c.tc : Thread Cert.GradFg.nD Cert.GradFg.τ).loc Cert.GradFg.main_arg0)
      ∧ r.2.mem ((c.tc : Thread Cert.GradFg.nD Cert.GradFg.τ).loc Cert.GradFg.main_arg1) = m ((c.tc : Thread Cert.GradFg.nD Cert.GradFg.τ).loc Cert.GradFg.main_arg1))
      ∧ r.2.sem = fun _ => 0)

def quiescent_GradFgIdeal [hGradFgIdeal : Cert.GradFgIdeal.Facts] : Prop :=
  ∀ (m : (ℓ : Loc Cert.GradFgIdeal.nD Cert.GradFgIdeal.τ Cert.GradFgIdeal.sig) → Buf (Elt Ideal) ℓ) (g : Dev Cert.GradFgIdeal.nD → PrngReg), Pre_GradFgIdeal m →
    θ_run (Cert.GradFgIdeal.defs (F := Ideal)) (onTc (τ := Cert.GradFgIdeal.τ) (Cert.GradFgIdeal.main (F := Ideal))) ⟨m, fun _ => 0, g⟩ (fun r => (∀ c : Dev Cert.GradFgIdeal.nD,
      r.2.mem ((c.tc : Thread Cert.GradFgIdeal.nD Cert.GradFgIdeal.τ).loc Cert.GradFgIdeal.main_arg0) = m ((c.tc : Thread Cert.GradFgIdeal.nD Cert.GradFgIdeal.τ).loc Cert.GradFgIdeal.main_arg0)
      ∧ r.2.mem ((c.tc : Thread Cert.GradFgIdeal.nD Cert.GradFgIdeal.τ).loc Cert.GradFgIdeal.main_arg1) = m ((c.tc : Thread Cert.GradFgIdeal.nD Cert.GradFgIdeal.τ).loc Cert.GradFgIdeal.main_arg1))
      ∧ r.2.sem = fun _ => 0)

def quiescent_GradFgReferenceIdeal [hGradFgReferenceIdeal : Cert.GradFgReferenceIdeal.Facts] : Prop :=
  ∀ (m : (ℓ : Loc Cert.GradFgReferenceIdeal.nD Cert.GradFgReferenceIdeal.τ Cert.GradFgReferenceIdeal.sig) → Buf (Elt Ideal) ℓ) (g : Dev Cert.GradFgReferenceIdeal.nD → PrngReg), Pre_GradFgReferenceIdeal m →
    θ_run (Cert.GradFgReferenceIdeal.defs (F := Ideal)) (onTc (τ := Cert.GradFgReferenceIdeal.τ) (Cert.GradFgReferenceIdeal.main (F := Ideal))) ⟨m, fun _ => 0, g⟩ (fun r => (∀ c : Dev Cert.GradFgReferenceIdeal.nD,
      r.2.mem ((c.tc : Thread Cert.GradFgReferenceIdeal.nD Cert.GradFgReferenceIdeal.τ).loc Cert.GradFgReferenceIdeal.main_arg0) = m ((c.tc : Thread Cert.GradFgReferenceIdeal.nD Cert.GradFgReferenceIdeal.τ).loc Cert.GradFgReferenceIdeal.main_arg0)
      ∧ r.2.mem ((c.tc : Thread Cert.GradFgReferenceIdeal.nD Cert.GradFgReferenceIdeal.τ).loc Cert.GradFgReferenceIdeal.main_arg1) = m ((c.tc : Thread Cert.GradFgReferenceIdeal.nD Cert.GradFgReferenceIdeal.τ).loc Cert.GradFgReferenceIdeal.main_arg1))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![47616, 128]⟩ ⟨2, ![190464, 128]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨2, ![47616, 128]⟩ ⟨2, ![190464, 128]⟩ (Layout.meshBlock [2, 2, 2] ![[0, 1], []] c) (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Swap_SwapIdeal : Prop :=
  True

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 23760, 128]⟩ ⟨4, ![32, 2, 23760, 128]⟩ 0 8 c (m' (((0 : Dev Cert.SwapReferenceIdeal.nD).tc : Thread Cert.SwapReferenceIdeal.nD Cert.SwapReferenceIdeal.τ).loc Cert.SwapReferenceIdeal.main_arg0))) →
    ∃ (v0 : Buf (Elt Ideal) (((0 : Dev Cert.SwapReferenceIdeal.nD).tc : Thread Cert.SwapReferenceIdeal.nD Cert.SwapReferenceIdeal.τ).loc Cert.SwapReferenceIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 23760, 128]⟩ ⟨3, ![32, 23760, 128]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v8) = v0
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0))

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨4, ![4, 2, 23760, 128]⟩ ⟨4, ![32, 2, 23760, 128]⟩ 0 8 c (m' (((0 : Dev Cert.SwapReference.nD).tc : Thread Cert.SwapReference.nD Cert.SwapReference.τ).loc Cert.SwapReference.main_arg0))) →
    ∃ (v0 : Buf (Elt Bits) (((0 : Dev Cert.SwapReference.nD).tc : Thread Cert.SwapReference.nD Cert.SwapReference.τ).loc Cert.SwapReference.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 23760, 128]⟩ ⟨3, ![32, 23760, 128]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v8) = v0
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0))

def preserves_Send_SendIdeal : Prop :=
  True

def algebraic_SendIdeal_SendReferenceIdeal [hSendIdeal : Cert.SendIdeal.Facts] [hSendReferenceIdeal : Cert.SendReferenceIdeal.Facts] : Prop :=
  ∀ (m : (ℓ : Loc Cert.SendIdeal.nD Cert.SendIdeal.τ Cert.SendIdeal.sig) → Buf (Elt Ideal) ℓ) (g : Dev Cert.SendIdeal.nD → PrngReg)
    (m' : (ℓ : Loc Cert.SendReferenceIdeal.nD Cert.SendReferenceIdeal.τ Cert.SendReferenceIdeal.sig) → Buf (Elt Ideal) ℓ) (g' : Dev Cert.SendReferenceIdeal.nD → PrngReg), Pre_SendIdeal m →
    (∀ c : Dev Cert.SendIdeal.nD,
      m ((c.tc : Thread Cert.SendIdeal.nD Cert.SendIdeal.τ).loc Cert.SendIdeal.main_arg0) = Layout.block ⟨3, ![4, 23760, 128]⟩ ⟨3, ![32, 23760, 128]⟩ 0 8 c (m' (((0 : Dev Cert.SendReferenceIdeal.nD).tc : Thread Cert.SendReferenceIdeal.nD Cert.SendReferenceIdeal.τ).loc Cert.SendReferenceIdeal.main_arg0))) →
    ∃ (v0 : Buf (Elt Ideal) (((0 : Dev Cert.SendReferenceIdeal.nD).tc : Thread Cert.SendReferenceIdeal.nD Cert.SendReferenceIdeal.τ).loc Cert.SendReferenceIdeal.main_v46)),
      θ_run (Cert.SendIdeal.defs (F := Ideal)) (onTc (τ := Cert.SendIdeal.τ) (Cert.SendIdeal.main (F := Ideal))) ⟨m, fun _ => 0, g⟩ (fun r => ∀ c : Dev Cert.SendIdeal.nD,
          r.2.mem ((c.tc : Thread Cert.SendIdeal.nD Cert.SendIdeal.τ).loc Cert.SendIdeal.main_v1) = Layout.block ⟨3, ![3, 23760, 128]⟩ ⟨3, ![24, 23760, 128]⟩ 0 8 c v0
          ∧ r.2.mem ((c.tc : Thread Cert.SendIdeal.nD Cert.SendIdeal.τ).loc Cert.SendIdeal.main_arg0) = m ((c.tc : Thread Cert.SendIdeal.nD Cert.SendIdeal.τ).loc Cert.SendIdeal.main_arg0))
      ∧ θ_run (Cert.SendReferenceIdeal.defs (F := Ideal)) (onTc (τ := Cert.SendReferenceIdeal.τ) (Cert.SendReferenceIdeal.main (F := Ideal))) ⟨m', fun _ => 0, g'⟩ (fun r =>
          r.2.mem (((0 : Dev Cert.SendReferenceIdeal.nD).tc : Thread Cert.SendReferenceIdeal.nD Cert.SendReferenceIdeal.τ).loc Cert.SendReferenceIdeal.main_v46) = v0
          ∧ r.2.mem (((0 : Dev Cert.SendReferenceIdeal.nD).tc : Thread Cert.SendReferenceIdeal.nD Cert.SendReferenceIdeal.τ).loc Cert.SendReferenceIdeal.main_arg0) = m' (((0 : Dev Cert.SendReferenceIdeal.nD).tc : Thread Cert.SendReferenceIdeal.nD Cert.SendReferenceIdeal.τ).loc Cert.SendReferenceIdeal.main_arg0))

def bitexact_Send_SendReference [hSend : Cert.Send.Facts] [hSendReference : Cert.SendReference.Facts] : Prop :=
  ∀ (m : (ℓ : Loc Cert.Send.nD Cert.Send.τ Cert.Send.sig) → Buf (Elt Bits) ℓ) (g : Dev Cert.Send.nD → PrngReg)
    (m' : (ℓ : Loc Cert.SendReference.nD Cert.SendReference.τ Cert.SendReference.sig) → Buf (Elt Bits) ℓ) (g' : Dev Cert.SendReference.nD → PrngReg), Pre_Send m →
    (∀ c : Dev Cert.Send.nD,
      m ((c.tc : Thread Cert.Send.nD Cert.Send.τ).loc Cert.Send.main_arg0) = Layout.block ⟨3, ![4, 23760, 128]⟩ ⟨3, ![32, 23760, 128]⟩ 0 8 c (m' (((0 : Dev Cert.SendReference.nD).tc : Thread Cert.SendReference.nD Cert.SendReference.τ).loc Cert.SendReference.main_arg0))) →
    ∃ (v0 : Buf (Elt Bits) (((0 : Dev Cert.SendReference.nD).tc : Thread Cert.SendReference.nD Cert.SendReference.τ).loc Cert.SendReference.main_v46)),
      θ_run (Cert.Send.defs (F := Bits)) (onTc (τ := Cert.Send.τ) (Cert.Send.main (F := Bits))) ⟨m, fun _ => 0, g⟩ (fun r => ∀ c : Dev Cert.Send.nD,
          r.2.mem ((c.tc : Thread Cert.Send.nD Cert.Send.τ).loc Cert.Send.main_v1) = Layout.block ⟨3, ![3, 23760, 128]⟩ ⟨3, ![24, 23760, 128]⟩ 0 8 c v0
          ∧ r.2.mem ((c.tc : Thread Cert.Send.nD Cert.Send.τ).loc Cert.Send.main_arg0) = m ((c.tc : Thread Cert.Send.nD Cert.Send.τ).loc Cert.Send.main_arg0))
      ∧ θ_run (Cert.SendReference.defs (F := Bits)) (onTc (τ := Cert.SendReference.τ) (Cert.SendReference.main (F := Bits))) ⟨m', fun _ => 0, g'⟩ (fun r =>
          r.2.mem (((0 : Dev Cert.SendReference.nD).tc : Thread Cert.SendReference.nD Cert.SendReference.τ).loc Cert.SendReference.main_v46) = v0
          ∧ r.2.mem (((0 : Dev Cert.SendReference.nD).tc : Thread Cert.SendReference.nD Cert.SendReference.τ).loc Cert.SendReference.main_arg0) = m' (((0 : Dev Cert.SendReference.nD).tc : Thread Cert.SendReference.nD Cert.SendReference.τ).loc Cert.SendReference.main_arg0))

def preserves_Share_ShareIdeal : Prop :=
  True

def algebraic_ShareIdeal_ShareReferenceIdeal [hShareIdeal : Cert.ShareIdeal.Facts] [hShareReferenceIdeal : Cert.ShareReferenceIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareReferenceIdeal.nD Cert.ShareReferenceIdeal.τ Cert.ShareReferenceIdeal.sig) → Buf (Elt Ideal) ℓ) (g' : Dev Cert.ShareReferenceIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![23760, 128]⟩ ⟨2, ![190080, 128]⟩ 0 8 c (m' (((0 : Dev Cert.ShareReferenceIdeal.nD).tc : Thread Cert.ShareReferenceIdeal.nD Cert.ShareReferenceIdeal.τ).loc Cert.ShareReferenceIdeal.main_arg0))) →
    ∃ (v0 : Buf (Elt Ideal) (((0 : Dev Cert.ShareReferenceIdeal.nD).tc : Thread Cert.ShareReferenceIdeal.nD Cert.ShareReferenceIdeal.τ).loc Cert.ShareReferenceIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 23760, 128]⟩ ⟨3, ![8, 23760, 128]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareReferenceIdeal.defs (F := Ideal)) (onTc (τ := Cert.ShareReferenceIdeal.τ) (Cert.ShareReferenceIdeal.main (F := Ideal))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v0) = v0
          ∧ r.2.mem (((0 : Dev Cert.ShareReferenceIdeal.nD).tc : Thread Cert.ShareReferenceIdeal.nD Cert.ShareReferenceIdeal.τ).loc Cert.ShareReferenceIdeal.main_arg0) = m' (((0 : Dev Cert.ShareReferenceIdeal.nD).tc : Thread Cert.ShareReferenceIdeal.nD Cert.ShareReferenceIdeal.τ).loc Cert.ShareReferenceIdeal.main_arg0))

def bitexact_Share_ShareReference [hShare : Cert.Share.Facts] [hShareReference : Cert.ShareReference.Facts] : Prop :=
  ∀ (m : (ℓ : Loc Cert.Share.nD Cert.Share.τ Cert.Share.sig) → Buf (Elt Bits) ℓ) (g : Dev Cert.Share.nD → PrngReg)
    (m' : (ℓ : Loc Cert.ShareReference.nD Cert.ShareReference.τ Cert.ShareReference.sig) → Buf (Elt Bits) ℓ) (g' : Dev Cert.ShareReference.nD → PrngReg), Pre_Share m →
    (∀ c : Dev Cert.Share.nD,
      m ((c.tc : Thread Cert.Share.nD Cert.Share.τ).loc Cert.Share.main_arg0) = Layout.block ⟨2, ![23760, 128]⟩ ⟨2, ![190080, 128]⟩ 0 8 c (m' (((0 : Dev Cert.ShareReference.nD).tc : Thread Cert.ShareReference.nD Cert.ShareReference.τ).loc Cert.ShareReference.main_arg0))) →
    ∃ (v0 : Buf (Elt Bits) (((0 : Dev Cert.ShareReference.nD).tc : Thread Cert.ShareReference.nD Cert.ShareReference.τ).loc Cert.ShareReference.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 23760, 128]⟩ ⟨3, ![8, 23760, 128]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareReference.defs (F := Bits)) (onTc (τ := Cert.ShareReference.τ) (Cert.ShareReference.main (F := Bits))) ⟨m', fun _ => 0, g'⟩ (fun r =>
          r.2.mem (((0 : Dev Cert.ShareReference.nD).tc : Thread Cert.ShareReference.nD Cert.ShareReference.τ).loc Cert.ShareReference.main_v0) = v0
          ∧ r.2.mem (((0 : Dev Cert.ShareReference.nD).tc : Thread Cert.ShareReference.nD Cert.ShareReference.τ).loc Cert.ShareReference.main_arg0) = m' (((0 : Dev Cert.ShareReference.nD).tc : Thread Cert.ShareReference.nD Cert.ShareReference.τ).loc Cert.ShareReference.main_arg0))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m ((c.tc : Thread Cert.AdamInIdeal.nD Cert.AdamInIdeal.τ).loc Cert.AdamInIdeal.main_arg0) = Layout.blockN ⟨3, ![2, 1024, 578]⟩ ⟨3, ![2, 1024, 2312]⟩ (Layout.meshBlock [2, 2, 2] ![[], [], [0, 1]] c) (m' (((0 : Dev Cert.AdamInReferenceIdeal.nD).tc : Thread Cert.AdamInReferenceIdeal.nD Cert.AdamInReferenceIdeal.τ).loc Cert.AdamInReferenceIdeal.main_arg0))
      ∧ m ((c.tc : Thread Cert.AdamInIdeal.nD Cert.AdamInIdeal.τ).loc Cert.AdamInIdeal.main_arg1) = Layout.blockN ⟨3, ![2, 1024, 578]⟩ ⟨3, ![2, 1024, 2312]⟩ (Layout.meshBlock [2, 2, 2] ![[], [], [0, 1]] c) (m' (((0 : Dev Cert.AdamInReferenceIdeal.nD).tc : Thread Cert.AdamInReferenceIdeal.nD Cert.AdamInReferenceIdeal.τ).loc Cert.AdamInReferenceIdeal.main_arg1))
      ∧ m ((c.tc : Thread Cert.AdamInIdeal.nD Cert.AdamInIdeal.τ).loc Cert.AdamInIdeal.main_arg2) = Layout.blockN ⟨3, ![2, 1024, 578]⟩ ⟨3, ![2, 1024, 2312]⟩ (Layout.meshBlock [2, 2, 2] ![[], [], [0, 1]] c) (m' (((0 : Dev Cert.AdamInReferenceIdeal.nD).tc : Thread Cert.AdamInReferenceIdeal.nD Cert.AdamInReferenceIdeal.τ).loc Cert.AdamInReferenceIdeal.main_arg2))
      ∧ m ((c.tc : Thread Cert.AdamInIdeal.nD Cert.AdamInIdeal.τ).loc Cert.AdamInIdeal.main_arg3) = Layout.blockN ⟨3, ![2, 1024, 578]⟩ ⟨3, ![2, 1024, 2312]⟩ (Layout.meshBlock [2, 2, 2] ![[], [], [0, 1]] c) (m' (((0 : Dev Cert.AdamInReferenceIdeal.nD).tc : Thread Cert.AdamInReferenceIdeal.nD Cert.AdamInReferenceIdeal.τ).loc Cert.AdamInReferenceIdeal.main_arg3))) →
    ∃ (v0 : Buf (Elt Ideal) (((0 : Dev Cert.AdamInReferenceIdeal.nD).tc : Thread Cert.AdamInReferenceIdeal.nD Cert.AdamInReferenceIdeal.τ).loc Cert.AdamInReferenceIdeal.main_v23)) (v1 : Buf (Elt Ideal) (((0 : Dev Cert.AdamInReferenceIdeal.nD).tc : Thread Cert.AdamInReferenceIdeal.nD Cert.AdamInReferenceIdeal.τ).loc Cert.AdamInReferenceIdeal.main_v4)) (v2 : Buf (Elt Ideal) (((0 : Dev Cert.AdamInReferenceIdeal.nD).tc : Thread Cert.AdamInReferenceIdeal.nD Cert.AdamInReferenceIdeal.τ).loc Cert.AdamInReferenceIdeal.main_v10)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6) = Layout.blockN ⟨3, ![2, 1024, 578]⟩ ⟨3, ![2, 1024, 2312]⟩ (Layout.meshBlock [2, 2, 2] ![[], [], [0, 1]] c) v0
          ∧ r.2.mem ((c.tc : Thread Cert.AdamInIdeal.nD Cert.AdamInIdeal.τ).loc Cert.AdamInIdeal.main_v7) = Layout.blockN ⟨3, ![2, 1024, 578]⟩ ⟨3, ![2, 1024, 2312]⟩ (Layout.meshBlock [2, 2, 2] ![[], [], [0, 1]] c) v1
          ∧ r.2.mem ((c.tc : Thread Cert.AdamInIdeal.nD Cert.AdamInIdeal.τ).loc Cert.AdamInIdeal.main_v8) = Layout.blockN ⟨3, ![2, 1024, 578]⟩ ⟨3, ![2, 1024, 2312]⟩ (Layout.meshBlock [2, 2, 2] ![[], [], [0, 1]] c) v2
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r =>
          r.2.mem (((0 : Dev Cert.AdamInReferenceIdeal.nD).tc : Thread Cert.AdamInReferenceIdeal.nD Cert.AdamInReferenceIdeal.τ).loc Cert.AdamInReferenceIdeal.main_v23) = v0
          ∧ r.2.mem (((0 : Dev Cert.AdamInReferenceIdeal.nD).tc : Thread Cert.AdamInReferenceIdeal.nD Cert.AdamInReferenceIdeal.τ).loc Cert.AdamInReferenceIdeal.main_v4) = v1
          ∧ r.2.mem (((0 : Dev Cert.AdamInReferenceIdeal.nD).tc : Thread Cert.AdamInReferenceIdeal.nD Cert.AdamInReferenceIdeal.τ).loc Cert.AdamInReferenceIdeal.main_v10) = v2
          ∧ r.2.mem (((0 : Dev Cert.AdamInReferenceIdeal.nD).tc : Thread Cert.AdamInReferenceIdeal.nD Cert.AdamInReferenceIdeal.τ).loc Cert.AdamInReferenceIdeal.main_arg0) = m' (((0 : Dev Cert.AdamInReferenceIdeal.nD).tc : Thread Cert.AdamInReferenceIdeal.nD Cert.AdamInReferenceIdeal.τ).loc Cert.AdamInReferenceIdeal.main_arg0)
          ∧ r.2.mem (((0 : Dev Cert.AdamInReferenceIdeal.nD).tc : Thread Cert.AdamInReferenceIdeal.nD Cert.AdamInReferenceIdeal.τ).loc Cert.AdamInReferenceIdeal.main_arg1) = m' (((0 : Dev Cert.AdamInReferenceIdeal.nD).tc : Thread Cert.AdamInReferenceIdeal.nD Cert.AdamInReferenceIdeal.τ).loc Cert.AdamInReferenceIdeal.main_arg1)
          ∧ r.2.mem (((0 : Dev Cert.AdamInReferenceIdeal.nD).tc : Thread Cert.AdamInReferenceIdeal.nD Cert.AdamInReferenceIdeal.τ).loc Cert.AdamInReferenceIdeal.main_arg2) = m' (((0 : Dev Cert.AdamInReferenceIdeal.nD).tc : Thread Cert.AdamInReferenceIdeal.nD Cert.AdamInReferenceIdeal.τ).loc Cert.AdamInReferenceIdeal.main_arg2)
          ∧ r.2.mem (((0 : Dev Cert.AdamInReferenceIdeal.nD).tc : Thread Cert.AdamInReferenceIdeal.nD Cert.AdamInReferenceIdeal.τ).loc Cert.AdamInReferenceIdeal.main_arg3) = m' (((0 : Dev Cert.AdamInReferenceIdeal.nD).tc : Thread Cert.AdamInReferenceIdeal.nD Cert.AdamInReferenceIdeal.τ).loc Cert.AdamInReferenceIdeal.main_arg3))

def preserves_AdamConvDw_AdamConvDwIdeal : Prop :=
  True

def algebraic_AdamConvDwIdeal_AdamConvDwReferenceIdeal [hAdamConvDwIdeal : Cert.AdamConvDwIdeal.Facts] [hAdamConvDwReferenceIdeal : Cert.AdamConvDwReferenceIdeal.Facts] : Prop :=
  ∀ (m : (ℓ : Loc Cert.AdamConvDwIdeal.nD Cert.AdamConvDwIdeal.τ Cert.AdamConvDwIdeal.sig) → Buf (Elt Ideal) ℓ) (g : Dev Cert.AdamConvDwIdeal.nD → PrngReg)
    (m' : (ℓ : Loc Cert.AdamConvDwReferenceIdeal.nD Cert.AdamConvDwReferenceIdeal.τ Cert.AdamConvDwReferenceIdeal.sig) → Buf (Elt Ideal) ℓ) (g' : Dev Cert.AdamConvDwReferenceIdeal.nD → PrngReg), Pre_AdamConvDwIdeal m →
    (∀ c : Dev Cert.AdamConvDwIdeal.nD,
      m ((c.tc : Thread Cert.AdamConvDwIdeal.nD Cert.AdamConvDwIdeal.τ).loc Cert.AdamConvDwIdeal.main_arg0) = Layout.blockN ⟨3, ![2, 31, 64]⟩ ⟨3, ![2, 31, 256]⟩ (Layout.meshBlock [2, 2, 2] ![[], [], [0, 1]] c) (m' (((0 : Dev Cert.AdamConvDwReferenceIdeal.nD).tc : Thread Cert.AdamConvDwReferenceIdeal.nD Cert.AdamConvDwReferenceIdeal.τ).loc Cert.AdamConvDwReferenceIdeal.main_arg0))
      ∧ m ((c.tc : Thread Cert.AdamConvDwIdeal.nD Cert.AdamConvDwIdeal.τ).loc Cert.AdamConvDwIdeal.main_arg1) = Layout.blockN ⟨3, ![2, 31, 64]⟩ ⟨3, ![2, 31, 256]⟩ (Layout.meshBlock [2, 2, 2] ![[], [], [0, 1]] c) (m' (((0 : Dev Cert.AdamConvDwReferenceIdeal.nD).tc : Thread Cert.AdamConvDwReferenceIdeal.nD Cert.AdamConvDwReferenceIdeal.τ).loc Cert.AdamConvDwReferenceIdeal.main_arg1))
      ∧ m ((c.tc : Thread Cert.AdamConvDwIdeal.nD Cert.AdamConvDwIdeal.τ).loc Cert.AdamConvDwIdeal.main_arg2) = Layout.blockN ⟨3, ![2, 31, 64]⟩ ⟨3, ![2, 31, 256]⟩ (Layout.meshBlock [2, 2, 2] ![[], [], [0, 1]] c) (m' (((0 : Dev Cert.AdamConvDwReferenceIdeal.nD).tc : Thread Cert.AdamConvDwReferenceIdeal.nD Cert.AdamConvDwReferenceIdeal.τ).loc Cert.AdamConvDwReferenceIdeal.main_arg2))
      ∧ m ((c.tc : Thread Cert.AdamConvDwIdeal.nD Cert.AdamConvDwIdeal.τ).loc Cert.AdamConvDwIdeal.main_arg3) = Layout.blockN ⟨3, ![2, 31, 64]⟩ ⟨3, ![2, 31, 256]⟩ (Layout.meshBlock [2, 2, 2] ![[], [], [0, 1]] c) (m' (((0 : Dev Cert.AdamConvDwReferenceIdeal.nD).tc : Thread Cert.AdamConvDwReferenceIdeal.nD Cert.AdamConvDwReferenceIdeal.τ).loc Cert.AdamConvDwReferenceIdeal.main_arg3))) →
    ∃ (v0 : Buf (Elt Ideal) (((0 : Dev Cert.AdamConvDwReferenceIdeal.nD).tc : Thread Cert.AdamConvDwReferenceIdeal.nD Cert.AdamConvDwReferenceIdeal.τ).loc Cert.AdamConvDwReferenceIdeal.main_v23)) (v1 : Buf (Elt Ideal) (((0 : Dev Cert.AdamConvDwReferenceIdeal.nD).tc : Thread Cert.AdamConvDwReferenceIdeal.nD Cert.AdamConvDwReferenceIdeal.τ).loc Cert.AdamConvDwReferenceIdeal.main_v4)) (v2 : Buf (Elt Ideal) (((0 : Dev Cert.AdamConvDwReferenceIdeal.nD).tc : Thread Cert.AdamConvDwReferenceIdeal.nD Cert.AdamConvDwReferenceIdeal.τ).loc Cert.AdamConvDwReferenceIdeal.main_v10)),
      θ_run (Cert.AdamConvDwIdeal.defs (F := Ideal)) (onTc (τ := Cert.AdamConvDwIdeal.τ) (Cert.AdamConvDwIdeal.main (F := Ideal))) ⟨m, fun _ => 0, g⟩ (fun r => ∀ c : Dev Cert.AdamConvDwIdeal.nD,
          r.2.mem ((c.tc : Thread Cert.AdamConvDwIdeal.nD Cert.AdamConvDwIdeal.τ).loc Cert.AdamConvDwIdeal.main_v6) = Layout.blockN ⟨3, ![2, 31, 64]⟩ ⟨3, ![2, 31, 256]⟩ (Layout.meshBlock [2, 2, 2] ![[], [], [0, 1]] c) v0
          ∧ r.2.mem ((c.tc : Thread Cert.AdamConvDwIdeal.nD Cert.AdamConvDwIdeal.τ).loc Cert.AdamConvDwIdeal.main_v7) = Layout.blockN ⟨3, ![2, 31, 64]⟩ ⟨3, ![2, 31, 256]⟩ (Layout.meshBlock [2, 2, 2] ![[], [], [0, 1]] c) v1
          ∧ r.2.mem ((c.tc : Thread Cert.AdamConvDwIdeal.nD Cert.AdamConvDwIdeal.τ).loc Cert.AdamConvDwIdeal.main_v8) = Layout.blockN ⟨3, ![2, 31, 64]⟩ ⟨3, ![2, 31, 256]⟩ (Layout.meshBlock [2, 2, 2] ![[], [], [0, 1]] c) v2
          ∧ r.2.mem ((c.tc : Thread Cert.AdamConvDwIdeal.nD Cert.AdamConvDwIdeal.τ).loc Cert.AdamConvDwIdeal.main_arg0) = m ((c.tc : Thread Cert.AdamConvDwIdeal.nD Cert.AdamConvDwIdeal.τ).loc Cert.AdamConvDwIdeal.main_arg0)
          ∧ r.2.mem ((c.tc : Thread Cert.AdamConvDwIdeal.nD Cert.AdamConvDwIdeal.τ).loc Cert.AdamConvDwIdeal.main_arg1) = m ((c.tc : Thread Cert.AdamConvDwIdeal.nD Cert.AdamConvDwIdeal.τ).loc Cert.AdamConvDwIdeal.main_arg1)
          ∧ r.2.mem ((c.tc : Thread Cert.AdamConvDwIdeal.nD Cert.AdamConvDwIdeal.τ).loc Cert.AdamConvDwIdeal.main_arg2) = m ((c.tc : Thread Cert.AdamConvDwIdeal.nD Cert.AdamConvDwIdeal.τ).loc Cert.AdamConvDwIdeal.main_arg2)
          ∧ r.2.mem ((c.tc : Thread Cert.AdamConvDwIdeal.nD Cert.AdamConvDwIdeal.τ).loc Cert.AdamConvDwIdeal.main_arg3) = m ((c.tc : Thread Cert.AdamConvDwIdeal.nD Cert.AdamConvDwIdeal.τ).loc Cert.AdamConvDwIdeal.main_arg3))
      ∧ θ_run (Cert.AdamConvDwReferenceIdeal.defs (F := Ideal)) (onTc (τ := Cert.AdamConvDwReferenceIdeal.τ) (Cert.AdamConvDwReferenceIdeal.main (F := Ideal))) ⟨m', fun _ => 0, g'⟩ (fun r =>
          r.2.mem (((0 : Dev Cert.AdamConvDwReferenceIdeal.nD).tc : Thread Cert.AdamConvDwReferenceIdeal.nD Cert.AdamConvDwReferenceIdeal.τ).loc Cert.AdamConvDwReferenceIdeal.main_v23) = v0
          ∧ r.2.mem (((0 : Dev Cert.AdamConvDwReferenceIdeal.nD).tc : Thread Cert.AdamConvDwReferenceIdeal.nD Cert.AdamConvDwReferenceIdeal.τ).loc Cert.AdamConvDwReferenceIdeal.main_v4) = v1
          ∧ r.2.mem (((0 : Dev Cert.AdamConvDwReferenceIdeal.nD).tc : Thread Cert.AdamConvDwReferenceIdeal.nD Cert.AdamConvDwReferenceIdeal.τ).loc Cert.AdamConvDwReferenceIdeal.main_v10) = v2
          ∧ r.2.mem (((0 : Dev Cert.AdamConvDwReferenceIdeal.nD).tc : Thread Cert.AdamConvDwReferenceIdeal.nD Cert.AdamConvDwReferenceIdeal.τ).loc Cert.AdamConvDwReferenceIdeal.main_arg0) = m' (((0 : Dev Cert.AdamConvDwReferenceIdeal.nD).tc : Thread Cert.AdamConvDwReferenceIdeal.nD Cert.AdamConvDwReferenceIdeal.τ).loc Cert.AdamConvDwReferenceIdeal.main_arg0)
          ∧ r.2.mem (((0 : Dev Cert.AdamConvDwReferenceIdeal.nD).tc : Thread Cert.AdamConvDwReferenceIdeal.nD Cert.AdamConvDwReferenceIdeal.τ).loc Cert.AdamConvDwReferenceIdeal.main_arg1) = m' (((0 : Dev Cert.AdamConvDwReferenceIdeal.nD).tc : Thread Cert.AdamConvDwReferenceIdeal.nD Cert.AdamConvDwReferenceIdeal.τ).loc Cert.AdamConvDwReferenceIdeal.main_arg1)
          ∧ r.2.mem (((0 : Dev Cert.AdamConvDwReferenceIdeal.nD).tc : Thread Cert.AdamConvDwReferenceIdeal.nD Cert.AdamConvDwReferenceIdeal.τ).loc Cert.AdamConvDwReferenceIdeal.main_arg2) = m' (((0 : Dev Cert.AdamConvDwReferenceIdeal.nD).tc : Thread Cert.AdamConvDwReferenceIdeal.nD Cert.AdamConvDwReferenceIdeal.τ).loc Cert.AdamConvDwReferenceIdeal.main_arg2)
          ∧ r.2.mem (((0 : Dev Cert.AdamConvDwReferenceIdeal.nD).tc : Thread Cert.AdamConvDwReferenceIdeal.nD Cert.AdamConvDwReferenceIdeal.τ).loc Cert.AdamConvDwReferenceIdeal.main_arg3) = m' (((0 : Dev Cert.AdamConvDwReferenceIdeal.nD).tc : Thread Cert.AdamConvDwReferenceIdeal.nD Cert.AdamConvDwReferenceIdeal.τ).loc Cert.AdamConvDwReferenceIdeal.main_arg3))

def preserves_AdamConvPw_AdamConvPwIdeal : Prop :=
  True

def algebraic_AdamConvPwIdeal_AdamConvPwReferenceIdeal [hAdamConvPwIdeal : Cert.AdamConvPwIdeal.Facts] [hAdamConvPwReferenceIdeal : Cert.AdamConvPwReferenceIdeal.Facts] : Prop :=
  ∀ (m : (ℓ : Loc Cert.AdamConvPwIdeal.nD Cert.AdamConvPwIdeal.τ Cert.AdamConvPwIdeal.sig) → Buf (Elt Ideal) ℓ) (g : Dev Cert.AdamConvPwIdeal.nD → PrngReg)
    (m' : (ℓ : Loc Cert.AdamConvPwReferenceIdeal.nD Cert.AdamConvPwReferenceIdeal.τ Cert.AdamConvPwReferenceIdeal.sig) → Buf (Elt Ideal) ℓ) (g' : Dev Cert.AdamConvPwReferenceIdeal.nD → PrngReg), Pre_AdamConvPwIdeal m →
    (∀ c : Dev Cert.AdamConvPwIdeal.nD,
      m ((c.tc : Thread Cert.AdamConvPwIdeal.nD Cert.AdamConvPwIdeal.τ).loc Cert.AdamConvPwIdeal.main_arg0) = Layout.blockN ⟨3, ![2, 64, 256]⟩ ⟨3, ![2, 256, 256]⟩ (Layout.meshBlock [2, 2, 2] ![[], [0, 1], []] c) (m' (((0 : Dev Cert.AdamConvPwReferenceIdeal.nD).tc : Thread Cert.AdamConvPwReferenceIdeal.nD Cert.AdamConvPwReferenceIdeal.τ).loc Cert.AdamConvPwReferenceIdeal.main_arg0))
      ∧ m ((c.tc : Thread Cert.AdamConvPwIdeal.nD Cert.AdamConvPwIdeal.τ).loc Cert.AdamConvPwIdeal.main_arg1) = Layout.blockN ⟨3, ![2, 64, 256]⟩ ⟨3, ![2, 256, 256]⟩ (Layout.meshBlock [2, 2, 2] ![[], [0, 1], []] c) (m' (((0 : Dev Cert.AdamConvPwReferenceIdeal.nD).tc : Thread Cert.AdamConvPwReferenceIdeal.nD Cert.AdamConvPwReferenceIdeal.τ).loc Cert.AdamConvPwReferenceIdeal.main_arg1))
      ∧ m ((c.tc : Thread Cert.AdamConvPwIdeal.nD Cert.AdamConvPwIdeal.τ).loc Cert.AdamConvPwIdeal.main_arg2) = Layout.blockN ⟨3, ![2, 64, 256]⟩ ⟨3, ![2, 256, 256]⟩ (Layout.meshBlock [2, 2, 2] ![[], [0, 1], []] c) (m' (((0 : Dev Cert.AdamConvPwReferenceIdeal.nD).tc : Thread Cert.AdamConvPwReferenceIdeal.nD Cert.AdamConvPwReferenceIdeal.τ).loc Cert.AdamConvPwReferenceIdeal.main_arg2))
      ∧ m ((c.tc : Thread Cert.AdamConvPwIdeal.nD Cert.AdamConvPwIdeal.τ).loc Cert.AdamConvPwIdeal.main_arg3) = Layout.blockN ⟨3, ![2, 64, 256]⟩ ⟨3, ![2, 256, 256]⟩ (Layout.meshBlock [2, 2, 2] ![[], [0, 1], []] c) (m' (((0 : Dev Cert.AdamConvPwReferenceIdeal.nD).tc : Thread Cert.AdamConvPwReferenceIdeal.nD Cert.AdamConvPwReferenceIdeal.τ).loc Cert.AdamConvPwReferenceIdeal.main_arg3))) →
    ∃ (v0 : Buf (Elt Ideal) (((0 : Dev Cert.AdamConvPwReferenceIdeal.nD).tc : Thread Cert.AdamConvPwReferenceIdeal.nD Cert.AdamConvPwReferenceIdeal.τ).loc Cert.AdamConvPwReferenceIdeal.main_v23)) (v1 : Buf (Elt Ideal) (((0 : Dev Cert.AdamConvPwReferenceIdeal.nD).tc : Thread Cert.AdamConvPwReferenceIdeal.nD Cert.AdamConvPwReferenceIdeal.τ).loc Cert.AdamConvPwReferenceIdeal.main_v4)) (v2 : Buf (Elt Ideal) (((0 : Dev Cert.AdamConvPwReferenceIdeal.nD).tc : Thread Cert.AdamConvPwReferenceIdeal.nD Cert.AdamConvPwReferenceIdeal.τ).loc Cert.AdamConvPwReferenceIdeal.main_v10)),
      θ_run (Cert.AdamConvPwIdeal.defs (F := Ideal)) (onTc (τ := Cert.AdamConvPwIdeal.τ) (Cert.AdamConvPwIdeal.main (F := Ideal))) ⟨m, fun _ => 0, g⟩ (fun r => ∀ c : Dev Cert.AdamConvPwIdeal.nD,
          r.2.mem ((c.tc : Thread Cert.AdamConvPwIdeal.nD Cert.AdamConvPwIdeal.τ).loc Cert.AdamConvPwIdeal.main_v6) = Layout.blockN ⟨3, ![2, 64, 256]⟩ ⟨3, ![2, 256, 256]⟩ (Layout.meshBlock [2, 2, 2] ![[], [0, 1], []] c) v0
          ∧ r.2.mem ((c.tc : Thread Cert.AdamConvPwIdeal.nD Cert.AdamConvPwIdeal.τ).loc Cert.AdamConvPwIdeal.main_v7) = Layout.blockN ⟨3, ![2, 64, 256]⟩ ⟨3, ![2, 256, 256]⟩ (Layout.meshBlock [2, 2, 2] ![[], [0, 1], []] c) v1
          ∧ r.2.mem ((c.tc : Thread Cert.AdamConvPwIdeal.nD Cert.AdamConvPwIdeal.τ).loc Cert.AdamConvPwIdeal.main_v8) = Layout.blockN ⟨3, ![2, 64, 256]⟩ ⟨3, ![2, 256, 256]⟩ (Layout.meshBlock [2, 2, 2] ![[], [0, 1], []] c) v2
          ∧ r.2.mem ((c.tc : Thread Cert.AdamConvPwIdeal.nD Cert.AdamConvPwIdeal.τ).loc Cert.AdamConvPwIdeal.main_arg0) = m ((c.tc : Thread Cert.AdamConvPwIdeal.nD Cert.AdamConvPwIdeal.τ).loc Cert.AdamConvPwIdeal.main_arg0)
          ∧ r.2.mem ((c.tc : Thread Cert.AdamConvPwIdeal.nD Cert.AdamConvPwIdeal.τ).loc Cert.AdamConvPwIdeal.main_arg1) = m ((c.tc : Thread Cert.AdamConvPwIdeal.nD Cert.AdamConvPwIdeal.τ).loc Cert.AdamConvPwIdeal.main_arg1)
          ∧ r.2.mem ((c.tc : Thread Cert.AdamConvPwIdeal.nD Cert.AdamConvPwIdeal.τ).loc Cert.AdamConvPwIdeal.main_arg2) = m ((c.tc : Thread Cert.AdamConvPwIdeal.nD Cert.AdamConvPwIdeal.τ).loc Cert.AdamConvPwIdeal.main_arg2)
          ∧ r.2.mem ((c.tc : Thread Cert.AdamConvPwIdeal.nD Cert.AdamConvPwIdeal.τ).loc Cert.AdamConvPwIdeal.main_arg3) = m ((c.tc : Thread Cert.AdamConvPwIdeal.nD Cert.AdamConvPwIdeal.τ).loc Cert.AdamConvPwIdeal.main_arg3))
      ∧ θ_run (Cert.AdamConvPwReferenceIdeal.defs (F := Ideal)) (onTc (τ := Cert.AdamConvPwReferenceIdeal.τ) (Cert.AdamConvPwReferenceIdeal.main (F := Ideal))) ⟨m', fun _ => 0, g'⟩ (fun r =>
          r.2.mem (((0 : Dev Cert.AdamConvPwReferenceIdeal.nD).tc : Thread Cert.AdamConvPwReferenceIdeal.nD Cert.AdamConvPwReferenceIdeal.τ).loc Cert.AdamConvPwReferenceIdeal.main_v23) = v0
          ∧ r.2.mem (((0 : Dev Cert.AdamConvPwReferenceIdeal.nD).tc : Thread Cert.AdamConvPwReferenceIdeal.nD Cert.AdamConvPwReferenceIdeal.τ).loc Cert.AdamConvPwReferenceIdeal.main_v4) = v1
          ∧ r.2.mem (((0 : Dev Cert.AdamConvPwReferenceIdeal.nD).tc : Thread Cert.AdamConvPwReferenceIdeal.nD Cert.AdamConvPwReferenceIdeal.τ).loc Cert.AdamConvPwReferenceIdeal.main_v10) = v2
          ∧ r.2.mem (((0 : Dev Cert.AdamConvPwReferenceIdeal.nD).tc : Thread Cert.AdamConvPwReferenceIdeal.nD Cert.AdamConvPwReferenceIdeal.τ).loc Cert.AdamConvPwReferenceIdeal.main_arg0) = m' (((0 : Dev Cert.AdamConvPwReferenceIdeal.nD).tc : Thread Cert.AdamConvPwReferenceIdeal.nD Cert.AdamConvPwReferenceIdeal.τ).loc Cert.AdamConvPwReferenceIdeal.main_arg0)
          ∧ r.2.mem (((0 : Dev Cert.AdamConvPwReferenceIdeal.nD).tc : Thread Cert.AdamConvPwReferenceIdeal.nD Cert.AdamConvPwReferenceIdeal.τ).loc Cert.AdamConvPwReferenceIdeal.main_arg1) = m' (((0 : Dev Cert.AdamConvPwReferenceIdeal.nD).tc : Thread Cert.AdamConvPwReferenceIdeal.nD Cert.AdamConvPwReferenceIdeal.τ).loc Cert.AdamConvPwReferenceIdeal.main_arg1)
          ∧ r.2.mem (((0 : Dev Cert.AdamConvPwReferenceIdeal.nD).tc : Thread Cert.AdamConvPwReferenceIdeal.nD Cert.AdamConvPwReferenceIdeal.τ).loc Cert.AdamConvPwReferenceIdeal.main_arg2) = m' (((0 : Dev Cert.AdamConvPwReferenceIdeal.nD).tc : Thread Cert.AdamConvPwReferenceIdeal.nD Cert.AdamConvPwReferenceIdeal.τ).loc Cert.AdamConvPwReferenceIdeal.main_arg2)
          ∧ r.2.mem (((0 : Dev Cert.AdamConvPwReferenceIdeal.nD).tc : Thread Cert.AdamConvPwReferenceIdeal.nD Cert.AdamConvPwReferenceIdeal.τ).loc Cert.AdamConvPwReferenceIdeal.main_arg3) = m' (((0 : Dev Cert.AdamConvPwReferenceIdeal.nD).tc : Thread Cert.AdamConvPwReferenceIdeal.nD Cert.AdamConvPwReferenceIdeal.τ).loc Cert.AdamConvPwReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m ((c.tc : Thread Cert.AdamOutIdeal.nD Cert.AdamOutIdeal.τ).loc Cert.AdamOutIdeal.main_arg0) = Layout.blockN ⟨3, ![2, 256, 1024]⟩ ⟨3, ![2, 1024, 1024]⟩ (Layout.meshBlock [2, 2, 2] ![[], [0, 1], []] c) (m' (((0 : Dev Cert.AdamOutReferenceIdeal.nD).tc : Thread Cert.AdamOutReferenceIdeal.nD Cert.AdamOutReferenceIdeal.τ).loc Cert.AdamOutReferenceIdeal.main_arg0))
      ∧ m ((c.tc : Thread Cert.AdamOutIdeal.nD Cert.AdamOutIdeal.τ).loc Cert.AdamOutIdeal.main_arg1) = Layout.blockN ⟨3, ![2, 256, 1024]⟩ ⟨3, ![2, 1024, 1024]⟩ (Layout.meshBlock [2, 2, 2] ![[], [0, 1], []] c) (m' (((0 : Dev Cert.AdamOutReferenceIdeal.nD).tc : Thread Cert.AdamOutReferenceIdeal.nD Cert.AdamOutReferenceIdeal.τ).loc Cert.AdamOutReferenceIdeal.main_arg1))
      ∧ m ((c.tc : Thread Cert.AdamOutIdeal.nD Cert.AdamOutIdeal.τ).loc Cert.AdamOutIdeal.main_arg2) = Layout.blockN ⟨3, ![2, 256, 1024]⟩ ⟨3, ![2, 1024, 1024]⟩ (Layout.meshBlock [2, 2, 2] ![[], [0, 1], []] c) (m' (((0 : Dev Cert.AdamOutReferenceIdeal.nD).tc : Thread Cert.AdamOutReferenceIdeal.nD Cert.AdamOutReferenceIdeal.τ).loc Cert.AdamOutReferenceIdeal.main_arg2))
      ∧ m ((c.tc : Thread Cert.AdamOutIdeal.nD Cert.AdamOutIdeal.τ).loc Cert.AdamOutIdeal.main_arg3) = Layout.blockN ⟨3, ![2, 256, 1024]⟩ ⟨3, ![2, 1024, 1024]⟩ (Layout.meshBlock [2, 2, 2] ![[], [0, 1], []] c) (m' (((0 : Dev Cert.AdamOutReferenceIdeal.nD).tc : Thread Cert.AdamOutReferenceIdeal.nD Cert.AdamOutReferenceIdeal.τ).loc Cert.AdamOutReferenceIdeal.main_arg3))) →
    ∃ (v0 : Buf (Elt Ideal) (((0 : Dev Cert.AdamOutReferenceIdeal.nD).tc : Thread Cert.AdamOutReferenceIdeal.nD Cert.AdamOutReferenceIdeal.τ).loc Cert.AdamOutReferenceIdeal.main_v23)) (v1 : Buf (Elt Ideal) (((0 : Dev Cert.AdamOutReferenceIdeal.nD).tc : Thread Cert.AdamOutReferenceIdeal.nD Cert.AdamOutReferenceIdeal.τ).loc Cert.AdamOutReferenceIdeal.main_v4)) (v2 : Buf (Elt Ideal) (((0 : Dev Cert.AdamOutReferenceIdeal.nD).tc : Thread Cert.AdamOutReferenceIdeal.nD Cert.AdamOutReferenceIdeal.τ).loc Cert.AdamOutReferenceIdeal.main_v10)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v6) = Layout.blockN ⟨3, ![2, 256, 1024]⟩ ⟨3, ![2, 1024, 1024]⟩ (Layout.meshBlock [2, 2, 2] ![[], [0, 1], []] c) v0
          ∧ r.2.mem ((c.tc : Thread Cert.AdamOutIdeal.nD Cert.AdamOutIdeal.τ).loc Cert.AdamOutIdeal.main_v7) = Layout.blockN ⟨3, ![2, 256, 1024]⟩ ⟨3, ![2, 1024, 1024]⟩ (Layout.meshBlock [2, 2, 2] ![[], [0, 1], []] c) v1
          ∧ r.2.mem ((c.tc : Thread Cert.AdamOutIdeal.nD Cert.AdamOutIdeal.τ).loc Cert.AdamOutIdeal.main_v8) = Layout.blockN ⟨3, ![2, 256, 1024]⟩ ⟨3, ![2, 1024, 1024]⟩ (Layout.meshBlock [2, 2, 2] ![[], [0, 1], []] c) v2
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r =>
          r.2.mem (((0 : Dev Cert.AdamOutReferenceIdeal.nD).tc : Thread Cert.AdamOutReferenceIdeal.nD Cert.AdamOutReferenceIdeal.τ).loc Cert.AdamOutReferenceIdeal.main_v23) = v0
          ∧ r.2.mem (((0 : Dev Cert.AdamOutReferenceIdeal.nD).tc : Thread Cert.AdamOutReferenceIdeal.nD Cert.AdamOutReferenceIdeal.τ).loc Cert.AdamOutReferenceIdeal.main_v4) = v1
          ∧ r.2.mem (((0 : Dev Cert.AdamOutReferenceIdeal.nD).tc : Thread Cert.AdamOutReferenceIdeal.nD Cert.AdamOutReferenceIdeal.τ).loc Cert.AdamOutReferenceIdeal.main_v10) = v2
          ∧ r.2.mem (((0 : Dev Cert.AdamOutReferenceIdeal.nD).tc : Thread Cert.AdamOutReferenceIdeal.nD Cert.AdamOutReferenceIdeal.τ).loc Cert.AdamOutReferenceIdeal.main_arg0) = m' (((0 : Dev Cert.AdamOutReferenceIdeal.nD).tc : Thread Cert.AdamOutReferenceIdeal.nD Cert.AdamOutReferenceIdeal.τ).loc Cert.AdamOutReferenceIdeal.main_arg0)
          ∧ r.2.mem (((0 : Dev Cert.AdamOutReferenceIdeal.nD).tc : Thread Cert.AdamOutReferenceIdeal.nD Cert.AdamOutReferenceIdeal.τ).loc Cert.AdamOutReferenceIdeal.main_arg1) = m' (((0 : Dev Cert.AdamOutReferenceIdeal.nD).tc : Thread Cert.AdamOutReferenceIdeal.nD Cert.AdamOutReferenceIdeal.τ).loc Cert.AdamOutReferenceIdeal.main_arg1)
          ∧ r.2.mem (((0 : Dev Cert.AdamOutReferenceIdeal.nD).tc : Thread Cert.AdamOutReferenceIdeal.nD Cert.AdamOutReferenceIdeal.τ).loc Cert.AdamOutReferenceIdeal.main_arg2) = m' (((0 : Dev Cert.AdamOutReferenceIdeal.nD).tc : Thread Cert.AdamOutReferenceIdeal.nD Cert.AdamOutReferenceIdeal.τ).loc Cert.AdamOutReferenceIdeal.main_arg2)
          ∧ r.2.mem (((0 : Dev Cert.AdamOutReferenceIdeal.nD).tc : Thread Cert.AdamOutReferenceIdeal.nD Cert.AdamOutReferenceIdeal.τ).loc Cert.AdamOutReferenceIdeal.main_arg3) = m' (((0 : Dev Cert.AdamOutReferenceIdeal.nD).tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m ((c.tc : Thread Cert.AdamUpIdeal.nD Cert.AdamUpIdeal.τ).loc Cert.AdamUpIdeal.main_arg0) = Layout.blockN ⟨3, ![2, 1024, 1408]⟩ ⟨3, ![2, 1024, 5632]⟩ (Layout.meshBlock [2, 2, 2] ![[], [], [0, 1]] c) (m' (((0 : Dev Cert.AdamUpReferenceIdeal.nD).tc : Thread Cert.AdamUpReferenceIdeal.nD Cert.AdamUpReferenceIdeal.τ).loc Cert.AdamUpReferenceIdeal.main_arg0))
      ∧ m ((c.tc : Thread Cert.AdamUpIdeal.nD Cert.AdamUpIdeal.τ).loc Cert.AdamUpIdeal.main_arg1) = Layout.blockN ⟨3, ![2, 1024, 1408]⟩ ⟨3, ![2, 1024, 5632]⟩ (Layout.meshBlock [2, 2, 2] ![[], [], [0, 1]] c) (m' (((0 : Dev Cert.AdamUpReferenceIdeal.nD).tc : Thread Cert.AdamUpReferenceIdeal.nD Cert.AdamUpReferenceIdeal.τ).loc Cert.AdamUpReferenceIdeal.main_arg1))
      ∧ m ((c.tc : Thread Cert.AdamUpIdeal.nD Cert.AdamUpIdeal.τ).loc Cert.AdamUpIdeal.main_arg2) = Layout.blockN ⟨3, ![2, 1024, 1408]⟩ ⟨3, ![2, 1024, 5632]⟩ (Layout.meshBlock [2, 2, 2] ![[], [], [0, 1]] c) (m' (((0 : Dev Cert.AdamUpReferenceIdeal.nD).tc : Thread Cert.AdamUpReferenceIdeal.nD Cert.AdamUpReferenceIdeal.τ).loc Cert.AdamUpReferenceIdeal.main_arg2))
      ∧ m ((c.tc : Thread Cert.AdamUpIdeal.nD Cert.AdamUpIdeal.τ).loc Cert.AdamUpIdeal.main_arg3) = Layout.blockN ⟨3, ![2, 1024, 1408]⟩ ⟨3, ![2, 1024, 5632]⟩ (Layout.meshBlock [2, 2, 2] ![[], [], [0, 1]] c) (m' (((0 : Dev Cert.AdamUpReferenceIdeal.nD).tc : Thread Cert.AdamUpReferenceIdeal.nD Cert.AdamUpReferenceIdeal.τ).loc Cert.AdamUpReferenceIdeal.main_arg3))) →
    ∃ (v0 : Buf (Elt Ideal) (((0 : Dev Cert.AdamUpReferenceIdeal.nD).tc : Thread Cert.AdamUpReferenceIdeal.nD Cert.AdamUpReferenceIdeal.τ).loc Cert.AdamUpReferenceIdeal.main_v23)) (v1 : Buf (Elt Ideal) (((0 : Dev Cert.AdamUpReferenceIdeal.nD).tc : Thread Cert.AdamUpReferenceIdeal.nD Cert.AdamUpReferenceIdeal.τ).loc Cert.AdamUpReferenceIdeal.main_v4)) (v2 : Buf (Elt Ideal) (((0 : Dev Cert.AdamUpReferenceIdeal.nD).tc : Thread Cert.AdamUpReferenceIdeal.nD Cert.AdamUpReferenceIdeal.τ).loc Cert.AdamUpReferenceIdeal.main_v10)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6) = Layout.blockN ⟨3, ![2, 1024, 1408]⟩ ⟨3, ![2, 1024, 5632]⟩ (Layout.meshBlock [2, 2, 2] ![[], [], [0, 1]] c) v0
          ∧ r.2.mem ((c.tc : Thread Cert.AdamUpIdeal.nD Cert.AdamUpIdeal.τ).loc Cert.AdamUpIdeal.main_v7) = Layout.blockN ⟨3, ![2, 1024, 1408]⟩ ⟨3, ![2, 1024, 5632]⟩ (Layout.meshBlock [2, 2, 2] ![[], [], [0, 1]] c) v1
          ∧ r.2.mem ((c.tc : Thread Cert.AdamUpIdeal.nD Cert.AdamUpIdeal.τ).loc Cert.AdamUpIdeal.main_v8) = Layout.blockN ⟨3, ![2, 1024, 1408]⟩ ⟨3, ![2, 1024, 5632]⟩ (Layout.meshBlock [2, 2, 2] ![[], [], [0, 1]] c) v2
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r =>
          r.2.mem (((0 : Dev Cert.AdamUpReferenceIdeal.nD).tc : Thread Cert.AdamUpReferenceIdeal.nD Cert.AdamUpReferenceIdeal.τ).loc Cert.AdamUpReferenceIdeal.main_v23) = v0
          ∧ r.2.mem (((0 : Dev Cert.AdamUpReferenceIdeal.nD).tc : Thread Cert.AdamUpReferenceIdeal.nD Cert.AdamUpReferenceIdeal.τ).loc Cert.AdamUpReferenceIdeal.main_v4) = v1
          ∧ r.2.mem (((0 : Dev Cert.AdamUpReferenceIdeal.nD).tc : Thread Cert.AdamUpReferenceIdeal.nD Cert.AdamUpReferenceIdeal.τ).loc Cert.AdamUpReferenceIdeal.main_v10) = v2
          ∧ r.2.mem (((0 : Dev Cert.AdamUpReferenceIdeal.nD).tc : Thread Cert.AdamUpReferenceIdeal.nD Cert.AdamUpReferenceIdeal.τ).loc Cert.AdamUpReferenceIdeal.main_arg0) = m' (((0 : Dev Cert.AdamUpReferenceIdeal.nD).tc : Thread Cert.AdamUpReferenceIdeal.nD Cert.AdamUpReferenceIdeal.τ).loc Cert.AdamUpReferenceIdeal.main_arg0)
          ∧ r.2.mem (((0 : Dev Cert.AdamUpReferenceIdeal.nD).tc : Thread Cert.AdamUpReferenceIdeal.nD Cert.AdamUpReferenceIdeal.τ).loc Cert.AdamUpReferenceIdeal.main_arg1) = m' (((0 : Dev Cert.AdamUpReferenceIdeal.nD).tc : Thread Cert.AdamUpReferenceIdeal.nD Cert.AdamUpReferenceIdeal.τ).loc Cert.AdamUpReferenceIdeal.main_arg1)
          ∧ r.2.mem (((0 : Dev Cert.AdamUpReferenceIdeal.nD).tc : Thread Cert.AdamUpReferenceIdeal.nD Cert.AdamUpReferenceIdeal.τ).loc Cert.AdamUpReferenceIdeal.main_arg2) = m' (((0 : Dev Cert.AdamUpReferenceIdeal.nD).tc : Thread Cert.AdamUpReferenceIdeal.nD Cert.AdamUpReferenceIdeal.τ).loc Cert.AdamUpReferenceIdeal.main_arg2)
          ∧ r.2.mem (((0 : Dev Cert.AdamUpReferenceIdeal.nD).tc : Thread Cert.AdamUpReferenceIdeal.nD Cert.AdamUpReferenceIdeal.τ).loc Cert.AdamUpReferenceIdeal.main_arg3) = m' (((0 : Dev Cert.AdamUpReferenceIdeal.nD).tc : Thread Cert.AdamUpReferenceIdeal.nD Cert.AdamUpReferenceIdeal.τ).loc Cert.AdamUpReferenceIdeal.main_arg3))

def preserves_AdamFfnDw_AdamFfnDwIdeal : Prop :=
  True

def algebraic_AdamFfnDwIdeal_AdamFfnDwReferenceIdeal [hAdamFfnDwIdeal : Cert.AdamFfnDwIdeal.Facts] [hAdamFfnDwReferenceIdeal : Cert.AdamFfnDwReferenceIdeal.Facts] : Prop :=
  ∀ (m : (ℓ : Loc Cert.AdamFfnDwIdeal.nD Cert.AdamFfnDwIdeal.τ Cert.AdamFfnDwIdeal.sig) → Buf (Elt Ideal) ℓ) (g : Dev Cert.AdamFfnDwIdeal.nD → PrngReg)
    (m' : (ℓ : Loc Cert.AdamFfnDwReferenceIdeal.nD Cert.AdamFfnDwReferenceIdeal.τ Cert.AdamFfnDwReferenceIdeal.sig) → Buf (Elt Ideal) ℓ) (g' : Dev Cert.AdamFfnDwReferenceIdeal.nD → PrngReg), Pre_AdamFfnDwIdeal m →
    (∀ c : Dev Cert.AdamFfnDwIdeal.nD,
      m ((c.tc : Thread Cert.AdamFfnDwIdeal.nD Cert.AdamFfnDwIdeal.τ).loc Cert.AdamFfnDwIdeal.main_arg0) = Layout.blockN ⟨3, ![2, 3, 1408]⟩ ⟨3, ![2, 3, 5632]⟩ (Layout.meshBlock [2, 2, 2] ![[], [], [0, 1]] c) (m' (((0 : Dev Cert.AdamFfnDwReferenceIdeal.nD).tc : Thread Cert.AdamFfnDwReferenceIdeal.nD Cert.AdamFfnDwReferenceIdeal.τ).loc Cert.AdamFfnDwReferenceIdeal.main_arg0))
      ∧ m ((c.tc : Thread Cert.AdamFfnDwIdeal.nD Cert.AdamFfnDwIdeal.τ).loc Cert.AdamFfnDwIdeal.main_arg1) = Layout.blockN ⟨3, ![2, 3, 1408]⟩ ⟨3, ![2, 3, 5632]⟩ (Layout.meshBlock [2, 2, 2] ![[], [], [0, 1]] c) (m' (((0 : Dev Cert.AdamFfnDwReferenceIdeal.nD).tc : Thread Cert.AdamFfnDwReferenceIdeal.nD Cert.AdamFfnDwReferenceIdeal.τ).loc Cert.AdamFfnDwReferenceIdeal.main_arg1))
      ∧ m ((c.tc : Thread Cert.AdamFfnDwIdeal.nD Cert.AdamFfnDwIdeal.τ).loc Cert.AdamFfnDwIdeal.main_arg2) = Layout.blockN ⟨3, ![2, 3, 1408]⟩ ⟨3, ![2, 3, 5632]⟩ (Layout.meshBlock [2, 2, 2] ![[], [], [0, 1]] c) (m' (((0 : Dev Cert.AdamFfnDwReferenceIdeal.nD).tc : Thread Cert.AdamFfnDwReferenceIdeal.nD Cert.AdamFfnDwReferenceIdeal.τ).loc Cert.AdamFfnDwReferenceIdeal.main_arg2))
      ∧ m ((c.tc : Thread Cert.AdamFfnDwIdeal.nD Cert.AdamFfnDwIdeal.τ).loc Cert.AdamFfnDwIdeal.main_arg3) = Layout.blockN ⟨3, ![2, 3, 1408]⟩ ⟨3, ![2, 3, 5632]⟩ (Layout.meshBlock [2, 2, 2] ![[], [], [0, 1]] c) (m' (((0 : Dev Cert.AdamFfnDwReferenceIdeal.nD).tc : Thread Cert.AdamFfnDwReferenceIdeal.nD Cert.AdamFfnDwReferenceIdeal.τ).loc Cert.AdamFfnDwReferenceIdeal.main_arg3))) →
    ∃ (v0 : Buf (Elt Ideal) (((0 : Dev Cert.AdamFfnDwReferenceIdeal.nD).tc : Thread Cert.AdamFfnDwReferenceIdeal.nD Cert.AdamFfnDwReferenceIdeal.τ).loc Cert.AdamFfnDwReferenceIdeal.main_v23)) (v1 : Buf (Elt Ideal) (((0 : Dev Cert.AdamFfnDwReferenceIdeal.nD).tc : Thread Cert.AdamFfnDwReferenceIdeal.nD Cert.AdamFfnDwReferenceIdeal.τ).loc Cert.AdamFfnDwReferenceIdeal.main_v4)) (v2 : Buf (Elt Ideal) (((0 : Dev Cert.AdamFfnDwReferenceIdeal.nD).tc : Thread Cert.AdamFfnDwReferenceIdeal.nD Cert.AdamFfnDwReferenceIdeal.τ).loc Cert.AdamFfnDwReferenceIdeal.main_v10)),
      θ_run (Cert.AdamFfnDwIdeal.defs (F := Ideal)) (onTc (τ := Cert.AdamFfnDwIdeal.τ) (Cert.AdamFfnDwIdeal.main (F := Ideal))) ⟨m, fun _ => 0, g⟩ (fun r => ∀ c : Dev Cert.AdamFfnDwIdeal.nD,
          r.2.mem ((c.tc : Thread Cert.AdamFfnDwIdeal.nD Cert.AdamFfnDwIdeal.τ).loc Cert.AdamFfnDwIdeal.main_v6) = Layout.blockN ⟨3, ![2, 3, 1408]⟩ ⟨3, ![2, 3, 5632]⟩ (Layout.meshBlock [2, 2, 2] ![[], [], [0, 1]] c) v0
          ∧ r.2.mem ((c.tc : Thread Cert.AdamFfnDwIdeal.nD Cert.AdamFfnDwIdeal.τ).loc Cert.AdamFfnDwIdeal.main_v7) = Layout.blockN ⟨3, ![2, 3, 1408]⟩ ⟨3, ![2, 3, 5632]⟩ (Layout.meshBlock [2, 2, 2] ![[], [], [0, 1]] c) v1
          ∧ r.2.mem ((c.tc : Thread Cert.AdamFfnDwIdeal.nD Cert.AdamFfnDwIdeal.τ).loc Cert.AdamFfnDwIdeal.main_v8) = Layout.blockN ⟨3, ![2, 3, 1408]⟩ ⟨3, ![2, 3, 5632]⟩ (Layout.meshBlock [2, 2, 2] ![[], [], [0, 1]] c) v2
          ∧ r.2.mem ((c.tc : Thread Cert.AdamFfnDwIdeal.nD Cert.AdamFfnDwIdeal.τ).loc Cert.AdamFfnDwIdeal.main_arg0) = m ((c.tc : Thread Cert.AdamFfnDwIdeal.nD Cert.AdamFfnDwIdeal.τ).loc Cert.AdamFfnDwIdeal.main_arg0)
          ∧ r.2.mem ((c.tc : Thread Cert.AdamFfnDwIdeal.nD Cert.AdamFfnDwIdeal.τ).loc Cert.AdamFfnDwIdeal.main_arg1) = m ((c.tc : Thread Cert.AdamFfnDwIdeal.nD Cert.AdamFfnDwIdeal.τ).loc Cert.AdamFfnDwIdeal.main_arg1)
          ∧ r.2.mem ((c.tc : Thread Cert.AdamFfnDwIdeal.nD Cert.AdamFfnDwIdeal.τ).loc Cert.AdamFfnDwIdeal.main_arg2) = m ((c.tc : Thread Cert.AdamFfnDwIdeal.nD Cert.AdamFfnDwIdeal.τ).loc Cert.AdamFfnDwIdeal.main_arg2)
          ∧ r.2.mem ((c.tc : Thread Cert.AdamFfnDwIdeal.nD Cert.AdamFfnDwIdeal.τ).loc Cert.AdamFfnDwIdeal.main_arg3) = m ((c.tc : Thread Cert.AdamFfnDwIdeal.nD Cert.AdamFfnDwIdeal.τ).loc Cert.AdamFfnDwIdeal.main_arg3))
      ∧ θ_run (Cert.AdamFfnDwReferenceIdeal.defs (F := Ideal)) (onTc (τ := Cert.AdamFfnDwReferenceIdeal.τ) (Cert.AdamFfnDwReferenceIdeal.main (F := Ideal))) ⟨m', fun _ => 0, g'⟩ (fun r =>
          r.2.mem (((0 : Dev Cert.AdamFfnDwReferenceIdeal.nD).tc : Thread Cert.AdamFfnDwReferenceIdeal.nD Cert.AdamFfnDwReferenceIdeal.τ).loc Cert.AdamFfnDwReferenceIdeal.main_v23) = v0
          ∧ r.2.mem (((0 : Dev Cert.AdamFfnDwReferenceIdeal.nD).tc : Thread Cert.AdamFfnDwReferenceIdeal.nD Cert.AdamFfnDwReferenceIdeal.τ).loc Cert.AdamFfnDwReferenceIdeal.main_v4) = v1
          ∧ r.2.mem (((0 : Dev Cert.AdamFfnDwReferenceIdeal.nD).tc : Thread Cert.AdamFfnDwReferenceIdeal.nD Cert.AdamFfnDwReferenceIdeal.τ).loc Cert.AdamFfnDwReferenceIdeal.main_v10) = v2
          ∧ r.2.mem (((0 : Dev Cert.AdamFfnDwReferenceIdeal.nD).tc : Thread Cert.AdamFfnDwReferenceIdeal.nD Cert.AdamFfnDwReferenceIdeal.τ).loc Cert.AdamFfnDwReferenceIdeal.main_arg0) = m' (((0 : Dev Cert.AdamFfnDwReferenceIdeal.nD).tc : Thread Cert.AdamFfnDwReferenceIdeal.nD Cert.AdamFfnDwReferenceIdeal.τ).loc Cert.AdamFfnDwReferenceIdeal.main_arg0)
          ∧ r.2.mem (((0 : Dev Cert.AdamFfnDwReferenceIdeal.nD).tc : Thread Cert.AdamFfnDwReferenceIdeal.nD Cert.AdamFfnDwReferenceIdeal.τ).loc Cert.AdamFfnDwReferenceIdeal.main_arg1) = m' (((0 : Dev Cert.AdamFfnDwReferenceIdeal.nD).tc : Thread Cert.AdamFfnDwReferenceIdeal.nD Cert.AdamFfnDwReferenceIdeal.τ).loc Cert.AdamFfnDwReferenceIdeal.main_arg1)
          ∧ r.2.mem (((0 : Dev Cert.AdamFfnDwReferenceIdeal.nD).tc : Thread Cert.AdamFfnDwReferenceIdeal.nD Cert.AdamFfnDwReferenceIdeal.τ).loc Cert.AdamFfnDwReferenceIdeal.main_arg2) = m' (((0 : Dev Cert.AdamFfnDwReferenceIdeal.nD).tc : Thread Cert.AdamFfnDwReferenceIdeal.nD Cert.AdamFfnDwReferenceIdeal.τ).loc Cert.AdamFfnDwReferenceIdeal.main_arg2)
          ∧ r.2.mem (((0 : Dev Cert.AdamFfnDwReferenceIdeal.nD).tc : Thread Cert.AdamFfnDwReferenceIdeal.nD Cert.AdamFfnDwReferenceIdeal.τ).loc Cert.AdamFfnDwReferenceIdeal.main_arg3) = m' (((0 : Dev Cert.AdamFfnDwReferenceIdeal.nD).tc : Thread Cert.AdamFfnDwReferenceIdeal.nD Cert.AdamFfnDwReferenceIdeal.τ).loc Cert.AdamFfnDwReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m ((c.tc : Thread Cert.AdamDownIdeal.nD Cert.AdamDownIdeal.τ).loc Cert.AdamDownIdeal.main_arg0) = Layout.blockN ⟨3, ![2, 704, 1024]⟩ ⟨3, ![2, 2816, 1024]⟩ (Layout.meshBlock [2, 2, 2] ![[], [0, 1], []] c) (m' (((0 : Dev Cert.AdamDownReferenceIdeal.nD).tc : Thread Cert.AdamDownReferenceIdeal.nD Cert.AdamDownReferenceIdeal.τ).loc Cert.AdamDownReferenceIdeal.main_arg0))
      ∧ m ((c.tc : Thread Cert.AdamDownIdeal.nD Cert.AdamDownIdeal.τ).loc Cert.AdamDownIdeal.main_arg1) = Layout.blockN ⟨3, ![2, 704, 1024]⟩ ⟨3, ![2, 2816, 1024]⟩ (Layout.meshBlock [2, 2, 2] ![[], [0, 1], []] c) (m' (((0 : Dev Cert.AdamDownReferenceIdeal.nD).tc : Thread Cert.AdamDownReferenceIdeal.nD Cert.AdamDownReferenceIdeal.τ).loc Cert.AdamDownReferenceIdeal.main_arg1))
      ∧ m ((c.tc : Thread Cert.AdamDownIdeal.nD Cert.AdamDownIdeal.τ).loc Cert.AdamDownIdeal.main_arg2) = Layout.blockN ⟨3, ![2, 704, 1024]⟩ ⟨3, ![2, 2816, 1024]⟩ (Layout.meshBlock [2, 2, 2] ![[], [0, 1], []] c) (m' (((0 : Dev Cert.AdamDownReferenceIdeal.nD).tc : Thread Cert.AdamDownReferenceIdeal.nD Cert.AdamDownReferenceIdeal.τ).loc Cert.AdamDownReferenceIdeal.main_arg2))
      ∧ m ((c.tc : Thread Cert.AdamDownIdeal.nD Cert.AdamDownIdeal.τ).loc Cert.AdamDownIdeal.main_arg3) = Layout.blockN ⟨3, ![2, 704, 1024]⟩ ⟨3, ![2, 2816, 1024]⟩ (Layout.meshBlock [2, 2, 2] ![[], [0, 1], []] c) (m' (((0 : Dev Cert.AdamDownReferenceIdeal.nD).tc : Thread Cert.AdamDownReferenceIdeal.nD Cert.AdamDownReferenceIdeal.τ).loc Cert.AdamDownReferenceIdeal.main_arg3))) →
    ∃ (v0 : Buf (Elt Ideal) (((0 : Dev Cert.AdamDownReferenceIdeal.nD).tc : Thread Cert.AdamDownReferenceIdeal.nD Cert.AdamDownReferenceIdeal.τ).loc Cert.AdamDownReferenceIdeal.main_v23)) (v1 : Buf (Elt Ideal) (((0 : Dev Cert.AdamDownReferenceIdeal.nD).tc : Thread Cert.AdamDownReferenceIdeal.nD Cert.AdamDownReferenceIdeal.τ).loc Cert.AdamDownReferenceIdeal.main_v4)) (v2 : Buf (Elt Ideal) (((0 : Dev Cert.AdamDownReferenceIdeal.nD).tc : Thread Cert.AdamDownReferenceIdeal.nD Cert.AdamDownReferenceIdeal.τ).loc Cert.AdamDownReferenceIdeal.main_v10)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v6) = Layout.blockN ⟨3, ![2, 704, 1024]⟩ ⟨3, ![2, 2816, 1024]⟩ (Layout.meshBlock [2, 2, 2] ![[], [0, 1], []] c) v0
          ∧ r.2.mem ((c.tc : Thread Cert.AdamDownIdeal.nD Cert.AdamDownIdeal.τ).loc Cert.AdamDownIdeal.main_v7) = Layout.blockN ⟨3, ![2, 704, 1024]⟩ ⟨3, ![2, 2816, 1024]⟩ (Layout.meshBlock [2, 2, 2] ![[], [0, 1], []] c) v1
          ∧ r.2.mem ((c.tc : Thread Cert.AdamDownIdeal.nD Cert.AdamDownIdeal.τ).loc Cert.AdamDownIdeal.main_v8) = Layout.blockN ⟨3, ![2, 704, 1024]⟩ ⟨3, ![2, 2816, 1024]⟩ (Layout.meshBlock [2, 2, 2] ![[], [0, 1], []] c) v2
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r =>
          r.2.mem (((0 : Dev Cert.AdamDownReferenceIdeal.nD).tc : Thread Cert.AdamDownReferenceIdeal.nD Cert.AdamDownReferenceIdeal.τ).loc Cert.AdamDownReferenceIdeal.main_v23) = v0
          ∧ r.2.mem (((0 : Dev Cert.AdamDownReferenceIdeal.nD).tc : Thread Cert.AdamDownReferenceIdeal.nD Cert.AdamDownReferenceIdeal.τ).loc Cert.AdamDownReferenceIdeal.main_v4) = v1
          ∧ r.2.mem (((0 : Dev Cert.AdamDownReferenceIdeal.nD).tc : Thread Cert.AdamDownReferenceIdeal.nD Cert.AdamDownReferenceIdeal.τ).loc Cert.AdamDownReferenceIdeal.main_v10) = v2
          ∧ r.2.mem (((0 : Dev Cert.AdamDownReferenceIdeal.nD).tc : Thread Cert.AdamDownReferenceIdeal.nD Cert.AdamDownReferenceIdeal.τ).loc Cert.AdamDownReferenceIdeal.main_arg0) = m' (((0 : Dev Cert.AdamDownReferenceIdeal.nD).tc : Thread Cert.AdamDownReferenceIdeal.nD Cert.AdamDownReferenceIdeal.τ).loc Cert.AdamDownReferenceIdeal.main_arg0)
          ∧ r.2.mem (((0 : Dev Cert.AdamDownReferenceIdeal.nD).tc : Thread Cert.AdamDownReferenceIdeal.nD Cert.AdamDownReferenceIdeal.τ).loc Cert.AdamDownReferenceIdeal.main_arg1) = m' (((0 : Dev Cert.AdamDownReferenceIdeal.nD).tc : Thread Cert.AdamDownReferenceIdeal.nD Cert.AdamDownReferenceIdeal.τ).loc Cert.AdamDownReferenceIdeal.main_arg1)
          ∧ r.2.mem (((0 : Dev Cert.AdamDownReferenceIdeal.nD).tc : Thread Cert.AdamDownReferenceIdeal.nD Cert.AdamDownReferenceIdeal.τ).loc Cert.AdamDownReferenceIdeal.main_arg2) = m' (((0 : Dev Cert.AdamDownReferenceIdeal.nD).tc : Thread Cert.AdamDownReferenceIdeal.nD Cert.AdamDownReferenceIdeal.τ).loc Cert.AdamDownReferenceIdeal.main_arg2)
          ∧ r.2.mem (((0 : Dev Cert.AdamDownReferenceIdeal.nD).tc : Thread Cert.AdamDownReferenceIdeal.nD Cert.AdamDownReferenceIdeal.τ).loc Cert.AdamDownReferenceIdeal.main_arg3) = m' (((0 : Dev Cert.AdamDownReferenceIdeal.nD).tc : Thread Cert.AdamDownReferenceIdeal.nD Cert.AdamDownReferenceIdeal.τ).loc Cert.AdamDownReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)
      ∧ m' ((c.tc : Thread Cert.AdamSmallReferenceIdeal.nD Cert.AdamSmallReferenceIdeal.τ).loc Cert.AdamSmallReferenceIdeal.main_arg26) = m ((c.tc : Thread Cert.AdamSmallIdeal.nD Cert.AdamSmallIdeal.τ).loc Cert.AdamSmallIdeal.main_arg26)
      ∧ m' ((c.tc : Thread Cert.AdamSmallReferenceIdeal.nD Cert.AdamSmallReferenceIdeal.τ).loc Cert.AdamSmallReferenceIdeal.main_arg27) = m ((c.tc : Thread Cert.AdamSmallIdeal.nD Cert.AdamSmallIdeal.τ).loc Cert.AdamSmallIdeal.main_arg27)
      ∧ m' ((c.tc : Thread Cert.AdamSmallReferenceIdeal.nD Cert.AdamSmallReferenceIdeal.τ).loc Cert.AdamSmallReferenceIdeal.main_arg28) = m ((c.tc : Thread Cert.AdamSmallIdeal.nD Cert.AdamSmallIdeal.τ).loc Cert.AdamSmallIdeal.main_arg28)
      ∧ m' ((c.tc : Thread Cert.AdamSmallReferenceIdeal.nD Cert.AdamSmallReferenceIdeal.τ).loc Cert.AdamSmallReferenceIdeal.main_arg29) = m ((c.tc : Thread Cert.AdamSmallIdeal.nD Cert.AdamSmallIdeal.τ).loc Cert.AdamSmallIdeal.main_arg29)
      ∧ m' ((c.tc : Thread Cert.AdamSmallReferenceIdeal.nD Cert.AdamSmallReferenceIdeal.τ).loc Cert.AdamSmallReferenceIdeal.main_arg30) = m ((c.tc : Thread Cert.AdamSmallIdeal.nD Cert.AdamSmallIdeal.τ).loc Cert.AdamSmallIdeal.main_arg30)
      ∧ m' ((c.tc : Thread Cert.AdamSmallReferenceIdeal.nD Cert.AdamSmallReferenceIdeal.τ).loc Cert.AdamSmallReferenceIdeal.main_arg31) = m ((c.tc : Thread Cert.AdamSmallIdeal.nD Cert.AdamSmallIdeal.τ).loc Cert.AdamSmallIdeal.main_arg31)
      ∧ m' ((c.tc : Thread Cert.AdamSmallReferenceIdeal.nD Cert.AdamSmallReferenceIdeal.τ).loc Cert.AdamSmallReferenceIdeal.main_arg32) = m ((c.tc : Thread Cert.AdamSmallIdeal.nD Cert.AdamSmallIdeal.τ).loc Cert.AdamSmallIdeal.main_arg32)
      ∧ m' ((c.tc : Thread Cert.AdamSmallReferenceIdeal.nD Cert.AdamSmallReferenceIdeal.τ).loc Cert.AdamSmallReferenceIdeal.main_arg33) = m ((c.tc : Thread Cert.AdamSmallIdeal.nD Cert.AdamSmallIdeal.τ).loc Cert.AdamSmallIdeal.main_arg33)
      ∧ m' ((c.tc : Thread Cert.AdamSmallReferenceIdeal.nD Cert.AdamSmallReferenceIdeal.τ).loc Cert.AdamSmallReferenceIdeal.main_arg34) = m ((c.tc : Thread Cert.AdamSmallIdeal.nD Cert.AdamSmallIdeal.τ).loc Cert.AdamSmallIdeal.main_arg34)
      ∧ m' ((c.tc : Thread Cert.AdamSmallReferenceIdeal.nD Cert.AdamSmallReferenceIdeal.τ).loc Cert.AdamSmallReferenceIdeal.main_arg35) = m ((c.tc : Thread Cert.AdamSmallIdeal.nD Cert.AdamSmallIdeal.τ).loc Cert.AdamSmallIdeal.main_arg35)
      ∧ m' ((c.tc : Thread Cert.AdamSmallReferenceIdeal.nD Cert.AdamSmallReferenceIdeal.τ).loc Cert.AdamSmallReferenceIdeal.main_arg36) = m ((c.tc : Thread Cert.AdamSmallIdeal.nD Cert.AdamSmallIdeal.τ).loc Cert.AdamSmallIdeal.main_arg36)
      ∧ m' ((c.tc : Thread Cert.AdamSmallReferenceIdeal.nD Cert.AdamSmallReferenceIdeal.τ).loc Cert.AdamSmallReferenceIdeal.main_arg37) = m ((c.tc : Thread Cert.AdamSmallIdeal.nD Cert.AdamSmallIdeal.τ).loc Cert.AdamSmallIdeal.main_arg37)
      ∧ m' ((c.tc : Thread Cert.AdamSmallReferenceIdeal.nD Cert.AdamSmallReferenceIdeal.τ).loc Cert.AdamSmallReferenceIdeal.main_arg38) = m ((c.tc : Thread Cert.AdamSmallIdeal.nD Cert.AdamSmallIdeal.τ).loc Cert.AdamSmallIdeal.main_arg38)
      ∧ m' ((c.tc : Thread Cert.AdamSmallReferenceIdeal.nD Cert.AdamSmallReferenceIdeal.τ).loc Cert.AdamSmallReferenceIdeal.main_arg39) = m ((c.tc : Thread Cert.AdamSmallIdeal.nD Cert.AdamSmallIdeal.τ).loc Cert.AdamSmallIdeal.main_arg39)) →
    ∃ (v0 : (c : Dev Cert.AdamSmallIdeal.nD) → Buf (Elt Ideal) ((c.tc : Thread Cert.AdamSmallIdeal.nD Cert.AdamSmallIdeal.τ).loc Cert.AdamSmallIdeal.main_v59)) (v1 : (c : Dev Cert.AdamSmallIdeal.nD) → Buf (Elt Ideal) ((c.tc : Thread Cert.AdamSmallIdeal.nD Cert.AdamSmallIdeal.τ).loc Cert.AdamSmallIdeal.main_v68)) (v2 : (c : Dev Cert.AdamSmallIdeal.nD) → Buf (Elt Ideal) ((c.tc : Thread Cert.AdamSmallIdeal.nD Cert.AdamSmallIdeal.τ).loc Cert.AdamSmallIdeal.main_v77)) (v3 : (c : Dev Cert.AdamSmallIdeal.nD) → Buf (Elt Ideal) ((c.tc : Thread Cert.AdamSmallIdeal.nD Cert.AdamSmallIdeal.τ).loc Cert.AdamSmallIdeal.main_v86)) (v4 : (c : Dev Cert.AdamSmallIdeal.nD) → Buf (Elt Ideal) ((c.tc : Thread Cert.AdamSmallIdeal.nD Cert.AdamSmallIdeal.τ).loc Cert.AdamSmallIdeal.main_v95)) (v5 : (c : Dev Cert.AdamSmallIdeal.nD) → Buf (Elt Ideal) ((c.tc : Thread Cert.AdamSmallIdeal.nD Cert.AdamSmallIdeal.τ).loc Cert.AdamSmallIdeal.main_v104)) (v6 : (c : Dev Cert.AdamSmallIdeal.nD) → Buf (Elt Ideal) ((c.tc : Thread Cert.AdamSmallIdeal.nD Cert.AdamSmallIdeal.τ).loc Cert.AdamSmallIdeal.main_v113)) (v7 : (c : Dev Cert.AdamSmallIdeal.nD) → Buf (Elt Ideal) ((c.tc : Thread Cert.AdamSmallIdeal.nD Cert.AdamSmallIdeal.τ).loc Cert.AdamSmallIdeal.main_v122)) (v8 : (c : Dev Cert.AdamSmallIdeal.nD) → Buf (Elt Ideal) ((c.tc : Thread Cert.AdamSmallIdeal.nD Cert.AdamSmallIdeal.τ).loc Cert.AdamSmallIdeal.main_v131)) (v9 : (c : Dev Cert.AdamSmallIdeal.nD) → Buf (Elt Ideal) ((c.tc : Thread Cert.AdamSmallIdeal.nD Cert.AdamSmallIdeal.τ).loc Cert.AdamSmallIdeal.main_v140)) (v10 : (c : Dev Cert.AdamSmallIdeal.nD) → Buf (Elt Ideal) ((c.tc : Thread Cert.AdamSmallIdeal.nD Cert.AdamSmallIdeal.τ).loc Cert.AdamSmallIdeal.main_v62)) (v11 : (c : Dev Cert.AdamSmallIdeal.nD) → Buf (Elt Ideal) ((c.tc : Thread Cert.AdamSmallIdeal.nD Cert.AdamSmallIdeal.τ).loc Cert.AdamSmallIdeal.main_v71)) (v12 : (c : Dev Cert.AdamSmallIdeal.nD) → Buf (Elt Ideal) ((c.tc : Thread Cert.AdamSmallIdeal.nD Cert.AdamSmallIdeal.τ).loc Cert.AdamSmallIdeal.main_v80)) (v13 : (c : Dev Cert.AdamSmallIdeal.nD) → Buf (Elt Ideal) ((c.tc : Thread Cert.AdamSmallIdeal.nD Cert.AdamSmallIdeal.τ).loc Cert.AdamSmallIdeal.main_v89)) (v14 : (c : Dev Cert.AdamSmallIdeal.nD) → Buf (Elt Ideal) ((c.tc : Thread Cert.AdamSmallIdeal.nD Cert.AdamSmallIdeal.τ).loc Cert.AdamSmallIdeal.main_v98)) (v15 : (c : Dev Cert.AdamSmallIdeal.nD) → Buf (Elt Ideal) ((c.tc : Thread Cert.AdamSmallIdeal.nD Cert.AdamSmallIdeal.τ).loc Cert.AdamSmallIdeal.main_v107)) (v16 : (c : Dev Cert.AdamSmallIdeal.nD) → Buf (Elt Ideal) ((c.tc : Thread Cert.AdamSmallIdeal.nD Cert.AdamSmallIdeal.τ).loc Cert.AdamSmallIdeal.main_v116)) (v17 : (c : Dev Cert.AdamSmallIdeal.nD) → Buf (Elt Ideal) ((c.tc : Thread Cert.AdamSmallIdeal.nD Cert.AdamSmallIdeal.τ).loc Cert.AdamSmallIdeal.main_v125)) (v18 : (c : Dev Cert.AdamSmallIdeal.nD) → Buf (Elt Ideal) ((c.tc : Thread Cert.AdamSmallIdeal.nD Cert.AdamSmallIdeal.τ).loc Cert.AdamSmallIdeal.main_v134)) (v19 : (c : Dev Cert.AdamSmallIdeal.nD) → Buf (Elt Ideal) ((c.tc : Thread Cert.AdamSmallIdeal.nD Cert.AdamSmallIdeal.τ).loc Cert.AdamSmallIdeal.main_v143)) (v20 : (c : Dev Cert.AdamSmallIdeal.nD) → Buf (Elt Ideal) ((c.tc : Thread Cert.AdamSmallIdeal.nD Cert.AdamSmallIdeal.τ).loc Cert.AdamSmallIdeal.main_v65)) (v21 : (c : Dev Cert.AdamSmallIdeal.nD) → Buf (Elt Ideal) ((c.tc : Thread Cert.AdamSmallIdeal.nD Cert.AdamSmallIdeal.τ).loc Cert.AdamSmallIdeal.main_v74)) (v22 : (c : Dev Cert.AdamSmallIdeal.nD) → Buf (Elt Ideal) ((c.tc : Thread Cert.AdamSmallIdeal.nD Cert.AdamSmallIdeal.τ).loc Cert.AdamSmallIdeal.main_v83)) (v23 : (c : Dev Cert.AdamSmallIdeal.nD) → Buf (Elt Ideal) ((c.tc : Thread Cert.AdamSmallIdeal.nD Cert.AdamSmallIdeal.τ).loc Cert.AdamSmallIdeal.main_v92)) (v24 : (c : Dev Cert.AdamSmallIdeal.nD) → Buf (Elt Ideal) ((c.tc : Thread Cert.AdamSmallIdeal.nD Cert.AdamSmallIdeal.τ).loc Cert.AdamSmallIdeal.main_v101)) (v25 : (c : Dev Cert.AdamSmallIdeal.nD) → Buf (Elt Ideal) ((c.tc : Thread Cert.AdamSmallIdeal.nD Cert.AdamSmallIdeal.τ).loc Cert.AdamSmallIdeal.main_v110)) (v26 : (c : Dev Cert.AdamSmallIdeal.nD) → Buf (Elt Ideal) ((c.tc : Thread Cert.AdamSmallIdeal.nD Cert.AdamSmallIdeal.τ).loc Cert.AdamSmallIdeal.main_v119)) (v27 : (c : Dev Cert.AdamSmallIdeal.nD) → Buf (Elt Ideal) ((c.tc : Thread Cert.AdamSmallIdeal.nD Cert.AdamSmallIdeal.τ).loc Cert.AdamSmallIdeal.main_v128)) (v28 : (c : Dev Cert.AdamSmallIdeal.nD) → Buf (Elt Ideal) ((c.tc : Thread Cert.AdamSmallIdeal.nD Cert.AdamSmallIdeal.τ).loc Cert.AdamSmallIdeal.main_v137)) (v29 : (c : Dev Cert.AdamSmallIdeal.nD) → Buf (Elt Ideal) ((c.tc : Thread Cert.AdamSmallIdeal.nD Cert.AdamSmallIdeal.τ).loc Cert.AdamSmallIdeal.main_v146)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v59) = v0 c
          ∧ r.2.mem ((c.tc : Thread Cert.AdamSmallIdeal.nD Cert.AdamSmallIdeal.τ).loc Cert.AdamSmallIdeal.main_v68) = v1 c
          ∧ r.2.mem ((c.tc : Thread Cert.AdamSmallIdeal.nD Cert.AdamSmallIdeal.τ).loc Cert.AdamSmallIdeal.main_v77) = v2 c
          ∧ r.2.mem ((c.tc : Thread Cert.AdamSmallIdeal.nD Cert.AdamSmallIdeal.τ).loc Cert.AdamSmallIdeal.main_v86) = v3 c
          ∧ r.2.mem ((c.tc : Thread Cert.AdamSmallIdeal.nD Cert.AdamSmallIdeal.τ).loc Cert.AdamSmallIdeal.main_v95) = v4 c
          ∧ r.2.mem ((c.tc : Thread Cert.AdamSmallIdeal.nD Cert.AdamSmallIdeal.τ).loc Cert.AdamSmallIdeal.main_v104) = v5 c
          ∧ r.2.mem ((c.tc : Thread Cert.AdamSmallIdeal.nD Cert.AdamSmallIdeal.τ).loc Cert.AdamSmallIdeal.main_v113) = v6 c
          ∧ r.2.mem ((c.tc : Thread Cert.AdamSmallIdeal.nD Cert.AdamSmallIdeal.τ).loc Cert.AdamSmallIdeal.main_v122) = v7 c
          ∧ r.2.mem ((c.tc : Thread Cert.AdamSmallIdeal.nD Cert.AdamSmallIdeal.τ).loc Cert.AdamSmallIdeal.main_v131) = v8 c
          ∧ r.2.mem ((c.tc : Thread Cert.AdamSmallIdeal.nD Cert.AdamSmallIdeal.τ).loc Cert.AdamSmallIdeal.main_v140) = v9 c
          ∧ r.2.mem ((c.tc : Thread Cert.AdamSmallIdeal.nD Cert.AdamSmallIdeal.τ).loc Cert.AdamSmallIdeal.main_v62) = v10 c
          ∧ r.2.mem ((c.tc : Thread Cert.AdamSmallIdeal.nD Cert.AdamSmallIdeal.τ).loc Cert.AdamSmallIdeal.main_v71) = v11 c
          ∧ r.2.mem ((c.tc : Thread Cert.AdamSmallIdeal.nD Cert.AdamSmallIdeal.τ).loc Cert.AdamSmallIdeal.main_v80) = v12 c
          ∧ r.2.mem ((c.tc : Thread Cert.AdamSmallIdeal.nD Cert.AdamSmallIdeal.τ).loc Cert.AdamSmallIdeal.main_v89) = v13 c
          ∧ r.2.mem ((c.tc : Thread Cert.AdamSmallIdeal.nD Cert.AdamSmallIdeal.τ).loc Cert.AdamSmallIdeal.main_v98) = v14 c
          ∧ r.2.mem ((c.tc : Thread Cert.AdamSmallIdeal.nD Cert.AdamSmallIdeal.τ).loc Cert.AdamSmallIdeal.main_v107) = v15 c
          ∧ r.2.mem ((c.tc : Thread Cert.AdamSmallIdeal.nD Cert.AdamSmallIdeal.τ).loc Cert.AdamSmallIdeal.main_v116) = v16 c
          ∧ r.2.mem ((c.tc : Thread Cert.AdamSmallIdeal.nD Cert.AdamSmallIdeal.τ).loc Cert.AdamSmallIdeal.main_v125) = v17 c
          ∧ r.2.mem ((c.tc : Thread Cert.AdamSmallIdeal.nD Cert.AdamSmallIdeal.τ).loc Cert.AdamSmallIdeal.main_v134) = v18 c
          ∧ r.2.mem ((c.tc : Thread Cert.AdamSmallIdeal.nD Cert.AdamSmallIdeal.τ).loc Cert.AdamSmallIdeal.main_v143) = v19 c
          ∧ r.2.mem ((c.tc : Thread Cert.AdamSmallIdeal.nD Cert.AdamSmallIdeal.τ).loc Cert.AdamSmallIdeal.main_v65) = v20 c
          ∧ r.2.mem ((c.tc : Thread Cert.AdamSmallIdeal.nD Cert.AdamSmallIdeal.τ).loc Cert.AdamSmallIdeal.main_v74) = v21 c
          ∧ r.2.mem ((c.tc : Thread Cert.AdamSmallIdeal.nD Cert.AdamSmallIdeal.τ).loc Cert.AdamSmallIdeal.main_v83) = v22 c
          ∧ r.2.mem ((c.tc : Thread Cert.AdamSmallIdeal.nD Cert.AdamSmallIdeal.τ).loc Cert.AdamSmallIdeal.main_v92) = v23 c
          ∧ r.2.mem ((c.tc : Thread Cert.AdamSmallIdeal.nD Cert.AdamSmallIdeal.τ).loc Cert.AdamSmallIdeal.main_v101) = v24 c
          ∧ r.2.mem ((c.tc : Thread Cert.AdamSmallIdeal.nD Cert.AdamSmallIdeal.τ).loc Cert.AdamSmallIdeal.main_v110) = v25 c
          ∧ r.2.mem ((c.tc : Thread Cert.AdamSmallIdeal.nD Cert.AdamSmallIdeal.τ).loc Cert.AdamSmallIdeal.main_v119) = v26 c
          ∧ r.2.mem ((c.tc : Thread Cert.AdamSmallIdeal.nD Cert.AdamSmallIdeal.τ).loc Cert.AdamSmallIdeal.main_v128) = v27 c
          ∧ r.2.mem ((c.tc : Thread Cert.AdamSmallIdeal.nD Cert.AdamSmallIdeal.τ).loc Cert.AdamSmallIdeal.main_v137) = v28 c
          ∧ r.2.mem ((c.tc : Thread Cert.AdamSmallIdeal.nD Cert.AdamSmallIdeal.τ).loc Cert.AdamSmallIdeal.main_v146) = v29 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v191) = v7 c
          ∧ r.2.mem ((c.tc : Thread Cert.AdamSmallReferenceIdeal.nD Cert.AdamSmallReferenceIdeal.τ).loc Cert.AdamSmallReferenceIdeal.main_v215) = v8 c
          ∧ r.2.mem ((c.tc : Thread Cert.AdamSmallReferenceIdeal.nD Cert.AdamSmallReferenceIdeal.τ).loc Cert.AdamSmallReferenceIdeal.main_v239) = v9 c
          ∧ r.2.mem ((c.tc : Thread Cert.AdamSmallReferenceIdeal.nD Cert.AdamSmallReferenceIdeal.τ).loc Cert.AdamSmallReferenceIdeal.main_v4) = v10 c
          ∧ r.2.mem ((c.tc : Thread Cert.AdamSmallReferenceIdeal.nD Cert.AdamSmallReferenceIdeal.τ).loc Cert.AdamSmallReferenceIdeal.main_v28) = v11 c
          ∧ r.2.mem ((c.tc : Thread Cert.AdamSmallReferenceIdeal.nD Cert.AdamSmallReferenceIdeal.τ).loc Cert.AdamSmallReferenceIdeal.main_v52) = v12 c
          ∧ r.2.mem ((c.tc : Thread Cert.AdamSmallReferenceIdeal.nD Cert.AdamSmallReferenceIdeal.τ).loc Cert.AdamSmallReferenceIdeal.main_v76) = v13 c
          ∧ r.2.mem ((c.tc : Thread Cert.AdamSmallReferenceIdeal.nD Cert.AdamSmallReferenceIdeal.τ).loc Cert.AdamSmallReferenceIdeal.main_v100) = v14 c
          ∧ r.2.mem ((c.tc : Thread Cert.AdamSmallReferenceIdeal.nD Cert.AdamSmallReferenceIdeal.τ).loc Cert.AdamSmallReferenceIdeal.main_v124) = v15 c
          ∧ r.2.mem ((c.tc : Thread Cert.AdamSmallReferenceIdeal.nD Cert.AdamSmallReferenceIdeal.τ).loc Cert.AdamSmallReferenceIdeal.main_v148) = v16 c
          ∧ r.2.mem ((c.tc : Thread Cert.AdamSmallReferenceIdeal.nD Cert.AdamSmallReferenceIdeal.τ).loc Cert.AdamSmallReferenceIdeal.main_v172) = v17 c
          ∧ r.2.mem ((c.tc : Thread Cert.AdamSmallReferenceIdeal.nD Cert.AdamSmallReferenceIdeal.τ).loc Cert.AdamSmallReferenceIdeal.main_v196) = v18 c
          ∧ r.2.mem ((c.tc : Thread Cert.AdamSmallReferenceIdeal.nD Cert.AdamSmallReferenceIdeal.τ).loc Cert.AdamSmallReferenceIdeal.main_v220) = v19 c
          ∧ r.2.mem ((c.tc : Thread Cert.AdamSmallReferenceIdeal.nD Cert.AdamSmallReferenceIdeal.τ).loc Cert.AdamSmallReferenceIdeal.main_v10) = v20 c
          ∧ r.2.mem ((c.tc : Thread Cert.AdamSmallReferenceIdeal.nD Cert.AdamSmallReferenceIdeal.τ).loc Cert.AdamSmallReferenceIdeal.main_v34) = v21 c
          ∧ r.2.mem ((c.tc : Thread Cert.AdamSmallReferenceIdeal.nD Cert.AdamSmallReferenceIdeal.τ).loc Cert.AdamSmallReferenceIdeal.main_v58) = v22 c
          ∧ r.2.mem ((c.tc : Thread Cert.AdamSmallReferenceIdeal.nD Cert.AdamSmallReferenceIdeal.τ).loc Cert.AdamSmallReferenceIdeal.main_v82) = v23 c
          ∧ r.2.mem ((c.tc : Thread Cert.AdamSmallReferenceIdeal.nD Cert.AdamSmallReferenceIdeal.τ).loc Cert.AdamSmallReferenceIdeal.main_v106) = v24 c
          ∧ r.2.mem ((c.tc : Thread Cert.AdamSmallReferenceIdeal.nD Cert.AdamSmallReferenceIdeal.τ).loc Cert.AdamSmallReferenceIdeal.main_v130) = v25 c
          ∧ r.2.mem ((c.tc : Thread Cert.AdamSmallReferenceIdeal.nD Cert.AdamSmallReferenceIdeal.τ).loc Cert.AdamSmallReferenceIdeal.main_v154) = v26 c
          ∧ r.2.mem ((c.tc : Thread Cert.AdamSmallReferenceIdeal.nD Cert.AdamSmallReferenceIdeal.τ).loc Cert.AdamSmallReferenceIdeal.main_v178) = v27 c
          ∧ r.2.mem ((c.tc : Thread Cert.AdamSmallReferenceIdeal.nD Cert.AdamSmallReferenceIdeal.τ).loc Cert.AdamSmallReferenceIdeal.main_v202) = v28 c
          ∧ r.2.mem ((c.tc : Thread Cert.AdamSmallReferenceIdeal.nD Cert.AdamSmallReferenceIdeal.τ).loc Cert.AdamSmallReferenceIdeal.main_v226) = v29 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31)
          ∧ r.2.mem ((c.tc : Thread Cert.AdamSmallReferenceIdeal.nD Cert.AdamSmallReferenceIdeal.τ).loc Cert.AdamSmallReferenceIdeal.main_arg32) = m' ((c.tc : Thread Cert.AdamSmallReferenceIdeal.nD Cert.AdamSmallReferenceIdeal.τ).loc Cert.AdamSmallReferenceIdeal.main_arg32)
          ∧ r.2.mem ((c.tc : Thread Cert.AdamSmallReferenceIdeal.nD Cert.AdamSmallReferenceIdeal.τ).loc Cert.AdamSmallReferenceIdeal.main_arg33) = m' ((c.tc : Thread Cert.AdamSmallReferenceIdeal.nD Cert.AdamSmallReferenceIdeal.τ).loc Cert.AdamSmallReferenceIdeal.main_arg33)
          ∧ r.2.mem ((c.tc : Thread Cert.AdamSmallReferenceIdeal.nD Cert.AdamSmallReferenceIdeal.τ).loc Cert.AdamSmallReferenceIdeal.main_arg34) = m' ((c.tc : Thread Cert.AdamSmallReferenceIdeal.nD Cert.AdamSmallReferenceIdeal.τ).loc Cert.AdamSmallReferenceIdeal.main_arg34)
          ∧ r.2.mem ((c.tc : Thread Cert.AdamSmallReferenceIdeal.nD Cert.AdamSmallReferenceIdeal.τ).loc Cert.AdamSmallReferenceIdeal.main_arg35) = m' ((c.tc : Thread Cert.AdamSmallReferenceIdeal.nD Cert.AdamSmallReferenceIdeal.τ).loc Cert.AdamSmallReferenceIdeal.main_arg35)
          ∧ r.2.mem ((c.tc : Thread Cert.AdamSmallReferenceIdeal.nD Cert.AdamSmallReferenceIdeal.τ).loc Cert.AdamSmallReferenceIdeal.main_arg36) = m' ((c.tc : Thread Cert.AdamSmallReferenceIdeal.nD Cert.AdamSmallReferenceIdeal.τ).loc Cert.AdamSmallReferenceIdeal.main_arg36)
          ∧ r.2.mem ((c.tc : Thread Cert.AdamSmallReferenceIdeal.nD Cert.AdamSmallReferenceIdeal.τ).loc Cert.AdamSmallReferenceIdeal.main_arg37) = m' ((c.tc : Thread Cert.AdamSmallReferenceIdeal.nD Cert.AdamSmallReferenceIdeal.τ).loc Cert.AdamSmallReferenceIdeal.main_arg37)
          ∧ r.2.mem ((c.tc : Thread Cert.AdamSmallReferenceIdeal.nD Cert.AdamSmallReferenceIdeal.τ).loc Cert.AdamSmallReferenceIdeal.main_arg38) = m' ((c.tc : Thread Cert.AdamSmallReferenceIdeal.nD Cert.AdamSmallReferenceIdeal.τ).loc Cert.AdamSmallReferenceIdeal.main_arg38)
          ∧ r.2.mem ((c.tc : Thread Cert.AdamSmallReferenceIdeal.nD Cert.AdamSmallReferenceIdeal.τ).loc Cert.AdamSmallReferenceIdeal.main_arg39) = m' ((c.tc : Thread Cert.AdamSmallReferenceIdeal.nD Cert.AdamSmallReferenceIdeal.τ).loc Cert.AdamSmallReferenceIdeal.main_arg39))

def preserves_AddSibling_AddSiblingIdeal : Prop :=
  True

def algebraic_AddSiblingIdeal_AddSiblingReferenceIdeal [hAddSiblingIdeal : Cert.AddSiblingIdeal.Facts] [hAddSiblingReferenceIdeal : Cert.AddSiblingReferenceIdeal.Facts] [hPre_a_core : Cert.Pre_a_core.Facts] : Prop :=
  ∀ (m : (ℓ : Loc Cert.AddSiblingIdeal.nD Cert.AddSiblingIdeal.τ Cert.AddSiblingIdeal.sig) → Buf (Elt Ideal) ℓ) (g : Dev Cert.AddSiblingIdeal.nD → PrngReg)
    (m' : (ℓ : Loc Cert.AddSiblingReferenceIdeal.nD Cert.AddSiblingReferenceIdeal.τ Cert.AddSiblingReferenceIdeal.sig) → Buf (Elt Ideal) ℓ) (g' : Dev Cert.AddSiblingReferenceIdeal.nD → PrngReg), Pre_AddSiblingIdeal m →
    (∀ c : Dev Cert.AddSiblingIdeal.nD,
      m' ((c.tc : Thread Cert.AddSiblingReferenceIdeal.nD Cert.AddSiblingReferenceIdeal.τ).loc Cert.AddSiblingReferenceIdeal.main_arg0) = m ((c.tc : Thread Cert.AddSiblingIdeal.nD Cert.AddSiblingIdeal.τ).loc Cert.AddSiblingIdeal.main_arg0)
      ∧ m' ((c.tc : Thread Cert.AddSiblingReferenceIdeal.nD Cert.AddSiblingReferenceIdeal.τ).loc Cert.AddSiblingReferenceIdeal.main_arg1) = m ((c.tc : Thread Cert.AddSiblingIdeal.nD Cert.AddSiblingIdeal.τ).loc Cert.AddSiblingIdeal.main_arg1)
      ∧ m' ((c.tc : Thread Cert.AddSiblingReferenceIdeal.nD Cert.AddSiblingReferenceIdeal.τ).loc Cert.AddSiblingReferenceIdeal.main_arg2) = m ((c.tc : Thread Cert.AddSiblingIdeal.nD Cert.AddSiblingIdeal.τ).loc Cert.AddSiblingIdeal.main_arg2)) →
    ∃ (v0 : (c : Dev Cert.AddSiblingIdeal.nD) → Buf (Elt Ideal) ((c.tc : Thread Cert.AddSiblingIdeal.nD Cert.AddSiblingIdeal.τ).loc Cert.AddSiblingIdeal.main_v0_0)) (v1 : (c : Dev Cert.AddSiblingIdeal.nD) → Buf (Elt Ideal) ((c.tc : Thread Cert.AddSiblingIdeal.nD Cert.AddSiblingIdeal.τ).loc Cert.AddSiblingIdeal.main_v0_1)),
      θ_run (Cert.AddSiblingIdeal.defs (F := Ideal)) (onTc (τ := Cert.AddSiblingIdeal.τ) (Cert.AddSiblingIdeal.main (F := Ideal))) ⟨m, fun _ => 0, g⟩ (fun r => ∀ c : Dev Cert.AddSiblingIdeal.nD,
          r.2.mem ((c.tc : Thread Cert.AddSiblingIdeal.nD Cert.AddSiblingIdeal.τ).loc Cert.AddSiblingIdeal.main_v0_0) = v0 c
          ∧ r.2.mem ((c.tc : Thread Cert.AddSiblingIdeal.nD Cert.AddSiblingIdeal.τ).loc Cert.AddSiblingIdeal.main_v0_1) = v1 c
          ∧ r.2.mem ((c.tc : Thread Cert.AddSiblingIdeal.nD Cert.AddSiblingIdeal.τ).loc Cert.AddSiblingIdeal.main_arg0) = m ((c.tc : Thread Cert.AddSiblingIdeal.nD Cert.AddSiblingIdeal.τ).loc Cert.AddSiblingIdeal.main_arg0)
          ∧ r.2.mem ((c.tc : Thread Cert.AddSiblingIdeal.nD Cert.AddSiblingIdeal.τ).loc Cert.AddSiblingIdeal.main_arg1) = m ((c.tc : Thread Cert.AddSiblingIdeal.nD Cert.AddSiblingIdeal.τ).loc Cert.AddSiblingIdeal.main_arg1)
          ∧ r.2.mem ((c.tc : Thread Cert.AddSiblingIdeal.nD Cert.AddSiblingIdeal.τ).loc Cert.AddSiblingIdeal.main_arg2) = m ((c.tc : Thread Cert.AddSiblingIdeal.nD Cert.AddSiblingIdeal.τ).loc Cert.AddSiblingIdeal.main_arg2))
      ∧ θ_run (Cert.AddSiblingReferenceIdeal.defs (F := Ideal)) (onTc (τ := Cert.AddSiblingReferenceIdeal.τ) (Cert.AddSiblingReferenceIdeal.main (F := Ideal))) ⟨m', fun _ => 0, g'⟩ (fun r => ∀ c : Dev Cert.AddSiblingReferenceIdeal.nD,
          r.2.mem ((c.tc : Thread Cert.AddSiblingReferenceIdeal.nD Cert.AddSiblingReferenceIdeal.τ).loc Cert.AddSiblingReferenceIdeal.main_v8) = v0 c
          ∧ r.2.mem ((c.tc : Thread Cert.AddSiblingReferenceIdeal.nD Cert.AddSiblingReferenceIdeal.τ).loc Cert.AddSiblingReferenceIdeal.main_v9) = v1 c
          ∧ r.2.mem ((c.tc : Thread Cert.AddSiblingReferenceIdeal.nD Cert.AddSiblingReferenceIdeal.τ).loc Cert.AddSiblingReferenceIdeal.main_arg0) = m' ((c.tc : Thread Cert.AddSiblingReferenceIdeal.nD Cert.AddSiblingReferenceIdeal.τ).loc Cert.AddSiblingReferenceIdeal.main_arg0)
          ∧ r.2.mem ((c.tc : Thread Cert.AddSiblingReferenceIdeal.nD Cert.AddSiblingReferenceIdeal.τ).loc Cert.AddSiblingReferenceIdeal.main_arg1) = m' ((c.tc : Thread Cert.AddSiblingReferenceIdeal.nD Cert.AddSiblingReferenceIdeal.τ).loc Cert.AddSiblingReferenceIdeal.main_arg1)
          ∧ r.2.mem ((c.tc : Thread Cert.AddSiblingReferenceIdeal.nD Cert.AddSiblingReferenceIdeal.τ).loc Cert.AddSiblingReferenceIdeal.main_arg2) = m' ((c.tc : Thread Cert.AddSiblingReferenceIdeal.nD Cert.AddSiblingReferenceIdeal.τ).loc Cert.AddSiblingReferenceIdeal.main_arg2))

def bitexact_AddSibling_AddSiblingReference [hAddSibling : Cert.AddSibling.Facts] [hAddSiblingReference : Cert.AddSiblingReference.Facts] [hPre_a_core : Cert.Pre_a_core.Facts] : Prop :=
  ∀ (m : (ℓ : Loc Cert.AddSibling.nD Cert.AddSibling.τ Cert.AddSibling.sig) → Buf (Elt Bits) ℓ) (g : Dev Cert.AddSibling.nD → PrngReg)
    (m' : (ℓ : Loc Cert.AddSiblingReference.nD Cert.AddSiblingReference.τ Cert.AddSiblingReference.sig) → Buf (Elt Bits) ℓ) (g' : Dev Cert.AddSiblingReference.nD → PrngReg), Pre_AddSibling m →
    (∀ c : Dev Cert.AddSibling.nD,
      m' ((c.tc : Thread Cert.AddSiblingReference.nD Cert.AddSiblingReference.τ).loc Cert.AddSiblingReference.main_arg0) = m ((c.tc : Thread Cert.AddSibling.nD Cert.AddSibling.τ).loc Cert.AddSibling.main_arg0)
      ∧ m' ((c.tc : Thread Cert.AddSiblingReference.nD Cert.AddSiblingReference.τ).loc Cert.AddSiblingReference.main_arg1) = m ((c.tc : Thread Cert.AddSibling.nD Cert.AddSibling.τ).loc Cert.AddSibling.main_arg1)
      ∧ m' ((c.tc : Thread Cert.AddSiblingReference.nD Cert.AddSiblingReference.τ).loc Cert.AddSiblingReference.main_arg2) = m ((c.tc : Thread Cert.AddSibling.nD Cert.AddSibling.τ).loc Cert.AddSibling.main_arg2)) →
    ∃ (v0 : (c : Dev Cert.AddSibling.nD) → Buf (Elt Bits) ((c.tc : Thread Cert.AddSibling.nD Cert.AddSibling.τ).loc Cert.AddSibling.main_v0_0)) (v1 : (c : Dev Cert.AddSibling.nD) → Buf (Elt Bits) ((c.tc : Thread Cert.AddSibling.nD Cert.AddSibling.τ).loc Cert.AddSibling.main_v0_1)),
      θ_run (Cert.AddSibling.defs (F := Bits)) (onTc (τ := Cert.AddSibling.τ) (Cert.AddSibling.main (F := Bits))) ⟨m, fun _ => 0, g⟩ (fun r => ∀ c : Dev Cert.AddSibling.nD,
          r.2.mem ((c.tc : Thread Cert.AddSibling.nD Cert.AddSibling.τ).loc Cert.AddSibling.main_v0_0) = v0 c
          ∧ r.2.mem ((c.tc : Thread Cert.AddSibling.nD Cert.AddSibling.τ).loc Cert.AddSibling.main_v0_1) = v1 c
          ∧ r.2.mem ((c.tc : Thread Cert.AddSibling.nD Cert.AddSibling.τ).loc Cert.AddSibling.main_arg0) = m ((c.tc : Thread Cert.AddSibling.nD Cert.AddSibling.τ).loc Cert.AddSibling.main_arg0)
          ∧ r.2.mem ((c.tc : Thread Cert.AddSibling.nD Cert.AddSibling.τ).loc Cert.AddSibling.main_arg1) = m ((c.tc : Thread Cert.AddSibling.nD Cert.AddSibling.τ).loc Cert.AddSibling.main_arg1)
          ∧ r.2.mem ((c.tc : Thread Cert.AddSibling.nD Cert.AddSibling.τ).loc Cert.AddSibling.main_arg2) = m ((c.tc : Thread Cert.AddSibling.nD Cert.AddSibling.τ).loc Cert.AddSibling.main_arg2))
      ∧ θ_run (Cert.AddSiblingReference.defs (F := Bits)) (onTc (τ := Cert.AddSiblingReference.τ) (Cert.AddSiblingReference.main (F := Bits))) ⟨m', fun _ => 0, g'⟩ (fun r => ∀ c : Dev Cert.AddSiblingReference.nD,
          r.2.mem ((c.tc : Thread Cert.AddSiblingReference.nD Cert.AddSiblingReference.τ).loc Cert.AddSiblingReference.main_v8) = v0 c
          ∧ r.2.mem ((c.tc : Thread Cert.AddSiblingReference.nD Cert.AddSiblingReference.τ).loc Cert.AddSiblingReference.main_v9) = v1 c
          ∧ r.2.mem ((c.tc : Thread Cert.AddSiblingReference.nD Cert.AddSiblingReference.τ).loc Cert.AddSiblingReference.main_arg0) = m' ((c.tc : Thread Cert.AddSiblingReference.nD Cert.AddSiblingReference.τ).loc Cert.AddSiblingReference.main_arg0)
          ∧ r.2.mem ((c.tc : Thread Cert.AddSiblingReference.nD Cert.AddSiblingReference.τ).loc Cert.AddSiblingReference.main_arg1) = m' ((c.tc : Thread Cert.AddSiblingReference.nD Cert.AddSiblingReference.τ).loc Cert.AddSiblingReference.main_arg1)
          ∧ r.2.mem ((c.tc : Thread Cert.AddSiblingReference.nD Cert.AddSiblingReference.τ).loc Cert.AddSiblingReference.main_arg2) = m' ((c.tc : Thread Cert.AddSiblingReference.nD Cert.AddSiblingReference.τ).loc Cert.AddSiblingReference.main_arg2))

def preserves_AddPartials_AddPartialsIdeal : Prop :=
  True

def algebraic_AddPartialsIdeal_AddPartialsReferenceIdeal [hAddPartialsIdeal : Cert.AddPartialsIdeal.Facts] [hAddPartialsReferenceIdeal : Cert.AddPartialsReferenceIdeal.Facts] [hPre_a_chip : Cert.Pre_a_chip.Facts] : Prop :=
  ∀ (m : (ℓ : Loc Cert.AddPartialsIdeal.nD Cert.AddPartialsIdeal.τ Cert.AddPartialsIdeal.sig) → Buf (Elt Ideal) ℓ) (g : Dev Cert.AddPartialsIdeal.nD → PrngReg)
    (m' : (ℓ : Loc Cert.AddPartialsReferenceIdeal.nD Cert.AddPartialsReferenceIdeal.τ Cert.AddPartialsReferenceIdeal.sig) → Buf (Elt Ideal) ℓ) (g' : Dev Cert.AddPartialsReferenceIdeal.nD → PrngReg), Pre_AddPartialsIdeal m →
    (∀ c : Dev Cert.AddPartialsIdeal.nD,
      m' ((c.tc : Thread Cert.AddPartialsReferenceIdeal.nD Cert.AddPartialsReferenceIdeal.τ).loc Cert.AddPartialsReferenceIdeal.main_arg0) = m ((c.tc : Thread Cert.AddPartialsIdeal.nD Cert.AddPartialsIdeal.τ).loc Cert.AddPartialsIdeal.main_arg0)
      ∧ m' ((c.tc : Thread Cert.AddPartialsReferenceIdeal.nD Cert.AddPartialsReferenceIdeal.τ).loc Cert.AddPartialsReferenceIdeal.main_arg1) = m ((c.tc : Thread Cert.AddPartialsIdeal.nD Cert.AddPartialsIdeal.τ).loc Cert.AddPartialsIdeal.main_arg1)
      ∧ m' ((c.tc : Thread Cert.AddPartialsReferenceIdeal.nD Cert.AddPartialsReferenceIdeal.τ).loc Cert.AddPartialsReferenceIdeal.main_arg2) = m ((c.tc : Thread Cert.AddPartialsIdeal.nD Cert.AddPartialsIdeal.τ).loc Cert.AddPartialsIdeal.main_arg2)) →
    ∃ (v0 : (c : Dev Cert.AddPartialsIdeal.nD) → Buf (Elt Ideal) ((c.tc : Thread Cert.AddPartialsIdeal.nD Cert.AddPartialsIdeal.τ).loc Cert.AddPartialsIdeal.main_v0)),
      θ_run (Cert.AddPartialsIdeal.defs (F := Ideal)) (onTc (τ := Cert.AddPartialsIdeal.τ) (Cert.AddPartialsIdeal.main (F := Ideal))) ⟨m, fun _ => 0, g⟩ (fun r => ∀ c : Dev Cert.AddPartialsIdeal.nD,
          r.2.mem ((c.tc : Thread Cert.AddPartialsIdeal.nD Cert.AddPartialsIdeal.τ).loc Cert.AddPartialsIdeal.main_v0) = v0 c
          ∧ r.2.mem ((c.tc : Thread Cert.AddPartialsIdeal.nD Cert.AddPartialsIdeal.τ).loc Cert.AddPartialsIdeal.main_arg0) = m ((c.tc : Thread Cert.AddPartialsIdeal.nD Cert.AddPartialsIdeal.τ).loc Cert.AddPartialsIdeal.main_arg0)
          ∧ r.2.mem ((c.tc : Thread Cert.AddPartialsIdeal.nD Cert.AddPartialsIdeal.τ).loc Cert.AddPartialsIdeal.main_arg1) = m ((c.tc : Thread Cert.AddPartialsIdeal.nD Cert.AddPartialsIdeal.τ).loc Cert.AddPartialsIdeal.main_arg1)
          ∧ r.2.mem ((c.tc : Thread Cert.AddPartialsIdeal.nD Cert.AddPartialsIdeal.τ).loc Cert.AddPartialsIdeal.main_arg2) = m ((c.tc : Thread Cert.AddPartialsIdeal.nD Cert.AddPartialsIdeal.τ).loc Cert.AddPartialsIdeal.main_arg2))
      ∧ θ_run (Cert.AddPartialsReferenceIdeal.defs (F := Ideal)) (onTc (τ := Cert.AddPartialsReferenceIdeal.τ) (Cert.AddPartialsReferenceIdeal.main (F := Ideal))) ⟨m', fun _ => 0, g'⟩ (fun r => ∀ c : Dev Cert.AddPartialsReferenceIdeal.nD,
          r.2.mem ((c.tc : Thread Cert.AddPartialsReferenceIdeal.nD Cert.AddPartialsReferenceIdeal.τ).loc Cert.AddPartialsReferenceIdeal.main_v24) = v0 c
          ∧ r.2.mem ((c.tc : Thread Cert.AddPartialsReferenceIdeal.nD Cert.AddPartialsReferenceIdeal.τ).loc Cert.AddPartialsReferenceIdeal.main_arg0) = m' ((c.tc : Thread Cert.AddPartialsReferenceIdeal.nD Cert.AddPartialsReferenceIdeal.τ).loc Cert.AddPartialsReferenceIdeal.main_arg0)
          ∧ r.2.mem ((c.tc : Thread Cert.AddPartialsReferenceIdeal.nD Cert.AddPartialsReferenceIdeal.τ).loc Cert.AddPartialsReferenceIdeal.main_arg1) = m' ((c.tc : Thread Cert.AddPartialsReferenceIdeal.nD Cert.AddPartialsReferenceIdeal.τ).loc Cert.AddPartialsReferenceIdeal.main_arg1)
          ∧ r.2.mem ((c.tc : Thread Cert.AddPartialsReferenceIdeal.nD Cert.AddPartialsReferenceIdeal.τ).loc Cert.AddPartialsReferenceIdeal.main_arg2) = m' ((c.tc : Thread Cert.AddPartialsReferenceIdeal.nD Cert.AddPartialsReferenceIdeal.τ).loc Cert.AddPartialsReferenceIdeal.main_arg2))

def bitexact_AddPartials_AddPartialsReference [hAddPartials : Cert.AddPartials.Facts] [hAddPartialsReference : Cert.AddPartialsReference.Facts] [hPre_a_chip : Cert.Pre_a_chip.Facts] : Prop :=
  ∀ (m : (ℓ : Loc Cert.AddPartials.nD Cert.AddPartials.τ Cert.AddPartials.sig) → Buf (Elt Bits) ℓ) (g : Dev Cert.AddPartials.nD → PrngReg)
    (m' : (ℓ : Loc Cert.AddPartialsReference.nD Cert.AddPartialsReference.τ Cert.AddPartialsReference.sig) → Buf (Elt Bits) ℓ) (g' : Dev Cert.AddPartialsReference.nD → PrngReg), Pre_AddPartials m →
    (∀ c : Dev Cert.AddPartials.nD,
      m' ((c.tc : Thread Cert.AddPartialsReference.nD Cert.AddPartialsReference.τ).loc Cert.AddPartialsReference.main_arg0) = m ((c.tc : Thread Cert.AddPartials.nD Cert.AddPartials.τ).loc Cert.AddPartials.main_arg0)
      ∧ m' ((c.tc : Thread Cert.AddPartialsReference.nD Cert.AddPartialsReference.τ).loc Cert.AddPartialsReference.main_arg1) = m ((c.tc : Thread Cert.AddPartials.nD Cert.AddPartials.τ).loc Cert.AddPartials.main_arg1)
      ∧ m' ((c.tc : Thread Cert.AddPartialsReference.nD Cert.AddPartialsReference.τ).loc Cert.AddPartialsReference.main_arg2) = m ((c.tc : Thread Cert.AddPartials.nD Cert.AddPartials.τ).loc Cert.AddPartials.main_arg2)) →
    ∃ (v0 : (c : Dev Cert.AddPartials.nD) → Buf (Elt Bits) ((c.tc : Thread Cert.AddPartials.nD Cert.AddPartials.τ).loc Cert.AddPartials.main_v0)),
      θ_run (Cert.AddPartials.defs (F := Bits)) (onTc (τ := Cert.AddPartials.τ) (Cert.AddPartials.main (F := Bits))) ⟨m, fun _ => 0, g⟩ (fun r => ∀ c : Dev Cert.AddPartials.nD,
          r.2.mem ((c.tc : Thread Cert.AddPartials.nD Cert.AddPartials.τ).loc Cert.AddPartials.main_v0) = v0 c
          ∧ r.2.mem ((c.tc : Thread Cert.AddPartials.nD Cert.AddPartials.τ).loc Cert.AddPartials.main_arg0) = m ((c.tc : Thread Cert.AddPartials.nD Cert.AddPartials.τ).loc Cert.AddPartials.main_arg0)
          ∧ r.2.mem ((c.tc : Thread Cert.AddPartials.nD Cert.AddPartials.τ).loc Cert.AddPartials.main_arg1) = m ((c.tc : Thread Cert.AddPartials.nD Cert.AddPartials.τ).loc Cert.AddPartials.main_arg1)
          ∧ r.2.mem ((c.tc : Thread Cert.AddPartials.nD Cert.AddPartials.τ).loc Cert.AddPartials.main_arg2) = m ((c.tc : Thread Cert.AddPartials.nD Cert.AddPartials.τ).loc Cert.AddPartials.main_arg2))
      ∧ θ_run (Cert.AddPartialsReference.defs (F := Bits)) (onTc (τ := Cert.AddPartialsReference.τ) (Cert.AddPartialsReference.main (F := Bits))) ⟨m', fun _ => 0, g'⟩ (fun r => ∀ c : Dev Cert.AddPartialsReference.nD,
          r.2.mem ((c.tc : Thread Cert.AddPartialsReference.nD Cert.AddPartialsReference.τ).loc Cert.AddPartialsReference.main_v24) = v0 c
          ∧ r.2.mem ((c.tc : Thread Cert.AddPartialsReference.nD Cert.AddPartialsReference.τ).loc Cert.AddPartialsReference.main_arg0) = m' ((c.tc : Thread Cert.AddPartialsReference.nD Cert.AddPartialsReference.τ).loc Cert.AddPartialsReference.main_arg0)
          ∧ r.2.mem ((c.tc : Thread Cert.AddPartialsReference.nD Cert.AddPartialsReference.τ).loc Cert.AddPartialsReference.main_arg1) = m' ((c.tc : Thread Cert.AddPartialsReference.nD Cert.AddPartialsReference.τ).loc Cert.AddPartialsReference.main_arg1)
          ∧ r.2.mem ((c.tc : Thread Cert.AddPartialsReference.nD Cert.AddPartialsReference.τ).loc Cert.AddPartialsReference.main_arg2) = m' ((c.tc : Thread Cert.AddPartialsReference.nD Cert.AddPartialsReference.τ).loc Cert.AddPartialsReference.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v7) = v0 c
          ∧ r.2.mem ((c.tc : Thread Cert.LossReferenceIdeal.nD Cert.LossReferenceIdeal.τ).loc Cert.LossReferenceIdeal.main_v9) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v22) = v0 c
          ∧ r.2.mem ((c.tc : Thread Cert.NormReferenceIdeal.nD Cert.NormReferenceIdeal.τ).loc Cert.NormReferenceIdeal.main_v25) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v12) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_ProjA_ProjAIdeal : Prop :=
  True

def algebraic_ProjAIdeal_ProjAReferenceIdeal [hProjAIdeal : Cert.ProjAIdeal.Facts] [hProjAReferenceIdeal : Cert.ProjAReferenceIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAIdeal m →
    (∀ c : Dev Cert.ProjAIdeal.nD,
      m' ((c.tc : Thread Cert.ProjAReferenceIdeal.nD Cert.ProjAReferenceIdeal.τ).loc Cert.ProjAReferenceIdeal.main_arg0) = m ((c.tc : Thread Cert.ProjAIdeal.nD Cert.ProjAIdeal.τ).loc Cert.ProjAIdeal.main_arg0)
      ∧ m' ((c.tc : Thread Cert.ProjAReferenceIdeal.nD Cert.ProjAReferenceIdeal.τ).loc Cert.ProjAReferenceIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v2) = v0 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1))

def preserves_ProjFg_ProjFgIdeal : Prop :=
  True

def algebraic_ProjFgIdeal_ProjFgReferenceIdeal [hProjFgIdeal : Cert.ProjFgIdeal.Facts] [hProjFgReferenceIdeal : Cert.ProjFgReferenceIdeal.Facts] : Prop :=
  ∀ (m : (ℓ : Loc Cert.ProjFgIdeal.nD Cert.ProjFgIdeal.τ Cert.ProjFgIdeal.sig) → Buf (Elt Ideal) ℓ) (g : Dev Cert.ProjFgIdeal.nD → PrngReg)
    (m' : (ℓ : Loc Cert.ProjFgReferenceIdeal.nD Cert.ProjFgReferenceIdeal.τ Cert.ProjFgReferenceIdeal.sig) → Buf (Elt Ideal) ℓ) (g' : Dev Cert.ProjFgReferenceIdeal.nD → PrngReg), Pre_ProjFgIdeal m →
    (∀ c : Dev Cert.ProjFgIdeal.nD,
      m' ((c.tc : Thread Cert.ProjFgReferenceIdeal.nD Cert.ProjFgReferenceIdeal.τ).loc Cert.ProjFgReferenceIdeal.main_arg0) = m ((c.tc : Thread Cert.ProjFgIdeal.nD Cert.ProjFgIdeal.τ).loc Cert.ProjFgIdeal.main_arg0)
      ∧ m' ((c.tc : Thread Cert.ProjFgReferenceIdeal.nD Cert.ProjFgReferenceIdeal.τ).loc Cert.ProjFgReferenceIdeal.main_arg1) = m ((c.tc : Thread Cert.ProjFgIdeal.nD Cert.ProjFgIdeal.τ).loc Cert.ProjFgIdeal.main_arg1)) →
    ∃ (v0 : (c : Dev Cert.ProjFgIdeal.nD) → Buf (Elt Ideal) ((c.tc : Thread Cert.ProjFgIdeal.nD Cert.ProjFgIdeal.τ).loc Cert.ProjFgIdeal.main_v0)),
      θ_run (Cert.ProjFgIdeal.defs (F := Ideal)) (onTc (τ := Cert.ProjFgIdeal.τ) (Cert.ProjFgIdeal.main (F := Ideal))) ⟨m, fun _ => 0, g⟩ (fun r => ∀ c : Dev Cert.ProjFgIdeal.nD,
          r.2.mem ((c.tc : Thread Cert.ProjFgIdeal.nD Cert.ProjFgIdeal.τ).loc Cert.ProjFgIdeal.main_v0) = v0 c
          ∧ r.2.mem ((c.tc : Thread Cert.ProjFgIdeal.nD Cert.ProjFgIdeal.τ).loc Cert.ProjFgIdeal.main_arg0) = m ((c.tc : Thread Cert.ProjFgIdeal.nD Cert.ProjFgIdeal.τ).loc Cert.ProjFgIdeal.main_arg0)
          ∧ r.2.mem ((c.tc : Thread Cert.ProjFgIdeal.nD Cert.ProjFgIdeal.τ).loc Cert.ProjFgIdeal.main_arg1) = m ((c.tc : Thread Cert.ProjFgIdeal.nD Cert.ProjFgIdeal.τ).loc Cert.ProjFgIdeal.main_arg1))
      ∧ θ_run (Cert.ProjFgReferenceIdeal.defs (F := Ideal)) (onTc (τ := Cert.ProjFgReferenceIdeal.τ) (Cert.ProjFgReferenceIdeal.main (F := Ideal))) ⟨m', fun _ => 0, g'⟩ (fun r => ∀ c : Dev Cert.ProjFgReferenceIdeal.nD,
          r.2.mem ((c.tc : Thread Cert.ProjFgReferenceIdeal.nD Cert.ProjFgReferenceIdeal.τ).loc Cert.ProjFgReferenceIdeal.main_v3) = v0 c
          ∧ r.2.mem ((c.tc : Thread Cert.ProjFgReferenceIdeal.nD Cert.ProjFgReferenceIdeal.τ).loc Cert.ProjFgReferenceIdeal.main_arg0) = m' ((c.tc : Thread Cert.ProjFgReferenceIdeal.nD Cert.ProjFgReferenceIdeal.τ).loc Cert.ProjFgReferenceIdeal.main_arg0)
          ∧ r.2.mem ((c.tc : Thread Cert.ProjFgReferenceIdeal.nD Cert.ProjFgReferenceIdeal.τ).loc Cert.ProjFgReferenceIdeal.main_arg1) = m' ((c.tc : Thread Cert.ProjFgReferenceIdeal.nD Cert.ProjFgReferenceIdeal.τ).loc Cert.ProjFgReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v2) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1))

def preserves_DownProj_DownProjIdeal : Prop :=
  True

def algebraic_DownProjIdeal_DownProjReferenceIdeal [hDownProjIdeal : Cert.DownProjIdeal.Facts] [hDownProjReferenceIdeal : Cert.DownProjReferenceIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)
      ∧ m' ((c.tc : Thread Cert.DownProjReferenceIdeal.nD Cert.DownProjReferenceIdeal.τ).loc Cert.DownProjReferenceIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v3) = v0 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2))

def preserves_BackAct_BackActIdeal : Prop :=
  True

def algebraic_BackActIdeal_BackActReferenceIdeal [hBackActIdeal : Cert.BackActIdeal.Facts] [hBackActReferenceIdeal : Cert.BackActReferenceIdeal.Facts] : Prop :=
  ∀ (m : (ℓ : Loc Cert.BackActIdeal.nD Cert.BackActIdeal.τ Cert.BackActIdeal.sig) → Buf (Elt Ideal) ℓ) (g : Dev Cert.BackActIdeal.nD → PrngReg)
    (m' : (ℓ : Loc Cert.BackActReferenceIdeal.nD Cert.BackActReferenceIdeal.τ Cert.BackActReferenceIdeal.sig) → Buf (Elt Ideal) ℓ) (g' : Dev Cert.BackActReferenceIdeal.nD → PrngReg), Pre_BackActIdeal m →
    (∀ c : Dev Cert.BackActIdeal.nD,
      m' ((c.tc : Thread Cert.BackActReferenceIdeal.nD Cert.BackActReferenceIdeal.τ).loc Cert.BackActReferenceIdeal.main_arg0) = m ((c.tc : Thread Cert.BackActIdeal.nD Cert.BackActIdeal.τ).loc Cert.BackActIdeal.main_arg0)
      ∧ m' ((c.tc : Thread Cert.BackActReferenceIdeal.nD Cert.BackActReferenceIdeal.τ).loc Cert.BackActReferenceIdeal.main_arg1) = m ((c.tc : Thread Cert.BackActIdeal.nD Cert.BackActIdeal.τ).loc Cert.BackActIdeal.main_arg1)) →
    ∃ (v0 : (c : Dev Cert.BackActIdeal.nD) → Buf (Elt Ideal) ((c.tc : Thread Cert.BackActIdeal.nD Cert.BackActIdeal.τ).loc Cert.BackActIdeal.main_v0)),
      θ_run (Cert.BackActIdeal.defs (F := Ideal)) (onTc (τ := Cert.BackActIdeal.τ) (Cert.BackActIdeal.main (F := Ideal))) ⟨m, fun _ => 0, g⟩ (fun r => ∀ c : Dev Cert.BackActIdeal.nD,
          r.2.mem ((c.tc : Thread Cert.BackActIdeal.nD Cert.BackActIdeal.τ).loc Cert.BackActIdeal.main_v0) = v0 c
          ∧ r.2.mem ((c.tc : Thread Cert.BackActIdeal.nD Cert.BackActIdeal.τ).loc Cert.BackActIdeal.main_arg0) = m ((c.tc : Thread Cert.BackActIdeal.nD Cert.BackActIdeal.τ).loc Cert.BackActIdeal.main_arg0)
          ∧ r.2.mem ((c.tc : Thread Cert.BackActIdeal.nD Cert.BackActIdeal.τ).loc Cert.BackActIdeal.main_arg1) = m ((c.tc : Thread Cert.BackActIdeal.nD Cert.BackActIdeal.τ).loc Cert.BackActIdeal.main_arg1))
      ∧ θ_run (Cert.BackActReferenceIdeal.defs (F := Ideal)) (onTc (τ := Cert.BackActReferenceIdeal.τ) (Cert.BackActReferenceIdeal.main (F := Ideal))) ⟨m', fun _ => 0, g'⟩ (fun r => ∀ c : Dev Cert.BackActReferenceIdeal.nD,
          r.2.mem ((c.tc : Thread Cert.BackActReferenceIdeal.nD Cert.BackActReferenceIdeal.τ).loc Cert.BackActReferenceIdeal.main_v2) = v0 c
          ∧ r.2.mem ((c.tc : Thread Cert.BackActReferenceIdeal.nD Cert.BackActReferenceIdeal.τ).loc Cert.BackActReferenceIdeal.main_arg0) = m' ((c.tc : Thread Cert.BackActReferenceIdeal.nD Cert.BackActReferenceIdeal.τ).loc Cert.BackActReferenceIdeal.main_arg0)
          ∧ r.2.mem ((c.tc : Thread Cert.BackActReferenceIdeal.nD Cert.BackActReferenceIdeal.τ).loc Cert.BackActReferenceIdeal.main_arg1) = m' ((c.tc : Thread Cert.BackActReferenceIdeal.nD Cert.BackActReferenceIdeal.τ).loc Cert.BackActReferenceIdeal.main_arg1))

def preserves_BackUp_BackUpIdeal : Prop :=
  True

def algebraic_BackUpIdeal_BackUpReferenceIdeal [hBackUpIdeal : Cert.BackUpIdeal.Facts] [hBackUpReferenceIdeal : Cert.BackUpReferenceIdeal.Facts] : Prop :=
  ∀ (m : (ℓ : Loc Cert.BackUpIdeal.nD Cert.BackUpIdeal.τ Cert.BackUpIdeal.sig) → Buf (Elt Ideal) ℓ) (g : Dev Cert.BackUpIdeal.nD → PrngReg)
    (m' : (ℓ : Loc Cert.BackUpReferenceIdeal.nD Cert.BackUpReferenceIdeal.τ Cert.BackUpReferenceIdeal.sig) → Buf (Elt Ideal) ℓ) (g' : Dev Cert.BackUpReferenceIdeal.nD → PrngReg), Pre_BackUpIdeal m →
    (∀ c : Dev Cert.BackUpIdeal.nD,
      m' ((c.tc : Thread Cert.BackUpReferenceIdeal.nD Cert.BackUpReferenceIdeal.τ).loc Cert.BackUpReferenceIdeal.main_arg0) = m ((c.tc : Thread Cert.BackUpIdeal.nD Cert.BackUpIdeal.τ).loc Cert.BackUpIdeal.main_arg0)
      ∧ m' ((c.tc : Thread Cert.BackUpReferenceIdeal.nD Cert.BackUpReferenceIdeal.τ).loc Cert.BackUpReferenceIdeal.main_arg1) = m ((c.tc : Thread Cert.BackUpIdeal.nD Cert.BackUpIdeal.τ).loc Cert.BackUpIdeal.main_arg1)) →
    ∃ (v0 : (c : Dev Cert.BackUpIdeal.nD) → Buf (Elt Ideal) ((c.tc : Thread Cert.BackUpIdeal.nD Cert.BackUpIdeal.τ).loc Cert.BackUpIdeal.main_v0)),
      θ_run (Cert.BackUpIdeal.defs (F := Ideal)) (onTc (τ := Cert.BackUpIdeal.τ) (Cert.BackUpIdeal.main (F := Ideal))) ⟨m, fun _ => 0, g⟩ (fun r => ∀ c : Dev Cert.BackUpIdeal.nD,
          r.2.mem ((c.tc : Thread Cert.BackUpIdeal.nD Cert.BackUpIdeal.τ).loc Cert.BackUpIdeal.main_v0) = v0 c
          ∧ r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
          ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1))
      ∧ θ_run (Cert.BackUpReferenceIdeal.defs (F := Ideal)) (onTc (τ := Cert.BackUpReferenceIdeal.τ) (Cert.BackUpReferenceIdeal.main (F := Ideal))) ⟨m', fun _ => 0, g'⟩ (fun r => ∀ c : Dev Cert.BackUpReferenceIdeal.nD,
          r.2.mem ((c.tc : Thread Cert.BackUpReferenceIdeal.nD Cert.BackUpReferenceIdeal.τ).loc Cert.BackUpReferenceIdeal.main_v3) = v0 c
          ∧ r.2.mem ((c.tc : Thread Cert.BackUpReferenceIdeal.nD Cert.BackUpReferenceIdeal.τ).loc Cert.BackUpReferenceIdeal.main_arg0) = m' ((c.tc : Thread Cert.BackUpReferenceIdeal.nD Cert.BackUpReferenceIdeal.τ).loc Cert.BackUpReferenceIdeal.main_arg0)
          ∧ r.2.mem ((c.tc : Thread Cert.BackUpReferenceIdeal.nD Cert.BackUpReferenceIdeal.τ).loc Cert.BackUpReferenceIdeal.main_arg1) = m' ((c.tc : Thread Cert.BackUpReferenceIdeal.nD Cert.BackUpReferenceIdeal.τ).loc Cert.BackUpReferenceIdeal.main_arg1))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v3) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_BackMix_BackMixIdeal : Prop :=
  True

def algebraic_BackMixIdeal_BackMixReferenceIdeal [hBackMixIdeal : Cert.BackMixIdeal.Facts] [hBackMixReferenceIdeal : Cert.BackMixReferenceIdeal.Facts] : Prop :=
  ∀ (m : (ℓ : Loc Cert.BackMixIdeal.nD Cert.BackMixIdeal.τ Cert.BackMixIdeal.sig) → Buf (Elt Ideal) ℓ) (g : Dev Cert.BackMixIdeal.nD → PrngReg)
    (m' : (ℓ : Loc Cert.BackMixReferenceIdeal.nD Cert.BackMixReferenceIdeal.τ Cert.BackMixReferenceIdeal.sig) → Buf (Elt Ideal) ℓ) (g' : Dev Cert.BackMixReferenceIdeal.nD → PrngReg), Pre_BackMixIdeal m →
    (∀ c : Dev Cert.BackMixIdeal.nD,
      m' ((c.tc : Thread Cert.BackMixReferenceIdeal.nD Cert.BackMixReferenceIdeal.τ).loc Cert.BackMixReferenceIdeal.main_arg0) = m ((c.tc : Thread Cert.BackMixIdeal.nD Cert.BackMixIdeal.τ).loc Cert.BackMixIdeal.main_arg0)
      ∧ m' ((c.tc : Thread Cert.BackMixReferenceIdeal.nD Cert.BackMixReferenceIdeal.τ).loc Cert.BackMixReferenceIdeal.main_arg1) = m ((c.tc : Thread Cert.BackMixIdeal.nD Cert.BackMixIdeal.τ).loc Cert.BackMixIdeal.main_arg1)) →
    ∃ (v0 : (c : Dev Cert.BackMixIdeal.nD) → Buf (Elt Ideal) ((c.tc : Thread Cert.BackMixIdeal.nD Cert.BackMixIdeal.τ).loc Cert.BackMixIdeal.main_v0)),
      θ_run (Cert.BackMixIdeal.defs (F := Ideal)) (onTc (τ := Cert.BackMixIdeal.τ) (Cert.BackMixIdeal.main (F := Ideal))) ⟨m, fun _ => 0, g⟩ (fun r => ∀ c : Dev Cert.BackMixIdeal.nD,
          r.2.mem ((c.tc : Thread Cert.BackMixIdeal.nD Cert.BackMixIdeal.τ).loc Cert.BackMixIdeal.main_v0) = v0 c
          ∧ r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
          ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1))
      ∧ θ_run (Cert.BackMixReferenceIdeal.defs (F := Ideal)) (onTc (τ := Cert.BackMixReferenceIdeal.τ) (Cert.BackMixReferenceIdeal.main (F := Ideal))) ⟨m', fun _ => 0, g'⟩ (fun r => ∀ c : Dev Cert.BackMixReferenceIdeal.nD,
          r.2.mem ((c.tc : Thread Cert.BackMixReferenceIdeal.nD Cert.BackMixReferenceIdeal.τ).loc Cert.BackMixReferenceIdeal.main_v2) = v0 c
          ∧ r.2.mem ((c.tc : Thread Cert.BackMixReferenceIdeal.nD Cert.BackMixReferenceIdeal.τ).loc Cert.BackMixReferenceIdeal.main_arg0) = m' ((c.tc : Thread Cert.BackMixReferenceIdeal.nD Cert.BackMixReferenceIdeal.τ).loc Cert.BackMixReferenceIdeal.main_arg0)
          ∧ r.2.mem ((c.tc : Thread Cert.BackMixReferenceIdeal.nD Cert.BackMixReferenceIdeal.τ).loc Cert.BackMixReferenceIdeal.main_arg1) = m' ((c.tc : Thread Cert.BackMixReferenceIdeal.nD Cert.BackMixReferenceIdeal.τ).loc Cert.BackMixReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v2) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_BackFg_BackFgIdeal : Prop :=
  True

def algebraic_BackFgIdeal_BackFgReferenceIdeal [hBackFgIdeal : Cert.BackFgIdeal.Facts] [hBackFgReferenceIdeal : Cert.BackFgReferenceIdeal.Facts] : Prop :=
  ∀ (m : (ℓ : Loc Cert.BackFgIdeal.nD Cert.BackFgIdeal.τ Cert.BackFgIdeal.sig) → Buf (Elt Ideal) ℓ) (g : Dev Cert.BackFgIdeal.nD → PrngReg)
    (m' : (ℓ : Loc Cert.BackFgReferenceIdeal.nD Cert.BackFgReferenceIdeal.τ Cert.BackFgReferenceIdeal.sig) → Buf (Elt Ideal) ℓ) (g' : Dev Cert.BackFgReferenceIdeal.nD → PrngReg), Pre_BackFgIdeal m →
    (∀ c : Dev Cert.BackFgIdeal.nD,
      m' ((c.tc : Thread Cert.BackFgReferenceIdeal.nD Cert.BackFgReferenceIdeal.τ).loc Cert.BackFgReferenceIdeal.main_arg0) = m ((c.tc : Thread Cert.BackFgIdeal.nD Cert.BackFgIdeal.τ).loc Cert.BackFgIdeal.main_arg0)
      ∧ m' ((c.tc : Thread Cert.BackFgReferenceIdeal.nD Cert.BackFgReferenceIdeal.τ).loc Cert.BackFgReferenceIdeal.main_arg1) = m ((c.tc : Thread Cert.BackFgIdeal.nD Cert.BackFgIdeal.τ).loc Cert.BackFgIdeal.main_arg1)) →
    ∃ (v0 : (c : Dev Cert.BackFgIdeal.nD) → Buf (Elt Ideal) ((c.tc : Thread Cert.BackFgIdeal.nD Cert.BackFgIdeal.τ).loc Cert.BackFgIdeal.main_v0)),
      θ_run (Cert.BackFgIdeal.defs (F := Ideal)) (onTc (τ := Cert.BackFgIdeal.τ) (Cert.BackFgIdeal.main (F := Ideal))) ⟨m, fun _ => 0, g⟩ (fun r => ∀ c : Dev Cert.BackFgIdeal.nD,
          r.2.mem ((c.tc : Thread Cert.BackFgIdeal.nD Cert.BackFgIdeal.τ).loc Cert.BackFgIdeal.main_v0) = v0 c
          ∧ r.2.mem ((c.tc : Thread Cert.BackFgIdeal.nD Cert.BackFgIdeal.τ).loc Cert.BackFgIdeal.main_arg0) = m ((c.tc : Thread Cert.BackFgIdeal.nD Cert.BackFgIdeal.τ).loc Cert.BackFgIdeal.main_arg0)
          ∧ r.2.mem ((c.tc : Thread Cert.BackFgIdeal.nD Cert.BackFgIdeal.τ).loc Cert.BackFgIdeal.main_arg1) = m ((c.tc : Thread Cert.BackFgIdeal.nD Cert.BackFgIdeal.τ).loc Cert.BackFgIdeal.main_arg1))
      ∧ θ_run (Cert.BackFgReferenceIdeal.defs (F := Ideal)) (onTc (τ := Cert.BackFgReferenceIdeal.τ) (Cert.BackFgReferenceIdeal.main (F := Ideal))) ⟨m', fun _ => 0, g'⟩ (fun r => ∀ c : Dev Cert.BackFgReferenceIdeal.nD,
          r.2.mem ((c.tc : Thread Cert.BackFgReferenceIdeal.nD Cert.BackFgReferenceIdeal.τ).loc Cert.BackFgReferenceIdeal.main_v2) = v0 c
          ∧ r.2.mem ((c.tc : Thread Cert.BackFgReferenceIdeal.nD Cert.BackFgReferenceIdeal.τ).loc Cert.BackFgReferenceIdeal.main_arg0) = m' ((c.tc : Thread Cert.BackFgReferenceIdeal.nD Cert.BackFgReferenceIdeal.τ).loc Cert.BackFgReferenceIdeal.main_arg0)
          ∧ r.2.mem ((c.tc : Thread Cert.BackFgReferenceIdeal.nD Cert.BackFgReferenceIdeal.τ).loc Cert.BackFgReferenceIdeal.main_arg1) = m' ((c.tc : Thread Cert.BackFgReferenceIdeal.nD Cert.BackFgReferenceIdeal.τ).loc Cert.BackFgReferenceIdeal.main_arg1))

def preserves_BackA_BackAIdeal : Prop :=
  True

def algebraic_BackAIdeal_BackAReferenceIdeal [hBackAIdeal : Cert.BackAIdeal.Facts] [hBackAReferenceIdeal : Cert.BackAReferenceIdeal.Facts] : Prop :=
  ∀ (m : (ℓ : Loc Cert.BackAIdeal.nD Cert.BackAIdeal.τ Cert.BackAIdeal.sig) → Buf (Elt Ideal) ℓ) (g : Dev Cert.BackAIdeal.nD → PrngReg)
    (m' : (ℓ : Loc Cert.BackAReferenceIdeal.nD Cert.BackAReferenceIdeal.τ Cert.BackAReferenceIdeal.sig) → Buf (Elt Ideal) ℓ) (g' : Dev Cert.BackAReferenceIdeal.nD → PrngReg), Pre_BackAIdeal m →
    (∀ c : Dev Cert.BackAIdeal.nD,
      m' ((c.tc : Thread Cert.BackAReferenceIdeal.nD Cert.BackAReferenceIdeal.τ).loc Cert.BackAReferenceIdeal.main_arg0) = m ((c.tc : Thread Cert.BackAIdeal.nD Cert.BackAIdeal.τ).loc Cert.BackAIdeal.main_arg0)
      ∧ m' ((c.tc : Thread Cert.BackAReferenceIdeal.nD Cert.BackAReferenceIdeal.τ).loc Cert.BackAReferenceIdeal.main_arg1) = m ((c.tc : Thread Cert.BackAIdeal.nD Cert.BackAIdeal.τ).loc Cert.BackAIdeal.main_arg1)
      ∧ m' ((c.tc : Thread Cert.BackAReferenceIdeal.nD Cert.BackAReferenceIdeal.τ).loc Cert.BackAReferenceIdeal.main_arg2) = m ((c.tc : Thread Cert.BackAIdeal.nD Cert.BackAIdeal.τ).loc Cert.BackAIdeal.main_arg2)) →
    ∃ (v0 : (c : Dev Cert.BackAIdeal.nD) → Buf (Elt Ideal) ((c.tc : Thread Cert.BackAIdeal.nD Cert.BackAIdeal.τ).loc Cert.BackAIdeal.main_v0)),
      θ_run (Cert.BackAIdeal.defs (F := Ideal)) (onTc (τ := Cert.BackAIdeal.τ) (Cert.BackAIdeal.main (F := Ideal))) ⟨m, fun _ => 0, g⟩ (fun r => ∀ c : Dev Cert.BackAIdeal.nD,
          r.2.mem ((c.tc : Thread Cert.BackAIdeal.nD Cert.BackAIdeal.τ).loc Cert.BackAIdeal.main_v0) = v0 c
          ∧ r.2.mem ((c.tc : Thread Cert.BackAIdeal.nD Cert.BackAIdeal.τ).loc Cert.BackAIdeal.main_arg0) = m ((c.tc : Thread Cert.BackAIdeal.nD Cert.BackAIdeal.τ).loc Cert.BackAIdeal.main_arg0)
          ∧ r.2.mem ((c.tc : Thread Cert.BackAIdeal.nD Cert.BackAIdeal.τ).loc Cert.BackAIdeal.main_arg1) = m ((c.tc : Thread Cert.BackAIdeal.nD Cert.BackAIdeal.τ).loc Cert.BackAIdeal.main_arg1)
          ∧ r.2.mem ((c.tc : Thread Cert.BackAIdeal.nD Cert.BackAIdeal.τ).loc Cert.BackAIdeal.main_arg2) = m ((c.tc : Thread Cert.BackAIdeal.nD Cert.BackAIdeal.τ).loc Cert.BackAIdeal.main_arg2))
      ∧ θ_run (Cert.BackAReferenceIdeal.defs (F := Ideal)) (onTc (τ := Cert.BackAReferenceIdeal.τ) (Cert.BackAReferenceIdeal.main (F := Ideal))) ⟨m', fun _ => 0, g'⟩ (fun r => ∀ c : Dev Cert.BackAReferenceIdeal.nD,
          r.2.mem ((c.tc : Thread Cert.BackAReferenceIdeal.nD Cert.BackAReferenceIdeal.τ).loc Cert.BackAReferenceIdeal.main_v4) = v0 c
          ∧ r.2.mem ((c.tc : Thread Cert.BackAReferenceIdeal.nD Cert.BackAReferenceIdeal.τ).loc Cert.BackAReferenceIdeal.main_arg0) = m' ((c.tc : Thread Cert.BackAReferenceIdeal.nD Cert.BackAReferenceIdeal.τ).loc Cert.BackAReferenceIdeal.main_arg0)
          ∧ r.2.mem ((c.tc : Thread Cert.BackAReferenceIdeal.nD Cert.BackAReferenceIdeal.τ).loc Cert.BackAReferenceIdeal.main_arg1) = m' ((c.tc : Thread Cert.BackAReferenceIdeal.nD Cert.BackAReferenceIdeal.τ).loc Cert.BackAReferenceIdeal.main_arg1)
          ∧ r.2.mem ((c.tc : Thread Cert.BackAReferenceIdeal.nD Cert.BackAReferenceIdeal.τ).loc Cert.BackAReferenceIdeal.main_arg2) = m' ((c.tc : Thread Cert.BackAReferenceIdeal.nD Cert.BackAReferenceIdeal.τ).loc Cert.BackAReferenceIdeal.main_arg2))

def preserves_GradA_GradAIdeal : Prop :=
  True

def algebraic_GradAIdeal_GradAReferenceIdeal [hGradAIdeal : Cert.GradAIdeal.Facts] [hGradAReferenceIdeal : Cert.GradAReferenceIdeal.Facts] : Prop :=
  ∀ (m : (ℓ : Loc Cert.GradAIdeal.nD Cert.GradAIdeal.τ Cert.GradAIdeal.sig) → Buf (Elt Ideal) ℓ) (g : Dev Cert.GradAIdeal.nD → PrngReg)
    (m' : (ℓ : Loc Cert.GradAReferenceIdeal.nD Cert.GradAReferenceIdeal.τ Cert.GradAReferenceIdeal.sig) → Buf (Elt Ideal) ℓ) (g' : Dev Cert.GradAReferenceIdeal.nD → PrngReg), Pre_GradAIdeal m →
    (∀ c : Dev Cert.GradAIdeal.nD,
      m' ((c.tc : Thread Cert.GradAReferenceIdeal.nD Cert.GradAReferenceIdeal.τ).loc Cert.GradAReferenceIdeal.main_arg0) = m ((c.tc : Thread Cert.GradAIdeal.nD Cert.GradAIdeal.τ).loc Cert.GradAIdeal.main_arg0)
      ∧ m' ((c.tc : Thread Cert.GradAReferenceIdeal.nD Cert.GradAReferenceIdeal.τ).loc Cert.GradAReferenceIdeal.main_arg1) = m ((c.tc : Thread Cert.GradAIdeal.nD Cert.GradAIdeal.τ).loc Cert.GradAIdeal.main_arg1)) →
    ∃ (v0 : (c : Dev Cert.GradAIdeal.nD) → Buf (Elt Ideal) ((c.tc : Thread Cert.GradAIdeal.nD Cert.GradAIdeal.τ).loc Cert.GradAIdeal.main_v0)),
      θ_run (Cert.GradAIdeal.defs (F := Ideal)) (onTc (τ := Cert.GradAIdeal.τ) (Cert.GradAIdeal.main (F := Ideal))) ⟨m, fun _ => 0, g⟩ (fun r => ∀ c : Dev Cert.GradAIdeal.nD,
          r.2.mem ((c.tc : Thread Cert.GradAIdeal.nD Cert.GradAIdeal.τ).loc Cert.GradAIdeal.main_v0) = v0 c
          ∧ r.2.mem ((c.tc : Thread Cert.GradAIdeal.nD Cert.GradAIdeal.τ).loc Cert.GradAIdeal.main_arg0) = m ((c.tc : Thread Cert.GradAIdeal.nD Cert.GradAIdeal.τ).loc Cert.GradAIdeal.main_arg0)
          ∧ r.2.mem ((c.tc : Thread Cert.GradAIdeal.nD Cert.GradAIdeal.τ).loc Cert.GradAIdeal.main_arg1) = m ((c.tc : Thread Cert.GradAIdeal.nD Cert.GradAIdeal.τ).loc Cert.GradAIdeal.main_arg1))
      ∧ θ_run (Cert.GradAReferenceIdeal.defs (F := Ideal)) (onTc (τ := Cert.GradAReferenceIdeal.τ) (Cert.GradAReferenceIdeal.main (F := Ideal))) ⟨m', fun _ => 0, g'⟩ (fun r => ∀ c : Dev Cert.GradAReferenceIdeal.nD,
          r.2.mem ((c.tc : Thread Cert.GradAReferenceIdeal.nD Cert.GradAReferenceIdeal.τ).loc Cert.GradAReferenceIdeal.main_v3) = v0 c
          ∧ r.2.mem ((c.tc : Thread Cert.GradAReferenceIdeal.nD Cert.GradAReferenceIdeal.τ).loc Cert.GradAReferenceIdeal.main_arg0) = m' ((c.tc : Thread Cert.GradAReferenceIdeal.nD Cert.GradAReferenceIdeal.τ).loc Cert.GradAReferenceIdeal.main_arg0)
          ∧ r.2.mem ((c.tc : Thread Cert.GradAReferenceIdeal.nD Cert.GradAReferenceIdeal.τ).loc Cert.GradAReferenceIdeal.main_arg1) = m' ((c.tc : Thread Cert.GradAReferenceIdeal.nD Cert.GradAReferenceIdeal.τ).loc Cert.GradAReferenceIdeal.main_arg1))

def preserves_GradFg_GradFgIdeal : Prop :=
  True

def algebraic_GradFgIdeal_GradFgReferenceIdeal [hGradFgIdeal : Cert.GradFgIdeal.Facts] [hGradFgReferenceIdeal : Cert.GradFgReferenceIdeal.Facts] : Prop :=
  ∀ (m : (ℓ : Loc Cert.GradFgIdeal.nD Cert.GradFgIdeal.τ Cert.GradFgIdeal.sig) → Buf (Elt Ideal) ℓ) (g : Dev Cert.GradFgIdeal.nD → PrngReg)
    (m' : (ℓ : Loc Cert.GradFgReferenceIdeal.nD Cert.GradFgReferenceIdeal.τ Cert.GradFgReferenceIdeal.sig) → Buf (Elt Ideal) ℓ) (g' : Dev Cert.GradFgReferenceIdeal.nD → PrngReg), Pre_GradFgIdeal m →
    (∀ c : Dev Cert.GradFgIdeal.nD,
      m' ((c.tc : Thread Cert.GradFgReferenceIdeal.nD Cert.GradFgReferenceIdeal.τ).loc Cert.GradFgReferenceIdeal.main_arg0) = m ((c.tc : Thread Cert.GradFgIdeal.nD Cert.GradFgIdeal.τ).loc Cert.GradFgIdeal.main_arg0)
      ∧ m' ((c.tc : Thread Cert.GradFgReferenceIdeal.nD Cert.GradFgReferenceIdeal.τ).loc Cert.GradFgReferenceIdeal.main_arg1) = m ((c.tc : Thread Cert.GradFgIdeal.nD Cert.GradFgIdeal.τ).loc Cert.GradFgIdeal.main_arg1)) →
    ∃ (v0 : (c : Dev Cert.GradFgIdeal.nD) → Buf (Elt Ideal) ((c.tc : Thread Cert.GradFgIdeal.nD Cert.GradFgIdeal.τ).loc Cert.GradFgIdeal.main_v0)),
      θ_run (Cert.GradFgIdeal.defs (F := Ideal)) (onTc (τ := Cert.GradFgIdeal.τ) (Cert.GradFgIdeal.main (F := Ideal))) ⟨m, fun _ => 0, g⟩ (fun r => ∀ c : Dev Cert.GradFgIdeal.nD,
          r.2.mem ((c.tc : Thread Cert.GradFgIdeal.nD Cert.GradFgIdeal.τ).loc Cert.GradFgIdeal.main_v0) = v0 c
          ∧ r.2.mem ((c.tc : Thread Cert.GradFgIdeal.nD Cert.GradFgIdeal.τ).loc Cert.GradFgIdeal.main_arg0) = m ((c.tc : Thread Cert.GradFgIdeal.nD Cert.GradFgIdeal.τ).loc Cert.GradFgIdeal.main_arg0)
          ∧ r.2.mem ((c.tc : Thread Cert.GradFgIdeal.nD Cert.GradFgIdeal.τ).loc Cert.GradFgIdeal.main_arg1) = m ((c.tc : Thread Cert.GradFgIdeal.nD Cert.GradFgIdeal.τ).loc Cert.GradFgIdeal.main_arg1))
      ∧ θ_run (Cert.GradFgReferenceIdeal.defs (F := Ideal)) (onTc (τ := Cert.GradFgReferenceIdeal.τ) (Cert.GradFgReferenceIdeal.main (F := Ideal))) ⟨m', fun _ => 0, g'⟩ (fun r => ∀ c : Dev Cert.GradFgReferenceIdeal.nD,
          r.2.mem ((c.tc : Thread Cert.GradFgReferenceIdeal.nD Cert.GradFgReferenceIdeal.τ).loc Cert.GradFgReferenceIdeal.main_v1) = v0 c
          ∧ r.2.mem ((c.tc : Thread Cert.GradFgReferenceIdeal.nD Cert.GradFgReferenceIdeal.τ).loc Cert.GradFgReferenceIdeal.main_arg0) = m' ((c.tc : Thread Cert.GradFgReferenceIdeal.nD Cert.GradFgReferenceIdeal.τ).loc Cert.GradFgReferenceIdeal.main_arg0)
          ∧ r.2.mem ((c.tc : Thread Cert.GradFgReferenceIdeal.nD Cert.GradFgReferenceIdeal.τ).loc Cert.GradFgReferenceIdeal.main_arg1) = m' ((c.tc : Thread Cert.GradFgReferenceIdeal.nD Cert.GradFgReferenceIdeal.τ).loc Cert.GradFgReferenceIdeal.main_arg1))

def Claim : Prop :=
  ∃ (hGather : Cert.Gather.Facts) (hGatherIdeal : Cert.GatherIdeal.Facts) (hGatherReferenceIdeal : Cert.GatherReferenceIdeal.Facts) (hGatherReference : Cert.GatherReference.Facts) (hSwap : Cert.Swap.Facts) (hSwapIdeal : Cert.SwapIdeal.Facts) (hSwapReferenceIdeal : Cert.SwapReferenceIdeal.Facts) (hSwapReference : Cert.SwapReference.Facts) (hSend : Cert.Send.Facts) (hSendIdeal : Cert.SendIdeal.Facts) (hSendReferenceIdeal : Cert.SendReferenceIdeal.Facts) (hSendReference : Cert.SendReference.Facts) (hShare : Cert.Share.Facts) (hShareIdeal : Cert.ShareIdeal.Facts) (hShareReferenceIdeal : Cert.ShareReferenceIdeal.Facts) (hShareReference : Cert.ShareReference.Facts) (hAdamIn : Cert.AdamIn.Facts) (hAdamInIdeal : Cert.AdamInIdeal.Facts) (hAdamInReferenceIdeal : Cert.AdamInReferenceIdeal.Facts) (hAdamConvDw : Cert.AdamConvDw.Facts) (hAdamConvDwIdeal : Cert.AdamConvDwIdeal.Facts) (hAdamConvDwReferenceIdeal : Cert.AdamConvDwReferenceIdeal.Facts) (hAdamConvPw : Cert.AdamConvPw.Facts) (hAdamConvPwIdeal : Cert.AdamConvPwIdeal.Facts) (hAdamConvPwReferenceIdeal : Cert.AdamConvPwReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamFfnDw : Cert.AdamFfnDw.Facts) (hAdamFfnDwIdeal : Cert.AdamFfnDwIdeal.Facts) (hAdamFfnDwReferenceIdeal : Cert.AdamFfnDwReferenceIdeal.Facts) (hAdamDown : Cert.AdamDown.Facts) (hAdamDownIdeal : Cert.AdamDownIdeal.Facts) (hAdamDownReferenceIdeal : Cert.AdamDownReferenceIdeal.Facts) (hAdamSmall : Cert.AdamSmall.Facts) (hAdamSmallIdeal : Cert.AdamSmallIdeal.Facts) (hAdamSmallReferenceIdeal : Cert.AdamSmallReferenceIdeal.Facts) (hAddSibling : Cert.AddSibling.Facts) (hAddSiblingIdeal : Cert.AddSiblingIdeal.Facts) (hAddSiblingReferenceIdeal : Cert.AddSiblingReferenceIdeal.Facts) (hAddSiblingReference : Cert.AddSiblingReference.Facts) (hAddPartials : Cert.AddPartials.Facts) (hAddPartialsIdeal : Cert.AddPartialsIdeal.Facts) (hAddPartialsReferenceIdeal : Cert.AddPartialsReferenceIdeal.Facts) (hAddPartialsReference : Cert.AddPartialsReference.Facts) (hLoss : Cert.Loss.Facts) (hLossIdeal : Cert.LossIdeal.Facts) (hLossReferenceIdeal : Cert.LossReferenceIdeal.Facts) (hNorm : Cert.Norm.Facts) (hNormIdeal : Cert.NormIdeal.Facts) (hNormReferenceIdeal : Cert.NormReferenceIdeal.Facts) (hHidden : Cert.Hidden.Facts) (hHiddenIdeal : Cert.HiddenIdeal.Facts) (hHiddenReferenceIdeal : Cert.HiddenReferenceIdeal.Facts) (hDown : Cert.Down.Facts) (hDownIdeal : Cert.DownIdeal.Facts) (hDownReferenceIdeal : Cert.DownReferenceIdeal.Facts) (hProjA : Cert.ProjA.Facts) (hProjAIdeal : Cert.ProjAIdeal.Facts) (hProjAReferenceIdeal : Cert.ProjAReferenceIdeal.Facts) (hProjFg : Cert.ProjFg.Facts) (hProjFgIdeal : Cert.ProjFgIdeal.Facts) (hProjFgReferenceIdeal : Cert.ProjFgReferenceIdeal.Facts) (hOutProj : Cert.OutProj.Facts) (hOutProjIdeal : Cert.OutProjIdeal.Facts) (hOutProjReferenceIdeal : Cert.OutProjReferenceIdeal.Facts) (hUpProj : Cert.UpProj.Facts) (hUpProjIdeal : Cert.UpProjIdeal.Facts) (hUpProjReferenceIdeal : Cert.UpProjReferenceIdeal.Facts) (hDownProj : Cert.DownProj.Facts) (hDownProjIdeal : Cert.DownProjIdeal.Facts) (hDownProjReferenceIdeal : Cert.DownProjReferenceIdeal.Facts) (hBackAct : Cert.BackAct.Facts) (hBackActIdeal : Cert.BackActIdeal.Facts) (hBackActReferenceIdeal : Cert.BackActReferenceIdeal.Facts) (hBackUp : Cert.BackUp.Facts) (hBackUpIdeal : Cert.BackUpIdeal.Facts) (hBackUpReferenceIdeal : Cert.BackUpReferenceIdeal.Facts) (hGradUp : Cert.GradUp.Facts) (hGradUpIdeal : Cert.GradUpIdeal.Facts) (hGradUpReferenceIdeal : Cert.GradUpReferenceIdeal.Facts) (hBackMix : Cert.BackMix.Facts) (hBackMixIdeal : Cert.BackMixIdeal.Facts) (hBackMixReferenceIdeal : Cert.BackMixReferenceIdeal.Facts) (hGradOut : Cert.GradOut.Facts) (hGradOutIdeal : Cert.GradOutIdeal.Facts) (hGradOutReferenceIdeal : Cert.GradOutReferenceIdeal.Facts) (hBackFg : Cert.BackFg.Facts) (hBackFgIdeal : Cert.BackFgIdeal.Facts) (hBackFgReferenceIdeal : Cert.BackFgReferenceIdeal.Facts) (hBackA : Cert.BackA.Facts) (hBackAIdeal : Cert.BackAIdeal.Facts) (hBackAReferenceIdeal : Cert.BackAReferenceIdeal.Facts) (hGradA : Cert.GradA.Facts) (hGradAIdeal : Cert.GradAIdeal.Facts) (hGradAReferenceIdeal : Cert.GradAReferenceIdeal.Facts) (hGradFg : Cert.GradFg.Facts) (hGradFgIdeal : Cert.GradFgIdeal.Facts) (hGradFgReferenceIdeal : Cert.GradFgReferenceIdeal.Facts) (hPre_a_core : Cert.Pre_a_core.Facts) (hPre_a_chip : Cert.Pre_a_chip.Facts),
    quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_Send (hSend := hSend)
    ∧ quiescent_SendIdeal (hSendIdeal := hSendIdeal)
    ∧ quiescent_SendReferenceIdeal (hSendReferenceIdeal := hSendReferenceIdeal)
    ∧ quiescent_SendReference (hSendReference := hSendReference)
    ∧ quiescent_Share (hShare := hShare)
    ∧ quiescent_ShareIdeal (hShareIdeal := hShareIdeal)
    ∧ quiescent_ShareReferenceIdeal (hShareReferenceIdeal := hShareReferenceIdeal)
    ∧ quiescent_ShareReference (hShareReference := hShareReference)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamConvDw (hAdamConvDw := hAdamConvDw)
    ∧ quiescent_AdamConvDwIdeal (hAdamConvDwIdeal := hAdamConvDwIdeal)
    ∧ quiescent_AdamConvDwReferenceIdeal (hAdamConvDwReferenceIdeal := hAdamConvDwReferenceIdeal)
    ∧ quiescent_AdamConvPw (hAdamConvPw := hAdamConvPw)
    ∧ quiescent_AdamConvPwIdeal (hAdamConvPwIdeal := hAdamConvPwIdeal)
    ∧ quiescent_AdamConvPwReferenceIdeal (hAdamConvPwReferenceIdeal := hAdamConvPwReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamFfnDw (hAdamFfnDw := hAdamFfnDw)
    ∧ quiescent_AdamFfnDwIdeal (hAdamFfnDwIdeal := hAdamFfnDwIdeal)
    ∧ quiescent_AdamFfnDwReferenceIdeal (hAdamFfnDwReferenceIdeal := hAdamFfnDwReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AddSibling (hAddSibling := hAddSibling) (hPre_a_core := hPre_a_core)
    ∧ quiescent_AddSiblingIdeal (hAddSiblingIdeal := hAddSiblingIdeal) (hPre_a_core := hPre_a_core)
    ∧ quiescent_AddSiblingReferenceIdeal (hAddSiblingReferenceIdeal := hAddSiblingReferenceIdeal)
    ∧ quiescent_AddSiblingReferenceIdeal_pre_a_core (hAddSiblingReferenceIdeal := hAddSiblingReferenceIdeal) (hPre_a_core := hPre_a_core)
    ∧ quiescent_AddSiblingReference (hAddSiblingReference := hAddSiblingReference) (hPre_a_core := hPre_a_core)
    ∧ quiescent_AddPartials (hAddPartials := hAddPartials) (hPre_a_chip := hPre_a_chip)
    ∧ quiescent_AddPartialsIdeal (hAddPartialsIdeal := hAddPartialsIdeal) (hPre_a_chip := hPre_a_chip)
    ∧ quiescent_AddPartialsReferenceIdeal (hAddPartialsReferenceIdeal := hAddPartialsReferenceIdeal)
    ∧ quiescent_AddPartialsReferenceIdeal_pre_a_chip (hAddPartialsReferenceIdeal := hAddPartialsReferenceIdeal) (hPre_a_chip := hPre_a_chip)
    ∧ quiescent_AddPartialsReference (hAddPartialsReference := hAddPartialsReference) (hPre_a_chip := hPre_a_chip)
    ∧ quiescent_Loss (hLoss := hLoss)
    ∧ quiescent_LossIdeal (hLossIdeal := hLossIdeal)
    ∧ quiescent_LossReferenceIdeal (hLossReferenceIdeal := hLossReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Down (hDown := hDown)
    ∧ quiescent_DownIdeal (hDownIdeal := hDownIdeal)
    ∧ quiescent_DownReferenceIdeal (hDownReferenceIdeal := hDownReferenceIdeal)
    ∧ quiescent_ProjA (hProjA := hProjA)
    ∧ quiescent_ProjAIdeal (hProjAIdeal := hProjAIdeal)
    ∧ quiescent_ProjAReferenceIdeal (hProjAReferenceIdeal := hProjAReferenceIdeal)
    ∧ quiescent_ProjFg (hProjFg := hProjFg)
    ∧ quiescent_ProjFgIdeal (hProjFgIdeal := hProjFgIdeal)
    ∧ quiescent_ProjFgReferenceIdeal (hProjFgReferenceIdeal := hProjFgReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_DownProj (hDownProj := hDownProj)
    ∧ quiescent_DownProjIdeal (hDownProjIdeal := hDownProjIdeal)
    ∧ quiescent_DownProjReferenceIdeal (hDownProjReferenceIdeal := hDownProjReferenceIdeal)
    ∧ quiescent_BackAct (hBackAct := hBackAct)
    ∧ quiescent_BackActIdeal (hBackActIdeal := hBackActIdeal)
    ∧ quiescent_BackActReferenceIdeal (hBackActReferenceIdeal := hBackActReferenceIdeal)
    ∧ quiescent_BackUp (hBackUp := hBackUp)
    ∧ quiescent_BackUpIdeal (hBackUpIdeal := hBackUpIdeal)
    ∧ quiescent_BackUpReferenceIdeal (hBackUpReferenceIdeal := hBackUpReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_BackMix (hBackMix := hBackMix)
    ∧ quiescent_BackMixIdeal (hBackMixIdeal := hBackMixIdeal)
    ∧ quiescent_BackMixReferenceIdeal (hBackMixReferenceIdeal := hBackMixReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_BackFg (hBackFg := hBackFg)
    ∧ quiescent_BackFgIdeal (hBackFgIdeal := hBackFgIdeal)
    ∧ quiescent_BackFgReferenceIdeal (hBackFgReferenceIdeal := hBackFgReferenceIdeal)
    ∧ quiescent_BackA (hBackA := hBackA)
    ∧ quiescent_BackAIdeal (hBackAIdeal := hBackAIdeal)
    ∧ quiescent_BackAReferenceIdeal (hBackAReferenceIdeal := hBackAReferenceIdeal)
    ∧ quiescent_GradA (hGradA := hGradA)
    ∧ quiescent_GradAIdeal (hGradAIdeal := hGradAIdeal)
    ∧ quiescent_GradAReferenceIdeal (hGradAReferenceIdeal := hGradAReferenceIdeal)
    ∧ quiescent_GradFg (hGradFg := hGradFg)
    ∧ quiescent_GradFgIdeal (hGradFgIdeal := hGradFgIdeal)
    ∧ quiescent_GradFgReferenceIdeal (hGradFgReferenceIdeal := hGradFgReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Swap_SwapIdeal
    ∧ algebraic_SwapIdeal_SwapReferenceIdeal (hSwapIdeal := hSwapIdeal) (hSwapReferenceIdeal := hSwapReferenceIdeal)
    ∧ bitexact_Swap_SwapReference (hSwap := hSwap) (hSwapReference := hSwapReference)
    ∧ preserves_Send_SendIdeal
    ∧ algebraic_SendIdeal_SendReferenceIdeal (hSendIdeal := hSendIdeal) (hSendReferenceIdeal := hSendReferenceIdeal)
    ∧ bitexact_Send_SendReference (hSend := hSend) (hSendReference := hSendReference)
    ∧ preserves_Share_ShareIdeal
    ∧ algebraic_ShareIdeal_ShareReferenceIdeal (hShareIdeal := hShareIdeal) (hShareReferenceIdeal := hShareReferenceIdeal)
    ∧ bitexact_Share_ShareReference (hShare := hShare) (hShareReference := hShareReference)
    ∧ preserves_AdamIn_AdamInIdeal
    ∧ algebraic_AdamInIdeal_AdamInReferenceIdeal (hAdamInIdeal := hAdamInIdeal) (hAdamInReferenceIdeal := hAdamInReferenceIdeal)
    ∧ preserves_AdamConvDw_AdamConvDwIdeal
    ∧ algebraic_AdamConvDwIdeal_AdamConvDwReferenceIdeal (hAdamConvDwIdeal := hAdamConvDwIdeal) (hAdamConvDwReferenceIdeal := hAdamConvDwReferenceIdeal)
    ∧ preserves_AdamConvPw_AdamConvPwIdeal
    ∧ algebraic_AdamConvPwIdeal_AdamConvPwReferenceIdeal (hAdamConvPwIdeal := hAdamConvPwIdeal) (hAdamConvPwReferenceIdeal := hAdamConvPwReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamFfnDw_AdamFfnDwIdeal
    ∧ algebraic_AdamFfnDwIdeal_AdamFfnDwReferenceIdeal (hAdamFfnDwIdeal := hAdamFfnDwIdeal) (hAdamFfnDwReferenceIdeal := hAdamFfnDwReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AddSibling_AddSiblingIdeal
    ∧ algebraic_AddSiblingIdeal_AddSiblingReferenceIdeal (hAddSiblingIdeal := hAddSiblingIdeal) (hAddSiblingReferenceIdeal := hAddSiblingReferenceIdeal) (hPre_a_core := hPre_a_core)
    ∧ bitexact_AddSibling_AddSiblingReference (hAddSibling := hAddSibling) (hAddSiblingReference := hAddSiblingReference) (hPre_a_core := hPre_a_core)
    ∧ preserves_AddPartials_AddPartialsIdeal
    ∧ algebraic_AddPartialsIdeal_AddPartialsReferenceIdeal (hAddPartialsIdeal := hAddPartialsIdeal) (hAddPartialsReferenceIdeal := hAddPartialsReferenceIdeal) (hPre_a_chip := hPre_a_chip)
    ∧ bitexact_AddPartials_AddPartialsReference (hAddPartials := hAddPartials) (hAddPartialsReference := hAddPartialsReference) (hPre_a_chip := hPre_a_chip)
    ∧ preserves_Loss_LossIdeal
    ∧ algebraic_LossIdeal_LossReferenceIdeal (hLossIdeal := hLossIdeal) (hLossReferenceIdeal := hLossReferenceIdeal)
    ∧ preserves_Norm_NormIdeal
    ∧ algebraic_NormIdeal_NormReferenceIdeal (hNormIdeal := hNormIdeal) (hNormReferenceIdeal := hNormReferenceIdeal)
    ∧ preserves_Hidden_HiddenIdeal
    ∧ algebraic_HiddenIdeal_HiddenReferenceIdeal (hHiddenIdeal := hHiddenIdeal) (hHiddenReferenceIdeal := hHiddenReferenceIdeal)
    ∧ preserves_Down_DownIdeal
    ∧ algebraic_DownIdeal_DownReferenceIdeal (hDownIdeal := hDownIdeal) (hDownReferenceIdeal := hDownReferenceIdeal)
    ∧ preserves_ProjA_ProjAIdeal
    ∧ algebraic_ProjAIdeal_ProjAReferenceIdeal (hProjAIdeal := hProjAIdeal) (hProjAReferenceIdeal := hProjAReferenceIdeal)
    ∧ preserves_ProjFg_ProjFgIdeal
    ∧ algebraic_ProjFgIdeal_ProjFgReferenceIdeal (hProjFgIdeal := hProjFgIdeal) (hProjFgReferenceIdeal := hProjFgReferenceIdeal)
    ∧ preserves_OutProj_OutProjIdeal
    ∧ algebraic_OutProjIdeal_OutProjReferenceIdeal (hOutProjIdeal := hOutProjIdeal) (hOutProjReferenceIdeal := hOutProjReferenceIdeal)
    ∧ preserves_UpProj_UpProjIdeal
    ∧ algebraic_UpProjIdeal_UpProjReferenceIdeal (hUpProjIdeal := hUpProjIdeal) (hUpProjReferenceIdeal := hUpProjReferenceIdeal)
    ∧ preserves_DownProj_DownProjIdeal
    ∧ algebraic_DownProjIdeal_DownProjReferenceIdeal (hDownProjIdeal := hDownProjIdeal) (hDownProjReferenceIdeal := hDownProjReferenceIdeal)
    ∧ preserves_BackAct_BackActIdeal
    ∧ algebraic_BackActIdeal_BackActReferenceIdeal (hBackActIdeal := hBackActIdeal) (hBackActReferenceIdeal := hBackActReferenceIdeal)
    ∧ preserves_BackUp_BackUpIdeal
    ∧ algebraic_BackUpIdeal_BackUpReferenceIdeal (hBackUpIdeal := hBackUpIdeal) (hBackUpReferenceIdeal := hBackUpReferenceIdeal)
    ∧ preserves_GradUp_GradUpIdeal
    ∧ algebraic_GradUpIdeal_GradUpReferenceIdeal (hGradUpIdeal := hGradUpIdeal) (hGradUpReferenceIdeal := hGradUpReferenceIdeal)
    ∧ preserves_BackMix_BackMixIdeal
    ∧ algebraic_BackMixIdeal_BackMixReferenceIdeal (hBackMixIdeal := hBackMixIdeal) (hBackMixReferenceIdeal := hBackMixReferenceIdeal)
    ∧ preserves_GradOut_GradOutIdeal
    ∧ algebraic_GradOutIdeal_GradOutReferenceIdeal (hGradOutIdeal := hGradOutIdeal) (hGradOutReferenceIdeal := hGradOutReferenceIdeal)
    ∧ preserves_BackFg_BackFgIdeal
    ∧ algebraic_BackFgIdeal_BackFgReferenceIdeal (hBackFgIdeal := hBackFgIdeal) (hBackFgReferenceIdeal := hBackFgReferenceIdeal)
    ∧ preserves_BackA_BackAIdeal
    ∧ algebraic_BackAIdeal_BackAReferenceIdeal (hBackAIdeal := hBackAIdeal) (hBackAReferenceIdeal := hBackAReferenceIdeal)
    ∧ preserves_GradA_GradAIdeal
    ∧ algebraic_GradAIdeal_GradAReferenceIdeal (hGradAIdeal := hGradAIdeal) (hGradAReferenceIdeal := hGradAReferenceIdeal)
    ∧ preserves_GradFg_GradFgIdeal
    ∧ algebraic_GradFgIdeal_GradFgReferenceIdeal (hGradFgIdeal := hGradFgIdeal) (hGradFgReferenceIdeal := hGradFgReferenceIdeal)
-- ==== Pre_a_chip.lean ====
abbrev S4x23760x128 : Shape := ⟨3, ![4, 23760, 128]⟩
abbrev S3x23760x128 : Shape := ⟨3, ![3, 23760, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x23760x128 .f32) (main_arg1 : FVec F S3x23760x128 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_a_core.lean ====
abbrev S4x2x23760x128 : Shape := ⟨4, ![4, 2, 23760, 128]⟩
abbrev S4x23760x128 : Shape := ⟨3, ![4, 23760, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x23760x128 .f32) (main_arg1 : FVec F S4x23760x128 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Gather.lean ====
abbrev S47616x128 : Shape := ⟨2, ![47616, 128]⟩
abbrev S4x47616x128 : Shape := ⟨3, ![4, 47616, 128]⟩
abbrev S6 : Shape := ⟨1, ![6]⟩
abbrev S_ : Shape := ⟨0, ![]⟩
abbrev S1x47616x128 : Shape := ⟨3, ![1, 47616, 128]⟩
abbrev S1 : Shape := ⟨1, ![1]⟩
abbrev S1x23808x128 : Shape := ⟨3, ![1, 23808, 128]⟩
abbrev S23808x128 : Shape := ⟨2, ![23808, 128]⟩

abbrev nBuf : Space → Nat
  | .hbm => 2
  | .vmem => 0
  | .smem => 0
  | _ => 0

abbrev bufTy : (tb : Table) → Fin (tcTables nBuf tb) → BufTy
  | .hbm, ⟨0, _⟩ => ⟨S47616x128, .bf16⟩
  | .hbm, ⟨1, _⟩ => ⟨S4x47616x128, .bf16⟩
  | _, _ => ⟨S47616x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c0_i32 : BitVec 32 := 0#32
  let c0_i32_9 : BitVec 32 := 0#32
  ![v15.toNat, 0, 0]
def k0_off2 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c23808_i32_11 : BitVec 32 := 23808#32
  let v21 : BitVec 32 := Scalar.muli v8 c23808_i32_11
  let c0_i32_22 : BitVec 32 := 0#32
  ![v20.toNat, v21.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c23808_i32 : BitVec 32 := 23808#32
  let v18 : BitVec 32 := Scalar.muli v8 c23808_i32
  let c0_i32_23 : BitVec 32 := 0#32
  ![v18.toNat, 0]
def k0_dev1 (d0 : Dev nD) : Nat :=
  let c0_i32_19 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_18 : BitVec 32 := 4#32
  let v28 : BitVec 32 := Scalar.muli v10 c4_i32_18
  let v29 : BitVec 32 := Scalar.addi c0_i32_19 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v30 : BitVec 32 := Scalar.muli v5 c2_i32_20
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v32 : BitVec 32 := Scalar.muli v8 c1_i32_21
  let v33 : BitVec 32 := Scalar.addi v31 v32
  v33.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v43 : BitVec 32 := Scalar.muli v11 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_dev3 (d0 : Dev nD) : Nat :=
  let c0_i32_35 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_34 : BitVec 32 := 4#32
  let v54 : BitVec 32 := Scalar.muli v12 c4_i32_34
  let v55 : BitVec 32 := Scalar.addi c0_i32_35 v54
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_36 : BitVec 32 := 2#32
  let v56 : BitVec 32 := Scalar.muli v13 c2_i32_36
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v58 : BitVec 32 := Scalar.muli v8 c1_i32_37
  let v59 : BitVec 32 := Scalar.addi v57 v58
  v59.toNat
def k0_off4 (d0 : Dev nD) : Fin 3 → Nat :=
  let c2_i32_54 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v88 : BitVec 32 := Scalar.muli c2_i32_54 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.addi v88 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c23808_i32_55 : BitVec 32 := 23808#32
  let v90 : BitVec 32 := Scalar.muli v8 c23808_i32_55
  let c0_i32_62 : BitVec 32 := 0#32
  ![v89.toNat, v90.toNat, 0]
def k0_dev4 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v103 : BitVec 32 := Scalar.muli v2 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v107 : BitVec 32 := Scalar.muli v9 c1_i32_68
  let v108 : BitVec 32 := Scalar.addi v106 v107
  v108.toNat
def k0_off5 (d0 : Dev nD) : Fin 3 → Nat :=
  let c2_i32_73 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.muli c2_i32_73 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v121 : BitVec 32 := Scalar.addi v120 v11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c23808_i32_74 : BitVec 32 := 23808#32
  let v122 : BitVec 32 := Scalar.muli v8 c23808_i32_74
  let c0_i32_81 : BitVec 32 := 0#32
  ![v121.toNat, v122.toNat, 0]
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v135 : BitVec 32 := Scalar.muli v2 c4_i32_85
  let v136 : BitVec 32 := Scalar.addi c0_i32_86 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v137 : BitVec 32 := Scalar.muli v5 c2_i32_87
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v139 : BitVec 32 := Scalar.muli v9 c1_i32_88
  let v140 : BitVec 32 := Scalar.addi v138 v139
  v140.toNat
def k0_off6 (d0 : Dev nD) : Fin 3 → Nat :=
  let c2_i32_93 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v152 : BitVec 32 := Scalar.muli c2_i32_93 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v153 : BitVec 32 := Scalar.addi v152 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c23808_i32_94 : BitVec 32 := 23808#32
  let v154 : BitVec 32 := Scalar.muli v8 c23808_i32_94
  let c0_i32_101 : BitVec 32 := 0#32
  ![v153.toNat, v154.toNat, 0]
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v167 : BitVec 32 := Scalar.muli v2 c4_i32_104
  let v168 : BitVec 32 := Scalar.addi c0_i32_105 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v169 : BitVec 32 := Scalar.muli v5 c2_i32_106
  let v170 : BitVec 32 := Scalar.addi v168 v169
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v171 : BitVec 32 := Scalar.muli v9 c1_i32_107
  let v172 : BitVec 32 := Scalar.addi v170 v171
  v172.toNat
def k0_off7 (d0 : Dev nD) : Fin 3 → Nat :=
  let c2_i32_113 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v185 : BitVec 32 := Scalar.muli c2_i32_113 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.addi v185 v5
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_110 v8
  let c23808_i32_114 : BitVec 32 := 23808#32
  let v187 : BitVec 32 := Scalar.muli v181 c23808_i32_114
  let c0_i32_121 : BitVec 32 := 0#32
  ![v186.toNat, v187.toNat, 0]
def k0_off8 (d0 : Dev nD) : Fin 3 → Nat :=
  let c2_i32_126 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v204 : BitVec 32 := Scalar.muli c2_i32_126 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v205 : BitVec 32 := Scalar.addi v204 v11
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v200 : BitVec 32 := Scalar.subi c1_i32_123 v8
  let c23808_i32_127 : BitVec 32 := 23808#32
  let v206 : BitVec 32 := Scalar.muli v200 c23808_i32_127
  let c0_i32_134 : BitVec 32 := 0#32
  ![v205.toNat, v206.toNat, 0]
def k0_off9 (d0 : Dev nD) : Fin 3 → Nat :=
  let c2_i32_139 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v223 : BitVec 32 := Scalar.muli c2_i32_139 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v224 : BitVec 32 := Scalar.addi v223 v13
  let c1_i32_136 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v219 : BitVec 32 := Scalar.subi c1_i32_136 v8
  let c23808_i32_140 : BitVec 32 := 23808#32
  let v225 : BitVec 32 := Scalar.muli v219 c23808_i32_140
  let c0_i32_147 : BitVec 32 := 0#32
  ![v224.toNat, v225.toNat, 0]
-- ==== GatherReference.lean ====
abbrev S190464x128 : Shape := ⟨2, ![190464, 128]⟩
abbrev S4x47616x128 : Shape := ⟨3, ![4, 47616, 128]⟩

abbrev nBuf : Space → Nat
  | .hbm => 2
  | .vmem => 0
  | .smem => 0
  | _ => 0

abbrev bufTy : (tb : Table) → Fin (tcTables nBuf tb) → BufTy
  | .hbm, ⟨0, _⟩ => ⟨S190464x128, .bf16⟩
  | .hbm, ⟨1, _⟩ => ⟨S4x47616x128, .bf16⟩
  | _, _ => ⟨S190464x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S4x2x23760x128 : Shape := ⟨4, ![4, 2, 23760, 128]⟩
abbrev S4x23760x128 : Shape := ⟨3, ![4, 23760, 128]⟩
abbrev S4 : Shape := ⟨1, ![4]⟩
abbrev S1 : Shape := ⟨1, ![1]⟩
abbrev S_ : Shape := ⟨0, ![]⟩
abbrev S1x23760x128 : Shape := ⟨3, ![1, 23760, 128]⟩
abbrev S23760x128 : Shape := ⟨2, ![23760, 128]⟩
abbrev S1x1x23760x128 : Shape := ⟨4, ![1, 1, 23760, 128]⟩

abbrev nBuf : Space → Nat
  | .hbm => 2
  | .vmem => 0
  | .smem => 0
  | _ => 0

abbrev bufTy : (tb : Table) → Fin (tcTables nBuf tb) → BufTy
  | .hbm, ⟨0, _⟩ => ⟨S4x2x23760x128, .bf16⟩
  | .hbm, ⟨1, _⟩ => ⟨S4x23760x128, .bf16⟩
  | _, _ => ⟨S4x2x23760x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== SwapReference.lean ====
abbrev S32x2x23760x128 : Shape := ⟨4, ![32, 2, 23760, 128]⟩
abbrev S4x2x4x2x23760x128 : Shape := ⟨6, ![4, 2, 4, 2, 23760, 128]⟩
abbrev S4x1x4x1x23760x128 : Shape := ⟨6, ![4, 1, 4, 1, 23760, 128]⟩
abbrev S4x4x23760x128 : Shape := ⟨4, ![4, 4, 23760, 128]⟩
abbrev S4x1x4x23760x128 : Shape := ⟨5, ![4, 1, 4, 23760, 128]⟩
abbrev S4x2x4x23760x128 : Shape := ⟨5, ![4, 2, 4, 23760, 128]⟩
abbrev S32x23760x128 : Shape := ⟨3, ![32, 23760, 128]⟩

abbrev nBuf : Space → Nat
  | .hbm => 10
  | .vmem => 0
  | .smem => 0
  | _ => 0

abbrev bufTy : (tb : Table) → Fin (tcTables nBuf tb) → BufTy
  | .hbm, ⟨0, _⟩ => ⟨S32x2x23760x128, .bf16⟩
  | .hbm, ⟨1, _⟩ => ⟨S4x2x4x2x23760x128, .bf16⟩
  | .hbm, ⟨2, _⟩ => ⟨S4x1x4x1x23760x128, .bf16⟩
  | .hbm, ⟨3, _⟩ => ⟨S4x4x23760x128, .bf16⟩
  | .hbm, ⟨4, _⟩ => ⟨S4x1x4x1x23760x128, .bf16⟩
  | .hbm, ⟨5, _⟩ => ⟨S4x4x23760x128, .bf16⟩
  | .hbm, ⟨6, _⟩ => ⟨S4x1x4x23760x128, .bf16⟩
  | .hbm, ⟨7, _⟩ => ⟨S4x1x4x23760x128, .bf16⟩
  | .hbm, ⟨8, _⟩ => ⟨S4x2x4x23760x128, .bf16⟩
  | .hbm, ⟨9, _⟩ => ⟨S32x23760x128, .bf16⟩
  | _, _ => ⟨S32x2x23760x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Send.lean ====
abbrev S4x23760x128 : Shape := ⟨3, ![4, 23760, 128]⟩
abbrev S3x23760x128 : Shape := ⟨3, ![3, 23760, 128]⟩
abbrev S3 : Shape := ⟨1, ![3]⟩
abbrev S1 : Shape := ⟨1, ![1]⟩
abbrev S_ : Shape := ⟨0, ![]⟩
abbrev S1x23760x128 : Shape := ⟨3, ![1, 23760, 128]⟩
abbrev S23760x128 : Shape := ⟨2, ![23760, 128]⟩

abbrev nBuf : Space → Nat
  | .hbm => 2
  | .vmem => 0
  | .smem => 0
  | _ => 0

abbrev bufTy : (tb : Table) → Fin (tcTables nBuf tb) → BufTy
  | .hbm, ⟨0, _⟩ => ⟨S4x23760x128, .bf16⟩
  | .hbm, ⟨1, _⟩ => ⟨S3x23760x128, .bf16⟩
  | _, _ => ⟨S4x23760x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== SendReference.lean ====
abbrev S32x23760x128 : Shape := ⟨3, ![32, 23760, 128]⟩
abbrev S4x2x4x23760x128 : Shape := ⟨5, ![4, 2, 4, 23760, 128]⟩
abbrev S1x2x1x23760x128 : Shape := ⟨5, ![1, 2, 1, 23760, 128]⟩
abbrev S2x23760x128 : Shape := ⟨3, ![2, 23760, 128]⟩
abbrev S2x1x23760x128 : Shape := ⟨4, ![2, 1, 23760, 128]⟩
abbrev S2x3x23760x128 : Shape := ⟨4, ![2, 3, 23760, 128]⟩
abbrev S1x2x3x23760x128 : Shape := ⟨5, ![1, 2, 3, 23760, 128]⟩
abbrev S4x2x3x23760x128 : Shape := ⟨5, ![4, 2, 3, 23760, 128]⟩
abbrev S24x23760x128 : Shape := ⟨3, ![24, 23760, 128]⟩

abbrev nBuf : Space → Nat
  | .hbm => 48
  | .vmem => 0
  | .smem => 0
  | _ => 0

abbrev bufTy : (tb : Table) → Fin (tcTables nBuf tb) → BufTy
  | .hbm, ⟨0, _⟩ => ⟨S32x23760x128, .bf16⟩
  | .hbm, ⟨1, _⟩ => ⟨S4x2x4x23760x128, .bf16⟩
  | .hbm, ⟨2, _⟩ => ⟨S1x2x1x23760x128, .bf16⟩
  | .hbm, ⟨3, _⟩ => ⟨S2x23760x128, .bf16⟩
  | .hbm, ⟨4, _⟩ => ⟨S1x2x1x23760x128, .bf16⟩
  | .hbm, ⟨5, _⟩ => ⟨S2x23760x128, .bf16⟩
  | .hbm, ⟨6, _⟩ => ⟨S1x2x1x23760x128, .bf16⟩
  | .hbm, ⟨7, _⟩ => ⟨S2x23760x128, .bf16⟩
  | .hbm, ⟨8, _⟩ => ⟨S1x2x1x23760x128, .bf16⟩
  | .hbm, ⟨9, _⟩ => ⟨S2x23760x128, .bf16⟩
  | .hbm, ⟨10, _⟩ => ⟨S1x2x1x23760x128, .bf16⟩
  | .hbm, ⟨11, _⟩ => ⟨S2x23760x128, .bf16⟩
  | .hbm, ⟨12, _⟩ => ⟨S1x2x1x23760x128, .bf16⟩
  | .hbm, ⟨13, _⟩ => ⟨S2x23760x128, .bf16⟩
  | .hbm, ⟨14, _⟩ => ⟨S1x2x1x23760x128, .bf16⟩
  | .hbm, ⟨15, _⟩ => ⟨S2x23760x128, .bf16⟩
  | .hbm, ⟨16, _⟩ => ⟨S1x2x1x23760x128, .bf16⟩
  | .hbm, ⟨17, _⟩ => ⟨S2x23760x128, .bf16⟩
  | .hbm, ⟨18, _⟩ => ⟨S1x2x1x23760x128, .bf16⟩
  | .hbm, ⟨19, _⟩ => ⟨S2x23760x128, .bf16⟩
  | .hbm, ⟨20, _⟩ => ⟨S1x2x1x23760x128, .bf16⟩
  | .hbm, ⟨21, _⟩ => ⟨S2x23760x128, .bf16⟩
  | .hbm, ⟨22, _⟩ => ⟨S1x2x1x23760x128, .bf16⟩
  | .hbm, ⟨23, _⟩ => ⟨S2x23760x128, .bf16⟩
  | .hbm, ⟨24, _⟩ => ⟨S1x2x1x23760x128, .bf16⟩
  | .hbm, ⟨25, _⟩ => ⟨S2x23760x128, .bf16⟩
  | .hbm, ⟨26, _⟩ => ⟨S2x1x23760x128, .bf16⟩
  | .hbm, ⟨27, _⟩ => ⟨S2x1x23760x128, .bf16⟩
  | .hbm, ⟨28, _⟩ => ⟨S2x1x23760x128, .bf16⟩
  | .hbm, ⟨29, _⟩ => ⟨S2x3x23760x128, .bf16⟩
  | .hbm, ⟨30, _⟩ => ⟨S2x1x23760x128, .bf16⟩
  | .hbm, ⟨31, _⟩ => ⟨S2x1x23760x128, .bf16⟩
  | .hbm, ⟨32, _⟩ => ⟨S2x1x23760x128, .bf16⟩
  | .hbm, ⟨33, _⟩ => ⟨S2x3x23760x128, .bf16⟩
  | .hbm, ⟨34, _⟩ => ⟨S2x1x23760x128, .bf16⟩
  | .hbm, ⟨35, _⟩ => ⟨S2x1x23760x128, .bf16⟩
  | .hbm, ⟨36, _⟩ => ⟨S2x1x23760x128, .bf16⟩
  | .hbm, ⟨37, _⟩ => ⟨S2x3x23760x128, .bf16⟩
  | .hbm, ⟨38, _⟩ => ⟨S2x1x23760x128, .bf16⟩
  | .hbm, ⟨39, _⟩ => ⟨S2x1x23760x128, .bf16⟩
  | .hbm, ⟨40, _⟩ => ⟨S2x1x23760x128, .bf16⟩
  | .hbm, ⟨41, _⟩ => ⟨S2x3x23760x128, .bf16⟩
  | .hbm, ⟨42, _⟩ => ⟨S1x2x3x23760x128, .bf16⟩
  | .hbm, ⟨43, _⟩ => ⟨S1x2x3x23760x128, .bf16⟩
  | .hbm, ⟨44, _⟩ => ⟨S1x2x3x23760x128, .bf16⟩
  | .hbm, ⟨45, _⟩ => ⟨S1x2x3x23760x128, .bf16⟩
  | .hbm, ⟨46, _⟩ => ⟨S4x2x3x23760x128, .bf16⟩
  | .hbm, ⟨47, _⟩ => ⟨S24x23760x128, .bf16⟩
  | _, _ => ⟨S32x23760x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩

abbrev nD : Nat := 1
abbrev τ : Topo := Topo.v7x

variable {F : FTy → Type} [FloatOps F]
-- ==== Share.lean ====
abbrev S23760x128 : Shape := ⟨2, ![23760, 128]⟩
abbrev S2x23760x128 : Shape := ⟨3, ![2, 23760, 128]⟩
abbrev S_ : Shape := ⟨0, ![]⟩
abbrev S1x23760x128 : Shape := ⟨3, ![1, 23760, 128]⟩

abbrev nBuf : Space → Nat
  | .hbm => 2
  | .vmem => 0
  | .smem => 0
  | _ => 0

abbrev bufTy : (tb : Table) → Fin (tcTables nBuf tb) → BufTy
  | .hbm, ⟨0, _⟩ => ⟨S23760x128, .f32⟩
  | .hbm, ⟨1, _⟩ => ⟨S2x23760x128, .f32⟩
  | _, _ => ⟨S23760x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== ShareReference.lean ====
abbrev S190080x128 : Shape := ⟨2, ![190080, 128]⟩
abbrev S8x23760x128 : Shape := ⟨3, ![8, 23760, 128]⟩

abbrev nBuf : Space → Nat
  | .hbm => 2
  | .vmem => 0
  | .smem => 0
  | _ => 0

abbrev bufTy : (tb : Table) → Fin (tcTables nBuf tb) → BufTy
  | .hbm, ⟨0, _⟩ => ⟨S190080x128, .f32⟩
  | .hbm, ⟨1, _⟩ => ⟨S8x23760x128, .f32⟩
  | _, _ => ⟨S190080x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamIn.lean ====
abbrev S2x1024x578 : Shape := ⟨3, ![2, 1024, 578]⟩
abbrev S2048x578 : Shape := ⟨2, ![2048, 578]⟩
abbrev S256x578 : Shape := ⟨2, ![256, 578]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x578, .f32⟩
  | .hbm, ⟨1, _⟩ => ⟨S2x1024x578, .f32⟩
  | .hbm, ⟨2, _⟩ => ⟨S2x1024x578, .f32⟩
  | .hbm, ⟨3, _⟩ => ⟨S2x1024x578, .f32⟩
  | .hbm, ⟨4, _⟩ => ⟨S2048x578, .f32⟩
  | .hbm, ⟨5, _⟩ => ⟨S2048x578, .f32⟩
  | .hbm, ⟨6, _⟩ => ⟨S2048x578, .f32⟩
  | .hbm, ⟨7, _⟩ => ⟨S2048x578, .f32⟩
  | .hbm, ⟨8, _⟩ => ⟨S2048x578, .f32⟩
  | .hbm, ⟨9, _⟩ => ⟨S2048x578, .f32⟩
  | .hbm, ⟨10, _⟩ => ⟨S2048x578, .f32⟩
  | .hbm, ⟨11, _⟩ => ⟨S2x1024x578, .f32⟩
  | .hbm, ⟨12, _⟩ => ⟨S2x1024x578, .f32⟩
  | .hbm, ⟨13, _⟩ => ⟨S2x1024x578, .f32⟩
  | .local _ .vmem, ⟨0, _⟩ => ⟨S256x578, .f32⟩
  | .local _ .vmem, ⟨1, _⟩ => ⟨S256x578, .f32⟩
  | .local _ .vmem, ⟨2, _⟩ => ⟨S256x578, .f32⟩
  | .local _ .vmem, ⟨3, _⟩ => ⟨S256x578, .f32⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | _, _ => ⟨S2x1024x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x578 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x1024x578 : Shape := ⟨3, ![2, 1024, 578]⟩
abbrev S2048x578 : Shape := ⟨2, ![2048, 578]⟩
abbrev S256x578 : Shape := ⟨2, ![256, 578]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x578, .f32⟩
  | .hbm, ⟨1, _⟩ => ⟨S2x1024x578, .f32⟩
  | .hbm, ⟨2, _⟩ => ⟨S2x1024x578, .f32⟩
  | .hbm, ⟨3, _⟩ => ⟨S2x1024x578, .f32⟩
  | .hbm, ⟨4, _⟩ => ⟨S2048x578, .f32⟩
  | .hbm, ⟨5, _⟩ => ⟨S2048x578, .f32⟩
  | .hbm, ⟨6, _⟩ => ⟨S2048x578, .f32⟩
  | .hbm, ⟨7, _⟩ => ⟨S2048x578, .f32⟩
  | .hbm, ⟨8, _⟩ => ⟨S2048x578, .f32⟩
  | .hbm, ⟨9, _⟩ => ⟨S2048x578, .f32⟩
  | .hbm, ⟨10, _⟩ => ⟨S2048x578, .f32⟩
  | .hbm, ⟨11, _⟩ => ⟨S2x1024x578, .f32⟩
  | .hbm, ⟨12, _⟩ => ⟨S2x1024x578, .f32⟩
  | .hbm, ⟨13, _⟩ => ⟨S2x1024x578, .f32⟩
  | .local _ .vmem, ⟨0, _⟩ => ⟨S256x578, .f32⟩
  | .local _ .vmem, ⟨1, _⟩ => ⟨S256x578, .f32⟩
  | .local _ .vmem, ⟨2, _⟩ => ⟨S256x578, .f32⟩
  | .local _ .vmem, ⟨3, _⟩ => ⟨S256x578, .f32⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | _, _ => ⟨S2x1024x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x578 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S2x1024x2312 : Shape := ⟨3, ![2, 1024, 2312]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x2312, .f32⟩
  | .hbm, ⟨1, _⟩ => ⟨S2x1024x2312, .f32⟩
  | .hbm, ⟨2, _⟩ => ⟨S2x1024x2312, .f32⟩
  | .hbm, ⟨3, _⟩ => ⟨S2x1024x2312, .f32⟩
  | .hbm, ⟨4, _⟩ => ⟨S_, .f32⟩
  | .hbm, ⟨5, _⟩ => ⟨S2x1024x2312, .f32⟩
  | .hbm, ⟨6, _⟩ => ⟨S2x1024x2312, .f32⟩
  | .hbm, ⟨7, _⟩ => ⟨S_, .f32⟩
  | .hbm, ⟨8, _⟩ => ⟨S2x1024x2312, .f32⟩
  | .hbm, ⟨9, _⟩ => ⟨S2x1024x2312, .f32⟩
  | .hbm, ⟨10, _⟩ => ⟨S2x1024x2312, .f32⟩
  | .hbm, ⟨11, _⟩ => ⟨S_, .f32⟩
  | .hbm, ⟨12, _⟩ => ⟨S2x1024x2312, .f32⟩
  | .hbm, ⟨13, _⟩ => ⟨S2x1024x2312, .f32⟩
  | .hbm, ⟨14, _⟩ => ⟨S2x1024x2312, .f32⟩
  | .hbm, ⟨15, _⟩ => ⟨S_, .f32⟩
  | .hbm, ⟨16, _⟩ => ⟨S2x1024x2312, .f32⟩
  | .hbm, ⟨17, _⟩ => ⟨S2x1024x2312, .f32⟩
  | .hbm, ⟨18, _⟩ => ⟨S2x1024x2312, .f32⟩
  | .hbm, ⟨19, _⟩ => ⟨S_, .f32⟩
  | .hbm, ⟨20, _⟩ => ⟨S2x1024x2312, .f32⟩
  | .hbm, ⟨21, _⟩ => ⟨S2x1024x2312, .f32⟩
  | .hbm, ⟨22, _⟩ => ⟨S_, .f32⟩
  | .hbm, ⟨23, _⟩ => ⟨S2x1024x2312, .f32⟩
  | .hbm, ⟨24, _⟩ => ⟨S2x1024x2312, .f32⟩
  | .hbm, ⟨25, _⟩ => ⟨S2x1024x2312, .f32⟩
  | .hbm, ⟨26, _⟩ => ⟨S_, .f32⟩
  | .hbm, ⟨27, _⟩ => ⟨S2x1024x2312, .f32⟩
  | .hbm, ⟨28, _⟩ => ⟨S2x1024x2312, .f32⟩
  | .hbm, ⟨29, _⟩ => ⟨S2x1024x2312, .f32⟩
  | .hbm, ⟨30, _⟩ => ⟨S_, .f32⟩
  | .hbm, ⟨31, _⟩ => ⟨S2x1024x2312, .f32⟩
  | .hbm, ⟨32, _⟩ => ⟨S2x1024x2312, .f32⟩
  | .hbm, ⟨33, _⟩ => ⟨S2x1024x2312, .f32⟩
  | .hbm, ⟨34, _⟩ => ⟨S_, .f32⟩
  | .hbm, ⟨35, _⟩ => ⟨S2x1024x2312, .f32⟩
  | .hbm, ⟨36, _⟩ => ⟨S2x1024x2312, .f32⟩
  | _, _ => ⟨S2x1024x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvDw.lean ====
abbrev S2x31x64 : Shape := ⟨3, ![2, 31, 64]⟩
abbrev S62x64 : Shape := ⟨2, ![62, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .hbm, ⟨9, _⟩ => ⟨S62x64, .f32⟩
  | .hbm, ⟨10, _⟩ => ⟨S62x64, .f32⟩
  | .hbm, ⟨11, _⟩ => ⟨S2x31x64, .f32⟩
  | .hbm, ⟨12, _⟩ => ⟨S2x31x64, .f32⟩
  | .hbm, ⟨13, _⟩ => ⟨S2x31x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S2x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvDwIdeal.lean ====
abbrev S2x31x64 : Shape := ⟨3, ![2, 31, 64]⟩
abbrev S62x64 : Shape := ⟨2, ![62, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .hbm, ⟨9, _⟩ => ⟨S62x64, .f32⟩
  | .hbm, ⟨10, _⟩ => ⟨S62x64, .f32⟩
  | .hbm, ⟨11, _⟩ => ⟨S2x31x64, .f32⟩
  | .hbm, ⟨12, _⟩ => ⟨S2x31x64, .f32⟩
  | .hbm, ⟨13, _⟩ => ⟨S2x31x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S2x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvDwReferenceIdeal.lean ====
abbrev S2x31x256 : Shape := ⟨3, ![2, 31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S_, .f32⟩
  | .hbm, ⟨5, _⟩ => ⟨S2x31x256, .f32⟩
  | .hbm, ⟨6, _⟩ => ⟨S2x31x256, .f32⟩
  | .hbm, ⟨7, _⟩ => ⟨S_, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S_, .f32⟩
  | .hbm, ⟨12, _⟩ => ⟨S2x31x256, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S_, .f32⟩
  | .hbm, ⟨23, _⟩ => ⟨S2x31x256, .f32⟩
  | .hbm, ⟨24, _⟩ => ⟨S2x31x256, .f32⟩
  | .hbm, ⟨25, _⟩ => ⟨S2x31x256, .f32⟩
  | .hbm, ⟨26, _⟩ => ⟨S_, .f32⟩
  | .hbm, ⟨27, _⟩ => ⟨S2x31x256, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvPw.lean ====
abbrev S2x64x256 : Shape := ⟨3, ![2, 64, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S2x64x256, .f32⟩
  | .hbm, ⟨12, _⟩ => ⟨S2x64x256, .f32⟩
  | .hbm, ⟨13, _⟩ => ⟨S2x64x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S2x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvPwIdeal.lean ====
abbrev S2x64x256 : Shape := ⟨3, ![2, 64, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S2x64x256, .f32⟩
  | .hbm, ⟨12, _⟩ => ⟨S2x64x256, .f32⟩
  | .hbm, ⟨13, _⟩ => ⟨S2x64x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S2x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvPwReferenceIdeal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2x1024x1408, .f32⟩
  | .hbm, ⟨12, _⟩ => ⟨S2x1024x1408, .f32⟩
  | .hbm, ⟨13, _⟩ => ⟨S2x1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2x1024x1408, .f32⟩
  | .hbm, ⟨12, _⟩ => ⟨S2x1024x1408, .f32⟩
  | .hbm, ⟨13, _⟩ => ⟨S2x1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S2x1024x5632 : Shape := ⟨3, ![2, 1024, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x5632, .f32⟩
  | .hbm, ⟨1, _⟩ => ⟨S2x1024x5632, .f32⟩
  | .hbm, ⟨2, _⟩ => ⟨S2x1024x5632, .f32⟩
  | .hbm, ⟨3, _⟩ => ⟨S2x1024x5632, .f32⟩
  | .hbm, ⟨4, _⟩ => ⟨S_, .f32⟩
  | .hbm, ⟨5, _⟩ => ⟨S2x1024x5632, .f32⟩
  | .hbm, ⟨6, _⟩ => ⟨S2x1024x5632, .f32⟩
  | .hbm, ⟨7, _⟩ => ⟨S_, .f32⟩
  | .hbm, ⟨8, _⟩ => ⟨S2x1024x5632, .f32⟩
  | .hbm, ⟨9, _⟩ => ⟨S2x1024x5632, .f32⟩
  | .hbm, ⟨10, _⟩ => ⟨S2x1024x5632, .f32⟩
  | .hbm, ⟨11, _⟩ => ⟨S_, .f32⟩
  | .hbm, ⟨12, _⟩ => ⟨S2x1024x5632, .f32⟩
  | .hbm, ⟨13, _⟩ => ⟨S2x1024x5632, .f32⟩
  | .hbm, ⟨14, _⟩ => ⟨S2x1024x5632, .f32⟩
  | .hbm, ⟨15, _⟩ => ⟨S_, .f32⟩
  | .hbm, ⟨16, _⟩ => ⟨S2x1024x5632, .f32⟩
  | .hbm, ⟨17, _⟩ => ⟨S2x1024x5632, .f32⟩
  | .hbm, ⟨18, _⟩ => ⟨S2x1024x5632, .f32⟩
  | .hbm, ⟨19, _⟩ => ⟨S_, .f32⟩
  | .hbm, ⟨20, _⟩ => ⟨S2x1024x5632, .f32⟩
  | .hbm, ⟨21, _⟩ => ⟨S2x1024x5632, .f32⟩
  | .hbm, ⟨22, _⟩ => ⟨S_, .f32⟩
  | .hbm, ⟨23, _⟩ => ⟨S2x1024x5632, .f32⟩
  | .hbm, ⟨24, _⟩ => ⟨S2x1024x5632, .f32⟩
  | .hbm, ⟨25, _⟩ => ⟨S2x1024x5632, .f32⟩
  | .hbm, ⟨26, _⟩ => ⟨S_, .f32⟩
  | .hbm, ⟨27, _⟩ => ⟨S2x1024x5632, .f32⟩
  | .hbm, ⟨28, _⟩ => ⟨S2x1024x5632, .f32⟩
  | .hbm, ⟨29, _⟩ => ⟨S2x1024x5632, .f32⟩
  | .hbm, ⟨30, _⟩ => ⟨S_, .f32⟩
  | .hbm, ⟨31, _⟩ => ⟨S2x1024x5632, .f32⟩
  | .hbm, ⟨32, _⟩ => ⟨S2x1024x5632, .f32⟩
  | .hbm, ⟨33, _⟩ => ⟨S2x1024x5632, .f32⟩
  | .hbm, ⟨34, _⟩ => ⟨S_, .f32⟩
  | .hbm, ⟨35, _⟩ => ⟨S2x1024x5632, .f32⟩
  | .hbm, ⟨36, _⟩ => ⟨S2x1024x5632, .f32⟩
  | _, _ => ⟨S2x1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnDw.lean ====
abbrev S2x3x1408 : Shape := ⟨3, ![2, 3, 1408]⟩
abbrev S6x1408 : Shape := ⟨2, ![6, 1408]⟩

abbrev nBuf : Space → Nat
  | .hbm => 14
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S2x3x1408, .f32⟩
  | .hbm, ⟨12, _⟩ => ⟨S2x3x1408, .f32⟩
  | .hbm, ⟨13, _⟩ => ⟨S2x3x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnDwIdeal.lean ====
abbrev S2x3x1408 : Shape := ⟨3, ![2, 3, 1408]⟩
abbrev S6x1408 : Shape := ⟨2, ![6, 1408]⟩

abbrev nBuf : Space → Nat
  | .hbm => 14
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S2x3x1408, .f32⟩
  | .hbm, ⟨12, _⟩ => ⟨S2x3x1408, .f32⟩
  | .hbm, ⟨13, _⟩ => ⟨S2x3x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnDwReferenceIdeal.lean ====
abbrev S2x3x5632 : Shape := ⟨3, ![2, 3, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x5632, .f32⟩
  | .hbm, ⟨1, _⟩ => ⟨S2x3x5632, .f32⟩
  | .hbm, ⟨2, _⟩ => ⟨S2x3x5632, .f32⟩
  | .hbm, ⟨3, _⟩ => ⟨S2x3x5632, .f32⟩
  | .hbm, ⟨4, _⟩ => ⟨S_, .f32⟩
  | .hbm, ⟨5, _⟩ => ⟨S2x3x5632, .f32⟩
  | .hbm, ⟨6, _⟩ => ⟨S2x3x5632, .f32⟩
  | .hbm, ⟨7, _⟩ => ⟨S_, .f32⟩
  | .hbm, ⟨8, _⟩ => ⟨S2x3x5632, .f32⟩
  | .hbm, ⟨9, _⟩ => ⟨S2x3x5632, .f32⟩
  | .hbm, ⟨10, _⟩ => ⟨S2x3x5632, .f32⟩
  | .hbm, ⟨11, _⟩ => ⟨S_, .f32⟩
  | .hbm, ⟨12, _⟩ => ⟨S2x3x5632, .f32⟩
  | .hbm, ⟨13, _⟩ => ⟨S2x3x5632, .f32⟩
  | .hbm, ⟨14, _⟩ => ⟨S2x3x5632, .f32⟩
  | .hbm, ⟨15, _⟩ => ⟨S_, .f32⟩
  | .hbm, ⟨16, _⟩ => ⟨S2x3x5632, .f32⟩
  | .hbm, ⟨17, _⟩ => ⟨S2x3x5632, .f32⟩
  | .hbm, ⟨18, _⟩ => ⟨S2x3x5632, .f32⟩
  | .hbm, ⟨19, _⟩ => ⟨S_, .f32⟩
  | .hbm, ⟨20, _⟩ => ⟨S2x3x5632, .f32⟩
  | .hbm, ⟨21, _⟩ => ⟨S2x3x5632, .f32⟩
  | .hbm, ⟨22, _⟩ => ⟨S_, .f32⟩
  | .hbm, ⟨23, _⟩ => ⟨S2x3x5632, .f32⟩
  | .hbm, ⟨24, _⟩ => ⟨S2x3x5632, .f32⟩
  | .hbm, ⟨25, _⟩ => ⟨S2x3x5632, .f32⟩
  | .hbm, ⟨26, _⟩ => ⟨S_, .f32⟩
  | .hbm, ⟨27, _⟩ => ⟨S2x3x5632, .f32⟩
  | .hbm, ⟨28, _⟩ => ⟨S2x3x5632, .f32⟩
  | .hbm, ⟨29, _⟩ => ⟨S2x3x5632, .f32⟩
  | .hbm, ⟨30, _⟩ => ⟨S_, .f32⟩
  | .hbm, ⟨31, _⟩ => ⟨S2x3x5632, .f32⟩
  | .hbm, ⟨32, _⟩ => ⟨S2x3x5632, .f32⟩
  | .hbm, ⟨33, _⟩ => ⟨S2x3x5632, .f32⟩
  | .hbm, ⟨34, _⟩ => ⟨S_, .f32⟩
  | .hbm, ⟨35, _⟩ => ⟨S2x3x5632, .f32⟩
  | .hbm, ⟨36, _⟩ => ⟨S2x3x5632, .f32⟩
  | _, _ => ⟨S2x3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S2x2816x1024 : Shape := ⟨3, ![2, 2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2816x1024, .f32⟩
  | .hbm, ⟨1, _⟩ => ⟨S2x2816x1024, .f32⟩
  | .hbm, ⟨2, _⟩ => ⟨S2x2816x1024, .f32⟩
  | .hbm, ⟨3, _⟩ => ⟨S2x2816x1024, .f32⟩
  | .hbm, ⟨4, _⟩ => ⟨S_, .f32⟩
  | .hbm, ⟨5, _⟩ => ⟨S2x2816x1024, .f32⟩
  | .hbm, ⟨6, _⟩ => ⟨S2x2816x1024, .f32⟩
  | .hbm, ⟨7, _⟩ => ⟨S_, .f32⟩
  | .hbm, ⟨8, _⟩ => ⟨S2x2816x1024, .f32⟩
  | .hbm, ⟨9, _⟩ => ⟨S2x2816x1024, .f32⟩
  | .hbm, ⟨10, _⟩ => ⟨S2x2816x1024, .f32⟩
  | .hbm, ⟨11, _⟩ => ⟨S_, .f32⟩
  | .hbm, ⟨12, _⟩ => ⟨S2x2816x1024, .f32⟩
  | .hbm, ⟨13, _⟩ => ⟨S2x2816x1024, .f32⟩
  | .hbm, ⟨14, _⟩ => ⟨S2x2816x1024, .f32⟩
  | .hbm, ⟨15, _⟩ => ⟨S_, .f32⟩
  | .hbm, ⟨16, _⟩ => ⟨S2x2816x1024, .f32⟩
  | .hbm, ⟨17, _⟩ => ⟨S2x2816x1024, .f32⟩
  | .hbm, ⟨18, _⟩ => ⟨S2x2816x1024, .f32⟩
  | .hbm, ⟨19, _⟩ => ⟨S_, .f32⟩
  | .hbm, ⟨20, _⟩ => ⟨S2x2816x1024, .f32⟩
  | .hbm, ⟨21, _⟩ => ⟨S2x2816x1024, .f32⟩
  | .hbm, ⟨22, _⟩ => ⟨S_, .f32⟩
  | .hbm, ⟨23, _⟩ => ⟨S2x2816x1024, .f32⟩
  | .hbm, ⟨24, _⟩ => ⟨S2x2816x1024, .f32⟩
  | .hbm, ⟨25, _⟩ => ⟨S2x2816x1024, .f32⟩
  | .hbm, ⟨26, _⟩ => ⟨S_, .f32⟩
  | .hbm, ⟨27, _⟩ => ⟨S2x2816x1024, .f32⟩
  | .hbm, ⟨28, _⟩ => ⟨S2x2816x1024, .f32⟩
  | .hbm, ⟨29, _⟩ => ⟨S2x2816x1024, .f32⟩
  | .hbm, ⟨30, _⟩ => ⟨S_, .f32⟩
  | .hbm, ⟨31, _⟩ => ⟨S2x2816x1024, .f32⟩
  | .hbm, ⟨32, _⟩ => ⟨S2x2816x1024, .f32⟩
  | .hbm, ⟨33, _⟩ => ⟨S2x2816x1024, .f32⟩
  | .hbm, ⟨34, _⟩ => ⟨S_, .f32⟩
  | .hbm, ⟨35, _⟩ => ⟨S2x2816x1024, .f32⟩
  | .hbm, ⟨36, _⟩ => ⟨S2x2816x1024, .f32⟩
  | _, _ => ⟨S2x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2x1024 : Shape := ⟨2, ![2, 1024]⟩
abbrev S2x8 : Shape := ⟨2, ![2, 8]⟩
abbrev S2x64 : Shape := ⟨2, ![2, 64]⟩
abbrev S2x256 : Shape := ⟨2, ![2, 256]⟩
abbrev S2x4x64x64 : Shape := ⟨4, ![2, 4, 64, 64]⟩
abbrev S2048 : Shape := ⟨1, ![2048]⟩
abbrev S16 : Shape := ⟨1, ![16]⟩
abbrev S128 : Shape := ⟨1, ![128]⟩
abbrev S512 : Shape := ⟨1, ![512]⟩
abbrev S32768 : Shape := ⟨1, ![32768]⟩
abbrev S39184 : Shape := ⟨1, ![39184]⟩
abbrev S_ : Shape := ⟨0, ![]⟩
abbrev S752 : Shape := ⟨1, ![752]⟩
abbrev S39936 : Shape := ⟨1, ![39936]⟩
abbrev S312x128 : Shape := ⟨2, ![312, 128]⟩
abbrev S104x128 : Shape := ⟨2, ![104, 128]⟩

abbrev nBuf : Space → Nat
  | .hbm => 193
  | .vmem => 14
  | .smem => 0
  | _ => 0

abbrev hbmTy0_0 (i : Nat) : BufTy := match i % 128 with
  | 0 => ⟨S2x1024, .f32⟩
  | 1 => ⟨S2x8, .f32⟩
  | 2 => ⟨S2x64, .f32⟩
  | 3 => ⟨S2x64, .f32⟩
  | 4 => ⟨S2x256, .f32⟩
  | 5 => ⟨S2x256, .f32⟩
  | 6 => ⟨S2x256, .f32⟩
  | 7 => ⟨S2x4x64x64, .f32⟩
  | 8 => ⟨S2x256, .f32⟩
  | 9 => ⟨S2x1024, .f32⟩
  | 10 => ⟨S2x1024, .f32⟩
  | 11 => ⟨S2x8, .f32⟩
  | 12 => ⟨S2x64, .f32⟩
  | 13 => ⟨S2x64, .f32⟩
  | 14 => ⟨S2x256, .f32⟩
  | 15 => ⟨S2x256, .f32⟩
  | 16 => ⟨S2x256, .f32⟩
  | 17 => ⟨S2x4x64x64, .f32⟩
  | 18 => ⟨S2x256, .f32⟩
  | 19 => ⟨S2x1024, .f32⟩
  | 20 => ⟨S2x1024, .f32⟩
  | 21 => ⟨S2x8, .f32⟩
  | 22 => ⟨S2x64, .f32⟩
  | 23 => ⟨S2x64, .f32⟩
  | 24 => ⟨S2x256, .f32⟩
  | 25 => ⟨S2x256, .f32⟩
  | 26 => ⟨S2x256, .f32⟩
  | 27 => ⟨S2x4x64x64, .f32⟩
  | 28 => ⟨S2x256, .f32⟩
  | 29 => ⟨S2x1024, .f32⟩
  | 30 => ⟨S2x1024, .f32⟩
  | 31 => ⟨S2x8, .f32⟩
  | 32 => ⟨S2x64, .f32⟩
  | 33 => ⟨S2x64, .f32⟩
  | 34 => ⟨S2x256, .f32⟩
  | 35 => ⟨S2x256, .f32⟩
  | 36 => ⟨S2x256, .f32⟩
  | 37 => ⟨S2x4x64x64, .f32⟩
  | 38 => ⟨S2x256, .f32⟩
  | 39 => ⟨S2x1024, .f32⟩
  | 40 => ⟨S2048, .f32⟩
  | 41 => ⟨S16, .f32⟩
  | 42 => ⟨S128, .f32⟩
  | 43 => ⟨S128, .f32⟩
  | 44 => ⟨S512, .f32⟩
  | 45 => ⟨S512, .f32⟩
  | 46 => ⟨S512, .f32⟩
  | 47 => ⟨S32768, .f32⟩
  | 48 => ⟨S512, .f32⟩
  | 49 => ⟨S2048, .f32⟩
  | 50 => ⟨S39184, .f32⟩
  | 51 => ⟨S_, .f32⟩
  | 52 => ⟨S752, .f32⟩
  | 53 => ⟨S39936, .f32⟩
  | 54 => ⟨S312x128, .f32⟩
  | 55 => ⟨S2048, .f32⟩
  | 56 => ⟨S16, .f32⟩
  | 57 => ⟨S128, .f32⟩
  | 58 => ⟨S128, .f32⟩
  | 59 => ⟨S512, .f32⟩
  | 60 => ⟨S512, .f32⟩
  | 61 => ⟨S512, .f32⟩
  | 62 => ⟨S32768, .f32⟩
  | 63 => ⟨S512, .f32⟩
  | 64 => ⟨S2048, .f32⟩
  | 65 => ⟨S39184, .f32⟩
  | 66 => ⟨S_, .f32⟩
  | 67 => ⟨S752, .f32⟩
  | 68 => ⟨S39936, .f32⟩
  | 69 => ⟨S312x128, .f32⟩
  | 70 => ⟨S2048, .f32⟩
  | 71 => ⟨S16, .f32⟩
  | 72 => ⟨S128, .f32⟩
  | 73 => ⟨S128, .f32⟩
  | 74 => ⟨S512, .f32⟩
  | 75 => ⟨S512, .f32⟩
  | 76 => ⟨S512, .f32⟩
  | 77 => ⟨S32768, .f32⟩
  | 78 => ⟨S512, .f32⟩
  | 79 => ⟨S2048, .f32⟩
  | 80 => ⟨S39184, .f32⟩
  | 81 => ⟨S_, .f32⟩
  | 82 => ⟨S752, .f32⟩
  | 83 => ⟨S39936, .f32⟩
  | 84 => ⟨S312x128, .f32⟩
  | 85 => ⟨S2048, .f32⟩
  | 86 => ⟨S16, .f32⟩
  | 87 => ⟨S128, .f32⟩
  | 88 => ⟨S128, .f32⟩
  | 89 => ⟨S512, .f32⟩
  | 90 => ⟨S512, .f32⟩
  | 91 => ⟨S512, .f32⟩
  | 92 => ⟨S32768, .f32⟩
  | 93 => ⟨S512, .f32⟩
  | 94 => ⟨S2048, .f32⟩
  | 95 => ⟨S39184, .f32⟩
  | 96 => ⟨S_, .f32⟩
  | 97 => ⟨S752, .f32⟩
  | 98 => ⟨S39936, .f32⟩
  | 99 => ⟨S312x128, .f32⟩
  | 100 => ⟨S312x128, .f32⟩
  | 101 => ⟨S312x128, .f32⟩
  | 102 => ⟨S312x128, .f32⟩
  | 103 => ⟨S39936, .f32⟩
  | 104 => ⟨S2048, .f32⟩
  | 105 => ⟨S2x1024, .f32⟩
  | 106 => ⟨S39936, .f32⟩
  | 107 => ⟨S2048, .f32⟩
  | 108 => ⟨S2x1024, .f32⟩
  | 109 => ⟨S39936, .f32⟩
  | 110 => ⟨S2048, .f32⟩
  | 111 => ⟨S2x1024, .f32⟩
  | 112 => ⟨S39936, .f32⟩
  | 113 => ⟨S16, .f32⟩
  | 114 => ⟨S2x8, .f32⟩
  | 115 => ⟨S39936, .f32⟩
  | 116 => ⟨S16, .f32⟩
  | 117 => ⟨S2x8, .f32⟩
  | 118 => ⟨S39936, .f32⟩
  | 119 => ⟨S16, .f32⟩
  | 120 => ⟨S2x8, .f32⟩
  | 121 => ⟨S39936, .f32⟩
  | 122 => ⟨S128, .f32⟩
  | 123 => ⟨S2x64, .f32⟩
  | 124 => ⟨S39936, .f32⟩
  | 125 => ⟨S128, .f32⟩
  | 126 => ⟨S2x64, .f32⟩
  | 127 => ⟨S39936, .f32⟩
  | _ => ⟨S2x1024, .f32⟩

abbrev hbmTy0_1 (i : Nat) : BufTy := match i % 128 with
  | 0 => ⟨S128, .f32⟩
  | 1 => ⟨S2x64, .f32⟩
  | 2 => ⟨S39936, .f32⟩
  | 3 => ⟨S128, .f32⟩
  | 4 => ⟨S2x64, .f32⟩
  | 5 => ⟨S39936, .f32⟩
  | 6 => ⟨S128, .f32⟩
  | 7 => ⟨S2x64, .f32⟩
  | 8 => ⟨S39936, .f32⟩
  | 9 => ⟨S128, .f32⟩
  | 10 => ⟨S2x64, .f32⟩
  | 11 => ⟨S39936, .f32⟩
  | 12 => ⟨S512, .f32⟩
  | 13 => ⟨S2x256, .f32⟩
  | 14 => ⟨S39936, .f32⟩
  | 15 => ⟨S512, .f32⟩
  | 16 => ⟨S2x256, .f32⟩
  | 17 => ⟨S39936, .f32⟩
  | 18 => ⟨S512, .f32⟩
  | 19 => ⟨S2x256, .f32⟩
  | 20 => ⟨S39936, .f32⟩
  | 21 => ⟨S512, .f32⟩
  | 22 => ⟨S2x256, .f32⟩
  | 23 => ⟨S39936, .f32⟩
  | 24 => ⟨S512, .f32⟩
  | 25 => ⟨S2x256, .f32⟩
  | 26 => ⟨S39936, .f32⟩
  | 27 => ⟨S512, .f32⟩
  | 28 => ⟨S2x256, .f32⟩
  | 29 => ⟨S39936, .f32⟩
  | 30 => ⟨S512, .f32⟩
  | 31 => ⟨S2x256, .f32⟩
  | 32 => ⟨S39936, .f32⟩
  | 33 => ⟨S512, .f32⟩
  | 34 => ⟨S2x256, .f32⟩
  | 35 => ⟨S39936, .f32⟩
  | 36 => ⟨S512, .f32⟩
  | 37 => ⟨S2x256, .f32⟩
  | 38 => ⟨S39936, .f32⟩
  | 39 => ⟨S32768, .f32⟩
  | 40 => ⟨S2x4x64x64, .f32⟩
  | 41 => ⟨S39936, .f32⟩
  | 42 => ⟨S32768, .f32⟩
  | 43 => ⟨S2x4x64x64, .f32⟩
  | 44 => ⟨S39936, .f32⟩
  | 45 => ⟨S32768, .f32⟩
  | 46 => ⟨S2x4x64x64, .f32⟩
  | 47 => ⟨S39936, .f32⟩
  | 48 => ⟨S512, .f32⟩
  | 49 => ⟨S2x256, .f32⟩
  | 50 => ⟨S39936, .f32⟩
  | 51 => ⟨S512, .f32⟩
  | 52 => ⟨S2x256, .f32⟩
  | 53 => ⟨S39936, .f32⟩
  | 54 => ⟨S512, .f32⟩
  | 55 => ⟨S2x256, .f32⟩
  | 56 => ⟨S39936, .f32⟩
  | 57 => ⟨S2048, .f32⟩
  | 58 => ⟨S2x1024, .f32⟩
  | 59 => ⟨S39936, .f32⟩
  | 60 => ⟨S2048, .f32⟩
  | 61 => ⟨S2x1024, .f32⟩
  | 62 => ⟨S39936, .f32⟩
  | 63 => ⟨S2048, .f32⟩
  | 64 => ⟨S2x1024, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | .local _ .vmem, ⟨7, _⟩ => ⟨S104x128, .f32⟩
  | .local _ .vmem, ⟨8, _⟩ => ⟨S104x128, .f32⟩
  | .local _ .vmem, ⟨9, _⟩ => ⟨S104x128, .f32⟩
  | .local _ .vmem, ⟨10, _⟩ => ⟨S104x128, .f32⟩
  | .local _ .vmem, ⟨11, _⟩ => ⟨S104x128, .f32⟩
  | .local _ .vmem, ⟨12, _⟩ => ⟨S104x128, .f32⟩
  | .local _ .vmem, ⟨13, _⟩ => ⟨S104x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_0 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_1 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_2 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56_0 : Ref sig .tc := ⟨.hbm, 100, rfl⟩
abbrev main_v56_1 : Ref sig .tc := ⟨.hbm, 101, rfl⟩
abbrev main_v56_2 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S104x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S104x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S104x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S104x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S104x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S104x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S104x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S2x1024 : Shape := ⟨2, ![2, 1024]⟩
abbrev S2x8 : Shape := ⟨2, ![2, 8]⟩
abbrev S2x64 : Shape := ⟨2, ![2, 64]⟩
abbrev S2x256 : Shape := ⟨2, ![2, 256]⟩
abbrev S2x4x64x64 : Shape := ⟨4, ![2, 4, 64, 64]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S2x1024, .f32⟩
  | 1 => ⟨S2x8, .f32⟩
  | 2 => ⟨S2x64, .f32⟩
  | 3 => ⟨S2x64, .f32⟩
  | 4 => ⟨S2x256, .f32⟩
  | 5 => ⟨S2x256, .f32⟩
  | 6 => ⟨S2x256, .f32⟩
  | 7 => ⟨S2x4x64x64, .f32⟩
  | 8 => ⟨S2x256, .f32⟩
  | 9 => ⟨S2x1024, .f32⟩
  | 10 => ⟨S2x1024, .f32⟩
  | 11 => ⟨S2x8, .f32⟩
  | 12 => ⟨S2x64, .f32⟩
  | 13 => ⟨S2x64, .f32⟩
  | 14 => ⟨S2x256, .f32⟩
  | 15 => ⟨S2x256, .f32⟩
  | 16 => ⟨S2x256, .f32⟩
  | 17 => ⟨S2x4x64x64, .f32⟩
  | 18 => ⟨S2x256, .f32⟩
  | 19 => ⟨S2x1024, .f32⟩
  | 20 => ⟨S2x1024, .f32⟩
  | 21 => ⟨S2x8, .f32⟩
  | 22 => ⟨S2x64, .f32⟩
  | 23 => ⟨S2x64, .f32⟩
  | 24 => ⟨S2x256, .f32⟩
  | 25 => ⟨S2x256, .f32⟩
  | 26 => ⟨S2x256, .f32⟩
  | 27 => ⟨S2x4x64x64, .f32⟩
  | 28 => ⟨S2x256, .f32⟩
  | 29 => ⟨S2x1024, .f32⟩
  | 30 => ⟨S2x1024, .f32⟩
  | 31 => ⟨S2x8, .f32⟩
  | 32 => ⟨S2x64, .f32⟩
  | 33 => ⟨S2x64, .f32⟩
  | 34 => ⟨S2x256, .f32⟩
  | 35 => ⟨S2x256, .f32⟩
  | 36 => ⟨S2x256, .f32⟩
  | 37 => ⟨S2x4x64x64, .f32⟩
  | 38 => ⟨S2x256, .f32⟩
  | 39 => ⟨S2x1024, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S2x8, .f32⟩
  | 75 => ⟨S2x8, .f32⟩
  | 76 => ⟨S_, .f32⟩
  | 77 => ⟨S2x8, .f32⟩
  | 78 => ⟨S2x8, .f32⟩
  | 79 => ⟨S2x8, .f32⟩
  | 80 => ⟨S_, .f32⟩
  | 81 => ⟨S2x8, .f32⟩
  | 82 => ⟨S2x8, .f32⟩
  | 83 => ⟨S2x8, .f32⟩
  | 84 => ⟨S_, .f32⟩
  | 85 => ⟨S2x8, .f32⟩
  | 86 => ⟨S2x8, .f32⟩
  | 87 => ⟨S2x8, .f32⟩
  | 88 => ⟨S_, .f32⟩
  | 89 => ⟨S2x8, .f32⟩
  | 90 => ⟨S2x8, .f32⟩
  | 91 => ⟨S_, .f32⟩
  | 92 => ⟨S2x8, .f32⟩
  | 93 => ⟨S2x8, .f32⟩
  | 94 => ⟨S2x8, .f32⟩
  | 95 => ⟨S_, .f32⟩
  | 96 => ⟨S2x8, .f32⟩
  | 97 => ⟨S2x8, .f32⟩
  | 98 => ⟨S2x8, .f32⟩
  | 99 => ⟨S_, .f32⟩
  | 100 => ⟨S2x8, .f32⟩
  | 101 => ⟨S2x8, .f32⟩
  | 102 => ⟨S2x8, .f32⟩
  | 103 => ⟨S_, .f32⟩
  | 104 => ⟨S2x8, .f32⟩
  | 105 => ⟨S2x8, .f32⟩
  | 106 => ⟨S_, .f32⟩
  | 107 => ⟨S2x64, .f32⟩
  | 108 => ⟨S2x64, .f32⟩
  | 109 => ⟨S_, .f32⟩
  | 110 => ⟨S2x64, .f32⟩
  | 111 => ⟨S2x64, .f32⟩
  | 112 => ⟨S2x64, .f32⟩
  | 113 => ⟨S_, .f32⟩
  | 114 => ⟨S2x64, .f32⟩
  | 115 => ⟨S2x64, .f32⟩
  | 116 => ⟨S2x64, .f32⟩
  | 117 => ⟨S_, .f32⟩
  | 118 => ⟨S2x64, .f32⟩
  | 119 => ⟨S2x64, .f32⟩
  | 120 => ⟨S2x64, .f32⟩
  | 121 => ⟨S_, .f32⟩
  | 122 => ⟨S2x64, .f32⟩
  | 123 => ⟨S2x64, .f32⟩
  | 124 => ⟨S_, .f32⟩
  | 125 => ⟨S2x64, .f32⟩
  | 126 => ⟨S2x64, .f32⟩
  | 127 => ⟨S2x64, .f32⟩
  | _ => ⟨S2x1024, .f32⟩

abbrev hbmTy0_1 (i : Nat) : BufTy := match i % 128 with
  | 0 => ⟨S_, .f32⟩
  | 1 => ⟨S2x64, .f32⟩
  | 2 => ⟨S2x64, .f32⟩
  | 3 => ⟨S2x64, .f32⟩
  | 4 => ⟨S_, .f32⟩
  | 5 => ⟨S2x64, .f32⟩
  | 6 => ⟨S2x64, .f32⟩
  | 7 => ⟨S2x64, .f32⟩
  | 8 => ⟨S_, .f32⟩
  | 9 => ⟨S2x64, .f32⟩
  | 10 => ⟨S2x64, .f32⟩
  | 11 => ⟨S_, .f32⟩
  | 12 => ⟨S2x64, .f32⟩
  | 13 => ⟨S2x64, .f32⟩
  | 14 => ⟨S_, .f32⟩
  | 15 => ⟨S2x64, .f32⟩
  | 16 => ⟨S2x64, .f32⟩
  | 17 => ⟨S2x64, .f32⟩
  | 18 => ⟨S_, .f32⟩
  | 19 => ⟨S2x64, .f32⟩
  | 20 => ⟨S2x64, .f32⟩
  | 21 => ⟨S2x64, .f32⟩
  | 22 => ⟨S_, .f32⟩
  | 23 => ⟨S2x64, .f32⟩
  | 24 => ⟨S2x64, .f32⟩
  | 25 => ⟨S2x64, .f32⟩
  | 26 => ⟨S_, .f32⟩
  | 27 => ⟨S2x64, .f32⟩
  | 28 => ⟨S2x64, .f32⟩
  | 29 => ⟨S_, .f32⟩
  | 30 => ⟨S2x64, .f32⟩
  | 31 => ⟨S2x64, .f32⟩
  | 32 => ⟨S2x64, .f32⟩
  | 33 => ⟨S_, .f32⟩
  | 34 => ⟨S2x64, .f32⟩
  | 35 => ⟨S2x64, .f32⟩
  | 36 => ⟨S2x64, .f32⟩
  | 37 => ⟨S_, .f32⟩
  | 38 => ⟨S2x64, .f32⟩
  | 39 => ⟨S2x64, .f32⟩
  | 40 => ⟨S2x64, .f32⟩
  | 41 => ⟨S_, .f32⟩
  | 42 => ⟨S2x64, .f32⟩
  | 43 => ⟨S2x64, .f32⟩
  | 44 => ⟨S_, .f32⟩
  | 45 => ⟨S2x256, .f32⟩
  | 46 => ⟨S2x256, .f32⟩
  | 47 => ⟨S_, .f32⟩
  | 48 => ⟨S2x256, .f32⟩
  | 49 => ⟨S2x256, .f32⟩
  | 50 => ⟨S2x256, .f32⟩
  | 51 => ⟨S_, .f32⟩
  | 52 => ⟨S2x256, .f32⟩
  | 53 => ⟨S2x256, .f32⟩
  | 54 => ⟨S2x256, .f32⟩
  | 55 => ⟨S_, .f32⟩
  | 56 => ⟨S2x256, .f32⟩
  | 57 => ⟨S2x256, .f32⟩
  | 58 => ⟨S2x256, .f32⟩
  | 59 => ⟨S_, .f32⟩
  | 60 => ⟨S2x256, .f32⟩
  | 61 => ⟨S2x256, .f32⟩
  | 62 => ⟨S_, .f32⟩
  | 63 => ⟨S2x256, .f32⟩
  | 64 => ⟨S2x256, .f32⟩
  | 65 => ⟨S2x256, .f32⟩
  | 66 => ⟨S_, .f32⟩
  | 67 => ⟨S2x256, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S_, .f32⟩
  | 78 => ⟨S2x256, .f32⟩
  | 79 => ⟨S2x256, .f32⟩
  | 80 => ⟨S_, .f32⟩
  | 81 => ⟨S2x256, .f32⟩
  | 82 => ⟨S2x256, .f32⟩
  | 83 => ⟨S2x256, .f32⟩
  | 84 => ⟨S_, .f32⟩
  | 85 => ⟨S2x256, .f32⟩
  | 86 => ⟨S2x256, .f32⟩
  | 87 => ⟨S2x256, .f32⟩
  | 88 => ⟨S_, .f32⟩
  | 89 => ⟨S2x256, .f32⟩
  | 90 => ⟨S2x256, .f32⟩
  | 91 => ⟨S2x256, .f32⟩
  | 92 => ⟨S_, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S2x256, .f32⟩
  | 99 => ⟨S_, .f32⟩
  | 100 => ⟨S2x256, .f32⟩
  | 101 => ⟨S2x256, .f32⟩
  | 102 => ⟨S2x256, .f32⟩
  | 103 => ⟨S_, .f32⟩
  | 104 => ⟨S2x256, .f32⟩
  | 105 => ⟨S2x256, .f32⟩
  | 106 => ⟨S2x256, .f32⟩
  | 107 => ⟨S_, .f32⟩
  | 108 => ⟨S2x256, .f32⟩
  | 109 => ⟨S2x256, .f32⟩
  | 110 => ⟨S_, .f32⟩
  | 111 => ⟨S2x256, .f32⟩
  | 112 => ⟨S2x256, .f32⟩
  | 113 => ⟨S_, .f32⟩
  | 114 => ⟨S2x256, .f32⟩
  | 115 => ⟨S2x256, .f32⟩
  | 116 => ⟨S2x256, .f32⟩
  | 117 => ⟨S_, .f32⟩
  | 118 => ⟨S2x256, .f32⟩
  | 119 => ⟨S2x256, .f32⟩
  | 120 => ⟨S2x256, .f32⟩
  | 121 => ⟨S_, .f32⟩
  | 122 => ⟨S2x256, .f32⟩
  | 123 => ⟨S2x256, .f32⟩
  | 124 => ⟨S2x256, .f32⟩
  | 125 => ⟨S_, .f32⟩
  | 126 => ⟨S2x256, .f32⟩
  | 127 => ⟨S2x256, .f32⟩
  | _ => ⟨S2x1024, .f32⟩

abbrev hbmTy0_2 (i : Nat) : BufTy := match i % 128 with
  | 0 => ⟨S_, .f32⟩
  | 1 => ⟨S2x256, .f32⟩
  | 2 => ⟨S2x256, .f32⟩
  | 3 => ⟨S2x256, .f32⟩
  | 4 => ⟨S_, .f32⟩
  | 5 => ⟨S2x256, .f32⟩
  | 6 => ⟨S2x256, .f32⟩
  | 7 => ⟨S2x256, .f32⟩
  | 8 => ⟨S_, .f32⟩
  | 9 => ⟨S2x256, .f32⟩
  | 10 => ⟨S2x256, .f32⟩
  | 11 => ⟨S2x256, .f32⟩
  | 12 => ⟨S_, .f32⟩
  | 13 => ⟨S2x256, .f32⟩
  | 14 => ⟨S2x256, .f32⟩
  | 15 => ⟨S_, .f32⟩
  | 16 => ⟨S2x4x64x64, .f32⟩
  | 17 => ⟨S2x4x64x64, .f32⟩
  | 18 => ⟨S_, .f32⟩
  | 19 => ⟨S2x4x64x64, .f32⟩
  | 20 => ⟨S2x4x64x64, .f32⟩
  | 21 => ⟨S2x4x64x64, .f32⟩
  | 22 => ⟨S_, .f32⟩
  | 23 => ⟨S2x4x64x64, .f32⟩
  | 24 => ⟨S2x4x64x64, .f32⟩
  | 25 => ⟨S2x4x64x64, .f32⟩
  | 26 => ⟨S_, .f32⟩
  | 27 => ⟨S2x4x64x64, .f32⟩
  | 28 => ⟨S2x4x64x64, .f32⟩
  | 29 => ⟨S2x4x64x64, .f32⟩
  | 30 => ⟨S_, .f32⟩
  | 31 => ⟨S2x4x64x64, .f32⟩
  | 32 => ⟨S2x4x64x64, .f32⟩
  | 33 => ⟨S_, .f32⟩
  | 34 => ⟨S2x4x64x64, .f32⟩
  | 35 => ⟨S2x4x64x64, .f32⟩
  | 36 => ⟨S2x4x64x64, .f32⟩
  | 37 => ⟨S_, .f32⟩
  | 38 => ⟨S2x4x64x64, .f32⟩
  | 39 => ⟨S2x4x64x64, .f32⟩
  | 40 => ⟨S2x4x64x64, .f32⟩
  | 41 => ⟨S_, .f32⟩
  | 42 => ⟨S2x4x64x64, .f32⟩
  | 43 => ⟨S2x4x64x64, .f32⟩
  | 44 => ⟨S2x4x64x64, .f32⟩
  | 45 => ⟨S_, .f32⟩
  | 46 => ⟨S2x4x64x64, .f32⟩
  | 47 => ⟨S2x4x64x64, .f32⟩
  | 48 => ⟨S_, .f32⟩
  | 49 => ⟨S2x256, .f32⟩
  | 50 => ⟨S2x256, .f32⟩
  | 51 => ⟨S_, .f32⟩
  | 52 => ⟨S2x256, .f32⟩
  | 53 => ⟨S2x256, .f32⟩
  | 54 => ⟨S2x256, .f32⟩
  | 55 => ⟨S_, .f32⟩
  | 56 => ⟨S2x256, .f32⟩
  | 57 => ⟨S2x256, .f32⟩
  | 58 => ⟨S2x256, .f32⟩
  | 59 => ⟨S_, .f32⟩
  | 60 => ⟨S2x256, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S_, .f32⟩
  | 67 => ⟨S2x256, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== AddSibling.lean ====
abbrev S4x2x23760x128 : Shape := ⟨4, ![4, 2, 23760, 128]⟩
abbrev S4x23760x128 : Shape := ⟨3, ![4, 23760, 128]⟩
abbrev S1 : Shape := ⟨1, ![1]⟩
abbrev S1x1x2160x128 : Shape := ⟨4, ![1, 1, 2160, 128]⟩
abbrev S1x2160x128 : Shape := ⟨3, ![1, 2160, 128]⟩
abbrev S2160x128 : Shape := ⟨2, ![2160, 128]⟩

abbrev nBuf : Space → Nat
  | .hbm => 4
  | .vmem => 8
  | .smem => 1
  | _ => 0

abbrev bufTy : (tb : Table) → Fin (tcTables nBuf tb) → BufTy
  | .hbm, ⟨0, _⟩ => ⟨S4x2x23760x128, .f32⟩
  | .hbm, ⟨1, _⟩ => ⟨S4x23760x128, .bf16⟩
  | .hbm, ⟨2, _⟩ => ⟨S4x23760x128, .f32⟩
  | .hbm, ⟨3, _⟩ => ⟨S4x23760x128, .bf16⟩
  | .local _ .vmem, ⟨0, _⟩ => ⟨S1x1x2160x128, .f32⟩
  | .local _ .vmem, ⟨1, _⟩ => ⟨S1x1x2160x128, .f32⟩
  | .local _ .vmem, ⟨2, _⟩ => ⟨S1x2160x128, .bf16⟩
  | .local _ .vmem, ⟨3, _⟩ => ⟨S1x2160x128, .bf16⟩
  | .local _ .vmem, ⟨4, _⟩ => ⟨S1x2160x128, .f32⟩
  | .local _ .vmem, ⟨5, _⟩ => ⟨S1x2160x128, .f32⟩
  | .local _ .vmem, ⟨6, _⟩ => ⟨S1x2160x128, .bf16⟩
  | .local _ .vmem, ⟨7, _⟩ => ⟨S1x2160x128, .bf16⟩
  | .local _ .smem, ⟨0, _⟩ => ⟨S1, .i32⟩
  | _, _ => ⟨S4x2x23760x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddSiblingReference.lean ====
abbrev S4x2x23760x128 : Shape := ⟨4, ![4, 2, 23760, 128]⟩
abbrev S4x23760x128 : Shape := ⟨3, ![4, 23760, 128]⟩
abbrev S1 : Shape := ⟨1, ![1]⟩
abbrev S_ : Shape := ⟨0, ![]⟩
abbrev S4x1x23760x128 : Shape := ⟨4, ![4, 1, 23760, 128]⟩

abbrev nBuf : Space → Nat
  | .hbm => 14
  | .vmem => 0
  | .smem => 0
  | _ => 0

abbrev bufTy : (tb : Table) → Fin (tcTables nBuf tb) → BufTy
  | .hbm, ⟨0, _⟩ => ⟨S4x2x23760x128, .f32⟩
  | .hbm, ⟨1, _⟩ => ⟨S4x23760x128, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x23760x128, .f32⟩
  | .hbm, ⟨7, _⟩ => ⟨S4x23760x128, .f32⟩
  | .hbm, ⟨8, _⟩ => ⟨S4x1x23760x128, .f32⟩
  | .hbm, ⟨9, _⟩ => ⟨S4x23760x128, .f32⟩
  | .hbm, ⟨10, _⟩ => ⟨S4x23760x128, .f32⟩
  | .hbm, ⟨11, _⟩ => ⟨S4x23760x128, .f32⟩
  | .hbm, ⟨12, _⟩ => ⟨S4x23760x128, .f32⟩
  | .hbm, ⟨13, _⟩ => ⟨S4x23760x128, .bf16⟩
  | _, _ => ⟨S4x2x23760x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddPartials.lean ====
abbrev S4x23760x128 : Shape := ⟨3, ![4, 23760, 128]⟩
abbrev S3x23760x128 : Shape := ⟨3, ![3, 23760, 128]⟩
abbrev S1 : Shape := ⟨1, ![1]⟩
abbrev S23760x128 : Shape := ⟨2, ![23760, 128]⟩
abbrev S1x2160x128 : Shape := ⟨3, ![1, 2160, 128]⟩
abbrev S3x2160x128 : Shape := ⟨3, ![3, 2160, 128]⟩
abbrev S2160x128 : Shape := ⟨2, ![2160, 128]⟩

abbrev nBuf : Space → Nat
  | .hbm => 3
  | .vmem => 6
  | .smem => 1
  | _ => 0

abbrev bufTy : (tb : Table) → Fin (tcTables nBuf tb) → BufTy
  | .hbm, ⟨0, _⟩ => ⟨S4x23760x128, .f32⟩
  | .hbm, ⟨1, _⟩ => ⟨S3x23760x128, .bf16⟩
  | .hbm, ⟨2, _⟩ => ⟨S23760x128, .f32⟩
  | .local _ .vmem, ⟨0, _⟩ => ⟨S1x2160x128, .f32⟩
  | .local _ .vmem, ⟨1, _⟩ => ⟨S1x2160x128, .f32⟩
  | .local _ .vmem, ⟨2, _⟩ => ⟨S3x2160x128, .bf16⟩
  | .local _ .vmem, ⟨3, _⟩ => ⟨S3x2160x128, .bf16⟩
  | .local _ .vmem, ⟨4, _⟩ => ⟨S2160x128, .f32⟩
  | .local _ .vmem, ⟨5, _⟩ => ⟨S2160x128, .f32⟩
  | .local _ .smem, ⟨0, _⟩ => ⟨S1, .i32⟩
  | _, _ => ⟨S4x23760x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPartialsReference.lean ====
abbrev S4x23760x128 : Shape := ⟨3, ![4, 23760, 128]⟩
abbrev S3x23760x128 : Shape := ⟨3, ![3, 23760, 128]⟩
abbrev S1 : Shape := ⟨1, ![1]⟩
abbrev S_ : Shape := ⟨0, ![]⟩
abbrev S1x23760x128 : Shape := ⟨3, ![1, 23760, 128]⟩
abbrev S23760x128 : Shape := ⟨2, ![23760, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x23760x128, .f32⟩
  | .hbm, ⟨1, _⟩ => ⟨S3x23760x128, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x23760x128, .f32⟩
  | .hbm, ⟨7, _⟩ => ⟨S23760x128, .f32⟩
  | .hbm, ⟨8, _⟩ => ⟨S_, .i32⟩
  | .hbm, ⟨9, _⟩ => ⟨S_, .i1⟩
  | .hbm, ⟨10, _⟩ => ⟨S1x23760x128, .f32⟩
  | .hbm, ⟨11, _⟩ => ⟨S23760x128, .f32⟩
  | .hbm, ⟨12, _⟩ => ⟨S_, .i32⟩
  | .hbm, ⟨13, _⟩ => ⟨S_, .i1⟩
  | .hbm, ⟨14, _⟩ => ⟨S1x23760x128, .f32⟩
  | .hbm, ⟨15, _⟩ => ⟨S23760x128, .f32⟩
  | .hbm, ⟨16, _⟩ => ⟨S1x23760x128, .f32⟩
  | .hbm, ⟨17, _⟩ => ⟨S23760x128, .f32⟩
  | .hbm, ⟨18, _⟩ => ⟨S23760x128, .f32⟩
  | .hbm, ⟨19, _⟩ => ⟨S23760x128, .f32⟩
  | .hbm, ⟨20, _⟩ => ⟨S23760x128, .f32⟩
  | .hbm, ⟨21, _⟩ => ⟨S3x23760x128, .f32⟩
  | .hbm, ⟨22, _⟩ => ⟨S1x23760x128, .f32⟩
  | .hbm, ⟨23, _⟩ => ⟨S23760x128, .f32⟩
  | .hbm, ⟨24, _⟩ => ⟨S23760x128, .f32⟩
  | .hbm, ⟨25, _⟩ => ⟨S1x23760x128, .f32⟩
  | .hbm, ⟨26, _⟩ => ⟨S23760x128, .f32⟩
  | .hbm, ⟨27, _⟩ => ⟨S23760x128, .f32⟩
  | .hbm, ⟨28, _⟩ => ⟨S1x23760x128, .f32⟩
  | .hbm, ⟨29, _⟩ => ⟨S23760x128, .f32⟩
  | .hbm, ⟨30, _⟩ => ⟨S23760x128, .f32⟩
  | _, _ => ⟨S4x23760x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Hidden.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HiddenReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjA.lean ====
abbrev S4096x1024 : Shape := ⟨2, ![4096, 1024]⟩
abbrev S1024x2304 : Shape := ⟨2, ![1024, 2304]⟩
abbrev S4096x2304 : Shape := ⟨2, ![4096, 2304]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S4096x1024 : Shape := ⟨2, ![4096, 1024]⟩
abbrev S1024x2304 : Shape := ⟨2, ![1024, 2304]⟩
abbrev S4096x2304 : Shape := ⟨2, ![4096, 2304]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjFg.lean ====
abbrev S16x1024 : Shape := ⟨2, ![16, 1024]⟩
abbrev S4096x1024 : Shape := ⟨2, ![4096, 1024]⟩
abbrev S16x4096 : Shape := ⟨2, ![16, 4096]⟩
abbrev S512x1024 : Shape := ⟨2, ![512, 1024]⟩
abbrev S16x512 : Shape := ⟨2, ![16, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .bf16⟩
  | .hbm, ⟨1, _⟩ => ⟨S4096x1024, .bf16⟩
  | .hbm, ⟨2, _⟩ => ⟨S16x4096, .f32⟩
  | .local _ .vmem, ⟨0, _⟩ => ⟨S16x1024, .bf16⟩
  | .local _ .vmem, ⟨1, _⟩ => ⟨S512x1024, .bf16⟩
  | .local _ .vmem, ⟨2, _⟩ => ⟨S512x1024, .bf16⟩
  | .local _ .vmem, ⟨3, _⟩ => ⟨S16x512, .f32⟩
  | .local _ .vmem, ⟨4, _⟩ => ⟨S16x512, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFgIdeal.lean ====
abbrev S16x1024 : Shape := ⟨2, ![16, 1024]⟩
abbrev S4096x1024 : Shape := ⟨2, ![4096, 1024]⟩
abbrev S16x4096 : Shape := ⟨2, ![16, 4096]⟩
abbrev S512x1024 : Shape := ⟨2, ![512, 1024]⟩
abbrev S16x512 : Shape := ⟨2, ![16, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .bf16⟩
  | .hbm, ⟨1, _⟩ => ⟨S4096x1024, .bf16⟩
  | .hbm, ⟨2, _⟩ => ⟨S16x4096, .f32⟩
  | .local _ .vmem, ⟨0, _⟩ => ⟨S16x1024, .bf16⟩
  | .local _ .vmem, ⟨1, _⟩ => ⟨S512x1024, .bf16⟩
  | .local _ .vmem, ⟨2, _⟩ => ⟨S512x1024, .bf16⟩
  | .local _ .vmem, ⟨3, _⟩ => ⟨S16x512, .f32⟩
  | .local _ .vmem, ⟨4, _⟩ => ⟨S16x512, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFgReferenceIdeal.lean ====
abbrev S16x1024 : Shape := ⟨2, ![16, 1024]⟩
abbrev S4096x1024 : Shape := ⟨2, ![4096, 1024]⟩
abbrev S1024x4096 : Shape := ⟨2, ![1024, 4096]⟩
abbrev S16x4096 : Shape := ⟨2, ![16, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S4096x1024, .bf16⟩
  | .hbm, ⟨2, _⟩ => ⟨S16x1024, .f32⟩
  | .hbm, ⟨3, _⟩ => ⟨S4096x1024, .f32⟩
  | .hbm, ⟨4, _⟩ => ⟨S1024x4096, .f32⟩
  | .hbm, ⟨5, _⟩ => ⟨S16x4096, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpProj.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjIdeal.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownProj.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjIdeal.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BackAct.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackActIdeal.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackActReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackUp.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackUpIdeal.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackUpReferenceIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradUp.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpIdeal.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpReferenceIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S1024x4096, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackMix.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackMixIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackMixReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackFg.lean ====
abbrev S16x4096 : Shape := ⟨2, ![16, 4096]⟩
abbrev S16x1024 : Shape := ⟨2, ![16, 1024]⟩
abbrev S4096x1024 : Shape := ⟨2, ![4096, 1024]⟩
abbrev S16x512 : Shape := ⟨2, ![16, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S16x1024, .bf16⟩
  | .hbm, ⟨2, _⟩ => ⟨S4096x1024, .f32⟩
  | .local _ .vmem, ⟨0, _⟩ => ⟨S16x512, .f32⟩
  | .local _ .vmem, ⟨1, _⟩ => ⟨S16x512, .f32⟩
  | .local _ .vmem, ⟨2, _⟩ => ⟨S16x1024, .bf16⟩
  | .local _ .vmem, ⟨3, _⟩ => ⟨S512x1024, .f32⟩
  | .local _ .vmem, ⟨4, _⟩ => ⟨S512x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackFgIdeal.lean ====
abbrev S16x4096 : Shape := ⟨2, ![16, 4096]⟩
abbrev S16x1024 : Shape := ⟨2, ![16, 1024]⟩
abbrev S4096x1024 : Shape := ⟨2, ![4096, 1024]⟩
abbrev S16x512 : Shape := ⟨2, ![16, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S16x1024, .bf16⟩
  | .hbm, ⟨2, _⟩ => ⟨S4096x1024, .f32⟩
  | .local _ .vmem, ⟨0, _⟩ => ⟨S16x512, .f32⟩
  | .local _ .vmem, ⟨1, _⟩ => ⟨S16x512, .f32⟩
  | .local _ .vmem, ⟨2, _⟩ => ⟨S16x1024, .bf16⟩
  | .local _ .vmem, ⟨3, _⟩ => ⟨S512x1024, .f32⟩
  | .local _ .vmem, ⟨4, _⟩ => ⟨S512x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackFgReferenceIdeal.lean ====
abbrev S16x4096 : Shape := ⟨2, ![16, 4096]⟩
abbrev S16x1024 : Shape := ⟨2, ![16, 1024]⟩
abbrev S4096x16 : Shape := ⟨2, ![4096, 16]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1024, .bf16⟩
  | .hbm, ⟨2, _⟩ => ⟨S16x1024, .f32⟩
  | .hbm, ⟨3, _⟩ => ⟨S4096x16, .f32⟩
  | .hbm, ⟨4, _⟩ => ⟨S4096x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackA.lean ====
abbrev S4096x2304 : Shape := ⟨2, ![4096, 2304]⟩
abbrev S1024x2304 : Shape := ⟨2, ![1024, 2304]⟩
abbrev S4096x1024 : Shape := ⟨2, ![4096, 1024]⟩
abbrev S512x768 : Shape := ⟨2, ![512, 768]⟩
abbrev S1024x768 : Shape := ⟨2, ![1024, 768]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackAIdeal.lean ====
abbrev S4096x2304 : Shape := ⟨2, ![4096, 2304]⟩
abbrev S1024x2304 : Shape := ⟨2, ![1024, 2304]⟩
abbrev S4096x1024 : Shape := ⟨2, ![4096, 1024]⟩
abbrev S512x768 : Shape := ⟨2, ![512, 768]⟩
abbrev S1024x768 : Shape := ⟨2, ![1024, 768]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackAReferenceIdeal.lean ====
abbrev S4096x2304 : Shape := ⟨2, ![4096, 2304]⟩
abbrev S1024x2304 : Shape := ⟨2, ![1024, 2304]⟩
abbrev S4096x1024 : Shape := ⟨2, ![4096, 1024]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x2304, .f32⟩
  | .hbm, ⟨4, _⟩ => ⟨S1024x2304, .f32⟩
  | .hbm, ⟨5, _⟩ => ⟨S2304x1024, .f32⟩
  | .hbm, ⟨6, _⟩ => ⟨S4096x1024, .f32⟩
  | .hbm, ⟨7, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradA.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAIdeal.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAReferenceIdeal.lean ====
abbrev S4096x1024 : Shape := ⟨2, ![4096, 1024]⟩
abbrev S4096x2304 : Shape := ⟨2, ![4096, 2304]⟩
abbrev S1024x4096 : Shape := ⟨2, ![1024, 4096]⟩
abbrev S1024x2304 : Shape := ⟨2, ![1024, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S4096x1024, .f32⟩
  | .hbm, ⟨3, _⟩ => ⟨S4096x2304, .f32⟩
  | .hbm, ⟨4, _⟩ => ⟨S1024x4096, .f32⟩
  | .hbm, ⟨5, _⟩ => ⟨S1024x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFg.lean ====
abbrev S16x4096 : Shape := ⟨2, ![16, 4096]⟩
abbrev S4096x1024 : Shape := ⟨2, ![4096, 1024]⟩
abbrev S16x1024 : Shape := ⟨2, ![16, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S4096x1024, .bf16⟩
  | .hbm, ⟨2, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x1024, .f32⟩
  | .local _ .vmem, ⟨5, _⟩ => ⟨S16x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradFgReferenceIdeal.lean ====
abbrev S16x4096 : Shape := ⟨2, ![16, 4096]⟩
abbrev S4096x1024 : Shape := ⟨2, ![4096, 1024]⟩
abbrev S16x1024 : Shape := ⟨2, ![16, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x1024, .bf16⟩
  | .hbm, ⟨2, _⟩ => ⟨S4096x1024, .f32⟩
  | .hbm, ⟨3, _⟩ => ⟨S16x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Launch.lean ====
/-
# Launching a program that begins with an exchange between the devices

The first kernel of the program moves whole arrays in the devices' main memory: it has no windows and no tables, and its
transfers land in arrays that belong to the OTHER devices, with no signal asking whether the owner has got there yet.
That is sound because such an array exists from the start of the program; but the sender must own the piece it writes from
the start as well. So the step that shares things out before any device runs is given, of every device at once, the
kernel's own semaphores AND the arrays in main memory, and may hand a device pieces of other devices' arrays.
-/
module

public import Idealize.ShloMosaic.Lib.Pipeline.Launch
public import Idealize.ShloMosaic.Lib.Pipeline.Regions
public import Idealize.ShloMosaic.Lib.Pipeline.RegionArrays
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline.PerCore

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- The levels of all the TensorCores' semaphores assigned at once. -/
theorem assign_levels (L : GSem nD τ sig → Finset Ix) (lv : GSem nD τ sig → Ix → Lvl) (hL : ∀ g : GSem nD τ sig, g.1.2 ≠ .tc → L g = ∅) :
    (bigSep Finset.univ fun c : Dev nD => (levels0 c : sProp 𝕄)) ⊢ |==> levAts L lv := by
  classical
  have none_off (d : Dev nD) (q : Proc τ) (hq : q ≠ .tc) : (coreLevAts ((d, q) : Thread nD τ) L lv : sProp 𝕄) = BI.emp := by
    unfold coreLevAts
    refine (bigSep_congr fun sm _ => ?_).trans (BI.bigSep_emp_const _)
    rw [hL (((d, q) : Thread nD τ), sm) hq, BI.bigSep_empty]
  have all_tc : (bigSep Finset.univ fun d : Dev nD => coreLevAts (d.tc : Thread nD τ) L lv) ⊢ (levAts L lv : sProp 𝕄) := by
    have hcores : (levAts L lv : sProp 𝕄) = bigSep Finset.univ fun t : Thread nD τ => coreLevAts t L lv :=
      bigSep_univ_prod fun g : GSem nD τ sig => bigSep (L g) fun i => levAt g i (lv g i)
    rw [hcores, bigSep_threads (fun t : Thread nD τ => coreLevAts t L lv)]
    have hoff : (bigSep Finset.univ fun d : Dev nD => bigSep (Finset.univ.erase Proc.tc) fun q => (coreLevAts ((d, q) : Thread nD τ) L lv : sProp 𝕄)) = BI.emp :=
      (bigSep_congr fun d _ => (bigSep_congr fun q hq => none_off d q (Finset.ne_of_mem_erase hq)).trans (BI.bigSep_emp_const _)).trans (BI.bigSep_emp_const _)
    rw [hoff]
    iintro H
    isplitl [H]; · iexact H
    iempintro
  have drop (c : Dev nD) : iprop((bigSep Finset.univ fun sm : SemLoc sig => levels ((c.tc : Thread nD τ), sm) (L ((c.tc : Thread nD τ), sm)))
      ∗ coreLevAts (c.tc : Thread nD τ) L lv) ⊢ (coreLevAts (c.tc : Thread nD τ) L lv : sProp 𝕄) := by
    iintro ⟨-, H⟩
    iexact H
  unfold levels0
  refine (bigSep_mono fun c _ => lev_assign_cells (c.tc : Thread nD τ) L lv).trans <| (BI.bigSep_bupd _ _).trans <| BI.bupd_mono ?_
  exact (bigSep_mono fun c _ => drop c).trans all_tc

variable {Λ₀ : Idealize.SL.Sem.Labels} {P : Type} [Fintype P] [DecidableEq P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- What the launch deals to all the devices, before anything is shared: a device's part. -/
def dealt (m : (ℓ : Loc nD τ sig) → Buf Val ℓ) (g : Dev nD → PrngReg) (O₀ : Dev nD → CellTallies nD τ sig Ix) (G : Dev nD → sProp 𝕄)
    (osem : K → SemLoc sig) (c : Dev nD) : sProp 𝕄 :=
  iprop(ownSems0 osem c ∗ unscopedBufs c (fun b => m ((c.tc : Thread nD τ).loc b)) ∗ unscopedSems0 c ∗ launchCred O₀ c ∗ prngReg c (g c) ∗ G c)

/-- What device `c` keeps for the region whatever is shared out: its scoped storage, what it owes, the level facts and the
    pipelines' ghost state. -/
def kept (O₀ : Dev nD → CellTallies nD τ sig Ix) (L : GSem nD τ sig → Finset Ix) (lv : GSem nD τ sig → Ix → Lvl) (c : Dev nD) : sProp 𝕄 :=
  iprop((scopedBufs (c.tc : Thread nD τ) ∗ cellsSems0 (pinD pcs a) p c ∗ idleSems0 (pinD pcs a) phinj p (fun _ => ho) c ∗ opIdle (c.tc : Thread nD τ))
    ∗ owes (c.tc : Thread nD τ) (O₀ c) ∅ ∗ levAts L lv
    ∗ (bigSep Finset.univ fun p' => cellsGhost (pinD pcs a) EP p' c) ∗ bigSep Finset.univ fun p' => toksInit (pinD pcs a) EP p' c)

include hw in
/-- The launch: what the machine deals, with the certificate's own algebra `u₀`, is what every device keeps together with
    what may be shared out. -/
theorem deal (m : (ℓ : Loc nD τ sig) → Buf Val ℓ) (g : Dev nD → PrngReg) (O₀ : Dev nD → CellTallies nD τ sig Ix)
    (L : GSem nD τ sig → Finset Ix) (lv : GSem nD τ sig → Ix → Lvl) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G)) :
    iprop((bigSep Finset.univ fun d : Dev nD =>
        coreInit (Ix := Ix) (Name := Name) (U := U) (Lvl := Lvl) (owing O₀) 0 (⟨m, fun _ => 0, g⟩ : MemSt nD τ sig Val) (d.tc : Thread nD τ)) ∗ ownU u₀)
      ⊢ |={Set.univ}=> iprop((bigSep Finset.univ fun c => kept pcs a phinj p ho EP O₀ L lv c) ∗ bigSep Finset.univ fun c => dealt m g O₀ G osem c) := by
  classical
  have one (c : Dev nD) :
      coreInit (Ix := Ix) (Name := Name) (U := U) (Lvl := Lvl) (owing O₀) 0 (⟨m, fun _ => 0, g⟩ : MemSt nD τ sig Val) (c.tc : Thread nD τ)
        ⊢ iprop((scopedBufs (c.tc : Thread nD τ) ∗ cellsSems0 (pinD pcs a) p c ∗ idleSems0 (pinD pcs a) phinj p (fun _ => ho) c ∗ opIdle (c.tc : Thread nD τ))
            ∗ owes (c.tc : Thread nD τ) (O₀ c) ∅ ∗ levels0 c
            ∗ ownSems0 osem c ∗ unscopedBufs c (fun b => m ((c.tc : Thread nD τ).loc b)) ∗ unscopedSems0 c ∗ launchCred O₀ c ∗ prngReg c (g c)) := by
    refine (coreInit_boundary_owing O₀ m g c).trans ?_
    unfold boundary
    rw [scopedSems0_split (pinD pcs a) phinj p (fun _ => hw) (fun _ => ho) (Ix := Ix) (Val := Val) (Name := Name) (U := U) (Lvl := Lvl) c]
    iintro ⟨⟨Hsc, ⟨⟨Hcells, Hos⟩, Hidle⟩, Hslot⟩, Hub, Hus, HO, Hlv, Hpr, Hcr⟩
    isplitl [Hsc Hcells Hidle Hslot]
    · isplitl [Hsc]; · iexact Hsc
      isplitl [Hcells]; · iexact Hcells
      isplitl [Hidle] <;> iassumption
    isplitl [HO]; · iexact HO
    isplitl [Hlv]; · iexact Hlv
    isplitl [Hos]; · iexact Hos
    isplitl [Hub]; · iexact Hub
    isplitl [Hus]; · iexact Hus
    isplitl [Hcr] <;> iassumption
  have all := bigSep_mono (s := Finset.univ) fun c (_ : c ∈ Finset.univ) => one c
  refine (sep_mono_left all).trans ?_
  simp only [kept, dealt, bigSep_sep']
  iintro ⟨H, Hu⟩
  icases H with ⟨Hst, HO, Hlv, Hos, Hub, Hus, Hcr, Hpr⟩
  imod (assign_levels L lv hL) $$ Hlv with #Hla
  imod hu₀ $$ Hu with ⟨HP, HG⟩
  imod (fund_ghost (pinD pcs a) EP phinj) $$ HP with ⟨Hg, Ht⟩
  imodintro
  isplitl [Hst HO Hg Ht]
  · isplitl [Hst]; · iexact Hst
    isplitl [HO]; · iexact HO
    isplitr
    · iapply (BI.bigSep_intro_persistent (S := Finset.univ) fun (c : Dev nD) _ => (BI.Entails.refl (levAts L lv : sProp 𝕄)))
      iexact Hla
    isplitl [Hg] <;> iassumption
  isplitl [Hos]; · iexact Hos
  isplitl [Hub]; · iexact Hub
  isplitl [Hus]; · iexact Hus
  isplitl [Hcr]; · iexact Hcr
  isplitl [Hpr] <;> iassumption

include phinj hw in
/-- One device's run: the exchange kernel entered from what the device keeps and what it was handed (`X c`, with `Z c`
    going around the kernel), then the rest of the program. -/
theorem run_device [∀ e, Nonempty (Val e)] [Infinite Name] [EP.LandsIn (upEmb : UEmb _ 𝕄)]
    (hW : IsEmpty (Fin (pcs p).W)) (hK : (pcs p).pre.K = 0)
    (k : PUnit → Prog (TpuEff nD τ sig Val (Sig Λ₀ P fun p => (pcs p).Adm) .tc) PUnit) (c : Dev nD)
    (hbody : BodyObligationLoose (pdats p c) defs₀ 𝒱₀ ι Set.univ)
    (O₀ : Dev nD → CellTallies nD τ sig Ix) (howed₀ : (pdats p c).owed 0 = O₀ c) (howedN : (pdats p c).owed (Fin.last _) = 0)
    (L : GSem nD τ sig → Finset Ix) (lv : GSem nD τ sig → Ix → Lvl) (X Y Z R : sProp 𝕄)
    (hin : iprop(levAts L lv ∗ X ∗ scopedRest (pinD pcs a c p).spec c) ⊢ (pdats p c).Φ 0)
    (hout : (pdats p c).Φ (Fin.last (pinD pcs a c p).N) ⊢ iprop(Y ∗ ownSems0 osem c ∗ scopedRest (pinD pcs a c p).spec c))
    (htail : iprop(boundary (c.tc : Thread nD τ) ∗ Y ∗ Z ∗ (∃ W, owes (c.tc : Thread nD τ) (0 : CellTallies nD τ sig Ix) W) ∗ levAts L lv
          ∗ restGhost pcs a p EP c)
        ⊢ wp frame (wpE 𝔻 𝕍 (c.tc : Thread nD τ) none) Set.univ (k ⟨⟩)
            (fun _ => iprop((R ∗ boundary (c.tc : Thread nD τ)) ∗ ∃ W, owes (c.tc : Thread nD τ) (0 : CellTallies nD τ sig Ix) W))) :
    iprop(kept pcs a phinj p ho EP O₀ L lv c ∗ X ∗ Z)
      ⊢ wp frame (wpE 𝔻 𝕍 (c.tc : Thread nD τ) none) Set.univ (.op (.customCall (entry p) ()) k)
          (fun _ => iprop((R ∗ boundary (c.tc : Thread nD τ)) ∗ ∃ W, owes (c.tc : Thread nD τ) (0 : CellTallies nD τ sig Ix) W)) := by
  have hsb := scopedBufs_split (pinD pcs a) p c hw.stage_scoped hw.stage_inj (fun w => hW.elim w) (nD := nD) (τ := τ) (Ix := Ix) (Val := Val) (Name := Name)
    (U := U) (Lvl := Lvl)
  have hss := scopedSems0_split (pinD pcs a) phinj p (fun _ => hw) (fun _ => ho) (Ix := Ix) (Val := Val) (Name := Name) (U := U) (Lvl := Lvl) c
  -- with no window there is no array to move and no staging semaphore to wait on
  have harr : (pdats p c).arrays ((pdats p c).arrAt · 0) = (BI.emp : sProp 𝕄) := by
    unfold Dat.arrays
    have : IsEmpty (Fin (pinD pcs a c p).W) := hW
    rw [Finset.univ_eq_empty, BI.bigSep_empty]
  have hwaits : PerCore.cellsWaits (pinD pcs a) pdats ι p c = (BI.emp : sProp 𝕄) := by
    unfold PerCore.cellsWaits PerCore.RDat.cellsWaits
    have : IsEmpty (Fin (pinD pcs a c p).W) := hW
    rw [Finset.univ_eq_empty, BI.bigSep_empty]
  have hpf := prefHeld_of_none (Val := Val) (Ix := Ix) (Name := Name) (U := U) (Lvl := Lvl) (τ := τ) (pcs p).pre hK c (fun _ => fullShare.right) (a c p).1
  have hleave : iprop((pdats p c).Φ (Fin.last (pinD pcs a c p).N) ∗ cellsSems0 (pinD pcs a) p c ∗ Dat.staging (pinD pcs a c p) c
        ∗ idleSems0 (pinD pcs a) phinj p (fun _ => ho) c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hg1 : (bigSep Finset.univ fun p' => cellsGhost (pinD pcs a) EP p' c)
      = iprop(cellsGhost (pinD pcs a) EP p c ∗ bigSep (Finset.univ.erase p) fun p' => cellsGhost (pinD pcs a) EP p' c) :=
    bigSep_erase (Finset.mem_univ p)
  have hg2 : (bigSep Finset.univ fun p' => (toksInit (pinD pcs a) EP p' c : sProp 𝕄))
      = iprop(toksInit (pinD pcs a) EP p c ∗ bigSep (Finset.univ.erase p) fun p' => (toksInit (pinD pcs a) EP p' c : sProp 𝕄)) :=
    bigSep_erase (Finset.mem_univ p)
  unfold kept
  rw [hg1, hg2]
  iintro ⟨⟨⟨Hsc, Hcells, Hidle, Hslot⟩, HO, #Hla, ⟨Hg, Hgr⟩, ⟨Ht, Htr⟩⟩, HX, HZ⟩
  iapply (fupd_wp frame (wpE 𝔻 𝕍 (c.tc : Thread nD τ) none) Set.univ _ _)
  imod (cellsInit_alloc (pinD pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare.right) c Set.univ (fun _ _ => Set.mem_univ _)
      hbody (fun w => hW.elim w) none (fun u h => nomatch h) (X := iprop(levAts L lv ∗ X)) (Y := Y) (R := scopedRest (pinD pcs a c p).spec c)
      (I := idleSems0 (pinD pcs a) phinj p (fun _ => ho) c) (Entails.of_eq hsb)
      (by
        iintro ⟨⟨H1, H2⟩, -, H3⟩
        iapply hin
        isplitl [H1]; · iexact H1
        isplitl [H2] <;> iassumption)
      hleave (k := k)) $$ [HO Hinit Ht HX Hidle Hsc]
  · isplitl [HO Hinit Ht]
    · unfold PerCore.EntryPre Dat.owesAt owesWithin
      rw [howed₀, harr, hwaits]
      isplitr; · iempintro
      isplitl [HO]
      · iexists ∅
        isplitr; · ipureintro; rw [Finset.coe_empty]; exact Set.empty_subset _
        iexact HO
      isplitr; · iempintro
      isplitl [Hinit] <;> iassumption
    isplitr; · rw [hpf]; iempintro
    isplitl [HX]
    · isplitr; · iexact Hla
      iexact HX
    isplitl [Hidle] <;> iassumption
  iintro ⟨Hpost, HY, Hss2, Hsc2⟩
  unfold PerCore.EntryPost Dat.owesAt owesWithin
  rw [howedN]
  icases Hpost with ⟨-, ⟨%W, -, HO⟩⟩
  iapply htail
  isplitl [Hsc2 Hss2 Hslot]
  · unfold boundary
    isplitl [Hsc2]; · iexact Hsc2
    isplitl [Hss2] <;> iassumption
  isplitl [HY]; · iexact HY
  isplitl [HZ]; · iexact HZ
  isplitl [HO]; · iexists W; iexact HO
  isplitr; · iexact Hla
  unfold PerCore.restGhost
  rw [bigSep_sep']
  isplitl [Hgr] <;> iassumption

include phinj hw ho in
/-- A program that begins with an exchange kernel, launched on memory `m` with every semaphore at zero, terminates in
    states satisfying `Q`.

    `hshare` is the step before any device runs, over all of them at once; `hin` and `hout` enter and leave the exchange
    kernel, `hbody` is its run, `htail` is the rest of the program, and `hY` reads the last state. -/
theorem run_exchange [∀ e, Nonempty (Val e)] [Infinite Name] [EP.LandsIn (upEmb : UEmb _ 𝕄)]
    (hW : IsEmpty (Fin (pcs p).W)) (hK : (pcs p).pre.K = 0)
    (m : (ℓ : Loc nD τ sig) → Buf Val ℓ) (g : Dev nD → PrngReg)
    (main : Dev nD → Prog (TpuEff nD τ sig Val (Sig Λ₀ P fun p => (pcs p).Adm) .tc) PUnit)
    (k : Dev nD → PUnit → Prog (TpuEff nD τ sig Val (Sig Λ₀ P fun p => (pcs p).Adm) .tc) PUnit)
    (hmain : ∀ c, main c = .op (.customCall (entry p) ()) (k c))
    (hbody : ∀ c, BodyObligationLoose (pdats p c) defs₀ 𝒱₀ ι Set.univ)
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (X Y Z R : Dev nD → sProp 𝕄)
    (hshare : (bigSep Finset.univ fun c => dealt m g O₀ G osem c) ⊢ |={Set.univ}=> bigSep Finset.univ fun c => iprop(X c ∗ Z c))
    (hin : ∀ c, iprop(levAts L lv ∗ X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (htail : ∀ c, iprop(boundary (c.tc : Thread nD τ) ∗ Y c ∗ Z c ∗ (∃ W, owes (c.tc : Thread nD τ) (0 : CellTallies nD τ sig Ix) W) ∗ levAts L lv
          ∗ restGhost pcs a p EP c)
        ⊢ wp frame (wpE 𝔻 𝕍 (c.tc : Thread nD τ) none) Set.univ (k c ⟨⟩)
            (fun _ => iprop((R c ∗ boundary (c.tc : Thread nD τ)) ∗ ∃ W, owes (c.tc : Thread nD τ) (0 : CellTallies nD τ sig Ix) W)))
    (QY : Dev nD → MemSt nD τ sig Val → Prop)
    (hY : ∀ c (s' : Phys nD τ sig Val), iprop(R c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD, QY c r.2
        ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ c => iprop(kept pcs a phinj p ho EP O₀ L lv c ∗ X c ∗ Z c)) (fun _ c => iprop(R c ∗ boundary (c.tc : Thread nD τ)))
      (fun _ => iprop(emp)) Set.univ ?_ (fun _ c => ?_) fun _ => ?_))
  · iintro H
    imod (deal pcs a phinj p hw ho EP m g O₀ L lv hL G u₀ hu₀) $$ H with ⟨Hk, Hd⟩
    imod hshare $$ Hd with Hs
    imodintro
    iexists ()
    isplitl [Hk Hs]
    · rw [bigSep_sep' Finset.univ (fun c => kept pcs a phinj p ho EP O₀ L lv c) (fun c => iprop(X c ∗ Z c))]
      isplitl [Hk] <;> iassumption
    · iempintro
  · rw [hmain c]
    refine (run_device pcs a pdats ι phinj p hw ho EP defs₀ 𝒱₀ hW hK (k c) c (hbody c) O₀ (howed₀ c) (howedN c) L lv (X c) (Y c) (Z c) (R c)
      (hin c) (hout c) (htail c)).trans (Entails.of_eq ?_)
    unfold post; simp only [liftTc_tc]
  · have read (c : Dev nD) (s' : Phys nD τ sig Val) := boundary_read (T := R c) c s' (hY c s')
    iintro ⟨H, -, Hsc⟩ %s' HSI
    ihave %hsc := (scSems_read_zero m g s') $$ [Hsc HSI]
    · isplitl [Hsc] <;> iassumption
    imod (posts_fupd Finset.univ read s') $$ [H HSI] with %h
    · isplitl [H] <;> iassumption
    imodintro
    ipureintro
    exact ⟨fun c => h c (Finset.mem_univ c), hsc⟩

end Cert.Exchange

end
-- ==== Proof.Exchange.lean ====
/-
# One exchange between the devices, each semaphore used once

An exchange kernel starts transfers and waits for them; every semaphore it owns is credited by exactly one transfer and
waited on once. A `Plan` says, for each semaphore `i` of the kernel, by which device `peer i c` device `c`'s semaphore is
credited (itself, for the semaphore of a transfer's source side or of a copy inside the device), how much that is, what
the credit hands over (`pay`), and its level in the order of waits. From a plan come the contents of the semaphores'
invariants, what each device owes at the start, the two kinds of start (`wp_put`, `wp_copy_here`) and the wait (`wp_take`), and the step before
any device runs (`share`): the invariants of all semaphores, the rights to credit them dealt to the devices that do, and
with them the pieces of the arrays they will write.
-/
module

public import proofs.«01_k».proof.Proof.Launch
public import Idealize.ShloMosaic.Lib.Pipeline.Kit

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ownSems0 launchCred launchCredit_owing)

/-- The pipelines' algebra beside the exchange's. -/
abbrev UU (sig : RefSig) (nD : Nat) (τ : Topo) : Type := UR sig nD τ × UR sig nD τ

variable {nD : Nat} {τ : Topo} {sig : RefSig} {Val : EltTy → Type} {I : Type} [Fintype I] [DecidableEq I]

local notation "𝕄" => MT nD τ sig Unit Val ℕ (UU sig nD τ) ℕ

/-- The part of the algebra that the exchange uses. -/
abbrev ER : Emb (UR sig nD τ) 𝕄 := embR

variable (nD τ sig Val I) in
/-- An exchange (see the head of the file). -/
structure Plan where
  sem : I → SemLoc sig
  sem_inj : Function.Injective sem
  /-- The semaphores credited from another device, which that device owes from the start. -/
  far : Finset I
  peer : I → Dev nD → Dev nD
  peer_peer : ∀ i c, peer i (peer i c) = c
  amt : I → ℕ
  amt_pos : ∀ i, 0 < amt i
  lvl : I → ℕ
  pay : Dev nD → I → sProp 𝕄
  pay_storable : ∀ c i, BI.Storable (upEmb : UEmb _ 𝕄) (pay c i)

namespace Plan

variable (P : Plan nD τ sig Val I)

/-- Semaphore `i` of device `c`. -/
abbrev cell (c : Dev nD) (i : I) : GSem nD τ sig := ((c.tc : Thread nD τ), P.sem i)

theorem cell_inj {c c' : Dev nD} {i i' : I} (h : P.cell c i = P.cell c' i') : c = c' ∧ i = i' :=
  ⟨congrArg (fun g : GSem nD τ sig => g.1.1) h, P.sem_inj (congrArg Prod.snd h)⟩

/-- Which semaphore of the exchange a semaphore of the machine is, if any. -/
def idx (g : GSem nD τ sig) : Option I := by
  classical
  exact if h : g.1.2 = .tc ∧ ∃ i, P.sem i = g.2 then some h.2.choose else none

theorem idx_cell (c : Dev nD) (i : I) : P.idx (P.cell c i) = some i := by
  have h : (P.cell c i).1.2 = .tc ∧ ∃ i', P.sem i' = (P.cell c i).2 := ⟨rfl, i, rfl⟩
  unfold idx
  rw [dif_pos h, P.sem_inj h.2.choose_spec]

/-- The contents of the invariants: one credit, in round 0. -/
def sched : Rounds.Schedule (GSem nD τ sig) Unit 𝕄 where
  duties g r := if r = 0 ∧ (P.idx g).isSome then {()} else ∅
  unitless _ := False
  amount g _ _ := (P.idx g).elim 1 P.amt
  payload g _ _ := (P.idx g).elim iprop(emp) (P.pay g.1.1)
  amount_pos g _ _ _ := by
    cases P.idx g with
    | none => exact Nat.one_pos
    | some i => exact P.amt_pos i

instance sched_storable (g : GSem nD τ sig) (r : ℕ) (d : Unit) : BI.Storable (upEmb : UEmb _ 𝕄) (P.sched.payload g r d) := by
  show BI.Storable upEmb ((P.idx g).elim iprop(emp) (P.pay g.1.1))
  cases P.idx g with
  | none => show BI.Storable upEmb iprop(emp); infer_instance
  | some i => exact P.pay_storable _ i

theorem duties_cell (c : Dev nD) (i : I) : P.sched.duties (P.cell c i) 0 = {()} := by
  dsimp only [sched]; rw [idx_cell]; exact if_pos ⟨rfl, rfl⟩
theorem mem_duties (c : Dev nD) (i : I) : () ∈ P.sched.duties (P.cell c i) 0 := by
  rw [duties_cell]; exact Finset.mem_singleton_self _
theorem duties_later (g : GSem nD τ sig) : ∀ r, 1 ≤ r → P.sched.duties g r = ∅ :=
  fun r hr => by dsimp only [sched]; exact if_neg fun h => by omega
theorem amount_cell (c : Dev nD) (i : I) (u : Unit) : P.sched.amount (P.cell c i) 0 u = P.amt i := by
  dsimp only [sched]; rw [idx_cell]; rfl
theorem payload_cell (c : Dev nD) (i : I) (u : Unit) : P.sched.payload (P.cell c i) 0 u = P.pay c i := by
  dsimp only [sched]; rw [idx_cell]; rfl
theorem expect_cell (c : Dev nD) (i : I) : P.sched.expect (P.cell c i) 0 = P.amt i := by
  unfold Schedule.expect Schedule.amountOf; rw [duties_cell, Finset.sum_singleton, amount_cell]
theorem rest_cell (c : Dev nD) (i : I) :
    bigSep (P.sched.duties (P.cell c i) 0 \ ∅) (fun u => P.sched.payload (P.cell c i) 0 u) = P.pay c i := by
  rw [Finset.sdiff_empty, duties_cell, bigSep_singleton, payload_cell]

/-! ## What is owed, and the levels -/

/-- What device `c` owes while the credits of `S` are outstanding. -/
def owe (c : Dev nD) (S : Finset I) : CellTallies nD τ sig Unit := ∑ i ∈ S, tallyAt (P.cell (P.peer i c) i) () (P.amt i)

theorem owe_erase (c : Dev nD) {S : Finset I} {i : I} (hi : i ∈ S) :
    P.owe c S = P.owe c (S.erase i) + tallyAt (P.cell (P.peer i c) i) () (P.amt i) := by
  unfold owe; exact (Finset.sum_erase_add _ _ hi).symm

theorem owe_empty (c : Dev nD) : P.owe c ∅ = 0 := by unfold owe; exact Finset.sum_empty

theorem owe_apply (c : Dev nD) (S : Finset I) (g : GSem nD τ sig) (u : Unit) :
    P.owe c S g u = ∑ i ∈ S, if g = P.cell (P.peer i c) i then P.amt i else 0 := by
  unfold owe
  rw [Finset.sum_apply, Finsupp.finset_sum_apply]
  refine Finset.sum_congr rfl fun i _ => ?_
  rw [tallyAt_apply]
  cases u
  simp

theorem owe_pos {c : Dev nD} {S : Finset I} {g : GSem nD τ sig} {u : Unit} (h : 0 < P.owe c S g u) : ∃ i ∈ S, g = P.cell (P.peer i c) i := by
  rw [owe_apply] at h
  by_contra hn
  push Not at hn
  rw [Finset.sum_eq_zero fun i hi => if_neg (hn i hi)] at h
  exact Nat.lt_irrefl 0 h

/-- All the TensorCores' semaphores have a level; those of the exchange have the plan's. -/
def L (g : GSem nD τ sig) : Finset Unit := if g.1.2 = .tc then {()} else ∅
def lev (g : GSem nD τ sig) (_ : Unit) : ℕ := (P.idx g).elim 0 P.lvl

theorem L_of_ne (g : GSem nD τ sig) (h : g.1.2 ≠ .tc) : L g = ∅ := if_neg h

theorem mayWait (c : Dev nD) (i : I) (S : Finset I) (h : ∀ i' ∈ S, P.lvl i < P.lvl i') :
    (levAts L P.lev : sProp 𝕄) ⊢ MayWait (c.tc : Thread nD τ) (P.sem i) () (P.owe c S) :=
  MayOwe.of_cut (L := L) (lev := P.lev) (P.lvl i)
    (fun p hp => by rw [Finset.mem_singleton.mp hp]; exact Finset.mem_singleton_self _)
    (fun g u hg => by obtain ⟨i', -, rfl⟩ := P.owe_pos hg; exact Finset.mem_singleton_self _)
    (fun p hp => by
      rw [Finset.mem_singleton.mp hp]
      show (P.idx (P.cell c i)).elim 0 P.lvl ≤ _
      rw [idx_cell]; exact le_refl _)
    (fun g u hg => by
      obtain ⟨i', hi', rfl⟩ := P.owe_pos hg
      show _ < (P.idx (P.cell _ i')).elim 0 P.lvl
      rw [idx_cell]; exact h i' hi')

/-! ## The steps of a kernel -/

/-- The invariants of all the exchange's semaphores on all devices. -/
def records (K : Dev nD × I → ℕ) : sProp 𝕄 :=
  iprop((bigSep Finset.univ fun ci : Dev nD × I => cellInv ER P.sched (K ci) (P.cell ci.1 ci.2))
    ∗ bigSep Finset.univ fun ci : Dev nD × I => reached ER (P.cell ci.1 ci.2) 0)
instance records_persistent (K : Dev nD × I → ℕ) : BI.Persistent (P.records K) := by unfold records; infer_instance

theorem records_cell (K : Dev nD × I → ℕ) (c : Dev nD) (i : I) :
    P.records K ⊢ iprop(cellInv ER P.sched (K (c, i)) (P.cell c i) ∗ reached ER (P.cell c i) 0) := by
  unfold records
  have h1 : (bigSep Finset.univ fun ci : Dev nD × I => (cellInv ER P.sched (K ci) (P.cell ci.1 ci.2) : sProp 𝕄)) ⊢ cellInv ER P.sched (K (c, i)) (P.cell c i) :=
    bigSep_elim (Finset.mem_univ (c, i))
  have h2 : (bigSep Finset.univ fun ci : Dev nD × I => (reached ER (P.cell ci.1 ci.2) 0 : sProp 𝕄)) ⊢ reached ER (P.cell c i) 0 :=
    bigSep_elim (Finset.mem_univ (c, i))
  iintro ⟨#H1, #H2⟩
  isplitr
  · iapply h1; iexact H1
  · iapply h2; iexact H2

/-- The right of device `c` to credit the semaphore `i` that it credits. -/
def tok (c : Dev nD) (i : I) : sProp 𝕄 := dutyTok ER (P.cell (P.peer i c) i) 0 ()
/-- Device `c` has not waited on its semaphore `i`. -/
def pos (c : Dev nD) (i : I) : sProp 𝕄 := atPos ER (P.cell c i) 0 ∅ 0
/-- The credit that device `c`'s semaphore `i` will receive. -/
def due (c : Dev nD) (i : I) : sProp 𝕄 := cred (tallyAt (P.cell c i) () (P.amt i))
/-- Device `c` owes the credits of `S`. -/
def owing (c : Dev nD) (S : Finset I) : sProp 𝕄 := iprop(∃ W, owes (c.tc : Thread nD τ) (P.owe c S) W)

variable {Λ : Labels} (defs : Defs nD τ sig Val Λ) (𝒱 : Variants) (bd : Option 𝒱.V) (K : Dev nD × I → ℕ)

/-- The start of a transfer to another device: semaphore `j` of the source side, semaphore `i` of the receiver. -/
theorem wp_put (c : Dev nD) (i j : I) (S : Finset I) (hi : i ∈ S) (n : Dev nD) (hn : n = P.peer i c) (hj : P.peer j c = c) (hji : P.amt j = P.amt i)
    {sp sp' : Space} {s : Shape} {e : EltTy}
    {src : Memref sig (c.tc : Thread nD τ).2.kind sp s e} {dst : Memref sig (Dev.tc n : Thread nD τ).2.kind sp' s e}
    {hsc : dst.view.ref.isScScratch = false} {sS sR : SemLoc sig} (hS : P.sem j = sS) (hR : P.sem i = sR)
    {hsrc : src.view.WordExact} {hdst : dst.view.WordExact} {hsem : DmaTarget.Typed sp sR (.remote (Dev.tc n : Thread nD τ) dst sS hsc)}
    (hN : dst.view.amount sR = P.amt i)
    {α : Type} {Q : α → sProp 𝕄} {k : PUnit → Prog (TpuEff nD τ sig Val Λ (c.tc : Thread nD τ).2) α}
    (q : PosShare TreeShare) (fs : Buf Val (src.view.loc (c.tc : Thread nD τ))) (fd : Buf Val (dst.view.loc (Dev.tc n : Thread nD τ)))
    (hpayS : (src.view.loc (c.tc : Thread nD τ) ↦[src.view.set]{q} fs) ⊢ P.pay c j)
    (hpayR : (dst.view.loc (Dev.tc n : Thread nD τ) ↦[dst.view.set]{fullShare} (dst.view.write Val fd (src.view.read Val fs) Finset.univ)) ⊢ P.pay n i) :
    iprop(P.records K ∗ (src.view.loc (c.tc : Thread nD τ) ↦[src.view.set]{q} fs) ∗ (dst.view.loc (Dev.tc n : Thread nD τ) ↦[dst.view.set]{fullShare} fd)
        ∗ P.owing c S ∗ P.tok c j ∗ P.tok c i)
      ⊢ iprop(((P.due c j ∗ P.owing c (S.erase i)) -∗ wp frame (wpE defs 𝒱 (c.tc : Thread nD τ) bd) Set.univ (k ⟨⟩) Q)
          -∗ wp frame (wpE defs 𝒱 (c.tc : Thread nD τ) bd) Set.univ (.op (.enqueueDma src (.remote (Dev.tc n : Thread nD τ) dst sS hsc) sR hsrc hdst hsem) k) Q) := by
  subst hn hS hR
  unfold owing tok due
  rw [hj, hji]
  iintro ⟨#HK, Hs, Hd, ⟨%W, HO⟩, Htj, Hti⟩ Hk
  ihave Hj := (P.records_cell K c j) $$ HK
  icases Hj with ⟨#HIj, #HRj⟩
  ihave Hi := (P.records_cell K (P.peer i c) i) $$ HK
  icases Hi with ⟨#HIi, #HRi⟩
  iapply (Rounds.wp_send_pointsTo 𝒱 ER P.sched (c.tc : Thread nD τ) bd (κ₁ := K (c, j)) (κ₂ := K (P.peer i c, i))
    (r₁ := 0) (r₂ := 0) (d₁ := ()) (d₂ := ()) (fd := fd) (P.mem_duties c j) (P.mem_duties (P.peer i c) i)
    () () (P.amt i) hN ((P.amount_cell c j ()).trans hji) (P.amount_cell (P.peer i c) i ()) (P.owe c (S.erase i)) (P.owe_erase c hi) (W := W)
    (by rw [payload_cell]; exact hpayS) (by rw [payload_cell]; exact hpayR)) $$ [Hs Hd HO Htj Hti]
  · isplitr; · iexact HIj
    isplitr; · iexact HIi
    isplitl [Hs]; · iexact Hs
    isplitl [Hd]; · iexact Hd
    isplitl [HO]; · iexact HO
    isplitl [Htj]; · iexact Htj
    isplitr; · iexact HRj
    isplitl [Hti]; · iexact Hti
    iexact HRi
  iintro ⟨Hc, HO⟩
  iapply Hk
  isplitl [Hc]; · iexact Hc
  iexists W; iexact HO

/-- The start of a copy inside the device, with semaphore `i`. -/
theorem wp_copy_here (c : Dev nD) (i : I) (hj : P.peer i c = c)
    {sp sp' : Space} {s : Shape} {e : EltTy}
    {src : Memref sig (c.tc : Thread nD τ).2.kind sp s e} {dst : Memref sig (c.tc : Thread nD τ).2.kind sp' s e}
    {sR : SemLoc sig} (hR : P.sem i = sR)
    {hsrc : src.view.WordExact} {hdst : dst.view.WordExact} {hsem : DmaTarget.Typed (nD := nD) sp sR (.here dst)}
    (hN : dst.view.amount sR = P.amt i)
    {α : Type} {Q : α → sProp 𝕄} {k : PUnit → Prog (TpuEff nD τ sig Val Λ (c.tc : Thread nD τ).2) α}
    (q : PosShare TreeShare) (fs : Buf Val (src.view.loc (c.tc : Thread nD τ))) (fd : Buf Val (dst.view.loc (c.tc : Thread nD τ)))
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ P.pay c i) :
    iprop(P.records K ∗ (src.view.loc (c.tc : Thread nD τ) ↦[src.view.set]{q} fs) ∗ (dst.view.loc (c.tc : Thread nD τ) ↦[dst.view.set]{fullShare} fd) ∗ P.tok c i)
      ⊢ iprop((P.due c i -∗ wp frame (wpE defs 𝒱 (c.tc : Thread nD τ) bd) Set.univ (k ⟨⟩) Q)
          -∗ wp frame (wpE defs 𝒱 (c.tc : Thread nD τ) bd) Set.univ (.op (.enqueueDma src (.here dst) sR hsrc hdst hsem) k) Q) := by
  subst hR
  unfold tok due
  rw [hj]
  iintro ⟨#HK, Hs, Hd, Ht⟩ Hk
  ihave Hi := (P.records_cell K c i) $$ HK
  icases Hi with ⟨#HI, #HR⟩
  iapply (Rounds.wp_copy_pointsTo 𝒱 ER P.sched (c.tc : Thread nD τ) bd (κ := K (c, i)) (r := 0) (d := ()) (fd := fd) (P.mem_duties c i) ()
    (P.amt i) hN (P.amount_cell c i ()) (by rw [payload_cell]; exact hpay)) $$ [Hs Hd Ht]
  · isplitr; · iexact HI
    isplitl [Hs]; · iexact Hs
    isplitl [Hd]; · iexact Hd
    isplitl [Ht]; · iexact Ht
    iexact HR
  iexact Hk

/-- The wait on semaphore `i`: what it was to hand over, and the semaphore back at zero for good. -/
theorem wp_take (c : Dev nD) (i : I) (S : Finset I) (hlt : ∀ i' ∈ S, P.lvl i < P.lvl i')
    {sp sp' : Space} {s s' : Shape} {e e' : EltTy} {sem : DmaSem sig} (hs : P.sem i = .dma sem)
    {src : Memref sig (c.tc : Thread nD τ).2.kind sp' s' e'} {κ' : Kind} {dst : Memref sig κ' sp s e} {hsrc : src.view.WordExact} {hdst : dst.view.WordExact}
    (hN : dst.view.dmaCredit = P.amt i)
    {α : Type} {Q : α → sProp 𝕄} {k : PUnit → Prog (TpuEff nD τ sig Val Λ (c.tc : Thread nD τ).2) α} :
    iprop(P.records K ∗ levAts L P.lev ∗ P.due c i ∗ P.owing c S ∗ P.pos c i)
      ⊢ iprop(((P.owing c S ∗ P.pay c i ∗ semVal (P.cell c i) 0) -∗ wp frame (wpE defs 𝒱 (c.tc : Thread nD τ) bd) Set.univ (k ⟨⟩) Q)
          -∗ wp frame (wpE defs 𝒱 (c.tc : Thread nD τ) bd) Set.univ (.op (.waitDma2 sem src dst hsrc hdst) k) Q) := by
  unfold owing due pos
  iintro ⟨#HK, #Hlev, Hc, ⟨%W, HO⟩, Hp⟩ Hk
  ihave Hi := (P.records_cell K c i) $$ HK
  icases Hi with ⟨#HI, -⟩
  iapply (Rounds.wp_wait_rest_token 𝒱 ER P.sched (c.tc : Thread nD τ) bd (κ := K (c, i)) (sm := P.sem i) (k' := P.amt i)
      (by intro Kq; rw [hs, ← hN]; exact wpE_waitDma2_eq 𝒱 (c.tc : Thread nD τ) bd Set.univ Kq)
      (Set.mem_univ _) () (O := P.owe c S) (W := W) (R := 0) (m := 0) (T := ∅)
      (by rw [Nat.zero_add, expect_cell])) $$ [Hc HO Hp]
  · isplitr; · iexact HI
    isplitl [Hc]; · iexact Hc
    isplitl [HO]; · iexact HO
    isplitr; · iapply (P.mayWait c i S hlt); iexact Hlev
    iexact Hp
  iintro ⟨HO, Hp, -, Hpay⟩
  ihave Hpay := (Entails.of_eq (P.rest_cell c i)) $$ Hpay
  imod (Rounds.cell_close ER P.sched (Set.mem_univ (K (c, i))) (fun h => h) (R := 0 + 1) (P.duties_later (P.cell c i))) $$ [Hp] with Hz
  · isplitr; · iexact HI
    iexact Hp
  iapply Hk
  isplitl [HO]; · iexists _; iexact HO
  isplitl [Hpay] <;> iassumption

/-! ## Before any device runs -/

/-- The exchange's cells and rights, for the launch. -/
def cells : Finset (GSem nD τ sig) :=
  Finset.univ.map ⟨fun ci : Dev nD × I => P.cell ci.1 ci.2, fun _ _ h => Prod.ext (P.cell_inj h).1 (P.cell_inj h).2⟩
def rights : Finset (GSem nD τ sig × ℕ × Unit) :=
  Finset.univ.map ⟨fun ci : Dev nD × I => (P.cell ci.1 ci.2, 0, ()), fun _ _ h =>
    Prod.ext (P.cell_inj (congrArg Prod.fst h)).1 (P.cell_inj (congrArg Prod.fst h)).2⟩

/-- Device `c`'s part of the exchange's fresh state. -/
def seed (c : Dev nD) : sProp 𝕄 :=
  iprop((bigSep Finset.univ fun i => roundState ER P.sched (P.cell c i) 0) ∗ (bigSep Finset.univ fun i => reached ER (P.cell c i) 0)
    ∗ (bigSep Finset.univ fun i => P.pos c i) ∗ bigSep Finset.univ fun i => dutyTok ER (P.cell c i) 0 ())

theorem seed_intro : BI.own (ER (initOf P.cells P.rights)) ⊢ (|==> bigSep Finset.univ P.seed : sProp 𝕄) := by
  have hX (Φ : GSem nD τ sig → sProp 𝕄) : bigSep P.cells Φ = bigSep Finset.univ fun c : Dev nD => bigSep Finset.univ fun i => Φ (P.cell c i) := by
    unfold cells; rw [bigSep_map, bigSep_univ_prod]; rfl
  have hT : bigSep P.rights (fun x => (dutyTok ER x.1 x.2.1 x.2.2 : sProp 𝕄))
      = bigSep Finset.univ fun c : Dev nD => bigSep Finset.univ fun i => dutyTok ER (P.cell c i) 0 () := by
    unfold rights; rw [bigSep_map, bigSep_univ_prod]; rfl
  have h := Rounds.fund ER P.sched P.cells P.rights
  rw [hX, hX, hX, hT] at h
  unfold seed pos
  simp only [bigSep_sep']
  exact h

/-- What device `c` starts the exchange with: the invariants, its waits, its rights, the credits due to it, the pieces it
    writes on other devices (`land d i` is the piece of device `d` that goes with its semaphore `i`), and what it keeps. -/
def start (land : Dev nD → I → sProp 𝕄) (keep : Dev nD → sProp 𝕄) (c : Dev nD) : sProp 𝕄 :=
  iprop((∃ K, P.records K) ∗ (bigSep Finset.univ fun i => P.pos c i) ∗ (bigSep Finset.univ fun i => P.tok c i)
    ∗ (bigSep P.far fun i => P.due c i) ∗ (bigSep P.far fun i => land (P.peer i c) i) ∗ keep c)

/-- A family over the devices and a set of semaphores, gathered by semaphore. -/
theorem by_semaphore (S : Finset I) (Φ : Dev nD → I → sProp 𝕄) :
    (bigSep Finset.univ fun c : Dev nD => bigSep S fun i => Φ c i) = bigSep S fun i => bigSep Finset.univ fun c : Dev nD => Φ c i := by
  induction S using Finset.cons_induction with
  | empty => simp
  | cons i S hi ih =>
    simp only [Finset.cons_eq_insert, bigSep_insert hi]
    rw [← ih]
    exact bigSep_sep' _ _ _

/-- A family over the devices and a set of semaphores, dealt to the devices across the exchange. -/
theorem deal_across (S : Finset I) (Φ : Dev nD → I → sProp 𝕄) :
    (bigSep Finset.univ fun c : Dev nD => bigSep S fun i => Φ c i) = bigSep Finset.univ fun c : Dev nD => bigSep S fun i => Φ (P.peer i c) i := by
  rw [by_semaphore, by_semaphore S fun (c : Dev nD) i => Φ (P.peer i c) i]
  exact bigSep_congr fun i _ => bigSep_univ_equiv (⟨P.peer i, P.peer i, P.peer_peer i, P.peer_peer i⟩ : Dev nD ≃ Dev nD) (fun c => Φ c i)

theorem due_launch (c : Dev nD) (i : I) (hi : i ∈ P.far) :
    tallyOn (P.cell c i) (launchCredit (Pipeline.owing fun d => P.owe d P.far) 0 (P.cell c i)) = (tallyAt (P.cell c i) () (P.amt i) : CellTallies nD τ sig Unit) := by
  unfold tallyAt
  refine congrArg _ (Finsupp.ext fun u => ?_)
  cases u
  rw [launchCredit_owing, Finsupp.single_eq_same]
  have one (d : Dev nD) : P.owe d P.far (P.cell c i) () = if d = P.peer i c then P.amt i else 0 := by
    rw [owe_apply]
    by_cases hd : d = P.peer i c
    · subst hd
      rw [if_pos rfl, Finset.sum_eq_single i]
      · rw [P.peer_peer, if_pos rfl]
      · intro i' _ hne; exact if_neg fun h => hne (P.cell_inj h).2.symm
      · intro h; exact absurd hi h
    · rw [if_neg hd]
      refine Finset.sum_eq_zero fun i' _ => if_neg fun h => ?_
      obtain ⟨h1, h2⟩ := P.cell_inj h
      subst h2
      exact hd (by rw [h1, P.peer_peer])
  rw [Finset.sum_congr rfl fun d _ => one d, Finset.sum_ite_eq' Finset.univ (P.peer i c) fun _ => P.amt i, if_pos (Finset.mem_univ _)]

theorem dues (c : Dev nD) : (launchCred (fun d => P.owe d P.far) c : sProp 𝕄) ⊢ bigSep P.far fun i => P.due c i := by
  classical
  unfold launchCred
  have h : (bigSep P.far fun i => P.due c i : sProp 𝕄)
      = bigSep (P.far.map ⟨P.sem, P.sem_inj⟩) fun sm : SemLoc sig =>
        cred (tallyOn ((c.tc : Thread nD τ), sm) (launchCredit (Pipeline.owing fun d => P.owe d P.far) 0 ((c.tc : Thread nD τ), sm))) := by
    rw [bigSep_map]
    exact bigSep_congr fun i hi => by unfold due; rw [← P.due_launch c i hi]; rfl
  rw [h]
  exact bigSep_subset (Finset.subset_univ _)

/-- The step before any device runs. `hbufs` says how each device's arrays in main memory split into the pieces others
    write (`land`), what the device takes into the exchange (`keep`) and what goes around it (`Z`). -/
theorem share (m : (ℓ : Loc nD τ sig) → Buf Val ℓ) (g : Dev nD → PrngReg) (land : Dev nD → I → sProp 𝕄) (keep Z : Dev nD → sProp 𝕄)
    (hbufs : ∀ c, unscopedBufs c (fun b => m ((c.tc : Thread nD τ).loc b)) ⊢ iprop((bigSep P.far fun i => land c i) ∗ keep c ∗ Z c)) :
    (bigSep Finset.univ fun c => dealt m g (fun d => P.owe d P.far) P.seed P.sem c)
      ⊢ |={Set.univ}=> bigSep Finset.univ fun c => iprop(P.start land keep c ∗ Z c) := by
  have alloc (c : Dev nD) : iprop((bigSep Finset.univ fun i => semVal (P.cell c i) 0) ∗ bigSep Finset.univ fun i => roundState ER P.sched (P.cell c i) 0)
      ⊢ (|={Set.univ}=> bigSep Finset.univ fun i => iprop(∃ κ : ℕ, cellInv ER P.sched κ (P.cell c i)) : sProp 𝕄) := by
    rw [← bigSep_sep']
    exact (bigSep_mono fun i _ => (Rounds.body_intro ER P.sched (P.cell c i)).trans inv_alloc).trans (bigSep_fupd _ _)
  have one (c : Dev nD) : dealt m g (fun d => P.owe d P.far) P.seed P.sem c
      ⊢ |={Set.univ}=> iprop((bigSep Finset.univ fun i => iprop(∃ κ : ℕ, cellInv ER P.sched κ (P.cell c i)))
          ∗ (bigSep Finset.univ fun i => reached ER (P.cell c i) 0) ∗ (bigSep Finset.univ fun i => P.pos c i)
          ∗ (bigSep Finset.univ fun i => dutyTok ER (P.cell c i) 0 ()) ∗ (bigSep P.far fun i => P.due c i)
          ∗ (bigSep P.far fun i => land c i) ∗ keep c ∗ Z c) := by
    unfold dealt seed
    iintro ⟨Hv, Hb, -, Hc, -, Hst, Hr, Hp, Ht⟩
    imod (alloc c) $$ [Hv Hst] with HI
    · isplitl [Hv]; · unfold ownSems0; iexact Hv
      iexact Hst
    ihave Hd := (P.dues c) $$ Hc
    ihave Hb := (hbufs c) $$ Hb
    imodintro
    isplitl [HI]; · iexact HI
    isplitl [Hr]; · iexact Hr
    isplitl [Hp]; · iexact Hp
    isplitl [Ht]; · iexact Ht
    isplitl [Hd]; · iexact Hd
    iexact Hb
  iintro H
  ihave H := (show _ ⊢ _ from bigSep_mono fun c _ => one c) $$ H
  ihave H := (show _ ⊢ _ from bigSep_fupd _ _) $$ H
  imod H with H
  imodintro
  irevert H
  simp only [start, bigSep_sep']
  rw [P.deal_across P.far land, P.deal_across Finset.univ fun c i => (dutyTok ER (P.cell c i) 0 () : sProp 𝕄),
    ← bigSep_univ_prod (fun ci : Dev nD × I => iprop(∃ κ : ℕ, cellInv ER P.sched κ (P.cell ci.1 ci.2))),
    ← bigSep_univ_prod (fun ci : Dev nD × I => (reached ER (P.cell ci.1 ci.2) 0 : sProp 𝕄))]
  iintro ⟨HI, #HR, Hp, Ht, Hd, Hl, Hk, HZ⟩
  ihave HK := (BI.bigSep_exists_pi Finset.univ (fun (ci : Dev nD × I) (κ : ℕ) => (cellInv ER P.sched κ (P.cell ci.1 ci.2) : sProp 𝕄))) $$ HI
  icases HK with ⟨%K, #HI⟩
  isplitr [HZ]
  · isplitr
    · iapply (BI.bigSep_intro_persistent (S := Finset.univ) (R := P.records K) (Φ := fun _ : Dev nD => iprop(∃ K, P.records K)) fun _ _ => by
        iintro H; iexists K; iexact H)
      unfold records
      isplitr; · iexact HI
      iexact HR
    isplitl [Hp]; · iexact Hp
    isplitl [Ht]; · unfold tok; iexact Ht
    isplitl [Hd]; · iexact Hd
    isplitl [Hl] <;> iassumption
  · iexact HZ

end Plan

end Cert.Exchange

end
-- ==== Proof.Alone.lean ====
/-
# A program that is one exchange

`Plan.run_alone`: a program whose only call is an exchange kernel without windows runs on all devices, given the plan
(Exchange.lean), how each device's arrays split into the pieces others write and what the device keeps, and the run of the
kernel's body on one device.
-/
module

public import proofs.«01_k».proof.Proof.Exchange

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (PCfg Cfg Dat BodyObligationLoose pinD WinFacts₀ OwnSemFacts ownSems0 scopedRest Sig entry)

variable {nD : Nat} {τ : Topo} {sig : RefSig} {Val : EltTy → Type} {I : Type} [Fintype I] [DecidableEq I]

local notation "𝕄" => MT nD τ sig Unit Val ℕ (UU sig nD τ) ℕ

namespace Plan

variable (P : Plan nD τ sig Val I)

/-- The proof data of an exchange kernel's call: `pre` before its one point and `post` after it, the credits owed before it. -/
def dat {Λ₀ : Labels} (cfg : Cfg sig Λ₀) (hW : IsEmpty (Fin cfg.W)) (c : Dev nD) (pre post : sProp 𝕄) :
    Dat τ Val Unit ℕ (UU sig nD τ) ℕ cfg c where
  A w := hW.elim w
  after w := hW.elim w
  Φ t := match t with
    | ⟨0, _⟩ => pre
    | ⟨_ + 1, _⟩ => post
  q w := hW.elim w
  owed t := match t with
    | ⟨0, _⟩ => P.owe c P.far
    | ⟨_ + 1, _⟩ => 0

/-- The kernel's run in the form the call asks for. -/
theorem dat_obligation {Λ₀ : Labels} (cfg : Cfg sig Λ₀) (hW : IsEmpty (Fin cfg.W)) (hN : cfg.N = 1) (c : Dev nD) (pre post : sProp 𝕄)
    (defs₀ : Defs nD τ sig Val Λ₀) (𝒱₀ : Variants)
    (h : ∀ t : Fin cfg.N, iprop(pre ∗ P.owing c P.far) ⊢ wp frame (wpE defs₀ 𝒱₀ (c.tc : Thread nD τ) none) Set.univ
      (defs₀ .tc cfg.body (cfg.bodyArgs t (cfg.slots t))) (fun _ => iprop(post ∗ P.owing c ∅))) :
    BodyObligationLoose (P.dat cfg hW c pre post) defs₀ 𝒱₀ () Set.univ := by
  intro t
  have ht : t = ⟨0, by omega⟩ := Fin.ext (by have := t.isLt; omega)
  have hnone {Φ : Fin cfg.W → sProp 𝕄} : bigSep Finset.univ Φ = BI.emp := by
    rw [Finset.univ_eq_empty, bigSep_empty]
  have h0 : (P.dat cfg hW c pre post).Φ t.castSucc = pre := by subst ht; rfl
  have h1 : (P.dat cfg hW c pre post).Φ t.succ = post := by subst ht; rfl
  have o0 : (P.dat cfg hW c pre post).owed t.castSucc = P.owe c P.far := by subst ht; rfl
  have o1 : (P.dat cfg hW c pre post).owed t.succ = 0 := by subst ht; rfl
  rw [h0, h1, hnone, hnone]
  unfold Dat.owesAt Pipeline.owesWithin
  rw [o0, o1]
  have hin : iprop(pre ∗ (∃ W : Waits sig Unit, ⌜(↑W : Set (SemLoc sig × Unit)) ⊆ (P.dat cfg hW c pre post).bound () t.castSucc⌝ ∗ owes (c.tc : Thread nD τ) (P.owe c P.far) W) ∗ emp)
      ⊢ iprop(pre ∗ P.owing c P.far) := by
    unfold owing
    iintro ⟨Hp, ⟨%W, -, HO⟩, -⟩
    isplitl [Hp]; · iexact Hp
    iexists W; iexact HO
  have hout : iprop(post ∗ P.owing c ∅)
      ⊢ iprop(post ∗ (∃ W : Waits sig Unit, ⌜(↑W : Set (SemLoc sig × Unit)) ⊆ (P.dat cfg hW c pre post).bound () t.succ⌝ ∗ owes (c.tc : Thread nD τ) (0 : CellTallies nD τ sig Unit) W) ∗ emp) := by
    unfold owing
    rw [P.owe_empty]
    iintro ⟨Hp, ⟨%W, HO⟩⟩
    isplitl [Hp]; · iexact Hp
    isplitl [HO]
    · iexists W
      isplitr; · ipureintro; exact fun _ _ => Or.inl trivial
      iexact HO
    iempintro
  exact hin.trans ((h t).trans (wp_mono _ _ _ fun _ => hout))

/-- The exchange's fresh state, beside the pipelines'. -/
theorem fund (u : UR sig nD τ) :
    (ownU (u, initOf P.cells P.rights) : sProp 𝕄) ⊢ |={Set.univ}=> iprop(BI.own ((embL : Emb (UR sig nD τ) 𝕄) u) ∗ bigSep Finset.univ P.seed) := by
  iintro Hu
  ihave H := (ownU_pair _ _) $$ Hu
  icases H with ⟨HL, HR⟩
  imod P.seed_intro $$ HR with HS
  imodintro
  isplitl [HL] <;> iassumption

variable {Λ₀ : Labels} (pcs : Fin 1 → PCfg sig Λ₀ Val) (a : Dev nD → (p : Fin 1) → (pcs p).Adm)
  (phinj : Function.Injective (Pipeline.PerCore.cellOf (nD := nD) (τ := τ) (pinD pcs a)))
  (hw : WinFacts₀ (pcs 0).spec) (ho : OwnSemFacts (pcs 0).spec P.sem) (hW : ∀ p, IsEmpty (Fin (pcs p).W)) (hK : (pcs 0).pre.K = 0)
  (hN : ∀ c, (pinD pcs a c 0).N = 1) (defs₀ : Defs nD τ sig Val Λ₀) (𝒱₀ : Variants)

include hw ho hN hK phinj hW in
theorem run_alone [∀ e, Nonempty (Val e)]
    (hrest : ∀ c, (scopedRest (pinD pcs a c 0).spec c : sProp 𝕄) = BI.emp)
    (m : (ℓ : Loc nD τ sig) → Buf Val ℓ) (g : Dev nD → PrngReg)
    (main : Dev nD → Prog (TpuEff nD τ sig Val (Sig Λ₀ (Fin 1) fun p => (pcs p).Adm) .tc) PUnit)
    (hmain : ∀ c, main c = .op (.customCall (entry 0) ()) (fun _ => .ret ⟨⟩))
    (land : Dev nD → I → sProp 𝕄) (keep fin Z : Dev nD → sProp 𝕄)
    (hbufs : ∀ c, unscopedBufs c (fun b => m ((c.tc : Thread nD τ).loc b)) ⊢ iprop((bigSep P.far fun i => land c i) ∗ keep c ∗ Z c))
    (hbody : ∀ c (t : Fin (pinD pcs a c 0).N), iprop((levAts L P.lev ∗ P.start land keep c) ∗ P.owing c P.far)
      ⊢ wp frame (wpE defs₀ 𝒱₀ (c.tc : Thread nD τ) none) Set.univ
          (defs₀ .tc (pinD pcs a c 0).body ((pinD pcs a c 0).bodyArgs t ((pinD pcs a c 0).slots t)))
          (fun _ => iprop((fin c ∗ bigSep Finset.univ fun i => semVal (P.cell c i) 0) ∗ P.owing c ∅)))
    (hall : ∀ sm : SemLoc sig, sm.isScoped .tc = true)
    (QY : Dev nD → MemSt nD τ sig Val → Prop)
    (hY : ∀ c (s' : Phys nD τ sig Val), iprop((fin c ∗ Z c) ∗ SI s') ⊢ |={Set.univ}=> iprop(⌜QY c s'.mem⌝ ∗ SI s')) :
    θ_run (Pipeline.defs pcs defs₀) (onTc main) ⟨m, fun _ => 0, g⟩ (fun r => (∀ c, QY c r.2) ∧ r.2.sem = fun _ => 0) := by
  refine run_exchange pcs a
    (fun p c => P.dat (pinD pcs a c p) (hW p) c iprop(levAts L P.lev ∗ P.start land keep c) iprop(fin c ∗ bigSep Finset.univ fun i => semVal (P.cell c i) 0))
    () phinj 0 hw ho (embL : Emb (UR sig nD τ) 𝕄) defs₀ 𝒱₀ (hW 0) hK m g main (fun _ _ => .ret ⟨⟩) hmain
    (fun c => P.dat_obligation _ (hW 0) (hN c) c _ _ defs₀ 𝒱₀ (hbody c))
    (fun c => P.owe c P.far) (fun _ => rfl) (fun c => ?_) L P.lev L_of_ne P.seed _ (P.fund _)
    (P.start land keep) fin Z (fun c => iprop(fin c ∗ Z c)) (P.share m g land keep Z hbufs) (fun c => ?_) (fun c => ?_) (fun c => ?_) QY hY
    (fun s h hs => ⟨h, sem_eq_zero_of_scoped hall hs⟩)
  · have hl : Fin.last (pinD pcs a c 0).N = ⟨0 + 1, by rw [hN c]; omega⟩ := Fin.ext (by have := hN c; simp only [Fin.val_last]; omega)
    rw [hl]; rfl
  · show iprop(levAts L P.lev ∗ P.start land keep c ∗ scopedRest (pinD pcs a c 0).spec c) ⊢ iprop(levAts L P.lev ∗ P.start land keep c)
    iintro ⟨H1, H2, -⟩
    isplitl [H1] <;> iassumption
  · have hl : Fin.last (pinD pcs a c 0).N = ⟨0 + 1, by rw [hN c]; omega⟩ := Fin.ext (by have := hN c; simp only [Fin.val_last]; omega)
    rw [hl, hrest c]
    show iprop(fin c ∗ bigSep Finset.univ fun i => semVal (P.cell c i) 0) ⊢ iprop(fin c ∗ (bigSep Finset.univ fun i => semVal (P.cell c i) 0) ∗ emp)
    iintro ⟨H1, H2⟩
    isplitl [H1]; · iexact H1
    isplitl [H2]; · iexact H2
    iempintro
  · rw [wp_ret]
    iintro ⟨Hb, HY, HZ, HO, -, -⟩
    imodintro
    isplitr [HO]
    · isplitr [Hb]
      · isplitl [HY] <;> iassumption
      · iexact Hb
    · iexact HO

end Plan

end Cert.Exchange

end
-- ==== Proof.Pieces.lean ====
/-
# Arrays held in pieces

What a copy lands in a piece of an array, an array as the product of its pieces, and what memory then holds.
-/
module

public import proofs.«01_k».proof.Proof.Alone
public import Idealize.ShloMosaic.Lib.ValueLayout
public import Idealize.ShloMosaic.Lib.Pipeline.ValueKit.Geometry

@[expose] public section

set_option Elab.async false

noncomputable section

namespace Cert.Exchange

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU sig nD τ) ℕ

/-- A piece just written holds the array `g` if the payload is what the piece reads off `g`. -/
theorem landed (t : Thread nD τ) {sp : Space} {s : Shape} {e : EltTy} (v : View sig t.2.kind sp s e) (q : PosShare TreeShare)
    (fd g : Buf Val (v.loc t)) (w : s.Idx → Val e) (h : v.read Val g = w) :
    (v.loc t ↦[v.set]{q} v.write Val fd w Finset.univ : sProp 𝕄) = v.loc t ↦[v.set]{q} g :=
  pointsTo_congr fun i hi => by
    obtain ⟨x, -, rfl⟩ := Finset.mem_map.mp hi
    rw [View.write_emb_of_mem _ _ (Finset.mem_univ _), ← h, View.read_apply, cast_cast, cast_eq]

/-- An element of the matrix at the first coordinate `q` of an array of rank three. -/
theorem emb_matrix {k n l : ℕ} (off : Fin 3 → ℕ) (inb) (hn : (⟨2, ![n, l]⟩ : Shape).numel = (⟨3, ![1, n, l]⟩ : Shape).numel) (q : Fin k)
    (h0 : off 0 = q.val) (h1 : off 1 = 0) (h2 : off 2 = 0) (r : Fin n) (x : Fin l) :
    (Rect.unit (s := ⟨3, ![k, n, l]⟩) off (⟨3, ![1, n, l]⟩ : Shape).size inb).emb (Shape.reshapeEquiv hn (ix2 r x)) = (ix3 q r x : (⟨3, ![k, n, l]⟩ : Shape).Idx) := by
  rw [reshapeEquiv_ix2_1ab]
  funext a
  refine Fin.ext ((ValueKit.rect_emb_unit_val off _ inb _ a).trans ?_)
  match a with
  | ⟨0, _⟩ => exact (congrArg (· + 0) h0).trans (Nat.add_zero _)
  | ⟨1, _⟩ => exact (congrArg (· + r.val) h1).trans (Nat.zero_add _)
  | ⟨2, _⟩ => exact (congrArg (· + x.val) h2).trans (Nat.zero_add _)

/-- The same at rank four, at the first two coordinates `q` and `h`. -/
theorem emb_matrix₂ {k k' n l : ℕ} (off : Fin 4 → ℕ) (inb) (hn : (⟨2, ![n, l]⟩ : Shape).numel = (⟨4, ![1, 1, n, l]⟩ : Shape).numel) (q : Fin k)
    (h : Fin k') (h0 : off 0 = q.val) (h1 : off 1 = h.val) (h2 : off 2 = 0) (h3 : off 3 = 0) (r : Fin n) (x : Fin l) :
    (Rect.unit (s := ⟨4, ![k, k', n, l]⟩) off (⟨4, ![1, 1, n, l]⟩ : Shape).size inb).emb (Shape.reshapeEquiv hn (ix2 r x))
      = (ix4 q h r x : (⟨4, ![k, k', n, l]⟩ : Shape).Idx) := by
  rw [reshapeEquiv_ix2_11ab]
  funext a
  refine Fin.ext ((ValueKit.rect_emb_unit_val off _ inb _ a).trans ?_)
  match a with
  | ⟨0, _⟩ => exact (congrArg (· + 0) h0).trans (Nat.add_zero _)
  | ⟨1, _⟩ => exact (congrArg (· + 0) h1).trans (Nat.add_zero _)
  | ⟨2, _⟩ => exact (congrArg (· + r.val) h2).trans (Nat.zero_add _)
  | ⟨3, _⟩ => exact (congrArg (· + x.val) h3).trans (Nat.zero_add _)

/-- A whole array as the product of pieces that are disjoint and fill it. -/
theorem pieces {T : Type} [Fintype T] [DecidableEq T] {ℓ : Loc nD τ sig} (q : PosShare TreeShare) (f : Buf Val ℓ)
    (K : T → Finset (Idx ℓ)) (which : Idx ℓ → T) (h : ∀ t i, i ∈ K t ↔ which i = t) :
    (ℓ ↦{q} f : sProp 𝕄) = bigSep Finset.univ fun t => ℓ ↦[K t]{q} f := by
  rw [← pointsTo_biUnion Finset.univ K fun t _ t' _ hne => Finset.disjoint_left.mpr fun i hi hi' =>
    hne (((h t i).mp hi).symm.trans ((h t' i).mp hi'))]
  congr 1
  ext i
  simp only [Finset.mem_univ, Finset.mem_biUnion, true_and, true_iff]
  exact ⟨which i, (h _ _).mpr rfl⟩

/-- Pieces carved out of an array, and the rest of it. -/
theorem carve {T : Type} [Fintype T] [DecidableEq T] {ℓ : Loc nD τ sig} (q : PosShare TreeShare) (f : Buf Val ℓ)
    (K : T → Finset (Idx ℓ)) (hd : ∀ t t', t ≠ t' → Disjoint (K t) (K t')) :
    (ℓ ↦{q} f : sProp 𝕄) ⊣⊢ iprop((bigSep Finset.univ fun t => ℓ ↦[K t]{q} f) ∗ ℓ ↦[Finset.univ \ Finset.univ.biUnion K]{q} f) := by
  rw [← pointsTo_biUnion Finset.univ K fun t _ t' _ hne => hd t t' hne]
  exact pointsTo_split_subset (Finset.subset_univ _)

/-- Two arrays of a device held whole: memory holds their contents. -/
theorem two_read (s' : Phys nD τ sig Val) {ℓ ℓ' : Loc nD τ sig} (f : Buf Val ℓ) (f' : Buf Val ℓ') :
    iprop((((ℓ ↦{fullShare} f) ∗ (ℓ' ↦{fullShare} f')) ∗ emp) ∗ SI s')
      ⊢ (|={Set.univ}=> iprop(⌜s'.mem.mem ℓ = f ∧ s'.mem.mem ℓ' = f'⌝ ∗ SI s') : sProp 𝕄) := by
  iintro ⟨⟨⟨H, H'⟩, -⟩, HS⟩
  icombine HS H gives %h
  icombine HS H' gives %h'
  imodintro
  isplitr
  · ipureintro
    exact ⟨funext fun i => h i (Finset.mem_univ i), funext fun i => h' i (Finset.mem_univ i)⟩
  · iexact HS

end Cert.Exchange

end
-- ==== Proof.Gather.lean ====
/-
# Every chip gathers the weights of all chips

The kernel `gather_weights`: each core puts its half of the chip's rows on the same core of the three other chips, and
passes on to its sibling what it receives from them; a chip's own rows are copied inside the device. Run once, over any
float values: every device ends with the rows of all chips. The chip's own rows are read by four copies at once, each
holding a share of what it reads; what arrives is read again while it is passed on.
-/
module

public import proofs.«01_k».proof.Proof.Pieces
public import proofs.«01_k».proof.Proof.Gen.GatherIdeal.Skeleton
public import proofs.«01_k».proof.Proof.Gen.GatherIdeal.Launch
public import proofs.«01_k».proof.Proof.Gen.GatherIdeal.Points
public import Idealize.ShloMosaic.Lib.ValueLayout

@[expose] public section

set_option Elab.async false
set_option maxRecDepth 65536

noncomputable section

namespace Cert.GatherIdeal

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (pinD)
open Cert.Exchange Cert.GatherIdeal.Gen

variable {F : FTy → Type} [FloatOps F]

local notation "𝕄" => MT nD τ sig Unit (Elt F) ℕ (UU sig nD τ) ℕ

/-! ## Devices -/

/-- The device a device exchanges rows with: across x, across y, across both. -/
def nb (j : Fin 3) (c : Dev nD) : Dev nD :=
  match j with
  | 0 => ⟨(2 * ((c.val / 2) % 2) + (c.val % 2) + 4) - 4 * (c.val / 4), by revert c; decide⟩
  | 1 => ⟨(4 * (c.val / 4) + (c.val % 2) + 2) - 2 * ((c.val / 2) % 2), by revert c; decide⟩
  | 2 => ⟨((c.val % 2) + 6) - (4 * (c.val / 4) + 2 * ((c.val / 2) % 2)), by revert c; decide⟩
/-- The other core of the chip. -/
def sib (c : Dev nD) : Dev nD := ⟨(4 * (c.val / 4) + 2 * ((c.val / 2) % 2) + 1) - c.val % 2, by revert c; decide⟩
/-- A device's chip and core. -/
def chip (c : Dev nD) : Fin 4 := ⟨c.val / 2, by revert c; decide⟩
def me (c : Dev nD) : Fin 2 := ⟨c.val % 2, by omega⟩

theorem nb_nb (j : Fin 3) (c : Dev nD) : nb j (nb j c) = c := by revert j c; decide
theorem sib_sib (c : Dev nD) : sib (sib c) = c := by revert c; decide
theorem me_nb (j : Fin 3) (c : Dev nD) : me (nb j c) = me c := by revert j c; decide
theorem chip_nb_sib (j : Fin 3) (c : Dev nD) : chip (nb j (sib c)) = chip (nb j c) := by revert j c; decide

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = sib c := by revert c; decide +kernel
theorem dev5_eq (c : Dev nD) : (⟨k0_dev5 c, k0_dev5_lt c⟩ : Dev nD) = sib c := by revert c; decide +kernel
theorem dev6_eq (c : Dev nD) : (⟨k0_dev6 c, k0_dev6_lt c⟩ : Dev nD) = sib c := by revert c; decide +kernel

/-! ## Rows -/

/-- The half of a chip's rows a row is in, and the row at a place of a half. -/
def halfOf (r : Fin 47616) : Fin 2 := ⟨r.val / 23808, by omega⟩
def rowAt (k : Fin 2) (r : Fin 23808) : Fin 47616 := ⟨23808 * k.val + r.val, by omega⟩
theorem halfOf_rowAt (k : Fin 2) (r : Fin 23808) : halfOf (rowAt k r) = k := Fin.ext (by show (23808 * k.val + r.val) / 23808 = k.val; omega)
theorem rowAt_halfOf (r : Fin 47616) : rowAt (halfOf r) ⟨r.val % 23808, by omega⟩ = r :=
  Fin.ext (by show 23808 * (r.val / 23808) + r.val % 23808 = r.val; omega)

/-- The half `k` of chip `p`'s rows in the result. -/
def inPiece (p : Fin 4) (k : Fin 2) (i : S4x47616x128.Idx) : Bool := (i 0).val == p.val && (halfOf (i 1)).val == k.val
def piece (p : Fin 4) (k : Fin 2) : Finset S4x47616x128.Idx := Finset.univ.filter fun i => inPiece p k i = true
theorem mem_piece (p : Fin 4) (k : Fin 2) (i : S4x47616x128.Idx) : i ∈ piece p k ↔ i 0 = p ∧ halfOf (i 1) = k := by
  have h : ∀ (p q : Fin 4) (k k' : Fin 2), ((q.val == p.val && k'.val == k.val) = true) = (q = p ∧ k' = k) := by decide
  exact Finset.mem_filter.trans ((and_iff_right (Finset.mem_univ i)).trans (iff_of_eq (h p (i 0) k (halfOf (i 1)))))

/-- An element of a half cut out of the result. -/
theorem emb_half (off : Fin 3 → ℕ) (inb) (hn : S23808x128.numel = S1x23808x128.numel) (p : Fin 4) (k : Fin 2)
    (h0 : off 0 = p.val) (h1 : off 1 = 23808 * k.val) (h2 : off 2 = 0) (r : Fin 23808) (l : Fin 128) :
    (Rect.unit (s := S4x47616x128) off S1x23808x128.size inb).emb (Shape.reshapeEquiv hn (ix2 r l)) = (ix3 p (rowAt k r) l : S4x47616x128.Idx) := by
  rw [reshapeEquiv_ix2_1ab]
  funext a
  refine Fin.ext ((ValueKit.rect_emb_unit_val off _ inb _ a).trans ?_)
  match a with
  | ⟨0, _⟩ => exact (congrArg (· + 0) h0).trans (Nat.add_zero _)
  | ⟨1, _⟩ => exact congrArg (· + r.val) h1
  | ⟨2, _⟩ => exact (congrArg (· + l.val) h2).trans (Nat.zero_add _)

abbrev cutAt (off : Fin 3 → ℕ) (inb : ∀ a, off a + S1x23808x128.size a ≤ S4x47616x128.size a) : Memref sig .tc .hbm S23808x128 .bf16 :=
  ((Memref.whole main_v1).slice (Rect.unit (s := S4x47616x128) off S1x23808x128.size inb) (fun _ => rfl)).squeeze S23808x128 squeezes_S1x23808x128_S23808x128

theorem cutAt_emb (off : Fin 3 → ℕ) (inb) (p : Fin 4) (k : Fin 2) (h : off = ![p.val, 23808 * k.val, 0]) (r : Fin 23808) (l : Fin 128) :
    (cutAt off inb).view.emb (ix2 r l) = (ix3 p (rowAt k r) l : S4x47616x128.Idx) :=
  emb_half off inb (Shape.Squeezes.numel_eq squeezes_S1x23808x128_S23808x128) p k (by rw [h]; rfl) (by rw [h]; rfl) (by rw [h]; rfl) r l

theorem cutAt_set (off : Fin 3 → ℕ) (inb) (p : Fin 4) (k : Fin 2) (h : off = ![p.val, 23808 * k.val, 0]) :
    (cutAt off inb).view.set = piece p k := by
  refine Finset.ext fun i => Iff.trans ?_ (mem_piece p k i).symm
  constructor
  · intro hi
    obtain ⟨x, -, rfl⟩ := Finset.mem_map.mp hi
    rw [eq_ix2 x]
    have e := cutAt_emb off inb p k h (x 0) (x 1)
    exact ⟨congrFun e 0, (congrArg halfOf (congrFun e 1)).trans (halfOf_rowAt k (x 0))⟩
  · rintro ⟨rfl, rfl⟩
    refine Finset.mem_map.mpr ⟨ix2 (⟨(i 1).val % 23808, Nat.mod_lt _ (by decide)⟩ : Fin 23808) (i 2), Finset.mem_univ _, ?_⟩
    refine (cutAt_emb off inb (i 0) (halfOf (i 1)) h _ (i 2)).trans ?_
    exact (congrArg (fun r : Fin 47616 => (ix3 (i 0) r (i 2) : S4x47616x128.Idx)) (rowAt_halfOf (i 1))).trans (eq_ix3 i).symm

/-! ## The places the copies read and write -/

/-- The chip's rows, and a core's half of them. -/
abbrev rows : Memref sig .tc .hbm S47616x128 .bf16 := Memref.whole main_arg0
abbrev half (c : Dev nD) : Memref sig .tc .hbm S23808x128 .bf16 :=
  (Memref.whole main_arg0).slice (Rect.unit (s := S47616x128) (k0_off3 c) S23808x128.size (k0_off3_inb c)) (fun _ => rfl)
/-- The place of the chip's rows in the result, and of the core's half of them. -/
abbrev block (c : Dev nD) : Memref sig .tc .hbm S47616x128 .bf16 :=
  ((Memref.whole main_v1).slice (Rect.unit (s := S4x47616x128) (k0_off1 c) S1x47616x128.size (k0_off1_inb c)) (fun _ => rfl)).squeeze S47616x128 squeezes_S1x47616x128_S47616x128
abbrev own (c : Dev nD) : Memref sig .tc .hbm S23808x128 .bf16 := cutAt (k0_off2 c) (k0_off2_inb c)

/-- The place of the half that comes from chip `j` to this core, and of the half that comes through the sibling. -/
abbrev offHere (c : Dev nD) : Fin 3 → Fin 3 → ℕ
  | 0 => k0_off4 c
  | 1 => k0_off5 c
  | 2 => k0_off6 c
abbrev offThere (c : Dev nD) : Fin 3 → Fin 3 → ℕ
  | 0 => k0_off7 c
  | 1 => k0_off8 c
  | 2 => k0_off9 c
theorem offHere_inb (c : Dev nD) (j : Fin 3) : ∀ a, offHere c j a + S1x23808x128.size a ≤ S4x47616x128.size a := by
  match j with
  | 0 => exact k0_off4_inb c
  | 1 => exact k0_off5_inb c
  | 2 => exact k0_off6_inb c
theorem offThere_inb (c : Dev nD) (j : Fin 3) : ∀ a, offThere c j a + S1x23808x128.size a ≤ S4x47616x128.size a := by
  match j with
  | 0 => exact k0_off7_inb c
  | 1 => exact k0_off8_inb c
  | 2 => exact k0_off9_inb c
abbrev here (c : Dev nD) (j : Fin 3) : Memref sig .tc .hbm S23808x128 .bf16 := cutAt (offHere c j) (offHere_inb c j)
abbrev there (c : Dev nD) (j : Fin 3) : Memref sig .tc .hbm S23808x128 .bf16 := cutAt (offThere c j) (offThere_inb c j)

theorem off2_at (c : Dev nD) : k0_off2 c = ![(chip c).val, 23808 * (me c).val, 0] := (k0_off2_eq c).trans (by revert c; decide)
theorem offHere_at (c : Dev nD) (j : Fin 3) : offHere c j = ![(chip (nb j c)).val, 23808 * (me c).val, 0] := by
  match j with
  | 0 => exact (k0_off4_eq c).trans (by revert c; decide)
  | 1 => exact (k0_off5_eq c).trans (by revert c; decide)
  | 2 => exact (k0_off6_eq c).trans (by revert c; decide)

theorem own_set (c : Dev nD) : (own c).view.set = piece (chip c) (me c) := cutAt_set _ _ _ _ (off2_at c)
theorem here_set (c : Dev nD) (j : Fin 3) : (here c j).view.set = piece (chip (nb j c)) (me c) := cutAt_set _ _ _ _ (offHere_at c j)

theorem block_emb (c : Dev nD) (r : Fin 47616) (l : Fin 128) : (block c).view.emb (ix2 r l) = (ix3 (chip c) r l : S4x47616x128.Idx) :=
  emb_matrix (k0_off1 c) (k0_off1_inb c) (Shape.Squeezes.numel_eq squeezes_S1x47616x128_S47616x128) (chip c)
    (by rw [k0_off1_eq]; revert c; decide) (by rw [k0_off1_eq]; rfl) (by rw [k0_off1_eq]; rfl) r l

theorem mem_block (c : Dev nD) (i : S4x47616x128.Idx) : i ∈ (block c).view.set ↔ i 0 = chip c := by
  constructor
  · intro h
    obtain ⟨x, -, rfl⟩ := Finset.mem_map.mp h
    rw [eq_ix2 x]
    exact congrFun (block_emb c (x 0) (x 1)) 0
  · intro h
    have e : (ix3 (chip c) (i 1) (i 2) : S4x47616x128.Idx) = i := by rw [← h]; exact (eq_ix3 i).symm
    exact Finset.mem_map.mpr ⟨ix2 (i 1) (i 2), Finset.mem_univ _, (block_emb c (i 1) (i 2)).trans e⟩

theorem half_emb (c : Dev nD) (r : Fin 23808) (l : Fin 128) : (half c).view.emb (ix2 r l) = (ix2 (rowAt (me c) r) l : S47616x128.Idx) := by
  have h0 : k0_off3 c 0 = 23808 * (me c).val := by rw [k0_off3_eq]; rfl
  have h1 : k0_off3 c 1 = 0 := by rw [k0_off3_eq]; rfl
  funext a
  refine Fin.ext ((ValueKit.rect_emb_unit_val (k0_off3 c) _ (k0_off3_inb c) _ a).trans ?_)
  match a with
  | ⟨0, _⟩ => exact congrArg (· + r.val) h0
  | ⟨1, _⟩ => exact (congrArg (· + l.val) h1).trans (Nat.zero_add _)

/-- Which piece of a device's result an element is in: the chip's own block, or the half of another chip's rows that this
    core receives (`true`) or its sibling does. -/
abbrev T := Option (Fin 3 × Bool)
def slotOf (c : Dev nD) (p : Fin 4) (k : Fin 2) : T :=
  if p = chip c then none else if p = chip (nb 0 c) then some (0, k == me c) else if p = chip (nb 1 c) then some (1, k == me c) else some (2, k == me c)
abbrev who (c : Dev nD) (b : Bool) : Dev nD := if b then c else sib c
abbrev pieceOf (c : Dev nD) : T → Finset S4x47616x128.Idx
  | none => (block c).view.set
  | some (j, b) => piece (chip (nb j c)) (me (who c b))

theorem mem_pieceOf (c : Dev nD) (t : T) (i : S4x47616x128.Idx) : i ∈ pieceOf c t ↔ slotOf c (i 0) (halfOf (i 1)) = t := by
  match t with
  | none =>
    have h : ∀ (c : Dev nD) (p : Fin 4) (k : Fin 2), (p = chip c) = (slotOf c p k = none) := by decide
    exact (mem_block c i).trans (iff_of_eq (h c (i 0) (halfOf (i 1))))
  | some (j, b) =>
    have h : ∀ (c : Dev nD) (j : Fin 3) (b : Bool) (p : Fin 4) (k : Fin 2),
        (p = chip (nb j c) ∧ k = me (who c b)) = (slotOf c p k = some (j, b)) := by decide
    exact (mem_piece _ _ i).trans (iff_of_eq (h c j b (i 0) (halfOf (i 1))))

/-! ## Contents -/

variable (m : (ℓ : Loc nD τ sig) → Buf (Elt F) ℓ) (g : Dev nD → PrngReg)

/-- The device whose rows of chip `p`, half `k`, device `c` ends up with. -/
def origin (c : Dev nD) (p : Fin 4) (k : Fin 2) : Dev nD := if p = chip c then c else ⟨2 * p.val + k.val, by revert p k; decide⟩

/-- A device's rows at the start, and what it ends up with. -/
abbrev given (c : Dev nD) : Buf (Elt F) ((c : Thread nD τ).loc main_arg0) := m ((c : Thread nD τ).loc main_arg0)
def gathered (c : Dev nD) : Buf (Elt F) ((c : Thread nD τ).loc main_v1) :=
  fun i => given m (origin c (i 0) (halfOf (i 1))) (ix2 (i 1) (i 2) : S47616x128.Idx)

theorem gathered_apply (c : Dev nD) (p : Fin 4) (r : Fin 47616) (l : Fin 128) :
    gathered m c (ix3 p r l : S4x47616x128.Idx) = given m (origin c p (halfOf r)) (ix2 r l : S47616x128.Idx) := rfl

theorem gathered_of (c d : Dev nD) (p : Fin 4) (r : Fin 47616) (l : Fin 128) (h : origin c p (halfOf r) = d) :
    gathered m c (ix3 p r l : S4x47616x128.Idx) = given m d (ix2 r l : S47616x128.Idx) := by
  rw [gathered_apply, h]

theorem block_read (c : Dev nD) : (block c).view.read (Elt F) (gathered m c) = rows.view.read (Elt F) (given m c) := by
  have h : ∀ (c : Dev nD) (k : Fin 2), origin c (chip c) k = c := by decide
  funext x
  rw [eq_ix2 x]
  exact (congrArg (gathered m c) (block_emb c (x 0) (x 1))).trans (gathered_of m c c (chip c) (x 0) (x 1) (h c _))

theorem own_read (c : Dev nD) (j : Fin 3) : (own c).view.read (Elt F) (gathered m (nb j c)) = (half c).view.read (Elt F) (given m c) := by
  have h : ∀ (c : Dev nD) (j : Fin 3), origin (nb j c) (chip c) (me c) = c := by decide
  funext x
  rw [eq_ix2 x]
  exact (congrArg (gathered m (nb j c)) (cutAt_emb _ _ _ _ (off2_at c) (x 0) (x 1))).trans
    ((gathered_of m (nb j c) c (chip c) (rowAt (me c) (x 0)) (x 1) ((congrArg _ (halfOf_rowAt (me c) (x 0))).trans (h c j))).trans
      (congrArg (given m c) (half_emb c (x 0) (x 1))).symm)

theorem here_read (c : Dev nD) (j : Fin 3) : (here c j).view.read (Elt F) (gathered m (sib c)) = (here c j).view.read (Elt F) (gathered m c) := by
  have h : ∀ (c : Dev nD) (j : Fin 3), origin (sib c) (chip (nb j c)) (me c) = origin c (chip (nb j c)) (me c) := by decide
  funext x
  rw [eq_ix2 x]
  have e := cutAt_emb _ (offHere_inb c j) _ _ (offHere_at c j) (x 0) (x 1)
  refine (congrArg (gathered m (sib c)) e).trans (Eq.trans ?_ (congrArg (gathered m c) e).symm)
  exact (gathered_of m (sib c) (origin c (chip (nb j c)) (me c)) _ _ _ ((congrArg _ (halfOf_rowAt (me c) (x 0))).trans (h c j))).trans
    (gathered_of m c (origin c (chip (nb j c)) (me c)) _ _ _ (congrArg _ (halfOf_rowAt (me c) (x 0)))).symm

/-! ## The plan -/

/-- The semaphores: of the sends to chip `j` and to the sibling, of what comes from there, and of the copy in the device. -/
abbrev In := Option (Fin 4 × Fin 3)
@[match_pattern] abbrev sent (j : Fin 3) : In := some (0, j)
@[match_pattern] abbrev passed (j : Fin 3) : In := some (1, j)
@[match_pattern] abbrev came (j : Fin 3) : In := some (2, j)
@[match_pattern] abbrev more (j : Fin 3) : In := some (3, j)

/-- The semaphores that other devices credit; the ones that the sibling does. -/
def late : Finset In := {more 0, more 1, more 2}
def far : Finset In := {came 0, came 1, came 2, more 0, more 1, more 2}

/-- What the copy of a half counts, and of a chip's rows. -/
def credit : ℕ := (Memref.whole main_v1 |>.slice (Rect.unit (s := S4x47616x128) ![0, 0, 0] S1x23808x128.size (by decide)) (fun _ => rfl) |>.squeeze S23808x128 squeezes_S1x23808x128_S23808x128).view.dmaCredit
def creditAll : ℕ := rows.view.dmaCredit
theorem credit_half (c : Dev nD) : (half c).view.dmaCredit = credit := rfl
theorem credit_cut (off inb) : (cutAt off inb).view.dmaCredit = credit := rfl
theorem credit_block (c : Dev nD) : (block c).view.dmaCredit = creditAll := rfl

def peer : In → Dev nD → Dev nD
  | some (2, j) => nb j
  | some (3, _) => sib
  | _ => id
theorem peer_peer (i : In) (c : Dev nD) : peer i (peer i c) = c := by revert i c; decide
def amt : In → ℕ
  | none => creditAll
  | some _ => credit
def level : In → ℕ
  | some (2, _) => 1
  | some (3, _) => 2
  | _ => 0

/-- The shares of a core's half that the three sends read. -/
abbrev sh : Fin 3 → PosShare TreeShare
  | 0 => fullShare.right.left
  | 1 => fullShare.right.right.left
  | 2 => fullShare.right.right.right

/-- The elements a semaphore's wait gives back. -/
abbrev got (c : Dev nD) : In → sProp 𝕄
  | none => iprop(((c : Thread nD τ).loc main_v1 ↦[(block c).view.set]{fullShare} gathered m c)
      ∗ ((c : Thread nD τ).loc main_arg0 ↦[rows.view.set]{fullShare.left} given m c))
  | some (0, j) => (c : Thread nD τ).loc main_arg0 ↦[(half c).view.set]{sh j} given m c
  | some (1, j) => (c : Thread nD τ).loc main_v1 ↦[piece (chip (nb j c)) (me c)]{fullShare} gathered m c
  | some (2, j) => (c : Thread nD τ).loc main_v1 ↦[piece (chip (nb j c)) (me c)]{fullShare} gathered m c
  | some (3, j) => (c : Thread nD τ).loc main_v1 ↦[piece (chip (nb j c)) (me (sib c))]{fullShare} gathered m c

def plan : Plan nD τ sig (Elt F) In where
  sem := fun
    | none => .dma (12 : Fin 13)
    | some (k, j) => .dma (⟨3 * k.val + j.val, by omega⟩ : Fin 13)
  sem_inj := by decide
  far := far
  peer := peer
  peer_peer := peer_peer
  amt := amt
  amt_pos := fun i => by
    cases i with
    | none => exact View.dmaCredit_pos rows.view (by decide)
    | some i => exact View.dmaCredit_pos (half 0).view (by decide)
  lvl := level
  pay := got m
  pay_storable := fun c i => by
    match i with
    | none => exact inferInstanceAs (BI.Storable _ (got m c none))
    | some (0, j) => exact inferInstanceAs (BI.Storable _ (got m c (some (0, j))))
    | some (1, j) => exact inferInstanceAs (BI.Storable _ (got m c (some (1, j))))
    | some (2, j) => exact inferInstanceAs (BI.Storable _ (got m c (some (2, j))))
    | some (3, j) => exact inferInstanceAs (BI.Storable _ (got m c (some (3, j))))

/-- What a device holds at the start: the pieces of its result that others write; its rows, and the block it writes itself. -/
abbrev land (c : Dev nD) : In → sProp 𝕄
  | some (2, j) => (c : Thread nD τ).loc main_v1 ↦[piece (chip (nb j c)) (me c)]{fullShare} m ((c : Thread nD τ).loc main_v1)
  | some (3, j) => (c : Thread nD τ).loc main_v1 ↦[piece (chip (nb j c)) (me (sib c))]{fullShare} m ((c : Thread nD τ).loc main_v1)
  | _ => iprop(emp)
abbrev keep (c : Dev nD) : sProp 𝕄 :=
  iprop(((c : Thread nD τ).loc main_arg0 ↦{fullShare} given m c)
    ∗ ((c : Thread nD τ).loc main_v1 ↦[(block c).view.set]{fullShare} m ((c : Thread nD τ).loc main_v1)))

/-- What it holds at the end. -/
abbrev fin (c : Dev nD) : sProp 𝕄 :=
  iprop(((c : Thread nD τ).loc main_arg0 ↦{fullShare} given m c) ∗ ((c : Thread nD τ).loc main_v1 ↦{fullShare} gathered m c))

/-- The result is the seven pieces of it. -/
theorem whole_dst (c : Dev nD) (f : Buf (Elt F) ((c : Thread nD τ).loc main_v1)) :
    ((c : Thread nD τ).loc main_v1 ↦{fullShare} f : sProp 𝕄)
      = iprop(((c : Thread nD τ).loc main_v1 ↦[(block c).view.set]{fullShare} f)
        ∗ ((c : Thread nD τ).loc main_v1 ↦[piece (chip (nb 0 c)) (me c)]{fullShare} f) ∗ ((c : Thread nD τ).loc main_v1 ↦[piece (chip (nb 1 c)) (me c)]{fullShare} f)
        ∗ ((c : Thread nD τ).loc main_v1 ↦[piece (chip (nb 2 c)) (me c)]{fullShare} f)
        ∗ ((c : Thread nD τ).loc main_v1 ↦[piece (chip (nb 0 c)) (me (sib c))]{fullShare} f) ∗ ((c : Thread nD τ).loc main_v1 ↦[piece (chip (nb 1 c)) (me (sib c))]{fullShare} f)
        ∗ ((c : Thread nD τ).loc main_v1 ↦[piece (chip (nb 2 c)) (me (sib c))]{fullShare} f)) := by
  rw [pieces fullShare f (pieceOf c) (fun i : S4x47616x128.Idx => slotOf c (i 0) (halfOf (i 1))) (mem_pieceOf c),
    bigSep_univ_eq_bigSepL [none, some (0, true), some (1, true), some (2, true), some (0, false), some (1, false), some (2, false)] (by decide) (by decide)]
  rfl

/-- The part of a chip's rows that is not the core's half, for the while that the half is lent. -/
abbrev rest (c : Dev nD) : sProp 𝕄 :=
  (c : Thread nD τ).loc main_arg0 ↦[Finset.univ \ (half c).view.set]{fullShare.right} given m c

/-- A chip's rows are a share of them for the copy here, shares of the core's half for the three sends, and the rest. -/
theorem lend (c : Dev nD) : ((c : Thread nD τ).loc main_arg0 ↦{fullShare} given m c : sProp 𝕄)
    ⊢ iprop(((c : Thread nD τ).loc main_arg0 ↦[rows.view.set]{fullShare.left} given m c) ∗ ((c : Thread nD τ).loc main_arg0 ↦[(half c).view.set]{sh 0} given m c)
      ∗ ((c : Thread nD τ).loc main_arg0 ↦[(half c).view.set]{sh 1} given m c) ∗ ((c : Thread nD τ).loc main_arg0 ↦[(half c).view.set]{sh 2} given m c) ∗ rest m c) := by
  rw [show rows.view.set = Finset.univ from View.set_whole _]
  iintro H
  ihave H := (pointsTo_share (PosShare.mem_left_op_right fullShare)).1 $$ H
  icases H with ⟨A, H⟩
  ihave H := (pointsTo_split_subset (Finset.subset_univ (half c).view.set)).1 $$ H
  icases H with ⟨H, R⟩
  ihave H := (pointsTo_share (PosShare.mem_left_op_right fullShare.right)).1 $$ H
  icases H with ⟨S0, H⟩
  ihave H := (pointsTo_share (PosShare.mem_left_op_right fullShare.right.right)).1 $$ H
  icases H with ⟨S1, S2⟩
  isplitl [A]; · iexact A
  isplitl [S0]; · iexact S0
  isplitl [S1]; · iexact S1
  isplitl [S2] <;> iassumption

theorem repay (c : Dev nD) : iprop(((c : Thread nD τ).loc main_arg0 ↦[rows.view.set]{fullShare.left} given m c) ∗ ((c : Thread nD τ).loc main_arg0 ↦[(half c).view.set]{sh 0} given m c)
      ∗ ((c : Thread nD τ).loc main_arg0 ↦[(half c).view.set]{sh 1} given m c) ∗ ((c : Thread nD τ).loc main_arg0 ↦[(half c).view.set]{sh 2} given m c) ∗ rest m c)
    ⊢ ((c : Thread nD τ).loc main_arg0 ↦{fullShare} given m c : sProp 𝕄) := by
  rw [show rows.view.set = Finset.univ from View.set_whole _]
  iintro ⟨A, S0, S1, S2, R⟩
  iapply (pointsTo_share (PosShare.mem_left_op_right fullShare)).2
  isplitl [A]; · iexact A
  iapply (pointsTo_split_subset (Finset.subset_univ (half c).view.set)).2
  isplitr [R]
  · iapply (pointsTo_share (PosShare.mem_left_op_right fullShare.right)).2
    isplitl [S0]; · iexact S0
    iapply (pointsTo_share (PosShare.mem_left_op_right fullShare.right.right)).2
    isplitl [S1] <;> iassumption
  · iexact R

theorem over_far (Φ : In → sProp 𝕄) : bigSep far Φ
    = iprop(Φ (came 0) ∗ Φ (came 1) ∗ Φ (came 2) ∗ Φ (more 0) ∗ Φ (more 1) ∗ Φ (more 2)) :=
  bigSep_eq_bigSepL_of_eq [came 0, came 1, came 2, more 0, more 1, more 2] (by decide) (by decide) Φ
theorem over (Φ : In → sProp 𝕄) : bigSep Finset.univ Φ
    = iprop(Φ none ∗ Φ (sent 0) ∗ Φ (sent 1) ∗ Φ (sent 2) ∗ Φ (passed 0) ∗ Φ (passed 1) ∗ Φ (passed 2)
      ∗ Φ (came 0) ∗ Φ (came 1) ∗ Φ (came 2) ∗ Φ (more 0) ∗ Φ (more 1) ∗ Φ (more 2)) :=
  bigSep_univ_eq_bigSepL (I := In) [none, sent 0, sent 1, sent 2, passed 0, passed 1, passed 2, came 0, came 1, came 2, more 0, more 1, more 2]
    (by decide) (by decide) Φ

theorem bufs (c : Dev nD) : unscopedBufs c (fun b => m ((c : Thread nD τ).loc b))
    ⊢ iprop((bigSep (plan m).far fun i => land m c i) ∗ keep m c ∗ emp) := by
  rw [show (unscopedBufs c (fun b => m ((c : Thread nD τ).loc b)) : sProp 𝕄)
      = iprop(((c : Thread nD τ).loc main_arg0 ↦{fullShare} given m c) ∗ ((c : Thread nD τ).loc main_v1 ↦{fullShare} m ((c : Thread nD τ).loc main_v1))) from
    bigSep_eq_bigSepL_of_eq [main_arg0, main_v1] (by decide) (by decide) _,
    whole_dst, show (plan m).far = far from rfl, over_far]
  iintro ⟨Ha, Hb, Hp⟩
  isplitl [Hp]; · iexact Hp
  isplitl [Ha Hb]
  · isplitl [Ha] <;> iassumption
  iempintro

section

variable {Λ : Labels} (defs : Defs nD τ sig (Elt F) Λ) (𝒱 : Variants) (bd : Option 𝒱.V) (K : Dev nD × In → ℕ)

/-- The start of the copy of the chip's rows inside the device. -/
theorem copy (c : Dev nD)
    {hsrc : rows.view.WordExact} {hdst : (block c).view.WordExact} {hsem : DmaTarget.Typed (nD := nD) (p := (c : Thread nD τ).2) .hbm ((plan m).sem none) (.here (block c))}
    {α : Type} {Q : α → sProp 𝕄} {k : PUnit → Prog (TpuEff nD τ sig (Elt F) Λ .tc) α} :
    iprop((plan m).records K ∗ ((c : Thread nD τ).loc main_arg0 ↦[rows.view.set]{fullShare.left} given m c)
        ∗ ((c : Thread nD τ).loc main_v1 ↦[(block c).view.set]{fullShare} m ((c : Thread nD τ).loc main_v1)) ∗ (plan m).tok c none)
      ⊢ iprop(((plan m).due c none -∗ wp frame (wpE defs 𝒱 (c : Thread nD τ) bd) Set.univ (k ⟨⟩) Q)
          -∗ wp frame (wpE defs 𝒱 (c : Thread nD τ) bd) Set.univ (.op (.enqueueDma rows (.here (block c)) ((plan m).sem none) hsrc hdst hsem) k) Q) := by
  have hL : ((block c).view.loc (c : Thread nD τ) ↦[(block c).view.set]{fullShare}
      (block c).view.write (Elt F) (m ((c : Thread nD τ).loc main_v1)) (rows.view.read (Elt F) (given m c)) Finset.univ : sProp 𝕄)
      ⊢ ((c : Thread nD τ).loc main_v1 ↦[(block c).view.set]{fullShare} gathered m c) :=
    Entails.of_eq (landed (c : Thread nD τ) (block c).view fullShare _ (gathered m c) _ (block_read m c))
  have hP : iprop(((block c).view.loc (c : Thread nD τ) ↦[(block c).view.set]{fullShare}
      (block c).view.write (Elt F) (m ((c : Thread nD τ).loc main_v1)) (rows.view.read (Elt F) (given m c)) Finset.univ)
      ∗ (rows.view.loc (c : Thread nD τ) ↦[rows.view.set]{fullShare.left} given m c)) ⊢ (plan m).pay c none := by
    show _ ⊢ iprop(((c : Thread nD τ).loc main_v1 ↦[(block c).view.set]{fullShare} gathered m c)
      ∗ ((c : Thread nD τ).loc main_arg0 ↦[rows.view.set]{fullShare.left} given m c))
    iintro ⟨H, H'⟩
    isplitl [H]
    · iapply hL; iexact H
    · iexact H'
  have hN : (block c).view.amount ((plan m).sem none) = (plan m).amt none := credit_block c
  exact (plan m).wp_copy_here defs 𝒱 bd K c none rfl (src := rows) (dst := block c) (hsrc := hsrc) (hdst := hdst) (hsem := hsem) rfl hN (Q := Q) (k := k)
    fullShare.left (given m c) (m ((c : Thread nD τ).loc main_v1)) hP

/-- The start of the send of the core's half to chip `j`. -/
theorem put (c : Dev nD) (j : Fin 3) (S : Finset In) (hi : came j ∈ S) (n : Dev nD) (hn : n = nb j c)
    {hsc : (own c).view.ref.isScScratch = false} {hsrc : (half c).view.WordExact} {hdst : (own c).view.WordExact}
    {hsem : DmaTarget.Typed .hbm ((plan m).sem (came j)) (.remote (Dev.tc n : Thread nD τ) (own c) ((plan m).sem (sent j)) hsc)}
    {α : Type} {Q : α → sProp 𝕄} {k : PUnit → Prog (TpuEff nD τ sig (Elt F) Λ .tc) α} :
    iprop((plan m).records K ∗ ((c : Thread nD τ).loc main_arg0 ↦[(half c).view.set]{sh j} given m c) ∗ land m (nb j c) (came j)
        ∗ (plan m).owing c S ∗ (plan m).tok c (sent j) ∗ (plan m).tok c (came j))
      ⊢ iprop((((plan m).due c (sent j) ∗ (plan m).owing c (S.erase (came j))) -∗ wp frame (wpE defs 𝒱 (c : Thread nD τ) bd) Set.univ (k ⟨⟩) Q)
          -∗ wp frame (wpE defs 𝒱 (c : Thread nD τ) bd) Set.univ
            (.op (.enqueueDma (half c) (.remote (Dev.tc n : Thread nD τ) (own c) ((plan m).sem (sent j)) hsc) ((plan m).sem (came j)) hsrc hdst hsem) k) Q) := by
  subst hn
  have hset : piece (chip (nb j (nb j c))) (me (nb j c)) = (own c).view.set := by rw [nb_nb, me_nb, own_set]
  have hS : ((half c).view.loc (c : Thread nD τ) ↦[(half c).view.set]{sh j} given m c : sProp 𝕄) ⊢ (plan m).pay c (sent j) := .rfl
  have hR : ((own c).view.loc (nb j c : Thread nD τ) ↦[(own c).view.set]{fullShare}
      (own c).view.write (Elt F) (m ((nb j c : Thread nD τ).loc main_v1)) ((half c).view.read (Elt F) (given m c)) Finset.univ : sProp 𝕄)
      ⊢ (plan m).pay (nb j c) (came j) := by
    show _ ⊢ ((nb j c : Thread nD τ).loc main_v1 ↦[piece (chip (nb j (nb j c))) (me (nb j c))]{fullShare} gathered m (nb j c) : sProp 𝕄)
    rw [hset]
    exact Entails.of_eq (landed (nb j c : Thread nD τ) (own c).view fullShare _ (gathered m (nb j c)) _ (own_read m c j))
  have hN : (own c).view.amount ((plan m).sem (came j)) = (plan m).amt (came j) := credit_cut _ _
  have h := (plan m).wp_put defs 𝒱 bd K c (came j) (sent j) S hi (nb j c) rfl rfl rfl (src := half c) (dst := own c) (hsc := hsc) (hsrc := hsrc) (hdst := hdst) (hsem := hsem) rfl rfl hN (Q := Q) (k := k) (sh j) (given m c) (m ((nb j c : Thread nD τ).loc main_v1)) hS hR
  show iprop((plan m).records K ∗ ((c : Thread nD τ).loc main_arg0 ↦[(half c).view.set]{sh j} given m c)
    ∗ ((nb j c : Thread nD τ).loc main_v1 ↦[piece (chip (nb j (nb j c))) (me (nb j c))]{fullShare} m ((nb j c : Thread nD τ).loc main_v1))
    ∗ (plan m).owing c S ∗ (plan m).tok c (sent j) ∗ (plan m).tok c (came j)) ⊢ _
  rw [hset]
  exact h

/-- The start of passing on what came from chip `j`. -/
theorem pass (c : Dev nD) (j : Fin 3) (S : Finset In) (hi : more j ∈ S) (n : Dev nD) (hn : n = sib c)
    {hsc : (here c j).view.ref.isScScratch = false} {hsrc : (here c j).view.WordExact} {hdst : (here c j).view.WordExact}
    {hsem : DmaTarget.Typed .hbm ((plan m).sem (more j)) (.remote (Dev.tc n : Thread nD τ) (here c j) ((plan m).sem (passed j)) hsc)}
    {α : Type} {Q : α → sProp 𝕄} {k : PUnit → Prog (TpuEff nD τ sig (Elt F) Λ .tc) α} :
    iprop((plan m).records K ∗ (plan m).pay c (came j) ∗ land m (sib c) (more j)
        ∗ (plan m).owing c S ∗ (plan m).tok c (passed j) ∗ (plan m).tok c (more j))
      ⊢ iprop((((plan m).due c (passed j) ∗ (plan m).owing c (S.erase (more j))) -∗ wp frame (wpE defs 𝒱 (c : Thread nD τ) bd) Set.univ (k ⟨⟩) Q)
          -∗ wp frame (wpE defs 𝒱 (c : Thread nD τ) bd) Set.univ
            (.op (.enqueueDma (here c j) (.remote (Dev.tc n : Thread nD τ) (here c j) ((plan m).sem (passed j)) hsc) ((plan m).sem (more j)) hsrc hdst hsem) k) Q) := by
  subst hn
  have hset : piece (chip (nb j (sib c))) (me (sib (sib c))) = (here c j).view.set := by rw [chip_nb_sib, sib_sib, here_set]
  have hset' : piece (chip (nb j c)) (me c) = (here c j).view.set := (here_set c j).symm
  have hS : ((here c j).view.loc (c : Thread nD τ) ↦[(here c j).view.set]{fullShare} gathered m c : sProp 𝕄) ⊢ (plan m).pay c (passed j) := by
    show _ ⊢ ((c : Thread nD τ).loc main_v1 ↦[piece (chip (nb j c)) (me c)]{fullShare} gathered m c : sProp 𝕄)
    rw [hset']
  have hR : ((here c j).view.loc (sib c : Thread nD τ) ↦[(here c j).view.set]{fullShare}
      (here c j).view.write (Elt F) (m ((sib c : Thread nD τ).loc main_v1)) ((here c j).view.read (Elt F) (gathered m c)) Finset.univ : sProp 𝕄)
      ⊢ (plan m).pay (sib c) (more j) := by
    show _ ⊢ ((sib c : Thread nD τ).loc main_v1 ↦[piece (chip (nb j (sib c))) (me (sib (sib c)))]{fullShare} gathered m (sib c) : sProp 𝕄)
    rw [hset]
    exact Entails.of_eq (landed (sib c : Thread nD τ) (here c j).view fullShare _ (gathered m (sib c)) _ (here_read m c j))
  have hN : (here c j).view.amount ((plan m).sem (more j)) = (plan m).amt (more j) := credit_cut _ _
  have h := (plan m).wp_put defs 𝒱 bd K c (more j) (passed j) S hi (sib c) rfl rfl rfl (src := here c j) (dst := here c j) (hsc := hsc) (hsrc := hsrc) (hdst := hdst) (hsem := hsem) rfl rfl hN (Q := Q) (k := k) fullShare (gathered m c) (m ((sib c : Thread nD τ).loc main_v1)) hS hR
  show iprop((plan m).records K ∗ ((c : Thread nD τ).loc main_v1 ↦[piece (chip (nb j c)) (me c)]{fullShare} gathered m c)
    ∗ ((sib c : Thread nD τ).loc main_v1 ↦[piece (chip (nb j (sib c))) (me (sib (sib c)))]{fullShare} m ((sib c : Thread nD τ).loc main_v1))
    ∗ (plan m).owing c S ∗ (plan m).tok c (passed j) ∗ (plan m).tok c (more j)) ⊢ _
  rw [hset, hset']
  exact h

/-- The waits: for what comes from chip `j` while some of it is still to be passed on, for what the sibling passes on, for
    the sends, and for the copy here. -/
theorem take_came (c : Dev nD) (j : Fin 3) (S : Finset In) (hS : S ⊆ late) {hd hs : (here c j).view.WordExact}
    {α : Type} {Q : α → sProp 𝕄} {k : PUnit → Prog (TpuEff nD τ sig (Elt F) Λ .tc) α} :
    iprop((plan m).records K ∗ levAts Plan.L (plan m).lev ∗ (plan m).due c (came j) ∗ (plan m).owing c S ∗ (plan m).pos c (came j))
      ⊢ iprop((((plan m).owing c S ∗ (plan m).pay c (came j) ∗ semVal ((plan m).cell c (came j)) 0) -∗ wp frame (wpE defs 𝒱 (c : Thread nD τ) bd) Set.univ (k ⟨⟩) Q)
          -∗ wp frame (wpE defs 𝒱 (c : Thread nD τ) bd) Set.univ (.op (.waitDma2 (⟨3 * 2 + j.val, by omega⟩ : Fin 13) (here c j) (here c j) hd hs) k) Q) :=
  have hl : ∀ j : Fin 3, ∀ i' ∈ late, level (came j) < level i' := by decide
  (plan m).wp_take defs 𝒱 bd K c (came j) S (fun i' h => hl j i' (hS h)) (src := here c j) (dst := here c j) (hsrc := hd) (hdst := hs) rfl (credit_cut _ _) (Q := Q) (k := k)

theorem take_more (c : Dev nD) (j : Fin 3) {hd hs : (there c j).view.WordExact}
    {α : Type} {Q : α → sProp 𝕄} {k : PUnit → Prog (TpuEff nD τ sig (Elt F) Λ .tc) α} :
    iprop((plan m).records K ∗ levAts Plan.L (plan m).lev ∗ (plan m).due c (more j) ∗ (plan m).owing c ∅ ∗ (plan m).pos c (more j))
      ⊢ iprop((((plan m).owing c ∅ ∗ (plan m).pay c (more j) ∗ semVal ((plan m).cell c (more j)) 0) -∗ wp frame (wpE defs 𝒱 (c : Thread nD τ) bd) Set.univ (k ⟨⟩) Q)
          -∗ wp frame (wpE defs 𝒱 (c : Thread nD τ) bd) Set.univ (.op (.waitDma2 (⟨3 * 3 + j.val, by omega⟩ : Fin 13) (there c j) (there c j) hd hs) k) Q) :=
  (plan m).wp_take defs 𝒱 bd K c (more j) ∅ (by simp) (src := there c j) (dst := there c j) (hsrc := hd) (hdst := hs) rfl (credit_cut _ _) (Q := Q) (k := k)

theorem take_sent (c : Dev nD) (j : Fin 3) {hd : (own c).view.WordExact} {hs : (half c).view.WordExact}
    {α : Type} {Q : α → sProp 𝕄} {k : PUnit → Prog (TpuEff nD τ sig (Elt F) Λ .tc) α} :
    iprop((plan m).records K ∗ levAts Plan.L (plan m).lev ∗ (plan m).due c (sent j) ∗ (plan m).owing c ∅ ∗ (plan m).pos c (sent j))
      ⊢ iprop((((plan m).owing c ∅ ∗ (plan m).pay c (sent j) ∗ semVal ((plan m).cell c (sent j)) 0) -∗ wp frame (wpE defs 𝒱 (c : Thread nD τ) bd) Set.univ (k ⟨⟩) Q)
          -∗ wp frame (wpE defs 𝒱 (c : Thread nD τ) bd) Set.univ (.op (.waitDma2 (⟨3 * 0 + j.val, by omega⟩ : Fin 13) (own c) (half c) hd hs) k) Q) :=
  (plan m).wp_take defs 𝒱 bd K c (sent j) ∅ (by simp) (src := own c) (dst := half c) (hsrc := hd) (hdst := hs) rfl (credit_half c) (Q := Q) (k := k)

theorem take_passed (c : Dev nD) (j : Fin 3) {hd hs : (here c j).view.WordExact}
    {α : Type} {Q : α → sProp 𝕄} {k : PUnit → Prog (TpuEff nD τ sig (Elt F) Λ .tc) α} :
    iprop((plan m).records K ∗ levAts Plan.L (plan m).lev ∗ (plan m).due c (passed j) ∗ (plan m).owing c ∅ ∗ (plan m).pos c (passed j))
      ⊢ iprop((((plan m).owing c ∅ ∗ (plan m).pay c (passed j) ∗ semVal ((plan m).cell c (passed j)) 0) -∗ wp frame (wpE defs 𝒱 (c : Thread nD τ) bd) Set.univ (k ⟨⟩) Q)
          -∗ wp frame (wpE defs 𝒱 (c : Thread nD τ) bd) Set.univ (.op (.waitDma2 (⟨3 * 1 + j.val, by omega⟩ : Fin 13) (here c j) (here c j) hd hs) k) Q) :=
  (plan m).wp_take defs 𝒱 bd K c (passed j) ∅ (by simp) (src := here c j) (dst := here c j) (hsrc := hd) (hdst := hs) rfl (credit_cut _ _) (Q := Q) (k := k)

theorem take_here (c : Dev nD) {hd : (block c).view.WordExact} {hs : rows.view.WordExact}
    {α : Type} {Q : α → sProp 𝕄} {k : PUnit → Prog (TpuEff nD τ sig (Elt F) Λ .tc) α} :
    iprop((plan m).records K ∗ levAts Plan.L (plan m).lev ∗ (plan m).due c none ∗ (plan m).owing c ∅ ∗ (plan m).pos c none)
      ⊢ iprop((((plan m).owing c ∅ ∗ (plan m).pay c none ∗ semVal ((plan m).cell c none) 0) -∗ wp frame (wpE defs 𝒱 (c : Thread nD τ) bd) Set.univ (k ⟨⟩) Q)
          -∗ wp frame (wpE defs 𝒱 (c : Thread nD τ) bd) Set.univ (.op (.waitDma2 (12 : Fin 13) rows (block c) hs hd) k) Q) :=
  (plan m).wp_take defs 𝒱 bd K c none ∅ (by simp) (src := rows) (dst := block c) (hsrc := hs) (hdst := hd) rfl (credit_block c) (Q := Q) (k := k)

end

/-- What the waits give back makes the rows and the result whole. -/
theorem back (c : Dev nD) : iprop((plan m).pay c none ∗ ((plan m).pay c (sent 0) ∗ (plan m).pay c (sent 1) ∗ (plan m).pay c (sent 2))
    ∗ ((plan m).pay c (passed 0) ∗ (plan m).pay c (passed 1) ∗ (plan m).pay c (passed 2))
    ∗ ((plan m).pay c (more 0) ∗ (plan m).pay c (more 1) ∗ (plan m).pay c (more 2)) ∗ rest m c) ⊢ fin m c := by
  show iprop((((c : Thread nD τ).loc main_v1 ↦[(block c).view.set]{fullShare} gathered m c)
      ∗ ((c : Thread nD τ).loc main_arg0 ↦[rows.view.set]{fullShare.left} given m c))
    ∗ (((c : Thread nD τ).loc main_arg0 ↦[(half c).view.set]{sh 0} given m c) ∗ ((c : Thread nD τ).loc main_arg0 ↦[(half c).view.set]{sh 1} given m c)
      ∗ ((c : Thread nD τ).loc main_arg0 ↦[(half c).view.set]{sh 2} given m c))
    ∗ (((c : Thread nD τ).loc main_v1 ↦[piece (chip (nb 0 c)) (me c)]{fullShare} gathered m c) ∗ ((c : Thread nD τ).loc main_v1 ↦[piece (chip (nb 1 c)) (me c)]{fullShare} gathered m c)
      ∗ ((c : Thread nD τ).loc main_v1 ↦[piece (chip (nb 2 c)) (me c)]{fullShare} gathered m c))
    ∗ (((c : Thread nD τ).loc main_v1 ↦[piece (chip (nb 0 c)) (me (sib c))]{fullShare} gathered m c) ∗ ((c : Thread nD τ).loc main_v1 ↦[piece (chip (nb 1 c)) (me (sib c))]{fullShare} gathered m c)
      ∗ ((c : Thread nD τ).loc main_v1 ↦[piece (chip (nb 2 c)) (me (sib c))]{fullShare} gathered m c)) ∗ rest m c) ⊢ fin m c
  unfold fin
  rw [whole_dst c (gathered m c)]
  iintro ⟨⟨B, A⟩, ⟨S0, S1, S2⟩, ⟨P0, P1, P2⟩, ⟨M0, M1, M2⟩, R⟩
  isplitl [A S0 S1 S2 R]
  · iapply (repay m c)
    isplitl [A]; · iexact A
    isplitl [S0]; · iexact S0
    isplitl [S1]; · iexact S1
    isplitl [S2] <;> iassumption
  · isplitl [B]; · iexact B
    isplitl [P0]; · iexact P0
    isplitl [P1]; · iexact P1
    isplitl [P2]; · iexact P2
    isplitl [M0]; · iexact M0
    isplitl [M1] <;> iassumption

set_option maxHeartbeats 3200000 in
/-- The kernel's run on device `c`. -/
theorem body (c : Dev nD) (t : Fin cfg0.N) :
    iprop((levAts Plan.L (plan m).lev ∗ (plan m).start (land m) (keep m) c) ∗ (plan m).owing c (plan m).far)
      ⊢ wp frame (wpE (defs₀ (F := F)) Variants.none (c : Thread nD τ) none) Set.univ (bodyAt0 (F := F) t)
          (fun _ => iprop((fin m c ∗ bigSep Finset.univ fun i => semVal ((plan m).cell c i) 0) ∗ (plan m).owing c ∅)) := by
  unfold bodyAt0 Plan.start
  rw [cc0_gather_weights_eq_skeleton]
  unfold cc0_gather_weights_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  rw [show (plan m).far = far from rfl]
  simp only [over, over_far]
  iintro ⟨⟨#Hlev, ⟨%K, #HK⟩, ⟨Ph, Ps0, Ps1, Ps2, Pp0, Pp1, Pp2, Pc0, Pc1, Pc2, Pm0, Pm1, Pm2⟩, ⟨Th, Ts0, Ts1, Ts2, Tp0, Tp1, Tp2, Tc0, Tc1, Tc2, Tm0, Tm1, Tm2⟩, ⟨Dc0, Dc1, Dc2, Dm0, Dm1, Dm2⟩, ⟨Lc0, Lc1, Lc2, Lm0, Lm1, Lm2⟩, Ha, Hb⟩, HO⟩
  ihave Ha := (lend m c) $$ Ha
  icases Ha with ⟨A, S0, S1, S2, R⟩
  iapply (copy m _ _ _ K c) $$ [A Hb Th]
  · isplitr; · iexact HK
    isplitl [A]; · iexact A
    isplitl [Hb] <;> iassumption
  iintro Eh
  iapply (put m _ _ _ K c 0 (far) (by decide) _ (dev1_eq c)) $$ [S0 Lc0 HO Ts0 Tc0]
  · isplitr; · iexact HK
    isplitl [S0]; · iexact S0
    isplitl [Lc0]; · iexact Lc0
    isplitl [HO]; · iexact HO
    isplitl [Ts0] <;> iassumption
  iintro ⟨Es0, HO⟩
  iapply (put m _ _ _ K c 1 ((far).erase (came 0)) (by decide) _ (dev2_eq c)) $$ [S1 Lc1 HO Ts1 Tc1]
  · isplitr; · iexact HK
    isplitl [S1]; · iexact S1
    isplitl [Lc1]; · iexact Lc1
    isplitl [HO]; · iexact HO
    isplitl [Ts1] <;> iassumption
  iintro ⟨Es1, HO⟩
  iapply (put m _ _ _ K c 2 (((far).erase (came 0)).erase (came 1)) (by decide) _ (dev3_eq c)) $$ [S2 Lc2 HO Ts2 Tc2]
  · isplitr; · iexact HK
    isplitl [S2]; · iexact S2
    isplitl [Lc2]; · iexact Lc2
    isplitl [HO]; · iexact HO
    isplitl [Ts2] <;> iassumption
  iintro ⟨Es2, HO⟩
  rw [show (((far).erase (came 0)).erase (came 1)).erase (came 2) = late by decide]
  iapply (take_came m _ _ _ K c 0 (late) (by decide)) $$ [Dc0 HO Pc0]
  · isplitr; · iexact HK
    isplitr; · iexact Hlev
    isplitl [Dc0]; · iexact Dc0
    isplitl [HO] <;> iassumption
  iintro ⟨HO, C0, Vc0⟩
  iapply (pass m _ _ _ K c 0 (late) (by decide) _ (dev4_eq c)) $$ [C0 Lm0 HO Tp0 Tm0]
  · isplitr; · iexact HK
    isplitl [C0]; · iexact C0
    isplitl [Lm0]; · iexact Lm0
    isplitl [HO]; · iexact HO
    isplitl [Tp0] <;> iassumption
  iintro ⟨Ep0, HO⟩
  iapply (take_came m _ _ _ K c 1 ((late).erase (more 0)) (by decide)) $$ [Dc1 HO Pc1]
  · isplitr; · iexact HK
    isplitr; · iexact Hlev
    isplitl [Dc1]; · iexact Dc1
    isplitl [HO] <;> iassumption
  iintro ⟨HO, C1, Vc1⟩
  iapply (pass m _ _ _ K c 1 ((late).erase (more 0)) (by decide) _ (dev5_eq c)) $$ [C1 Lm1 HO Tp1 Tm1]
  · isplitr; · iexact HK
    isplitl [C1]; · iexact C1
    isplitl [Lm1]; · iexact Lm1
    isplitl [HO]; · iexact HO
    isplitl [Tp1] <;> iassumption
  iintro ⟨Ep1, HO⟩
  iapply (take_came m _ _ _ K c 2 (((late).erase (more 0)).erase (more 1)) (by decide)) $$ [Dc2 HO Pc2]
  · isplitr; · iexact HK
    isplitr; · iexact Hlev
    isplitl [Dc2]; · iexact Dc2
    isplitl [HO] <;> iassumption
  iintro ⟨HO, C2, Vc2⟩
  iapply (pass m _ _ _ K c 2 (((late).erase (more 0)).erase (more 1)) (by decide) _ (dev6_eq c)) $$ [C2 Lm2 HO Tp2 Tm2]
  · isplitr; · iexact HK
    isplitl [C2]; · iexact C2
    isplitl [Lm2]; · iexact Lm2
    isplitl [HO]; · iexact HO
    isplitl [Tp2] <;> iassumption
  iintro ⟨Ep2, HO⟩
  rw [show (((late).erase (more 0)).erase (more 1)).erase (more 2) = ∅ by decide]
  iapply (take_more m _ _ _ K c 0) $$ [Dm0 HO Pm0]
  · isplitr; · iexact HK
    isplitr; · iexact Hlev
    isplitl [Dm0]; · iexact Dm0
    isplitl [HO] <;> iassumption
  iintro ⟨HO, Gm0, Vm0⟩
  iapply (take_more m _ _ _ K c 1) $$ [Dm1 HO Pm1]
  · isplitr; · iexact HK
    isplitr; · iexact Hlev
    isplitl [Dm1]; · iexact Dm1
    isplitl [HO] <;> iassumption
  iintro ⟨HO, Gm1, Vm1⟩
  iapply (take_more m _ _ _ K c 2) $$ [Dm2 HO Pm2]
  · isplitr; · iexact HK
    isplitr; · iexact Hlev
    isplitl [Dm2]; · iexact Dm2
    isplitl [HO] <;> iassumption
  iintro ⟨HO, Gm2, Vm2⟩
  iapply (take_sent m _ _ _ K c 0) $$ [Es0 HO Ps0]
  · isplitr; · iexact HK
    isplitr; · iexact Hlev
    isplitl [Es0]; · iexact Es0
    isplitl [HO] <;> iassumption
  iintro ⟨HO, Gs0, Vs0⟩
  iapply (take_sent m _ _ _ K c 1) $$ [Es1 HO Ps1]
  · isplitr; · iexact HK
    isplitr; · iexact Hlev
    isplitl [Es1]; · iexact Es1
    isplitl [HO] <;> iassumption
  iintro ⟨HO, Gs1, Vs1⟩
  iapply (take_sent m _ _ _ K c 2) $$ [Es2 HO Ps2]
  · isplitr; · iexact HK
    isplitr; · iexact Hlev
    isplitl [Es2]; · iexact Es2
    isplitl [HO] <;> iassumption
  iintro ⟨HO, Gs2, Vs2⟩
  iapply (take_passed m _ _ _ K c 0) $$ [Ep0 HO Pp0]
  · isplitr; · iexact HK
    isplitr; · iexact Hlev
    isplitl [Ep0]; · iexact Ep0
    isplitl [HO] <;> iassumption
  iintro ⟨HO, Gp0, Vp0⟩
  iapply (take_passed m _ _ _ K c 1) $$ [Ep1 HO Pp1]
  · isplitr; · iexact HK
    isplitr; · iexact Hlev
    isplitl [Ep1]; · iexact Ep1
    isplitl [HO] <;> iassumption
  iintro ⟨HO, Gp1, Vp1⟩
  iapply (take_passed m _ _ _ K c 2) $$ [Ep2 HO Pp2]
  · isplitr; · iexact HK
    isplitr; · iexact Hlev
    isplitl [Ep2]; · iexact Ep2
    isplitl [HO] <;> iassumption
  iintro ⟨HO, Gp2, Vp2⟩
  iapply (take_here m _ _ _ K c) $$ [Eh HO Ph]
  · isplitr; · iexact HK
    isplitr; · iexact Hlev
    isplitl [Eh]; · iexact Eh
    isplitl [HO] <;> iassumption
  iintro ⟨HO, Gh, Vh⟩
  rw [wp_ret]
  imodintro
  isplitr [HO]
  · isplitr [Vh Vs0 Vs1 Vs2 Vp0 Vp1 Vp2 Vc0 Vc1 Vc2 Vm0 Vm1 Vm2]
    · iapply (back m c)
      isplitl [Gh]; · iexact Gh
      isplitl [Gs0 Gs1 Gs2]
      · isplitl [Gs0]; · iexact Gs0
        isplitl [Gs1] <;> iassumption
      isplitl [Gp0 Gp1 Gp2]
      · isplitl [Gp0]; · iexact Gp0
        isplitl [Gp1] <;> iassumption
      isplitr [R]
      · isplitl [Gm0]; · iexact Gm0
        isplitl [Gm1] <;> iassumption
      · iexact R
    · isplitl [Vh]; · iexact Vh
      isplitl [Vs0]; · iexact Vs0
      isplitl [Vs1]; · iexact Vs1
      isplitl [Vs2]; · iexact Vs2
      isplitl [Vp0]; · iexact Vp0
      isplitl [Vp1]; · iexact Vp1
      isplitl [Vp2]; · iexact Vp2
      isplitl [Vc0]; · iexact Vc0
      isplitl [Vc1]; · iexact Vc1
      isplitl [Vc2]; · iexact Vc2
      isplitl [Vm0]; · iexact Vm0
      isplitl [Vm1] <;> iassumption
  · iexact HO

/-! ## The program's run -/

instance noWindows (p : Fin 1) : IsEmpty (Fin (pcfgs (F := F) p).W) := by
  match p with
  | 0 => exact Fin.isEmpty

theorem all_scoped : ∀ sm : SemLoc sig, sm.isScoped .tc = true := by decide

theorem semFacts : Pipeline.OwnSemFacts (pcfgs (F := F) 0).spec (plan m).sem := ⟨fun k => all_scoped _, (plan m).sem_inj, fun _ w => w.elim0⟩

theorem run_main [∀ e, Nonempty (Elt F e)] :
    θ_run (defs (F := F)) (onTc main) ⟨m, fun _ => 0, g⟩ (fun r => (∀ c : Dev nD, r.2.mem ((c : Thread nD τ).loc main_arg0) = given m c
      ∧ r.2.mem ((c : Thread nD τ).loc main_v1) = gathered m c) ∧ r.2.sem = fun _ => 0) :=
  Plan.run_alone (plan m) pcfgs (fun _ p => (cfgs p).toPCfg_adm) (fun ⟨p, _, w, _⟩ => (noWindows (F := F) p).elim w) winFacts0.to₀ (semFacts m) noWindows rfl (fun _ => N_0) defs₀ Variants.none
    (fun c => scopedRest0_eq c) m g main (fun _ => rfl) (land m) (keep m) (fin m) (fun _ => iprop(emp)) (bufs m) (body m) all_scoped
    (fun c mem => mem.mem ((c : Thread nD τ).loc main_arg0) = given m c ∧ mem.mem ((c : Thread nD τ).loc main_v1) = gathered m c)
    (fun c s' => two_read s' _ _)

end Cert.GatherIdeal

end
-- ==== Proof.GatherValue.lean ====
/-
# What every device has to gather, read off the reference

The reference is the whole array of rows, cut by chip. Its result is read at an index here, and found to be what each
device ends up with.
-/
module

public import proofs.«01_k».proof.Proof.Gather
public import proofs.«01_k».proof.Proof.Gen.GatherReferenceIdeal.Run
public import Idealize.ShloMosaic.Lib.Pipeline.Value

@[expose] public section

set_option maxRecDepth 65536

noncomputable section

namespace Cert.GatherValue

open Idealize.ShloMosaic
open Idealize.ShloMosaic.ValueIdx
open Idealize.ShloMosaic.TcCoe
open Idealize.SL.Sem
open Cert.GatherReferenceIdeal Cert.GatherReferenceIdeal.Gen

variable {α : Type}

/-- The reference's result: the rows by chip. -/
abbrev result (x : S190464x128.Idx → α) : S4x47616x128.Idx → α :=
  shapeCast S4x47616x128 x shapeCasts_S190464x128_S4x47616x128

theorem result_apply (x : S190464x128.Idx → α) (p : Fin 4) (r : Fin 47616) (l : Fin 128) :
    result x (ix3 p r l) = x (ix2 (⟨p.val * 47616 + r.val, by omega⟩ : Fin 190464) l) := by
  refine shapeCast_apply x _ _ _ ?_
  rw [Shape.rowMajor_val_two, Shape.rowMajor_val_three]
  rfl

/-- Where a chip's rows lie: one block for each chip, along the first axis. -/
abbrev cuts : Fin 2 → List ℕ := ![[0, 1], []]
theorem tiles : Layout.TilesN GatherIdeal.S47616x128 S190464x128 (fun b => Layout.cutSize [2, 2, 2] (cuts b)) := by decide
abbrev chipAt (c : Fin 8) : (b : Fin 2) → Fin (Layout.cutSize [2, 2, 2] (cuts b)) := Layout.meshBlock [2, 2, 2] cuts c

theorem whole_axis (n r : ℕ) : 0 * n + r = r := by rw [Nat.zero_mul, Nat.zero_add]

theorem idx_arg (c : Fin 8) (r : Fin 47616) (l : Fin 128) :
    tiles.idx (chipAt c) (ix2 r l) = ix2 (⟨c.val / 2 * 47616 + r.val, by omega⟩ : Fin 190464) l := by
  have h0 : ∀ c : Fin 8, Layout.meshLin [2, 2, 2] c.val [0, 1] = c.val / 2 := by decide
  funext a
  match a with
  | ⟨0, _⟩ => exact Fin.ext ((tiles.idx_val (chipAt c) (ix2 r l) 0).trans (congrArg (fun n => n * 47616 + r.val) (h0 c)))
  | ⟨1, _⟩ => exact Fin.ext ((tiles.idx_val (chipAt c) (ix2 r l) 1).trans (whole_axis 128 l.val))

/-- The device whose rows a device ends up with is one of the chip they belong to. -/
theorem origin_chip (c : Fin 8) (p : Fin 4) (k : Fin 2) : (GatherIdeal.origin c p k).val / 2 = p.val := by revert c p k; decide

variable {F : FTy → Type} [FloatOps F]

/-- From an array cut among the chips, every device ends up with the reference's result. -/
theorem gathered_whole (m : (ℓ : Loc GatherIdeal.nD GatherIdeal.τ GatherIdeal.sig) → Buf (Elt F) ℓ) (x : S190464x128.Idx → Elt F .bf16)
    (h : ∀ c, GatherIdeal.given m c = Layout.blockN GatherIdeal.S47616x128 S190464x128 (chipAt c) x tiles) (c : Dev GatherIdeal.nD) :
    GatherIdeal.gathered m c = result x := by
  have one (p : Fin 4) (r : Fin 47616) (l : Fin 128) : GatherIdeal.gathered m c (ix3 p r l : GatherIdeal.S4x47616x128.Idx) = result x (ix3 p r l) := by
    have h1 := GatherIdeal.gathered_apply m c p r l
    have h2 := congrFun (h (GatherIdeal.origin c p (GatherIdeal.halfOf r))) (ix2 r l)
    have h3 := Layout.blockN_apply (chipAt (GatherIdeal.origin c p (GatherIdeal.halfOf r))) x tiles (ix2 r l)
    have h4 := congrArg x (idx_arg (GatherIdeal.origin c p (GatherIdeal.halfOf r)) r l)
    have h5 : (ix2 (⟨(GatherIdeal.origin c p (GatherIdeal.halfOf r)).val / 2 * 47616 + r.val, by
        have : (GatherIdeal.origin c p (GatherIdeal.halfOf r)).val / 2 = p.val := origin_chip c p _
        omega⟩ : Fin 190464) l : S190464x128.Idx) = ix2 (⟨p.val * 47616 + r.val, by omega⟩ : Fin 190464) l :=
      congrArg (fun n : Fin 190464 => (ix2 n l : S190464x128.Idx)) (Fin.ext (congrArg (fun n => n * 47616 + r.val) (origin_chip c p _)))
    have h6 := (result_apply x p r l).symm
    exact h1.trans (h2.trans (h3.trans (h4.trans ((congrArg x h5).trans h6))))
  refine funext fun (i : GatherIdeal.S4x47616x128.Idx) => ?_
  rw [eq_ix3 i]
  exact one (i 0) (i 1) (i 2)

end Cert.GatherValue

end
-- ==== Proof.Swap.lean ====
/-
# The two cores of a chip exchange halves

The kernel `rs_swap_halves`: for each of the four chips `q`, a core sends its sibling the half of block `q` that the
sibling sums. Run once, over any float values: the sibling's halves arrive, whole and unchanged.
-/
module

public import proofs.«01_k».proof.Proof.Pieces
public import proofs.«01_k».proof.Proof.Gen.SwapIdeal.Skeleton
public import proofs.«01_k».proof.Proof.Gen.SwapIdeal.Launch
public import proofs.«01_k».proof.Proof.Gen.SwapIdeal.Points
public import Idealize.ShloMosaic.Lib.ValueLayout

@[expose] public section

set_option Elab.async false
set_option maxRecDepth 65536

noncomputable section

namespace Cert.SwapIdeal

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (pinD)
open Cert.Exchange Cert.SwapIdeal.Gen

variable {F : FTy → Type} [FloatOps F]

local notation "𝕄" => MT nD τ sig Unit (Elt F) ℕ (UU sig nD τ) ℕ

/-! ## Devices and pieces -/

/-- The other core of the chip. -/
def sib (c : Dev nD) : Dev nD := ⟨(4 * (c.val / 4) + 2 * ((c.val / 2) % 2) + 1) - c.val % 2, by revert c; decide⟩

theorem sib_sib (c : Dev nD) : sib (sib c) = c := by revert c; decide
theorem sib_mod (c : Dev nD) : (sib c).val % 2 = 1 - c.val % 2 := by revert c; decide

theorem dev1_eq (c : Dev nD) : (⟨k0_dev1 c, k0_dev1_lt c⟩ : Dev nD) = sib c := by revert c; decide +kernel
theorem dev2_eq (c : Dev nD) : (⟨k0_dev2 c, k0_dev2_lt c⟩ : Dev nD) = sib c := by revert c; decide +kernel
theorem dev3_eq (c : Dev nD) : (⟨k0_dev3 c, k0_dev3_lt c⟩ : Dev nD) = sib c := by revert c; decide +kernel
theorem dev4_eq (c : Dev nD) : (⟨k0_dev4 c, k0_dev4_lt c⟩ : Dev nD) = sib c := by revert c; decide +kernel

/-- Where the half of block `q` that a core sends begins. -/
abbrev off (c : Dev nD) : Fin 4 → Fin 4 → ℕ
  | 0 => k0_off1 c
  | 1 => k0_off2 c
  | 2 => k0_off3 c
  | 3 => k0_off4 c

theorem off_eq (c : Dev nD) (q : Fin 4) : off c q = ![q.val, 1 - c.val % 2, 0, 0] := by
  match q with
  | 0 => exact k0_off1_eq c
  | 1 => exact k0_off2_eq c
  | 2 => exact k0_off3_eq c
  | 3 => exact k0_off4_eq c

theorem off_inb (c : Dev nD) (q : Fin 4) : ∀ a, off c q a + S1x1x23760x128.size a ≤ S4x2x23760x128.size a := by
  match q with
  | 0 => exact k0_off1_inb c
  | 1 => exact k0_off2_inb c
  | 2 => exact k0_off3_inb c
  | 3 => exact k0_off4_inb c

theorem place_inb (q : Fin 4) : ∀ a, (![q.val, 0, 0] : Fin 3 → ℕ) a + S1x23760x128.size a ≤ S4x23760x128.size a := by
  revert q; decide

/-- The half of block `q` a core sends. -/
abbrev src (c : Dev nD) (q : Fin 4) : Memref sig .tc .hbm S23760x128 .bf16 :=
  ((Memref.whole main_arg0).slice (Rect.unit (s := S4x2x23760x128) (off c q) S1x1x23760x128.size (off_inb c q)) (fun _ => rfl)).squeeze S23760x128 squeezes_S1x1x23760x128_S23760x128

/-- The place of block `q` in the result. -/
abbrev dst (q : Fin 4) : Memref sig .tc .hbm S23760x128 .bf16 :=
  ((Memref.whole main_v1).slice (Rect.unit (s := S4x23760x128) ![q.val, 0, 0] S1x23760x128.size (place_inb q)) (fun _ => rfl)).squeeze S23760x128 squeezes_S1x23760x128_S23760x128

/-- The half of a block a core sends: the other core's. -/
def other (c : Dev nD) : Fin 2 := ⟨1 - c.val % 2, by omega⟩

theorem src_emb (c : Dev nD) (q : Fin 4) (r : Fin 23760) (l : Fin 128) :
    (src c q).view.emb (ix2 r l) = (ix4 q (other c) r l : S4x2x23760x128.Idx) :=
  emb_matrix₂ (off c q) (off_inb c q) (Shape.Squeezes.numel_eq squeezes_S1x1x23760x128_S23760x128) q (other c)
    (by rw [off_eq]; rfl) (by rw [off_eq]; rfl) (by rw [off_eq]; rfl) (by rw [off_eq]; rfl) r l

theorem dst_emb (q : Fin 4) (r : Fin 23760) (l : Fin 128) : (dst q).view.emb (ix2 r l) = (ix3 q r l : S4x23760x128.Idx) :=
  emb_matrix _ (place_inb q) (Shape.Squeezes.numel_eq squeezes_S1x23760x128_S23760x128) q rfl rfl rfl r l

theorem mem_src {c : Dev nD} {q : Fin 4} {i : S4x2x23760x128.Idx} (h : i ∈ (src c q).view.set) : i 0 = q := by
  obtain ⟨x, -, rfl⟩ := Finset.mem_map.mp h
  rw [eq_ix2 x]
  exact congrFun (src_emb c q (x 0) (x 1)) 0

theorem mem_dst (q : Fin 4) (i : S4x23760x128.Idx) : i ∈ (dst q).view.set ↔ i 0 = q := by
  constructor
  · intro h
    obtain ⟨x, -, rfl⟩ := Finset.mem_map.mp h
    rw [eq_ix2 x]
    exact congrFun (dst_emb q (x 0) (x 1)) 0
  · rintro rfl
    exact Finset.mem_map.mpr ⟨ix2 (i 1) (i 2), Finset.mem_univ _, (dst_emb (i 0) (i 1) (i 2)).trans (eq_ix3 i).symm⟩

/-! ## Contents -/

variable (m : (ℓ : Loc nD τ sig) → Buf (Elt F) ℓ) (g : Dev nD → PrngReg)

/-- A device's array at the start, and what it ends up with: the halves its sibling sends. -/
abbrev given (c : Dev nD) : Buf (Elt F) ((c : Thread nD τ).loc main_arg0) := m ((c : Thread nD τ).loc main_arg0)
def swapped (c : Dev nD) : Buf (Elt F) ((c : Thread nD τ).loc main_v1) :=
  fun i => given m (sib c) (ix4 (i 0) (other (sib c)) (i 1) (i 2) : S4x2x23760x128.Idx)

theorem swapped_read (c : Dev nD) (q : Fin 4) :
    (dst q).view.read (Elt F) (swapped m (sib c)) = (src c q).view.read (Elt F) (given m c) := by
  funext x
  have e : swapped m (sib c) (ix3 q (x 0) (x 1) : S4x23760x128.Idx) = given m c (ix4 q (other c) (x 0) (x 1) : S4x2x23760x128.Idx) := by
    unfold swapped
    rw [sib_sib]
    rfl
  rw [eq_ix2 x]
  exact (congrArg (swapped m (sib c)) (dst_emb q (x 0) (x 1))).trans (e.trans (congrArg (given m c) (src_emb c q (x 0) (x 1))).symm)

/-! ## The plan: a send and a receive semaphore for each block -/

abbrev In := Fin 4 ⊕ Fin 4

/-- The semaphores the sibling credits. -/
def far : Finset In := {.inr 0, .inr 1, .inr 2, .inr 3}

/-- What the copy of a half counts. -/
def credit : ℕ := (dst 0).view.dmaCredit
theorem credit_dst (q : Fin 4) : (dst q).view.dmaCredit = credit := rfl
theorem credit_src (c : Dev nD) (q : Fin 4) : (src c q).view.dmaCredit = credit := rfl

/-- The elements a semaphore's wait gives back. -/
abbrev got (c : Dev nD) : In → sProp 𝕄
  | .inl q => (c : Thread nD τ).loc main_arg0 ↦[(src c q).view.set]{fullShare} given m c
  | .inr q => (c : Thread nD τ).loc main_v1 ↦[(dst q).view.set]{fullShare} swapped m c

def plan : Plan nD τ sig (Elt F) In where
  sem := fun
    | .inl q => .dma (⟨q.val, by omega⟩ : Fin 8)
    | .inr q => .dma (⟨4 + q.val, by omega⟩ : Fin 8)
  sem_inj := by decide
  far := far
  peer := fun
    | .inl _ => id
    | .inr _ => sib
  peer_peer := fun i c => by cases i; exacts [rfl, sib_sib c]
  amt := fun _ => credit
  amt_pos := fun _ => View.dmaCredit_pos (dst 0).view (by decide)
  lvl := fun
    | .inl _ => 0
    | .inr _ => 1
  pay := got m
  pay_storable := fun c i => by cases i <;> infer_instance

/-- What a device holds at the start: the pieces of its result, which its sibling writes, and its own array. -/
abbrev land (c : Dev nD) : In → sProp 𝕄
  | .inl _ => iprop(emp)
  | .inr q => (c : Thread nD τ).loc main_v1 ↦[(dst q).view.set]{fullShare} m ((c : Thread nD τ).loc main_v1)
abbrev keep (c : Dev nD) : sProp 𝕄 := (c : Thread nD τ).loc main_arg0 ↦{fullShare} given m c

/-- What it holds at the end. -/
abbrev fin (c : Dev nD) : sProp 𝕄 :=
  iprop(((c : Thread nD τ).loc main_arg0 ↦{fullShare} given m c) ∗ ((c : Thread nD τ).loc main_v1 ↦{fullShare} swapped m c))

theorem bufs (c : Dev nD) : unscopedBufs c (fun b => m ((c : Thread nD τ).loc b))
    ⊢ iprop((bigSep (plan m).far fun i => land m c i) ∗ keep m c ∗ emp) := by
  rw [show (unscopedBufs c (fun b => m ((c : Thread nD τ).loc b)) : sProp 𝕄)
      = iprop(((c : Thread nD τ).loc main_arg0 ↦{fullShare} given m c) ∗ ((c : Thread nD τ).loc main_v1 ↦{fullShare} m ((c : Thread nD τ).loc main_v1))) from
    bigSep_eq_bigSepL_of_eq [main_arg0, main_v1] (by decide) (by decide) _,
    pieces fullShare (m ((c : Thread nD τ).loc main_v1)) (fun q => (dst q).view.set) (fun i => i 0) mem_dst,
    show (plan m).far = far from rfl,
    bigSep_eq_bigSepL_of_eq [.inr 0, .inr 1, .inr 2, .inr 3] (show far = _ by decide) (by decide) (fun i => land m c i),
    bigSep_univ_eq_bigSepL [0, 1, 2, 3] (by decide) (by decide)]
  iintro ⟨Ha, Hv⟩
  isplitl [Hv]; · iexact Hv
  isplitl [Ha]; · iexact Ha
  iempintro

section

variable {Λ : Labels} (defs : Defs nD τ sig (Elt F) Λ) (𝒱 : Variants) (bd : Option 𝒱.V) (K : Dev nD × In → ℕ)

/-- The start of block `q`'s send. -/
theorem put (c : Dev nD) (q : Fin 4) (S : Finset In) (hi : .inr q ∈ S) (n : Dev nD) (hn : n = sib c)
    {hsc : (dst q).view.ref.isScScratch = false} {hsrc : (src c q).view.WordExact} {hdst : (dst q).view.WordExact}
    {hsem : DmaTarget.Typed .hbm ((plan m).sem (.inr q)) (.remote (Dev.tc n : Thread nD τ) (dst q) ((plan m).sem (.inl q)) hsc)}
    {α : Type} {Q : α → sProp 𝕄} {k : PUnit → Prog (TpuEff nD τ sig (Elt F) Λ .tc) α} :
    iprop((plan m).records K ∗ ((c : Thread nD τ).loc main_arg0 ↦[(src c q).view.set]{fullShare} given m c) ∗ land m (sib c) (.inr q)
        ∗ (plan m).owing c S ∗ (plan m).tok c (.inl q) ∗ (plan m).tok c (.inr q))
      ⊢ iprop((((plan m).due c (.inl q) ∗ (plan m).owing c (S.erase (.inr q))) -∗ wp frame (wpE defs 𝒱 (c : Thread nD τ) bd) Set.univ (k ⟨⟩) Q)
          -∗ wp frame (wpE defs 𝒱 (c : Thread nD τ) bd) Set.univ
            (.op (.enqueueDma (src c q) (.remote (Dev.tc n : Thread nD τ) (dst q) ((plan m).sem (.inl q)) hsc) ((plan m).sem (.inr q)) hsrc hdst hsem) k) Q) := by
  subst hn
  have hS : ((src c q).view.loc (c : Thread nD τ) ↦[(src c q).view.set]{fullShare} given m c : sProp 𝕄) ⊢ (plan m).pay c (.inl q) := .rfl
  have hR : ((dst q).view.loc (sib c : Thread nD τ) ↦[(dst q).view.set]{fullShare}
      (dst q).view.write (Elt F) (m ((sib c : Thread nD τ).loc main_v1)) ((src c q).view.read (Elt F) (given m c)) Finset.univ : sProp 𝕄)
      ⊢ (plan m).pay (sib c) (.inr q) := Entails.of_eq (landed (sib c : Thread nD τ) (dst q).view fullShare _ (swapped m (sib c)) _ (swapped_read m c q))
  have hN : (dst q).view.amount ((plan m).sem (.inr q)) = (plan m).amt (.inr q) := credit_dst q
  have := (plan m).wp_put defs 𝒱 bd K c (.inr q) (.inl q) S hi (sib c) rfl rfl rfl (src := src c q) (dst := dst q) (hsc := hsc) (hsrc := hsrc) (hdst := hdst) (hsem := hsem) rfl rfl hN (Q := Q) (k := k) fullShare (given m c) (m ((sib c : Thread nD τ).loc main_v1)) hS hR
  exact this

/-- The wait for block `q`'s send, and for the sibling's. -/
theorem take_sent (c : Dev nD) (q : Fin 4) {hd : (dst q).view.WordExact} {hs : (src c q).view.WordExact}
    {α : Type} {Q : α → sProp 𝕄} {k : PUnit → Prog (TpuEff nD τ sig (Elt F) Λ .tc) α} :
    iprop((plan m).records K ∗ levAts Plan.L (plan m).lev ∗ (plan m).due c (.inl q) ∗ (plan m).owing c ∅ ∗ (plan m).pos c (.inl q))
      ⊢ iprop((((plan m).owing c ∅ ∗ (plan m).pay c (.inl q) ∗ semVal ((plan m).cell c (.inl q)) 0) -∗ wp frame (wpE defs 𝒱 (c : Thread nD τ) bd) Set.univ (k ⟨⟩) Q)
          -∗ wp frame (wpE defs 𝒱 (c : Thread nD τ) bd) Set.univ (.op (.waitDma2 (⟨q.val, by omega⟩ : Fin 8) (dst q) (src c q) hd hs) k) Q) :=
  (plan m).wp_take defs 𝒱 bd K c (.inl q) ∅ (by simp) (src := dst q) (dst := src c q) (hsrc := hd) (hdst := hs) rfl (credit_src c q) (Q := Q) (k := k)

theorem take_got (c : Dev nD) (q : Fin 4) {hd : (dst q).view.WordExact} {hs : (src c q).view.WordExact}
    {α : Type} {Q : α → sProp 𝕄} {k : PUnit → Prog (TpuEff nD τ sig (Elt F) Λ .tc) α} :
    iprop((plan m).records K ∗ levAts Plan.L (plan m).lev ∗ (plan m).due c (.inr q) ∗ (plan m).owing c ∅ ∗ (plan m).pos c (.inr q))
      ⊢ iprop((((plan m).owing c ∅ ∗ (plan m).pay c (.inr q) ∗ semVal ((plan m).cell c (.inr q)) 0) -∗ wp frame (wpE defs 𝒱 (c : Thread nD τ) bd) Set.univ (k ⟨⟩) Q)
          -∗ wp frame (wpE defs 𝒱 (c : Thread nD τ) bd) Set.univ (.op (.waitDma2 (⟨4 + q.val, by omega⟩ : Fin 8) (src c q) (dst q) hs hd) k) Q) :=
  (plan m).wp_take defs 𝒱 bd K c (.inr q) ∅ (by simp) (src := src c q) (dst := dst q) (hsrc := hs) (hdst := hd) rfl (credit_dst q) (Q := Q) (k := k)

end

theorem src_disjoint (c : Dev nD) (q q' : Fin 4) (h : q ≠ q') : Disjoint (src c q).view.set (src c q').view.set :=
  Finset.disjoint_left.mpr fun i hi hi' => h ((mem_src hi).symm.trans (mem_src hi'))

/-- A device's array as the four pieces it sends and the rest. -/
theorem whole_src (c : Dev nD) : keep m c ⊣⊢ iprop(
    (((c : Thread nD τ).loc main_arg0 ↦[(src c 0).view.set]{fullShare} given m c) ∗ ((c : Thread nD τ).loc main_arg0 ↦[(src c 1).view.set]{fullShare} given m c)
      ∗ ((c : Thread nD τ).loc main_arg0 ↦[(src c 2).view.set]{fullShare} given m c) ∗ ((c : Thread nD τ).loc main_arg0 ↦[(src c 3).view.set]{fullShare} given m c))
    ∗ ((c : Thread nD τ).loc main_arg0 ↦[Finset.univ \ Finset.univ.biUnion fun q => (src c q).view.set]{fullShare} given m c)) := by
  have h := carve (Val := Elt F) (ℓ := (c : Thread nD τ).loc main_arg0) fullShare (given m c) (fun q => (src c q).view.set) (src_disjoint c)
  rw [bigSep_univ_eq_bigSepL [0, 1, 2, 3] (by decide) (by decide)] at h
  exact h

/-- The four pieces of the result make it whole. -/
theorem whole_dst (c : Dev nD) : iprop((plan m).pay c (.inr 0) ∗ (plan m).pay c (.inr 1) ∗ (plan m).pay c (.inr 2) ∗ (plan m).pay c (.inr 3))
    ⊢ ((c : Thread nD τ).loc main_v1 ↦{fullShare} swapped m c : sProp 𝕄) := by
  rw [pieces fullShare (swapped m c) (fun q => (dst q).view.set) (fun i => i 0) mem_dst, bigSep_univ_eq_bigSepL [0, 1, 2, 3] (by decide) (by decide)]
  exact .rfl

theorem whole_src_back (c : Dev nD) : iprop(
    ((plan m).pay c (.inl 0) ∗ (plan m).pay c (.inl 1) ∗ (plan m).pay c (.inl 2) ∗ (plan m).pay c (.inl 3))
    ∗ ((c : Thread nD τ).loc main_arg0 ↦[Finset.univ \ Finset.univ.biUnion fun q => (src c q).view.set]{fullShare} given m c)) ⊢ keep m c :=
  (whole_src m c).2

/-- A product over the semaphores, and over those the sibling credits. -/
theorem over (Φ : In → sProp 𝕄) : bigSep Finset.univ Φ
    = iprop(Φ (.inl 0) ∗ Φ (.inl 1) ∗ Φ (.inl 2) ∗ Φ (.inl 3) ∗ Φ (.inr 0) ∗ Φ (.inr 1) ∗ Φ (.inr 2) ∗ Φ (.inr 3)) :=
  bigSep_univ_eq_bigSepL (I := In) [.inl 0, .inl 1, .inl 2, .inl 3, .inr 0, .inr 1, .inr 2, .inr 3] (by decide) (by decide) Φ
theorem over_far (Φ : In → sProp 𝕄) : bigSep far Φ = iprop(Φ (.inr 0) ∗ Φ (.inr 1) ∗ Φ (.inr 2) ∗ Φ (.inr 3)) :=
  bigSep_eq_bigSepL_of_eq [.inr 0, .inr 1, .inr 2, .inr 3] (by decide) (by decide) Φ

set_option maxHeartbeats 1600000 in
/-- The kernel's run on device `c`. -/
theorem body (c : Dev nD) (t : Fin cfg0.N) :
    iprop((levAts Plan.L (plan m).lev ∗ (plan m).start (land m) (keep m) c) ∗ (plan m).owing c (plan m).far)
      ⊢ wp frame (wpE (defs₀ (F := F)) Variants.none (c : Thread nD τ) none) Set.univ (bodyAt0 (F := F) t)
          (fun _ => iprop((fin m c ∗ bigSep Finset.univ fun i => semVal ((plan m).cell c i) 0) ∗ (plan m).owing c ∅)) := by
  unfold bodyAt0 Plan.start
  rw [cc0_rs_swap_halves_eq_skeleton]
  unfold cc0_rs_swap_halves_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  rw [show (plan m).far = far from rfl]
  simp only [over, over_far]
  iintro ⟨⟨#Hlev, ⟨%K, #HK⟩, ⟨Ps0, Ps1, Ps2, Ps3, Pr0, Pr1, Pr2, Pr3⟩, ⟨Ts0, Ts1, Ts2, Ts3, Tr0, Tr1, Tr2, Tr3⟩, ⟨D0, D1, D2, D3⟩, ⟨L0, L1, L2, L3⟩, Ha⟩, HO⟩
  ihave Ha := (whole_src m c).1 $$ Ha
  icases Ha with ⟨⟨S0, S1, S2, S3⟩, Hrest⟩
  iapply (put m _ _ _ K c 0 (far) (by decide) _ (dev1_eq c)) $$ [S0 L0 HO Ts0 Tr0]
  · isplitr; · iexact HK
    isplitl [S0]; · iexact S0
    isplitl [L0]; · iexact L0
    isplitl [HO]; · iexact HO
    isplitl [Ts0] <;> iassumption
  iintro ⟨E0, HO⟩
  iapply (put m _ _ _ K c 1 (far.erase (.inr 0)) (by decide) _ (dev2_eq c)) $$ [S1 L1 HO Ts1 Tr1]
  · isplitr; · iexact HK
    isplitl [S1]; · iexact S1
    isplitl [L1]; · iexact L1
    isplitl [HO]; · iexact HO
    isplitl [Ts1] <;> iassumption
  iintro ⟨E1, HO⟩
  iapply (put m _ _ _ K c 2 ((far.erase (.inr 0)).erase (.inr 1)) (by decide) _ (dev3_eq c)) $$ [S2 L2 HO Ts2 Tr2]
  · isplitr; · iexact HK
    isplitl [S2]; · iexact S2
    isplitl [L2]; · iexact L2
    isplitl [HO]; · iexact HO
    isplitl [Ts2] <;> iassumption
  iintro ⟨E2, HO⟩
  iapply (put m _ _ _ K c 3 (((far.erase (.inr 0)).erase (.inr 1)).erase (.inr 2)) (by decide) _ (dev4_eq c)) $$ [S3 L3 HO Ts3 Tr3]
  · isplitr; · iexact HK
    isplitl [S3]; · iexact S3
    isplitl [L3]; · iexact L3
    isplitl [HO]; · iexact HO
    isplitl [Ts3] <;> iassumption
  iintro ⟨E3, HO⟩
  rw [show (((far.erase (.inr 0)).erase (.inr 1)).erase (.inr 2)).erase (.inr 3) = ∅ by decide]
  iapply (take_sent m _ _ _ K c 0) $$ [E0 HO Ps0]
  · isplitr; · iexact HK
    isplitr; · iexact Hlev
    isplitl [E0]; · iexact E0
    isplitl [HO] <;> iassumption
  iintro ⟨HO, S0, Vs0⟩
  iapply (take_got m _ _ _ K c 0) $$ [D0 HO Pr0]
  · isplitr; · iexact HK
    isplitr; · iexact Hlev
    isplitl [D0]; · iexact D0
    isplitl [HO] <;> iassumption
  iintro ⟨HO, N0, Vr0⟩
  iapply (take_sent m _ _ _ K c 1) $$ [E1 HO Ps1]
  · isplitr; · iexact HK
    isplitr; · iexact Hlev
    isplitl [E1]; · iexact E1
    isplitl [HO] <;> iassumption
  iintro ⟨HO, S1, Vs1⟩
  iapply (take_got m _ _ _ K c 1) $$ [D1 HO Pr1]
  · isplitr; · iexact HK
    isplitr; · iexact Hlev
    isplitl [D1]; · iexact D1
    isplitl [HO] <;> iassumption
  iintro ⟨HO, N1, Vr1⟩
  iapply (take_sent m _ _ _ K c 2) $$ [E2 HO Ps2]
  · isplitr; · iexact HK
    isplitr; · iexact Hlev
    isplitl [E2]; · iexact E2
    isplitl [HO] <;> iassumption
  iintro ⟨HO, S2, Vs2⟩
  iapply (take_got m _ _ _ K c 2) $$ [D2 HO Pr2]
  · isplitr; · iexact HK
    isplitr; · iexact Hlev
    isplitl [D2]; · iexact D2
    isplitl [HO] <;> iassumption
  iintro ⟨HO, N2, Vr2⟩
  iapply (take_sent m _ _ _ K c 3) $$ [E3 HO Ps3]
  · isplitr; · iexact HK
    isplitr; · iexact Hlev
    isplitl [E3]; · iexact E3
    isplitl [HO] <;> iassumption
  iintro ⟨HO, S3, Vs3⟩
  iapply (take_got m _ _ _ K c 3) $$ [D3 HO Pr3]
  · isplitr; · iexact HK
    isplitr; · iexact Hlev
    isplitl [D3]; · iexact D3
    isplitl [HO] <;> iassumption
  iintro ⟨HO, N3, Vr3⟩
  rw [wp_ret]
  imodintro
  isplitr [HO]
  · isplitr [Vs0 Vs1 Vs2 Vs3 Vr0 Vr1 Vr2 Vr3]
    · isplitr [N0 N1 N2 N3]
      · iapply (whole_src_back m c)
        isplitr [Hrest]
        · isplitl [S0]; · iexact S0
          isplitl [S1]; · iexact S1
          isplitl [S2] <;> iassumption
        · iexact Hrest
      · iapply (whole_dst m c)
        isplitl [N0]; · iexact N0
        isplitl [N1]; · iexact N1
        isplitl [N2] <;> iassumption
    · isplitl [Vs0]; · iexact Vs0
      isplitl [Vs1]; · iexact Vs1
      isplitl [Vs2]; · iexact Vs2
      isplitl [Vs3]; · iexact Vs3
      isplitl [Vr0]; · iexact Vr0
      isplitl [Vr1]; · iexact Vr1
      isplitl [Vr2] <;> iassumption
  · iexact HO

/-! ## The program's run -/

instance noWindows (p : Fin 1) : IsEmpty (Fin (pcfgs (F := F) p).W) := by
  match p with
  | 0 => exact Fin.isEmpty

theorem all_scoped : ∀ sm : SemLoc sig, sm.isScoped .tc = true := by decide

theorem semFacts : Pipeline.OwnSemFacts (pcfgs (F := F) 0).spec (plan m).sem := ⟨fun k => all_scoped _, (plan m).sem_inj, fun _ w => w.elim0⟩

theorem run_main [∀ e, Nonempty (Elt F e)] :
    θ_run (defs (F := F)) (onTc main) ⟨m, fun _ => 0, g⟩ (fun r => (∀ c : Dev nD, r.2.mem ((c : Thread nD τ).loc main_arg0) = given m c
      ∧ r.2.mem ((c : Thread nD τ).loc main_v1) = swapped m c) ∧ r.2.sem = fun _ => 0) :=
  Plan.run_alone (plan m) pcfgs (fun _ p => (cfgs p).toPCfg_adm) (fun ⟨p, _, w, _⟩ => (noWindows (F := F) p).elim w) winFacts0.to₀ (semFacts m) noWindows rfl (fun _ => N_0) defs₀ Variants.none
    (fun c => scopedRest0_eq c) m g main (fun _ => rfl) (land m) (keep m) (fin m) (fun _ => iprop(emp)) (bufs m) (body m) all_scoped
    (fun c mem => mem.mem ((c : Thread nD τ).loc main_arg0) = given m c ∧ mem.mem ((c : Thread nD τ).loc main_v1) = swapped m c)
    (fun c s' => two_read s' _ _)

end Cert.SwapIdeal

end
-- ==== Proof.SwapValue.lean ====
/-
# What the exchange between the two cores has to produce, read off the reference

The reference cuts the whole array by chip and core, and gives each core the halves of its sibling. Here its result is
read at an index, and block `c` of it is found to be what device `c` ends up with.
-/
module

public import proofs.«01_k».proof.Proof.Swap
public import proofs.«01_k».proof.Proof.Gen.SwapReferenceIdeal.Run
public import Idealize.ShloMosaic.Lib.Pipeline.Value
public import Idealize.ShloMosaic.Lib.ValueIdxRank6

@[expose] public section

set_option maxRecDepth 65536

noncomputable section

namespace Cert.SwapValue

open Idealize.ShloMosaic
open Idealize.ShloMosaic.ValueIdx
open Idealize.ShloMosaic.TcCoe
open Idealize.SL.Sem
open Cert.SwapReferenceIdeal Cert.SwapReferenceIdeal.Gen

variable {α : Type}

/-- The whole array by chip, core, block, half. -/
abbrev cut (x : S32x2x23760x128.Idx → α) : S4x2x4x2x23760x128.Idx → α :=
  shapeCast S4x2x4x2x23760x128 x shapeCasts_S32x2x23760x128_S4x2x4x2x23760x128

theorem cut_apply (x : S32x2x23760x128.Idx → α) (p : Fin 4) (k : Fin 2) (q : Fin 4) (h : Fin 2) (r : Fin 23760) (l : Fin 128) :
    cut x (ix6 p k q h r l) = x (ix4 (⟨(2 * p.val + k.val) * 4 + q.val, by omega⟩ : Fin 32) h r l) := by
  refine shapeCast_apply x _ _ _ ?_
  rw [Shape.rowMajor_val_four, Shape.rowMajor_val_succ, Shape.rowMajor_val_five]
  have e : (⟨5, fun a => ![4, 2, 4, 2, 23760, 128] a.succ⟩ : Shape).numel = 2 * (4 * (2 * (23760 * 128))) := by decide
  rw [e]
  show ((((2 * p.val + k.val) * 4 + q.val) * 2 + h.val) * 23760 + r.val) * 128 + l.val
    = p.val * (2 * (4 * (2 * (23760 * 128)))) + ((((k.val * 4 + q.val) * 2 + h.val) * 23760 + r.val) * 128 + l.val)
  omega

/-- One core's halves, by chip and block. -/
abbrev halves₀ (x : S32x2x23760x128.Idx → α) : S4x4x23760x128.Idx → α :=
  shapeCast _ (extractStridedSlice S4x1x4x1x23760x128 ![0, 1, 0, 0, 0, 0] (cut x) slices_S4x2x4x2x23760x128_S4x1x4x1x23760x128_0_1_0_0_0_0) shapeCasts_S4x1x4x1x23760x128_S4x4x23760x128
abbrev halves₁ (x : S32x2x23760x128.Idx → α) : S4x4x23760x128.Idx → α :=
  shapeCast _ (extractStridedSlice S4x1x4x1x23760x128 ![0, 0, 0, 1, 0, 0] (cut x) slices_S4x2x4x2x23760x128_S4x1x4x1x23760x128_0_0_0_1_0_0) shapeCasts_S4x1x4x1x23760x128_S4x4x23760x128

theorem squeeze_pos (p q : Fin 4) (r : Fin 23760) (l : Fin 128) :
    (S4x1x4x1x23760x128.rowMajor (ix6 p 0 q 0 r l)).val = (S4x4x23760x128.rowMajor (ix4 p q r l)).val := by
  rw [Shape.rowMajor_val_four, Shape.rowMajor_val_succ, Shape.rowMajor_val_five]
  have e : (⟨5, fun a => ![4, 1, 4, 1, 23760, 128] a.succ⟩ : Shape).numel = 4 * (23760 * 128) := by decide
  rw [e]
  show p.val * (4 * (23760 * 128)) + ((((0 * 4 + q.val) * 1 + 0) * 23760 + r.val) * 128 + l.val)
    = ((p.val * 4 + q.val) * 23760 + r.val) * 128 + l.val
  omega

theorem halves₀_apply (x : S32x2x23760x128.Idx → α) (p q : Fin 4) (r : Fin 23760) (l : Fin 128) :
    halves₀ x (ix4 p q r l) = x (ix4 (⟨(2 * p.val + 1) * 4 + q.val, by omega⟩ : Fin 32) (0 : Fin 2) r l) := by
  refine (shapeCast_apply _ _ _ (ix6 p 0 q 0 r l) (squeeze_pos p q r l)).trans ?_
  refine (extractStridedSlice_apply _ _ _ _ (ix6 p 1 q 0 r l) ?_).trans (cut_apply x p 1 q 0 r l)
  intro a
  match a with
  | ⟨0, _⟩ => exact (Nat.zero_add _).symm
  | ⟨1, _⟩ => rfl
  | ⟨2, _⟩ => exact (Nat.zero_add _).symm
  | ⟨3, _⟩ => rfl
  | ⟨4, _⟩ => exact (Nat.zero_add _).symm
  | ⟨5, _⟩ => exact (Nat.zero_add _).symm

theorem halves₁_apply (x : S32x2x23760x128.Idx → α) (p q : Fin 4) (r : Fin 23760) (l : Fin 128) :
    halves₁ x (ix4 p q r l) = x (ix4 (⟨2 * p.val * 4 + q.val, by omega⟩ : Fin 32) (1 : Fin 2) r l) := by
  refine (shapeCast_apply _ _ _ (ix6 p 0 q 0 r l) (squeeze_pos p q r l)).trans ?_
  refine (extractStridedSlice_apply _ _ _ _ (ix6 p 0 q 1 r l) ?_).trans (cut_apply x p 0 q 1 r l)
  intro a
  match a with
  | ⟨0, _⟩ => exact (Nat.zero_add _).symm
  | ⟨1, _⟩ => rfl
  | ⟨2, _⟩ => exact (Nat.zero_add _).symm
  | ⟨3, _⟩ => rfl
  | ⟨4, _⟩ => exact (Nat.zero_add _).symm
  | ⟨5, _⟩ => exact (Nat.zero_add _).symm

/-- The halves put beside each other, by chip, core and block. -/
abbrev joined (x : S32x2x23760x128.Idx → α) : S4x2x4x23760x128.Idx → α :=
  concatenate S4x2x4x23760x128 1
    [⟨S4x1x4x23760x128, broadcastInDim S4x1x4x23760x128 ![0, 2, 3, 4] bcast_S4x4x23760x128_S4x1x4x23760x128_0_2_3_4 (halves₀ x)⟩,
      ⟨S4x1x4x23760x128, broadcastInDim S4x1x4x23760x128 ![0, 2, 3, 4] bcast_S4x4x23760x128_S4x1x4x23760x128_0_2_3_4 (halves₁ x)⟩]
    concatenates_S4x1x4x23760x128_S4x1x4x23760x128_S4x2x4x23760x128_d1

theorem spread_apply (y : S4x4x23760x128.Idx → α) (p q : Fin 4) (r : Fin 23760) (l : Fin 128) :
    broadcastInDim S4x1x4x23760x128 ![0, 2, 3, 4] bcast_S4x4x23760x128_S4x1x4x23760x128_0_2_3_4 y (ix5 p 0 q r l) = y (ix4 p q r l) := by
  refine broadcastInDim_apply _ _ _ _ _ ?_
  intro a
  match a with
  | ⟨0, _⟩ => rfl
  | ⟨1, _⟩ => rfl
  | ⟨2, _⟩ => rfl
  | ⟨3, _⟩ => rfl

theorem joined₀_apply (x : S32x2x23760x128.Idx → α) (p q : Fin 4) (r : Fin 23760) (l : Fin 128) :
    joined x (ix5 p 0 q r l) = x (ix4 (⟨(2 * p.val + 1) * 4 + q.val, by omega⟩ : Fin 32) (0 : Fin 2) r l) := by
  refine (concatenate_pair_apply_left (s₁ := S4x1x4x23760x128) (s₂ := S4x1x4x23760x128) (t := S4x2x4x23760x128) 1 _ _ _ (ix5 p 0 q r l) rfl (ix5 p 0 q r l) ?_).trans ((spread_apply _ p q r l).trans (halves₀_apply x p q r l))
  intro b
  match b with
  | ⟨0, _⟩ => rfl
  | ⟨1, _⟩ => rfl
  | ⟨2, _⟩ => rfl
  | ⟨3, _⟩ => rfl
  | ⟨4, _⟩ => rfl

theorem joined₁_apply (x : S32x2x23760x128.Idx → α) (p q : Fin 4) (r : Fin 23760) (l : Fin 128) :
    joined x (ix5 p 1 q r l) = x (ix4 (⟨2 * p.val * 4 + q.val, by omega⟩ : Fin 32) (1 : Fin 2) r l) := by
  refine (concatenate_pair_apply_right (s₁ := S4x1x4x23760x128) (s₂ := S4x1x4x23760x128) (t := S4x2x4x23760x128) 1 _ _ _ (ix5 p 1 q r l) rfl rfl (ix5 p 0 q r l) ?_ rfl).trans ((spread_apply _ p q r l).trans (halves₁_apply x p q r l))
  intro b hb
  match b with
  | ⟨0, _⟩ => rfl
  | ⟨1, _⟩ => exact absurd rfl hb
  | ⟨2, _⟩ => rfl
  | ⟨3, _⟩ => rfl
  | ⟨4, _⟩ => rfl

/-- The reference's result. -/
abbrev result (x : S32x2x23760x128.Idx → α) : S32x23760x128.Idx → α :=
  shapeCast _ (joined x) shapeCasts_S4x2x4x23760x128_S32x23760x128

/-- Device `c`'s block `q` of it: its sibling's block `q`, of the half its own core sums. -/
theorem result_apply (x : S32x2x23760x128.Idx → α) (c : Fin 8) (q : Fin 4) (r : Fin 23760) (l : Fin 128) :
    result x (ix3 (⟨c.val * 4 + q.val, by omega⟩ : Fin 32) r l)
      = x (ix4 (⟨(SwapIdeal.sib c).val * 4 + q.val, by have : (SwapIdeal.sib c).val < 8 := (SwapIdeal.sib c).isLt; omega⟩ : Fin 32) (SwapIdeal.other (SwapIdeal.sib c)) r l) := by
  have hc := c.isLt
  obtain ⟨p, k, hk⟩ : ∃ (p : Fin 4) (k : Fin 2), c.val = 2 * p.val + k.val :=
    ⟨⟨c.val / 2, by omega⟩, ⟨c.val % 2, by omega⟩, by show c.val = 2 * (c.val / 2) + c.val % 2; omega⟩
  have hs : (SwapIdeal.sib c).val = 2 * p.val + (1 - k.val) := by
    show (4 * (c.val / 4) + 2 * ((c.val / 2) % 2) + 1) - c.val % 2 = _
    omega
  have ho : SwapIdeal.other (SwapIdeal.sib c) = k := Fin.ext (by show 1 - (SwapIdeal.sib c).val % 2 = k.val; omega)
  refine (shapeCast_apply _ _ _ (ix5 p k q r l) ?_).trans ?_
  · rw [Shape.rowMajor_val_three, Shape.rowMajor_val_five]
    show (((p.val * 2 + k.val) * 4 + q.val) * 23760 + r.val) * 128 + l.val = ((c.val * 4 + q.val) * 23760 + r.val) * 128 + l.val
    omega
  · match k with
    | 0 =>
      refine (joined₀_apply x p q r l).trans (congrArg x ?_)
      rw [ho]
      exact congrArg (fun s : Fin 32 => ix4 s (0 : Fin 2) r l) (Fin.ext (by show (2 * p.val + 1) * 4 + q.val = (SwapIdeal.sib c).val * 4 + q.val; rw [hs]; rfl))
    | 1 =>
      refine (joined₁_apply x p q r l).trans (congrArg x ?_)
      rw [ho]
      exact congrArg (fun s : Fin 32 => ix4 s (1 : Fin 2) r l) (Fin.ext (by show 2 * p.val * 4 + q.val = (SwapIdeal.sib c).val * 4 + q.val; rw [hs]; rfl))

theorem tiles : Layout.Tiles SwapIdeal.S4x23760x128 S32x23760x128 0 8 := by decide
theorem tiles_arg : Layout.Tiles SwapIdeal.S4x2x23760x128 S32x2x23760x128 0 8 := by decide

variable {F : FTy → Type} [FloatOps F]

theorem idx_res (c : Fin 8) (q : Fin 4) (r : Fin 23760) (l : Fin 128) :
    tiles.idx c (ix3 q r l) = ix3 (⟨c.val * 4 + q.val, by omega⟩ : Fin 32) r l := by
  funext a
  match a with
  | ⟨0, _⟩ => rfl
  | ⟨1, _⟩ => rfl
  | ⟨2, _⟩ => rfl

theorem idx_arg (c : Fin 8) (q : Fin 4) (h : Fin 2) (r : Fin 23760) (l : Fin 128) :
    tiles_arg.idx c (ix4 q h r l) = ix4 (⟨c.val * 4 + q.val, by omega⟩ : Fin 32) h r l := by
  funext a
  match a with
  | ⟨0, _⟩ => rfl
  | ⟨1, _⟩ => rfl
  | ⟨2, _⟩ => rfl
  | ⟨3, _⟩ => rfl

theorem swapped_apply (m : (ℓ : Loc SwapIdeal.nD SwapIdeal.τ SwapIdeal.sig) → Buf (Elt F) ℓ) (c : Dev SwapIdeal.nD)
    (q : Fin 4) (r : Fin 23760) (l : Fin 128) :
    SwapIdeal.swapped m c (ix3 q r l : SwapIdeal.S4x23760x128.Idx)
      = SwapIdeal.given m (SwapIdeal.sib c) (ix4 q (SwapIdeal.other (SwapIdeal.sib c)) r l : SwapIdeal.S4x2x23760x128.Idx) := rfl

/-- From an array cut among the devices, each ends up with its block of the reference's result. -/
theorem swapped_block (m : (ℓ : Loc SwapIdeal.nD SwapIdeal.τ SwapIdeal.sig) → Buf (Elt F) ℓ) (x : S32x2x23760x128.Idx → Elt F .bf16)
    (h : ∀ c, SwapIdeal.given m c = Layout.block SwapIdeal.S4x2x23760x128 S32x2x23760x128 0 8 c x tiles_arg) (c : Dev SwapIdeal.nD) :
    SwapIdeal.swapped m c = Layout.block SwapIdeal.S4x23760x128 S32x23760x128 0 8 c (result x) tiles := by
  refine funext fun (i : SwapIdeal.S4x23760x128.Idx) => ?_
  rw [eq_ix3 i]
  exact (swapped_apply m c (i 0) (i 1) (i 2)).trans ((congrFun (h (SwapIdeal.sib c)) (ix4 (i 0) (SwapIdeal.other (SwapIdeal.sib c)) (i 1) (i 2))).trans
    ((congrArg x (idx_arg (SwapIdeal.sib c) (i 0) _ (i 1) (i 2))).trans
      ((result_apply x c (i 0) (i 1) (i 2)).symm.trans ((congrArg (result x) (idx_res c (i 0) (i 1) (i 2)).symm).trans
        (Layout.block_apply c (result x) tiles (ix3 (i 0) (i 1) (i 2))).symm))))

end Cert.SwapValue

end
-- ==== Proof.Send.lean ====
/-
# The four chips exchange their partial sums

The kernel `rs_send_partials`: each core sends to the same core of the three other chips the block that chip sums. Run
once, over any float values: the three blocks meant for a device arrive, whole and unchanged.
-/
module

public import proofs.«01_k».proof.Proof.Pieces
public import proofs.«01_k».proof.Proof.Gen.SendIdeal.Skeleton
public import proofs.«01_k».proof.Proof.Gen.SendIdeal.Launch
public import proofs.«01_k».proof.Proof.Gen.SendIdeal.Points
public import Idealize.ShloMosaic.Lib.ValueLayout

@[expose] public section

set_option Elab.async false
set_option maxRecDepth 65536

noncomputable section

namespace Cert.SendIdeal

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (pinD)
open Cert.Exchange Cert.SendIdeal.Gen

variable {F : FTy → Type} [FloatOps F]

local notation "𝕄" => MT nD τ sig Unit (Elt F) ℕ (UU sig nD τ) ℕ

/-! ## Devices and pieces -/

/-- The device a device exchanges block `j` with: across x, across y, across both. -/
def nb (j : Fin 3) (c : Dev nD) : Dev nD :=
  match j with
  | 0 => ⟨(2 * ((c.val / 2) % 2) + (c.val % 2) + 4) - 4 * (c.val / 4), by revert c; decide⟩
  | 1 => ⟨(4 * (c.val / 4) + (c.val % 2) + 2) - 2 * ((c.val / 2) % 2), by revert c; decide⟩
  | 2 => ⟨((c.val % 2) + 6) - (4 * (c.val / 4) + 2 * ((c.val / 2) % 2)), by revert c; decide⟩

theorem nb_nb (j : Fin 3) (c : Dev nD) : nb j (nb j c) = c := by revert j c; decide

/-- A device's chip. -/
def chip (c : Dev nD) : Fin 4 := ⟨c.val / 2, by revert c; decide⟩

theorem chip_nb_inj (c : Dev nD) (j j' : Fin 3) (h : chip (nb j c) = chip (nb j' c)) : j = j' := by revert c j j'; decide

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel

/-- Where the block a core sends `j`-th begins. -/
abbrev off (c : Dev nD) : Fin 3 → Fin 3 → ℕ
  | 0 => k0_off1 c
  | 1 => k0_off2 c
  | 2 => k0_off3 c

theorem off_eq (c : Dev nD) (j : Fin 3) : off c j = ![(chip (nb j c)).val, 0, 0] := by
  match j with
  | 0 => exact (k0_off1_eq c).trans (by revert c; decide)
  | 1 => exact (k0_off2_eq c).trans (by revert c; decide)
  | 2 => exact (k0_off3_eq c).trans (by revert c; decide)

theorem off_inb (c : Dev nD) (j : Fin 3) : ∀ a, off c j a + S1x23760x128.size a ≤ S4x23760x128.size a := by
  match j with
  | 0 => exact k0_off1_inb c
  | 1 => exact k0_off2_inb c
  | 2 => exact k0_off3_inb c

theorem place_inb (j : Fin 3) : ∀ a, (![j.val, 0, 0] : Fin 3 → ℕ) a + S1x23760x128.size a ≤ S3x23760x128.size a := by
  revert j; decide

/-- The block a core sends `j`-th. -/
abbrev src (c : Dev nD) (j : Fin 3) : Memref sig .tc .hbm S23760x128 .bf16 :=
  ((Memref.whole main_arg0).slice (Rect.unit (s := S4x23760x128) (off c j) S1x23760x128.size (off_inb c j)) (fun _ => rfl)).squeeze S23760x128 squeezes_S1x23760x128_S23760x128

/-- The `j`-th place of the result. -/
abbrev dst (j : Fin 3) : Memref sig .tc .hbm S23760x128 .bf16 :=
  ((Memref.whole main_v1).slice (Rect.unit (s := S3x23760x128) ![j.val, 0, 0] S1x23760x128.size (place_inb j)) (fun _ => rfl)).squeeze S23760x128 squeezes_S1x23760x128_S23760x128

theorem src_emb (c : Dev nD) (j : Fin 3) (r : Fin 23760) (l : Fin 128) :
    (src c j).view.emb (ix2 r l) = (ix3 (chip (nb j c)) r l : S4x23760x128.Idx) :=
  emb_matrix (off c j) (off_inb c j) (Shape.Squeezes.numel_eq squeezes_S1x23760x128_S23760x128) (chip (nb j c))
    (by rw [off_eq]; rfl) (by rw [off_eq]; rfl) (by rw [off_eq]; rfl) r l

theorem dst_emb (j : Fin 3) (r : Fin 23760) (l : Fin 128) : (dst j).view.emb (ix2 r l) = (ix3 j r l : S3x23760x128.Idx) :=
  emb_matrix _ (place_inb j) (Shape.Squeezes.numel_eq squeezes_S1x23760x128_S23760x128) j rfl rfl rfl r l

theorem mem_src {c : Dev nD} {j : Fin 3} {i : S4x23760x128.Idx} (h : i ∈ (src c j).view.set) : i 0 = chip (nb j c) := by
  obtain ⟨x, -, rfl⟩ := Finset.mem_map.mp h
  rw [eq_ix2 x]
  exact congrFun (src_emb c j (x 0) (x 1)) 0

theorem mem_dst (j : Fin 3) (i : S3x23760x128.Idx) : i ∈ (dst j).view.set ↔ i 0 = j := by
  constructor
  · intro h
    obtain ⟨x, -, rfl⟩ := Finset.mem_map.mp h
    rw [eq_ix2 x]
    exact congrFun (dst_emb j (x 0) (x 1)) 0
  · rintro rfl
    exact Finset.mem_map.mpr ⟨ix2 (i 1) (i 2), Finset.mem_univ _, (dst_emb (i 0) (i 1) (i 2)).trans (eq_ix3 i).symm⟩

/-! ## Contents -/

variable (m : (ℓ : Loc nD τ sig) → Buf (Elt F) ℓ) (g : Dev nD → PrngReg)

/-- A device's array at the start, and what it ends up with: the other chips' blocks meant for it. -/
abbrev given (c : Dev nD) : Buf (Elt F) ((c : Thread nD τ).loc main_arg0) := m ((c : Thread nD τ).loc main_arg0)
def received (c : Dev nD) : Buf (Elt F) ((c : Thread nD τ).loc main_v1) :=
  fun i => given m (nb (i 0) c) (ix3 (chip c) (i 1) (i 2) : S4x23760x128.Idx)

theorem received_read (c : Dev nD) (j : Fin 3) :
    (dst j).view.read (Elt F) (received m (nb j c)) = (src c j).view.read (Elt F) (given m c) := by
  funext x
  have e : received m (nb j c) (ix3 j (x 0) (x 1) : S3x23760x128.Idx) = given m c (ix3 (chip (nb j c)) (x 0) (x 1) : S4x23760x128.Idx) := by
    show given m (nb j (nb j c)) _ = _
    rw [nb_nb]
    rfl
  rw [eq_ix2 x]
  exact (congrArg (received m (nb j c)) (dst_emb j (x 0) (x 1))).trans (e.trans (congrArg (given m c) (src_emb c j (x 0) (x 1))).symm)

/-! ## The plan: a send and a receive semaphore for each block -/

abbrev In := Fin 3 ⊕ Fin 3

/-- The semaphores the other chips credit. -/
def far : Finset In := {.inr 0, .inr 1, .inr 2}

/-- What the copy of a half counts. -/
def credit : ℕ := (dst 0).view.dmaCredit
theorem credit_dst (q : Fin 3) : (dst q).view.dmaCredit = credit := rfl
theorem credit_src (c : Dev nD) (q : Fin 3) : (src c q).view.dmaCredit = credit := rfl

/-- The elements a semaphore's wait gives back. -/
abbrev got (c : Dev nD) : In → sProp 𝕄
  | .inl q => (c : Thread nD τ).loc main_arg0 ↦[(src c q).view.set]{fullShare} given m c
  | .inr q => (c : Thread nD τ).loc main_v1 ↦[(dst q).view.set]{fullShare} received m c

def plan : Plan nD τ sig (Elt F) In where
  sem := fun
    | .inl q => .dma (⟨q.val, by omega⟩ : Fin 6)
    | .inr q => .dma (⟨3 + q.val, by omega⟩ : Fin 6)
  sem_inj := by decide
  far := far
  peer := fun
    | .inl _ => id
    | .inr j => nb j
  peer_peer := fun i c => by cases i; exacts [rfl, nb_nb _ c]
  amt := fun _ => credit
  amt_pos := fun _ => View.dmaCredit_pos (dst 0).view (by decide)
  lvl := fun
    | .inl _ => 0
    | .inr _ => 1
  pay := got m
  pay_storable := fun c i => by cases i <;> infer_instance

/-- What a device holds at the start: the pieces of its result, which the other chips write, and its own array. -/
abbrev land (c : Dev nD) : In → sProp 𝕄
  | .inl _ => iprop(emp)
  | .inr q => (c : Thread nD τ).loc main_v1 ↦[(dst q).view.set]{fullShare} m ((c : Thread nD τ).loc main_v1)
abbrev keep (c : Dev nD) : sProp 𝕄 := (c : Thread nD τ).loc main_arg0 ↦{fullShare} given m c

/-- What it holds at the end. -/
abbrev fin (c : Dev nD) : sProp 𝕄 :=
  iprop(((c : Thread nD τ).loc main_arg0 ↦{fullShare} given m c) ∗ ((c : Thread nD τ).loc main_v1 ↦{fullShare} received m c))

theorem bufs (c : Dev nD) : unscopedBufs c (fun b => m ((c : Thread nD τ).loc b))
    ⊢ iprop((bigSep (plan m).far fun i => land m c i) ∗ keep m c ∗ emp) := by
  rw [show (unscopedBufs c (fun b => m ((c : Thread nD τ).loc b)) : sProp 𝕄)
      = iprop(((c : Thread nD τ).loc main_arg0 ↦{fullShare} given m c) ∗ ((c : Thread nD τ).loc main_v1 ↦{fullShare} m ((c : Thread nD τ).loc main_v1))) from
    bigSep_eq_bigSepL_of_eq [main_arg0, main_v1] (by decide) (by decide) _,
    pieces fullShare (m ((c : Thread nD τ).loc main_v1)) (fun q => (dst q).view.set) (fun i => i 0) mem_dst,
    show (plan m).far = far from rfl,
    bigSep_eq_bigSepL_of_eq [.inr 0, .inr 1, .inr 2] (show far = _ by decide) (by decide) (fun i => land m c i),
    bigSep_univ_eq_bigSepL [0, 1, 2] (by decide) (by decide)]
  iintro ⟨Ha, Hv⟩
  isplitl [Hv]; · iexact Hv
  isplitl [Ha]; · iexact Ha
  iempintro

section

variable {Λ : Labels} (defs : Defs nD τ sig (Elt F) Λ) (𝒱 : Variants) (bd : Option 𝒱.V) (K : Dev nD × In → ℕ)

/-- The start of block `q`'s send. -/
theorem put (c : Dev nD) (q : Fin 3) (S : Finset In) (hi : .inr q ∈ S) (n : Dev nD) (hn : n = nb q c)
    {hsc : (dst q).view.ref.isScScratch = false} {hsrc : (src c q).view.WordExact} {hdst : (dst q).view.WordExact}
    {hsem : DmaTarget.Typed .hbm ((plan m).sem (.inr q)) (.remote (Dev.tc n : Thread nD τ) (dst q) ((plan m).sem (.inl q)) hsc)}
    {α : Type} {Q : α → sProp 𝕄} {k : PUnit → Prog (TpuEff nD τ sig (Elt F) Λ .tc) α} :
    iprop((plan m).records K ∗ ((c : Thread nD τ).loc main_arg0 ↦[(src c q).view.set]{fullShare} given m c) ∗ land m (nb q c) (.inr q)
        ∗ (plan m).owing c S ∗ (plan m).tok c (.inl q) ∗ (plan m).tok c (.inr q))
      ⊢ iprop((((plan m).due c (.inl q) ∗ (plan m).owing c (S.erase (.inr q))) -∗ wp frame (wpE defs 𝒱 (c : Thread nD τ) bd) Set.univ (k ⟨⟩) Q)
          -∗ wp frame (wpE defs 𝒱 (c : Thread nD τ) bd) Set.univ
            (.op (.enqueueDma (src c q) (.remote (Dev.tc n : Thread nD τ) (dst q) ((plan m).sem (.inl q)) hsc) ((plan m).sem (.inr q)) hsrc hdst hsem) k) Q) := by
  subst hn
  have hS : ((src c q).view.loc (c : Thread nD τ) ↦[(src c q).view.set]{fullShare} given m c : sProp 𝕄) ⊢ (plan m).pay c (.inl q) := .rfl
  have hR : ((dst q).view.loc (nb q c : Thread nD τ) ↦[(dst q).view.set]{fullShare}
      (dst q).view.write (Elt F) (m ((nb q c : Thread nD τ).loc main_v1)) ((src c q).view.read (Elt F) (given m c)) Finset.univ : sProp 𝕄)
      ⊢ (plan m).pay (nb q c) (.inr q) := Entails.of_eq (landed (nb q c : Thread nD τ) (dst q).view fullShare _ (received m (nb q c)) _ (received_read m c q))
  have hN : (dst q).view.amount ((plan m).sem (.inr q)) = (plan m).amt (.inr q) := credit_dst q
  have := (plan m).wp_put defs 𝒱 bd K c (.inr q) (.inl q) S hi (nb q c) rfl rfl rfl (src := src c q) (dst := dst q) (hsc := hsc) (hsrc := hsrc) (hdst := hdst) (hsem := hsem) rfl rfl hN (Q := Q) (k := k) fullShare (given m c) (m ((nb q c : Thread nD τ).loc main_v1)) hS hR
  exact this

/-- The wait for block `q`'s send, and for the other chips'. -/
theorem take_sent (c : Dev nD) (q : Fin 3) {hd : (dst q).view.WordExact} {hs : (src c q).view.WordExact}
    {α : Type} {Q : α → sProp 𝕄} {k : PUnit → Prog (TpuEff nD τ sig (Elt F) Λ .tc) α} :
    iprop((plan m).records K ∗ levAts Plan.L (plan m).lev ∗ (plan m).due c (.inl q) ∗ (plan m).owing c ∅ ∗ (plan m).pos c (.inl q))
      ⊢ iprop((((plan m).owing c ∅ ∗ (plan m).pay c (.inl q) ∗ semVal ((plan m).cell c (.inl q)) 0) -∗ wp frame (wpE defs 𝒱 (c : Thread nD τ) bd) Set.univ (k ⟨⟩) Q)
          -∗ wp frame (wpE defs 𝒱 (c : Thread nD τ) bd) Set.univ (.op (.waitDma2 (⟨q.val, by omega⟩ : Fin 6) (dst q) (src c q) hd hs) k) Q) :=
  (plan m).wp_take defs 𝒱 bd K c (.inl q) ∅ (by simp) (src := dst q) (dst := src c q) (hsrc := hd) (hdst := hs) rfl (credit_src c q) (Q := Q) (k := k)

theorem take_got (c : Dev nD) (q : Fin 3) {hd : (dst q).view.WordExact} {hs : (src c q).view.WordExact}
    {α : Type} {Q : α → sProp 𝕄} {k : PUnit → Prog (TpuEff nD τ sig (Elt F) Λ .tc) α} :
    iprop((plan m).records K ∗ levAts Plan.L (plan m).lev ∗ (plan m).due c (.inr q) ∗ (plan m).owing c ∅ ∗ (plan m).pos c (.inr q))
      ⊢ iprop((((plan m).owing c ∅ ∗ (plan m).pay c (.inr q) ∗ semVal ((plan m).cell c (.inr q)) 0) -∗ wp frame (wpE defs 𝒱 (c : Thread nD τ) bd) Set.univ (k ⟨⟩) Q)
          -∗ wp frame (wpE defs 𝒱 (c : Thread nD τ) bd) Set.univ (.op (.waitDma2 (⟨3 + q.val, by omega⟩ : Fin 6) (src c q) (dst q) hs hd) k) Q) :=
  (plan m).wp_take defs 𝒱 bd K c (.inr q) ∅ (by simp) (src := src c q) (dst := dst q) (hsrc := hs) (hdst := hd) rfl (credit_dst q) (Q := Q) (k := k)

end

theorem src_disjoint (c : Dev nD) (q q' : Fin 3) (h : q ≠ q') : Disjoint (src c q).view.set (src c q').view.set :=
  Finset.disjoint_left.mpr fun i hi hi' => h (chip_nb_inj c q q' ((mem_src hi).symm.trans (mem_src hi')))

/-- A device's array as the three pieces it sends and the rest. -/
theorem whole_src (c : Dev nD) : keep m c ⊣⊢ iprop(
    (((c : Thread nD τ).loc main_arg0 ↦[(src c 0).view.set]{fullShare} given m c) ∗ ((c : Thread nD τ).loc main_arg0 ↦[(src c 1).view.set]{fullShare} given m c)
      ∗ ((c : Thread nD τ).loc main_arg0 ↦[(src c 2).view.set]{fullShare} given m c))
    ∗ ((c : Thread nD τ).loc main_arg0 ↦[Finset.univ \ Finset.univ.biUnion fun q => (src c q).view.set]{fullShare} given m c)) := by
  have h := carve (Val := Elt F) (ℓ := (c : Thread nD τ).loc main_arg0) fullShare (given m c) (fun q => (src c q).view.set) (src_disjoint c)
  rw [bigSep_univ_eq_bigSepL [0, 1, 2] (by decide) (by decide)] at h
  exact h

/-- The three pieces of the result make it whole. -/
theorem whole_dst (c : Dev nD) : iprop((plan m).pay c (.inr 0) ∗ (plan m).pay c (.inr 1) ∗ (plan m).pay c (.inr 2))
    ⊢ ((c : Thread nD τ).loc main_v1 ↦{fullShare} received m c : sProp 𝕄) := by
  rw [pieces fullShare (received m c) (fun q => (dst q).view.set) (fun i => i 0) mem_dst, bigSep_univ_eq_bigSepL [0, 1, 2] (by decide) (by decide)]
  exact .rfl

theorem whole_src_back (c : Dev nD) : iprop(
    ((plan m).pay c (.inl 0) ∗ (plan m).pay c (.inl 1) ∗ (plan m).pay c (.inl 2))
    ∗ ((c : Thread nD τ).loc main_arg0 ↦[Finset.univ \ Finset.univ.biUnion fun q => (src c q).view.set]{fullShare} given m c)) ⊢ keep m c :=
  (whole_src m c).2

/-- A product over the semaphores, and over those the other chips credit. -/
theorem over (Φ : In → sProp 𝕄) : bigSep Finset.univ Φ
    = iprop(Φ (.inl 0) ∗ Φ (.inl 1) ∗ Φ (.inl 2) ∗ Φ (.inr 0) ∗ Φ (.inr 1) ∗ Φ (.inr 2)) :=
  bigSep_univ_eq_bigSepL (I := In) [.inl 0, .inl 1, .inl 2, .inr 0, .inr 1, .inr 2] (by decide) (by decide) Φ
theorem over_far (Φ : In → sProp 𝕄) : bigSep far Φ = iprop(Φ (.inr 0) ∗ Φ (.inr 1) ∗ Φ (.inr 2)) :=
  bigSep_eq_bigSepL_of_eq [.inr 0, .inr 1, .inr 2] (by decide) (by decide) Φ

set_option maxHeartbeats 1600000 in
/-- The kernel's run on device `c`. -/
theorem body (c : Dev nD) (t : Fin cfg0.N) :
    iprop((levAts Plan.L (plan m).lev ∗ (plan m).start (land m) (keep m) c) ∗ (plan m).owing c (plan m).far)
      ⊢ wp frame (wpE (defs₀ (F := F)) Variants.none (c : Thread nD τ) none) Set.univ (bodyAt0 (F := F) t)
          (fun _ => iprop((fin m c ∗ bigSep Finset.univ fun i => semVal ((plan m).cell c i) 0) ∗ (plan m).owing c ∅)) := by
  unfold bodyAt0 Plan.start
  rw [cc0_rs_send_partials_eq_skeleton]
  unfold cc0_rs_send_partials_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  rw [show (plan m).far = far from rfl]
  simp only [over, over_far]
  iintro ⟨⟨#Hlev, ⟨%K, #HK⟩, ⟨Ps0, Ps1, Ps2, Pr0, Pr1, Pr2⟩, ⟨Ts0, Ts1, Ts2, Tr0, Tr1, Tr2⟩, ⟨D0, D1, D2⟩, ⟨L0, L1, L2⟩, Ha⟩, HO⟩
  ihave Ha := (whole_src m c).1 $$ Ha
  icases Ha with ⟨⟨S0, S1, S2⟩, Hrest⟩
  iapply (put m _ _ _ K c 0 (far) (by decide) _ (dev1_eq c)) $$ [S0 L0 HO Ts0 Tr0]
  · isplitr; · iexact HK
    isplitl [S0]; · iexact S0
    isplitl [L0]; · iexact L0
    isplitl [HO]; · iexact HO
    isplitl [Ts0] <;> iassumption
  iintro ⟨E0, HO⟩
  iapply (put m _ _ _ K c 1 (far.erase (.inr 0)) (by decide) _ (dev2_eq c)) $$ [S1 L1 HO Ts1 Tr1]
  · isplitr; · iexact HK
    isplitl [S1]; · iexact S1
    isplitl [L1]; · iexact L1
    isplitl [HO]; · iexact HO
    isplitl [Ts1] <;> iassumption
  iintro ⟨E1, HO⟩
  iapply (put m _ _ _ K c 2 ((far.erase (.inr 0)).erase (.inr 1)) (by decide) _ (dev3_eq c)) $$ [S2 L2 HO Ts2 Tr2]
  · isplitr; · iexact HK
    isplitl [S2]; · iexact S2
    isplitl [L2]; · iexact L2
    isplitl [HO]; · iexact HO
    isplitl [Ts2] <;> iassumption
  iintro ⟨E2, HO⟩
  rw [show ((far.erase (.inr 0)).erase (.inr 1)).erase (.inr 2) = ∅ by decide]
  iapply (take_sent m _ _ _ K c 0) $$ [E0 HO Ps0]
  · isplitr; · iexact HK
    isplitr; · iexact Hlev
    isplitl [E0]; · iexact E0
    isplitl [HO] <;> iassumption
  iintro ⟨HO, S0, Vs0⟩
  iapply (take_got m _ _ _ K c 0) $$ [D0 HO Pr0]
  · isplitr; · iexact HK
    isplitr; · iexact Hlev
    isplitl [D0]; · iexact D0
    isplitl [HO] <;> iassumption
  iintro ⟨HO, N0, Vr0⟩
  iapply (take_sent m _ _ _ K c 1) $$ [E1 HO Ps1]
  · isplitr; · iexact HK
    isplitr; · iexact Hlev
    isplitl [E1]; · iexact E1
    isplitl [HO] <;> iassumption
  iintro ⟨HO, S1, Vs1⟩
  iapply (take_got m _ _ _ K c 1) $$ [D1 HO Pr1]
  · isplitr; · iexact HK
    isplitr; · iexact Hlev
    isplitl [D1]; · iexact D1
    isplitl [HO] <;> iassumption
  iintro ⟨HO, N1, Vr1⟩
  iapply (take_sent m _ _ _ K c 2) $$ [E2 HO Ps2]
  · isplitr; · iexact HK
    isplitr; · iexact Hlev
    isplitl [E2]; · iexact E2
    isplitl [HO] <;> iassumption
  iintro ⟨HO, S2, Vs2⟩
  iapply (take_got m _ _ _ K c 2) $$ [D2 HO Pr2]
  · isplitr; · iexact HK
    isplitr; · iexact Hlev
    isplitl [D2]; · iexact D2
    isplitl [HO] <;> iassumption
  iintro ⟨HO, N2, Vr2⟩
  rw [wp_ret]
  imodintro
  isplitr [HO]
  · isplitr [Vs0 Vs1 Vs2 Vr0 Vr1 Vr2]
    · isplitr [N0 N1 N2]
      · iapply (whole_src_back m c)
        isplitr [Hrest]
        · isplitl [S0]; · iexact S0
          isplitl [S1] <;> iassumption
        · iexact Hrest
      · iapply (whole_dst m c)
        isplitl [N0]; · iexact N0
        isplitl [N1] <;> iassumption
    · isplitl [Vs0]; · iexact Vs0
      isplitl [Vs1]; · iexact Vs1
      isplitl [Vs2]; · iexact Vs2
      isplitl [Vr0]; · iexact Vr0
      isplitl [Vr1] <;> iassumption
  · iexact HO

/-! ## The program's run -/

instance noWindows (p : Fin 1) : IsEmpty (Fin (pcfgs (F := F) p).W) := by
  match p with
  | 0 => exact Fin.isEmpty

theorem all_scoped : ∀ sm : SemLoc sig, sm.isScoped .tc = true := by decide

theorem semFacts : Pipeline.OwnSemFacts (pcfgs (F := F) 0).spec (plan m).sem := ⟨fun k => all_scoped _, (plan m).sem_inj, fun _ w => w.elim0⟩

theorem run_main [∀ e, Nonempty (Elt F e)] :
    θ_run (defs (F := F)) (onTc main) ⟨m, fun _ => 0, g⟩ (fun r => (∀ c : Dev nD, r.2.mem ((c : Thread nD τ).loc main_arg0) = given m c
      ∧ r.2.mem ((c : Thread nD τ).loc main_v1) = received m c) ∧ r.2.sem = fun _ => 0) :=
  Plan.run_alone (plan m) pcfgs (fun _ p => (cfgs p).toPCfg_adm) (fun ⟨p, _, w, _⟩ => (noWindows (F := F) p).elim w) winFacts0.to₀ (semFacts m) noWindows rfl (fun _ => N_0) defs₀ Variants.none
    (fun c => scopedRest0_eq c) m g main (fun _ => rfl) (land m) (keep m) (fin m) (fun _ => iprop(emp)) (bufs m) (body m) all_scoped
    (fun c mem => mem.mem ((c : Thread nD τ).loc main_arg0) = given m c ∧ mem.mem ((c : Thread nD τ).loc main_v1) = received m c)
    (fun c s' => two_read s' _ _)

end Cert.SendIdeal

end
-- ==== Proof.SendValue.lean ====
/-
# What the exchange between the chips has to produce, read off the reference

The reference cuts the whole array by chip, core and the chip a block is meant for, and puts together, for each chip and
core, the blocks the three other chips have for it. Here its result is read at an index, and block `c` of it is found to
be what device `c` ends up with.
-/
module

public import proofs.«01_k».proof.Proof.Send
public import proofs.«01_k».proof.Proof.Gen.SendReferenceIdeal.Run
public import Idealize.ShloMosaic.Lib.Pipeline.Value

@[expose] public section

set_option maxRecDepth 65536

noncomputable section

namespace Cert.SendValue

open Idealize.ShloMosaic
open Idealize.ShloMosaic.ValueIdx
open Idealize.ShloMosaic.TcCoe
open Idealize.SL.Sem
open Cert.SendReferenceIdeal Cert.SendReferenceIdeal.Gen

variable {α : Type}

/-- The whole array by chip, core, and the chip a block is meant for. -/
abbrev cut (x : S32x23760x128.Idx → α) : S4x2x4x23760x128.Idx → α :=
  shapeCast S4x2x4x23760x128 x shapeCasts_S32x23760x128_S4x2x4x23760x128

theorem cut_apply (x : S32x23760x128.Idx → α) (q : Fin 4) (k : Fin 2) (p : Fin 4) (r : Fin 23760) (l : Fin 128) :
    cut x (ix5 q k p r l) = x (ix3 (⟨(2 * q.val + k.val) * 4 + p.val, by omega⟩ : Fin 32) r l) := by
  refine shapeCast_apply x _ _ _ ?_
  rw [Shape.rowMajor_val_three, Shape.rowMajor_val_five]
  show ((((2 * q.val + k.val) * 4 + p.val)) * 23760 + r.val) * 128 + l.val
    = (((q.val * 2 + k.val) * 4 + p.val) * 23760 + r.val) * 128 + l.val
  omega

/-- The chip whose block comes `j`-th at chip `p`: across x, across y, across both. -/
def from_ (p : Fin 4) (j : Fin 3) : Fin 4 := (![![2, 1, 3], ![3, 0, 2], ![0, 3, 1], ![1, 2, 0]] : Fin 4 → Fin 3 → Fin 4) p j

/-- That chip's two blocks for chip `p`, one of each core. -/
abbrev at_ (p : Fin 4) (j : Fin 3) : Fin 5 → ℕ := ![(from_ p j).val, 0, p.val, 0, 0]
theorem slices (p : Fin 4) (j : Fin 3) : S4x2x4x23760x128.Slices (at_ p j) S1x2x1x23760x128 := by revert p j; decide
abbrev part (x : S32x23760x128.Idx → α) (p : Fin 4) (j : Fin 3) : S2x23760x128.Idx → α :=
  shapeCast _ (extractStridedSlice S1x2x1x23760x128 (at_ p j) (cut x) (slices p j)) shapeCasts_S1x2x1x23760x128_S2x23760x128

theorem part_apply (x : S32x23760x128.Idx → α) (p : Fin 4) (j : Fin 3) (k : Fin 2) (r : Fin 23760) (l : Fin 128) :
    part x p j (ix3 k r l) = x (ix3 (⟨(2 * (from_ p j).val + k.val) * 4 + p.val, by omega⟩ : Fin 32) r l) := by
  refine (shapeCast_apply _ _ _ (ix5 0 k 0 r l) ?_).trans ?_
  · rw [Shape.rowMajor_val_three, Shape.rowMajor_val_five]
    show (((0 * 2 + k.val) * 1 + 0) * 23760 + r.val) * 128 + l.val = (k.val * 23760 + r.val) * 128 + l.val
    omega
  · refine (extractStridedSlice_apply _ _ _ _ (ix5 (from_ p j) k p r l) ?_).trans (cut_apply x (from_ p j) k p r l)
    intro a
    match a with
    | ⟨0, _⟩ => rfl
    | ⟨1, _⟩ => exact (Nat.zero_add _).symm
    | ⟨2, _⟩ => rfl
    | ⟨3, _⟩ => exact (Nat.zero_add _).symm
    | ⟨4, _⟩ => exact (Nat.zero_add _).symm

/-- Three such pairs of blocks, by core and place. -/
abbrev spread (y : S2x23760x128.Idx → α) : S2x1x23760x128.Idx → α :=
  broadcastInDim S2x1x23760x128 ![0, 2, 3] bcast_S2x23760x128_S2x1x23760x128_0_2_3 y
abbrev row (f : Fin 3 → S2x23760x128.Idx → α) : S2x3x23760x128.Idx → α :=
  concatenate S2x3x23760x128 1 (List.ofFn fun j : Fin 3 => (⟨S2x1x23760x128, spread (f j)⟩ : (s : Shape) × (s.Idx → α)))
    concatenates_S2x1x23760x128_S2x1x23760x128_S2x1x23760x128_S2x3x23760x128_d1

theorem row_apply (f : Fin 3 → S2x23760x128.Idx → α) (k : Fin 2) (j : Fin 3) (r : Fin 23760) (l : Fin 128) :
    row f (ix4 k j r l) = f j (ix3 k r l) := by
  refine (concatenate_ofFn_unit_apply (s₁ := S2x1x23760x128) (t := S2x3x23760x128) 1 (fun j => spread (f j)) _ rfl rfl (ix4 k j r l) j rfl (ix4 k 0 r l) ?_).trans ?_
  · intro b hb
    match b with
    | ⟨0, _⟩ => rfl
    | ⟨1, _⟩ => exact absurd rfl hb
    | ⟨2, _⟩ => rfl
    | ⟨3, _⟩ => rfl
  · refine broadcastInDim_apply _ _ _ _ _ ?_
    intro a
    match a with
    | ⟨0, _⟩ => rfl
    | ⟨1, _⟩ => rfl
    | ⟨2, _⟩ => rfl

/-- Four such rows, by chip. -/
abbrev wrap (y : S2x3x23760x128.Idx → α) : S1x2x3x23760x128.Idx → α :=
  broadcastInDim S1x2x3x23760x128 ![1, 2, 3, 4] bcast_S2x3x23760x128_S1x2x3x23760x128_1_2_3_4 y
abbrev join (f : Fin 4 → S2x3x23760x128.Idx → α) : S4x2x3x23760x128.Idx → α :=
  concatenate S4x2x3x23760x128 0 (List.ofFn fun p : Fin 4 => (⟨S1x2x3x23760x128, wrap (f p)⟩ : (s : Shape) × (s.Idx → α)))
    concatenates_S1x2x3x23760x128_S1x2x3x23760x128_S1x2x3x23760x128_S1x2x3x23760x128_S4x2x3x23760x128_d0

theorem join_apply (f : Fin 4 → S2x3x23760x128.Idx → α) (p : Fin 4) (k : Fin 2) (j : Fin 3) (r : Fin 23760) (l : Fin 128) :
    join f (ix5 p k j r l) = f p (ix4 k j r l) := by
  refine (concatenate_ofFn_unit_apply (s₁ := S1x2x3x23760x128) (t := S4x2x3x23760x128) 0 (fun p => wrap (f p)) _ rfl rfl (ix5 p k j r l) p rfl (ix5 0 k j r l) ?_).trans ?_
  · intro b hb
    match b with
    | ⟨0, _⟩ => exact absurd rfl hb
    | ⟨1, _⟩ => rfl
    | ⟨2, _⟩ => rfl
    | ⟨3, _⟩ => rfl
    | ⟨4, _⟩ => rfl
  · refine broadcastInDim_apply _ _ _ _ _ ?_
    intro a
    match a with
    | ⟨0, _⟩ => rfl
    | ⟨1, _⟩ => rfl
    | ⟨2, _⟩ => rfl
    | ⟨3, _⟩ => rfl

/-- The reference's result. -/
abbrev result (x : S32x23760x128.Idx → α) : S24x23760x128.Idx → α :=
  shapeCast _ (join fun p => row fun j => part x p j) shapeCasts_S4x2x3x23760x128_S24x23760x128

/-- Device `c`'s block `j` of it: the block the device across has for its chip. -/
theorem result_apply (x : S32x23760x128.Idx → α) (c : Fin 8) (j : Fin 3) (r : Fin 23760) (l : Fin 128) :
    result x (ix3 (⟨c.val * 3 + j.val, by omega⟩ : Fin 24) r l)
      = x (ix3 (⟨(SendIdeal.nb j c).val * 4 + (SendIdeal.chip c).val, by
          have : (SendIdeal.nb j c).val < 8 := (SendIdeal.nb j c).isLt; omega⟩ : Fin 32) r l) := by
  have hc := c.isLt
  have hn : ∀ (c : Fin 8) (j : Fin 3), 2 * (from_ (SendIdeal.chip c) j).val + c.val % 2 = (SendIdeal.nb j c).val := by decide
  refine (shapeCast_apply _ _ _ (ix5 (SendIdeal.chip c) (⟨c.val % 2, by omega⟩ : Fin 2) j r l) ?_).trans
    ((join_apply _ _ _ _ _ _).trans ((row_apply _ _ _ _ _).trans ((part_apply x _ _ _ _ _).trans (congrArg x ?_))))
  · rw [Shape.rowMajor_val_three, Shape.rowMajor_val_five]
    show ((((c.val / 2) * 2 + c.val % 2) * 3 + j.val) * 23760 + r.val) * 128 + l.val = ((c.val * 3 + j.val) * 23760 + r.val) * 128 + l.val
    omega
  · exact congrArg (fun s : Fin 32 => ix3 s r l) (Fin.ext (congrArg (fun n => n * 4 + (SendIdeal.chip c).val) (hn c j)))

theorem tiles : Layout.Tiles SendIdeal.S3x23760x128 S24x23760x128 0 8 := by decide
theorem tiles_arg : Layout.Tiles SendIdeal.S4x23760x128 S32x23760x128 0 8 := by decide

theorem idx_res (c : Fin 8) (j : Fin 3) (r : Fin 23760) (l : Fin 128) :
    tiles.idx c (ix3 j r l) = ix3 (⟨c.val * 3 + j.val, by omega⟩ : Fin 24) r l := by
  funext a
  match a with
  | ⟨0, _⟩ => rfl
  | ⟨1, _⟩ => rfl
  | ⟨2, _⟩ => rfl

theorem idx_arg (c : Fin 8) (p : Fin 4) (r : Fin 23760) (l : Fin 128) :
    tiles_arg.idx c (ix3 p r l) = ix3 (⟨c.val * 4 + p.val, by omega⟩ : Fin 32) r l := by
  funext a
  match a with
  | ⟨0, _⟩ => rfl
  | ⟨1, _⟩ => rfl
  | ⟨2, _⟩ => rfl

variable {F : FTy → Type} [FloatOps F]

theorem received_apply (m : (ℓ : Loc SendIdeal.nD SendIdeal.τ SendIdeal.sig) → Buf (Elt F) ℓ) (c : Dev SendIdeal.nD)
    (j : Fin 3) (r : Fin 23760) (l : Fin 128) :
    SendIdeal.received m c (ix3 j r l : SendIdeal.S3x23760x128.Idx)
      = SendIdeal.given m (SendIdeal.nb j c) (ix3 (SendIdeal.chip c) r l : SendIdeal.S4x23760x128.Idx) := rfl

/-- From an array cut among the devices, each ends up with its block of the reference's result. -/
theorem received_block (m : (ℓ : Loc SendIdeal.nD SendIdeal.τ SendIdeal.sig) → Buf (Elt F) ℓ) (x : S32x23760x128.Idx → Elt F .bf16)
    (h : ∀ c, SendIdeal.given m c = Layout.block SendIdeal.S4x23760x128 S32x23760x128 0 8 c x tiles_arg) (c : Dev SendIdeal.nD) :
    SendIdeal.received m c = Layout.block SendIdeal.S3x23760x128 S24x23760x128 0 8 c (result x) tiles := by
  refine funext fun (i : SendIdeal.S3x23760x128.Idx) => ?_
  rw [eq_ix3 i]
  exact (received_apply m c (i 0) (i 1) (i 2)).trans ((congrFun (h (SendIdeal.nb (i 0) c)) (ix3 (SendIdeal.chip c) (i 1) (i 2))).trans
    ((congrArg x (idx_arg (SendIdeal.nb (i 0) c) (SendIdeal.chip c) (i 1) (i 2))).trans
      ((result_apply x c (i 0) (i 1) (i 2)).symm.trans ((congrArg (result x) (idx_res c (i 0) (i 1) (i 2)).symm).trans
        (Layout.block_apply c (result x) tiles (ix3 (i 0) (i 1) (i 2))).symm))))

/-- The reference's run leaves that result. -/
theorem result_eq (m : (ℓ : Loc nD τ sig) → Buf (Elt F) ℓ) (c : Dev nD) :
    Value.res_main_v46 m c = result (m ((c.tc : Thread nD τ).loc main_arg0)) := rfl

end Cert.SendValue

end
-- ==== Proof.Share.lean ====
/-
# The two cores of a chip share their halves of the sum

The kernel `rs_share_halves`: each core puts the half it summed in its own result and in its sibling's. Run once, over
any float values: both cores end with both halves. The half is read by two copies at once, each holding a share of it.
-/
module

public import proofs.«01_k».proof.Proof.Pieces
public import proofs.«01_k».proof.Proof.Gen.ShareIdeal.Skeleton
public import proofs.«01_k».proof.Proof.Gen.ShareIdeal.Launch
public import proofs.«01_k».proof.Proof.Gen.ShareIdeal.Points
public import Idealize.ShloMosaic.Lib.ValueLayout

@[expose] public section

set_option Elab.async false
set_option maxRecDepth 65536

noncomputable section

namespace Cert.ShareIdeal

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (pinD)
open Cert.Exchange Cert.ShareIdeal.Gen

variable {F : FTy → Type} [FloatOps F]

local notation "𝕄" => MT nD τ sig Unit (Elt F) ℕ (UU sig nD τ) ℕ

/-! ## Devices and pieces -/

/-- The other core of the chip. -/
def sib (c : Dev nD) : Dev nD := ⟨(4 * (c.val / 4) + 2 * ((c.val / 2) % 2) + 1) - c.val % 2, by revert c; decide⟩
/-- Core `k` of the chip. -/
def core (k : Fin 2) (c : Dev nD) : Dev nD := ⟨2 * (c.val / 2) + k.val, by revert k c; decide⟩
/-- The core a device is. -/
def me (c : Dev nD) : Fin 2 := ⟨c.val % 2, by omega⟩

theorem sib_sib (c : Dev nD) : sib (sib c) = c := by revert c; decide
theorem me_sib (c : Dev nD) : me (sib c) ≠ me c := by revert c; decide
theorem core_me (c : Dev nD) : core (me c) c = c := by revert c; decide
theorem core_sib (c : Dev nD) : core (me c) (sib c) = c := by revert c; decide

theorem dev1_eq (c : Dev nD) : (⟨k0_dev1 c, k0_dev1_lt c⟩ : Dev nD) = sib c := by revert c; decide +kernel

/-- The half a core sums, and the place of it in the result. -/
abbrev src : Memref sig .tc .hbm S23760x128 .f32 := Memref.whole main_arg0
abbrev dst (c : Dev nD) : Memref sig .tc .hbm S23760x128 .f32 :=
  ((Memref.whole main_v1).slice (Rect.unit (s := S2x23760x128) (k0_off1 c) S1x23760x128.size (k0_off1_inb c)) (fun _ => rfl)).squeeze S23760x128 squeezes_S1x23760x128_S23760x128

theorem dst_emb (c : Dev nD) (r : Fin 23760) (l : Fin 128) : (dst c).view.emb (ix2 r l) = (ix3 (me c) r l : S2x23760x128.Idx) :=
  emb_matrix (k0_off1 c) (k0_off1_inb c) (Shape.Squeezes.numel_eq squeezes_S1x23760x128_S23760x128) (me c)
    (by rw [k0_off1_eq]; rfl) (by rw [k0_off1_eq]; rfl) (by rw [k0_off1_eq]; rfl) r l

theorem mem_dst (c : Dev nD) (i : S2x23760x128.Idx) : i ∈ (dst c).view.set ↔ i 0 = me c := by
  constructor
  · intro h
    obtain ⟨x, -, rfl⟩ := Finset.mem_map.mp h
    rw [eq_ix2 x]
    exact congrFun (dst_emb c (x 0) (x 1)) 0
  · intro h
    have e : (ix3 (me c) (i 1) (i 2) : S2x23760x128.Idx) = i := by rw [← h]; exact (eq_ix3 i).symm
    exact Finset.mem_map.mpr ⟨ix2 (i 1) (i 2), Finset.mem_univ _, (dst_emb c (i 1) (i 2)).trans e⟩

/-- Whether an element is in the core's own half, and the device of the chip that writes it. -/
def mine (c : Dev nD) (i : S2x23760x128.Idx) : Bool := (i 0).val == c.val % 2
abbrev writer (c : Dev nD) (b : Bool) : Dev nD := if b then c else sib c

theorem mem_writer (c : Dev nD) (b : Bool) (i : S2x23760x128.Idx) : i ∈ (dst (writer c b)).view.set ↔ mine c i = b := by
  rw [mem_dst]
  have h : ∀ (c : Dev nD) (b : Bool) (x : Fin 2), (x = me (writer c b)) = ((x.val == c.val % 2) = b) := by decide
  exact iff_of_eq (h c b (i 0))

/-! ## Contents -/

variable (m : (ℓ : Loc nD τ sig) → Buf (Elt F) ℓ) (g : Dev nD → PrngReg)

/-- A device's half at the start, and what it ends up with: both cores' halves. -/
abbrev given (c : Dev nD) : Buf (Elt F) ((c : Thread nD τ).loc main_arg0) := m ((c : Thread nD τ).loc main_arg0)
def shared (c : Dev nD) : Buf (Elt F) ((c : Thread nD τ).loc main_v1) :=
  fun i => given m (core (i 0) c) (ix2 (i 1) (i 2) : S23760x128.Idx)

theorem shared_read (c d : Dev nD) (h : core (me c) d = c) :
    (dst c).view.read (Elt F) (shared m d) = src.view.read (Elt F) (given m c) := by
  funext x
  have e : shared m d (ix3 (me c) (x 0) (x 1) : S2x23760x128.Idx) = given m c (ix2 (x 0) (x 1) : S23760x128.Idx) := by
    show given m (core (me c) d) _ = _
    rw [h]
    rfl
  rw [eq_ix2 x]
  exact (congrArg (shared m d) (dst_emb c (x 0) (x 1))).trans e

/-! ## The plan: the send's semaphore, the receive's, the local copy's -/

abbrev In := Fin 3

/-- The semaphore the sibling credits. -/
def far : Finset In := {1}

/-- What the copy of a half counts. -/
def credit : ℕ := src.view.dmaCredit
theorem credit_dst (c : Dev nD) : (dst c).view.dmaCredit = credit := rfl

/-- The elements a semaphore's wait gives back. -/
abbrev got (c : Dev nD) : In → sProp 𝕄
  | 0 => (c : Thread nD τ).loc main_arg0 ↦[src.view.set]{fullShare.left} given m c
  | 1 => (c : Thread nD τ).loc main_v1 ↦[(dst (sib c)).view.set]{fullShare} shared m c
  | 2 => iprop(((c : Thread nD τ).loc main_v1 ↦[(dst c).view.set]{fullShare} shared m c)
      ∗ ((c : Thread nD τ).loc main_arg0 ↦[src.view.set]{fullShare.right} given m c))

def plan : Plan nD τ sig (Elt F) In where
  sem := fun i => .dma (⟨i.val, i.isLt⟩ : Fin 3)
  sem_inj := by decide
  far := far
  peer := fun
    | 1 => sib
    | _ => id
  peer_peer := fun i c => by
    match i with
    | 0 => rfl
    | 1 => exact sib_sib c
    | 2 => rfl
  amt := fun _ => credit
  amt_pos := fun _ => View.dmaCredit_pos src.view (by decide)
  lvl := fun
    | 1 => 1
    | _ => 0
  pay := got m
  pay_storable := fun c i => by
    match i with
    | 0 => exact inferInstanceAs (BI.Storable _ (got m c 0))
    | 1 => exact inferInstanceAs (BI.Storable _ (got m c 1))
    | 2 => exact inferInstanceAs (BI.Storable _ (got m c 2))

/-- What a device holds at the start: the piece of its result that its sibling writes; its half, and the other piece. -/
abbrev land (c : Dev nD) : In → sProp 𝕄
  | 1 => (c : Thread nD τ).loc main_v1 ↦[(dst (sib c)).view.set]{fullShare} m ((c : Thread nD τ).loc main_v1)
  | _ => iprop(emp)
abbrev keep (c : Dev nD) : sProp 𝕄 :=
  iprop(((c : Thread nD τ).loc main_arg0 ↦{fullShare} given m c)
    ∗ ((c : Thread nD τ).loc main_v1 ↦[(dst c).view.set]{fullShare} m ((c : Thread nD τ).loc main_v1)))

/-- What it holds at the end. -/
abbrev fin (c : Dev nD) : sProp 𝕄 :=
  iprop(((c : Thread nD τ).loc main_arg0 ↦{fullShare} given m c) ∗ ((c : Thread nD τ).loc main_v1 ↦{fullShare} shared m c))

/-- The result is the two places of it. -/
theorem whole_dst (c : Dev nD) (f : Buf (Elt F) ((c : Thread nD τ).loc main_v1)) :
    ((c : Thread nD τ).loc main_v1 ↦{fullShare} f : sProp 𝕄)
      = iprop(((c : Thread nD τ).loc main_v1 ↦[(dst c).view.set]{fullShare} f) ∗ ((c : Thread nD τ).loc main_v1 ↦[(dst (sib c)).view.set]{fullShare} f)) := by
  rw [pieces fullShare f (fun b : Bool => (dst (writer c b)).view.set) (mine c) (mem_writer c),
    bigSep_univ_eq_bigSepL [true, false] (by decide) (by decide)]
  rfl

/-- A half is two shares of it. -/
theorem shares (c : Dev nD) : ((c : Thread nD τ).loc main_arg0 ↦{fullShare} given m c : sProp 𝕄)
    ⊣⊢ iprop(((c : Thread nD τ).loc main_arg0 ↦[src.view.set]{fullShare.left} given m c) ∗ ((c : Thread nD τ).loc main_arg0 ↦[src.view.set]{fullShare.right} given m c)) := by
  rw [show src.view.set = Finset.univ from View.set_whole _]
  exact pointsTo_share (PosShare.mem_left_op_right fullShare)

theorem over_far (Φ : In → sProp 𝕄) : bigSep far Φ = Φ 1 :=
  bigSep_eq_bigSepL_of_eq [1] (by decide) (by decide) Φ
theorem over (Φ : In → sProp 𝕄) : bigSep Finset.univ Φ = iprop(Φ 0 ∗ Φ 1 ∗ Φ 2) :=
  bigSep_univ_eq_bigSepL (I := In) [0, 1, 2] (by decide) (by decide) Φ

theorem bufs (c : Dev nD) : unscopedBufs c (fun b => m ((c : Thread nD τ).loc b))
    ⊢ iprop((bigSep (plan m).far fun i => land m c i) ∗ keep m c ∗ emp) := by
  rw [show (unscopedBufs c (fun b => m ((c : Thread nD τ).loc b)) : sProp 𝕄)
      = iprop(((c : Thread nD τ).loc main_arg0 ↦{fullShare} given m c) ∗ ((c : Thread nD τ).loc main_v1 ↦{fullShare} m ((c : Thread nD τ).loc main_v1))) from
    bigSep_eq_bigSepL_of_eq [main_arg0, main_v1] (by decide) (by decide) _,
    whole_dst, show (plan m).far = far from rfl, over_far]
  iintro ⟨Ha, Hm, Hs⟩
  isplitl [Hs]; · iexact Hs
  isplitl [Ha Hm]
  · isplitl [Ha] <;> iassumption
  iempintro

section

variable {Λ : Labels} (defs : Defs nD τ sig (Elt F) Λ) (𝒱 : Variants) (bd : Option 𝒱.V) (K : Dev nD × In → ℕ)

/-- The start of the copy into the core's own result. -/
theorem copy (c : Dev nD)
    {hsrc : src.view.WordExact} {hdst : (dst c).view.WordExact} {hsem : DmaTarget.Typed (nD := nD) (p := (c : Thread nD τ).2) .hbm ((plan m).sem 2) (.here (dst c))}
    {α : Type} {Q : α → sProp 𝕄} {k : PUnit → Prog (TpuEff nD τ sig (Elt F) Λ .tc) α} :
    iprop((plan m).records K ∗ ((c : Thread nD τ).loc main_arg0 ↦[src.view.set]{fullShare.right} given m c)
        ∗ ((c : Thread nD τ).loc main_v1 ↦[(dst c).view.set]{fullShare} m ((c : Thread nD τ).loc main_v1)) ∗ (plan m).tok c 2)
      ⊢ iprop(((plan m).due c 2 -∗ wp frame (wpE defs 𝒱 (c : Thread nD τ) bd) Set.univ (k ⟨⟩) Q)
          -∗ wp frame (wpE defs 𝒱 (c : Thread nD τ) bd) Set.univ (.op (.enqueueDma src (.here (dst c)) ((plan m).sem 2) hsrc hdst hsem) k) Q) := by
  have hL : ((dst c).view.loc (c : Thread nD τ) ↦[(dst c).view.set]{fullShare}
      (dst c).view.write (Elt F) (m ((c : Thread nD τ).loc main_v1)) (src.view.read (Elt F) (given m c)) Finset.univ : sProp 𝕄)
      ⊢ ((c : Thread nD τ).loc main_v1 ↦[(dst c).view.set]{fullShare} shared m c) :=
    Entails.of_eq (landed (c : Thread nD τ) (dst c).view fullShare _ (shared m c) _ (shared_read m c c (core_me c)))
  have hP : iprop(((dst c).view.loc (c : Thread nD τ) ↦[(dst c).view.set]{fullShare}
      (dst c).view.write (Elt F) (m ((c : Thread nD τ).loc main_v1)) (src.view.read (Elt F) (given m c)) Finset.univ)
      ∗ (src.view.loc (c : Thread nD τ) ↦[src.view.set]{fullShare.right} given m c)) ⊢ (plan m).pay c 2 := by
    show _ ⊢ iprop(((c : Thread nD τ).loc main_v1 ↦[(dst c).view.set]{fullShare} shared m c)
      ∗ ((c : Thread nD τ).loc main_arg0 ↦[src.view.set]{fullShare.right} given m c))
    iintro ⟨H, H'⟩
    isplitl [H]
    · iapply hL; iexact H
    · iexact H'
  have hN : (dst c).view.amount ((plan m).sem 2) = (plan m).amt 2 := credit_dst c
  exact (plan m).wp_copy_here defs 𝒱 bd K c 2 rfl (src := src) (dst := dst c) (hsrc := hsrc) (hdst := hdst) (hsem := hsem) rfl hN (Q := Q) (k := k)
    fullShare.right (given m c) (m ((c : Thread nD τ).loc main_v1)) hP

/-- The start of the copy into the sibling's. -/
theorem put (c : Dev nD) (n : Dev nD) (hn : n = sib c)
    {hsc : (dst c).view.ref.isScScratch = false} {hsrc : src.view.WordExact} {hdst : (dst c).view.WordExact}
    {hsem : DmaTarget.Typed .hbm ((plan m).sem 1) (.remote (Dev.tc n : Thread nD τ) (dst c) ((plan m).sem 0) hsc)}
    {α : Type} {Q : α → sProp 𝕄} {k : PUnit → Prog (TpuEff nD τ sig (Elt F) Λ .tc) α} :
    iprop((plan m).records K ∗ ((c : Thread nD τ).loc main_arg0 ↦[src.view.set]{fullShare.left} given m c) ∗ land m (sib c) 1
        ∗ (plan m).owing c far ∗ (plan m).tok c 0 ∗ (plan m).tok c 1)
      ⊢ iprop((((plan m).due c 0 ∗ (plan m).owing c ∅) -∗ wp frame (wpE defs 𝒱 (c : Thread nD τ) bd) Set.univ (k ⟨⟩) Q)
          -∗ wp frame (wpE defs 𝒱 (c : Thread nD τ) bd) Set.univ
            (.op (.enqueueDma src (.remote (Dev.tc n : Thread nD τ) (dst c) ((plan m).sem 0) hsc) ((plan m).sem 1) hsrc hdst hsem) k) Q) := by
  subst hn
  have hS : (src.view.loc (c : Thread nD τ) ↦[src.view.set]{fullShare.left} given m c : sProp 𝕄) ⊢ (plan m).pay c 0 := .rfl
  have hR : ((dst c).view.loc (sib c : Thread nD τ) ↦[(dst c).view.set]{fullShare}
      (dst c).view.write (Elt F) (m ((sib c : Thread nD τ).loc main_v1)) (src.view.read (Elt F) (given m c)) Finset.univ : sProp 𝕄)
      ⊢ (plan m).pay (sib c) 1 := by
    show _ ⊢ ((sib c : Thread nD τ).loc main_v1 ↦[(dst (sib (sib c))).view.set]{fullShare} shared m (sib c) : sProp 𝕄)
    rw [sib_sib]
    exact Entails.of_eq (landed (sib c : Thread nD τ) (dst c).view fullShare _ (shared m (sib c)) _ (shared_read m c (sib c) (core_sib c)))
  have hN : (dst c).view.amount ((plan m).sem 1) = (plan m).amt 1 := credit_dst c
  have h := (plan m).wp_put defs 𝒱 bd K c 1 0 far (by decide) (sib c) rfl rfl rfl (src := src) (dst := dst c) (hsc := hsc) (hsrc := hsrc) (hdst := hdst) (hsem := hsem) rfl rfl hN (Q := Q) (k := k) fullShare.left (given m c) (m ((sib c : Thread nD τ).loc main_v1)) hS hR
  rw [show far.erase 1 = ∅ by decide] at h
  show iprop((plan m).records K ∗ ((c : Thread nD τ).loc main_arg0 ↦[src.view.set]{fullShare.left} given m c)
    ∗ ((sib c : Thread nD τ).loc main_v1 ↦[(dst (sib (sib c))).view.set]{fullShare} m ((sib c : Thread nD τ).loc main_v1))
    ∗ (plan m).owing c far ∗ (plan m).tok c 0 ∗ (plan m).tok c 1) ⊢ _
  rw [sib_sib]
  exact h

/-- The waits: for the send, for the sibling's, for the copy here. -/
theorem take_sent (c : Dev nD) {hd : (dst c).view.WordExact} {hs : src.view.WordExact}
    {α : Type} {Q : α → sProp 𝕄} {k : PUnit → Prog (TpuEff nD τ sig (Elt F) Λ .tc) α} :
    iprop((plan m).records K ∗ levAts Plan.L (plan m).lev ∗ (plan m).due c 0 ∗ (plan m).owing c ∅ ∗ (plan m).pos c 0)
      ⊢ iprop((((plan m).owing c ∅ ∗ (plan m).pay c 0 ∗ semVal ((plan m).cell c 0) 0) -∗ wp frame (wpE defs 𝒱 (c : Thread nD τ) bd) Set.univ (k ⟨⟩) Q)
          -∗ wp frame (wpE defs 𝒱 (c : Thread nD τ) bd) Set.univ (.op (.waitDma2 (0 : Fin 3) (dst c) src hd hs) k) Q) :=
  (plan m).wp_take defs 𝒱 bd K c 0 ∅ (by simp) (src := dst c) (dst := src) (hsrc := hd) (hdst := hs) rfl rfl (Q := Q) (k := k)

theorem take_got (c : Dev nD) {hd : (dst c).view.WordExact} {hs : src.view.WordExact}
    {α : Type} {Q : α → sProp 𝕄} {k : PUnit → Prog (TpuEff nD τ sig (Elt F) Λ .tc) α} :
    iprop((plan m).records K ∗ levAts Plan.L (plan m).lev ∗ (plan m).due c 1 ∗ (plan m).owing c ∅ ∗ (plan m).pos c 1)
      ⊢ iprop((((plan m).owing c ∅ ∗ (plan m).pay c 1 ∗ semVal ((plan m).cell c 1) 0) -∗ wp frame (wpE defs 𝒱 (c : Thread nD τ) bd) Set.univ (k ⟨⟩) Q)
          -∗ wp frame (wpE defs 𝒱 (c : Thread nD τ) bd) Set.univ (.op (.waitDma2 (1 : Fin 3) src (dst c) hs hd) k) Q) :=
  (plan m).wp_take defs 𝒱 bd K c 1 ∅ (by simp) (src := src) (dst := dst c) (hsrc := hs) (hdst := hd) rfl (credit_dst c) (Q := Q) (k := k)

theorem take_here (c : Dev nD) {hd : (dst c).view.WordExact} {hs : src.view.WordExact}
    {α : Type} {Q : α → sProp 𝕄} {k : PUnit → Prog (TpuEff nD τ sig (Elt F) Λ .tc) α} :
    iprop((plan m).records K ∗ levAts Plan.L (plan m).lev ∗ (plan m).due c 2 ∗ (plan m).owing c ∅ ∗ (plan m).pos c 2)
      ⊢ iprop((((plan m).owing c ∅ ∗ (plan m).pay c 2 ∗ semVal ((plan m).cell c 2) 0) -∗ wp frame (wpE defs 𝒱 (c : Thread nD τ) bd) Set.univ (k ⟨⟩) Q)
          -∗ wp frame (wpE defs 𝒱 (c : Thread nD τ) bd) Set.univ (.op (.waitDma2 (2 : Fin 3) src (dst c) hs hd) k) Q) :=
  (plan m).wp_take defs 𝒱 bd K c 2 ∅ (by simp) (src := src) (dst := dst c) (hsrc := hs) (hdst := hd) rfl (credit_dst c) (Q := Q) (k := k)

end

/-- What the waits give back makes the half and the result whole. -/
theorem back (c : Dev nD) : iprop((plan m).pay c 0 ∗ (plan m).pay c 1 ∗ (plan m).pay c 2) ⊢ fin m c := by
  show iprop(((c : Thread nD τ).loc main_arg0 ↦[src.view.set]{fullShare.left} given m c)
    ∗ ((c : Thread nD τ).loc main_v1 ↦[(dst (sib c)).view.set]{fullShare} shared m c)
    ∗ ((c : Thread nD τ).loc main_v1 ↦[(dst c).view.set]{fullShare} shared m c)
      ∗ ((c : Thread nD τ).loc main_arg0 ↦[src.view.set]{fullShare.right} given m c)) ⊢ fin m c
  unfold fin
  rw [whole_dst c (shared m c)]
  iintro ⟨A, Hs, Hm, B⟩
  isplitl [A B]
  · iapply (shares m c).2
    isplitl [A] <;> iassumption
  · isplitl [Hm] <;> iassumption

set_option maxHeartbeats 1600000 in
/-- The kernel's run on device `c`. -/
theorem body (c : Dev nD) (t : Fin cfg0.N) :
    iprop((levAts Plan.L (plan m).lev ∗ (plan m).start (land m) (keep m) c) ∗ (plan m).owing c (plan m).far)
      ⊢ wp frame (wpE (defs₀ (F := F)) Variants.none (c : Thread nD τ) none) Set.univ (bodyAt0 (F := F) t)
          (fun _ => iprop((fin m c ∗ bigSep Finset.univ fun i => semVal ((plan m).cell c i) 0) ∗ (plan m).owing c ∅)) := by
  unfold bodyAt0 Plan.start
  rw [cc0_rs_share_halves_eq_skeleton]
  unfold cc0_rs_share_halves_skel
  simp only [k0_part1_eq_skeleton]
  unfold k0_part1_skel
  simp only [Prog.lift, Prog.bind_op, Prog.bind_ret, Prog.pure_eq_ret, wp_deviceId]
  rw [show (plan m).far = far from rfl]
  simp only [over, over_far]
  iintro ⟨⟨#Hlev, ⟨%K, #HK⟩, ⟨P0, P1, P2⟩, ⟨T0, T1, T2⟩, D1, L1, Ha, Hm⟩, HO⟩
  ihave Ha := (shares m c).1 $$ Ha
  icases Ha with ⟨A, B⟩
  iapply (copy m _ _ _ K c) $$ [B Hm T2]
  · isplitr; · iexact HK
    isplitl [B]; · iexact B
    isplitl [Hm] <;> iassumption
  iintro D2
  iapply (put m _ _ _ K c _ (dev1_eq c)) $$ [A L1 HO T0 T1]
  · isplitr; · iexact HK
    isplitl [A]; · iexact A
    isplitl [L1]; · iexact L1
    isplitl [HO]; · iexact HO
    isplitl [T0] <;> iassumption
  iintro ⟨D0, HO⟩
  iapply (take_sent m _ _ _ K c) $$ [D0 HO P0]
  · isplitr; · iexact HK
    isplitr; · iexact Hlev
    isplitl [D0]; · iexact D0
    isplitl [HO] <;> iassumption
  iintro ⟨HO, G0, V0⟩
  iapply (take_got m _ _ _ K c) $$ [D1 HO P1]
  · isplitr; · iexact HK
    isplitr; · iexact Hlev
    isplitl [D1]; · iexact D1
    isplitl [HO] <;> iassumption
  iintro ⟨HO, G1, V1⟩
  iapply (take_here m _ _ _ K c) $$ [D2 HO P2]
  · isplitr; · iexact HK
    isplitr; · iexact Hlev
    isplitl [D2]; · iexact D2
    isplitl [HO] <;> iassumption
  iintro ⟨HO, G2, V2⟩
  rw [wp_ret]
  imodintro
  isplitr [HO]
  · isplitr [V0 V1 V2]
    · iapply (back m c)
      isplitl [G0]; · iexact G0
      isplitl [G1] <;> iassumption
    · isplitl [V0]; · iexact V0
      isplitl [V1] <;> iassumption
  · iexact HO

/-! ## The program's run -/

instance noWindows (p : Fin 1) : IsEmpty (Fin (pcfgs (F := F) p).W) := by
  match p with
  | 0 => exact Fin.isEmpty

theorem all_scoped : ∀ sm : SemLoc sig, sm.isScoped .tc = true := by decide

theorem semFacts : Pipeline.OwnSemFacts (pcfgs (F := F) 0).spec (plan m).sem := ⟨fun k => all_scoped _, (plan m).sem_inj, fun _ w => w.elim0⟩

theorem run_main [∀ e, Nonempty (Elt F e)] :
    θ_run (defs (F := F)) (onTc main) ⟨m, fun _ => 0, g⟩ (fun r => (∀ c : Dev nD, r.2.mem ((c : Thread nD τ).loc main_arg0) = given m c
      ∧ r.2.mem ((c : Thread nD τ).loc main_v1) = shared m c) ∧ r.2.sem = fun _ => 0) :=
  Plan.run_alone (plan m) pcfgs (fun _ p => (cfgs p).toPCfg_adm) (fun ⟨p, _, w, _⟩ => (noWindows (F := F) p).elim w) winFacts0.to₀ (semFacts m) noWindows rfl (fun _ => N_0) defs₀ Variants.none
    (fun c => scopedRest0_eq c) m g main (fun _ => rfl) (land m) (keep m) (fin m) (fun _ => iprop(emp)) (bufs m) (body m) all_scoped
    (fun c mem => mem.mem ((c : Thread nD τ).loc main_arg0) = given m c ∧ mem.mem ((c : Thread nD τ).loc main_v1) = shared m c)
    (fun c s' => two_read s' _ _)

end Cert.ShareIdeal

end
-- ==== Proof.ShareValue.lean ====
/-
# What the two cores of a chip have to share, read off the reference

The reference is the whole array of halves, one for each core. Its result is read at an index here, and a chip's two
blocks of it are found to be what each of the chip's cores ends up with.
-/
module

public import proofs.«01_k».proof.Proof.Share
public import proofs.«01_k».proof.Proof.Gen.ShareReferenceIdeal.Run
public import Idealize.ShloMosaic.Lib.Pipeline.Value

@[expose] public section

set_option maxRecDepth 65536

noncomputable section

namespace Cert.ShareValue

open Idealize.ShloMosaic
open Idealize.ShloMosaic.ValueIdx
open Idealize.ShloMosaic.TcCoe
open Idealize.SL.Sem
open Cert.ShareReferenceIdeal Cert.ShareReferenceIdeal.Gen

variable {α : Type}

/-- The reference's result: every core's half, by core. -/
abbrev result (x : S190080x128.Idx → α) : S8x23760x128.Idx → α :=
  shapeCast S8x23760x128 x shapeCasts_S190080x128_S8x23760x128

theorem result_apply (x : S190080x128.Idx → α) (k : Fin 8) (r : Fin 23760) (l : Fin 128) :
    result x (ix3 k r l) = x (ix2 (⟨k.val * 23760 + r.val, by omega⟩ : Fin 190080) l) := by
  refine shapeCast_apply x _ _ _ ?_
  rw [Shape.rowMajor_val_two, Shape.rowMajor_val_three]
  rfl

theorem tiles_arg : Layout.Tiles ShareIdeal.S23760x128 S190080x128 0 8 := by decide

/-- Where a chip's blocks lie: two for each chip, along the first axis. -/
abbrev cuts : Fin 3 → List ℕ := ![[0, 1], [], []]
theorem tiles : Layout.TilesN ShareIdeal.S2x23760x128 S8x23760x128 (fun b => Layout.cutSize [2, 2, 2] (cuts b)) := by decide
abbrev chipAt (c : Fin 8) : (b : Fin 3) → Fin (Layout.cutSize [2, 2, 2] (cuts b)) := Layout.meshBlock [2, 2, 2] cuts c

theorem whole_axis (n r : ℕ) : 0 * n + r = r := by rw [Nat.zero_mul, Nat.zero_add]

theorem idx_res (c : Fin 8) (k : Fin 2) (r : Fin 23760) (l : Fin 128) :
    tiles.idx (chipAt c) (ix3 k r l) = ix3 (⟨2 * (c.val / 2) + k.val, by omega⟩ : Fin 8) r l := by
  have h0 : ∀ (c : Fin 8) (k : Fin 2), Layout.meshLin [2, 2, 2] c.val [0, 1] * 2 + k.val = 2 * (c.val / 2) + k.val := by decide
  funext a
  match a with
  | ⟨0, _⟩ => exact Fin.ext ((tiles.idx_val (chipAt c) (ix3 k r l) 0).trans (h0 c k))
  | ⟨1, _⟩ => exact Fin.ext ((tiles.idx_val (chipAt c) (ix3 k r l) 1).trans (whole_axis 23760 r.val))
  | ⟨2, _⟩ => exact Fin.ext ((tiles.idx_val (chipAt c) (ix3 k r l) 2).trans (whole_axis 128 l.val))

theorem idx_arg (c : Fin 8) (r : Fin 23760) (l : Fin 128) :
    tiles_arg.idx c (ix2 r l) = ix2 (⟨c.val * 23760 + r.val, by omega⟩ : Fin 190080) l := by
  funext a
  match a with
  | ⟨0, _⟩ => rfl
  | ⟨1, _⟩ => rfl

variable {F : FTy → Type} [FloatOps F]

theorem shared_apply (m : (ℓ : Loc ShareIdeal.nD ShareIdeal.τ ShareIdeal.sig) → Buf (Elt F) ℓ) (c : Dev ShareIdeal.nD)
    (k : Fin 2) (r : Fin 23760) (l : Fin 128) :
    ShareIdeal.shared m c (ix3 k r l : ShareIdeal.S2x23760x128.Idx)
      = ShareIdeal.given m (ShareIdeal.core k c) (ix2 r l : ShareIdeal.S23760x128.Idx) := rfl

/-- From an array cut among the devices, each ends up with its chip's blocks of the reference's result. -/
theorem shared_block (m : (ℓ : Loc ShareIdeal.nD ShareIdeal.τ ShareIdeal.sig) → Buf (Elt F) ℓ) (x : S190080x128.Idx → Elt F .f32)
    (h : ∀ c, ShareIdeal.given m c = Layout.block ShareIdeal.S23760x128 S190080x128 0 8 c x tiles_arg) (c : Dev ShareIdeal.nD) :
    ShareIdeal.shared m c = Layout.blockN ShareIdeal.S2x23760x128 S8x23760x128 (chipAt c) (result x) tiles := by
  have one (k : Fin 2) (r : Fin 23760) (l : Fin 128) : ShareIdeal.shared m c (ix3 k r l : ShareIdeal.S2x23760x128.Idx)
      = Layout.blockN ShareIdeal.S2x23760x128 S8x23760x128 (chipAt c) (result x) tiles (ix3 k r l : ShareIdeal.S2x23760x128.Idx) := by
    have h1 := shared_apply m c k r l
    have h2 := congrFun (h (ShareIdeal.core k c)) (ix2 r l)
    have h3 := congrArg x (idx_arg (ShareIdeal.core k c) r l)
    have h4 := (result_apply x (ShareIdeal.core k c) r l).symm
    have h5 := congrArg (result x) (idx_res c k r l).symm
    have h6 := (Layout.blockN_apply (chipAt c) (result x) tiles (ix3 k r l)).symm
    exact h1.trans (h2.trans (h3.trans (h4.trans (h5.trans h6))))
  refine funext fun (i : ShareIdeal.S2x23760x128.Idx) => ?_
  rw [eq_ix3 i]
  exact one (i 0) (i 1) (i 2)

end Cert.ShareValue

end
-- ==== Proof.Words.lean ====
/-
# The word of a table

A one-word table that names one of `n` is between 0 and `n`: the two signed comparisons of the precondition say so.
-/
module

public import proofs.«01_k».proof.Defs
public import Idealize.ShloMosaic.Lib.Pipeline.ValueKit

@[expose] public section

namespace Cert.Words

open Idealize.ShloMosaic

/-- A table of one word has one position. -/
theorem only {d : Fin 1 → Nat} (h : d 0 = 1) (i j : (⟨1, d⟩ : Shape).Idx) : i = j := by
  funext a
  obtain rfl : a = 0 := Subsingleton.elim _ _
  have hi := (i 0).isLt
  have hj := (j 0).isLt
  have h' : (⟨1, d⟩ : Shape).size 0 = 1 := h
  exact Fin.ext (by omega)

/-- A word not below 0 and below `n`, both as signed words, is below `n`. -/
theorem below {w n : BitVec 32} (hn : n.toNat < 2 ^ 31)
    (h : IntOp.andi (IntOp.cmpi .sge w 0#32) (IntOp.cmpi .slt w n) = 1#1) : w.toNat < n.toNat := by
  have both : ∀ a b : BitVec 1, IntOp.andi a b = 1#1 → a = 1#1 ∧ b = 1#1 := by decide
  have one : ∀ b : Bool, BitVec.ofBool b = 1#1 → b = true := by decide
  obtain ⟨h0, h1⟩ := both _ _ h
  have h0 : (0#32).toInt ≤ w.toInt := of_decide_eq_true (one _ h0)
  have h1 : w.toInt < n.toInt := of_decide_eq_true (one _ h1)
  have hz : (0#32).toInt = 0 := rfl
  have hw := BitVec.toInt_eq_toNat_cond w
  have hn' := BitVec.toInt_eq_toNat_cond n
  have := w.isLt
  split at hw <;> split at hn' <;> omega

end Cert.Words
-- ==== Proof.AddSiblingValue.lean ====
/-
# The addition of the other core's rows

The table's word names the core. A grid point reads 2160 rows of the core's part of the gradients and the same rows of what
the other core sent, and writes their sum, and the sum rounded; so the results are the sum of the whole arrays.
-/
module

public import proofs.«01_k».proof.Proof.Words
public import proofs.«01_k».proof.Proof.Gen.AddSiblingIdeal.Frame
public import proofs.«01_k».proof.Proof.Gen.AddSiblingReferenceIdeal.Run
public import proofs.«01_k».proof.Proof.Gen.Pre_a_core

@[expose] public section

set_option maxRecDepth 65536

noncomputable section

namespace Cert.AddSiblingIdeal.Total

open Idealize.ShloMosaic Idealize.ShloMosaic.TcCoe Idealize.SL.Sem
open Cert.AddSiblingIdeal Cert.AddSiblingIdeal.Gen Cert.Words

variable {F : FTy → Type} [FloatOps F]

/-- Row `i` of core `k`'s part. -/
def at_ (k : Fin 2) (i : S4x23760x128.Idx) : S4x2x23760x128.Idx := ix4 (i 0) k (i 1) (i 2)

/-- Core `k`'s part and what the other core sent, added; and the sum rounded. -/
def total (k : Fin 2) (g : FVec F S4x2x23760x128 .f32) (r : FVec F S4x23760x128 .bf16) : FVec F S4x23760x128 .f32 :=
  addf (fun i => g (at_ k i)) (extf .f32 r bitsLt_bf16_f32)
def rounded (k : Fin 2) (g : FVec F S4x2x23760x128 .f32) (r : FVec F S4x23760x128 .bf16) : FVec F S4x23760x128 .bf16 :=
  truncf .bf16 (total k g r) bitsLt_bf16_f32

/-- The kernel's lines on a block. -/
def inside (y : S1x2160x128.Idx) : S1x1x2160x128.Idx := ix4 0 0 (y 1) (y 2)

theorem flat (x : Vec F S1x1x2160x128 .f32) (y : S1x2160x128.Idx) :
    shapeCast S1x2160x128 (shapeCast S2160x128 x shapeCasts_S1x1x2160x128_S2160x128) shapeCasts_S2160x128_S1x2160x128 y
      = x (inside y) := by
  refine (shapeCast_addUnit_apply ![2160, 128] _ _ y).trans ((congrArg _ (show (fun a : Fin 2 => y a.succ) = ix2 (n0 := 2160) (n1 := 128) (y 1) (y 2) from funext fun a => by fin_cases a <;> rfl)).trans
    (shapeCast_apply x shapeCasts_S1x1x2160x128_S2160x128 (ix2 (y 1) (y 2)) (inside y) ?_))
  rw [Shape.rowMajor_val_two, Shape.rowMajor_val_four]
  show ((0 * 1 + 0) * 2160 + (y 1).val) * 128 + (y 2).val = (y 1).val * 128 + (y 2).val
  omega

theorem total_lines (x : Vec F S1x1x2160x128 .f32) (r : Vec F S1x2160x128 .bf16) :
    k0_pay2 x r = addf (fun y => x (inside y)) (extf .f32 r bitsLt_bf16_f32) := by
  refine Eq.trans (show _ = addf (shapeCast S1x2160x128 (shapeCast S2160x128 x shapeCasts_S1x1x2160x128_S2160x128) shapeCasts_S2160x128_S1x2160x128)
    (extf .f32 (shapeCast S1x2160x128 (shapeCast S2160x128 r shapeCasts_S1x2160x128_S2160x128) shapeCasts_S2160x128_S1x2160x128) bitsLt_bf16_f32) from rfl) ?_
  rw [shapeCast_shapeCast, funext (flat x)]

theorem rounded_lines (x : Vec F S1x1x2160x128 .f32) (r : Vec F S1x2160x128 .bf16) :
    k0_pay3 x r = truncf .bf16 (k0_pay2 x r) bitsLt_bf16_f32 := rfl

section Grid

variable (m : (ℓ : Loc nD τ sig) → Buf (Elt F) ℓ) (ρ : Dev nD → PrngReg)

/-- The table's word. -/
abbrev word : BitVec 32 := m (((0 : Dev nD).tc : Thread nD τ).loc main_arg2) (ix1 (0 : Fin 1))

/-- The block of the gradients a grid point reads. -/
theorem names (i : grid0.Coords) :
    cc0_transform_0 Facts₀.inb_S1_S1_0 Facts₀.numel1_S1 (tbl m) i = ![(i 0).val, (word m).toNat, (i 1).val, 0] := by
  have h0 : (BitVec.ofNat 32 (i 0).val).toNat = (i 0).val := Nat.mod_eq_of_lt ((i 0).isLt.trans (by decide))
  have h1 : (BitVec.ofNat 32 (i 1).val).toNat = (i 1).val := Nat.mod_eq_of_lt ((i 1).isLt.trans (by decide))
  have hw : (tbl m).at 0 (Rect.unit (s := S1) ![0] S1.size Facts₀.inb_S1_S1_0) Facts₀.numel1_S1 = word m :=
    congrArg (m (((0 : Dev nD).tc : Thread nD τ).loc main_arg2)) (only rfl _ _)
  show ![(BitVec.ofNat 32 (i 0).val).toNat,
    ((tbl m).at 0 (Rect.unit (s := S1) ![0] S1.size Facts₀.inb_S1_S1_0) Facts₀.numel1_S1 : BitVec 32).toNat,
    (BitVec.ofNat 32 (i 1).val).toNat, 0] = _
  rw [h0, h1, hw]

/-- A word that names a core keeps every block in its array. -/
theorem ok (h : (word m).toNat < 2) : Ok m := fun i => by
  refine ⟨fun a => ?_, .inl rfl⟩
  rw [names]
  have h0 : (i 0).val < 4 := (i 0).isLt
  have h1 : (i 1).val < 11 := (i 1).isLt
  match a with
  | 0 => show ((i 0).val + 1) * 1 ≤ 4; omega
  | 1 => show ((word m).toNat + 1) * 1 ≤ 2; omega
  | 2 => show ((i 1).val + 1) * 2160 ≤ 23760; omega
  | 3 => show (0 + 1) * 128 ≤ 128; omega

/-- The grid point of a row, and the rows of a grid point. -/
def pointOf (i : S4x23760x128.Idx) : Fin grid0.N :=
  ⟨(i 0 : Nat) * 11 + (i 1 : Nat) / 2160, by
    have h0 : (i 0 : Nat) < 4 := (i 0).isLt
    have h1 : (i 1 : Nat) < 23760 := (i 1).isLt
    have e : grid0.N = 44 := by decide +kernel
    omega⟩

theorem coords : ∀ t : Fin grid0.N, (grid0.coords t 0).val = t.val / 11 ∧ (grid0.coords t 1).val = t.val % 11 := by decide +kernel
theorem places : ∀ t : Fin grid0.N, cc0_transform_2 (grid0.coords t) = ![t.val / 11, t.val % 11, 0] := by decide +kernel

abbrev rows (t : Fin grid0.N) : Rect S4x23760x128 :=
  Rect.block S1x2160x128.size (cc0_transform_2 (grid0.coords t)) (Facts₀.hinb0_2 (grid0.coords t))

theorem inside_rows (i : S4x23760x128.Idx) : i ∈ (rows (pointOf i)).set := by
  refine Rect.mem_set_unit.mpr fun (a : Fin 3) => ?_
  rw [places]
  have h0 : (i 0 : Nat) < 4 := (i 0).isLt
  have h1 : (i 1 : Nat) < 23760 := (i 1).isLt
  have h2 : (i 2 : Nat) < 128 := (i 2).isLt
  match a with
  | 0 => show ((i 0 : Nat) * 11 + (i 1 : Nat) / 2160) / 11 * 1 ≤ (i 0 : Nat) ∧ (i 0 : Nat) < ((i 0 : Nat) * 11 + (i 1 : Nat) / 2160) / 11 * 1 + 1; omega
  | 1 => show ((i 0 : Nat) * 11 + (i 1 : Nat) / 2160) % 11 * 2160 ≤ (i 1 : Nat) ∧ (i 1 : Nat) < ((i 0 : Nat) * 11 + (i 1 : Nat) / 2160) % 11 * 2160 + 2160; omega
  | 2 => show 0 * 128 ≤ (i 2 : Nat) ∧ (i 2 : Nat) < 0 * 128 + 128; omega

variable (hO : Ok m) (c : Dev nD)

theorem written₂ (i : S4x23760x128.Idx) : i ∈ (((cfgM m hO).win 2).blk (pointOf i)).view.set := by
  show i ∈ ((View.whole main_v0_0).slice (rows (pointOf i))).set
  rw [View.set_slice_whole]
  exact inside_rows i
theorem written₃ (i : S4x23760x128.Idx) : i ∈ (((cfgM m hO).win 3).blk (pointOf i)).view.set := by
  show i ∈ ((View.whole main_v0_1).slice (rows (pointOf i))).set
  rw [View.set_slice_whole]
  exact inside_rows i

/-- A grid point's block of the gradients is its rows of the core's part. -/
theorem block (k : Fin 2) (hk : (word m).toNat = k.val) (t : Fin (cfgM m hO).N) (y : S1x2160x128.Idx) :
    iblk m hO c 0 t (inside y) = m ((c.tc : Thread nD τ).loc main_arg0) (at_ k ((((cfgM m hO).win 2).blk t).view.emb y)) := by
  refine congrArg (m ((c.tc : Thread nD τ).loc main_arg0)) (funext fun (a : Fin 4) => Fin.ext ?_)
  have e : ((((cfgM m hO).win 0).blk t).view.emb (inside y) a : Nat)
      = cc0_transform_0 Facts₀.inb_S1_S1_0 Facts₀.numel1_S1 (tbl m) (grid0.coords t) a * S1x1x2160x128.size a + 1 * (inside y a : Nat) := rfl
  have e2 : ∀ b : Fin 3, ((((cfgM m hO).win 2).blk t).view.emb y b : Nat)
      = cc0_transform_2 (grid0.coords t) b * S1x2160x128.size b + 1 * (y b : Nat) := fun _ => rfl
  have p := coords t
  have y0 : (y 0 : Nat) < 1 := (y 0).isLt
  refine e.trans ?_
  rw [names]
  match a with
  | 0 =>
    refine Eq.trans ?_ (e2 0).symm
    rw [places]
    show (grid0.coords t 0).val * 1 + 1 * 0 = t.val / 11 * 1 + 1 * (y 0 : Nat)
    omega
  | 1 => show (word m).toNat * 1 + 1 * 0 = k.val; omega
  | 2 =>
    refine Eq.trans ?_ (e2 1).symm
    rw [places]
    show (grid0.coords t 1).val * 2160 + 1 * (y 1 : Nat) = t.val % 11 * 2160 + 1 * (y 1 : Nat)
    omega
  | 3 =>
    refine Eq.trans ?_ (e2 2).symm
    rw [places]
    rfl

theorem left₂ (t : Fin (cfgM m hO).N) : (outsAt0 m hO c t).1 = k0_pay2 (iblk m hO c 0 t) (iblk m hO c 1 t) := by
  unfold outsAt0
  frame_out
  exact congrArg₂ k0_pay2 ((hs0_0 m hO t).read_unread _) ((hs0_1 m hO t).read_unread _)
theorem left₃ (t : Fin (cfgM m hO).N) : (outsAt0 m hO c t).2 = k0_pay3 (iblk m hO c 0 t) (iblk m hO c 1 t) := by
  unfold outsAt0
  frame_out
  exact congrArg₂ k0_pay3 ((hs0_0 m hO t).read_unread _) ((hs0_1 m hO t).read_unread _)

variable (k : Fin 2) (hk : (word m).toNat = k.val)
include hk

theorem added (t : Fin (cfgM m hO).N) : k0_pay2 (iblk m hO c 0 t) (iblk m hO c 1 t)
    = (((cfgM m hO).win 2).blk t).view.read (Elt F)
      (total k (m ((c.tc : Thread nD τ).loc main_arg0)) (m ((c.tc : Thread nD τ).loc main_arg1))) :=
  (total_lines (iblk m hO c 0 t) (iblk m hO c 1 t)).trans
    (congrArg (fun x => addf x (extf .f32 (iblk m hO c 1 t) bitsLt_bf16_f32)) (funext (block m hO c k hk t)))

theorem totals : (dats m hO 0 c).arrAt 2 (cfgM m hO).N
    = total k (m ((c.tc : Thread nD τ).loc main_arg0)) (m ((c.tc : Thread nD τ).loc main_arg1)) := by
  refine (dats m hO 0 c).arrAt_eq_of_cover 2 _ (fun t _ => ?_) fun i => ⟨pointOf i, flush0_2 _ _, written₂ m hO i⟩
  show ((cfgM m hO).win 2).cut (grid0.coords t) ((dats m hO 0 c).after 2 t) = _
  exact congrArg (((cfgM m hO).win 2).cut (grid0.coords t)) ((after0_2 m hO c t).trans ((left₂ m hO c t).trans (added m hO c k hk t)))

theorem roundeds : (dats m hO 0 c).arrAt 3 (cfgM m hO).N
    = rounded k (m ((c.tc : Thread nD τ).loc main_arg0)) (m ((c.tc : Thread nD τ).loc main_arg1)) := by
  refine (dats m hO 0 c).arrAt_eq_of_cover 3 _ (fun t _ => ?_) fun i => ⟨pointOf i, flush0_3 _ _, written₃ m hO i⟩
  show ((cfgM m hO).win 3).cut (grid0.coords t) ((dats m hO 0 c).after 3 t) = _
  exact congrArg (((cfgM m hO).win 3).cut (grid0.coords t)) ((after0_3 m hO c t).trans ((left₃ m hO c t).trans
    (congrArg (fun x : FVec F S1x2160x128 .f32 => truncf .bf16 x bitsLt_bf16_f32) (added m hO c k hk t))))

/-- The run leaves the sum of the named core's part and what the other core sent, and the sum rounded. -/
theorem run : θ_run defs (onTc (τ := τ) (main (F := F))) ⟨m, fun _ => 0, ρ⟩ fun r => ∀ c : Dev nD,
    r.2.mem ((c.tc : Thread nD τ).loc main_v0_0) = total k (m ((c.tc : Thread nD τ).loc main_arg0)) (m ((c.tc : Thread nD τ).loc main_arg1))
    ∧ r.2.mem ((c.tc : Thread nD τ).loc main_v0_1) = rounded k (m ((c.tc : Thread nD τ).loc main_arg0)) (m ((c.tc : Thread nD τ).loc main_arg1)) :=
  have hO := ok m (hk ▸ k.isLt)
  (θ_run defs _ _).mono (fun _ h c => ⟨((h c).1 2).trans (totals m hO c k hk), ((h c).1 3).trans (roundeds m hO c k hk)⟩) (run_main m ρ hO)

end Grid

/-! The precondition, and the reference. -/

theorem core_of_pre (g : FVec F S4x2x23760x128 .f32) (r : FVec F S4x23760x128 .bf16) (w : IVec S1 32)
    (h : Cert.Pre_a_core.fn g r w = fun _ => 1#1) : (w (ix1 0)).toNat < 2 := by
  have e := congrFun h fun a => a.elim0
  have p : ∀ j : Shape.Idx Cert.Pre_a_core.S_, shapeCast Cert.Pre_a_core.S_ w Cert.Pre_a_core.Facts.shapeCasts_S1_S_ j = w (ix1 0) :=
    fun j => congrArg w (only rfl _ _)
  simp only [Cert.Pre_a_core.fn, andi, cmpi, constantI, p] at e
  exact below (n := 2#32) (by decide) e

section Reference

variable (g : FVec F S4x2x23760x128 .f32) (w : IVec S1 32) (r : FVec F S4x23760x128 .bf16)

/-- The reference's choice between the two cores' parts. -/
abbrev chosen : FVec F S4x23760x128 .f32 :=
  select (broadcastInDim S4x23760x128 ![] AddSiblingReferenceIdeal.Facts₀.bcast_S_S4x23760x128 (cmpi .eq (shapeCast _ w AddSiblingReferenceIdeal.Facts₀.shapeCasts_S1_S_) (constantI AddSiblingReferenceIdeal.S_ 32 0#32)))
    (shapeCast _ (extractStridedSlice AddSiblingReferenceIdeal.S4x1x23760x128 ![0, 0, 0, 0] g AddSiblingReferenceIdeal.Facts₀.slices_S4x2x23760x128_S4x1x23760x128_0_0_0_0) AddSiblingReferenceIdeal.Facts₀.shapeCasts_S4x1x23760x128_S4x23760x128)
    (shapeCast _ (extractStridedSlice AddSiblingReferenceIdeal.S4x1x23760x128 ![0, 1, 0, 0] g AddSiblingReferenceIdeal.Facts₀.slices_S4x2x23760x128_S4x1x23760x128_0_1_0_0) AddSiblingReferenceIdeal.Facts₀.shapeCasts_S4x1x23760x128_S4x23760x128)

/-- A core's part, cut out and flattened. -/
theorem part (k : Fin 2) (hs : AddSiblingReferenceIdeal.S4x2x23760x128.Slices ![0, k.val, 0, 0] AddSiblingReferenceIdeal.S4x1x23760x128) (i : S4x23760x128.Idx) :
    shapeCast S4x23760x128 (extractStridedSlice AddSiblingReferenceIdeal.S4x1x23760x128 ![0, k.val, 0, 0] g hs)
      AddSiblingReferenceIdeal.Facts₀.shapeCasts_S4x1x23760x128_S4x23760x128 i = g (at_ k i) := by
  refine (shapeCast_apply _ _ i (ix4 (n0 := 4) (n1 := 1) (n2 := 23760) (n3 := 128) (i 0) 0 (i 1) (i 2)) ?_).trans (extractStridedSlice_apply _ g hs _ (at_ k i) fun (a : Fin 4) => ?_)
  · rw [Shape.rowMajor_val_three, Shape.rowMajor_val_four]
    show (((i 0).val * 1 + 0) * 23760 + (i 1).val) * 128 + (i 2).val = ((i 0).val * 23760 + (i 1).val) * 128 + (i 2).val
    omega
  · match a with
    | 0 => exact (Nat.zero_add _).symm
    | 1 => rfl
    | 2 => exact (Nat.zero_add _).symm
    | 3 => exact (Nat.zero_add _).symm

theorem chosen_named (k : Fin 2) (hk : (w (ix1 0)).toNat = k.val) : chosen g w = fun i => g (at_ k i) := by
  have p : ∀ j : Shape.Idx AddSiblingReferenceIdeal.S_, shapeCast AddSiblingReferenceIdeal.S_ w AddSiblingReferenceIdeal.Facts₀.shapeCasts_S1_S_ j = BitVec.ofNat 32 k.val :=
    fun j => (congrArg w (only rfl _ _)).trans (BitVec.eq_of_toNat_eq (hk.trans (Nat.mod_eq_of_lt (k.isLt.trans (by decide))).symm))
  funext i
  simp only [chosen, select, broadcastInDim, cmpi, constantI, p]
  fin_cases k
  · exact part g 0 AddSiblingReferenceIdeal.Facts₀.slices_S4x2x23760x128_S4x1x23760x128_0_0_0_0 i
  · exact part g 1 AddSiblingReferenceIdeal.Facts₀.slices_S4x2x23760x128_S4x1x23760x128_0_1_0_0 i

/-- The reference leaves the same. -/
theorem reference (m : (ℓ : Loc AddSiblingReferenceIdeal.nD AddSiblingReferenceIdeal.τ AddSiblingReferenceIdeal.sig) → Buf (Elt F) ℓ)
    (ρ : Dev AddSiblingReferenceIdeal.nD → PrngReg) (k : Fin 2)
    (hk : (m (((0 : Dev AddSiblingReferenceIdeal.nD).tc : Thread _ AddSiblingReferenceIdeal.τ).loc AddSiblingReferenceIdeal.main_arg2) (ix1 (0 : Fin 1)) : BitVec 32).toNat = k.val) :
    θ_run AddSiblingReferenceIdeal.defs (onTc (τ := AddSiblingReferenceIdeal.τ) (AddSiblingReferenceIdeal.main (F := F))) ⟨m, fun _ => 0, ρ⟩
      fun r => ∀ c : Dev AddSiblingReferenceIdeal.nD,
        r.2.mem (c.tc.loc AddSiblingReferenceIdeal.main_v8)
          = total k (m (c.tc.loc AddSiblingReferenceIdeal.main_arg0)) (m (c.tc.loc AddSiblingReferenceIdeal.main_arg1))
        ∧ r.2.mem (c.tc.loc AddSiblingReferenceIdeal.main_v9)
          = rounded k (m (c.tc.loc AddSiblingReferenceIdeal.main_arg0)) (m (c.tc.loc AddSiblingReferenceIdeal.main_arg1))
        ∧ r.2.mem (c.tc.loc AddSiblingReferenceIdeal.main_arg0) = m (c.tc.loc AddSiblingReferenceIdeal.main_arg0)
        ∧ r.2.mem (c.tc.loc AddSiblingReferenceIdeal.main_arg1) = m (c.tc.loc AddSiblingReferenceIdeal.main_arg1)
        ∧ r.2.mem (c.tc.loc AddSiblingReferenceIdeal.main_arg2) = m (c.tc.loc AddSiblingReferenceIdeal.main_arg2) :=
  (θ_run AddSiblingReferenceIdeal.defs _ _).mono (fun _ h c => by
      obtain rfl : c = 0 := Subsingleton.elim (α := Fin 1) c 0
      have e := congrArg (fun x : FVec F S4x23760x128 .f32 => addf x (extf (s := S4x23760x128) .f32
        (m ((0 : Dev AddSiblingReferenceIdeal.nD).tc.loc AddSiblingReferenceIdeal.main_arg1)) bitsLt_bf16_f32)) (chosen_named (m ((0 : Dev AddSiblingReferenceIdeal.nD).tc.loc AddSiblingReferenceIdeal.main_arg0)) _ k hk)
      exact ⟨(h 0).1.trans e, (h 0).2.1.trans (congrArg (fun x : FVec F S4x23760x128 .f32 => truncf .bf16 x bitsLt_bf16_f32) e), (h 0).2.2⟩)
    (AddSiblingReferenceIdeal.Value.run (F := F) m ρ)

end Reference

end Cert.AddSiblingIdeal.Total

end
-- ==== Proof.AddPartialsValue.lean ====
/-
# The addition of the other chips' rows

The table's word names the chip. A grid point reads 2160 rows of the chip's part of the partial sums and the same rows of what
the three other chips sent, and writes their sum; so the result is the sum of the whole arrays.
-/
module

public import proofs.«01_k».proof.Proof.Words
public import proofs.«01_k».proof.Proof.Gen.AddPartialsIdeal.Frame
public import proofs.«01_k».proof.Proof.Gen.AddPartialsReferenceIdeal.Run
public import proofs.«01_k».proof.Proof.Gen.Pre_a_chip

@[expose] public section

set_option maxRecDepth 65536

noncomputable section

namespace Cert.AddPartialsIdeal.Total

open Idealize.ShloMosaic Idealize.ShloMosaic.TcCoe Idealize.SL.Sem
open Cert.AddPartialsIdeal Cert.AddPartialsIdeal.Gen Cert.Words

variable {F : FTy → Type} [FloatOps F]

/-- Part `k` of an array of `n` parts. -/
def taken {n A B : Nat} {α : Type} (k : Fin n) (x : (⟨3, ![n, A, B]⟩ : Shape).Idx → α) : (⟨2, ![A, B]⟩ : Shape).Idx → α :=
  fun i => x (ix3 k (i 0) (i 1))

/-- An array and three more, added in turn. -/
def sum4 {S : Shape} (x : FVec F S .f32) (a b c : FVec F S .bf16) : FVec F S .f32 :=
  addf (addf (addf x (extf .f32 a bitsLt_bf16_f32)) (extf .f32 b bitsLt_bf16_f32)) (extf .f32 c bitsLt_bf16_f32)

theorem sum4_congr {S : Shape} {x x' : FVec F S .f32} {a a' b b' c c' : FVec F S .bf16} (hx : x = x') (ha : a = a') (hb : b = b')
    (hc : c = c') : sum4 x a b c = sum4 x' a' b' c' := by
  rw [hx, ha, hb, hc]

/-- Chip `k`'s part and what the other chips sent, added. -/
def total (k : Fin 4) (p : FVec F S4x23760x128 .f32) (r : FVec F S3x23760x128 .bf16) : FVec F S23760x128 .f32 :=
  sum4 (taken k p) (taken 0 r) (taken 1 r) (taken 2 r)

theorem flat {e : Type} (x : S1x2160x128.Idx → e) : shapeCast S2160x128 x shapeCasts_S1x2160x128_S2160x128 = taken (n := 1) 0 x :=
  funext fun y => (shapeCast_dropUnit_apply ![2160, 128] x _ y).trans (congrArg x (funext fun a : Fin 3 => by fin_cases a <;> rfl))

/-- The kernel's lines on a block. -/
theorem lines (x : Vec F S1x2160x128 .f32) (a b c : Vec F S1x2160x128 .bf16) :
    k0_pay1 x a b c = sum4 (S := S2160x128) (taken (n := 1) 0 x) (taken (n := 1) 0 a) (taken (n := 1) 0 b) (taken (n := 1) 0 c) := by
  rw [← flat, ← flat, ← flat, ← flat]; rfl

/-- A load of one part of a block of three. -/
theorem loaded (v : Vec F S3x2160x128 .bf16) (j : Fin 3) (h) :
    taken (n := 1) (A := 2160) (B := 128) 0 (View.ld v (Rect.unit (s := S3x2160x128) ![j.val, 0, 0] ![1, 2160, 128] h)) = taken j v :=
  funext fun y => congrArg v (funext fun (a : Fin 3) => Fin.ext (by
    match a with
    | 0 => show j.val + 1 * 0 = j.val; omega
    | 1 => show 0 + 1 * (y 0).val = (y 0).val; omega
    | 2 => show 0 + 1 * (y 1).val = (y 1).val; omega))

section Grid

variable (m : (ℓ : Loc nD τ sig) → Buf (Elt F) ℓ) (ρ : Dev nD → PrngReg)

/-- The table's word. -/
abbrev word : BitVec 32 := m (((0 : Dev nD).tc : Thread nD τ).loc main_arg2) (ix1 (0 : Fin 1))

/-- The block of the partial sums a grid point reads. -/
theorem names (i : grid0.Coords) :
    cc0_transform_0 Facts₀.inb_S1_S1_0 Facts₀.numel1_S1 (tbl m) i = ![(word m).toNat, (i 0).val, 0] := by
  have h0 : (BitVec.ofNat 32 (i 0).val).toNat = (i 0).val := Nat.mod_eq_of_lt ((i 0).isLt.trans (by decide))
  have hw : (tbl m).at 0 (Rect.unit (s := S1) ![0] S1.size Facts₀.inb_S1_S1_0) Facts₀.numel1_S1 = word m :=
    congrArg (m (((0 : Dev nD).tc : Thread nD τ).loc main_arg2)) (only rfl _ _)
  show ![((tbl m).at 0 (Rect.unit (s := S1) ![0] S1.size Facts₀.inb_S1_S1_0) Facts₀.numel1_S1 : BitVec 32).toNat,
    (BitVec.ofNat 32 (i 0).val).toNat, 0] = _
  rw [h0, hw]

/-- A word that names a chip keeps every block in its array. -/
theorem ok (h : (word m).toNat < 4) : Ok m := fun i => by
  refine ⟨fun a => ?_, .inl rfl⟩
  rw [names]
  have h0 : (i 0).val < 11 := (i 0).isLt
  match a with
  | 0 => show ((word m).toNat + 1) * 1 ≤ 4; omega
  | 1 => show ((i 0).val + 1) * 2160 ≤ 23760; omega
  | 2 => show (0 + 1) * 128 ≤ 128; omega

/-- The grid point of a row, and the rows of a grid point. -/
def pointOf (i : S23760x128.Idx) : Fin grid0.N :=
  ⟨(i 0 : Nat) / 2160, by
    have h0 : (i 0 : Nat) < 23760 := (i 0).isLt
    have e : grid0.N = 11 := by decide +kernel
    omega⟩

theorem coords : ∀ t : Fin grid0.N, (grid0.coords t 0).val = t.val := by decide +kernel
theorem places : ∀ t : Fin grid0.N, cc0_transform_2 (grid0.coords t) = ![t.val, 0] := by decide +kernel
theorem sent : ∀ t : Fin grid0.N, cc0_transform_1 (grid0.coords t) = ![0, t.val, 0] := by decide +kernel

abbrev rows (t : Fin grid0.N) : Rect S23760x128 :=
  Rect.block S2160x128.size (cc0_transform_2 (grid0.coords t)) (Facts₀.hinb0_2 (grid0.coords t))

theorem inside_rows (i : S23760x128.Idx) : i ∈ (rows (pointOf i)).set := by
  refine Rect.mem_set_unit.mpr fun (a : Fin 2) => ?_
  rw [places]
  have h0 : (i 0 : Nat) < 23760 := (i 0).isLt
  have h1 : (i 1 : Nat) < 128 := (i 1).isLt
  match a with
  | 0 => show (i 0 : Nat) / 2160 * 2160 ≤ (i 0 : Nat) ∧ (i 0 : Nat) < (i 0 : Nat) / 2160 * 2160 + 2160; omega
  | 1 => show 0 * 128 ≤ (i 1 : Nat) ∧ (i 1 : Nat) < 0 * 128 + 128; omega

variable (hO : Ok m) (c : Dev nD)

theorem written (i : S23760x128.Idx) : i ∈ (((cfgM m hO).win 2).blk (pointOf i)).view.set := by
  show i ∈ ((View.whole main_v0).slice (rows (pointOf i))).set
  rw [View.set_slice_whole]
  exact inside_rows i

/-- A grid point's block of the partial sums is its rows of the chip's part. -/
theorem block (k : Fin 4) (hk : (word m).toNat = k.val) (t : Fin (cfgM m hO).N) :
    taken (n := 1) 0 (iblk m hO c 0 t) = (((cfgM m hO).win 2).blk t).view.read (Elt F) (taken k (m ((c.tc : Thread nD τ).loc main_arg0))) := by
  refine funext fun (y : S2160x128.Idx) => congrArg (m ((c.tc : Thread nD τ).loc main_arg0)) (funext fun (a : Fin 3) => Fin.ext ?_)
  have e : ((((cfgM m hO).win 0).blk t).view.emb (ix3 (n0 := 1) (n1 := 2160) (n2 := 128) 0 (y 0) (y 1)) a : Nat)
      = cc0_transform_0 Facts₀.inb_S1_S1_0 Facts₀.numel1_S1 (tbl m) (grid0.coords t) a * S1x2160x128.size a
        + 1 * (ix3 (n0 := 1) (n1 := 2160) (n2 := 128) 0 (y 0) (y 1) a : Nat) := rfl
  have e2 : ∀ b : Fin 2, ((((cfgM m hO).win 2).blk t).view.emb y b : Nat)
      = cc0_transform_2 (grid0.coords t) b * S2160x128.size b + 1 * (y b : Nat) := fun _ => rfl
  have p := coords t
  refine e.trans ?_
  rw [names]
  match a with
  | 0 => show (word m).toNat * 1 + 1 * 0 = k.val; omega
  | 1 =>
    refine Eq.trans ?_ (e2 0).symm
    rw [places]
    show (grid0.coords t 0).val * 2160 + 1 * (y 0 : Nat) = t.val * 2160 + 1 * (y 0 : Nat)
    omega
  | 2 =>
    refine Eq.trans ?_ (e2 1).symm
    rw [places]
    rfl

/-- A grid point's block of what a chip sent is its rows of it. -/
theorem block_sent (j : Fin 3) (t : Fin (cfgM m hO).N) :
    taken (n := 3) (A := 2160) (B := 128) j (iblk m hO c 1 t)
      = fun y => taken (n := 3) (A := 23760) (B := 128) (α := F .bf16) j (m ((c.tc : Thread nD τ).loc main_arg1))
        ((((cfgM m hO).win 2).blk t).view.emb y) := by
  refine funext fun (y : S2160x128.Idx) => congrArg (m ((c.tc : Thread nD τ).loc main_arg1)) (funext fun (a : Fin 3) => Fin.ext ?_)
  have e : ((((cfgM m hO).win 1).blk t).view.emb (ix3 (n0 := 3) (n1 := 2160) (n2 := 128) j (y 0) (y 1)) a : Nat)
      = cc0_transform_1 (grid0.coords t) a * S3x2160x128.size a
        + 1 * (ix3 (n0 := 3) (n1 := 2160) (n2 := 128) j (y 0) (y 1) a : Nat) := rfl
  have e2 : ∀ b : Fin 2, ((((cfgM m hO).win 2).blk t).view.emb y b : Nat)
      = cc0_transform_2 (grid0.coords t) b * S2160x128.size b + 1 * (y b : Nat) := fun _ => rfl
  refine e.trans ?_
  rw [sent]
  match a with
  | 0 => show 0 * 3 + 1 * j.val = j.val; omega
  | 1 =>
    refine Eq.trans ?_ (e2 0).symm
    rw [places]
    rfl
  | 2 =>
    refine Eq.trans ?_ (e2 1).symm
    rw [places]
    rfl

theorem left (t : Fin (cfgM m hO).N) : outsAt0 m hO c t
    = sum4 (S := S2160x128) (taken (n := 1) 0 (iblk m hO c 0 t)) (taken (n := 3) (A := 2160) (B := 128) 0 (iblk m hO c 1 t))
      (taken (n := 3) (A := 2160) (B := 128) 1 (iblk m hO c 1 t)) (taken (n := 3) (A := 2160) (B := 128) 2 (iblk m hO c 1 t)) := by
  unfold outsAt0
  frame_out
  rw [lines]
  have e0 := (hs0_0 m hO t).read_unread (iblk m hO c 0 t)
  have e1 := (hs0_1 m hO t).read_unread (iblk m hO c 1 t)
  exact sum4_congr (congrArg (taken (n := 1) 0) e0) ((loaded _ 0 _).trans (congrArg (taken 0) e1))
    ((loaded _ 1 _).trans (congrArg (taken 1) e1)) ((loaded _ 2 _).trans (congrArg (taken 2) e1))

variable (k : Fin 4) (hk : (word m).toNat = k.val)
include hk

theorem totals : (dats m hO 0 c).arrAt 2 (cfgM m hO).N
    = total k (m ((c.tc : Thread nD τ).loc main_arg0)) (m ((c.tc : Thread nD τ).loc main_arg1)) := by
  refine (dats m hO 0 c).arrAt_eq_of_cover 2 _ (fun t _ => ?_) fun i => ⟨pointOf i, flush0_2 _ _, written m hO i⟩
  show ((cfgM m hO).win 2).cut (grid0.coords t) ((dats m hO 0 c).after 2 t) = _
  refine congrArg (((cfgM m hO).win 2).cut (grid0.coords t)) ((after0_2 m hO c t).trans ((left m hO c t).trans ?_))
  exact sum4_congr (block m hO c k hk t) (block_sent m hO c 0 t) (block_sent m hO c 1 t) (block_sent m hO c 2 t)

/-- The run leaves the sum of the named chip's part and what the other chips sent. -/
theorem run : θ_run defs (onTc (τ := τ) (main (F := F))) ⟨m, fun _ => 0, ρ⟩ fun r => ∀ c : Dev nD,
    r.2.mem ((c.tc : Thread nD τ).loc main_v0) = total k (m ((c.tc : Thread nD τ).loc main_arg0)) (m ((c.tc : Thread nD τ).loc main_arg1)) :=
  have hO := ok m (hk ▸ k.isLt)
  (θ_run defs _ _).mono (fun _ h c => ((h c).1 2).trans (totals m hO c k hk)) (run_main m ρ hO)

end Grid

/-! The precondition, and the reference. -/

theorem chip_of_pre (g : FVec F S4x23760x128 .f32) (r : FVec F S3x23760x128 .bf16) (w : IVec S1 32)
    (h : Cert.Pre_a_chip.fn g r w = fun _ => 1#1) : (w (ix1 0)).toNat < 4 := by
  have e := congrFun h fun a => a.elim0
  have p : ∀ j : Shape.Idx Cert.Pre_a_chip.S_, shapeCast Cert.Pre_a_chip.S_ w Cert.Pre_a_chip.Facts.shapeCasts_S1_S_ j = w (ix1 0) :=
    fun j => congrArg w (only rfl _ _)
  simp only [Cert.Pre_a_chip.fn, andi, cmpi, constantI, p] at e
  exact below (n := 4#32) (by decide) e

section Reference

open Cert.AddPartialsReferenceIdeal.Facts₀

/-- A part, cut out and flattened. -/
theorem part {n : Nat} {α : Type} (x : (⟨3, ![n, 23760, 128]⟩ : Shape).Idx → α) (k : Fin n)
    (hs : (⟨3, ![n, 23760, 128]⟩ : Shape).Slices ![k.val, 0, 0] AddPartialsReferenceIdeal.S1x23760x128) :
    shapeCast S23760x128 (extractStridedSlice AddPartialsReferenceIdeal.S1x23760x128 ![k.val, 0, 0] x hs)
      shapeCasts_S1x23760x128_S23760x128 = taken k x := by
  funext i
  refine (shapeCast_apply _ _ i (ix3 (n0 := 1) (n1 := 23760) (n2 := 128) 0 (i 0) (i 1)) ?_).trans
    (extractStridedSlice_apply _ x hs _ (ix3 k (i 0) (i 1)) fun (a : Fin 3) => ?_)
  · rw [Shape.rowMajor_val_three, Shape.rowMajor_val_two]
    show (0 * 23760 + (i 0).val) * 128 + (i 1).val = (i 0).val * 128 + (i 1).val
    omega
  · match a with
    | 0 => rfl
    | 1 => exact (Nat.zero_add _).symm
    | 2 => exact (Nat.zero_add _).symm

variable (p : FVec F S4x23760x128 .f32) (w : IVec S1 32) (r : FVec F S3x23760x128 .bf16)

/-- The reference's choice by the word: the first array where it is `n`, else the second. -/
abbrev choice (n : BitVec 32) (x y : FVec F S23760x128 .f32) : FVec F S23760x128 .f32 :=
  select (broadcastInDim S23760x128 ![] bcast_S_S23760x128 (cmpi .eq (shapeCast _ w shapeCasts_S1_S_) (constantI AddPartialsReferenceIdeal.S_ 32 n))) x y

theorem choice_named (k n : Fin 4) (hk : (w (ix1 0)).toNat = k.val) (x y : FVec F S23760x128 .f32) :
    choice w (BitVec.ofNat 32 n.val) x y = if k = n then x else y := by
  have e : ∀ j : Shape.Idx AddPartialsReferenceIdeal.S_, shapeCast AddPartialsReferenceIdeal.S_ w shapeCasts_S1_S_ j = BitVec.ofNat 32 k.val :=
    fun j => (congrArg w (only rfl _ _)).trans (BitVec.eq_of_toNat_eq (hk.trans (Nat.mod_eq_of_lt (k.isLt.trans (by decide))).symm))
  have c : ∀ k n : Fin 4, IntOp.cmpi .eq (BitVec.ofNat 32 k.val) (BitVec.ofNat 32 n.val) = if k = n then 1#1 else 0#1 := by decide
  funext i
  simp only [choice, select, broadcastInDim, cmpi, constantI, e, c]
  split <;> rfl

/-- The choice among the four parts. -/
theorem chosen (k : Fin 4) (hk : (w (ix1 0)).toNat = k.val) :
    choice w 0#32 (taken 0 p) (choice w 1#32 (taken 1 p) (choice w 2#32 (taken 2 p) (taken 3 p))) = taken k p := by
  rw [show choice w 0#32 = choice w (BitVec.ofNat 32 (0 : Fin 4).val) from rfl, show choice w 1#32 = choice w (BitVec.ofNat 32 (1 : Fin 4).val) from rfl,
    show choice w 2#32 = choice w (BitVec.ofNat 32 (2 : Fin 4).val) from rfl, choice_named w k 0 hk, choice_named w k 1 hk, choice_named w k 2 hk]
  fin_cases k <;> rfl

/-- The reference leaves the same. -/
theorem reference (m : (ℓ : Loc AddPartialsReferenceIdeal.nD AddPartialsReferenceIdeal.τ AddPartialsReferenceIdeal.sig) → Buf (Elt F) ℓ)
    (ρ : Dev AddPartialsReferenceIdeal.nD → PrngReg) (k : Fin 4)
    (hk : (m (((0 : Dev AddPartialsReferenceIdeal.nD).tc : Thread _ AddPartialsReferenceIdeal.τ).loc AddPartialsReferenceIdeal.main_arg2) (ix1 (0 : Fin 1)) : BitVec 32).toNat = k.val) :
    θ_run AddPartialsReferenceIdeal.defs (onTc (τ := AddPartialsReferenceIdeal.τ) (AddPartialsReferenceIdeal.main (F := F))) ⟨m, fun _ => 0, ρ⟩
      fun r => ∀ c : Dev AddPartialsReferenceIdeal.nD,
        r.2.mem (c.tc.loc AddPartialsReferenceIdeal.main_v24)
          = total k (m (c.tc.loc AddPartialsReferenceIdeal.main_arg0)) (m (c.tc.loc AddPartialsReferenceIdeal.main_arg1))
        ∧ r.2.mem (c.tc.loc AddPartialsReferenceIdeal.main_arg0) = m (c.tc.loc AddPartialsReferenceIdeal.main_arg0)
        ∧ r.2.mem (c.tc.loc AddPartialsReferenceIdeal.main_arg1) = m (c.tc.loc AddPartialsReferenceIdeal.main_arg1)
        ∧ r.2.mem (c.tc.loc AddPartialsReferenceIdeal.main_arg2) = m (c.tc.loc AddPartialsReferenceIdeal.main_arg2) :=
  (θ_run AddPartialsReferenceIdeal.defs _ _).mono (fun _ h c => ⟨(h c).1.trans (by
      obtain rfl : c = 0 := Subsingleton.elim (α := Fin 1) c 0
      have q (j : Fin 4) (hs) := part (m ((0 : Dev AddPartialsReferenceIdeal.nD).tc.loc AddPartialsReferenceIdeal.main_arg0)) j hs
      have s (j : Fin 3) (hs) := part (extf (s := S3x23760x128) .f32 (m ((0 : Dev AddPartialsReferenceIdeal.nD).tc.loc AddPartialsReferenceIdeal.main_arg1)) AddPartialsReferenceIdeal.Facts₀.bitsLt_bf16_f32) j hs
      refine congrArg₂ addf (congrArg₂ addf (congrArg₂ addf (Eq.trans ?_ (chosen _ _ k hk)) (s 0 _)) (s 1 _)) (s 2 _)
      exact congrArg₂ (choice _ _) (q 0 _) (congrArg₂ (choice _ _) (q 1 _) (congrArg₂ (choice _ _) (q 2 _) (q 3 _)))), (h c).2⟩)
    (AddPartialsReferenceIdeal.Value.run (F := F) m ρ)

end Reference

end Cert.AddPartialsIdeal.Total

end
-- ==== Proof.Adam.lean ====
/-
# The AdamW update of one element

The update works element by element: from a weight `w`, its gradient `g` and its two moments `m` and `v` it makes the new
moments and the step of the weight. The constants are the float words of the decay rates, of the bias corrections at the
tenth step, of the epsilon, of the weight decay and of the negative learning rate.
-/
module

public import Idealize.ShloMosaic.Lib.Pipeline.Value
public import Idealize.ShloMosaic.Lib.Layout
public import Idealize.ShloMosaic.PureOps.Ideal

@[expose] public section

noncomputable section

namespace Cert.Adam

open Idealize.ShloMosaic

variable {F : FTy → Type} [FloatOps F]

/-- A constant of the update, from its float word. -/
abbrev lit (b : BitVec 32) : F .f32 := FloatOps.ofBits .f32 b

/-- The new first moment: nine tenths of the old one and a tenth of the gradient. -/
def mean (g m : F .f32) : F .f32 :=
  FloatOps.addf (FloatOps.mulf (lit 0x3F666666#32) m) (FloatOps.mulf (lit 0x3DCCCCCD#32) g)

/-- The new second moment: the same for the gradient's square, at a thousandth. -/
def square (g v : F .f32) : F .f32 :=
  FloatOps.addf (FloatOps.mulf (lit 0x3F7FBE77#32) v) (FloatOps.mulf (lit 0x3A83126F#32) (FloatOps.mulf g g))

/-- The step of the weight: the corrected mean over the root of the corrected square, with the weight's decay, scaled. -/
def delta (w g m v : F .f32) : F .f32 :=
  FloatOps.mulf (lit 0xBA83126F#32) (FloatOps.addf
    (FloatOps.divf (FloatOps.divf (mean g m) (lit 0x3F26BD02#32))
      (FloatOps.addf (FloatOps.sqrt (FloatOps.divf (square g v) (lit 0x3C231ACC#32))) (lit 0x322BCC77#32)))
    (FloatOps.mulf (lit 0x3C23D70A#32) w))

/-- The new first moments of an array, -/
def means {S : Shape} (g m : FVec F S .f32) : FVec F S .f32 := fun i => mean (g i) (m i)
/-- its new second moments, -/
def squares {S : Shape} (g v : FVec F S .f32) : FVec F S .f32 := fun i => square (g i) (v i)
/-- and the steps of its weights. -/
def deltas {S : Shape} (w g m v : FVec F S .f32) : FVec F S .f32 := fun i => delta (w i) (g i) (m i) (v i)

/-! An array reshaped, updated and reshaped back is the array updated. -/

variable {S T : Shape} (there : S.ShapeCasts T) (back : T.ShapeCasts S)

theorem means_reshaped (g m : FVec F S .f32) :
    shapeCast S (means (shapeCast T g there) (shapeCast T m there)) back = means g m := by
  refine Eq.trans (show _ = means (shapeCast S (shapeCast T g there) back) (shapeCast S (shapeCast T m there) back) from rfl) ?_
  rw [shapeCast_shapeCast, shapeCast_shapeCast]

theorem squares_reshaped (g v : FVec F S .f32) :
    shapeCast S (squares (shapeCast T g there) (shapeCast T v there)) back = squares g v := by
  refine Eq.trans (show _ = squares (shapeCast S (shapeCast T g there) back) (shapeCast S (shapeCast T v there) back) from rfl) ?_
  rw [shapeCast_shapeCast, shapeCast_shapeCast]

theorem deltas_reshaped (w g m v : FVec F S .f32) :
    shapeCast S (deltas (shapeCast T w there) (shapeCast T g there) (shapeCast T m there) (shapeCast T v there)) back
      = deltas w g m v := by
  refine Eq.trans (show _ = deltas (shapeCast S (shapeCast T w there) back) (shapeCast S (shapeCast T g there) back)
    (shapeCast S (shapeCast T m there) back) (shapeCast S (shapeCast T v there) back) from rfl) ?_
  rw [shapeCast_shapeCast, shapeCast_shapeCast, shapeCast_shapeCast, shapeCast_shapeCast]

/-! The host's lines, which spread each constant over the array, say the same over the extended reals. -/

section Host

open Idealize.ShloMosaic

variable {S : Shape} (h : (⟨0, ![]⟩ : Shape).BroadcastsInDim S ![])

/-- A constant spread over an array. -/
abbrev spread (b : BitVec 32) : FVec Ideal S .f32 := broadcastInDim S ![] h (constant ⟨0, ![]⟩ .f32 b)

theorem means_host (g m : FVec Ideal S .f32) :
    addf (mulf (spread h 0x3F666666#32) m) (mulf (spread h 0x3DCCCCCD#32) g) = means g m := rfl

theorem squares_host (g v : FVec Ideal S .f32) :
    addf (mulf (spread h 0x3F7FBE77#32) v) (mulf (spread h 0x3A83126F#32) (mulf g g)) = squares g v := rfl

theorem deltas_host (w g m v : FVec Ideal S .f32) :
    mulf (spread h 0xBA83126F#32) (addf
      (Host.divf
        (Host.divf (addf (mulf (spread h 0x3F666666#32) m) (mulf (spread h 0x3DCCCCCD#32) g)) (spread h 0x3F26BD02#32))
        (addf (Host.sqrt (Host.divf (addf (mulf (spread h 0x3F7FBE77#32) v) (mulf (spread h 0x3A83126F#32) (mulf g g)))
          (spread h 0x3C231ACC#32))) (spread h 0x322BCC77#32)))
      (mulf (spread h 0x3C23D70A#32) w)) = deltas w g m v := rfl

end Host

/-- The offsets of a whole two-dimensional block. -/
theorem origin : (![0, 0] : Fin 2 → Nat) = fun _ => 0 := funext fun a => by fin_cases a <;> rfl

/-- A position lies in the block of `n` whole rows that its row's quotient by `n` numbers. -/
theorem in_rows {A B : Nat} (i : (⟨2, ![A, B]⟩ : Shape).Idx) {n : Nat} (hn : 0 < n) {start size : Fin 2 → Nat}
    (h : start 0 = (i 0 : Nat) / n * n ∧ size 0 = n ∧ start 1 = 0 ∧ size 1 = B) :
    ∀ a : Fin 2, start a ≤ (i a : Nat) ∧ (i a : Nat) < start a + size a := by
  have h1 : (i 1 : Nat) < B := (i 1).isLt
  have hd := Nat.div_add_mod (i 0 : Nat) n
  have hm := Nat.mod_lt (i 0 : Nat) hn
  rw [Nat.mul_comm] at hd
  refine Fin.forall_fin_two.mpr ⟨?_, ?_⟩
  · rw [h.1, h.2.1]; omega
  · rw [h.2.2.1, h.2.2.2]; omega

/-! Equal arrays have equal updates. -/

section Same

variable {S : Shape} {w g m v W G M V : FVec F S .f32}

theorem means_same (hg : g = G) (hm : m = M) : means g m = means G M := by rw [hg, hm]

theorem squares_same (hg : g = G) (hv : v = V) : squares g v = squares G V := by rw [hg, hv]

theorem deltas_same (hw : w = W) (hg : g = G) (hm : m = M) (hv : v = V) : deltas w g m v = deltas W G M V := by
  rw [hw, hg, hm, hv]

end Same

/-! A part of an array, updated, is the part of the updated array. -/

section Parts

variable {S T : Shape} {k : Fin S.rank → Nat} {h : Layout.TilesN S T k} {at_ : (a : Fin S.rank) → Fin (k a)}
variable {w g m v : FVec F S .f32} {W G M V : FVec F T .f32}

theorem means_part (hg : g = Layout.blockN S T at_ G h) (hm : m = Layout.blockN S T at_ M h) :
    means g m = Layout.blockN S T at_ (means G M) h := by rw [hg, hm]; rfl

theorem squares_part (hg : g = Layout.blockN S T at_ G h) (hv : v = Layout.blockN S T at_ V h) :
    squares g v = Layout.blockN S T at_ (squares G V) h := by rw [hg, hv]; rfl

theorem deltas_part (hw : w = Layout.blockN S T at_ W h) (hg : g = Layout.blockN S T at_ G h)
    (hm : m = Layout.blockN S T at_ M h) (hv : v = Layout.blockN S T at_ V h) :
    deltas w g m v = Layout.blockN S T at_ (deltas W G M V) h := by rw [hw, hg, hm, hv]; rfl

end Parts

end Cert.Adam

end
-- ==== Proof.AdamInValue.lean ====
/-
# The update of the input projection's weights

A grid point reads 256 rows of the four flat arrays and writes the same rows of the three results, so the results are the
update of the whole flat arrays, and reshaped back the update of the chip's part of the weights.
-/
module

public import proofs.«01_k».proof.Proof.Adam
public import proofs.«01_k».proof.Proof.Gen.AdamInIdeal.Frame

@[expose] public section

set_option maxRecDepth 65536

noncomputable section

namespace Cert.AdamInIdeal.Update

open Idealize.ShloMosaic Idealize.ShloMosaic.TcCoe Idealize.SL.Sem
open Cert.AdamInIdeal Cert.AdamInIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S2048x578 .f32 := V m c main_v1
abbrev g (c : Dev nD) : FVec F S2048x578 .f32 := V m c main_v2
abbrev mu (c : Dev nD) : FVec F S2048x578 .f32 := V m c main_v3
abbrev nu (c : Dev nD) : FVec F S2048x578 .f32 := V m c main_v4

/-- The kernel's lines on a block. -/
theorem mean_lines (x y : Vec F S256x578 .f32) : k0_pay2 x y = means x y := by
  unfold k0_pay2 k0_pay1; dsimp only; rw [shapeCast_self, shapeCast_self]; rfl
theorem square_lines (x y : Vec F S256x578 .f32) : k0_pay3 x y = squares x y := by
  unfold k0_pay3 k0_pay1; dsimp only; rw [shapeCast_self, shapeCast_self]; rfl
theorem delta_lines (x y z u : Vec F S256x578 .f32) : k0_pay4 x y z u = deltas u x y z := by
  unfold k0_pay4; dsimp only; rw [shapeCast_self, mean_lines, square_lines]; rfl

/-- The grid point of a row. -/
def pointOf (i : S2048x578.Idx) : Fin grid0.N :=
  ⟨(i 0 : Nat) / 256, (Nat.div_lt_iff_lt_mul (by decide)).mpr ((i 0).isLt.trans_eq (by decide +kernel))⟩

theorem rows (t : Fin grid0.N) : win0_4.index t 0 * win0_4.size 0 = t.val * 256 ∧ win0_4.xsize (grid0.coords t) 0 = 256
    ∧ win0_4.index t 1 * win0_4.size 1 = 0 ∧ win0_4.xsize (grid0.coords t) 1 = 578 := by
  revert t; decide +kernel

theorem written (i : S2048x578.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x1024x578) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x1024x578) (m ((c.tc : Thread nD τ).loc main_arg1)) (m ((c.tc : Thread nD τ).loc main_arg2))
    ∧ r.2.mem ((c.tc : Thread nD τ).loc main_v8)
      = squares (S := S2x1024x578) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x1024x578 · shapeCasts_S2048x578_S2x1024x578) ((left m c 4).trans (steps m c))).trans
      (deltas_reshaped shapeCasts_S2x1024x578_S2048x578 shapeCasts_S2048x578_S2x1024x578 _ _ _ _)
  · exact (congrArg (shapeCast S2x1024x578 · shapeCasts_S2048x578_S2x1024x578) ((left m c 5).trans (firsts m c))).trans
      (means_reshaped shapeCasts_S2x1024x578_S2048x578 shapeCasts_S2048x578_S2x1024x578 _ _)
  · exact (congrArg (shapeCast S2x1024x578 · shapeCasts_S2048x578_S2x1024x578) ((left m c 6).trans (seconds m c))).trans
      (squares_reshaped shapeCasts_S2x1024x578_S2048x578 shapeCasts_S2048x578_S2x1024x578 _ _)

end Cert.AdamInIdeal.Update

end
-- ==== Proof.AdamConvDwValue.lean ====
/-
# The update of the depthwise convolution's weights

A grid point reads 62 rows of the four flat arrays and writes the same rows of the three results, so the results are the
update of the whole flat arrays, and reshaped back the update of the chip's part of the weights.
-/
module

public import proofs.«01_k».proof.Proof.Adam
public import proofs.«01_k».proof.Proof.Gen.AdamConvDwIdeal.Frame

@[expose] public section

set_option maxRecDepth 65536

noncomputable section

namespace Cert.AdamConvDwIdeal.Update

open Idealize.ShloMosaic Idealize.ShloMosaic.TcCoe Idealize.SL.Sem
open Cert.AdamConvDwIdeal Cert.AdamConvDwIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S62x64 .f32 := V m c main_v1
abbrev g (c : Dev nD) : FVec F S62x64 .f32 := V m c main_v2
abbrev mu (c : Dev nD) : FVec F S62x64 .f32 := V m c main_v3
abbrev nu (c : Dev nD) : FVec F S62x64 .f32 := V m c main_v4

/-- The kernel's lines on a block. -/
theorem mean_lines (x y : Vec F S62x64 .f32) : k0_pay2 x y = means x y := by
  unfold k0_pay2 k0_pay1; dsimp only; rw [shapeCast_self, shapeCast_self]; rfl
theorem square_lines (x y : Vec F S62x64 .f32) : k0_pay3 x y = squares x y := by
  unfold k0_pay3 k0_pay1; dsimp only; rw [shapeCast_self, shapeCast_self]; rfl
theorem delta_lines (x y z u : Vec F S62x64 .f32) : k0_pay4 x y z u = deltas u x y z := by
  unfold k0_pay4; dsimp only; rw [shapeCast_self, mean_lines, square_lines]; rfl

/-- The grid point of a row. -/
def pointOf (i : S62x64.Idx) : Fin grid0.N :=
  ⟨(i 0 : Nat) / 62, (Nat.div_lt_iff_lt_mul (by decide)).mpr ((i 0).isLt.trans_eq (by decide +kernel))⟩

theorem rows (t : Fin grid0.N) : win0_4.index t 0 * win0_4.size 0 = t.val * 62 ∧ win0_4.xsize (grid0.coords t) 0 = 62
    ∧ win0_4.index t 1 * win0_4.size 1 = 0 ∧ win0_4.xsize (grid0.coords t) 1 = 64 := by
  revert t; decide +kernel

theorem written (i : S62x64.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x31x64) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x31x64) (m ((c.tc : Thread nD τ).loc main_arg1)) (m ((c.tc : Thread nD τ).loc main_arg2))
    ∧ r.2.mem ((c.tc : Thread nD τ).loc main_v8)
      = squares (S := S2x31x64) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x31x64 · shapeCasts_S62x64_S2x31x64) ((left m c 4).trans (steps m c))).trans
      (deltas_reshaped shapeCasts_S2x31x64_S62x64 shapeCasts_S62x64_S2x31x64 _ _ _ _)
  · exact (congrArg (shapeCast S2x31x64 · shapeCasts_S62x64_S2x31x64) ((left m c 5).trans (firsts m c))).trans
      (means_reshaped shapeCasts_S2x31x64_S62x64 shapeCasts_S62x64_S2x31x64 _ _)
  · exact (congrArg (shapeCast S2x31x64 · shapeCasts_S62x64_S2x31x64) ((left m c 6).trans (seconds m c))).trans
      (squares_reshaped shapeCasts_S2x31x64_S62x64 shapeCasts_S62x64_S2x31x64 _ _)

end Cert.AdamConvDwIdeal.Update

end
-- ==== Proof.AdamConvPwValue.lean ====
/-
# The update of the pointwise convolution's weights

A grid point reads 128 rows of the four flat arrays and writes the same rows of the three results, so the results are the
update of the whole flat arrays, and reshaped back the update of the chip's part of the weights.
-/
module

public import proofs.«01_k».proof.Proof.Adam
public import proofs.«01_k».proof.Proof.Gen.AdamConvPwIdeal.Frame

@[expose] public section

set_option maxRecDepth 65536

noncomputable section

namespace Cert.AdamConvPwIdeal.Update

open Idealize.ShloMosaic Idealize.ShloMosaic.TcCoe Idealize.SL.Sem
open Cert.AdamConvPwIdeal Cert.AdamConvPwIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S128x256 .f32 := V m c main_v1
abbrev g (c : Dev nD) : FVec F S128x256 .f32 := V m c main_v2
abbrev mu (c : Dev nD) : FVec F S128x256 .f32 := V m c main_v3
abbrev nu (c : Dev nD) : FVec F S128x256 .f32 := V m c main_v4

/-- The kernel's lines on a block. -/
theorem mean_lines (x y : Vec F S128x256 .f32) : k0_pay2 x y = means x y := by
  unfold k0_pay2 k0_pay1; dsimp only; rw [shapeCast_self, shapeCast_self]; rfl
theorem square_lines (x y : Vec F S128x256 .f32) : k0_pay3 x y = squares x y := by
  unfold k0_pay3 k0_pay1; dsimp only; rw [shapeCast_self, shapeCast_self]; rfl
theorem delta_lines (x y z u : Vec F S128x256 .f32) : k0_pay4 x y z u = deltas u x y z := by
  unfold k0_pay4; dsimp only; rw [shapeCast_self, mean_lines, square_lines]; rfl

/-- The grid point of a row. -/
def pointOf (i : S128x256.Idx) : Fin grid0.N :=
  ⟨(i 0 : Nat) / 128, (Nat.div_lt_iff_lt_mul (by decide)).mpr ((i 0).isLt.trans_eq (by decide +kernel))⟩

theorem rows (t : Fin grid0.N) : win0_4.index t 0 * win0_4.size 0 = t.val * 128 ∧ win0_4.xsize (grid0.coords t) 0 = 128
    ∧ win0_4.index t 1 * win0_4.size 1 = 0 ∧ win0_4.xsize (grid0.coords t) 1 = 256 := by
  revert t; decide +kernel

theorem written (i : S128x256.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x64x256) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x64x256) (m ((c.tc : Thread nD τ).loc main_arg1)) (m ((c.tc : Thread nD τ).loc main_arg2))
    ∧ r.2.mem ((c.tc : Thread nD τ).loc main_v8)
      = squares (S := S2x64x256) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x64x256 · shapeCasts_S128x256_S2x64x256) ((left m c 4).trans (steps m c))).trans
      (deltas_reshaped shapeCasts_S2x64x256_S128x256 shapeCasts_S128x256_S2x64x256 _ _ _ _)
  · exact (congrArg (shapeCast S2x64x256 · shapeCasts_S128x256_S2x64x256) ((left m c 5).trans (firsts m c))).trans
      (means_reshaped shapeCasts_S2x64x256_S128x256 shapeCasts_S128x256_S2x64x256 _ _)
  · exact (congrArg (shapeCast S2x64x256 · shapeCasts_S128x256_S2x64x256) ((left m c 6).trans (seconds m c))).trans
      (squares_reshaped shapeCasts_S2x64x256_S128x256 shapeCasts_S128x256_S2x64x256 _ _)

end Cert.AdamConvPwIdeal.Update

end
-- ==== Proof.AdamOutValue.lean ====
/-
# The update of the output projection's weights

A grid point reads 256 rows of the four flat arrays and writes the same rows of the three results, so the results are the
update of the whole flat arrays, and reshaped back the update of the chip's part of the weights.
-/
module

public import proofs.«01_k».proof.Proof.Adam
public import proofs.«01_k».proof.Proof.Gen.AdamOutIdeal.Frame

@[expose] public section

set_option maxRecDepth 65536

noncomputable section

namespace Cert.AdamOutIdeal.Update

open Idealize.ShloMosaic Idealize.ShloMosaic.TcCoe Idealize.SL.Sem
open Cert.AdamOutIdeal Cert.AdamOutIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S512x1024 .f32 := V m c main_v1
abbrev g (c : Dev nD) : FVec F S512x1024 .f32 := V m c main_v2
abbrev mu (c : Dev nD) : FVec F S512x1024 .f32 := V m c main_v3
abbrev nu (c : Dev nD) : FVec F S512x1024 .f32 := V m c main_v4

/-- The kernel's lines on a block. -/
theorem mean_lines (x y : Vec F S256x1024 .f32) : k0_pay2 x y = means x y := by
  unfold k0_pay2 k0_pay1; dsimp only; rw [shapeCast_self, shapeCast_self]; rfl
theorem square_lines (x y : Vec F S256x1024 .f32) : k0_pay3 x y = squares x y := by
  unfold k0_pay3 k0_pay1; dsimp only; rw [shapeCast_self, shapeCast_self]; rfl
theorem delta_lines (x y z u : Vec F S256x1024 .f32) : k0_pay4 x y z u = deltas u x y z := by
  unfold k0_pay4; dsimp only; rw [shapeCast_self, mean_lines, square_lines]; rfl

/-- The grid point of a row. -/
def pointOf (i : S512x1024.Idx) : Fin grid0.N :=
  ⟨(i 0 : Nat) / 256, (Nat.div_lt_iff_lt_mul (by decide)).mpr ((i 0).isLt.trans_eq (by decide +kernel))⟩

theorem rows (t : Fin grid0.N) : win0_4.index t 0 * win0_4.size 0 = t.val * 256 ∧ win0_4.xsize (grid0.coords t) 0 = 256
    ∧ win0_4.index t 1 * win0_4.size 1 = 0 ∧ win0_4.xsize (grid0.coords t) 1 = 1024 := by
  revert t; decide +kernel

theorem written (i : S512x1024.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x256x1024) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x256x1024) (m ((c.tc : Thread nD τ).loc main_arg1)) (m ((c.tc : Thread nD τ).loc main_arg2))
    ∧ r.2.mem ((c.tc : Thread nD τ).loc main_v8)
      = squares (S := S2x256x1024) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x256x1024 · shapeCasts_S512x1024_S2x256x1024) ((left m c 4).trans (steps m c))).trans
      (deltas_reshaped shapeCasts_S2x256x1024_S512x1024 shapeCasts_S512x1024_S2x256x1024 _ _ _ _)
  · exact (congrArg (shapeCast S2x256x1024 · shapeCasts_S512x1024_S2x256x1024) ((left m c 5).trans (firsts m c))).trans
      (means_reshaped shapeCasts_S2x256x1024_S512x1024 shapeCasts_S512x1024_S2x256x1024 _ _)
  · exact (congrArg (shapeCast S2x256x1024 · shapeCasts_S512x1024_S2x256x1024) ((left m c 6).trans (seconds m c))).trans
      (squares_reshaped shapeCasts_S2x256x1024_S512x1024 shapeCasts_S512x1024_S2x256x1024 _ _)

end Cert.AdamOutIdeal.Update

end
-- ==== Proof.AdamUpValue.lean ====
/-
# The update of the feed-forward layer's first weights

A grid point reads 256 rows of the four flat arrays and writes the same rows of the three results, so the results are the
update of the whole flat arrays, and reshaped back the update of the chip's part of the weights.
-/
module

public import proofs.«01_k».proof.Proof.Adam
public import proofs.«01_k».proof.Proof.Gen.AdamUpIdeal.Frame

@[expose] public section

set_option maxRecDepth 65536

noncomputable section

namespace Cert.AdamUpIdeal.Update

open Idealize.ShloMosaic Idealize.ShloMosaic.TcCoe Idealize.SL.Sem
open Cert.AdamUpIdeal Cert.AdamUpIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S2048x1408 .f32 := V m c main_v1
abbrev g (c : Dev nD) : FVec F S2048x1408 .f32 := V m c main_v2
abbrev mu (c : Dev nD) : FVec F S2048x1408 .f32 := V m c main_v3
abbrev nu (c : Dev nD) : FVec F S2048x1408 .f32 := V m c main_v4

/-- The kernel's lines on a block. -/
theorem mean_lines (x y : Vec F S256x1408 .f32) : k0_pay2 x y = means x y := by
  unfold k0_pay2 k0_pay1; dsimp only; rw [shapeCast_self, shapeCast_self]; rfl
theorem square_lines (x y : Vec F S256x1408 .f32) : k0_pay3 x y = squares x y := by
  unfold k0_pay3 k0_pay1; dsimp only; rw [shapeCast_self, shapeCast_self]; rfl
theorem delta_lines (x y z u : Vec F S256x1408 .f32) : k0_pay4 x y z u = deltas u x y z := by
  unfold k0_pay4; dsimp only; rw [shapeCast_self, mean_lines, square_lines]; rfl

/-- The grid point of a row. -/
def pointOf (i : S2048x1408.Idx) : Fin grid0.N :=
  ⟨(i 0 : Nat) / 256, (Nat.div_lt_iff_lt_mul (by decide)).mpr ((i 0).isLt.trans_eq (by decide +kernel))⟩

theorem rows (t : Fin grid0.N) : win0_4.index t 0 * win0_4.size 0 = t.val * 256 ∧ win0_4.xsize (grid0.coords t) 0 = 256
    ∧ win0_4.index t 1 * win0_4.size 1 = 0 ∧ win0_4.xsize (grid0.coords t) 1 = 1408 := by
  revert t; decide +kernel

theorem written (i : S2048x1408.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x1024x1408) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x1024x1408) (m ((c.tc : Thread nD τ).loc main_arg1)) (m ((c.tc : Thread nD τ).loc main_arg2))
    ∧ r.2.mem ((c.tc : Thread nD τ).loc main_v8)
      = squares (S := S2x1024x1408) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x1024x1408 · shapeCasts_S2048x1408_S2x1024x1408) ((left m c 4).trans (steps m c))).trans
      (deltas_reshaped shapeCasts_S2x1024x1408_S2048x1408 shapeCasts_S2048x1408_S2x1024x1408 _ _ _ _)
  · exact (congrArg (shapeCast S2x1024x1408 · shapeCasts_S2048x1408_S2x1024x1408) ((left m c 5).trans (firsts m c))).trans
      (means_reshaped shapeCasts_S2x1024x1408_S2048x1408 shapeCasts_S2048x1408_S2x1024x1408 _ _)
  · exact (congrArg (shapeCast S2x1024x1408 · shapeCasts_S2048x1408_S2x1024x1408) ((left m c 6).trans (seconds m c))).trans
      (squares_reshaped shapeCasts_S2x1024x1408_S2048x1408 shapeCasts_S2048x1408_S2x1024x1408 _ _)

end Cert.AdamUpIdeal.Update

end
-- ==== Proof.AdamFfnDwValue.lean ====
/-
# The update of the feed-forward layer's depthwise weights

A grid point reads 6 rows of the four flat arrays and writes the same rows of the three results, so the results are the
update of the whole flat arrays, and reshaped back the update of the chip's part of the weights.
-/
module

public import proofs.«01_k».proof.Proof.Adam
public import proofs.«01_k».proof.Proof.Gen.AdamFfnDwIdeal.Frame

@[expose] public section

set_option maxRecDepth 65536

noncomputable section

namespace Cert.AdamFfnDwIdeal.Update

open Idealize.ShloMosaic Idealize.ShloMosaic.TcCoe Idealize.SL.Sem
open Cert.AdamFfnDwIdeal Cert.AdamFfnDwIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S6x1408 .f32 := V m c main_v1
abbrev g (c : Dev nD) : FVec F S6x1408 .f32 := V m c main_v2
abbrev mu (c : Dev nD) : FVec F S6x1408 .f32 := V m c main_v3
abbrev nu (c : Dev nD) : FVec F S6x1408 .f32 := V m c main_v4

/-- The kernel's lines on a block. -/
theorem mean_lines (x y : Vec F S6x1408 .f32) : k0_pay2 x y = means x y := by
  unfold k0_pay2 k0_pay1; dsimp only; rw [shapeCast_self, shapeCast_self]; rfl
theorem square_lines (x y : Vec F S6x1408 .f32) : k0_pay3 x y = squares x y := by
  unfold k0_pay3 k0_pay1; dsimp only; rw [shapeCast_self, shapeCast_self]; rfl
theorem delta_lines (x y z u : Vec F S6x1408 .f32) : k0_pay4 x y z u = deltas u x y z := by
  unfold k0_pay4; dsimp only; rw [shapeCast_self, mean_lines, square_lines]; rfl

/-- The grid point of a row. -/
def pointOf (i : S6x1408.Idx) : Fin grid0.N :=
  ⟨(i 0 : Nat) / 6, (Nat.div_lt_iff_lt_mul (by decide)).mpr ((i 0).isLt.trans_eq (by decide +kernel))⟩

theorem rows (t : Fin grid0.N) : win0_4.index t 0 * win0_4.size 0 = t.val * 6 ∧ win0_4.xsize (grid0.coords t) 0 = 6
    ∧ win0_4.index t 1 * win0_4.size 1 = 0 ∧ win0_4.xsize (grid0.coords t) 1 = 1408 := by
  revert t; decide +kernel

theorem written (i : S6x1408.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x3x1408) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x3x1408) (m ((c.tc : Thread nD τ).loc main_arg1)) (m ((c.tc : Thread nD τ).loc main_arg2))
    ∧ r.2.mem ((c.tc : Thread nD τ).loc main_v8)
      = squares (S := S2x3x1408) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x3x1408 · shapeCasts_S6x1408_S2x3x1408) ((left m c 4).trans (steps m c))).trans
      (deltas_reshaped shapeCasts_S2x3x1408_S6x1408 shapeCasts_S6x1408_S2x3x1408 _ _ _ _)
  · exact (congrArg (shapeCast S2x3x1408 · shapeCasts_S6x1408_S2x3x1408) ((left m c 5).trans (firsts m c))).trans
      (means_reshaped shapeCasts_S2x3x1408_S6x1408 shapeCasts_S6x1408_S2x3x1408 _ _)
  · exact (congrArg (shapeCast S2x3x1408 · shapeCasts_S6x1408_S2x3x1408) ((left m c 6).trans (seconds m c))).trans
      (squares_reshaped shapeCasts_S2x3x1408_S6x1408 shapeCasts_S6x1408_S2x3x1408 _ _)

end Cert.AdamFfnDwIdeal.Update

end
-- ==== Proof.AdamDownValue.lean ====
/-
# The update of the feed-forward layer's last weights

A grid point reads 176 rows of the four flat arrays and writes the same rows of the three results, so the results are the
update of the whole flat arrays, and reshaped back the update of the chip's part of the weights.
-/
module

public import proofs.«01_k».proof.Proof.Adam
public import proofs.«01_k».proof.Proof.Gen.AdamDownIdeal.Frame

@[expose] public section

set_option maxRecDepth 65536

noncomputable section

namespace Cert.AdamDownIdeal.Update

open Idealize.ShloMosaic Idealize.ShloMosaic.TcCoe Idealize.SL.Sem
open Cert.AdamDownIdeal Cert.AdamDownIdeal.Gen Cert.Adam

variable {F : FTy → Type} [FloatOps F]
variable (m : (ℓ : Loc nD τ sig) → Buf (Elt F) ℓ) (ρ : Dev nD → PrngReg)

/-- A chip's weights, gradients and moments, flat. -/
abbrev w (c : Dev nD) : FVec F S1408x1024 .f32 := V m c main_v1
abbrev g (c : Dev nD) : FVec F S1408x1024 .f32 := V m c main_v2
abbrev mu (c : Dev nD) : FVec F S1408x1024 .f32 := V m c main_v3
abbrev nu (c : Dev nD) : FVec F S1408x1024 .f32 := V m c main_v4

/-- The kernel's lines on a block. -/
theorem mean_lines (x y : Vec F S176x1024 .f32) : k0_pay2 x y = means x y := by
  unfold k0_pay2 k0_pay1; dsimp only; rw [shapeCast_self, shapeCast_self]; rfl
theorem square_lines (x y : Vec F S176x1024 .f32) : k0_pay3 x y = squares x y := by
  unfold k0_pay3 k0_pay1; dsimp only; rw [shapeCast_self, shapeCast_self]; rfl
theorem delta_lines (x y z u : Vec F S176x1024 .f32) : k0_pay4 x y z u = deltas u x y z := by
  unfold k0_pay4; dsimp only; rw [shapeCast_self, mean_lines, square_lines]; rfl

/-- The grid point of a row. -/
def pointOf (i : S1408x1024.Idx) : Fin grid0.N :=
  ⟨(i 0 : Nat) / 176, (Nat.div_lt_iff_lt_mul (by decide)).mpr ((i 0).isLt.trans_eq (by decide +kernel))⟩

theorem rows (t : Fin grid0.N) : win0_4.index t 0 * win0_4.size 0 = t.val * 176 ∧ win0_4.xsize (grid0.coords t) 0 = 176
    ∧ win0_4.index t 1 * win0_4.size 1 = 0 ∧ win0_4.xsize (grid0.coords t) 1 = 1024 := by
  revert t; decide +kernel

theorem written (i : S1408x1024.Idx) : i ∈ (win0_4.blk (pointOf i)).view.set := by
  show i ∈ ((View.whole main_v5_0).slice (win0_4.rect (pointOf i))).set
  rw [View.set_slice_whole, Rect.mem_set_unit]
  exact in_rows i (by decide) (rows (pointOf i))

/-! The flat results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- On every chip the run leaves the steps and the new moments of the chip's part of the weights. -/
theorem run : θ_run defs (onTc (τ := τ) (main (F := F))) ⟨m, fun _ => 0, ρ⟩ fun r => ∀ c : Dev nD,
    r.2.mem ((c.tc : Thread nD τ).loc main_v6) = deltas (S := S2x704x1024) (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v7)
      = means (S := S2x704x1024) (m ((c.tc : Thread nD τ).loc main_arg1)) (m ((c.tc : Thread nD τ).loc main_arg2))
    ∧ r.2.mem ((c.tc : Thread nD τ).loc main_v8)
      = squares (S := S2x704x1024) (m ((c.tc : Thread nD τ).loc main_arg1)) (m ((c.tc : Thread nD τ).loc main_arg3)) := by
  refine (θ_run defs _ _).mono (fun _ h c => ⟨((h c).2 main_v6 (Pipeline.mem_restRefs_of main_v6 (by decide) (by decide))).trans ?_,
    ((h c).2 main_v7 (Pipeline.mem_restRefs_of main_v7 (by decide) (by decide))).trans ?_,
    ((h c).2 main_v8 (Pipeline.mem_restRefs_of main_v8 (by decide) (by decide))).trans ?_⟩) (run_main m ρ)
  all_goals unfold Pipeline.afterTail₀; after_results
  · exact (congrArg (shapeCast S2x704x1024 · shapeCasts_S1408x1024_S2x704x1024) ((left m c 4).trans (steps m c))).trans
      (deltas_reshaped shapeCasts_S2x704x1024_S1408x1024 shapeCasts_S1408x1024_S2x704x1024 _ _ _ _)
  · exact (congrArg (shapeCast S2x704x1024 · shapeCasts_S1408x1024_S2x704x1024) ((left m c 5).trans (firsts m c))).trans
      (means_reshaped shapeCasts_S2x704x1024_S1408x1024 shapeCasts_S1408x1024_S2x704x1024 _ _)
  · exact (congrArg (shapeCast S2x704x1024 · shapeCasts_S1408x1024_S2x704x1024) ((left m c 6).trans (seconds m c))).trans
      (squares_reshaped shapeCasts_S2x704x1024_S1408x1024 shapeCasts_S1408x1024_S2x704x1024 _ _)

end Cert.AdamDownIdeal.Update

end
-- ==== Proof.Packed.lean ====
/-
# Arrays packed one after another

Flat arrays are laid one after another, filled up with zeros and folded into rows; a part is taken back by unfolding the
rows and slicing. Taking a part back gives the array that was packed, and since the update works element by element, the
part of an updated packing is the update of the parts.
-/
module

public import proofs.«01_k».proof.Proof.Adam

@[expose] public section

noncomputable section

namespace Cert.Packed

open Idealize.ShloMosaic Cert.Adam

/-- The part of a folded packing of `full` elements that starts at `off`, in its own shape. -/
abbrev taken {α : Type} {S T : Shape} {n full : Nat} (off : Nat) (unfold_ : T.ShapeCasts ⟨1, ![full]⟩)
    (slice : (⟨1, ![full]⟩ : Shape).Slices ![off] ⟨1, ![n]⟩) (back : (⟨1, ![n]⟩ : Shape).ShapeCasts S) (x : T.Idx → α) :
    S.Idx → α :=
  shapeCast S (extractStridedSlice ⟨1, ![n]⟩ ![off] (shapeCast ⟨1, ![full]⟩ x unfold_) slice) back

section Part

variable {α : Type} {S T : Shape} {n total rest full : Nat}

/-- A part taken back from a packing is the array packed there. -/
theorem taken_packed (off : Nat) (xs : List ((s : Shape) × (s.Idx → α)))
    (hxs : Shape.Concatenates (xs.map (·.1)) ⟨1, ![total]⟩ 0) (z : (⟨1, ![rest]⟩ : Shape).Idx → α)
    (hz : Shape.Concatenates [⟨1, ![total]⟩, ⟨1, ![rest]⟩] ⟨1, ![full]⟩ 0)
    (fold_ : (⟨1, ![full]⟩ : Shape).ShapeCasts T) (unfold_ : T.ShapeCasts ⟨1, ![full]⟩)
    (slice : (⟨1, ![full]⟩ : Shape).Slices ![off] ⟨1, ![n]⟩) (there : S.ShapeCasts ⟨1, ![n]⟩)
    (back : (⟨1, ![n]⟩ : Shape).ShapeCasts S) (a : S.Idx → α) (fits : off + n ≤ total)
    (k : Nat) (at_ : xs[k]? = some ⟨⟨1, ![n]⟩, shapeCast ⟨1, ![n]⟩ a there⟩) (ss : List Shape) (hss : xs.map (·.1) = ss)
    (start : ((ss.take k).map fun s => if h : s.rank = 1 then s.size ((0 : Fin 1).cast h.symm) else 0).sum = off) :
    taken off unfold_ slice back (shapeCast T (concatenate ⟨1, ![full]⟩ 0
      [⟨⟨1, ![total]⟩, concatenate ⟨1, ![total]⟩ 0 xs hxs⟩, ⟨⟨1, ![rest]⟩, z⟩] hz) fold_) = a := by
  have key : extractStridedSlice ⟨1, ![n]⟩ ![off] (concatenate ⟨1, ![full]⟩ 0
      [⟨⟨1, ![total]⟩, concatenate ⟨1, ![total]⟩ 0 xs hxs⟩, ⟨⟨1, ![rest]⟩, z⟩] hz) slice = shapeCast ⟨1, ![n]⟩ a there := by
    funext j
    have hj : (j 0 : Nat) < n := (j 0).isLt
    unfold extractStridedSlice
    rw [concatenate_pair_apply_left 0 _ z hz _ rfl (fun b => ⟨off + (j 0 : Nat), by
      have : b = 0 := Subsingleton.elim _ _
      subst this; exact Nat.lt_of_lt_of_le (Nat.add_lt_add_left hj off) fits⟩) (fun b => by
        have : b = 0 := Subsingleton.elim _ _
        subst this; rfl)]
    exact concatenate_apply_piece 0 xs hxs _ k (List.getElem?_eq_some_iff.mp at_).1 _ _ (List.getElem?_eq_some_iff.mp at_).2 rfl off
      (by rw [List.map_take, hss]; exact start) j
      (fun b hb => absurd (Subsingleton.elim _ _) hb) rfl
  unfold taken
  rw [shapeCast_shapeCast, key, shapeCast_shapeCast]

end Part

/-! The part of an updated packing is the update of the parts. -/

section Updated

variable {F : FTy → Type} [FloatOps F] {S T : Shape} {n full off : Nat} {unfold_ : T.ShapeCasts ⟨1, ![full]⟩}
variable {slice : (⟨1, ![full]⟩ : Shape).Slices ![off] ⟨1, ![n]⟩} {back : (⟨1, ![n]⟩ : Shape).ShapeCasts S}
variable {W G M V : FVec F T .f32} {w g m v : FVec F S .f32}

theorem means_taken (hg : taken off unfold_ slice back G = g) (hm : taken off unfold_ slice back M = m) :
    taken off unfold_ slice back (means G M) = means g m := by rw [← hg, ← hm]; rfl

theorem squares_taken (hg : taken off unfold_ slice back G = g) (hv : taken off unfold_ slice back V = v) :
    taken off unfold_ slice back (squares G V) = squares g v := by rw [← hg, ← hv]; rfl

theorem deltas_taken (hw : taken off unfold_ slice back W = w) (hg : taken off unfold_ slice back G = g)
    (hm : taken off unfold_ slice back M = m) (hv : taken off unfold_ slice back V = v) :
    taken off unfold_ slice back (deltas W G M V) = deltas w g m v := by rw [← hw, ← hg, ← hm, ← hv]; rfl

end Updated

end Cert.Packed

end
-- ==== Proof.AdamSmallValue.lean ====
/-
# The update of the weights every chip holds whole

The ten small weights are packed into one array of rows, and so are their gradients and their moments. A grid point reads
104 rows of the four packings and writes the same rows of the three results, so the results are the update of the whole
packings, and the parts taken back from them are the updates of the ten weights.
-/
module

public import proofs.«01_k».proof.Proof.Packed
public import proofs.«01_k».proof.Proof.Gen.AdamSmallIdeal.Frame

@[expose] public section

set_option maxRecDepth 65536

noncomputable section

namespace Cert.AdamSmallIdeal.Update

open Idealize.ShloMosaic Idealize.ShloMosaic.TcCoe Idealize.SL.Sem
open Cert.AdamSmallIdeal Cert.AdamSmallIdeal.Gen Cert.Adam Cert.Packed

variable {F : FTy → Type} [FloatOps F]
variable (m : (ℓ : Loc nD τ sig) → Buf (Elt F) ℓ) (ρ : Dev nD → PrngReg)

/-- The weights, gradients and moments, packed. -/
abbrev w (c : Dev nD) : FVec F S312x128 .f32 := V m c main_v13
abbrev g (c : Dev nD) : FVec F S312x128 .f32 := V m c main_v27
abbrev mu (c : Dev nD) : FVec F S312x128 .f32 := V m c main_v41
abbrev nu (c : Dev nD) : FVec F S312x128 .f32 := V m c main_v55

/-- The kernel's lines on a block. -/
theorem mean_lines (x y : Vec F S104x128 .f32) : k0_pay2 x y = means x y := by
  unfold k0_pay2 k0_pay1; dsimp only; rw [shapeCast_self, shapeCast_self]; rfl
theorem square_lines (x y : Vec F S104x128 .f32) : k0_pay3 x y = squares x y := by
  unfold k0_pay3 k0_pay1; dsimp only; rw [shapeCast_self, shapeCast_self]; rfl
theorem delta_lines (x y z u : Vec F S104x128 .f32) : k0_pay4 x y z u = deltas u x y z := by
  unfold k0_pay4; dsimp only; rw [shapeCast_self, mean_lines, square_lines]; rfl

/-- The grid point of a row. -/
def pointOf (i : S312x128.Idx) : Fin grid0.N :=
  ⟨(i 0 : Nat) / 104, (Nat.div_lt_iff_lt_mul (by decide)).mpr ((i 0).isLt.trans_eq (by decide +kernel))⟩

theorem rows (t : Fin grid0.N) : win0_4.index t 0 * win0_4.size 0 = t.val * 104 ∧ win0_4.xsize (grid0.coords t) 0 = 104
    ∧ win0_4.index t 1 * win0_4.size 1 = 0 ∧ win0_4.xsize (grid0.coords t) 1 = 128 := by
  revert t; decide +kernel

theorem written (i : S312x128.Idx) : i ∈ (win0_4.blk (pointOf i)).view.set := by
  show i ∈ ((View.whole main_v56_0).slice (win0_4.rect (pointOf i))).set
  rw [View.set_slice_whole, Rect.mem_set_unit]
  exact in_rows i (by decide) (rows (pointOf i))

/-! The packed results when the grid is done. -/

theorem steps (c : Dev nD) : (dats m 0 c).arrAt 4 cfg0.N = deltas (w m c) (g m c) (mu m c) (nu m c) := by
  refine (dats m 0 c).arrAt_eq_of_cover 4 _ (fun t _ => ?_) fun i => ⟨pointOf i, flush0_4 _, written i⟩
  show (cfg0.win 4).cut (grid0.coords t) ((dats m 0 c).after 4 t) = _
  rw [after0_4]; unfold out0_4
  rw [View.canon_unit_zero origin, View.ld_unit_zero origin, View.ld_unit_zero origin, View.ld_unit_zero origin,
    View.ld_unit_zero origin, delta_lines]
  rfl

theorem firsts (c : Dev nD) : (dats m 0 c).arrAt 5 cfg0.N = means (g m c) (mu m c) := by
  refine (dats m 0 c).arrAt_eq_of_cover 5 _ (fun t _ => ?_) fun i => ⟨pointOf i, flush0_5 _, written i⟩
  show (cfg0.win 5).cut (grid0.coords t) ((dats m 0 c).after 5 t) = _
  rw [after0_5]; unfold out0_5
  rw [View.canon_unit_zero origin, View.ld_unit_zero origin, View.ld_unit_zero origin, mean_lines]
  rfl

theorem seconds (c : Dev nD) : (dats m 0 c).arrAt 6 cfg0.N = squares (g m c) (nu m c) := by
  refine (dats m 0 c).arrAt_eq_of_cover 6 _ (fun t _ => ?_) fun i => ⟨pointOf i, flush0_6 _, written i⟩
  show (cfg0.win 6).cut (grid0.coords t) ((dats m 0 c).after 6 t) = _
  rw [after0_6]; unfold out0_6
  rw [View.canon_unit_zero origin, View.ld_unit_zero origin, View.ld_unit_zero origin, square_lines]
  rfl

/-- What the lines after the grid find in a window's array. -/
theorem left (c : Dev nD) (a : Fin 7) :
    Pipeline.withArrays spec0 c (V0 m c) (fun b => (dats m 0 c).arrAt b cfg0.N) (Proc.devRef .tc (Pipeline.arrRef spec0 a))
      = (dats m 0 c).arrAt a cfg0.N :=
  Pipeline.withArrays_arr spec0 launch0.win.arr_inj c (V0 m c) (fun b => (dats m 0 c).arrAt b cfg0.N) a

/-- Ten arrays of the weights' shapes: for the first norm, the forget bias, the norms of the queries and of the keys, the
    convolution's bias, its norm's scale and bias, the pool's weights and scale, and the second norm. -/
structure Ten (F : FTy → Type) where
  n1 : FVec F S2x1024 .f32
  bf : FVec F S2x8 .f32
  qn : FVec F S2x64 .f32
  kn : FVec F S2x64 .f32
  cb : FVec F S2x256 .f32
  cg : FVec F S2x256 .f32
  cl : FVec F S2x256 .f32
  pw : FVec F S2x4x64x64 .f32
  ps : FVec F S2x256 .f32
  n2 : FVec F S2x1024 .f32

/-- The ten, one after another, filled up with zeros and folded into rows. -/
def packed (x : Ten F) : FVec F S312x128 .f32 :=
  shapeCast S312x128 (concatenate S39936 0 [⟨S39184, concatenate S39184 0 [
    ⟨S2048, shapeCast S2048 x.n1 shapeCasts_S2x1024_S2048⟩,
    ⟨S16, shapeCast S16 x.bf shapeCasts_S2x8_S16⟩,
    ⟨S128, shapeCast S128 x.qn shapeCasts_S2x64_S128⟩,
    ⟨S128, shapeCast S128 x.kn shapeCasts_S2x64_S128⟩,
    ⟨S512, shapeCast S512 x.cb shapeCasts_S2x256_S512⟩,
    ⟨S512, shapeCast S512 x.cg shapeCasts_S2x256_S512⟩,
    ⟨S512, shapeCast S512 x.cl shapeCasts_S2x256_S512⟩,
    ⟨S32768, shapeCast S32768 x.pw shapeCasts_S2x4x64x64_S32768⟩,
    ⟨S512, shapeCast S512 x.ps shapeCasts_S2x256_S512⟩,
    ⟨S2048, shapeCast S2048 x.n2 shapeCasts_S2x1024_S2048⟩] concatenates_S2048_S16_S128_S128_S512_S512_S512_S32768_S512_S2048_S39184_d0⟩,
    ⟨S752, broadcastInDim S752 ![] bcast_S_S752 (constant S_ .f32 0x00000000#32)⟩] concatenates_S39184_S752_S39936_d0)
    shapeCasts_S39936_S312x128

/-! Each of the ten, taken back. -/

/-- The lengths of the ten. -/
abbrev sizes : List Shape := [S2048, S16, S128, S128, S512, S512, S512, S32768, S512, S2048]

theorem n1_back (x : Ten F) : taken 0 shapeCasts_S312x128_S39936 slices_S39936_S2048_0 shapeCasts_S2048_S2x1024 (packed x) = x.n1 :=
  taken_packed 0 _ _ _ _ _ _ _ shapeCasts_S2x1024_S2048 _ x.n1 (by decide) 0 rfl sizes rfl (by decide +kernel)
theorem bf_back (x : Ten F) : taken 2048 shapeCasts_S312x128_S39936 slices_S39936_S16_2048 shapeCasts_S16_S2x8 (packed x) = x.bf :=
  taken_packed 2048 _ _ _ _ _ _ _ shapeCasts_S2x8_S16 _ x.bf (by decide) 1 rfl sizes rfl (by decide +kernel)
theorem qn_back (x : Ten F) : taken 2064 shapeCasts_S312x128_S39936 slices_S39936_S128_2064 shapeCasts_S128_S2x64 (packed x) = x.qn :=
  taken_packed 2064 _ _ _ _ _ _ _ shapeCasts_S2x64_S128 _ x.qn (by decide) 2 rfl sizes rfl (by decide +kernel)
theorem kn_back (x : Ten F) : taken 2192 shapeCasts_S312x128_S39936 slices_S39936_S128_2192 shapeCasts_S128_S2x64 (packed x) = x.kn :=
  taken_packed 2192 _ _ _ _ _ _ _ shapeCasts_S2x64_S128 _ x.kn (by decide) 3 rfl sizes rfl (by decide +kernel)
theorem cb_back (x : Ten F) : taken 2320 shapeCasts_S312x128_S39936 slices_S39936_S512_2320 shapeCasts_S512_S2x256 (packed x) = x.cb :=
  taken_packed 2320 _ _ _ _ _ _ _ shapeCasts_S2x256_S512 _ x.cb (by decide) 4 rfl sizes rfl (by decide +kernel)
theorem cg_back (x : Ten F) : taken 2832 shapeCasts_S312x128_S39936 slices_S39936_S512_2832 shapeCasts_S512_S2x256 (packed x) = x.cg :=
  taken_packed 2832 _ _ _ _ _ _ _ shapeCasts_S2x256_S512 _ x.cg (by decide) 5 rfl sizes rfl (by decide +kernel)
theorem cl_back (x : Ten F) : taken 3344 shapeCasts_S312x128_S39936 slices_S39936_S512_3344 shapeCasts_S512_S2x256 (packed x) = x.cl :=
  taken_packed 3344 _ _ _ _ _ _ _ shapeCasts_S2x256_S512 _ x.cl (by decide) 6 rfl sizes rfl (by decide +kernel)
theorem pw_back (x : Ten F) : taken 3856 shapeCasts_S312x128_S39936 slices_S39936_S32768_3856 shapeCasts_S32768_S2x4x64x64 (packed x) = x.pw :=
  taken_packed 3856 _ _ _ _ _ _ _ shapeCasts_S2x4x64x64_S32768 _ x.pw (by decide) 7 rfl sizes rfl (by decide +kernel)
theorem ps_back (x : Ten F) : taken 36624 shapeCasts_S312x128_S39936 slices_S39936_S512_36624 shapeCasts_S512_S2x256 (packed x) = x.ps :=
  taken_packed 36624 _ _ _ _ _ _ _ shapeCasts_S2x256_S512 _ x.ps (by decide) 8 rfl sizes rfl (by decide +kernel)
theorem n2_back (x : Ten F) : taken 37136 shapeCasts_S312x128_S39936 slices_S39936_S2048_37136 shapeCasts_S2048_S2x1024 (packed x) = x.n2 :=
  taken_packed 37136 _ _ _ _ _ _ _ shapeCasts_S2x1024_S2048 _ x.n2 (by decide) 9 rfl sizes rfl (by decide +kernel)

/-- The ten arrays of a kind that the run is given. -/
def weights (c : Dev nD) : Ten F := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩
def gradients (c : Dev nD) : Ten F := ⟨m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩
def averages (c : Dev nD) : Ten F := ⟨m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27), m ((c.tc : Thread nD τ).loc main_arg28), m ((c.tc : Thread nD τ).loc main_arg29)⟩
def variances (c : Dev nD) : Ten F := ⟨m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37), m ((c.tc : Thread nD τ).loc main_arg38), m ((c.tc : Thread nD τ).loc main_arg39)⟩

/-! What the grid finds: the four packings. -/

set_option maxHeartbeats 4000000

theorem weights_packed (c : Dev nD) : w m c = packed (weights m c) := rfl
theorem gradients_packed (c : Dev nD) : g m c = packed (gradients m c) := rfl
theorem averages_packed (c : Dev nD) : mu m c = packed (averages m c) := rfl
theorem variances_packed (c : Dev nD) : nu m c = packed (variances m c) := rfl

theorem steps_packed (c : Dev nD) : (dats m 0 c).arrAt 4 cfg0.N
    = deltas (packed (weights m c)) (packed (gradients m c)) (packed (averages m c)) (packed (variances m c)) := by
  rw [steps, weights_packed, gradients_packed, averages_packed, variances_packed]
theorem firsts_packed (c : Dev nD) : (dats m 0 c).arrAt 5 cfg0.N = means (packed (gradients m c)) (packed (averages m c)) := by
  rw [firsts, gradients_packed, averages_packed]
theorem seconds_packed (c : Dev nD) : (dats m 0 c).arrAt 6 cfg0.N
    = squares (packed (gradients m c)) (packed (variances m c)) := by
  rw [seconds, gradients_packed, variances_packed]

/-- On every chip the run leaves the steps and the new moments of the ten weights. -/
theorem run : θ_run defs (onTc (τ := τ) (main (F := F))) ⟨m, fun _ => 0, ρ⟩ fun r => ∀ c : Dev nD,
    r.2.mem ((c.tc : Thread nD τ).loc main_v59) = deltas (weights m c).n1 (gradients m c).n1 (averages m c).n1 (variances m c).n1
    ∧ r.2.mem ((c.tc : Thread nD τ).loc main_v68) = deltas (weights m c).bf (gradients m c).bf (averages m c).bf (variances m c).bf
    ∧ r.2.mem ((c.tc : Thread nD τ).loc main_v77) = deltas (weights m c).qn (gradients m c).qn (averages m c).qn (variances m c).qn
    ∧ r.2.mem ((c.tc : Thread nD τ).loc main_v86) = deltas (weights m c).kn (gradients m c).kn (averages m c).kn (variances m c).kn
    ∧ r.2.mem ((c.tc : Thread nD τ).loc main_v95) = deltas (weights m c).cb (gradients m c).cb (averages m c).cb (variances m c).cb
    ∧ r.2.mem ((c.tc : Thread nD τ).loc main_v104) = deltas (weights m c).cg (gradients m c).cg (averages m c).cg (variances m c).cg
    ∧ r.2.mem ((c.tc : Thread nD τ).loc main_v113) = deltas (weights m c).cl (gradients m c).cl (averages m c).cl (variances m c).cl
    ∧ r.2.mem ((c.tc : Thread nD τ).loc main_v122) = deltas (weights m c).pw (gradients m c).pw (averages m c).pw (variances m c).pw
    ∧ r.2.mem ((c.tc : Thread nD τ).loc main_v131) = deltas (weights m c).ps (gradients m c).ps (averages m c).ps (variances m c).ps
    ∧ r.2.mem ((c.tc : Thread nD τ).loc main_v140) = deltas (weights m c).n2 (gradients m c).n2 (averages m c).n2 (variances m c).n2
    ∧ r.2.mem ((c.tc : Thread nD τ).loc main_v62) = means (gradients m c).n1 (averages m c).n1
    ∧ r.2.mem ((c.tc : Thread nD τ).loc main_v71) = means (gradients m c).bf (averages m c).bf
    ∧ r.2.mem ((c.tc : Thread nD τ).loc main_v80) = means (gradients m c).qn (averages m c).qn
    ∧ r.2.mem ((c.tc : Thread nD τ).loc main_v89) = means (gradients m c).kn (averages m c).kn
    ∧ r.2.mem ((c.tc : Thread nD τ).loc main_v98) = means (gradients m c).cb (averages m c).cb
    ∧ r.2.mem ((c.tc : Thread nD τ).loc main_v107) = means (gradients m c).cg (averages m c).cg
    ∧ r.2.mem ((c.tc : Thread nD τ).loc main_v116) = means (gradients m c).cl (averages m c).cl
    ∧ r.2.mem ((c.tc : Thread nD τ).loc main_v125) = means (gradients m c).pw (averages m c).pw
    ∧ r.2.mem ((c.tc : Thread nD τ).loc main_v134) = means (gradients m c).ps (averages m c).ps
    ∧ r.2.mem ((c.tc : Thread nD τ).loc main_v143) = means (gradients m c).n2 (averages m c).n2
    ∧ r.2.mem ((c.tc : Thread nD τ).loc main_v65) = squares (gradients m c).n1 (variances m c).n1
    ∧ r.2.mem ((c.tc : Thread nD τ).loc main_v74) = squares (gradients m c).bf (variances m c).bf
    ∧ r.2.mem ((c.tc : Thread nD τ).loc main_v83) = squares (gradients m c).qn (variances m c).qn
    ∧ r.2.mem ((c.tc : Thread nD τ).loc main_v92) = squares (gradients m c).kn (variances m c).kn
    ∧ r.2.mem ((c.tc : Thread nD τ).loc main_v101) = squares (gradients m c).cb (variances m c).cb
    ∧ r.2.mem ((c.tc : Thread nD τ).loc main_v110) = squares (gradients m c).cg (variances m c).cg
    ∧ r.2.mem ((c.tc : Thread nD τ).loc main_v119) = squares (gradients m c).cl (variances m c).cl
    ∧ r.2.mem ((c.tc : Thread nD τ).loc main_v128) = squares (gradients m c).pw (variances m c).pw
    ∧ r.2.mem ((c.tc : Thread nD τ).loc main_v137) = squares (gradients m c).ps (variances m c).ps
    ∧ r.2.mem ((c.tc : Thread nD τ).loc main_v146) = squares (gradients m c).n2 (variances m c).n2 := by
  refine (θ_run defs _ _).mono (fun _ h c => ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩) (run_main m ρ)
  all_goals refine ((h c).2 _ (Pipeline.mem_restRefs_of _ (by decide) (by decide))).trans ?_
  all_goals unfold Pipeline.afterTail₀; after_results
  · exact (congrArg (taken 0 _ _ _) ((left m c 4).trans (steps_packed m c))).trans (deltas_taken (n1_back _) (n1_back _) (n1_back _) (n1_back _))
  · exact (congrArg (taken 2048 _ _ _) ((left m c 4).trans (steps_packed m c))).trans (deltas_taken (bf_back _) (bf_back _) (bf_back _) (bf_back _))
  · exact (congrArg (taken 2064 _ _ _) ((left m c 4).trans (steps_packed m c))).trans (deltas_taken (qn_back _) (qn_back _) (qn_back _) (qn_back _))
  · exact (congrArg (taken 2192 _ _ _) ((left m c 4).trans (steps_packed m c))).trans (deltas_taken (kn_back _) (kn_back _) (kn_back _) (kn_back _))
  · exact (congrArg (taken 2320 _ _ _) ((left m c 4).trans (steps_packed m c))).trans (deltas_taken (cb_back _) (cb_back _) (cb_back _) (cb_back _))
  · exact (congrArg (taken 2832 _ _ _) ((left m c 4).trans (steps_packed m c))).trans (deltas_taken (cg_back _) (cg_back _) (cg_back _) (cg_back _))
  · exact (congrArg (taken 3344 _ _ _) ((left m c 4).trans (steps_packed m c))).trans (deltas_taken (cl_back _) (cl_back _) (cl_back _) (cl_back _))
  · exact (congrArg (taken 3856 _ _ _) ((left m c 4).trans (steps_packed m c))).trans (deltas_taken (pw_back _) (pw_back _) (pw_back _) (pw_back _))
  · exact (congrArg (taken 36624 _ _ _) ((left m c 4).trans (steps_packed m c))).trans (deltas_taken (ps_back _) (ps_back _) (ps_back _) (ps_back _))
  · exact (congrArg (taken 37136 _ _ _) ((left m c 4).trans (steps_packed m c))).trans (deltas_taken (n2_back _) (n2_back _) (n2_back _) (n2_back _))
  · exact (congrArg (taken 0 _ _ _) ((left m c 5).trans (firsts_packed m c))).trans (means_taken (n1_back _) (n1_back _))
  · exact (congrArg (taken 2048 _ _ _) ((left m c 5).trans (firsts_packed m c))).trans (means_taken (bf_back _) (bf_back _))
  · exact (congrArg (taken 2064 _ _ _) ((left m c 5).trans (firsts_packed m c))).trans (means_taken (qn_back _) (qn_back _))
  · exact (congrArg (taken 2192 _ _ _) ((left m c 5).trans (firsts_packed m c))).trans (means_taken (kn_back _) (kn_back _))
  · exact (congrArg (taken 2320 _ _ _) ((left m c 5).trans (firsts_packed m c))).trans (means_taken (cb_back _) (cb_back _))
  · exact (congrArg (taken 2832 _ _ _) ((left m c 5).trans (firsts_packed m c))).trans (means_taken (cg_back _) (cg_back _))
  · exact (congrArg (taken 3344 _ _ _) ((left m c 5).trans (firsts_packed m c))).trans (means_taken (cl_back _) (cl_back _))
  · exact (congrArg (taken 3856 _ _ _) ((left m c 5).trans (firsts_packed m c))).trans (means_taken (pw_back _) (pw_back _))
  · exact (congrArg (taken 36624 _ _ _) ((left m c 5).trans (firsts_packed m c))).trans (means_taken (ps_back _) (ps_back _))
  · exact (congrArg (taken 37136 _ _ _) ((left m c 5).trans (firsts_packed m c))).trans (means_taken (n2_back _) (n2_back _))
  · exact (congrArg (taken 0 _ _ _) ((left m c 6).trans (seconds_packed m c))).trans (squares_taken (n1_back _) (n1_back _))
  · exact (congrArg (taken 2048 _ _ _) ((left m c 6).trans (seconds_packed m c))).trans (squares_taken (bf_back _) (bf_back _))
  · exact (congrArg (taken 2064 _ _ _) ((left m c 6).trans (seconds_packed m c))).trans (squares_taken (qn_back _) (qn_back _))
  · exact (congrArg (taken 2192 _ _ _) ((left m c 6).trans (seconds_packed m c))).trans (squares_taken (kn_back _) (kn_back _))
  · exact (congrArg (taken 2320 _ _ _) ((left m c 6).trans (seconds_packed m c))).trans (squares_taken (cb_back _) (cb_back _))
  · exact (congrArg (taken 2832 _ _ _) ((left m c 6).trans (seconds_packed m c))).trans (squares_taken (cg_back _) (cg_back _))
  · exact (congrArg (taken 3344 _ _ _) ((left m c 6).trans (seconds_packed m c))).trans (squares_taken (cl_back _) (cl_back _))
  · exact (congrArg (taken 3856 _ _ _) ((left m c 6).trans (seconds_packed m c))).trans (squares_taken (pw_back _) (pw_back _))
  · exact (congrArg (taken 36624 _ _ _) ((left m c 6).trans (seconds_packed m c))).trans (squares_taken (ps_back _) (ps_back _))
  · exact (congrArg (taken 37136 _ _ _) ((left m c 6).trans (seconds_packed m c))).trans (squares_taken (n2_back _) (n2_back _))

end Cert.AdamSmallIdeal.Update

end
-- ==== Proof.AdamSmall.lean ====
/-
# The claims for the weights every chip holds whole

The run leaves the updates of the ten weights; the reference's lines for each weight say the same of the same arrays.
-/
module

public import proofs.«01_k».proof.Defs
public import proofs.«01_k».proof.Proof.AdamSmallValue
public import proofs.«01_k».proof.Proof.Gen.AdamSmallReferenceIdeal.Run

@[expose] public section

set_option maxRecDepth 65536

noncomputable section

namespace Cert.Proof

open Idealize.ShloMosaic Idealize.ShloMosaic.TcCoe Idealize.SL.Sem
open Cert.Adam

theorem frame_adam_small_ref_ideal : Cert.quiescent_AdamSmallReferenceIdeal := fun m ρ _ =>
  (θ_run Cert.AdamSmallReferenceIdeal.defs _ _).mono (fun r h => ⟨fun c => (h c).2.2.2.2.2.2.2.2.2.2.2.2.2.2.2.2.2.2.2.2.2.2.2.2.2.2.2.2.2.2, sem_eq_zero_of_no_sems (by decide) r.2⟩)
    (Cert.AdamSmallReferenceIdeal.Value.run (F := Ideal) m ρ)

theorem algebraic_adam_small : Cert.algebraic_AdamSmallIdeal_AdamSmallReferenceIdeal := fun m ρ m' ρ' _ h =>
  ⟨_, _, _, _, _, _, _, _, _, _, _, _, _, _, _, _, _, _, _, _, _, _, _, _, _, _, _, _, _, _,
    (θ_run Cert.AdamSmallIdeal.defs _ _).mono (fun _ k c => by
      obtain ⟨k0, k1, k2, k3, k4, k5, k6, k7, k8, k9, k10, k11, k12, k13, k14, k15, k16, k17, k18, k19, k20, k21, k22, k23, k24,
      k25, k26, k27, k28, k29⟩ := k.1 c
      exact ⟨k0, k1, k2, k3, k4, k5, k6, k7, k8, k9, k10, k11, k12, k13, k14, k15, k16, k17, k18, k19, k20, k21, k22, k23, k24,
      k25, k26, k27, k28, k29, k.2 c⟩)
      (θ_run_and (Cert.AdamSmallIdeal.Update.run (F := Ideal) m ρ) (Cert.AdamSmallIdeal.Gen.unchanged (F := Ideal) m ρ)),
    (θ_run Cert.AdamSmallReferenceIdeal.defs _ _).mono (fun _ k c => by
      obtain ⟨h0, h1, h2, h3, h4, h5, h6, h7, h8, h9, h10, h11, h12, h13, h14, h15, h16, h17, h18, h19, h20, h21, h22, h23, h24,
        h25, h26, h27, h28, h29, h30, h31, h32, h33, h34, h35, h36, h37, h38, h39⟩ := h c
      obtain ⟨k0, k1, k2, k3, k4, k5, k6, k7, k8, k9, k10, k11, k12, k13, k14, k15, k16, k17, k18, k19, k20, k21, k22, k23, k24,
        k25, k26, k27, k28, k29, kept⟩ := k c
      exact ⟨k0.trans ((deltas_host _ _ _ _ _).trans (deltas_same h0 h10 h20 h30)),
        k1.trans ((deltas_host _ _ _ _ _).trans (deltas_same h1 h11 h21 h31)),
        k2.trans ((deltas_host _ _ _ _ _).trans (deltas_same h2 h12 h22 h32)),
        k3.trans ((deltas_host _ _ _ _ _).trans (deltas_same h3 h13 h23 h33)),
        k4.trans ((deltas_host _ _ _ _ _).trans (deltas_same h4 h14 h24 h34)),
        k5.trans ((deltas_host _ _ _ _ _).trans (deltas_same h5 h15 h25 h35)),
        k6.trans ((deltas_host _ _ _ _ _).trans (deltas_same h6 h16 h26 h36)),
        k7.trans ((deltas_host _ _ _ _ _).trans (deltas_same h7 h17 h27 h37)),
        k8.trans ((deltas_host _ _ _ _ _).trans (deltas_same h8 h18 h28 h38)),
        k9.trans ((deltas_host _ _ _ _ _).trans (deltas_same h9 h19 h29 h39)),
        k10.trans ((means_host _ _ _).trans (means_same h10 h20)),
        k11.trans ((means_host _ _ _).trans (means_same h11 h21)),
        k12.trans ((means_host _ _ _).trans (means_same h12 h22)),
        k13.trans ((means_host _ _ _).trans (means_same h13 h23)),
        k14.trans ((means_host _ _ _).trans (means_same h14 h24)),
        k15.trans ((means_host _ _ _).trans (means_same h15 h25)),
        k16.trans ((means_host _ _ _).trans (means_same h16 h26)),
        k17.trans ((means_host _ _ _).trans (means_same h17 h27)),
        k18.trans ((means_host _ _ _).trans (means_same h18 h28)),
        k19.trans ((means_host _ _ _).trans (means_same h19 h29)),
        k20.trans ((squares_host _ _ _).trans (squares_same h10 h30)),
        k21.trans ((squares_host _ _ _).trans (squares_same h11 h31)),
        k22.trans ((squares_host _ _ _).trans (squares_same h12 h32)),
        k23.trans ((squares_host _ _ _).trans (squares_same h13 h33)),
        k24.trans ((squares_host _ _ _).trans (squares_same h14 h34)),
        k25.trans ((squares_host _ _ _).trans (squares_same h15 h35)),
        k26.trans ((squares_host _ _ _).trans (squares_same h16 h36)),
        k27.trans ((squares_host _ _ _).trans (squares_same h17 h37)),
        k28.trans ((squares_host _ _ _).trans (squares_same h18 h38)),
        k29.trans ((squares_host _ _ _).trans (squares_same h19 h39)), kept⟩)
      (Cert.AdamSmallReferenceIdeal.Value.run (F := Ideal) m' ρ')⟩

end Cert.Proof

end
-- ==== Proof.LossValue.lean ====
/-
# The loss of one device, and what it passes back

A grid point reads 512 rows of the last layer's output and of the targets. It writes the difference over the number of
features, and adds to the loss half the sum of the squared differences over the number of features. The eight grid points'
parts make up the sum over all the rows of half the mean squared difference: a positive constant goes into the sum.
-/
module

public import proofs.«01_k».proof.Proof.Gen.LossIdeal.Value
public import proofs.«01_k».proof.Proof.Gen.LossReferenceIdeal.Run
public import Idealize.ShloMosaic.Lib.Pipeline.ValueKit
public import Idealize.ShloMosaic.Lib.Pointwise
public import Idealize.ShloMosaic.PureOps.Ideal.Laws

@[expose] public section

set_option maxRecDepth 65536

noncomputable section

namespace Cert.LossIdeal.Total

open Idealize.ShloMosaic Idealize.ShloMosaic.TcCoe Idealize.SL.Sem
open Cert.LossIdeal Cert.LossIdeal.Gen
open scoped BigOperators

/-! Constants, and a constant into a sum. -/

theorem zero_word : Ideal.ofBits .f32 0x00000000#32 = 0 := by simp [Ideal.ofBits, Ideal.ieee]
theorem half_word : Ideal.ofBits .f32 0x3F000000#32 = ((1 / 2 : ℝ) : EReal) := by
  simp [Ideal.ofBits, Ideal.ieee, -EReal.coe_mul]; norm_num
theorem features_word : Ideal.ofBits .f32 0x44800000#32 = ((1024 : ℝ) : EReal) := by
  simp [Ideal.ofBits, Ideal.ieee, -EReal.coe_mul]; norm_num
theorem part_word : Ideal.ofBits .f32 0x3A800000#32 = ((1 / 1024 : ℝ) : EReal) := by
  simp [Ideal.ofBits, Ideal.ieee, -EReal.coe_mul]; norm_num
theorem halfpart_word : Ideal.ofBits .f32 0x3A000000#32 = ((1 / 2048 : ℝ) : EReal) := by
  simp [Ideal.ofBits, Ideal.ieee, -EReal.coe_mul]; norm_num

theorem sum_scaled {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (EReal.coe_nonneg.mpr ha) (EReal.coe_ne_top a) _ _

/-- The squared differences of a row, summed. -/
def squares {n : Nat} (y z : (⟨2, ![n, 1024]⟩ : Shape).Idx → EReal) (i : Fin n) : EReal :=
  ∑ k : Fin 1024, (y (ix2 i k) - z (ix2 i k)) * (y (ix2 i k) - z (ix2 i k))

/-- The kernel's lines. -/
theorem part_lines (y z : Vec Ideal S512x1024 .f32) (j : S1x1.Idx) :
    k0_pay3 (F := Ideal) y z j = ∑ r : Fin 512, squares (n := 512) y z r * ((1 / 2048 : ℝ) : EReal) := by
  rw [← sum_scaled _ _ (by norm_num), ← halfpart_word]
  pointwise [k0_pay3, k0_pay1, squares]

theorem more_lines (y z : Vec Ideal S512x1024 .f32) (l : Vec Ideal S1x1 .f32) (j : S1x1.Idx) :
    k0_pay4 (F := Ideal) y z l j = l j + k0_pay3 (F := Ideal) y z j := by
  refine Eq.trans (show _ = shapeCast S1x1 l shapeCasts_S1x1_S1x1 j + k0_pay3 (F := Ideal) y z j from rfl) ?_
  rw [shapeCast_self]

theorem back_lines (y z : Vec Ideal S512x1024 .f32) (j : S512x1024.Idx) :
    k0_pay2 (F := Ideal) y z j = (y j - z j) * ((1 / 1024 : ℝ) : EReal) := by
  rw [← part_word]; rfl

variable (m : (ℓ : Loc nD τ sig) → Buf (Elt Ideal) ℓ) (c : Dev nD)

theorem left_first (t : Fin cfg0.N) (h : t.val % 8 = 0) :
    outsAt0 m c t.val t.isLt = (k0_pay3 (iblk m c 0 t) (iblk m c 1 t), k0_pay2 (iblk m c 0 t) (iblk m c 1 t)) := by
  have hN : t.val < 8 := t.isLt
  rw [outsAt0_A m c t h (by omega)]
  frame_out

theorem left_later (t : Fin cfg0.N) (h : ¬t.val % 8 = 0) :
    outsAt0 m c t.val t.isLt = (k0_pay4 (iblk m c 0 t) (iblk m c 1 t)
      (outsAt0 m c (t.val - 1) (Nat.lt_of_le_of_lt (Nat.sub_le _ _) t.isLt)).1, k0_pay2 (iblk m c 0 t) (iblk m c 1 t)) := by
  have hN : t.val < 8 := t.isLt
  rw [outsAt0_B m c t h (by omega)]
  frame_out

theorem places : ∀ t : Fin cfg0.N, win0_0.index t = ![t.val, 0] ∧ win0_1.index t = ![t.val, 0] ∧ win0_3.index t = ![t.val, 0] :=
  (by decide +kernel : ∀ t : Fin grid0.N, win0_0.index t = ![t.val, 0] ∧ win0_1.index t = ![t.val, 0] ∧ win0_3.index t = ![t.val, 0])

/-- The last layer's output and the targets. -/
abbrev output : FVec Ideal S4096x1024 .f32 := m ((c.tc : Thread nD τ).loc main_arg0)
abbrev target : FVec Ideal S4096x1024 .f32 := m ((c.tc : Thread nD τ).loc main_arg1)

theorem rows_output (t : Fin cfg0.N) (r : Fin 512) (k : Fin 1024) (h : t.val * 512 + r.val < 4096) :
    iblk m c 0 t (ix2 r k) = output m c (ix2 ⟨t.val * 512 + r.val, h⟩ k) := by
  have e := (places t).1
  blk_ext [iblk, V, e]
theorem rows_target (t : Fin cfg0.N) (r : Fin 512) (k : Fin 1024) (h : t.val * 512 + r.val < 4096) :
    iblk m c 1 t (ix2 r k) = target m c (ix2 ⟨t.val * 512 + r.val, h⟩ k) := by
  have e := (places t).2.1
  blk_ext [iblk, V, e]

/-- The loss, and what it passes back. -/
def loss (y z : FVec Ideal S4096x1024 .f32) : FVec Ideal S1x1 .f32 :=
  fun _ => ∑ i : Fin 4096, squares (n := 4096) y z i * ((1 / 2048 : ℝ) : EReal)
def back (y z : FVec Ideal S4096x1024 .f32) : FVec Ideal S4096x1024 .f32 :=
  fun i => (y i - z i) * ((1 / 1024 : ℝ) : EReal)

theorem back_left (t : Fin cfg0.N) : (outsAt0 m c t.val t.isLt).2 = k0_pay2 (iblk m c 0 t) (iblk m c 1 t) := by
  by_cases h : t.val % 8 = 0
  · rw [left_first m c t h]
  · rw [left_later m c t h]

theorem backs : (dats m 0 c).arrAt 3 cfg0.N = back (output m c) (target m c) := by
  refine (dats m 0 c).arrAt_eq_of_covers 3 _ (by decide +kernel) fun t hf y => ?_
  blk_simp
  rw [after0_3, back_left, back_lines]
  have e := places t
  unfold back
  congr 2 <;> blk_ext [iblk, V, e.1, e.2.1, e.2.2]

theorem losses : (dats m 0 c).arrAt 2 cfg0.N = loss (output m c) (target m c) := by
  refine (dats m 0 c).arrAt_eq_of_after_last 2 t0_7 (by decide +kernel) _ fun j => ?_
  blk_simp
  rw [after0_2]
  refine (Pipeline.eq_sum_fin_of_reset_step_apply_last (fun n h => (outsAt0 m c n h).1) 8 (fun _ => (0 : EReal))
    (fun t j => ∑ r : Fin 512, squares (n := 512) (iblk m c 0 t) (iblk m c 1 t) r * ((1 / 2048 : ℝ) : EReal)) ?_ ?_ (by decide) t0_7 rfl _).trans ?_
  · intro t h j
    show _ = (0 : EReal) + _
    rw [left_first m c t h, zero_add]
    exact part_lines _ _ j
  · intro t h j
    rw [left_later m c t h]
    exact (more_lines _ _ _ j).trans (congrArg _ (part_lines _ _ j))
  rw [zero_add]
  show _ = ∑ i : Fin 4096, squares (n := 4096) (output m c) (target m c) i * ((1 / 2048 : ℝ) : EReal)
  rw [← Fin.sum_mul_add_fin 8 512 (fun i : Fin 4096 => squares (n := 4096) (output m c) (target m c) i * ((1 / 2048 : ℝ) : EReal)) rfl]
  refine Finset.sum_congr rfl fun t _ => Finset.sum_congr rfl fun r _ => congrArg (· * ((1 / 2048 : ℝ) : EReal)) ?_
  have h : t.val * 512 + r.val < 4096 := by have := t.isLt; have := r.isLt; have e : cfg0.N = 8 := N_0; omega
  refine Finset.sum_congr rfl fun k _ => ?_
  rw [rows_output m c t r k h, rows_target m c t r k h]

/-- The run leaves the loss and what it passes back. -/
theorem run (ρ : Dev nD → PrngReg) : θ_run defs (onTc (τ := τ) (main (F := Ideal))) ⟨m, fun _ => 0, ρ⟩ fun r => ∀ c : Dev nD,
    r.2.mem ((c.tc : Thread nD τ).loc main_v0_0) = loss (output m c) (target m c)
    ∧ r.2.mem ((c.tc : Thread nD τ).loc main_v0_1) = back (output m c) (target m c) :=
  (θ_run defs _ _).mono (fun _ h c => ⟨(h c).1.trans (losses m c), (h c).2.1.trans (backs m c)⟩) (Value.run_blocks m ρ)

end Cert.LossIdeal.Total

namespace Cert.LossReferenceIdeal.Total

open Idealize.ShloMosaic Idealize.ShloMosaic.TcCoe Idealize.SL.Sem
open Cert.LossReferenceIdeal Cert.LossReferenceIdeal.Gen Cert.LossIdeal.Total
open scoped BigOperators

theorem loss_lines (y z : FVec Ideal S4096x1024 .f32) :
    shapeCast S1x1 (mulf (constant (F := Ideal) S_ .f32 0x3F000000#32) (Host.reduceAdd (Host.divf (Host.reduceAdd (mulf (subf y z) (subf y z)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1
      = loss y z := by
  funext j
  pointwise [loss, squares]
  rw [half_word, features_word, mul_comm]
  simp only [Ideal.div_coe (by norm_num : (1024 : ℝ) ≠ 0)]
  rw [sum_scaled _ _ (by norm_num)]
  refine Finset.sum_congr rfl fun i _ => ?_
  rw [mul_assoc, ← EReal.coe_mul]
  norm_num

theorem back_lines (y z : FVec Ideal S4096x1024 .f32) :
    Host.divf (subf y z) (broadcastInDim S4096x1024 ![] bcast_S_S4096x1024 (constant (F := Ideal) S_ .f32 0x44800000#32)) = back y z := by
  funext j
  pointwise [back]
  rw [features_word, Ideal.div_coe (by norm_num)]

end Cert.LossReferenceIdeal.Total
-- ==== Proof.NormValue.lean ====
/-
# The gradient through a normalization

A grid point reads 512 rows of the normalized array, of the gradient that comes back and of the gradient that goes by, and the
whole gain. It writes the rows' gradient, and adds to the gain's gradient the sum over its rows. The eight grid points' parts
make up the sum over all the rows.
-/
module

public import proofs.«01_k».proof.Proof.LossValue
public import proofs.«01_k».proof.Proof.Gen.NormIdeal.Value
public import proofs.«01_k».proof.Proof.Gen.NormReferenceIdeal.Run

@[expose] public section

set_option maxRecDepth 65536

noncomputable section

namespace Cert.NormIdeal.Total

open Idealize.ShloMosaic Idealize.ShloMosaic.TcCoe Idealize.SL.Sem
open Cert.NormIdeal Cert.NormIdeal.Gen
open scoped BigOperators

/-- One over a row's root mean square. -/
def unit {n : Nat} (x : (⟨2, ![n, 1024]⟩ : Shape).Idx → EReal) (i : Fin n) : EReal :=
  Ideal.rsqrt (Ideal.div (∑ k : Fin 1024, x (ix2 i k) * x (ix2 i k)) (Ideal.ofBits .f32 0x44800000#32) + Ideal.ofBits .f32 0x358637BD#32)

/-- A row's gradient, and what a row gives to the gain's. -/
def toRow {n : Nat} (x : (⟨2, ![n, 1024]⟩ : Shape).Idx → EReal) (g : (⟨2, ![1, 1024]⟩ : Shape).Idx → EReal)
    (d e : (⟨2, ![n, 1024]⟩ : Shape).Idx → EReal) (i : Fin n) (k : Fin 1024) : EReal :=
  e (ix2 i k) + unit x i * (d (ix2 i k) * g (ix2 0 k)
    - x (ix2 i k) * unit x i * Ideal.div (∑ l : Fin 1024, d (ix2 i l) * g (ix2 0 l) * (x (ix2 i l) * unit x i)) (Ideal.ofBits .f32 0x44800000#32))
def toGain {n : Nat} (x d : (⟨2, ![n, 1024]⟩ : Shape).Idx → EReal) (i : Fin n) (k : Fin 1024) : EReal :=
  d (ix2 i k) * (x (ix2 i k) * unit x i)

theorem toRow_congr {n n' : Nat} {x d e : (⟨2, ![n, 1024]⟩ : Shape).Idx → EReal} {x' d' e' : (⟨2, ![n', 1024]⟩ : Shape).Idx → EReal}
    {g g' : (⟨2, ![1, 1024]⟩ : Shape).Idx → EReal} {i : Fin n} {i' : Fin n'} (hx : ∀ l, x (ix2 i l) = x' (ix2 i' l))
    (hg : ∀ l, g (ix2 0 l) = g' (ix2 0 l)) (hd : ∀ l, d (ix2 i l) = d' (ix2 i' l)) (he : ∀ l, e (ix2 i l) = e' (ix2 i' l)) (k : Fin 1024) :
    toRow x g d e i k = toRow x' g' d' e' i' k := by
  simp only [toRow, unit, hx, hg, hd, he]
theorem toGain_congr {n n' : Nat} {x d : (⟨2, ![n, 1024]⟩ : Shape).Idx → EReal} {x' d' : (⟨2, ![n', 1024]⟩ : Shape).Idx → EReal}
    {i : Fin n} {i' : Fin n'} (hx : ∀ l, x (ix2 i l) = x' (ix2 i' l)) (hd : ∀ l, d (ix2 i l) = d' (ix2 i' l)) (k : Fin 1024) :
    toGain x d i k = toGain x' d' i' k := by
  simp only [toGain, unit, hx, hd]

/-- The kernel's lines. -/
theorem row_lines (x d : Vec Ideal S512x1024 .f32) (g : Vec Ideal S1x1024 .f32) (e : Vec Ideal S512x1024 .f32) (j : S512x1024.Idx) :
    k0_pay4 (F := Ideal) x d g e j = toRow (n := 512) x g d e (j 0) (j 1) := by
  pointwise [k0_pay4, k0_pay3, k0_pay2, toRow, unit]

theorem gain_lines (x d : Vec Ideal S512x1024 .f32) (j : S1x1024.Idx) :
    k0_pay5 (F := Ideal) x d j = ∑ r : Fin 512, toGain (n := 512) x d r (j 1) := by
  pointwise [k0_pay5, k0_pay3, k0_pay2, toGain, unit]

theorem more_lines (p l : Vec Ideal S1x1024 .f32) (j : S1x1024.Idx) :
    k0_pay1 (F := Ideal) p l j = l j + p j := by
  refine Eq.trans (show _ = shapeCast S1x1024 l shapeCasts_S1x1024_S1x1024 j + p j from rfl) ?_
  rw [shapeCast_self]

variable (m : (ℓ : Loc nD τ sig) → Buf (Elt Ideal) ℓ) (c : Dev nD)

abbrev rowsLeft (t : Fin cfg0.N) := k0_pay4 (F := Ideal) (iblk m c 0 t) (iblk m c 2 t) (iblk m c 1 t) (iblk m c 3 t)
abbrev gainLeft (t : Fin cfg0.N) := k0_pay5 (F := Ideal) (iblk m c 0 t) (iblk m c 2 t)

theorem left_first (t : Fin cfg0.N) (h : t.val % 8 = 0) :
    outsAt0 m c t.val t.isLt = (rowsLeft m c t, gainLeft m c t) := by
  have hN : t.val < 8 := t.isLt
  rw [outsAt0_A m c t h (by omega)]
  frame_out

theorem left_later (t : Fin cfg0.N) (h : ¬t.val % 8 = 0) :
    outsAt0 m c t.val t.isLt = (rowsLeft m c t,
      k0_pay1 (gainLeft m c t) (outsAt0 m c (t.val - 1) (Nat.lt_of_le_of_lt (Nat.sub_le _ _) t.isLt)).2) := by
  have hN : t.val < 8 := t.isLt
  rw [outsAt0_B m c t h (by omega)]
  frame_out

theorem places : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

/-- The normalized array, the gain, the gradient that comes back and the one that goes by. -/
abbrev arr (c : Dev nD) : FVec Ideal S4096x1024 .f32 := m ((c.tc : Thread nD τ).loc main_arg0)
abbrev gain (c : Dev nD) : FVec Ideal S1x1024 .f32 := m ((c.tc : Thread nD τ).loc main_arg1)
abbrev back (c : Dev nD) : FVec Ideal S4096x1024 .f32 := m ((c.tc : Thread nD τ).loc main_arg2)
abbrev past (c : Dev nD) : FVec Ideal S4096x1024 .f32 := m ((c.tc : Thread nD τ).loc main_arg3)

theorem rows_arr (t : Fin cfg0.N) (r : Fin 512) (k : Fin 1024) (h : t.val * 512 + r.val < 4096) :
    iblk m c 0 t (ix2 r k) = arr m c (ix2 ⟨t.val * 512 + r.val, h⟩ k) := by
  have e := (places t).1
  blk_ext [iblk, V, e]
theorem rows_gain (t : Fin cfg0.N) (k : Fin 1024) : iblk m c 1 t (ix2 0 k) = gain m c (ix2 0 k) := by
  have e := (places t).2.1
  blk_ext [iblk, V, e]
theorem rows_back (t : Fin cfg0.N) (r : Fin 512) (k : Fin 1024) (h : t.val * 512 + r.val < 4096) :
    iblk m c 2 t (ix2 r k) = back m c (ix2 ⟨t.val * 512 + r.val, h⟩ k) := by
  have e := (places t).2.2.1
  blk_ext [iblk, V, e]
theorem rows_past (t : Fin cfg0.N) (r : Fin 512) (k : Fin 1024) (h : t.val * 512 + r.val < 4096) :
    iblk m c 3 t (ix2 r k) = past m c (ix2 ⟨t.val * 512 + r.val, h⟩ k) := by
  have e := (places t).2.2.2.1
  blk_ext [iblk, V, e]

theorem rows_toRow (t : Fin cfg0.N) (r : Fin 512) (k : Fin 1024) (h : t.val * 512 + r.val < 4096) :
    toRow (n := 512) (iblk m c 0 t) (iblk m c 1 t) (iblk m c 2 t) (iblk m c 3 t) r k
      = toRow (n := 4096) (arr m c) (gain m c) (back m c) (past m c) ⟨t.val * 512 + r.val, h⟩ k :=
  toRow_congr (fun l => rows_arr m c t r l h) (rows_gain m c t) (fun l => rows_back m c t r l h) (fun l => rows_past m c t r l h) k

theorem rows_toGain (t : Fin cfg0.N) (r : Fin 512) (k : Fin 1024) (h : t.val * 512 + r.val < 4096) :
    toGain (n := 512) (iblk m c 0 t) (iblk m c 2 t) r k = toGain (n := 4096) (arr m c) (back m c) ⟨t.val * 512 + r.val, h⟩ k :=
  toGain_congr (fun l => rows_arr m c t r l h) (fun l => rows_back m c t r l h) k

/-- The gradient of the rows, and of the gain. -/
def toRows (x : FVec Ideal S4096x1024 .f32) (g : FVec Ideal S1x1024 .f32) (d e : FVec Ideal S4096x1024 .f32) : FVec Ideal S4096x1024 .f32 :=
  fun i => toRow (n := 4096) x g d e (i 0) (i 1)
def toGains (x d : FVec Ideal S4096x1024 .f32) : FVec Ideal S1x1024 .f32 :=
  fun i => ∑ r : Fin 4096, toGain (n := 4096) x d r (i 1)

theorem row_left (t : Fin cfg0.N) : (outsAt0 m c t.val t.isLt).1 = rowsLeft m c t := by
  by_cases h : t.val % 8 = 0
  · rw [left_first m c t h]
  · rw [left_later m c t h]

theorem row_total : (dats m 0 c).arrAt 4 cfg0.N = toRows (arr m c) (gain m c) (back m c) (past m c) := by
  refine (dats m 0 c).arrAt_eq_of_covers 4 _ (by decide +kernel) fun t hf y => ?_
  have e := (places t).2.2.2.2
  have ht : t.val < 8 := t.isLt
  have h0 : (y 0).val < 512 := (y 0).isLt
  have h : t.val * 512 + (y 0).val < 4096 := by omega
  blk_simp
  rw [after0_4, row_left]
  refine (row_lines _ _ _ _ y).trans ((rows_toRow m c t ⟨(y 0).val, h0⟩ (y 1) h).trans ?_)
  refine congrArg (toRows (arr m c) (gain m c) (back m c) (past m c)) (?_ : ix2 _ _ = _)
  blk_ext [e]

theorem gain_total : (dats m 0 c).arrAt 5 cfg0.N = toGains (arr m c) (back m c) := by
  refine (dats m 0 c).arrAt_eq_of_after_last 5 t0_7 (by decide +kernel) _ fun j => ?_
  blk_simp
  rw [after0_5]
  refine (Pipeline.eq_sum_fin_of_reset_step_apply_last (fun n h => (outsAt0 m c n h).2) 8 (fun _ => (0 : EReal))
    (fun t (j : S1x1024.Idx) => ∑ r : Fin 512, toGain (n := 512) (iblk m c 0 t) (iblk m c 2 t) r (j 1)) ?_ ?_ (by decide) t0_7 rfl _).trans ?_
  · intro t h j
    show _ = (0 : EReal) + _
    rw [left_first m c t h, zero_add]
    exact gain_lines _ _ j
  · intro t h j
    rw [left_later m c t h]
    exact (more_lines _ _ j).trans (congrArg _ (gain_lines _ _ j))
  rw [zero_add]
  show _ = ∑ i : Fin 4096, toGain (n := 4096) (arr m c) (back m c) i (j 1)
  refine Fin.sum_mul_add_congr (S := 8) (n := 512) (fun t r h => ?_) rfl
  exact rows_toGain m c t r _ h

/-- The run leaves the two gradients. -/
theorem run (ρ : Dev nD → PrngReg) : θ_run defs (onTc (τ := τ) (main (F := Ideal))) ⟨m, fun _ => 0, ρ⟩ fun r => ∀ c : Dev nD,
    r.2.mem ((c.tc : Thread nD τ).loc main_v0_0) = toRows (arr m c) (gain m c) (back m c) (past m c)
    ∧ r.2.mem ((c.tc : Thread nD τ).loc main_v0_1) = toGains (arr m c) (back m c) :=
  (θ_run defs _ _).mono (fun _ h c => ⟨(h c).1.trans (row_total m c), (h c).2.1.trans (gain_total m c)⟩) (Value.run_blocks m ρ)

end Cert.NormIdeal.Total

namespace Cert.NormReferenceIdeal.Total

open Idealize.ShloMosaic Idealize.ShloMosaic.TcCoe Idealize.SL.Sem
open Cert.NormReferenceIdeal Cert.NormReferenceIdeal.Gen Cert.NormIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v22) = toRows (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_v25) = toGains (m ((c.tc : Thread nD τ).loc main_arg0)) (m ((c.tc : Thread nD τ).loc main_arg2)) := by
  refine (θ_run defs _ _).mono (fun _ h c => ⟨(h c).1.trans ?_, (h c).2.1.trans ?_⟩) (Value.run m ρ)
  · funext j
    pointwise [toRows, toRow, unit]
  · funext j
    pointwise [toGains, toGain, unit]

end Cert.NormReferenceIdeal.Total
-- ==== Proof.HiddenValue.lean ====
/-
# The normalization before a layer's projections

A grid point reads 512 rows and the gain, and writes the rows' normalized values.
-/
module

public import Idealize.ShloMosaic.Lib.Pipeline.ValueKit
public import Idealize.ShloMosaic.Lib.Pointwise
public import Idealize.ShloMosaic.PureOps.Ideal.Laws
public import proofs.«01_k».proof.Proof.Gen.HiddenIdeal.Value
public import proofs.«01_k».proof.Proof.Gen.HiddenReferenceIdeal.Run

@[expose] public section

set_option maxRecDepth 65536

noncomputable section

namespace Cert.HiddenIdeal.Total

open Idealize.ShloMosaic Idealize.ShloMosaic.TcCoe Idealize.SL.Sem
open Cert.HiddenIdeal Cert.HiddenIdeal.Gen
open scoped BigOperators

/-- A row's value at a feature: over the row's root mean square, times the gain. -/
def scaled {n : Nat} (x : (⟨2, ![n, 1024]⟩ : Shape).Idx → EReal) (g : (⟨2, ![1, 1024]⟩ : Shape).Idx → EReal) (i : Fin n) (k : Fin 1024) : EReal :=
  x (ix2 i k) * Ideal.rsqrt (Ideal.div (∑ l : Fin 1024, x (ix2 i l) * x (ix2 i l)) (Ideal.ofBits .f32 0x44800000#32)
    + Ideal.ofBits .f32 0x358637BD#32) * g (ix2 0 k)

theorem scaled_congr {n n' : Nat} {x : (⟨2, ![n, 1024]⟩ : Shape).Idx → EReal} {x' : (⟨2, ![n', 1024]⟩ : Shape).Idx → EReal}
    {g g' : (⟨2, ![1, 1024]⟩ : Shape).Idx → EReal} {i : Fin n} {i' : Fin n'} (hx : ∀ l, x (ix2 i l) = x' (ix2 i' l))
    (hg : ∀ l, g (ix2 0 l) = g' (ix2 0 l)) (k : Fin 1024) : scaled x g i k = scaled x' g' i' k := by
  simp only [scaled, hx, hg]

/-- The kernel's lines. -/
theorem lines (x : Vec Ideal S512x1024 .f32) (g : Vec Ideal S1x1024 .f32) (j : S512x1024.Idx) :
    k0_pay1 (F := Ideal) x g j = scaled (n := 512) x g (j 0) (j 1) := by
  pointwise [k0_pay1, scaled]

variable (m : (ℓ : Loc nD τ sig) → Buf (Elt Ideal) ℓ) (c : Dev nD)

theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array and the gain. -/
abbrev arr (c : Dev nD) : FVec Ideal S4096x1024 .f32 := m ((c.tc : Thread nD τ).loc main_arg0)
abbrev gain (c : Dev nD) : FVec Ideal S1x1024 .f32 := m ((c.tc : Thread nD τ).loc main_arg1)

theorem rows_arr (t : Fin cfg0.N) (r : Fin 512) (k : Fin 1024) (h : t.val * 512 + r.val < 4096) :
    iblk m c 0 t (ix2 r k) = arr m c (ix2 ⟨t.val * 512 + r.val, h⟩ k) := by
  have e := (places t).1
  blk_ext [iblk, V, e]
theorem rows_gain (t : Fin cfg0.N) (k : Fin 1024) : iblk m c 1 t (ix2 0 k) = gain m c (ix2 0 k) := by
  have e := (places t).2.1
  blk_ext [iblk, V, e]

/-- The normalized rows. -/
def normed (x : FVec Ideal S4096x1024 .f32) (g : FVec Ideal S1x1024 .f32) : FVec Ideal S4096x1024 .bf16 :=
  fun i => scaled (n := 4096) x g (i 0) (i 1)

theorem total : (dats m 0 c).arrAt 2 cfg0.N = normed (arr m c) (gain m c) := by
  refine (dats m 0 c).arrAt_eq_of_covers 2 _ (by decide +kernel) fun t hf y => ?_
  have e := (places t).2.2
  have ht : t.val < 8 := t.isLt
  have h0 : (y 0).val < 512 := (y 0).isLt
  have h : t.val * 512 + (y 0).val < 4096 := by omega
  blk_simp
  rw [after0_2]
  unfold out0_2
  frame_out
  refine (lines _ _ y).trans ((scaled_congr (fun l => rows_arr m c t ⟨(y 0).val, h0⟩ l h) (rows_gain m c t) (y 1)).trans ?_)
  refine congrArg (normed (arr m c) (gain m c)) (?_ : ix2 _ _ = _)
  blk_ext [e]

/-- The run leaves the normalized rows. -/
theorem run (ρ : Dev nD → PrngReg) : θ_run defs (onTc (τ := τ) (main (F := Ideal))) ⟨m, fun _ => 0, ρ⟩ fun r => ∀ c : Dev nD,
    r.2.mem ((c.tc : Thread nD τ).loc main_v0) = normed (arr m c) (gain m c) :=
  (θ_run defs _ _).mono (fun _ h c => (h c).1.trans (total m c)) (Value.run_blocks m ρ)

end Cert.HiddenIdeal.Total

namespace Cert.HiddenReferenceIdeal.Total

open Idealize.ShloMosaic Idealize.ShloMosaic.TcCoe Idealize.SL.Sem
open Cert.HiddenReferenceIdeal Cert.HiddenReferenceIdeal.Gen Cert.HiddenIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v12) = normed (m ((c.tc : Thread nD τ).loc main_arg0)) (m ((c.tc : Thread nD τ).loc main_arg1)) := by
  refine (θ_run defs _ _).mono (fun _ h c => (h c).1.trans ?_) (Value.run m ρ)
  funext j
  pointwise [normed, scaled]

end Cert.HiddenReferenceIdeal.Total
-- ==== Proof.DownValue.lean ====
/-
# A product: the gradient of the down projection's weights

A grid point multiplies a block of 1408 rows with a block of 1024 columns over a stretch of 1024, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.DownIdeal.Value
public import proofs.«01_k».proof.Proof.Gen.DownReferenceIdeal.Run

@[expose] public section

set_option maxRecDepth 65536

noncomputable section

namespace Cert.DownIdeal.Total

open Idealize.ShloMosaic Idealize.ShloMosaic.TcCoe Idealize.SL.Sem
open Cert.DownIdeal Cert.DownIdeal.Gen
open scoped BigOperators

/-- The kernel's lines. -/
theorem part_lines (x : Vec Ideal S1024x1408 .bf16) (y : Vec Ideal S1024x1024 .f32) (j : S1408x1024.Idx) :
    k0_pay1 (F := Ideal) x y j = (∑ r : Fin 1024, x (ix2 r (j 0)) * y (ix2 r (j 1)) : EReal) := by
  pointwise [k0_pay1]

theorem first_lines (x : Vec Ideal S1024x1408 .bf16) (y : Vec Ideal S1024x1024 .f32) : k0_pay2 (F := Ideal) x y = k0_pay1 x y :=
  shapeCast_self _ _

theorem more_lines (x : Vec Ideal S1024x1408 .bf16) (y : Vec Ideal S1024x1024 .f32) (l : Vec Ideal S1408x1024 .f32) (j : S1408x1024.Idx) :
    k0_pay3 (F := Ideal) x y l j = l j + k0_pay1 (F := Ideal) x y j := by
  refine Eq.trans (show _ = shapeCast S1408x1024 (addf l (k0_pay1 x y)) shapeCasts_S1408x1024_S1408x1024 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 8 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 8 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 8 := t.isLt
  rw [outsAt0_C m c t (by omega) (by omega) (by omega)]
  frame_out

theorem places : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The two factors. -/
abbrev left (c : Dev nD) : FVec Ideal S4096x2816 .bf16 := m ((c.tc : Thread nD τ).loc main_arg0)
abbrev right (c : Dev nD) : FVec Ideal S4096x1024 .f32 := m ((c.tc : Thread nD τ).loc main_arg1)

variable (t : Fin cfg0.N) (i j s : Nat) (hi : i < 2) (hj : j < 1) (hs : s < 4) (ht : t.val = (i * 1 + j) * 4 + s)
include hi hj hs ht

theorem rows_left (r : Fin 1408) (k : Fin 1024) :
    iblk m c 0 t (ix2 k r) = left m c (ix2 ⟨s * 1024 + k.val, by have := k.isLt; omega⟩ ⟨i * 1408 + r.val, by have := r.isLt; omega⟩) := by
  have e0 : t.val % 4 = s := by omega
  have e1 : t.val / 4 = i := by omega
  have e : win0_0.index t = ![s, i] := (places t).1.trans (congrArg₂ (fun p q : Nat => ![p, q]) e0 e1)
  blk_ext [iblk, V, e]

theorem rows_right (k : Fin 1024) (q : Fin 1024) :
    iblk m c 1 t (ix2 k q) = right m c (ix2 ⟨s * 1024 + k.val, by have := k.isLt; omega⟩ ⟨j * 1024 + q.val, by have := q.isLt; omega⟩) := by
  have e0 : t.val % 4 = s := by omega
  have e1 : 0 = j := by omega
  have e : win0_1.index t = ![s, j] := (places t).2.1.trans (congrArg₂ (fun p q : Nat => ![p, q]) e0 e1)
  blk_ext [iblk, V, e]

theorem place (y : S1408x1024.Idx) : (ix2 ⟨i * 1408 + (y 0).val, by have : (y 0).val < 1408 := (y 0).isLt; omega⟩ ⟨j * 1024 + (y 1).val, by have : (y 1).val < 1024 := (y 1).isLt; omega⟩) = (win0_2.blk t).view.emb y := by
  have e0 : t.val / 4 = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S4096x2816 .bf16) (y : FVec Ideal S4096x1024 .f32) : FVec Ideal S2816x1024 .f32 :=
  fun i => ((∑ r : Fin 4096, x (ix2 r (i 0)) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 8 := t.isLt
  have hl : t.val % 4 = 3 := by
    have := (flush0_2 t).mp hf
    omega
  blk_simp
  rw [after0_2, left_last m c t hl]
  refine Eq.trans ?_ (congrArg (prod (left m c) (right m c)) (place t (t.val / 4) (0) (3) (by omega) (by omega) (by omega) (by omega) y))
  refine (Pipeline.eq_sum_fin_of_reset_step_apply_of_flush (fun n h => (outsAt0 m c n h).2) 4 (fun _ => (0 : EReal))
    (fun t (j : S1408x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1024 (fun r : Fin 4096 => (left m c (ix2 r ⟨t.val / 4 * 1408 + (y 0).val, by have : (y 0).val < 1408 := (y 0).isLt; omega⟩)
    * right m c (ix2 r ⟨0 * 1024 + (y 1).val, by have : (y 1).val < 1024 := (y 1).isLt; omega⟩) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 8 := N_0; omega⟩ (t.val / 4) (0) (s.val) (by omega) (by omega) hs (by show (4 * (t.val / 4) + s.val) = _; omega) (y 0) r)
    (rows_right m c ⟨4 * (t.val / 4) + s.val, by have : cfg0.N = 8 := N_0; omega⟩ (t.val / 4) (0) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.DownIdeal.Total

namespace Cert.DownReferenceIdeal.Total

open Idealize.ShloMosaic Idealize.ShloMosaic.TcCoe Idealize.SL.Sem
open Cert.DownReferenceIdeal Cert.DownReferenceIdeal.Gen Cert.DownIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.DownReferenceIdeal.Total
-- ==== Proof.ProjAValue.lean ====
/-
# A product: the input projection

A grid point multiplies a block of 512 rows with a block of 768 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.ProjAIdeal.Value
public import proofs.«01_k».proof.Proof.Gen.ProjAReferenceIdeal.Run

@[expose] public section

set_option maxRecDepth 65536

noncomputable section

namespace Cert.ProjAIdeal.Total

open Idealize.ShloMosaic Idealize.ShloMosaic.TcCoe Idealize.SL.Sem
open Cert.ProjAIdeal Cert.ProjAIdeal.Gen
open scoped BigOperators

/-- The kernel's lines. -/
theorem lines (x : Vec Ideal S512x1024 .bf16) (y : Vec Ideal S1024x768 .bf16) (j : S512x768.Idx) :
    k0_pay1 (F := Ideal) x y j = (∑ r : Fin 1024, x (ix2 (j 0) r) * y (ix2 r (j 1)) : EReal) := by
  pointwise [k0_pay1]

variable (m : (ℓ : Loc nD τ sig) → Buf (Elt Ideal) ℓ) (c : Dev nD)

theorem places : ∀ t : Fin cfg0.N, win0_0.index t = ![t.val / 3, 0] ∧ win0_1.index t = ![0, t.val % 3] ∧ win0_2.index t = ![t.val / 3, t.val % 3] :=
  (by decide +kernel : ∀ t : Fin grid0.N, win0_0.index t = ![t.val / 3, 0] ∧ win0_1.index t = ![0, t.val % 3] ∧ win0_2.index t = ![t.val / 3, t.val % 3])

/-- The two factors. -/
abbrev left (c : Dev nD) : FVec Ideal S4096x1024 .bf16 := m ((c.tc : Thread nD τ).loc main_arg0)
abbrev right (c : Dev nD) : FVec Ideal S1024x2304 .bf16 := m ((c.tc : Thread nD τ).loc main_arg1)

variable (t : Fin cfg0.N) (i j s : Nat) (hi : i < 8) (hj : j < 3) (hs : s < 1) (ht : t.val = (i * 3 + j) * 1 + s)
include hi hj hs ht

theorem rows_left (r : Fin 512) (k : Fin 1024) :
    iblk m c 0 t (ix2 r k) = left m c (ix2 ⟨i * 512 + r.val, by have := r.isLt; omega⟩ ⟨s * 1024 + k.val, by have := k.isLt; omega⟩) := by
  have e0 : t.val / 3 = i := by omega
  have e1 : 0 = s := by omega
  have e : win0_0.index t = ![i, s] := (places t).1.trans (congrArg₂ (fun p q : Nat => ![p, q]) e0 e1)
  blk_ext [iblk, V, e]

theorem rows_right (k : Fin 1024) (q : Fin 768) :
    iblk m c 1 t (ix2 k q) = right m c (ix2 ⟨s * 1024 + k.val, by have := k.isLt; omega⟩ ⟨j * 768 + q.val, by have := q.isLt; omega⟩) := by
  have e0 : 0 = s := by omega
  have e1 : t.val % 3 = j := by omega
  have e : win0_1.index t = ![s, j] := (places t).2.1.trans (congrArg₂ (fun p q : Nat => ![p, q]) e0 e1)
  blk_ext [iblk, V, e]

theorem place (y : S512x768.Idx) : (ix2 ⟨i * 512 + (y 0).val, by have : (y 0).val < 512 := (y 0).isLt; omega⟩ ⟨j * 768 + (y 1).val, by have : (y 1).val < 768 := (y 1).isLt; omega⟩) = (win0_2.blk t).view.emb y := by
  have e0 : t.val / 3 = i := by omega
  have e1 : t.val % 3 = j := by omega
  have e : win0_2.index t = ![i, j] := (places t).2.2.trans (congrArg₂ (fun p q : Nat => ![p, q]) e0 e1)
  blk_ext [e]

omit hi hj hs ht in
/-- The product. -/
def prod (x : FVec Ideal S4096x1024 .bf16) (y : FVec Ideal S1024x2304 .bf16) : FVec Ideal S4096x2304 .f32 :=
  fun i => ((∑ r : Fin 1024, x (ix2 (i 0) r) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 24 := t.isLt
  blk_simp
  rw [after0_2]
  unfold out0_2
  frame_out
  refine (lines _ _ _).trans ?_
  refine Eq.trans ?_ (congrArg (prod (left m c) (right m c)) (place t (t.val / 3) (t.val % 3) (0) (by omega) (by omega) (by omega) (by omega) y))
  refine Finset.sum_congr rfl fun r _ => ?_
  refine (congrArg₂ (fun p q : EReal => p * q) (rows_left m c t (t.val / 3) (t.val % 3) (0) (by omega) (by omega) (by omega) (by omega) (y 0) r) (rows_right m c t (t.val / 3) (t.val % 3) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.ProjAIdeal.Total

namespace Cert.ProjAReferenceIdeal.Total

open Idealize.ShloMosaic Idealize.ShloMosaic.TcCoe Idealize.SL.Sem
open Cert.ProjAReferenceIdeal Cert.ProjAReferenceIdeal.Gen Cert.ProjAIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.ProjAReferenceIdeal.Total
-- ==== Proof.ProjFgValue.lean ====
/-
# A product: the forget gates' projection

A grid point multiplies a block of 16 rows with a block of 512 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.ProjFgIdeal.Value
public import proofs.«01_k».proof.Proof.Gen.ProjFgReferenceIdeal.Run

@[expose] public section

set_option maxRecDepth 65536

noncomputable section

namespace Cert.ProjFgIdeal.Total

open Idealize.ShloMosaic Idealize.ShloMosaic.TcCoe Idealize.SL.Sem
open Cert.ProjFgIdeal Cert.ProjFgIdeal.Gen
open scoped BigOperators

/-- The kernel's lines. -/
theorem lines (x : Vec Ideal S16x1024 .bf16) (y : Vec Ideal S512x1024 .bf16) (j : S16x512.Idx) :
    k0_pay1 (F := Ideal) x y j = (∑ r : Fin 1024, x (ix2 (j 0) r) * y (ix2 (j 1) r) : EReal) := by
  pointwise [k0_pay1]

variable (m : (ℓ : Loc nD τ sig) → Buf (Elt Ideal) ℓ) (c : Dev nD)

theorem places : ∀ t : Fin cfg0.N, win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val])

/-- The two factors. -/
abbrev left (c : Dev nD) : FVec Ideal S16x1024 .bf16 := m ((c.tc : Thread nD τ).loc main_arg0)
abbrev right (c : Dev nD) : FVec Ideal S4096x1024 .bf16 := m ((c.tc : Thread nD τ).loc main_arg1)

variable (t : Fin cfg0.N) (i j s : Nat) (hi : i < 1) (hj : j < 8) (hs : s < 1) (ht : t.val = (i * 8 + j) * 1 + s)
include hi hj hs ht

theorem rows_left (r : Fin 16) (k : Fin 1024) :
    iblk m c 0 t (ix2 r k) = left m c (ix2 ⟨i * 16 + r.val, by have := r.isLt; omega⟩ ⟨s * 1024 + k.val, by have := k.isLt; omega⟩) := by
  have e0 : 0 = i := by omega
  have e1 : 0 = s := by omega
  have e : win0_0.index t = ![i, s] := (places t).1.trans (congrArg₂ (fun p q : Nat => ![p, q]) e0 e1)
  blk_ext [iblk, V, e]

theorem rows_right (k : Fin 1024) (q : Fin 512) :
    iblk m c 1 t (ix2 q k) = right m c (ix2 ⟨j * 512 + q.val, by have := q.isLt; omega⟩ ⟨s * 1024 + k.val, by have := k.isLt; omega⟩) := by
  have e0 : t.val = j := by omega
  have e1 : 0 = s := by omega
  have e : win0_1.index t = ![j, s] := (places t).2.1.trans (congrArg₂ (fun p q : Nat => ![p, q]) e0 e1)
  blk_ext [iblk, V, e]

theorem place (y : S16x512.Idx) : (ix2 ⟨i * 16 + (y 0).val, by have : (y 0).val < 16 := (y 0).isLt; omega⟩ ⟨j * 512 + (y 1).val, by have : (y 1).val < 512 := (y 1).isLt; omega⟩) = (win0_2.blk t).view.emb y := by
  have e0 : 0 = i := by omega
  have e1 : t.val = j := by omega
  have e : win0_2.index t = ![i, j] := (places t).2.2.trans (congrArg₂ (fun p q : Nat => ![p, q]) e0 e1)
  blk_ext [e]

omit hi hj hs ht in
/-- The product. -/
def prod (x : FVec Ideal S16x1024 .bf16) (y : FVec Ideal S4096x1024 .bf16) : FVec Ideal S16x4096 .f32 :=
  fun i => ((∑ r : Fin 1024, x (ix2 (i 0) r) * y (ix2 (i 1) r)) : EReal)

omit t hi hj hs ht in
theorem total : (dats m 0 c).arrAt 2 cfg0.N = prod (left m c) (right m c) := by
  refine (dats m 0 c).arrAt_eq_of_covers 2 _ (by decide +kernel) fun t hf y => ?_
  have ht : t.val < 8 := t.isLt
  blk_simp
  rw [after0_2]
  unfold out0_2
  frame_out
  refine (lines _ _ _).trans ?_
  refine Eq.trans ?_ (congrArg (prod (left m c) (right m c)) (place t (0) (t.val) (0) (by omega) (by omega) (by omega) (by omega) y))
  refine Finset.sum_congr rfl fun r _ => ?_
  refine (congrArg₂ (fun p q : EReal => p * q) (rows_left m c t (0) (t.val) (0) (by omega) (by omega) (by omega) (by omega) (y 0) r) (rows_right m c t (0) (t.val) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.ProjFgIdeal.Total

namespace Cert.ProjFgReferenceIdeal.Total

open Idealize.ShloMosaic Idealize.ShloMosaic.TcCoe Idealize.SL.Sem
open Cert.ProjFgReferenceIdeal Cert.ProjFgReferenceIdeal.Gen Cert.ProjFgIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.ProjFgReferenceIdeal.Total
-- ==== Proof.OutProjValue.lean ====
/-
# A product: the output projection

A grid point multiplies a block of 512 rows with a block of 1024 columns and adds the block of the array that goes by.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.OutProjIdeal.Value
public import proofs.«01_k».proof.Proof.Gen.OutProjReferenceIdeal.Run

@[expose] public section

set_option maxRecDepth 65536

noncomputable section

namespace Cert.OutProjIdeal.Total

open Idealize.ShloMosaic Idealize.ShloMosaic.TcCoe Idealize.SL.Sem
open Cert.OutProjIdeal Cert.OutProjIdeal.Gen
open scoped BigOperators

/-- The kernel's lines. -/
theorem lines (x : Vec Ideal S512x1024 .bf16) (y : Vec Ideal S1024x1024 .bf16) (z : Vec Ideal S512x1024 .f32) (j : S512x1024.Idx) :
    k0_pay1 (F := Ideal) x y z j = ((∑ r : Fin 1024, x (ix2 (j 0) r) * y (ix2 r (j 1))) + z j : EReal) := by
  pointwise [k0_pay1]

variable (m : (ℓ : Loc nD τ sig) → Buf (Elt Ideal) ℓ) (c : Dev nD)

theorem places : ∀ t : Fin cfg0.N, win0_0.index t = ![t.val, 0] ∧ win0_1.index t = ![0, 0] ∧ win0_3.index t = ![t.val, 0] ∧ win0_2.index t = ![t.val, 0] :=
  (by decide +kernel : ∀ t : Fin grid0.N, win0_0.index t = ![t.val, 0] ∧ win0_1.index t = ![0, 0] ∧ win0_3.index t = ![t.val, 0] ∧ win0_2.index t = ![t.val, 0])

/-- The two factors, and the array that goes by. -/
abbrev left (c : Dev nD) : FVec Ideal S4096x1024 .bf16 := m ((c.tc : Thread nD τ).loc main_arg0)
abbrev right (c : Dev nD) : FVec Ideal S1024x1024 .bf16 := m ((c.tc : Thread nD τ).loc main_arg1)
abbrev past (c : Dev nD) : FVec Ideal S4096x1024 .f32 := m ((c.tc : Thread nD τ).loc main_arg2)

variable (t : Fin cfg0.N) (i j s : Nat) (hi : i < 8) (hj : j < 1) (hs : s < 1) (ht : t.val = (i * 1 + j) * 1 + s)
include hi hj hs ht

theorem rows_left (r : Fin 512) (k : Fin 1024) :
    iblk m c 0 t (ix2 r k) = left m c (ix2 ⟨i * 512 + r.val, by have := r.isLt; omega⟩ ⟨s * 1024 + k.val, by have := k.isLt; omega⟩) := by
  have e0 : t.val = i := by omega
  have e1 : 0 = s := by omega
  have e : win0_0.index t = ![i, s] := (places t).1.trans (congrArg₂ (fun p q : Nat => ![p, q]) e0 e1)
  blk_ext [iblk, V, e]

theorem rows_right (k : Fin 1024) (q : Fin 1024) :
    iblk m c 1 t (ix2 k q) = right m c (ix2 ⟨s * 1024 + k.val, by have := k.isLt; omega⟩ ⟨j * 1024 + q.val, by have := q.isLt; omega⟩) := by
  have e0 : 0 = s := by omega
  have e1 : 0 = j := by omega
  have e : win0_1.index t = ![s, j] := (places t).2.1.trans (congrArg₂ (fun p q : Nat => ![p, q]) e0 e1)
  blk_ext [iblk, V, e]

theorem rows_past (y : S512x1024.Idx) : iblk m c 2 t y = past m c (ix2 ⟨i * 512 + (y 0).val, by have : (y 0).val < 512 := (y 0).isLt; omega⟩ ⟨j * 1024 + (y 1).val, by have : (y 1).val < 1024 := (y 1).isLt; omega⟩) := by
  have e0 : t.val = i := by omega
  have e1 : 0 = j := by omega
  have e : win0_2.index t = ![i, j] := (places t).2.2.2.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_3.blk t).view.emb y := by
  have e0 : t.val = i := by omega
  have e1 : 0 = j := by omega
  have e : win0_3.index t = ![i, j] := (places t).2.2.1.trans (congrArg₂ (fun p q : Nat => ![p, q]) e0 e1)
  blk_ext [e]

omit hi hj hs ht in
/-- The product, and what goes by. -/
def prod (x : FVec Ideal S4096x1024 .bf16) (y : FVec Ideal S1024x1024 .bf16) (z : FVec Ideal S4096x1024 .f32) : FVec Ideal S4096x1024 .f32 :=
  fun i => ((∑ r : Fin 1024, x (ix2 (i 0) r) * y (ix2 r (i 1))) + z i : EReal)

omit t hi hj hs ht in
theorem total : (dats m 0 c).arrAt 3 cfg0.N = prod (left m c) (right m c) (past m c) := by
  refine (dats m 0 c).arrAt_eq_of_covers 3 _ (by decide +kernel) fun t hf y => ?_
  have ht : t.val < 8 := t.isLt
  blk_simp
  rw [after0_3]
  unfold out0_3
  frame_out
  refine (lines _ _ _ _).trans ?_
  refine Eq.trans ?_ (congrArg (prod (left m c) (right m c) (past m c)) (place t (t.val) (0) (0) (by omega) (by omega) (by omega) (by omega) y))
  refine congrArg₂ (· + ·) ?_ (rows_past m c t (t.val) (0) (0) (by omega) (by omega) (by omega) (by omega) y)
  refine Finset.sum_congr rfl fun r _ => ?_
  refine (congrArg₂ (fun p q : EReal => p * q) (rows_left m c t (t.val) (0) (0) (by omega) (by omega) (by omega) (by omega) (y 0) r) (rows_right m c t (t.val) (0) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) (past m c) :=
  (θ_run defs _ _).mono (fun _ h c => (h c).1.trans (total m c)) (Value.run_blocks m ρ)

end Cert.OutProjIdeal.Total

namespace Cert.OutProjReferenceIdeal.Total

open Idealize.ShloMosaic Idealize.ShloMosaic.TcCoe Idealize.SL.Sem
open Cert.OutProjReferenceIdeal Cert.OutProjReferenceIdeal.Gen Cert.OutProjIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) (m ((c.tc : Thread nD τ).loc main_arg2)) := by
  refine (θ_run defs _ _).mono (fun _ h c => (h c).1.trans ?_) (Value.run m ρ)
  funext j
  pointwise [prod]

end Cert.OutProjReferenceIdeal.Total
-- ==== Proof.UpProjValue.lean ====
/-
# A product: the up projection

A grid point multiplies a block of 512 rows with a block of 1408 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.UpProjIdeal.Value
public import proofs.«01_k».proof.Proof.Gen.UpProjReferenceIdeal.Run

@[expose] public section

set_option maxRecDepth 65536

noncomputable section

namespace Cert.UpProjIdeal.Total

open Idealize.ShloMosaic Idealize.ShloMosaic.TcCoe Idealize.SL.Sem
open Cert.UpProjIdeal Cert.UpProjIdeal.Gen
open scoped BigOperators

/-- The kernel's lines. -/
theorem lines (x : Vec Ideal S512x1024 .bf16) (y : Vec Ideal S1024x1408 .bf16) (j : S512x1408.Idx) :
    k0_pay1 (F := Ideal) x y j = (∑ r : Fin 1024, x (ix2 (j 0) r) * y (ix2 r (j 1)) : EReal) := by
  pointwise [k0_pay1]

variable (m : (ℓ : Loc nD τ sig) → Buf (Elt Ideal) ℓ) (c : Dev nD)

theorem places : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

/-- The two factors. -/
abbrev left (c : Dev nD) : FVec Ideal S4096x1024 .bf16 := m ((c.tc : Thread nD τ).loc main_arg0)
abbrev right (c : Dev nD) : FVec Ideal S1024x5632 .bf16 := m ((c.tc : Thread nD τ).loc main_arg1)

variable (t : Fin cfg0.N) (i j s : Nat) (hi : i < 8) (hj : j < 4) (hs : s < 1) (ht : t.val = (i * 4 + j) * 1 + s)
include hi hj hs ht

theorem rows_left (r : Fin 512) (k : Fin 1024) :
    iblk m c 0 t (ix2 r k) = left m c (ix2 ⟨i * 512 + r.val, by have := r.isLt; omega⟩ ⟨s * 1024 + k.val, by have := k.isLt; omega⟩) := by
  have e0 : t.val / 4 = i := by omega
  have e1 : 0 = s := by omega
  have e : win0_0.index t = ![i, s] := (places t).1.trans (congrArg₂ (fun p q : Nat => ![p, q]) e0 e1)
  blk_ext [iblk, V, e]

theorem rows_right (k : Fin 1024) (q : Fin 1408) :
    iblk m c 1 t (ix2 k q) = right m c (ix2 ⟨s * 1024 + k.val, by have := k.isLt; omega⟩ ⟨j * 1408 + q.val, by have := q.isLt; omega⟩) := by
  have e0 : 0 = s := by omega
  have e1 : t.val % 4 = j := by omega
  have e : win0_1.index t = ![s, j] := (places t).2.1.trans (congrArg₂ (fun p q : Nat => ![p, q]) e0 e1)
  blk_ext [iblk, V, e]

theorem place (y : S512x1408.Idx) : (ix2 ⟨i * 512 + (y 0).val, by have : (y 0).val < 512 := (y 0).isLt; omega⟩ ⟨j * 1408 + (y 1).val, by have : (y 1).val < 1408 := (y 1).isLt; omega⟩) = (win0_2.blk t).view.emb y := by
  have e0 : t.val / 4 = i := by omega
  have e1 : t.val % 4 = j := by omega
  have e : win0_2.index t = ![i, j] := (places t).2.2.trans (congrArg₂ (fun p q : Nat => ![p, q]) e0 e1)
  blk_ext [e]

omit hi hj hs ht in
/-- The product. -/
def prod (x : FVec Ideal S4096x1024 .bf16) (y : FVec Ideal S1024x5632 .bf16) : FVec Ideal S4096x5632 .f32 :=
  fun i => ((∑ r : Fin 1024, x (ix2 (i 0) r) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 32 := t.isLt
  blk_simp
  rw [after0_2]
  unfold out0_2
  frame_out
  refine (lines _ _ _).trans ?_
  refine Eq.trans ?_ (congrArg (prod (left m c) (right m c)) (place t (t.val / 4) (t.val % 4) (0) (by omega) (by omega) (by omega) (by omega) y))
  refine Finset.sum_congr rfl fun r _ => ?_
  refine (congrArg₂ (fun p q : EReal => p * q) (rows_left m c t (t.val / 4) (t.val % 4) (0) (by omega) (by omega) (by omega) (by omega) (y 0) r) (rows_right m c t (t.val / 4) (t.val % 4) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.UpProjIdeal.Total

namespace Cert.UpProjReferenceIdeal.Total

open Idealize.ShloMosaic Idealize.ShloMosaic.TcCoe Idealize.SL.Sem
open Cert.UpProjReferenceIdeal Cert.UpProjReferenceIdeal.Gen Cert.UpProjIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.UpProjReferenceIdeal.Total
-- ==== Proof.DownProjValue.lean ====
/-
# A product: the down projection

A grid point multiplies a block of 512 rows with a block of 1024 columns over a stretch of 1408, and 2 points add up to the whole sum, to which the last one adds the block of the array that goes by.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.DownProjIdeal.Value
public import proofs.«01_k».proof.Proof.Gen.DownProjReferenceIdeal.Run

@[expose] public section

set_option maxRecDepth 65536

noncomputable section

namespace Cert.DownProjIdeal.Total

open Idealize.ShloMosaic Idealize.ShloMosaic.TcCoe Idealize.SL.Sem
open Cert.DownProjIdeal Cert.DownProjIdeal.Gen
open scoped BigOperators

/-- The kernel's lines. -/
theorem part_lines (x : Vec Ideal S512x1408 .bf16) (y : Vec Ideal S1408x1024 .bf16) (j : S512x1024.Idx) :
    k0_pay1 (F := Ideal) x y j = (∑ r : Fin 1408, x (ix2 (j 0) r) * y (ix2 r (j 1)) : EReal) := by
  pointwise [k0_pay1]

theorem first_lines (x : Vec Ideal S512x1408 .bf16) (y : Vec Ideal S1408x1024 .bf16) : k0_pay2 (F := Ideal) x y = k0_pay1 x y :=
  shapeCast_self _ _

theorem more_lines (x : Vec Ideal S512x1408 .bf16) (y : Vec Ideal S1408x1024 .bf16) (l : Vec Ideal S512x1024 .f32) (j : S512x1024.Idx) :
    k0_pay3 (F := Ideal) x y l j = l j + k0_pay1 (F := Ideal) x y j := by
  refine Eq.trans (show _ = shapeCast S512x1024 (addf l (k0_pay1 x y)) shapeCasts_S512x1024_S512x1024 j from rfl) ?_
  rw [shapeCast_self]
  rfl

theorem last_lines (l z : Vec Ideal S512x1024 .f32) (j : S512x1024.Idx) : k0_pay4 (F := Ideal) l z j = l j + z j := by
  pointwise [k0_pay4]

variable (m : (ℓ : Loc nD τ sig) → Buf (Elt Ideal) ℓ) (c : Dev nD)

/-- The first of 2 points starts a block, the others add to it, and the last one writes it. -/
theorem left_first (t : Fin cfg0.N) (h : t.val % 2 = 0) :
    (outsAt0 m c t.val t.isLt).2 = k0_pay2 (F := Ideal) (iblk m c 0 t) (iblk m c 1 t) := by
  have ht : t.val < 16 := t.isLt
  rw [outsAt0_A m c t (by omega) (by omega) (by omega)]
  frame_out

theorem left_later (t : Fin cfg0.N) (h : ¬t.val % 2 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 16 := t.isLt
  rw [outsAt0_B m c t h (by omega) (by omega)]
  frame_out
  simp only [read_unread_whole]

theorem left_last (t : Fin cfg0.N) (h : t.val % 2 = 1) :
    (outsAt0 m c t.val t.isLt).1 = k0_pay4 (F := Ideal) (outsAt0 m c t.val t.isLt).2 (iblk m c 2 t) := by
  have ht : t.val < 16 := t.isLt
  rw [outsAt0_B m c t (by omega) (by omega) (by omega)]
  frame_out

theorem places : ∀ t : Fin cfg0.N, win0_0.index t = ![t.val / 2, t.val % 2] ∧ win0_1.index t = ![t.val % 2, 0] ∧ win0_3.index t = ![t.val / 2, 0] ∧ win0_2.index t = ![t.val / 2, 0] :=
  (by decide +kernel : ∀ t : Fin grid0.N, win0_0.index t = ![t.val / 2, t.val % 2] ∧ win0_1.index t = ![t.val % 2, 0] ∧ win0_3.index t = ![t.val / 2, 0] ∧ win0_2.index t = ![t.val / 2, 0])

/-- The two factors, and the array that goes by. -/
abbrev left (c : Dev nD) : FVec Ideal S4096x2816 .bf16 := m ((c.tc : Thread nD τ).loc main_arg0)
abbrev right (c : Dev nD) : FVec Ideal S2816x1024 .bf16 := m ((c.tc : Thread nD τ).loc main_arg1)
abbrev past (c : Dev nD) : FVec Ideal S4096x1024 .f32 := m ((c.tc : Thread nD τ).loc main_arg2)

variable (t : Fin cfg0.N) (i j s : Nat) (hi : i < 8) (hj : j < 1) (hs : s < 2) (ht : t.val = (i * 1 + j) * 2 + s)
include hi hj hs ht

theorem rows_left (r : Fin 512) (k : Fin 1408) :
    iblk m c 0 t (ix2 r k) = left m c (ix2 ⟨i * 512 + r.val, by have := r.isLt; omega⟩ ⟨s * 1408 + k.val, by have := k.isLt; omega⟩) := by
  have e0 : t.val / 2 = i := by omega
  have e1 : t.val % 2 = s := by omega
  have e : win0_0.index t = ![i, s] := (places t).1.trans (congrArg₂ (fun p q : Nat => ![p, q]) e0 e1)
  blk_ext [iblk, V, e]

theorem rows_right (k : Fin 1408) (q : Fin 1024) :
    iblk m c 1 t (ix2 k q) = right m c (ix2 ⟨s * 1408 + k.val, by have := k.isLt; omega⟩ ⟨j * 1024 + q.val, by have := q.isLt; omega⟩) := by
  have e0 : t.val % 2 = s := by omega
  have e1 : 0 = j := by omega
  have e : win0_1.index t = ![s, j] := (places t).2.1.trans (congrArg₂ (fun p q : Nat => ![p, q]) e0 e1)
  blk_ext [iblk, V, e]

theorem rows_past (y : S512x1024.Idx) : iblk m c 2 t y = past m c (ix2 ⟨i * 512 + (y 0).val, by have : (y 0).val < 512 := (y 0).isLt; omega⟩ ⟨j * 1024 + (y 1).val, by have : (y 1).val < 1024 := (y 1).isLt; omega⟩) := by
  have e0 : t.val / 2 = i := by omega
  have e1 : 0 = j := by omega
  have e : win0_2.index t = ![i, j] := (places t).2.2.2.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_3.blk t).view.emb y := by
  have e0 : t.val / 2 = i := by omega
  have e1 : 0 = j := by omega
  have e : win0_3.index t = ![i, j] := (places t).2.2.1.trans (congrArg₂ (fun p q : Nat => ![p, q]) e0 e1)
  blk_ext [e]

omit hi hj hs ht in
/-- The product, and what goes by. -/
def prod (x : FVec Ideal S4096x2816 .bf16) (y : FVec Ideal S2816x1024 .bf16) (z : FVec Ideal S4096x1024 .f32) : FVec Ideal S4096x1024 .f32 :=
  fun i => ((∑ r : Fin 2816, x (ix2 (i 0) r) * y (ix2 r (i 1))) + z i : EReal)

omit t hi hj hs ht in
theorem total : (dats m 0 c).arrAt 3 cfg0.N = prod (left m c) (right m c) (past m c) := by
  refine (dats m 0 c).arrAt_eq_of_covers 3 _ (by decide +kernel) fun t hf y => ?_
  have ht : t.val < 16 := t.isLt
  have hl : t.val % 2 = 1 := by
    have := (flush0_3 t).mp hf
    omega
  blk_simp
  rw [after0_3, left_last m c t hl]
  refine Eq.trans ?_ (congrArg (prod (left m c) (right m c) (past m c)) (place t (t.val / 2) (0) (1) (by omega) (by omega) (by omega) (by omega) y))
  refine (last_lines _ _ _).trans (congrArg₂ (fun p q : EReal => p + q) ?_ (rows_past m c t (t.val / 2) (0) (1) (by omega) (by omega) (by omega) (by omega) y))
  refine (Pipeline.eq_sum_fin_of_reset_step_apply_of_flush (fun n h => (outsAt0 m c n h).2) 2 (fun _ => (0 : EReal))
    (fun t (j : S512x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 2 1408 (fun r : Fin 2816 => (left m c (ix2 ⟨t.val / 2 * 512 + (y 0).val, by have : (y 0).val < 512 := (y 0).isLt; omega⟩ r)
    * right m c (ix2 r ⟨0 * 1024 + (y 1).val, by have : (y 1).val < 1024 := (y 1).isLt; omega⟩) : EReal)) rfl)
  refine Finset.sum_congr rfl fun s _ => (part_lines _ _ _).trans (Finset.sum_congr rfl fun r _ => ?_)
  have hs : s.val < 2 := s.isLt
  have e := Nat.div_add_mod t.val 2
  exact congrArg₂ (fun p q : EReal => p * q)
    (rows_left m c ⟨2 * (t.val / 2) + s.val, by have : cfg0.N = 16 := N_0; omega⟩ (t.val / 2) (0) (s.val) (by omega) (by omega) hs (by show (2 * (t.val / 2) + s.val) = _; omega) (y 0) r)
    (rows_right m c ⟨2 * (t.val / 2) + s.val, by have : cfg0.N = 16 := N_0; omega⟩ (t.val / 2) (0) (s.val) (by omega) (by omega) hs (by show (2 * (t.val / 2) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) (past m c) :=
  (θ_run defs _ _).mono (fun _ h c => (h c).1.trans (total m c)) (Value.run_blocks m ρ)

end Cert.DownProjIdeal.Total

namespace Cert.DownProjReferenceIdeal.Total

open Idealize.ShloMosaic Idealize.ShloMosaic.TcCoe Idealize.SL.Sem
open Cert.DownProjReferenceIdeal Cert.DownProjReferenceIdeal.Gen Cert.DownProjIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) (m ((c.tc : Thread nD τ).loc main_arg2)) := by
  refine (θ_run defs _ _).mono (fun _ h c => (h c).1.trans ?_) (Value.run m ρ)
  funext j
  pointwise [prod]

end Cert.DownProjReferenceIdeal.Total
-- ==== Proof.BackActValue.lean ====
/-
# A product: the gradient through the down projection

A grid point multiplies a block of 512 rows with a block of 1408 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.BackActIdeal.Value
public import proofs.«01_k».proof.Proof.Gen.BackActReferenceIdeal.Run

@[expose] public section

set_option maxRecDepth 65536

noncomputable section

namespace Cert.BackActIdeal.Total

open Idealize.ShloMosaic Idealize.ShloMosaic.TcCoe Idealize.SL.Sem
open Cert.BackActIdeal Cert.BackActIdeal.Gen
open scoped BigOperators

/-- The kernel's lines. -/
theorem lines (x : Vec Ideal S512x1024 .f32) (y : Vec Ideal S1408x1024 .bf16) (j : S512x1408.Idx) :
    k0_pay1 (F := Ideal) x y j = (∑ r : Fin 1024, x (ix2 (j 0) r) * y (ix2 (j 1) r) : EReal) := by
  pointwise [k0_pay1]

variable (m : (ℓ : Loc nD τ sig) → Buf (Elt Ideal) ℓ) (c : Dev nD)

theorem places : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- The two factors. -/
abbrev left (c : Dev nD) : FVec Ideal S4096x1024 .f32 := m ((c.tc : Thread nD τ).loc main_arg0)
abbrev right (c : Dev nD) : FVec Ideal S2816x1024 .bf16 := m ((c.tc : Thread nD τ).loc main_arg1)

variable (t : Fin cfg0.N) (i j s : Nat) (hi : i < 8) (hj : j < 2) (hs : s < 1) (ht : t.val = (i * 2 + j) * 1 + s)
include hi hj hs ht

theorem rows_left (r : Fin 512) (k : Fin 1024) :
    iblk m c 0 t (ix2 r k) = left m c (ix2 ⟨i * 512 + r.val, by have := r.isLt; omega⟩ ⟨s * 1024 + k.val, by have := k.isLt; omega⟩) := by
  have e0 : t.val / 2 = i := by omega
  have e1 : 0 = s := by omega
  have e : win0_0.index t = ![i, s] := (places t).1.trans (congrArg₂ (fun p q : Nat => ![p, q]) e0 e1)
  blk_ext [iblk, V, e]

theorem rows_right (k : Fin 1024) (q : Fin 1408) :
    iblk m c 1 t (ix2 q k) = right m c (ix2 ⟨j * 1408 + q.val, by have := q.isLt; omega⟩ ⟨s * 1024 + k.val, by have := k.isLt; omega⟩) := by
  have e0 : t.val % 2 = j := by omega
  have e1 : 0 = s := by omega
  have e : win0_1.index t = ![j, s] := (places t).2.1.trans (congrArg₂ (fun p q : Nat => ![p, q]) e0 e1)
  blk_ext [iblk, V, e]

theorem place (y : S512x1408.Idx) : (ix2 ⟨i * 512 + (y 0).val, by have : (y 0).val < 512 := (y 0).isLt; omega⟩ ⟨j * 1408 + (y 1).val, by have : (y 1).val < 1408 := (y 1).isLt; omega⟩) = (win0_2.blk t).view.emb y := by
  have e0 : t.val / 2 = i := by omega
  have e1 : t.val % 2 = j := by omega
  have e : win0_2.index t = ![i, j] := (places t).2.2.trans (congrArg₂ (fun p q : Nat => ![p, q]) e0 e1)
  blk_ext [e]

omit hi hj hs ht in
/-- The product. -/
def prod (x : FVec Ideal S4096x1024 .f32) (y : FVec Ideal S2816x1024 .bf16) : FVec Ideal S4096x2816 .f32 :=
  fun i => ((∑ r : Fin 1024, x (ix2 (i 0) r) * y (ix2 (i 1) r)) : EReal)

omit t hi hj hs ht in
theorem total : (dats m 0 c).arrAt 2 cfg0.N = prod (left m c) (right m c) := by
  refine (dats m 0 c).arrAt_eq_of_covers 2 _ (by decide +kernel) fun t hf y => ?_
  have ht : t.val < 16 := t.isLt
  blk_simp
  rw [after0_2]
  unfold out0_2
  frame_out
  refine (lines _ _ _).trans ?_
  refine Eq.trans ?_ (congrArg (prod (left m c) (right m c)) (place t (t.val / 2) (t.val % 2) (0) (by omega) (by omega) (by omega) (by omega) y))
  refine Finset.sum_congr rfl fun r _ => ?_
  refine (congrArg₂ (fun p q : EReal => p * q) (rows_left m c t (t.val / 2) (t.val % 2) (0) (by omega) (by omega) (by omega) (by omega) (y 0) r) (rows_right m c t (t.val / 2) (t.val % 2) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.BackActIdeal.Total

namespace Cert.BackActReferenceIdeal.Total

open Idealize.ShloMosaic Idealize.ShloMosaic.TcCoe Idealize.SL.Sem
open Cert.BackActReferenceIdeal Cert.BackActReferenceIdeal.Gen Cert.BackActIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.BackActReferenceIdeal.Total
-- ==== Proof.BackUpValue.lean ====
/-
# A product: the gradient through the up projection

A grid point multiplies a block of 512 rows with a block of 1024 columns over a stretch of 1408, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.BackUpIdeal.Value
public import proofs.«01_k».proof.Proof.Gen.BackUpReferenceIdeal.Run

@[expose] public section

set_option maxRecDepth 65536

noncomputable section

namespace Cert.BackUpIdeal.Total

open Idealize.ShloMosaic Idealize.ShloMosaic.TcCoe Idealize.SL.Sem
open Cert.BackUpIdeal Cert.BackUpIdeal.Gen
open scoped BigOperators

/-- The kernel's lines. -/
theorem part_lines (x : Vec Ideal S512x1408 .bf16) (y : Vec Ideal S1024x1408 .bf16) (j : S512x1024.Idx) :
    k0_pay1 (F := Ideal) x y j = (∑ r : Fin 1408, x (ix2 (j 0) r) * y (ix2 (j 1) r) : EReal) := by
  pointwise [k0_pay1]

theorem first_lines (x : Vec Ideal S512x1408 .bf16) (y : Vec Ideal S1024x1408 .bf16) : k0_pay2 (F := Ideal) x y = k0_pay1 x y :=
  shapeCast_self _ _

theorem more_lines (x : Vec Ideal S512x1408 .bf16) (y : Vec Ideal S1024x1408 .bf16) (l : Vec Ideal S512x1024 .f32) (j : S512x1024.Idx) :
    k0_pay3 (F := Ideal) x y l j = l j + k0_pay1 (F := Ideal) x y j := by
  refine Eq.trans (show _ = shapeCast S512x1024 (addf l (k0_pay1 x y)) shapeCasts_S512x1024_S512x1024 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 32 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 32 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 32 := t.isLt
  rw [outsAt0_C m c t (by omega) (by omega) (by omega)]
  frame_out

theorem places : ∀ t : Fin cfg0.N, win0_0.index t = ![t.val / 4, t.val % 4] ∧ win0_1.index t = ![0, t.val % 4] ∧ win0_2.index t = ![t.val / 4, 0] :=
  (by decide +kernel : ∀ t : Fin grid0.N, win0_0.index t = ![t.val / 4, t.val % 4] ∧ win0_1.index t = ![0, t.val % 4] ∧ win0_2.index t = ![t.val / 4, 0])

/-- The two factors. -/
abbrev left (c : Dev nD) : FVec Ideal S4096x5632 .bf16 := m ((c.tc : Thread nD τ).loc main_arg0)
abbrev right (c : Dev nD) : FVec Ideal S1024x5632 .bf16 := m ((c.tc : Thread nD τ).loc main_arg1)

variable (t : Fin cfg0.N) (i j s : Nat) (hi : i < 8) (hj : j < 1) (hs : s < 4) (ht : t.val = (i * 1 + j) * 4 + s)
include hi hj hs ht

theorem rows_left (r : Fin 512) (k : Fin 1408) :
    iblk m c 0 t (ix2 r k) = left m c (ix2 ⟨i * 512 + r.val, by have := r.isLt; omega⟩ ⟨s * 1408 + k.val, by have := k.isLt; omega⟩) := by
  have e0 : t.val / 4 = i := by omega
  have e1 : t.val % 4 = s := by omega
  have e : win0_0.index t = ![i, s] := (places t).1.trans (congrArg₂ (fun p q : Nat => ![p, q]) e0 e1)
  blk_ext [iblk, V, e]

theorem rows_right (k : Fin 1408) (q : Fin 1024) :
    iblk m c 1 t (ix2 q k) = right m c (ix2 ⟨j * 1024 + q.val, by have := q.isLt; omega⟩ ⟨s * 1408 + k.val, by have := k.isLt; omega⟩) := by
  have e0 : 0 = j := by omega
  have e1 : t.val % 4 = s := by omega
  have e : win0_1.index t = ![j, s] := (places t).2.1.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_2.blk t).view.emb y := by
  have e0 : t.val / 4 = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S4096x5632 .bf16) (y : FVec Ideal S1024x5632 .bf16) : FVec Ideal S4096x1024 .f32 :=
  fun i => ((∑ r : Fin 5632, x (ix2 (i 0) r) * y (ix2 (i 1) r)) : EReal)

omit t hi hj hs ht in
theorem total : (dats m 0 c).arrAt 2 cfg0.N = prod (left m c) (right m c) := by
  refine (dats m 0 c).arrAt_eq_of_covers 2 _ (by decide +kernel) fun t hf y => ?_
  have ht : t.val < 32 := t.isLt
  have hl : t.val % 4 = 3 := by
    have := (flush0_2 t).mp hf
    omega
  blk_simp
  rw [after0_2, left_last m c t hl]
  refine Eq.trans ?_ (congrArg (prod (left m c) (right m c)) (place t (t.val / 4) (0) (3) (by omega) (by omega) (by omega) (by omega) y))
  refine (Pipeline.eq_sum_fin_of_reset_step_apply_of_flush (fun n h => (outsAt0 m c n h).2) 4 (fun _ => (0 : EReal))
    (fun t (j : S512x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1408 (fun r : Fin 5632 => (left m c (ix2 ⟨t.val / 4 * 512 + (y 0).val, by have : (y 0).val < 512 := (y 0).isLt; omega⟩ r)
    * right m c (ix2 ⟨0 * 1024 + (y 1).val, by have : (y 1).val < 1024 := (y 1).isLt; omega⟩ r) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 32 := N_0; omega⟩ (t.val / 4) (0) (s.val) (by omega) (by omega) hs (by show (4 * (t.val / 4) + s.val) = _; omega) (y 0) r)
    (rows_right m c ⟨4 * (t.val / 4) + s.val, by have : cfg0.N = 32 := N_0; omega⟩ (t.val / 4) (0) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.BackUpIdeal.Total

namespace Cert.BackUpReferenceIdeal.Total

open Idealize.ShloMosaic Idealize.ShloMosaic.TcCoe Idealize.SL.Sem
open Cert.BackUpReferenceIdeal Cert.BackUpReferenceIdeal.Gen Cert.BackUpIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.BackUpReferenceIdeal.Total
-- ==== Proof.GradUpValue.lean ====
/-
# A product: the gradient of the up projection's weights

A grid point multiplies a block of 1024 rows with a block of 1408 columns over a stretch of 1024, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.GradUpIdeal.Value
public import proofs.«01_k».proof.Proof.Gen.GradUpReferenceIdeal.Run

@[expose] public section

set_option maxRecDepth 65536

noncomputable section

namespace Cert.GradUpIdeal.Total

open Idealize.ShloMosaic Idealize.ShloMosaic.TcCoe Idealize.SL.Sem
open Cert.GradUpIdeal Cert.GradUpIdeal.Gen
open scoped BigOperators

/-- The kernel's lines. -/
theorem part_lines (x : Vec Ideal S1024x1024 .bf16) (y : Vec Ideal S1024x1408 .bf16) (j : S1024x1408.Idx) :
    k0_pay1 (F := Ideal) x y j = (∑ r : Fin 1024, x (ix2 r (j 0)) * y (ix2 r (j 1)) : EReal) := by
  pointwise [k0_pay1]

theorem first_lines (x : Vec Ideal S1024x1024 .bf16) (y : Vec Ideal S1024x1408 .bf16) : k0_pay2 (F := Ideal) x y = k0_pay1 x y :=
  shapeCast_self _ _

theorem more_lines (x : Vec Ideal S1024x1024 .bf16) (y : Vec Ideal S1024x1408 .bf16) (l : Vec Ideal S1024x1408 .f32) (j : S1024x1408.Idx) :
    k0_pay3 (F := Ideal) x y l j = l j + k0_pay1 (F := Ideal) x y j := by
  refine Eq.trans (show _ = shapeCast S1024x1408 (addf l (k0_pay1 x y)) shapeCasts_S1024x1408_S1024x1408 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 16 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 16 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 16 := t.isLt
  rw [outsAt0_C m c t (by omega) (by omega) (by omega)]
  frame_out

theorem places : ∀ t : Fin cfg0.N, win0_0.index t = ![t.val % 4, 0] ∧ win0_1.index t = ![t.val % 4, t.val / 4] ∧ win0_2.index t = ![0, t.val / 4] :=
  (by decide +kernel : ∀ t : Fin grid0.N, win0_0.index t = ![t.val % 4, 0] ∧ win0_1.index t = ![t.val % 4, t.val / 4] ∧ win0_2.index t = ![0, t.val / 4])

/-- The two factors. -/
abbrev left (c : Dev nD) : FVec Ideal S4096x1024 .bf16 := m ((c.tc : Thread nD τ).loc main_arg0)
abbrev right (c : Dev nD) : FVec Ideal S4096x5632 .bf16 := m ((c.tc : Thread nD τ).loc main_arg1)

variable (t : Fin cfg0.N) (i j s : Nat) (hi : i < 1) (hj : j < 4) (hs : s < 4) (ht : t.val = (i * 4 + j) * 4 + s)
include hi hj hs ht

theorem rows_left (r : Fin 1024) (k : Fin 1024) :
    iblk m c 0 t (ix2 k r) = left m c (ix2 ⟨s * 1024 + k.val, by have := k.isLt; omega⟩ ⟨i * 1024 + r.val, by have := r.isLt; omega⟩) := by
  have e0 : t.val % 4 = s := by omega
  have e1 : 0 = i := by omega
  have e : win0_0.index t = ![s, i] := (places t).1.trans (congrArg₂ (fun p q : Nat => ![p, q]) e0 e1)
  blk_ext [iblk, V, e]

theorem rows_right (k : Fin 1024) (q : Fin 1408) :
    iblk m c 1 t (ix2 k q) = right m c (ix2 ⟨s * 1024 + k.val, by have := k.isLt; omega⟩ ⟨j * 1408 + q.val, by have := q.isLt; omega⟩) := by
  have e0 : t.val % 4 = s := by omega
  have e1 : t.val / 4 = j := by omega
  have e : win0_1.index t = ![s, j] := (places t).2.1.trans (congrArg₂ (fun p q : Nat => ![p, q]) e0 e1)
  blk_ext [iblk, V, e]

theorem place (y : S1024x1408.Idx) : (ix2 ⟨i * 1024 + (y 0).val, by have : (y 0).val < 1024 := (y 0).isLt; omega⟩ ⟨j * 1408 + (y 1).val, by have : (y 1).val < 1408 := (y 1).isLt; omega⟩) = (win0_2.blk t).view.emb y := by
  have e0 : 0 = i := by omega
  have e1 : t.val / 4 = j := by omega
  have e : win0_2.index t = ![i, j] := (places t).2.2.trans (congrArg₂ (fun p q : Nat => ![p, q]) e0 e1)
  blk_ext [e]

omit hi hj hs ht in
/-- The product. -/
def prod (x : FVec Ideal S4096x1024 .bf16) (y : FVec Ideal S4096x5632 .bf16) : FVec Ideal S1024x5632 .f32 :=
  fun i => ((∑ r : Fin 4096, x (ix2 r (i 0)) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 16 := t.isLt
  have hl : t.val % 4 = 3 := by
    have := (flush0_2 t).mp hf
    omega
  blk_simp
  rw [after0_2, left_last m c t hl]
  refine Eq.trans ?_ (congrArg (prod (left m c) (right m c)) (place t (0) (t.val / 4) (3) (by omega) (by omega) (by omega) (by omega) y))
  refine (Pipeline.eq_sum_fin_of_reset_step_apply_of_flush (fun n h => (outsAt0 m c n h).2) 4 (fun _ => (0 : EReal))
    (fun t (j : S1024x1408.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1024 (fun r : Fin 4096 => (left m c (ix2 r ⟨0 * 1024 + (y 0).val, by have : (y 0).val < 1024 := (y 0).isLt; omega⟩)
    * right m c (ix2 r ⟨t.val / 4 * 1408 + (y 1).val, by have : (y 1).val < 1408 := (y 1).isLt; omega⟩) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 16 := N_0; omega⟩ (0) (t.val / 4) (s.val) (by omega) (by omega) hs (by show (4 * (t.val / 4) + s.val) = _; omega) (y 0) r)
    (rows_right m c ⟨4 * (t.val / 4) + s.val, by have : cfg0.N = 16 := N_0; omega⟩ (0) (t.val / 4) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.GradUpIdeal.Total

namespace Cert.GradUpReferenceIdeal.Total

open Idealize.ShloMosaic Idealize.ShloMosaic.TcCoe Idealize.SL.Sem
open Cert.GradUpReferenceIdeal Cert.GradUpReferenceIdeal.Gen Cert.GradUpIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.GradUpReferenceIdeal.Total
-- ==== Proof.BackMixValue.lean ====
/-
# A product: the gradient through the output projection

A grid point multiplies a block of 512 rows with a block of 1024 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.BackMixIdeal.Value
public import proofs.«01_k».proof.Proof.Gen.BackMixReferenceIdeal.Run

@[expose] public section

set_option maxRecDepth 65536

noncomputable section

namespace Cert.BackMixIdeal.Total

open Idealize.ShloMosaic Idealize.ShloMosaic.TcCoe Idealize.SL.Sem
open Cert.BackMixIdeal Cert.BackMixIdeal.Gen
open scoped BigOperators

/-- The kernel's lines. -/
theorem lines (x : Vec Ideal S512x1024 .f32) (y : Vec Ideal S1024x1024 .bf16) (j : S512x1024.Idx) :
    k0_pay1 (F := Ideal) x y j = (∑ r : Fin 1024, x (ix2 (j 0) r) * y (ix2 (j 1) r) : EReal) := by
  pointwise [k0_pay1]

variable (m : (ℓ : Loc nD τ sig) → Buf (Elt Ideal) ℓ) (c : Dev nD)

theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The two factors. -/
abbrev left (c : Dev nD) : FVec Ideal S4096x1024 .f32 := m ((c.tc : Thread nD τ).loc main_arg0)
abbrev right (c : Dev nD) : FVec Ideal S1024x1024 .bf16 := m ((c.tc : Thread nD τ).loc main_arg1)

variable (t : Fin cfg0.N) (i j s : Nat) (hi : i < 8) (hj : j < 1) (hs : s < 1) (ht : t.val = (i * 1 + j) * 1 + s)
include hi hj hs ht

theorem rows_left (r : Fin 512) (k : Fin 1024) :
    iblk m c 0 t (ix2 r k) = left m c (ix2 ⟨i * 512 + r.val, by have := r.isLt; omega⟩ ⟨s * 1024 + k.val, by have := k.isLt; omega⟩) := by
  have e0 : t.val = i := by omega
  have e1 : 0 = s := by omega
  have e : win0_0.index t = ![i, s] := (places t).1.trans (congrArg₂ (fun p q : Nat => ![p, q]) e0 e1)
  blk_ext [iblk, V, e]

theorem rows_right (k : Fin 1024) (q : Fin 1024) :
    iblk m c 1 t (ix2 q k) = right m c (ix2 ⟨j * 1024 + q.val, by have := q.isLt; omega⟩ ⟨s * 1024 + k.val, by have := k.isLt; omega⟩) := by
  have e0 : 0 = j := by omega
  have e1 : 0 = s := by omega
  have e : win0_1.index t = ![j, s] := (places t).2.1.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_2.blk t).view.emb y := by
  have e0 : t.val = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S4096x1024 .f32) (y : FVec Ideal S1024x1024 .bf16) : FVec Ideal S4096x1024 .f32 :=
  fun i => ((∑ r : Fin 1024, x (ix2 (i 0) r) * y (ix2 (i 1) r)) : EReal)

omit t hi hj hs ht in
theorem total : (dats m 0 c).arrAt 2 cfg0.N = prod (left m c) (right m c) := by
  refine (dats m 0 c).arrAt_eq_of_covers 2 _ (by decide +kernel) fun t hf y => ?_
  have ht : t.val < 8 := t.isLt
  blk_simp
  rw [after0_2]
  unfold out0_2
  frame_out
  refine (lines _ _ _).trans ?_
  refine Eq.trans ?_ (congrArg (prod (left m c) (right m c)) (place t (t.val) (0) (0) (by omega) (by omega) (by omega) (by omega) y))
  refine Finset.sum_congr rfl fun r _ => ?_
  refine (congrArg₂ (fun p q : EReal => p * q) (rows_left m c t (t.val) (0) (0) (by omega) (by omega) (by omega) (by omega) (y 0) r) (rows_right m c t (t.val) (0) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.BackMixIdeal.Total

namespace Cert.BackMixReferenceIdeal.Total

open Idealize.ShloMosaic Idealize.ShloMosaic.TcCoe Idealize.SL.Sem
open Cert.BackMixReferenceIdeal Cert.BackMixReferenceIdeal.Gen Cert.BackMixIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.BackMixReferenceIdeal.Total
-- ==== Proof.GradOutValue.lean ====
/-
# A product: the gradient of the output projection's weights

A grid point multiplies a block of 1024 rows with a block of 1024 columns over a stretch of 1024, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.GradOutIdeal.Value
public import proofs.«01_k».proof.Proof.Gen.GradOutReferenceIdeal.Run

@[expose] public section

set_option maxRecDepth 65536

noncomputable section

namespace Cert.GradOutIdeal.Total

open Idealize.ShloMosaic Idealize.ShloMosaic.TcCoe Idealize.SL.Sem
open Cert.GradOutIdeal Cert.GradOutIdeal.Gen
open scoped BigOperators

/-- The kernel's lines. -/
theorem part_lines (x : Vec Ideal S1024x1024 .bf16) (y : Vec Ideal S1024x1024 .f32) (j : S1024x1024.Idx) :
    k0_pay1 (F := Ideal) x y j = (∑ r : Fin 1024, x (ix2 r (j 0)) * y (ix2 r (j 1)) : EReal) := by
  pointwise [k0_pay1]

theorem first_lines (x : Vec Ideal S1024x1024 .bf16) (y : Vec Ideal S1024x1024 .f32) : k0_pay2 (F := Ideal) x y = k0_pay1 x y :=
  shapeCast_self _ _

theorem more_lines (x : Vec Ideal S1024x1024 .bf16) (y : Vec Ideal S1024x1024 .f32) (l : Vec Ideal S1024x1024 .f32) (j : S1024x1024.Idx) :
    k0_pay3 (F := Ideal) x y l j = l j + k0_pay1 (F := Ideal) x y j := by
  refine Eq.trans (show _ = shapeCast S1024x1024 (addf l (k0_pay1 x y)) shapeCasts_S1024x1024_S1024x1024 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 4 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 4 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 4 := t.isLt
  rw [outsAt0_C m c t (by omega) (by omega) (by omega)]
  frame_out

theorem places : ∀ t : Fin cfg0.N, win0_0.index t = ![t.val % 4, 0] ∧ win0_1.index t = ![t.val % 4, 0] ∧ win0_2.index t = ![0, 0] :=
  (by decide +kernel : ∀ t : Fin grid0.N, win0_0.index t = ![t.val % 4, 0] ∧ win0_1.index t = ![t.val % 4, 0] ∧ win0_2.index t = ![0, 0])

/-- The two factors. -/
abbrev left (c : Dev nD) : FVec Ideal S4096x1024 .bf16 := m ((c.tc : Thread nD τ).loc main_arg0)
abbrev right (c : Dev nD) : FVec Ideal S4096x1024 .f32 := m ((c.tc : Thread nD τ).loc main_arg1)

variable (t : Fin cfg0.N) (i j s : Nat) (hi : i < 1) (hj : j < 1) (hs : s < 4) (ht : t.val = (i * 1 + j) * 4 + s)
include hi hj hs ht

theorem rows_left (r : Fin 1024) (k : Fin 1024) :
    iblk m c 0 t (ix2 k r) = left m c (ix2 ⟨s * 1024 + k.val, by have := k.isLt; omega⟩ ⟨i * 1024 + r.val, by have := r.isLt; omega⟩) := by
  have e0 : t.val % 4 = s := by omega
  have e1 : 0 = i := by omega
  have e : win0_0.index t = ![s, i] := (places t).1.trans (congrArg₂ (fun p q : Nat => ![p, q]) e0 e1)
  blk_ext [iblk, V, e]

theorem rows_right (k : Fin 1024) (q : Fin 1024) :
    iblk m c 1 t (ix2 k q) = right m c (ix2 ⟨s * 1024 + k.val, by have := k.isLt; omega⟩ ⟨j * 1024 + q.val, by have := q.isLt; omega⟩) := by
  have e0 : t.val % 4 = s := by omega
  have e1 : 0 = j := by omega
  have e : win0_1.index t = ![s, j] := (places t).2.1.trans (congrArg₂ (fun p q : Nat => ![p, q]) e0 e1)
  blk_ext [iblk, V, e]

theorem place (y : S1024x1024.Idx) : (ix2 ⟨i * 1024 + (y 0).val, by have : (y 0).val < 1024 := (y 0).isLt; omega⟩ ⟨j * 1024 + (y 1).val, by have : (y 1).val < 1024 := (y 1).isLt; omega⟩) = (win0_2.blk t).view.emb y := by
  have e0 : 0 = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S4096x1024 .bf16) (y : FVec Ideal S4096x1024 .f32) : FVec Ideal S1024x1024 .f32 :=
  fun i => ((∑ r : Fin 4096, x (ix2 r (i 0)) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 4 := t.isLt
  have hl : t.val % 4 = 3 := by
    have := (flush0_2 t).mp hf
    omega
  blk_simp
  rw [after0_2, left_last m c t hl]
  refine Eq.trans ?_ (congrArg (prod (left m c) (right m c)) (place t (0) (0) (3) (by omega) (by omega) (by omega) (by omega) y))
  refine (Pipeline.eq_sum_fin_of_reset_step_apply_of_flush (fun n h => (outsAt0 m c n h).2) 4 (fun _ => (0 : EReal))
    (fun t (j : S1024x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1024 (fun r : Fin 4096 => (left m c (ix2 r ⟨0 * 1024 + (y 0).val, by have : (y 0).val < 1024 := (y 0).isLt; omega⟩)
    * right m c (ix2 r ⟨0 * 1024 + (y 1).val, by have : (y 1).val < 1024 := (y 1).isLt; omega⟩) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 4 := N_0; omega⟩ (0) (0) (s.val) (by omega) (by omega) hs (by show (4 * (t.val / 4) + s.val) = _; omega) (y 0) r)
    (rows_right m c ⟨4 * (t.val / 4) + s.val, by have : cfg0.N = 4 := N_0; omega⟩ (0) (0) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.GradOutIdeal.Total

namespace Cert.GradOutReferenceIdeal.Total

open Idealize.ShloMosaic Idealize.ShloMosaic.TcCoe Idealize.SL.Sem
open Cert.GradOutReferenceIdeal Cert.GradOutReferenceIdeal.Gen Cert.GradOutIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.GradOutReferenceIdeal.Total
-- ==== Proof.BackFgValue.lean ====
/-
# A product: the gradient through the forget gates' projection

A grid point multiplies a block of 512 rows with a block of 1024 columns.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.BackFgIdeal.Value
public import proofs.«01_k».proof.Proof.Gen.BackFgReferenceIdeal.Run

@[expose] public section

set_option maxRecDepth 65536

noncomputable section

namespace Cert.BackFgIdeal.Total

open Idealize.ShloMosaic Idealize.ShloMosaic.TcCoe Idealize.SL.Sem
open Cert.BackFgIdeal Cert.BackFgIdeal.Gen
open scoped BigOperators

/-- The kernel's lines. -/
theorem lines (x : Vec Ideal S16x512 .f32) (y : Vec Ideal S16x1024 .bf16) (j : S512x1024.Idx) :
    k0_pay1 (F := Ideal) x y j = (∑ r : Fin 16, x (ix2 r (j 0)) * y (ix2 r (j 1)) : EReal) := by
  pointwise [k0_pay1]

variable (m : (ℓ : Loc nD τ sig) → Buf (Elt Ideal) ℓ) (c : Dev nD)

theorem places : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The two factors. -/
abbrev left (c : Dev nD) : FVec Ideal S16x4096 .f32 := m ((c.tc : Thread nD τ).loc main_arg0)
abbrev right (c : Dev nD) : FVec Ideal S16x1024 .bf16 := m ((c.tc : Thread nD τ).loc main_arg1)

variable (t : Fin cfg0.N) (i j s : Nat) (hi : i < 8) (hj : j < 1) (hs : s < 1) (ht : t.val = (i * 1 + j) * 1 + s)
include hi hj hs ht

theorem rows_left (r : Fin 512) (k : Fin 16) :
    iblk m c 0 t (ix2 k r) = left m c (ix2 ⟨s * 16 + k.val, by have := k.isLt; omega⟩ ⟨i * 512 + r.val, by have := r.isLt; omega⟩) := by
  have e0 : 0 = s := by omega
  have e1 : t.val = i := by omega
  have e : win0_0.index t = ![s, i] := (places t).1.trans (congrArg₂ (fun p q : Nat => ![p, q]) e0 e1)
  blk_ext [iblk, V, e]

theorem rows_right (k : Fin 16) (q : Fin 1024) :
    iblk m c 1 t (ix2 k q) = right m c (ix2 ⟨s * 16 + k.val, by have := k.isLt; omega⟩ ⟨j * 1024 + q.val, by have := q.isLt; omega⟩) := by
  have e0 : 0 = s := by omega
  have e1 : 0 = j := by omega
  have e : win0_1.index t = ![s, j] := (places t).2.1.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_2.blk t).view.emb y := by
  have e0 : t.val = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S16x4096 .f32) (y : FVec Ideal S16x1024 .bf16) : FVec Ideal S4096x1024 .f32 :=
  fun i => ((∑ r : Fin 16, x (ix2 r (i 0)) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 8 := t.isLt
  blk_simp
  rw [after0_2]
  unfold out0_2
  frame_out
  refine (lines _ _ _).trans ?_
  refine Eq.trans ?_ (congrArg (prod (left m c) (right m c)) (place t (t.val) (0) (0) (by omega) (by omega) (by omega) (by omega) y))
  refine Finset.sum_congr rfl fun r _ => ?_
  refine (congrArg₂ (fun p q : EReal => p * q) (rows_left m c t (t.val) (0) (0) (by omega) (by omega) (by omega) (by omega) (y 0) r) (rows_right m c t (t.val) (0) (0) (by omega) (by omega) (by omega) (by omega) r (y 1))).trans ?_
  simp only [Nat.zero_mul, Nat.zero_add]
  rfl

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.BackFgIdeal.Total

namespace Cert.BackFgReferenceIdeal.Total

open Idealize.ShloMosaic Idealize.ShloMosaic.TcCoe Idealize.SL.Sem
open Cert.BackFgReferenceIdeal Cert.BackFgReferenceIdeal.Gen Cert.BackFgIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.BackFgReferenceIdeal.Total
-- ==== Proof.BackAValue.lean ====
/-
# A product: the gradient through the input projection

A grid point multiplies a block of 512 rows with a block of 1024 columns over a stretch of 768, and 3 points add up to the whole sum, to which the last one adds the block of the array that goes by.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.BackAIdeal.Value
public import proofs.«01_k».proof.Proof.Gen.BackAReferenceIdeal.Run

@[expose] public section

set_option maxRecDepth 65536

noncomputable section

namespace Cert.BackAIdeal.Total

open Idealize.ShloMosaic Idealize.ShloMosaic.TcCoe Idealize.SL.Sem
open Cert.BackAIdeal Cert.BackAIdeal.Gen
open scoped BigOperators

/-- The kernel's lines. -/
theorem part_lines (x : Vec Ideal S512x768 .bf16) (y : Vec Ideal S1024x768 .bf16) (j : S512x1024.Idx) :
    k0_pay1 (F := Ideal) x y j = (∑ r : Fin 768, x (ix2 (j 0) r) * y (ix2 (j 1) r) : EReal) := by
  pointwise [k0_pay1]

theorem first_lines (x : Vec Ideal S512x768 .bf16) (y : Vec Ideal S1024x768 .bf16) : k0_pay2 (F := Ideal) x y = k0_pay1 x y :=
  shapeCast_self _ _

theorem more_lines (x : Vec Ideal S512x768 .bf16) (y : Vec Ideal S1024x768 .bf16) (l : Vec Ideal S512x1024 .f32) (j : S512x1024.Idx) :
    k0_pay3 (F := Ideal) x y l j = l j + k0_pay1 (F := Ideal) x y j := by
  refine Eq.trans (show _ = shapeCast S512x1024 (addf l (k0_pay1 x y)) shapeCasts_S512x1024_S512x1024 j from rfl) ?_
  rw [shapeCast_self]
  rfl

theorem last_lines (l z : Vec Ideal S512x1024 .f32) (j : S512x1024.Idx) : k0_pay4 (F := Ideal) l z j = l j + z j := by
  pointwise [k0_pay4]

variable (m : (ℓ : Loc nD τ sig) → Buf (Elt Ideal) ℓ) (c : Dev nD)

/-- The first of 3 points starts a block, the others add to it, and the last one writes it. -/
theorem left_first (t : Fin cfg0.N) (h : t.val % 3 = 0) :
    (outsAt0 m c t.val t.isLt).2 = k0_pay2 (F := Ideal) (iblk m c 0 t) (iblk m c 1 t) := by
  have ht : t.val < 24 := t.isLt
  rw [outsAt0_A m c t (by omega) (by omega) (by omega)]
  frame_out

theorem left_later (t : Fin cfg0.N) (h : ¬t.val % 3 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 24 := t.isLt
  by_cases h2 : t.val % 3 = 2
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 3 = 2) :
    (outsAt0 m c t.val t.isLt).1 = k0_pay4 (F := Ideal) (outsAt0 m c t.val t.isLt).2 (iblk m c 2 t) := by
  have ht : t.val < 24 := t.isLt
  rw [outsAt0_C m c t (by omega) (by omega) (by omega)]
  frame_out

theorem places : ∀ t : Fin cfg0.N, win0_0.index t = ![t.val / 3, t.val % 3] ∧ win0_1.index t = ![0, t.val % 3] ∧ win0_3.index t = ![t.val / 3, 0] ∧ win0_2.index t = ![t.val / 3, 0] :=
  (by decide +kernel : ∀ t : Fin grid0.N, win0_0.index t = ![t.val / 3, t.val % 3] ∧ win0_1.index t = ![0, t.val % 3] ∧ win0_3.index t = ![t.val / 3, 0] ∧ win0_2.index t = ![t.val / 3, 0])

/-- The two factors, and the array that goes by. -/
abbrev left (c : Dev nD) : FVec Ideal S4096x2304 .bf16 := m ((c.tc : Thread nD τ).loc main_arg0)
abbrev right (c : Dev nD) : FVec Ideal S1024x2304 .bf16 := m ((c.tc : Thread nD τ).loc main_arg1)
abbrev past (c : Dev nD) : FVec Ideal S4096x1024 .f32 := m ((c.tc : Thread nD τ).loc main_arg2)

variable (t : Fin cfg0.N) (i j s : Nat) (hi : i < 8) (hj : j < 1) (hs : s < 3) (ht : t.val = (i * 1 + j) * 3 + s)
include hi hj hs ht

theorem rows_left (r : Fin 512) (k : Fin 768) :
    iblk m c 0 t (ix2 r k) = left m c (ix2 ⟨i * 512 + r.val, by have := r.isLt; omega⟩ ⟨s * 768 + k.val, by have := k.isLt; omega⟩) := by
  have e0 : t.val / 3 = i := by omega
  have e1 : t.val % 3 = s := by omega
  have e : win0_0.index t = ![i, s] := (places t).1.trans (congrArg₂ (fun p q : Nat => ![p, q]) e0 e1)
  blk_ext [iblk, V, e]

theorem rows_right (k : Fin 768) (q : Fin 1024) :
    iblk m c 1 t (ix2 q k) = right m c (ix2 ⟨j * 1024 + q.val, by have := q.isLt; omega⟩ ⟨s * 768 + k.val, by have := k.isLt; omega⟩) := by
  have e0 : 0 = j := by omega
  have e1 : t.val % 3 = s := by omega
  have e : win0_1.index t = ![j, s] := (places t).2.1.trans (congrArg₂ (fun p q : Nat => ![p, q]) e0 e1)
  blk_ext [iblk, V, e]

theorem rows_past (y : S512x1024.Idx) : iblk m c 2 t y = past m c (ix2 ⟨i * 512 + (y 0).val, by have : (y 0).val < 512 := (y 0).isLt; omega⟩ ⟨j * 1024 + (y 1).val, by have : (y 1).val < 1024 := (y 1).isLt; omega⟩) := by
  have e0 : t.val / 3 = i := by omega
  have e1 : 0 = j := by omega
  have e : win0_2.index t = ![i, j] := (places t).2.2.2.trans (congrArg₂ (fun p q : Nat => ![p, q]) e0 e1)
  blk_ext [iblk, V, e]

theorem place (y : S512x1024.Idx) : (ix2 ⟨i * 512 + (y 0).val, by have : (y 0).val < 512 := (y 0).isLt; omega⟩ ⟨j * 1024 + (y 1).val, by have : (y 1).val < 1024 := (y 1).isLt; omega⟩) = (win0_3.blk t).view.emb y := by
  have e0 : t.val / 3 = i := by omega
  have e1 : 0 = j := by omega
  have e : win0_3.index t = ![i, j] := (places t).2.2.1.trans (congrArg₂ (fun p q : Nat => ![p, q]) e0 e1)
  blk_ext [e]

omit hi hj hs ht in
/-- The product, and what goes by. -/
def prod (x : FVec Ideal S4096x2304 .bf16) (y : FVec Ideal S1024x2304 .bf16) (z : FVec Ideal S4096x1024 .f32) : FVec Ideal S4096x1024 .f32 :=
  fun i => ((∑ r : Fin 2304, x (ix2 (i 0) r) * y (ix2 (i 1) r)) + z i : EReal)

omit t hi hj hs ht in
theorem total : (dats m 0 c).arrAt 3 cfg0.N = prod (left m c) (right m c) (past m c) := by
  refine (dats m 0 c).arrAt_eq_of_covers 3 _ (by decide +kernel) fun t hf y => ?_
  have ht : t.val < 24 := t.isLt
  have hl : t.val % 3 = 2 := by
    have := (flush0_3 t).mp hf
    omega
  blk_simp
  rw [after0_3, left_last m c t hl]
  refine Eq.trans ?_ (congrArg (prod (left m c) (right m c) (past m c)) (place t (t.val / 3) (0) (2) (by omega) (by omega) (by omega) (by omega) y))
  refine (last_lines _ _ _).trans (congrArg₂ (fun p q : EReal => p + q) ?_ (rows_past m c t (t.val / 3) (0) (2) (by omega) (by omega) (by omega) (by omega) y))
  refine (Pipeline.eq_sum_fin_of_reset_step_apply_of_flush (fun n h => (outsAt0 m c n h).2) 3 (fun _ => (0 : EReal))
    (fun t (j : S512x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 3 768 (fun r : Fin 2304 => (left m c (ix2 ⟨t.val / 3 * 512 + (y 0).val, by have : (y 0).val < 512 := (y 0).isLt; omega⟩ r)
    * right m c (ix2 ⟨0 * 1024 + (y 1).val, by have : (y 1).val < 1024 := (y 1).isLt; omega⟩ r) : EReal)) rfl)
  refine Finset.sum_congr rfl fun s _ => (part_lines _ _ _).trans (Finset.sum_congr rfl fun r _ => ?_)
  have hs : s.val < 3 := s.isLt
  have e := Nat.div_add_mod t.val 3
  exact congrArg₂ (fun p q : EReal => p * q)
    (rows_left m c ⟨3 * (t.val / 3) + s.val, by have : cfg0.N = 24 := N_0; omega⟩ (t.val / 3) (0) (s.val) (by omega) (by omega) hs (by show (3 * (t.val / 3) + s.val) = _; omega) (y 0) r)
    (rows_right m c ⟨3 * (t.val / 3) + s.val, by have : cfg0.N = 24 := N_0; omega⟩ (t.val / 3) (0) (s.val) (by omega) (by omega) hs (by show (3 * (t.val / 3) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) (past m c) :=
  (θ_run defs _ _).mono (fun _ h c => (h c).1.trans (total m c)) (Value.run_blocks m ρ)

end Cert.BackAIdeal.Total

namespace Cert.BackAReferenceIdeal.Total

open Idealize.ShloMosaic Idealize.ShloMosaic.TcCoe Idealize.SL.Sem
open Cert.BackAReferenceIdeal Cert.BackAReferenceIdeal.Gen Cert.BackAIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v4) = prod (m ((c.tc : Thread nD τ).loc main_arg0)) (m ((c.tc : Thread nD τ).loc main_arg1)) (m ((c.tc : Thread nD τ).loc main_arg2)) := by
  refine (θ_run defs _ _).mono (fun _ h c => (h c).1.trans ?_) (Value.run m ρ)
  funext j
  pointwise [prod]

end Cert.BackAReferenceIdeal.Total
-- ==== Proof.GradAValue.lean ====
/-
# A product: the gradient of the input projection's weights

A grid point multiplies a block of 1024 rows with a block of 768 columns over a stretch of 1024, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.GradAIdeal.Value
public import proofs.«01_k».proof.Proof.Gen.GradAReferenceIdeal.Run

@[expose] public section

set_option maxRecDepth 65536

noncomputable section

namespace Cert.GradAIdeal.Total

open Idealize.ShloMosaic Idealize.ShloMosaic.TcCoe Idealize.SL.Sem
open Cert.GradAIdeal Cert.GradAIdeal.Gen
open scoped BigOperators

/-- The kernel's lines. -/
theorem part_lines (x : Vec Ideal S1024x1024 .bf16) (y : Vec Ideal S1024x768 .bf16) (j : S1024x768.Idx) :
    k0_pay1 (F := Ideal) x y j = (∑ r : Fin 1024, x (ix2 r (j 0)) * y (ix2 r (j 1)) : EReal) := by
  pointwise [k0_pay1]

theorem first_lines (x : Vec Ideal S1024x1024 .bf16) (y : Vec Ideal S1024x768 .bf16) : k0_pay2 (F := Ideal) x y = k0_pay1 x y :=
  shapeCast_self _ _

theorem more_lines (x : Vec Ideal S1024x1024 .bf16) (y : Vec Ideal S1024x768 .bf16) (l : Vec Ideal S1024x768 .f32) (j : S1024x768.Idx) :
    k0_pay3 (F := Ideal) x y l j = l j + k0_pay1 (F := Ideal) x y j := by
  refine Eq.trans (show _ = shapeCast S1024x768 (addf l (k0_pay1 x y)) shapeCasts_S1024x768_S1024x768 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 12 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 12 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 12 := t.isLt
  rw [outsAt0_C m c t (by omega) (by omega) (by omega)]
  frame_out

theorem places : ∀ t : Fin cfg0.N, win0_0.index t = ![t.val % 4, 0] ∧ win0_1.index t = ![t.val % 4, t.val / 4] ∧ win0_2.index t = ![0, t.val / 4] :=
  (by decide +kernel : ∀ t : Fin grid0.N, win0_0.index t = ![t.val % 4, 0] ∧ win0_1.index t = ![t.val % 4, t.val / 4] ∧ win0_2.index t = ![0, t.val / 4])

/-- The two factors. -/
abbrev left (c : Dev nD) : FVec Ideal S4096x1024 .bf16 := m ((c.tc : Thread nD τ).loc main_arg0)
abbrev right (c : Dev nD) : FVec Ideal S4096x2304 .bf16 := m ((c.tc : Thread nD τ).loc main_arg1)

variable (t : Fin cfg0.N) (i j s : Nat) (hi : i < 1) (hj : j < 3) (hs : s < 4) (ht : t.val = (i * 3 + j) * 4 + s)
include hi hj hs ht

theorem rows_left (r : Fin 1024) (k : Fin 1024) :
    iblk m c 0 t (ix2 k r) = left m c (ix2 ⟨s * 1024 + k.val, by have := k.isLt; omega⟩ ⟨i * 1024 + r.val, by have := r.isLt; omega⟩) := by
  have e0 : t.val % 4 = s := by omega
  have e1 : 0 = i := by omega
  have e : win0_0.index t = ![s, i] := (places t).1.trans (congrArg₂ (fun p q : Nat => ![p, q]) e0 e1)
  blk_ext [iblk, V, e]

theorem rows_right (k : Fin 1024) (q : Fin 768) :
    iblk m c 1 t (ix2 k q) = right m c (ix2 ⟨s * 1024 + k.val, by have := k.isLt; omega⟩ ⟨j * 768 + q.val, by have := q.isLt; omega⟩) := by
  have e0 : t.val % 4 = s := by omega
  have e1 : t.val / 4 = j := by omega
  have e : win0_1.index t = ![s, j] := (places t).2.1.trans (congrArg₂ (fun p q : Nat => ![p, q]) e0 e1)
  blk_ext [iblk, V, e]

theorem place (y : S1024x768.Idx) : (ix2 ⟨i * 1024 + (y 0).val, by have : (y 0).val < 1024 := (y 0).isLt; omega⟩ ⟨j * 768 + (y 1).val, by have : (y 1).val < 768 := (y 1).isLt; omega⟩) = (win0_2.blk t).view.emb y := by
  have e0 : 0 = i := by omega
  have e1 : t.val / 4 = j := by omega
  have e : win0_2.index t = ![i, j] := (places t).2.2.trans (congrArg₂ (fun p q : Nat => ![p, q]) e0 e1)
  blk_ext [e]

omit hi hj hs ht in
/-- The product. -/
def prod (x : FVec Ideal S4096x1024 .bf16) (y : FVec Ideal S4096x2304 .bf16) : FVec Ideal S1024x2304 .f32 :=
  fun i => ((∑ r : Fin 4096, x (ix2 r (i 0)) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 12 := t.isLt
  have hl : t.val % 4 = 3 := by
    have := (flush0_2 t).mp hf
    omega
  blk_simp
  rw [after0_2, left_last m c t hl]
  refine Eq.trans ?_ (congrArg (prod (left m c) (right m c)) (place t (0) (t.val / 4) (3) (by omega) (by omega) (by omega) (by omega) y))
  refine (Pipeline.eq_sum_fin_of_reset_step_apply_of_flush (fun n h => (outsAt0 m c n h).2) 4 (fun _ => (0 : EReal))
    (fun t (j : S1024x768.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1024 (fun r : Fin 4096 => (left m c (ix2 r ⟨0 * 1024 + (y 0).val, by have : (y 0).val < 1024 := (y 0).isLt; omega⟩)
    * right m c (ix2 r ⟨t.val / 4 * 768 + (y 1).val, by have : (y 1).val < 768 := (y 1).isLt; omega⟩) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 12 := N_0; omega⟩ (0) (t.val / 4) (s.val) (by omega) (by omega) hs (by show (4 * (t.val / 4) + s.val) = _; omega) (y 0) r)
    (rows_right m c ⟨4 * (t.val / 4) + s.val, by have : cfg0.N = 12 := N_0; omega⟩ (0) (t.val / 4) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.GradAIdeal.Total

namespace Cert.GradAReferenceIdeal.Total

open Idealize.ShloMosaic Idealize.ShloMosaic.TcCoe Idealize.SL.Sem
open Cert.GradAReferenceIdeal Cert.GradAReferenceIdeal.Gen Cert.GradAIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.GradAReferenceIdeal.Total
-- ==== Proof.GradFgValue.lean ====
/-
# A product: the gradient of the forget gates' weights

A grid point multiplies a block of 16 rows with a block of 1024 columns over a stretch of 1024, and 4 points add up to the whole sum.
-/
module

public import Idealize.ShloMosaic.Lib.Pipeline.ValueKit
public import Idealize.ShloMosaic.Lib.Pipeline.ReadBack
public import Idealize.ShloMosaic.Lib.Pointwise
public import Idealize.ShloMosaic.PureOps.Ideal.Laws
public import proofs.«01_k».proof.Proof.Gen.GradFgIdeal.Value
public import proofs.«01_k».proof.Proof.Gen.GradFgReferenceIdeal.Run

@[expose] public section

set_option maxRecDepth 65536

noncomputable section

namespace Cert.GradFgIdeal.Total

open Idealize.ShloMosaic Idealize.ShloMosaic.TcCoe Idealize.SL.Sem
open Cert.GradFgIdeal Cert.GradFgIdeal.Gen
open scoped BigOperators

/-- The kernel's lines. -/
theorem part_lines (x : Vec Ideal S16x1024 .f32) (y : Vec Ideal S1024x1024 .bf16) (j : S16x1024.Idx) :
    k0_pay1 (F := Ideal) x y j = (∑ r : Fin 1024, x (ix2 (j 0) r) * y (ix2 r (j 1)) : EReal) := by
  pointwise [k0_pay1]

theorem first_lines (x : Vec Ideal S16x1024 .f32) (y : Vec Ideal S1024x1024 .bf16) : k0_pay2 (F := Ideal) x y = k0_pay1 x y :=
  shapeCast_self _ _

theorem more_lines (x : Vec Ideal S16x1024 .f32) (y : Vec Ideal S1024x1024 .bf16) (l : Vec Ideal S16x1024 .f32) (j : S16x1024.Idx) :
    k0_pay3 (F := Ideal) x y l j = l j + k0_pay1 (F := Ideal) x y j := by
  refine Eq.trans (show _ = shapeCast S16x1024 (addf l (k0_pay1 x y)) shapeCasts_S16x1024_S16x1024 j from rfl) ?_
  rw [shapeCast_self]
  rfl

variable (m : (ℓ : Loc nD τ sig) → Buf (Elt Ideal) ℓ) (c : Dev nD)

/-- The first of 4 points starts a block, the others add to it, and the last one writes it. -/
theorem left_first (t : Fin cfg0.N) (h : t.val % 4 = 0) :
    (outsAt0 m c t.val t.isLt).2 = k0_pay2 (F := Ideal) (iblk m c 0 t) (iblk m c 1 t) := by
  have ht : t.val < 4 := t.isLt
  rw [outsAt0_A m c t (by omega) (by omega) (by omega)]
  frame_out

theorem left_later (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  have ht : t.val < 4 := t.isLt
  by_cases h2 : t.val % 4 = 3
  · rw [outsAt0_C m c t (by omega) (by omega) (by omega)]
    frame_out
    simp only [read_unread_whole]
  · rw [outsAt0_B m c t (by omega) (by omega) (by omega)]
    frame_out
    simp only [read_unread_whole]

theorem left_last (t : Fin cfg0.N) (h : t.val % 4 = 3) :
    (outsAt0 m c t.val t.isLt).1 = (outsAt0 m c t.val t.isLt).2 := by
  have ht : t.val < 4 := t.isLt
  rw [outsAt0_C m c t (by omega) (by omega) (by omega)]
  frame_out

theorem places : ∀ t : Fin cfg0.N, win0_0.index t = ![0, t.val % 4] ∧ win0_1.index t = ![t.val % 4, 0] ∧ win0_2.index t = ![0, 0] :=
  (by decide +kernel : ∀ t : Fin grid0.N, win0_0.index t = ![0, t.val % 4] ∧ win0_1.index t = ![t.val % 4, 0] ∧ win0_2.index t = ![0, 0])

/-- The two factors. -/
abbrev left (c : Dev nD) : FVec Ideal S16x4096 .f32 := m ((c.tc : Thread nD τ).loc main_arg0)
abbrev right (c : Dev nD) : FVec Ideal S4096x1024 .bf16 := m ((c.tc : Thread nD τ).loc main_arg1)

variable (t : Fin cfg0.N) (i j s : Nat) (hi : i < 1) (hj : j < 1) (hs : s < 4) (ht : t.val = (i * 1 + j) * 4 + s)
include hi hj hs ht

theorem rows_left (r : Fin 16) (k : Fin 1024) :
    iblk m c 0 t (ix2 r k) = left m c (ix2 ⟨i * 16 + r.val, by have := r.isLt; omega⟩ ⟨s * 1024 + k.val, by have := k.isLt; omega⟩) := by
  have e0 : 0 = i := by omega
  have e1 : t.val % 4 = s := by omega
  have e : win0_0.index t = ![i, s] := (places t).1.trans (congrArg₂ (fun p q : Nat => ![p, q]) e0 e1)
  blk_ext [iblk, V, e]

theorem rows_right (k : Fin 1024) (q : Fin 1024) :
    iblk m c 1 t (ix2 k q) = right m c (ix2 ⟨s * 1024 + k.val, by have := k.isLt; omega⟩ ⟨j * 1024 + q.val, by have := q.isLt; omega⟩) := by
  have e0 : t.val % 4 = s := by omega
  have e1 : 0 = j := by omega
  have e : win0_1.index t = ![s, j] := (places t).2.1.trans (congrArg₂ (fun p q : Nat => ![p, q]) e0 e1)
  blk_ext [iblk, V, e]

theorem place (y : S16x1024.Idx) : (ix2 ⟨i * 16 + (y 0).val, by have : (y 0).val < 16 := (y 0).isLt; omega⟩ ⟨j * 1024 + (y 1).val, by have : (y 1).val < 1024 := (y 1).isLt; omega⟩) = (win0_2.blk t).view.emb y := by
  have e0 : 0 = i := by omega
  have e1 : 0 = j := by omega
  have e : win0_2.index t = ![i, j] := (places t).2.2.trans (congrArg₂ (fun p q : Nat => ![p, q]) e0 e1)
  blk_ext [e]

omit hi hj hs ht in
/-- The product. -/
def prod (x : FVec Ideal S16x4096 .f32) (y : FVec Ideal S4096x1024 .bf16) : FVec Ideal S16x1024 .f32 :=
  fun i => ((∑ r : Fin 4096, x (ix2 (i 0) r) * y (ix2 r (i 1))) : EReal)

omit t hi hj hs ht in
theorem total : (dats m 0 c).arrAt 2 cfg0.N = prod (left m c) (right m c) := by
  refine (dats m 0 c).arrAt_eq_of_covers 2 _ (by decide +kernel) fun t hf y => ?_
  have ht : t.val < 4 := t.isLt
  have hl : t.val % 4 = 3 := by
    have := (flush0_2 t).mp hf
    omega
  blk_simp
  rw [after0_2, left_last m c t hl]
  refine Eq.trans ?_ (congrArg (prod (left m c) (right m c)) (place t (0) (0) (3) (by omega) (by omega) (by omega) (by omega) y))
  refine (Pipeline.eq_sum_fin_of_reset_step_apply_of_flush (fun n h => (outsAt0 m c n h).2) 4 (fun _ => (0 : EReal))
    (fun t (j : S16x1024.Idx) => k0_pay1 (F := Ideal) (iblk m c 0 t) (iblk m c 1 t) j) ?_ ?_ t hl _).trans ?_
  · intro t h j
    show _ = (0 : EReal) + _
    rw [left_first m c t h, zero_add, first_lines]
  · intro t h j
    rw [left_later m c t h]
    exact more_lines _ _ _ j
  rw [zero_add]
  refine Eq.trans ?_ (Fin.sum_mul_add_fin 4 1024 (fun r : Fin 4096 => (left m c (ix2 ⟨0 * 16 + (y 0).val, by have : (y 0).val < 16 := (y 0).isLt; omega⟩ r)
    * right m c (ix2 r ⟨0 * 1024 + (y 1).val, by have : (y 1).val < 1024 := (y 1).isLt; omega⟩) : EReal)) rfl)
  refine Finset.sum_congr rfl fun s _ => (part_lines _ _ _).trans (Finset.sum_congr rfl fun r _ => ?_)
  have hs : s.val < 4 := s.isLt
  have e := Nat.div_add_mod t.val 4
  exact congrArg₂ (fun p q : EReal => p * q)
    (rows_left m c ⟨4 * (t.val / 4) + s.val, by have : cfg0.N = 4 := N_0; omega⟩ (0) (0) (s.val) (by omega) (by omega) hs (by show (4 * (t.val / 4) + s.val) = _; omega) (y 0) r)
    (rows_right m c ⟨4 * (t.val / 4) + s.val, by have : cfg0.N = 4 := N_0; omega⟩ (0) (0) (s.val) (by omega) (by omega) hs (by show (4 * (t.val / 4) + s.val) = _; omega) r (y 1))

omit t hi hj hs ht in
/-- The run leaves the product. -/
theorem run (ρ : Dev nD → PrngReg) : θ_run defs (onTc (τ := τ) (main (F := Ideal))) ⟨m, fun _ => 0, ρ⟩ fun r => ∀ c : Dev nD,
    r.2.mem ((c.tc : Thread nD τ).loc main_v0) = prod (left m c) (right m c) :=
  (θ_run defs _ _).mono (fun _ h c => (h c).1.trans (total m c)) (Value.run_blocks m ρ)

end Cert.GradFgIdeal.Total

namespace Cert.GradFgReferenceIdeal.Total

open Idealize.ShloMosaic Idealize.ShloMosaic.TcCoe Idealize.SL.Sem
open Cert.GradFgReferenceIdeal Cert.GradFgReferenceIdeal.Gen Cert.GradFgIdeal.Total
open scoped BigOperators

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v1) = prod (m ((c.tc : Thread nD τ).loc main_arg0)) (m ((c.tc : Thread nD τ).loc main_arg1)) := by
  refine (θ_run defs _ _).mono (fun _ h c => (h c).1.trans ?_) (Value.run m ρ)
  funext j
  pointwise [prod]

end Cert.GradFgReferenceIdeal.Total
-- ==== Proof.Calls.lean ====
/-
# The claims of the calls on one device

Each call of a device's own work that is stated alone: the loss, the normalization and its gradient, and the products of a layer.
-/
module

public import proofs.«01_k».proof.Defs
public import proofs.«01_k».proof.Proof.LossValue
public import proofs.«01_k».proof.Proof.NormValue
public import proofs.«01_k».proof.Proof.HiddenValue
public import proofs.«01_k».proof.Proof.DownValue
public import proofs.«01_k».proof.Proof.ProjAValue
public import proofs.«01_k».proof.Proof.ProjFgValue
public import proofs.«01_k».proof.Proof.OutProjValue
public import proofs.«01_k».proof.Proof.UpProjValue
public import proofs.«01_k».proof.Proof.DownProjValue
public import proofs.«01_k».proof.Proof.BackActValue
public import proofs.«01_k».proof.Proof.BackUpValue
public import proofs.«01_k».proof.Proof.GradUpValue
public import proofs.«01_k».proof.Proof.BackMixValue
public import proofs.«01_k».proof.Proof.GradOutValue
public import proofs.«01_k».proof.Proof.BackFgValue
public import proofs.«01_k».proof.Proof.BackAValue
public import proofs.«01_k».proof.Proof.GradAValue
public import proofs.«01_k».proof.Proof.GradFgValue
public import proofs.«01_k».proof.Proof.Gen.Loss.Frame
public import proofs.«01_k».proof.Proof.Gen.Norm.Frame
public import proofs.«01_k».proof.Proof.Gen.Hidden.Frame
public import proofs.«01_k».proof.Proof.Gen.Down.Frame
public import proofs.«01_k».proof.Proof.Gen.ProjA.Frame
public import proofs.«01_k».proof.Proof.Gen.ProjFg.Frame
public import proofs.«01_k».proof.Proof.Gen.OutProj.Frame
public import proofs.«01_k».proof.Proof.Gen.UpProj.Frame
public import proofs.«01_k».proof.Proof.Gen.DownProj.Frame
public import proofs.«01_k».proof.Proof.Gen.BackAct.Frame
public import proofs.«01_k».proof.Proof.Gen.BackUp.Frame
public import proofs.«01_k».proof.Proof.Gen.GradUp.Frame
public import proofs.«01_k».proof.Proof.Gen.BackMix.Frame
public import proofs.«01_k».proof.Proof.Gen.GradOut.Frame
public import proofs.«01_k».proof.Proof.Gen.BackFg.Frame
public import proofs.«01_k».proof.Proof.Gen.BackA.Frame
public import proofs.«01_k».proof.Proof.Gen.GradA.Frame
public import proofs.«01_k».proof.Proof.Gen.GradFg.Frame

@[expose] public section

set_option maxRecDepth 65536

noncomputable section

namespace Cert.Proof

open Idealize.ShloMosaic Idealize.ShloMosaic.TcCoe Idealize.SL.Sem

theorem frame_loss : Cert.quiescent_Loss := fun m ρ _ => Cert.Loss.Gen.frame (F := Bits) m ρ

theorem frame_loss_ideal : Cert.quiescent_LossIdeal := fun m ρ _ => Cert.LossIdeal.Gen.frame (F := Ideal) m ρ

theorem frame_loss_ref_ideal : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

theorem algebraic_loss : Cert.algebraic_LossIdeal_LossReferenceIdeal := fun m ρ m' ρ' _ h =>
  ⟨fun c => Cert.LossIdeal.Total.loss (Cert.LossIdeal.Total.output m c) (Cert.LossIdeal.Total.target m c), fun c => Cert.LossIdeal.Total.back (Cert.LossIdeal.Total.output m c) (Cert.LossIdeal.Total.target m c),
    (θ_run Cert.LossIdeal.defs _ _).mono (fun _ k c => ⟨(k.1 c).1, (k.1 c).2, k.2 c⟩)
      (θ_run_and (Cert.LossIdeal.Total.run m ρ) (Cert.LossIdeal.Gen.unchanged (F := Ideal) m ρ)),
    (θ_run Cert.LossReferenceIdeal.defs _ _).mono (fun _ k c => ⟨((k c).1.trans (Cert.LossReferenceIdeal.Total.loss_lines _ _)).trans (congrArg₂ Cert.LossIdeal.Total.loss (h c).1 (h c).2),
        ((k c).2.1.trans (Cert.LossReferenceIdeal.Total.back_lines _ _)).trans (congrArg₂ Cert.LossIdeal.Total.back (h c).1 (h c).2), (k c).2.2⟩)
      (Cert.LossReferenceIdeal.Value.run (F := Ideal) m' ρ')⟩

theorem frame_norm : Cert.quiescent_Norm := fun m ρ _ => Cert.Norm.Gen.frame (F := Bits) m ρ

theorem frame_norm_ideal : Cert.quiescent_NormIdeal := fun m ρ _ => Cert.NormIdeal.Gen.frame (F := Ideal) m ρ

theorem frame_norm_ref_ideal : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)

theorem algebraic_norm : Cert.algebraic_NormIdeal_NormReferenceIdeal := fun m ρ m' ρ' _ h =>
  ⟨fun c => Cert.NormIdeal.Total.toRows (Cert.NormIdeal.Total.arr m c) (Cert.NormIdeal.Total.gain m c) (Cert.NormIdeal.Total.back m c) (Cert.NormIdeal.Total.past m c),
    fun c => Cert.NormIdeal.Total.toGains (Cert.NormIdeal.Total.arr m c) (Cert.NormIdeal.Total.back m c),
    (θ_run Cert.NormIdeal.defs _ _).mono (fun _ k c => ⟨(k.1 c).1, (k.1 c).2, k.2 c⟩)
      (θ_run_and (Cert.NormIdeal.Total.run m ρ) (Cert.NormIdeal.Gen.unchanged (F := Ideal) m ρ)),
    (θ_run Cert.NormReferenceIdeal.defs _ _).mono (fun _ k c => ⟨(k.1 c).1.trans (congr (congr (congr (congrArg Cert.NormIdeal.Total.toRows (h c).1) (h c).2.1) (h c).2.2.1) (h c).2.2.2),
        (k.1 c).2.trans (congrArg₂ Cert.NormIdeal.Total.toGains (h c).1 (h c).2.2.1), (k.2 c).2.2⟩)
      (θ_run_and (Cert.NormReferenceIdeal.Total.run m' ρ') (Cert.NormReferenceIdeal.Value.run (F := Ideal) m' ρ'))⟩

theorem frame_hidden : Cert.quiescent_Hidden := fun m ρ _ => Cert.Hidden.Gen.frame (F := Bits) m ρ

theorem frame_hidden_ideal : Cert.quiescent_HiddenIdeal := fun m ρ _ => Cert.HiddenIdeal.Gen.frame (F := Ideal) m ρ

theorem frame_hidden_ref_ideal : Cert.quiescent_HiddenReferenceIdeal := fun m ρ _ =>
  (θ_run Cert.HiddenReferenceIdeal.defs _ _).mono (fun r h => ⟨fun c => (h c).2, sem_eq_zero_of_no_sems (by decide) r.2⟩)
    (Cert.HiddenReferenceIdeal.Value.run (F := Ideal) m ρ)

theorem algebraic_hidden : Cert.algebraic_HiddenIdeal_HiddenReferenceIdeal := fun m ρ m' ρ' _ h =>
  ⟨fun c => Cert.HiddenIdeal.Total.normed (Cert.HiddenIdeal.Total.arr m c) (Cert.HiddenIdeal.Total.gain m c),
    (θ_run Cert.HiddenIdeal.defs _ _).mono (fun _ k c => ⟨k.1 c, k.2 c⟩)
      (θ_run_and (Cert.HiddenIdeal.Total.run m ρ) (Cert.HiddenIdeal.Gen.unchanged (F := Ideal) m ρ)),
    (θ_run Cert.HiddenReferenceIdeal.defs _ _).mono (fun _ k c => ⟨(k.1 c).trans (congrArg₂ Cert.HiddenIdeal.Total.normed (h c).1 (h c).2), (k.2 c).2⟩)
      (θ_run_and (Cert.HiddenReferenceIdeal.Total.run m' ρ') (Cert.HiddenReferenceIdeal.Value.run (F := Ideal) m' ρ'))⟩

theorem frame_down : Cert.quiescent_Down := fun m ρ _ => Cert.Down.Gen.frame (F := Bits) m ρ

theorem frame_down_ideal : Cert.quiescent_DownIdeal := fun m ρ _ => Cert.DownIdeal.Gen.frame (F := Ideal) m ρ

theorem frame_down_ref_ideal : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem algebraic_down : Cert.algebraic_DownIdeal_DownReferenceIdeal := fun m ρ m' ρ' _ h =>
  ⟨fun c => Cert.DownIdeal.Total.prod (Cert.DownIdeal.Total.left m c) (Cert.DownIdeal.Total.right m c),
    (θ_run Cert.DownIdeal.defs _ _).mono (fun _ k c => ⟨k.1 c, k.2 c⟩)
      (θ_run_and (Cert.DownIdeal.Total.run m ρ) (Cert.DownIdeal.Gen.unchanged (F := Ideal) m ρ)),
    (θ_run Cert.DownReferenceIdeal.defs _ _).mono (fun _ k c => ⟨(k.1 c).trans (congrArg₂ Cert.DownIdeal.Total.prod (h c).1 (h c).2), (k.2 c).2⟩)
      (θ_run_and (Cert.DownReferenceIdeal.Total.run m' ρ') (Cert.DownReferenceIdeal.Value.run (F := Ideal) m' ρ'))⟩

theorem frame_proj_a : Cert.quiescent_ProjA := fun m ρ _ => Cert.ProjA.Gen.frame (F := Bits) m ρ

theorem frame_proj_a_ideal : Cert.quiescent_ProjAIdeal := fun m ρ _ => Cert.ProjAIdeal.Gen.frame (F := Ideal) m ρ

theorem frame_proj_a_ref_ideal : Cert.quiescent_ProjAReferenceIdeal := fun m ρ _ =>
  (θ_run Cert.ProjAReferenceIdeal.defs _ _).mono (fun r h => ⟨fun c => (h c).2, sem_eq_zero_of_no_sems (by decide) r.2⟩)
    (Cert.ProjAReferenceIdeal.Value.run (F := Ideal) m ρ)

theorem algebraic_proj_a : Cert.algebraic_ProjAIdeal_ProjAReferenceIdeal := fun m ρ m' ρ' _ h =>
  ⟨fun c => Cert.ProjAIdeal.Total.prod (Cert.ProjAIdeal.Total.left m c) (Cert.ProjAIdeal.Total.right m c),
    (θ_run Cert.ProjAIdeal.defs _ _).mono (fun _ k c => ⟨k.1 c, k.2 c⟩)
      (θ_run_and (Cert.ProjAIdeal.Total.run m ρ) (Cert.ProjAIdeal.Gen.unchanged (F := Ideal) m ρ)),
    (θ_run Cert.ProjAReferenceIdeal.defs _ _).mono (fun _ k c => ⟨(k.1 c).trans (congrArg₂ Cert.ProjAIdeal.Total.prod (h c).1 (h c).2), (k.2 c).2⟩)
      (θ_run_and (Cert.ProjAReferenceIdeal.Total.run m' ρ') (Cert.ProjAReferenceIdeal.Value.run (F := Ideal) m' ρ'))⟩

theorem frame_proj_fg : Cert.quiescent_ProjFg := fun m ρ _ => Cert.ProjFg.Gen.frame (F := Bits) m ρ

theorem frame_proj_fg_ideal : Cert.quiescent_ProjFgIdeal := fun m ρ _ => Cert.ProjFgIdeal.Gen.frame (F := Ideal) m ρ

theorem frame_proj_fg_ref_ideal : Cert.quiescent_ProjFgReferenceIdeal := fun m ρ _ =>
  (θ_run Cert.ProjFgReferenceIdeal.defs _ _).mono (fun r h => ⟨fun c => (h c).2, sem_eq_zero_of_no_sems (by decide) r.2⟩)
    (Cert.ProjFgReferenceIdeal.Value.run (F := Ideal) m ρ)

theorem algebraic_proj_fg : Cert.algebraic_ProjFgIdeal_ProjFgReferenceIdeal := fun m ρ m' ρ' _ h =>
  ⟨fun c => Cert.ProjFgIdeal.Total.prod (Cert.ProjFgIdeal.Total.left m c) (Cert.ProjFgIdeal.Total.right m c),
    (θ_run Cert.ProjFgIdeal.defs _ _).mono (fun _ k c => ⟨k.1 c, k.2 c⟩)
      (θ_run_and (Cert.ProjFgIdeal.Total.run m ρ) (Cert.ProjFgIdeal.Gen.unchanged (F := Ideal) m ρ)),
    (θ_run Cert.ProjFgReferenceIdeal.defs _ _).mono (fun _ k c => ⟨(k.1 c).trans (congrArg₂ Cert.ProjFgIdeal.Total.prod (h c).1 (h c).2), (k.2 c).2⟩)
      (θ_run_and (Cert.ProjFgReferenceIdeal.Total.run m' ρ') (Cert.ProjFgReferenceIdeal.Value.run (F := Ideal) m' ρ'))⟩

theorem frame_out_proj : Cert.quiescent_OutProj := fun m ρ _ => Cert.OutProj.Gen.frame (F := Bits) m ρ

theorem frame_out_proj_ideal : Cert.quiescent_OutProjIdeal := fun m ρ _ => Cert.OutProjIdeal.Gen.frame (F := Ideal) m ρ

theorem frame_out_proj_ref_ideal : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem algebraic_out_proj : Cert.algebraic_OutProjIdeal_OutProjReferenceIdeal := fun m ρ m' ρ' _ h =>
  ⟨fun c => Cert.OutProjIdeal.Total.prod (Cert.OutProjIdeal.Total.left m c) (Cert.OutProjIdeal.Total.right m c) (Cert.OutProjIdeal.Total.past m c),
    (θ_run Cert.OutProjIdeal.defs _ _).mono (fun _ k c => ⟨k.1 c, k.2 c⟩)
      (θ_run_and (Cert.OutProjIdeal.Total.run m ρ) (Cert.OutProjIdeal.Gen.unchanged (F := Ideal) m ρ)),
    (θ_run Cert.OutProjReferenceIdeal.defs _ _).mono (fun _ k c => ⟨(k.1 c).trans (congr (congrArg₂ Cert.OutProjIdeal.Total.prod (h c).1 (h c).2.1) (h c).2.2), (k.2 c).2⟩)
      (θ_run_and (Cert.OutProjReferenceIdeal.Total.run m' ρ') (Cert.OutProjReferenceIdeal.Value.run (F := Ideal) m' ρ'))⟩

theorem frame_up_proj : Cert.quiescent_UpProj := fun m ρ _ => Cert.UpProj.Gen.frame (F := Bits) m ρ

theorem frame_up_proj_ideal : Cert.quiescent_UpProjIdeal := fun m ρ _ => Cert.UpProjIdeal.Gen.frame (F := Ideal) m ρ

theorem frame_up_proj_ref_ideal : Cert.quiescent_UpProjReferenceIdeal := fun m ρ _ =>
  (θ_run Cert.UpProjReferenceIdeal.defs _ _).mono (fun r h => ⟨fun c => (h c).2, sem_eq_zero_of_no_sems (by decide) r.2⟩)
    (Cert.UpProjReferenceIdeal.Value.run (F := Ideal) m ρ)

theorem algebraic_up_proj : Cert.algebraic_UpProjIdeal_UpProjReferenceIdeal := fun m ρ m' ρ' _ h =>
  ⟨fun c => Cert.UpProjIdeal.Total.prod (Cert.UpProjIdeal.Total.left m c) (Cert.UpProjIdeal.Total.right m c),
    (θ_run Cert.UpProjIdeal.defs _ _).mono (fun _ k c => ⟨k.1 c, k.2 c⟩)
      (θ_run_and (Cert.UpProjIdeal.Total.run m ρ) (Cert.UpProjIdeal.Gen.unchanged (F := Ideal) m ρ)),
    (θ_run Cert.UpProjReferenceIdeal.defs _ _).mono (fun _ k c => ⟨(k.1 c).trans (congrArg₂ Cert.UpProjIdeal.Total.prod (h c).1 (h c).2), (k.2 c).2⟩)
      (θ_run_and (Cert.UpProjReferenceIdeal.Total.run m' ρ') (Cert.UpProjReferenceIdeal.Value.run (F := Ideal) m' ρ'))⟩

theorem frame_down_proj : Cert.quiescent_DownProj := fun m ρ _ => Cert.DownProj.Gen.frame (F := Bits) m ρ

theorem frame_down_proj_ideal : Cert.quiescent_DownProjIdeal := fun m ρ _ => Cert.DownProjIdeal.Gen.frame (F := Ideal) m ρ

theorem frame_down_proj_ref_ideal : Cert.quiescent_DownProjReferenceIdeal := fun m ρ _ =>
  (θ_run Cert.DownProjReferenceIdeal.defs _ _).mono (fun r h => ⟨fun c => (h c).2, sem_eq_zero_of_no_sems (by decide) r.2⟩)
    (Cert.DownProjReferenceIdeal.Value.run (F := Ideal) m ρ)

theorem algebraic_down_proj : Cert.algebraic_DownProjIdeal_DownProjReferenceIdeal := fun m ρ m' ρ' _ h =>
  ⟨fun c => Cert.DownProjIdeal.Total.prod (Cert.DownProjIdeal.Total.left m c) (Cert.DownProjIdeal.Total.right m c) (Cert.DownProjIdeal.Total.past m c),
    (θ_run Cert.DownProjIdeal.defs _ _).mono (fun _ k c => ⟨k.1 c, k.2 c⟩)
      (θ_run_and (Cert.DownProjIdeal.Total.run m ρ) (Cert.DownProjIdeal.Gen.unchanged (F := Ideal) m ρ)),
    (θ_run Cert.DownProjReferenceIdeal.defs _ _).mono (fun _ k c => ⟨(k.1 c).trans (congr (congrArg₂ Cert.DownProjIdeal.Total.prod (h c).1 (h c).2.1) (h c).2.2), (k.2 c).2⟩)
      (θ_run_and (Cert.DownProjReferenceIdeal.Total.run m' ρ') (Cert.DownProjReferenceIdeal.Value.run (F := Ideal) m' ρ'))⟩

theorem frame_back_act : Cert.quiescent_BackAct := fun m ρ _ => Cert.BackAct.Gen.frame (F := Bits) m ρ

theorem frame_back_act_ideal : Cert.quiescent_BackActIdeal := fun m ρ _ => Cert.BackActIdeal.Gen.frame (F := Ideal) m ρ

theorem frame_back_act_ref_ideal : Cert.quiescent_BackActReferenceIdeal := fun m ρ _ =>
  (θ_run Cert.BackActReferenceIdeal.defs _ _).mono (fun r h => ⟨fun c => (h c).2, sem_eq_zero_of_no_sems (by decide) r.2⟩)
    (Cert.BackActReferenceIdeal.Value.run (F := Ideal) m ρ)

theorem algebraic_back_act : Cert.algebraic_BackActIdeal_BackActReferenceIdeal := fun m ρ m' ρ' _ h =>
  ⟨fun c => Cert.BackActIdeal.Total.prod (Cert.BackActIdeal.Total.left m c) (Cert.BackActIdeal.Total.right m c),
    (θ_run Cert.BackActIdeal.defs _ _).mono (fun _ k c => ⟨k.1 c, k.2 c⟩)
      (θ_run_and (Cert.BackActIdeal.Total.run m ρ) (Cert.BackActIdeal.Gen.unchanged (F := Ideal) m ρ)),
    (θ_run Cert.BackActReferenceIdeal.defs _ _).mono (fun _ k c => ⟨(k.1 c).trans (congrArg₂ Cert.BackActIdeal.Total.prod (h c).1 (h c).2), (k.2 c).2⟩)
      (θ_run_and (Cert.BackActReferenceIdeal.Total.run m' ρ') (Cert.BackActReferenceIdeal.Value.run (F := Ideal) m' ρ'))⟩

theorem frame_back_up : Cert.quiescent_BackUp := fun m ρ _ => Cert.BackUp.Gen.frame (F := Bits) m ρ

theorem frame_back_up_ideal : Cert.quiescent_BackUpIdeal := fun m ρ _ => Cert.BackUpIdeal.Gen.frame (F := Ideal) m ρ

theorem frame_back_up_ref_ideal : Cert.quiescent_BackUpReferenceIdeal := fun m ρ _ =>
  (θ_run Cert.BackUpReferenceIdeal.defs _ _).mono (fun r h => ⟨fun c => (h c).2, sem_eq_zero_of_no_sems (by decide) r.2⟩)
    (Cert.BackUpReferenceIdeal.Value.run (F := Ideal) m ρ)

theorem algebraic_back_up : Cert.algebraic_BackUpIdeal_BackUpReferenceIdeal := fun m ρ m' ρ' _ h =>
  ⟨fun c => Cert.BackUpIdeal.Total.prod (Cert.BackUpIdeal.Total.left m c) (Cert.BackUpIdeal.Total.right m c),
    (θ_run Cert.BackUpIdeal.defs _ _).mono (fun _ k c => ⟨k.1 c, k.2 c⟩)
      (θ_run_and (Cert.BackUpIdeal.Total.run m ρ) (Cert.BackUpIdeal.Gen.unchanged (F := Ideal) m ρ)),
    (θ_run Cert.BackUpReferenceIdeal.defs _ _).mono (fun _ k c => ⟨(k.1 c).trans (congrArg₂ Cert.BackUpIdeal.Total.prod (h c).1 (h c).2), (k.2 c).2⟩)
      (θ_run_and (Cert.BackUpReferenceIdeal.Total.run m' ρ') (Cert.BackUpReferenceIdeal.Value.run (F := Ideal) m' ρ'))⟩

theorem frame_grad_up : Cert.quiescent_GradUp := fun m ρ _ => Cert.GradUp.Gen.frame (F := Bits) m ρ

theorem frame_grad_up_ideal : Cert.quiescent_GradUpIdeal := fun m ρ _ => Cert.GradUpIdeal.Gen.frame (F := Ideal) m ρ

theorem frame_grad_up_ref_ideal : Cert.quiescent_GradUpReferenceIdeal := fun m ρ _ =>
  (θ_run Cert.GradUpReferenceIdeal.defs _ _).mono (fun r h => ⟨fun c => (h c).2, sem_eq_zero_of_no_sems (by decide) r.2⟩)
    (Cert.GradUpReferenceIdeal.Value.run (F := Ideal) m ρ)

theorem algebraic_grad_up : Cert.algebraic_GradUpIdeal_GradUpReferenceIdeal := fun m ρ m' ρ' _ h =>
  ⟨fun c => Cert.GradUpIdeal.Total.prod (Cert.GradUpIdeal.Total.left m c) (Cert.GradUpIdeal.Total.right m c),
    (θ_run Cert.GradUpIdeal.defs _ _).mono (fun _ k c => ⟨k.1 c, k.2 c⟩)
      (θ_run_and (Cert.GradUpIdeal.Total.run m ρ) (Cert.GradUpIdeal.Gen.unchanged (F := Ideal) m ρ)),
    (θ_run Cert.GradUpReferenceIdeal.defs _ _).mono (fun _ k c => ⟨(k.1 c).trans (congrArg₂ Cert.GradUpIdeal.Total.prod (h c).1 (h c).2), (k.2 c).2⟩)
      (θ_run_and (Cert.GradUpReferenceIdeal.Total.run m' ρ') (Cert.GradUpReferenceIdeal.Value.run (F := Ideal) m' ρ'))⟩

theorem frame_back_mix : Cert.quiescent_BackMix := fun m ρ _ => Cert.BackMix.Gen.frame (F := Bits) m ρ

theorem frame_back_mix_ideal : Cert.quiescent_BackMixIdeal := fun m ρ _ => Cert.BackMixIdeal.Gen.frame (F := Ideal) m ρ

theorem frame_back_mix_ref_ideal : Cert.quiescent_BackMixReferenceIdeal := fun m ρ _ =>
  (θ_run Cert.BackMixReferenceIdeal.defs _ _).mono (fun r h => ⟨fun c => (h c).2, sem_eq_zero_of_no_sems (by decide) r.2⟩)
    (Cert.BackMixReferenceIdeal.Value.run (F := Ideal) m ρ)

theorem algebraic_back_mix : Cert.algebraic_BackMixIdeal_BackMixReferenceIdeal := fun m ρ m' ρ' _ h =>
  ⟨fun c => Cert.BackMixIdeal.Total.prod (Cert.BackMixIdeal.Total.left m c) (Cert.BackMixIdeal.Total.right m c),
    (θ_run Cert.BackMixIdeal.defs _ _).mono (fun _ k c => ⟨k.1 c, k.2 c⟩)
      (θ_run_and (Cert.BackMixIdeal.Total.run m ρ) (Cert.BackMixIdeal.Gen.unchanged (F := Ideal) m ρ)),
    (θ_run Cert.BackMixReferenceIdeal.defs _ _).mono (fun _ k c => ⟨(k.1 c).trans (congrArg₂ Cert.BackMixIdeal.Total.prod (h c).1 (h c).2), (k.2 c).2⟩)
      (θ_run_and (Cert.BackMixReferenceIdeal.Total.run m' ρ') (Cert.BackMixReferenceIdeal.Value.run (F := Ideal) m' ρ'))⟩

theorem frame_grad_out : Cert.quiescent_GradOut := fun m ρ _ => Cert.GradOut.Gen.frame (F := Bits) m ρ

theorem frame_grad_out_ideal : Cert.quiescent_GradOutIdeal := fun m ρ _ => Cert.GradOutIdeal.Gen.frame (F := Ideal) m ρ

theorem frame_grad_out_ref_ideal : Cert.quiescent_GradOutReferenceIdeal := fun m ρ _ =>
  (θ_run Cert.GradOutReferenceIdeal.defs _ _).mono (fun r h => ⟨fun c => (h c).2, sem_eq_zero_of_no_sems (by decide) r.2⟩)
    (Cert.GradOutReferenceIdeal.Value.run (F := Ideal) m ρ)

theorem algebraic_grad_out : Cert.algebraic_GradOutIdeal_GradOutReferenceIdeal := fun m ρ m' ρ' _ h =>
  ⟨fun c => Cert.GradOutIdeal.Total.prod (Cert.GradOutIdeal.Total.left m c) (Cert.GradOutIdeal.Total.right m c),
    (θ_run Cert.GradOutIdeal.defs _ _).mono (fun _ k c => ⟨k.1 c, k.2 c⟩)
      (θ_run_and (Cert.GradOutIdeal.Total.run m ρ) (Cert.GradOutIdeal.Gen.unchanged (F := Ideal) m ρ)),
    (θ_run Cert.GradOutReferenceIdeal.defs _ _).mono (fun _ k c => ⟨(k.1 c).trans (congrArg₂ Cert.GradOutIdeal.Total.prod (h c).1 (h c).2), (k.2 c).2⟩)
      (θ_run_and (Cert.GradOutReferenceIdeal.Total.run m' ρ') (Cert.GradOutReferenceIdeal.Value.run (F := Ideal) m' ρ'))⟩

theorem frame_back_fg : Cert.quiescent_BackFg := fun m ρ _ => Cert.BackFg.Gen.frame (F := Bits) m ρ

theorem frame_back_fg_ideal : Cert.quiescent_BackFgIdeal := fun m ρ _ => Cert.BackFgIdeal.Gen.frame (F := Ideal) m ρ

theorem frame_back_fg_ref_ideal : Cert.quiescent_BackFgReferenceIdeal := fun m ρ _ =>
  (θ_run Cert.BackFgReferenceIdeal.defs _ _).mono (fun r h => ⟨fun c => (h c).2, sem_eq_zero_of_no_sems (by decide) r.2⟩)
    (Cert.BackFgReferenceIdeal.Value.run (F := Ideal) m ρ)

theorem algebraic_back_fg : Cert.algebraic_BackFgIdeal_BackFgReferenceIdeal := fun m ρ m' ρ' _ h =>
  ⟨fun c => Cert.BackFgIdeal.Total.prod (Cert.BackFgIdeal.Total.left m c) (Cert.BackFgIdeal.Total.right m c),
    (θ_run Cert.BackFgIdeal.defs _ _).mono (fun _ k c => ⟨k.1 c, k.2 c⟩)
      (θ_run_and (Cert.BackFgIdeal.Total.run m ρ) (Cert.BackFgIdeal.Gen.unchanged (F := Ideal) m ρ)),
    (θ_run Cert.BackFgReferenceIdeal.defs _ _).mono (fun _ k c => ⟨(k.1 c).trans (congrArg₂ Cert.BackFgIdeal.Total.prod (h c).1 (h c).2), (k.2 c).2⟩)
      (θ_run_and (Cert.BackFgReferenceIdeal.Total.run m' ρ') (Cert.BackFgReferenceIdeal.Value.run (F := Ideal) m' ρ'))⟩

theorem frame_back_a : Cert.quiescent_BackA := fun m ρ _ => Cert.BackA.Gen.frame (F := Bits) m ρ

theorem frame_back_a_ideal : Cert.quiescent_BackAIdeal := fun m ρ _ => Cert.BackAIdeal.Gen.frame (F := Ideal) m ρ

theorem frame_back_a_ref_ideal : Cert.quiescent_BackAReferenceIdeal := fun m ρ _ =>
  (θ_run Cert.BackAReferenceIdeal.defs _ _).mono (fun r h => ⟨fun c => (h c).2, sem_eq_zero_of_no_sems (by decide) r.2⟩)
    (Cert.BackAReferenceIdeal.Value.run (F := Ideal) m ρ)

theorem algebraic_back_a : Cert.algebraic_BackAIdeal_BackAReferenceIdeal := fun m ρ m' ρ' _ h =>
  ⟨fun c => Cert.BackAIdeal.Total.prod (Cert.BackAIdeal.Total.left m c) (Cert.BackAIdeal.Total.right m c) (Cert.BackAIdeal.Total.past m c),
    (θ_run Cert.BackAIdeal.defs _ _).mono (fun _ k c => ⟨k.1 c, k.2 c⟩)
      (θ_run_and (Cert.BackAIdeal.Total.run m ρ) (Cert.BackAIdeal.Gen.unchanged (F := Ideal) m ρ)),
    (θ_run Cert.BackAReferenceIdeal.defs _ _).mono (fun _ k c => ⟨(k.1 c).trans (congr (congrArg₂ Cert.BackAIdeal.Total.prod (h c).1 (h c).2.1) (h c).2.2), (k.2 c).2⟩)
      (θ_run_and (Cert.BackAReferenceIdeal.Total.run m' ρ') (Cert.BackAReferenceIdeal.Value.run (F := Ideal) m' ρ'))⟩

theorem frame_grad_a : Cert.quiescent_GradA := fun m ρ _ => Cert.GradA.Gen.frame (F := Bits) m ρ

theorem frame_grad_a_ideal : Cert.quiescent_GradAIdeal := fun m ρ _ => Cert.GradAIdeal.Gen.frame (F := Ideal) m ρ

theorem frame_grad_a_ref_ideal : Cert.quiescent_GradAReferenceIdeal := fun m ρ _ =>
  (θ_run Cert.GradAReferenceIdeal.defs _ _).mono (fun r h => ⟨fun c => (h c).2, sem_eq_zero_of_no_sems (by decide) r.2⟩)
    (Cert.GradAReferenceIdeal.Value.run (F := Ideal) m ρ)

theorem algebraic_grad_a : Cert.algebraic_GradAIdeal_GradAReferenceIdeal := fun m ρ m' ρ' _ h =>
  ⟨fun c => Cert.GradAIdeal.Total.prod (Cert.GradAIdeal.Total.left m c) (Cert.GradAIdeal.Total.right m c),
    (θ_run Cert.GradAIdeal.defs _ _).mono (fun _ k c => ⟨k.1 c, k.2 c⟩)
      (θ_run_and (Cert.GradAIdeal.Total.run m ρ) (Cert.GradAIdeal.Gen.unchanged (F := Ideal) m ρ)),
    (θ_run Cert.GradAReferenceIdeal.defs _ _).mono (fun _ k c => ⟨(k.1 c).trans (congrArg₂ Cert.GradAIdeal.Total.prod (h c).1 (h c).2), (k.2 c).2⟩)
      (θ_run_and (Cert.GradAReferenceIdeal.Total.run m' ρ') (Cert.GradAReferenceIdeal.Value.run (F := Ideal) m' ρ'))⟩

theorem frame_grad_fg : Cert.quiescent_GradFg := fun m ρ _ => Cert.GradFg.Gen.frame (F := Bits) m ρ

theorem frame_grad_fg_ideal : Cert.quiescent_GradFgIdeal := fun m ρ _ => Cert.GradFgIdeal.Gen.frame (F := Ideal) m ρ

theorem frame_grad_fg_ref_ideal : Cert.quiescent_GradFgReferenceIdeal := fun m ρ _ =>
  (θ_run Cert.GradFgReferenceIdeal.defs _ _).mono (fun r h => ⟨fun c => (h c).2, sem_eq_zero_of_no_sems (by decide) r.2⟩)
    (Cert.GradFgReferenceIdeal.Value.run (F := Ideal) m ρ)

theorem algebraic_grad_fg : Cert.algebraic_GradFgIdeal_GradFgReferenceIdeal := fun m ρ m' ρ' _ h =>
  ⟨fun c => Cert.GradFgIdeal.Total.prod (Cert.GradFgIdeal.Total.left m c) (Cert.GradFgIdeal.Total.right m c),
    (θ_run Cert.GradFgIdeal.defs _ _).mono (fun _ k c => ⟨k.1 c, k.2 c⟩)
      (θ_run_and (Cert.GradFgIdeal.Total.run m ρ) (Cert.GradFgIdeal.Gen.unchanged (F := Ideal) m ρ)),
    (θ_run Cert.GradFgReferenceIdeal.defs _ _).mono (fun _ k c => ⟨(k.1 c).trans (congrArg₂ Cert.GradFgIdeal.Total.prod (h c).1 (h c).2), (k.2 c).2⟩)
      (θ_run_and (Cert.GradFgReferenceIdeal.Total.run m' ρ') (Cert.GradFgReferenceIdeal.Value.run (F := Ideal) m' ρ'))⟩

end Cert.Proof

end
-- ==== Proof.lean ====
/-
# The claims

The four exchanges between the devices, each over eight devices, against the same whole array on one: every chip gathers
all the chips' rows, the two cores of a chip exchange halves, the chips exchange the halves' partial sums, and the two
cores of a chip share their halves of the total. Then the update of each sharded weight, over eight devices, against the
update of the whole weight on one; and the update of the weights every chip holds whole, on one device;
and, on one device, the two additions between the exchanges, and the calls of a device's own work.
-/
module

public import proofs.«01_k».proof.Defs
public import proofs.«01_k».proof.Proof.GatherValue
public import proofs.«01_k».proof.Proof.SwapValue
public import proofs.«01_k».proof.Proof.SendValue
public import proofs.«01_k».proof.Proof.ShareValue
public import proofs.«01_k».proof.Proof.Gen.AdamIn.Frame
public import proofs.«01_k».proof.Proof.Gen.AdamInIdeal.Frame
public import proofs.«01_k».proof.Proof.Gen.AdamInReferenceIdeal.Run
public import proofs.«01_k».proof.Proof.Gen.AdamConvDw.Frame
public import proofs.«01_k».proof.Proof.Gen.AdamConvDwIdeal.Frame
public import proofs.«01_k».proof.Proof.Gen.AdamConvDwReferenceIdeal.Run
public import proofs.«01_k».proof.Proof.Gen.AdamConvPw.Frame
public import proofs.«01_k».proof.Proof.Gen.AdamConvPwIdeal.Frame
public import proofs.«01_k».proof.Proof.Gen.AdamConvPwReferenceIdeal.Run
public import proofs.«01_k».proof.Proof.Gen.AdamOut.Frame
public import proofs.«01_k».proof.Proof.Gen.AdamOutIdeal.Frame
public import proofs.«01_k».proof.Proof.Gen.AdamOutReferenceIdeal.Run
public import proofs.«01_k».proof.Proof.Gen.AdamUp.Frame
public import proofs.«01_k».proof.Proof.Gen.AdamUpIdeal.Frame
public import proofs.«01_k».proof.Proof.Gen.AdamUpReferenceIdeal.Run
public import proofs.«01_k».proof.Proof.Gen.AdamFfnDw.Frame
public import proofs.«01_k».proof.Proof.Gen.AdamFfnDwIdeal.Frame
public import proofs.«01_k».proof.Proof.Gen.AdamFfnDwReferenceIdeal.Run
public import proofs.«01_k».proof.Proof.Gen.AdamDown.Frame
public import proofs.«01_k».proof.Proof.Gen.AdamDownIdeal.Frame
public import proofs.«01_k».proof.Proof.Gen.AdamDownReferenceIdeal.Run
public import proofs.«01_k».proof.Proof.Gen.AdamSmall.Frame
public import proofs.«01_k».proof.Proof.Gen.AdamSmallIdeal.Frame
public import proofs.«01_k».proof.Proof.Gen.AdamSmallReferenceIdeal.Run
public import proofs.«01_k».proof.Proof.Gen.Pre_a_core
public import proofs.«01_k».proof.Proof.Gen.Pre_a_chip
public import proofs.«01_k».proof.Proof.Gen.AddSiblingReference
public import proofs.«01_k».proof.Proof.Gen.AddPartialsReference
public import proofs.«01_k».proof.Proof.Gen.AddSibling
public import proofs.«01_k».proof.Proof.Gen.AddSiblingIdeal.Frame
public import proofs.«01_k».proof.Proof.Gen.AddSiblingReferenceIdeal.Run
public import proofs.«01_k».proof.Proof.Gen.AddPartials
public import proofs.«01_k».proof.Proof.Gen.AddPartialsIdeal.Frame
public import proofs.«01_k».proof.Proof.Gen.AddPartialsReferenceIdeal.Run
public import proofs.«01_k».proof.Proof.AddSiblingValue
public import proofs.«01_k».proof.Proof.AddPartialsValue
public import proofs.«01_k».proof.Proof.AdamInValue
public import proofs.«01_k».proof.Proof.AdamConvDwValue
public import proofs.«01_k».proof.Proof.AdamConvPwValue
public import proofs.«01_k».proof.Proof.AdamOutValue
public import proofs.«01_k».proof.Proof.AdamUpValue
public import proofs.«01_k».proof.Proof.AdamFfnDwValue
public import proofs.«01_k».proof.Proof.AdamDownValue
public import proofs.«01_k».proof.Proof.AdamSmall
public import proofs.«01_k».proof.Proof.Gen.Gather
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherReference
public import proofs.«01_k».proof.Proof.Gen.GatherReferenceIdeal.Run
public import proofs.«01_k».proof.Proof.Gen.Swap
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapReference
public import proofs.«01_k».proof.Proof.Gen.SwapReferenceIdeal.Run
public import proofs.«01_k».proof.Proof.Gen.Send
public import proofs.«01_k».proof.Proof.Gen.SendIdeal.Skeleton
public import proofs.«01_k».proof.Proof.Gen.SendIdeal.Launch
public import proofs.«01_k».proof.Proof.Gen.SendIdeal.Points
public import proofs.«01_k».proof.Proof.Gen.SendReference
public import proofs.«01_k».proof.Proof.Gen.SendReferenceIdeal.Run
public import proofs.«01_k».proof.Proof.Gen.Share
public import proofs.«01_k».proof.Proof.Gen.ShareIdeal.Skeleton
public import proofs.«01_k».proof.Proof.Gen.ShareIdeal.Launch
public import proofs.«01_k».proof.Proof.Gen.ShareIdeal.Points
public import proofs.«01_k».proof.Proof.Gen.ShareReference
public import proofs.«01_k».proof.Proof.Gen.ShareReferenceIdeal.Run
public import proofs.«01_k».proof.Proof.Calls

@[expose] public section

set_option maxRecDepth 65536

noncomputable section

namespace Cert.Proof

open Idealize.ShloMosaic Idealize.ShloMosaic.TcCoe Idealize.SL.Sem
open Cert.Adam

theorem frame_gather_ideal : Cert.quiescent_GatherIdeal := fun m ρ _ =>
  (θ_run Cert.GatherIdeal.defs _ _).mono (fun _ h => ⟨fun c => (h.1 c).1, h.2⟩) (Cert.GatherIdeal.run_main (F := Ideal) m ρ)

theorem frame_gather : Cert.quiescent_Gather := fun m ρ _ =>
  (θ_run Cert.GatherIdeal.defs _ _).mono (fun _ h => ⟨fun c => (h.1 c).1, h.2⟩) (Cert.GatherIdeal.run_main (F := Bits) m ρ)

theorem frame_gather_ref_ideal : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

theorem frame_gather_ref : Cert.quiescent_GatherReference := fun m ρ _ =>
  (θ_run Cert.GatherReferenceIdeal.defs _ _).mono (fun r h => ⟨fun c => (h c).2, sem_eq_zero_of_no_sems (by decide) r.2⟩)
    (Cert.GatherReferenceIdeal.Value.run (F := Bits) m ρ)

theorem algebraic_gather : Cert.algebraic_GatherIdeal_GatherReferenceIdeal := fun m ρ m' ρ' _ h =>
  ⟨Cert.GatherValue.result (m' ((0 : Dev Cert.GatherReferenceIdeal.nD).tc.loc Cert.GatherReferenceIdeal.main_arg0)),
    (θ_run Cert.GatherIdeal.defs _ _).mono (fun _ k c => ⟨(k.1 c).2.trans (Cert.GatherValue.gathered_whole m _ h c), (k.1 c).1⟩)
      (Cert.GatherIdeal.run_main (F := Ideal) m ρ),
    (θ_run Cert.GatherReferenceIdeal.defs _ _).mono (fun _ k => k 0) (Cert.GatherReferenceIdeal.Value.run (F := Ideal) m' ρ')⟩

theorem bitexact_gather : Cert.bitexact_Gather_GatherReference := fun m ρ m' ρ' _ h =>
  ⟨Cert.GatherValue.result (m' ((0 : Dev Cert.GatherReferenceIdeal.nD).tc.loc Cert.GatherReferenceIdeal.main_arg0)),
    (θ_run Cert.GatherIdeal.defs _ _).mono (fun _ k c => ⟨(k.1 c).2.trans (Cert.GatherValue.gathered_whole m _ h c), (k.1 c).1⟩)
      (Cert.GatherIdeal.run_main (F := Bits) m ρ),
    (θ_run Cert.GatherReferenceIdeal.defs _ _).mono (fun _ k => k 0) (Cert.GatherReferenceIdeal.Value.run (F := Bits) m' ρ')⟩

theorem frame_swap_ideal : Cert.quiescent_SwapIdeal := fun m ρ _ =>
  (θ_run Cert.SwapIdeal.defs _ _).mono (fun _ h => ⟨fun c => (h.1 c).1, h.2⟩) (Cert.SwapIdeal.run_main (F := Ideal) m ρ)

theorem frame_swap : Cert.quiescent_Swap := fun m ρ _ =>
  (θ_run Cert.SwapIdeal.defs _ _).mono (fun _ h => ⟨fun c => (h.1 c).1, h.2⟩) (Cert.SwapIdeal.run_main (F := Bits) m ρ)

theorem frame_swap_ref_ideal : Cert.quiescent_SwapReferenceIdeal := fun m ρ _ =>
  (θ_run Cert.SwapReferenceIdeal.defs _ _).mono (fun r h => ⟨fun c => (h c).2, sem_eq_zero_of_no_sems (by decide) r.2⟩)
    (Cert.SwapReferenceIdeal.Value.run (F := Ideal) m ρ)

theorem frame_swap_ref : Cert.quiescent_SwapReference := fun m ρ _ =>
  (θ_run Cert.SwapReferenceIdeal.defs _ _).mono (fun r h => ⟨fun c => (h c).2, sem_eq_zero_of_no_sems (by decide) r.2⟩)
    (Cert.SwapReferenceIdeal.Value.run (F := Bits) m ρ)

theorem algebraic_swap : Cert.algebraic_SwapIdeal_SwapReferenceIdeal := fun m ρ m' ρ' _ h =>
  ⟨Cert.SwapValue.result (m' ((0 : Dev Cert.SwapReferenceIdeal.nD).tc.loc Cert.SwapReferenceIdeal.main_arg0)),
    (θ_run Cert.SwapIdeal.defs _ _).mono (fun _ k c => ⟨(k.1 c).2.trans (Cert.SwapValue.swapped_block m _ h c), (k.1 c).1⟩)
      (Cert.SwapIdeal.run_main (F := Ideal) m ρ),
    (θ_run Cert.SwapReferenceIdeal.defs _ _).mono (fun _ k => k 0) (Cert.SwapReferenceIdeal.Value.run (F := Ideal) m' ρ')⟩

theorem bitexact_swap : Cert.bitexact_Swap_SwapReference := fun m ρ m' ρ' _ h =>
  ⟨Cert.SwapValue.result (m' ((0 : Dev Cert.SwapReferenceIdeal.nD).tc.loc Cert.SwapReferenceIdeal.main_arg0)),
    (θ_run Cert.SwapIdeal.defs _ _).mono (fun _ k c => ⟨(k.1 c).2.trans (Cert.SwapValue.swapped_block m _ h c), (k.1 c).1⟩)
      (Cert.SwapIdeal.run_main (F := Bits) m ρ),
    (θ_run Cert.SwapReferenceIdeal.defs _ _).mono (fun _ k => k 0) (Cert.SwapReferenceIdeal.Value.run (F := Bits) m' ρ')⟩

theorem frame_send_ideal : Cert.quiescent_SendIdeal := fun m ρ _ =>
  (θ_run Cert.SendIdeal.defs _ _).mono (fun _ h => ⟨fun c => (h.1 c).1, h.2⟩) (Cert.SendIdeal.run_main (F := Ideal) m ρ)

theorem frame_send : Cert.quiescent_Send := fun m ρ _ =>
  (θ_run Cert.SendIdeal.defs _ _).mono (fun _ h => ⟨fun c => (h.1 c).1, h.2⟩) (Cert.SendIdeal.run_main (F := Bits) m ρ)

theorem frame_send_ref_ideal : Cert.quiescent_SendReferenceIdeal := fun m ρ _ =>
  (θ_run Cert.SendReferenceIdeal.defs _ _).mono (fun r h => ⟨fun c => (h c).2, sem_eq_zero_of_no_sems (by decide) r.2⟩)
    (Cert.SendReferenceIdeal.Value.run (F := Ideal) m ρ)

theorem frame_send_ref : Cert.quiescent_SendReference := fun m ρ _ =>
  (θ_run Cert.SendReferenceIdeal.defs _ _).mono (fun r h => ⟨fun c => (h c).2, sem_eq_zero_of_no_sems (by decide) r.2⟩)
    (Cert.SendReferenceIdeal.Value.run (F := Bits) m ρ)

theorem algebraic_send : Cert.algebraic_SendIdeal_SendReferenceIdeal := fun m ρ m' ρ' _ h =>
  ⟨Cert.SendValue.result (m' ((0 : Dev Cert.SendReferenceIdeal.nD).tc.loc Cert.SendReferenceIdeal.main_arg0)),
    (θ_run Cert.SendIdeal.defs _ _).mono (fun _ k c => ⟨(k.1 c).2.trans (Cert.SendValue.received_block m _ h c), (k.1 c).1⟩)
      (Cert.SendIdeal.run_main (F := Ideal) m ρ),
    (θ_run Cert.SendReferenceIdeal.defs _ _).mono (fun _ k => ⟨(k 0).1.trans (Cert.SendValue.result_eq m' 0), (k 0).2⟩) (Cert.SendReferenceIdeal.Value.run (F := Ideal) m' ρ')⟩

theorem bitexact_send : Cert.bitexact_Send_SendReference := fun m ρ m' ρ' _ h =>
  ⟨Cert.SendValue.result (m' ((0 : Dev Cert.SendReferenceIdeal.nD).tc.loc Cert.SendReferenceIdeal.main_arg0)),
    (θ_run Cert.SendIdeal.defs _ _).mono (fun _ k c => ⟨(k.1 c).2.trans (Cert.SendValue.received_block m _ h c), (k.1 c).1⟩)
      (Cert.SendIdeal.run_main (F := Bits) m ρ),
    (θ_run Cert.SendReferenceIdeal.defs _ _).mono (fun _ k => ⟨(k 0).1.trans (Cert.SendValue.result_eq m' 0), (k 0).2⟩) (Cert.SendReferenceIdeal.Value.run (F := Bits) m' ρ')⟩

theorem frame_share_ideal : Cert.quiescent_ShareIdeal := fun m ρ _ =>
  (θ_run Cert.ShareIdeal.defs _ _).mono (fun _ h => ⟨fun c => (h.1 c).1, h.2⟩) (Cert.ShareIdeal.run_main (F := Ideal) m ρ)

theorem frame_share : Cert.quiescent_Share := fun m ρ _ =>
  (θ_run Cert.ShareIdeal.defs _ _).mono (fun _ h => ⟨fun c => (h.1 c).1, h.2⟩) (Cert.ShareIdeal.run_main (F := Bits) m ρ)

theorem frame_share_ref_ideal : Cert.quiescent_ShareReferenceIdeal := fun m ρ _ =>
  (θ_run Cert.ShareReferenceIdeal.defs _ _).mono (fun r h => ⟨fun c => (h c).2, sem_eq_zero_of_no_sems (by decide) r.2⟩)
    (Cert.ShareReferenceIdeal.Value.run (F := Ideal) m ρ)

theorem frame_share_ref : Cert.quiescent_ShareReference := fun m ρ _ =>
  (θ_run Cert.ShareReferenceIdeal.defs _ _).mono (fun r h => ⟨fun c => (h c).2, sem_eq_zero_of_no_sems (by decide) r.2⟩)
    (Cert.ShareReferenceIdeal.Value.run (F := Bits) m ρ)

theorem algebraic_share : Cert.algebraic_ShareIdeal_ShareReferenceIdeal := fun m ρ m' ρ' _ h =>
  ⟨Cert.ShareValue.result (m' ((0 : Dev Cert.ShareReferenceIdeal.nD).tc.loc Cert.ShareReferenceIdeal.main_arg0)),
    (θ_run Cert.ShareIdeal.defs _ _).mono (fun _ k c => ⟨(k.1 c).2.trans (Cert.ShareValue.shared_block m _ h c), (k.1 c).1⟩)
      (Cert.ShareIdeal.run_main (F := Ideal) m ρ),
    (θ_run Cert.ShareReferenceIdeal.defs _ _).mono (fun _ k => k 0) (Cert.ShareReferenceIdeal.Value.run (F := Ideal) m' ρ')⟩

theorem bitexact_share : Cert.bitexact_Share_ShareReference := fun m ρ m' ρ' _ h =>
  ⟨Cert.ShareValue.result (m' ((0 : Dev Cert.ShareReferenceIdeal.nD).tc.loc Cert.ShareReferenceIdeal.main_arg0)),
    (θ_run Cert.ShareIdeal.defs _ _).mono (fun _ k c => ⟨(k.1 c).2.trans (Cert.ShareValue.shared_block m _ h c), (k.1 c).1⟩)
      (Cert.ShareIdeal.run_main (F := Bits) m ρ),
    (θ_run Cert.ShareReferenceIdeal.defs _ _).mono (fun _ k => k 0) (Cert.ShareReferenceIdeal.Value.run (F := Bits) m' ρ')⟩

theorem frame_adam_in_ideal : Cert.quiescent_AdamInIdeal := fun m ρ _ => Cert.AdamInIdeal.Gen.frame (F := Ideal) m ρ

theorem frame_adam_in : Cert.quiescent_AdamIn := fun m ρ _ => Cert.AdamIn.Gen.frame (F := Bits) m ρ

theorem frame_adam_in_ref_ideal : Cert.quiescent_AdamInReferenceIdeal := fun m ρ _ =>
  (θ_run Cert.AdamInReferenceIdeal.defs _ _).mono (fun r h => ⟨fun c => (h c).2.2.2, sem_eq_zero_of_no_sems (by decide) r.2⟩)
    (Cert.AdamInReferenceIdeal.Value.run (F := Ideal) m ρ)

theorem algebraic_adam_in : Cert.algebraic_AdamInIdeal_AdamInReferenceIdeal := fun m ρ m' ρ' _ h =>
  ⟨_, _, _,
    (θ_run Cert.AdamInIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamInIdeal.Update.run (F := Ideal) m ρ) (Cert.AdamInIdeal.Gen.unchanged (F := Ideal) m ρ)),
    (θ_run Cert.AdamInReferenceIdeal.defs _ _).mono (fun _ k => ⟨(k 0).1.trans (deltas_host _ _ _ _ _),
        (k 0).2.1.trans (means_host _ _ _), (k 0).2.2.1.trans (squares_host _ _ _), (k 0).2.2.2⟩)
      (Cert.AdamInReferenceIdeal.Value.run (F := Ideal) m' ρ')⟩

theorem frame_adam_conv_dw_ideal : Cert.quiescent_AdamConvDwIdeal := fun m ρ _ => Cert.AdamConvDwIdeal.Gen.frame (F := Ideal) m ρ

theorem frame_adam_conv_dw : Cert.quiescent_AdamConvDw := fun m ρ _ => Cert.AdamConvDw.Gen.frame (F := Bits) m ρ

theorem frame_adam_conv_dw_ref_ideal : Cert.quiescent_AdamConvDwReferenceIdeal := fun m ρ _ =>
  (θ_run Cert.AdamConvDwReferenceIdeal.defs _ _).mono (fun r h => ⟨fun c => (h c).2.2.2, sem_eq_zero_of_no_sems (by decide) r.2⟩)
    (Cert.AdamConvDwReferenceIdeal.Value.run (F := Ideal) m ρ)

theorem algebraic_adam_conv_dw : Cert.algebraic_AdamConvDwIdeal_AdamConvDwReferenceIdeal := fun m ρ m' ρ' _ h =>
  ⟨_, _, _,
    (θ_run Cert.AdamConvDwIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamConvDwIdeal.Update.run (F := Ideal) m ρ) (Cert.AdamConvDwIdeal.Gen.unchanged (F := Ideal) m ρ)),
    (θ_run Cert.AdamConvDwReferenceIdeal.defs _ _).mono (fun _ k => ⟨(k 0).1.trans (deltas_host _ _ _ _ _),
        (k 0).2.1.trans (means_host _ _ _), (k 0).2.2.1.trans (squares_host _ _ _), (k 0).2.2.2⟩)
      (Cert.AdamConvDwReferenceIdeal.Value.run (F := Ideal) m' ρ')⟩

theorem frame_adam_conv_pw_ideal : Cert.quiescent_AdamConvPwIdeal := fun m ρ _ => Cert.AdamConvPwIdeal.Gen.frame (F := Ideal) m ρ

theorem frame_adam_conv_pw : Cert.quiescent_AdamConvPw := fun m ρ _ => Cert.AdamConvPw.Gen.frame (F := Bits) m ρ

theorem frame_adam_conv_pw_ref_ideal : Cert.quiescent_AdamConvPwReferenceIdeal := fun m ρ _ =>
  (θ_run Cert.AdamConvPwReferenceIdeal.defs _ _).mono (fun r h => ⟨fun c => (h c).2.2.2, sem_eq_zero_of_no_sems (by decide) r.2⟩)
    (Cert.AdamConvPwReferenceIdeal.Value.run (F := Ideal) m ρ)

theorem algebraic_adam_conv_pw : Cert.algebraic_AdamConvPwIdeal_AdamConvPwReferenceIdeal := fun m ρ m' ρ' _ h =>
  ⟨_, _, _,
    (θ_run Cert.AdamConvPwIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamConvPwIdeal.Update.run (F := Ideal) m ρ) (Cert.AdamConvPwIdeal.Gen.unchanged (F := Ideal) m ρ)),
    (θ_run Cert.AdamConvPwReferenceIdeal.defs _ _).mono (fun _ k => ⟨(k 0).1.trans (deltas_host _ _ _ _ _),
        (k 0).2.1.trans (means_host _ _ _), (k 0).2.2.1.trans (squares_host _ _ _), (k 0).2.2.2⟩)
      (Cert.AdamConvPwReferenceIdeal.Value.run (F := Ideal) m' ρ')⟩

theorem frame_adam_out_ideal : Cert.quiescent_AdamOutIdeal := fun m ρ _ => Cert.AdamOutIdeal.Gen.frame (F := Ideal) m ρ

theorem frame_adam_out : Cert.quiescent_AdamOut := fun m ρ _ => Cert.AdamOut.Gen.frame (F := Bits) m ρ

theorem frame_adam_out_ref_ideal : Cert.quiescent_AdamOutReferenceIdeal := fun m ρ _ =>
  (θ_run Cert.AdamOutReferenceIdeal.defs _ _).mono (fun r h => ⟨fun c => (h c).2.2.2, sem_eq_zero_of_no_sems (by decide) r.2⟩)
    (Cert.AdamOutReferenceIdeal.Value.run (F := Ideal) m ρ)

theorem algebraic_adam_out : Cert.algebraic_AdamOutIdeal_AdamOutReferenceIdeal := fun m ρ m' ρ' _ h =>
  ⟨_, _, _,
    (θ_run Cert.AdamOutIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamOutIdeal.Update.run (F := Ideal) m ρ) (Cert.AdamOutIdeal.Gen.unchanged (F := Ideal) m ρ)),
    (θ_run Cert.AdamOutReferenceIdeal.defs _ _).mono (fun _ k => ⟨(k 0).1.trans (deltas_host _ _ _ _ _),
        (k 0).2.1.trans (means_host _ _ _), (k 0).2.2.1.trans (squares_host _ _ _), (k 0).2.2.2⟩)
      (Cert.AdamOutReferenceIdeal.Value.run (F := Ideal) m' ρ')⟩

theorem frame_adam_up_ideal : Cert.quiescent_AdamUpIdeal := fun m ρ _ => Cert.AdamUpIdeal.Gen.frame (F := Ideal) m ρ

theorem frame_adam_up : Cert.quiescent_AdamUp := fun m ρ _ => Cert.AdamUp.Gen.frame (F := Bits) m ρ

theorem frame_adam_up_ref_ideal : Cert.quiescent_AdamUpReferenceIdeal := fun m ρ _ =>
  (θ_run Cert.AdamUpReferenceIdeal.defs _ _).mono (fun r h => ⟨fun c => (h c).2.2.2, sem_eq_zero_of_no_sems (by decide) r.2⟩)
    (Cert.AdamUpReferenceIdeal.Value.run (F := Ideal) m ρ)

theorem algebraic_adam_up : Cert.algebraic_AdamUpIdeal_AdamUpReferenceIdeal := fun m ρ m' ρ' _ h =>
  ⟨_, _, _,
    (θ_run Cert.AdamUpIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamUpIdeal.Update.run (F := Ideal) m ρ) (Cert.AdamUpIdeal.Gen.unchanged (F := Ideal) m ρ)),
    (θ_run Cert.AdamUpReferenceIdeal.defs _ _).mono (fun _ k => ⟨(k 0).1.trans (deltas_host _ _ _ _ _),
        (k 0).2.1.trans (means_host _ _ _), (k 0).2.2.1.trans (squares_host _ _ _), (k 0).2.2.2⟩)
      (Cert.AdamUpReferenceIdeal.Value.run (F := Ideal) m' ρ')⟩

theorem frame_adam_ffn_dw_ideal : Cert.quiescent_AdamFfnDwIdeal := fun m ρ _ => Cert.AdamFfnDwIdeal.Gen.frame (F := Ideal) m ρ

theorem frame_adam_ffn_dw : Cert.quiescent_AdamFfnDw := fun m ρ _ => Cert.AdamFfnDw.Gen.frame (F := Bits) m ρ

theorem frame_adam_ffn_dw_ref_ideal : Cert.quiescent_AdamFfnDwReferenceIdeal := fun m ρ _ =>
  (θ_run Cert.AdamFfnDwReferenceIdeal.defs _ _).mono (fun r h => ⟨fun c => (h c).2.2.2, sem_eq_zero_of_no_sems (by decide) r.2⟩)
    (Cert.AdamFfnDwReferenceIdeal.Value.run (F := Ideal) m ρ)

theorem algebraic_adam_ffn_dw : Cert.algebraic_AdamFfnDwIdeal_AdamFfnDwReferenceIdeal := fun m ρ m' ρ' _ h =>
  ⟨_, _, _,
    (θ_run Cert.AdamFfnDwIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamFfnDwIdeal.Update.run (F := Ideal) m ρ) (Cert.AdamFfnDwIdeal.Gen.unchanged (F := Ideal) m ρ)),
    (θ_run Cert.AdamFfnDwReferenceIdeal.defs _ _).mono (fun _ k => ⟨(k 0).1.trans (deltas_host _ _ _ _ _),
        (k 0).2.1.trans (means_host _ _ _), (k 0).2.2.1.trans (squares_host _ _ _), (k 0).2.2.2⟩)
      (Cert.AdamFfnDwReferenceIdeal.Value.run (F := Ideal) m' ρ')⟩

theorem frame_adam_down_ideal : Cert.quiescent_AdamDownIdeal := fun m ρ _ => Cert.AdamDownIdeal.Gen.frame (F := Ideal) m ρ

theorem frame_adam_down : Cert.quiescent_AdamDown := fun m ρ _ => Cert.AdamDown.Gen.frame (F := Bits) m ρ

theorem frame_adam_down_ref_ideal : Cert.quiescent_AdamDownReferenceIdeal := fun m ρ _ =>
  (θ_run Cert.AdamDownReferenceIdeal.defs _ _).mono (fun r h => ⟨fun c => (h c).2.2.2, sem_eq_zero_of_no_sems (by decide) r.2⟩)
    (Cert.AdamDownReferenceIdeal.Value.run (F := Ideal) m ρ)

theorem algebraic_adam_down : Cert.algebraic_AdamDownIdeal_AdamDownReferenceIdeal := fun m ρ m' ρ' _ h =>
  ⟨_, _, _,
    (θ_run Cert.AdamDownIdeal.defs _ _).mono (fun _ k c => ⟨(k.1 c).1.trans (deltas_part (h c).1 (h c).2.1 (h c).2.2.1 (h c).2.2.2),
        (k.1 c).2.1.trans (means_part (h c).2.1 (h c).2.2.1), (k.1 c).2.2.trans (squares_part (h c).2.1 (h c).2.2.2), k.2 c⟩)
      (θ_run_and (Cert.AdamDownIdeal.Update.run (F := Ideal) m ρ) (Cert.AdamDownIdeal.Gen.unchanged (F := Ideal) m ρ)),
    (θ_run Cert.AdamDownReferenceIdeal.defs _ _).mono (fun _ k => ⟨(k 0).1.trans (deltas_host _ _ _ _ _),
        (k 0).2.1.trans (means_host _ _ _), (k 0).2.2.1.trans (squares_host _ _ _), (k 0).2.2.2⟩)
      (Cert.AdamDownReferenceIdeal.Value.run (F := Ideal) m' ρ')⟩

theorem frame_adam_small_ideal : Cert.quiescent_AdamSmallIdeal := fun m ρ _ => Cert.AdamSmallIdeal.Gen.frame (F := Ideal) m ρ

theorem frame_adam_small : Cert.quiescent_AdamSmall := fun m ρ _ => Cert.AdamSmall.Gen.frame (F := Bits) m ρ

set_option smartUnfolding false in
/-- The program printed twice: the table of its calls is one. -/
theorem defs_add_sibling {F : FTy → Type} [FloatOps F] : Cert.AddSibling.defs (F := F) = Cert.AddSiblingIdeal.defs (F := F) := rfl

theorem frame_add_sibling : Cert.quiescent_AddSibling := fun m ρ hpre => by
  rw [defs_add_sibling]
  exact Cert.AddSiblingIdeal.Gen.frame (F := Bits) m ρ (Cert.AddSiblingIdeal.Total.ok m (Cert.AddSiblingIdeal.Total.core_of_pre _ _ _ (hpre 0)))

theorem frame_add_sibling_ideal : Cert.quiescent_AddSiblingIdeal := fun m ρ hpre =>
  Cert.AddSiblingIdeal.Gen.frame (F := Ideal) m ρ (Cert.AddSiblingIdeal.Total.ok m (Cert.AddSiblingIdeal.Total.core_of_pre _ _ _ (hpre 0)))

theorem frame_add_sibling_ref_ideal : Cert.quiescent_AddSiblingReferenceIdeal := fun m ρ _ =>
  (θ_run Cert.AddSiblingReferenceIdeal.defs _ _).mono (fun r h => ⟨fun c => (h c).2.2, sem_eq_zero_of_no_sems (by decide) r.2⟩)
    (Cert.AddSiblingReferenceIdeal.Value.run (F := Ideal) m ρ)

theorem frame_add_sibling_ref_ideal_pre : Cert.quiescent_AddSiblingReferenceIdeal_pre_a_core := fun m ρ _ =>
  (θ_run Cert.AddSiblingReferenceIdeal.defs _ _).mono (fun r h => ⟨fun c => (h c).2.2, sem_eq_zero_of_no_sems (by decide) r.2⟩)
    (Cert.AddSiblingReferenceIdeal.Value.run (F := Ideal) m ρ)

theorem frame_add_sibling_ref : Cert.quiescent_AddSiblingReference := fun m ρ _ =>
  (θ_run Cert.AddSiblingReferenceIdeal.defs _ _).mono (fun r h => ⟨fun c => (h c).2.2, sem_eq_zero_of_no_sems (by decide) r.2⟩)
    (Cert.AddSiblingReferenceIdeal.Value.run (F := Bits) m ρ)

theorem algebraic_add_sibling : Cert.algebraic_AddSiblingIdeal_AddSiblingReferenceIdeal := fun m ρ m' ρ' hpre h =>
  have hw := Cert.AddSiblingIdeal.Total.core_of_pre _ _ _ (hpre 0)
  ⟨_, _,
    (θ_run Cert.AddSiblingIdeal.defs _ _).mono (fun _ k c => ⟨(k.1 c).1, (k.1 c).2, k.2 c⟩)
      (θ_run_and (Cert.AddSiblingIdeal.Total.run (F := Ideal) m ρ ⟨_, hw⟩ rfl)
        (Cert.AddSiblingIdeal.Gen.unchanged (F := Ideal) m ρ (Cert.AddSiblingIdeal.Total.ok m hw))),
    (θ_run Cert.AddSiblingReferenceIdeal.defs _ _).mono (fun _ k c => Subsingleton.elim (α := Fin 1) 0 c ▸
        ⟨(k 0).1.trans (congrArg₂ (Cert.AddSiblingIdeal.Total.total _) (h 0).1 (h 0).2.1), (k 0).2.1.trans (congrArg₂ (Cert.AddSiblingIdeal.Total.rounded _) (h 0).1 (h 0).2.1), (k 0).2.2⟩)
      (Cert.AddSiblingIdeal.Total.reference (F := Ideal) m' ρ' ⟨_, hw⟩ (congrArg BitVec.toNat (congrFun (h 0).2.2 _)))⟩

theorem bitexact_add_sibling : Cert.bitexact_AddSibling_AddSiblingReference := fun m ρ m' ρ' hpre h => by
  have hw := Cert.AddSiblingIdeal.Total.core_of_pre _ _ _ (hpre 0)
  simp only [defs_add_sibling]
  exact ⟨_, _,
    (θ_run Cert.AddSiblingIdeal.defs _ _).mono (fun _ k c => ⟨(k.1 c).1, (k.1 c).2, k.2 c⟩)
      (θ_run_and (Cert.AddSiblingIdeal.Total.run (F := Bits) m ρ ⟨_, hw⟩ rfl)
        (Cert.AddSiblingIdeal.Gen.unchanged (F := Bits) m ρ (Cert.AddSiblingIdeal.Total.ok m hw))),
    (θ_run Cert.AddSiblingReferenceIdeal.defs _ _).mono (fun _ k c => Subsingleton.elim (α := Fin 1) 0 c ▸
        ⟨(k 0).1.trans (congrArg₂ (Cert.AddSiblingIdeal.Total.total _) (h 0).1 (h 0).2.1), (k 0).2.1.trans (congrArg₂ (Cert.AddSiblingIdeal.Total.rounded _) (h 0).1 (h 0).2.1), (k 0).2.2⟩)
      (Cert.AddSiblingIdeal.Total.reference (F := Bits) m' ρ' ⟨_, hw⟩ (congrArg BitVec.toNat (congrFun (h 0).2.2 _)))⟩

set_option smartUnfolding false in
/-- The program printed twice: the table of its calls is one. -/
theorem defs_add_partials {F : FTy → Type} [FloatOps F] : Cert.AddPartials.defs (F := F) = Cert.AddPartialsIdeal.defs (F := F) := rfl

theorem frame_add_partials : Cert.quiescent_AddPartials := fun m ρ hpre => by
  rw [defs_add_partials]
  exact Cert.AddPartialsIdeal.Gen.frame (F := Bits) m ρ (Cert.AddPartialsIdeal.Total.ok m (Cert.AddPartialsIdeal.Total.chip_of_pre _ _ _ (hpre 0)))

theorem frame_add_partials_ideal : Cert.quiescent_AddPartialsIdeal := fun m ρ hpre =>
  Cert.AddPartialsIdeal.Gen.frame (F := Ideal) m ρ (Cert.AddPartialsIdeal.Total.ok m (Cert.AddPartialsIdeal.Total.chip_of_pre _ _ _ (hpre 0)))

theorem frame_add_partials_ref_ideal : Cert.quiescent_AddPartialsReferenceIdeal := fun m ρ _ =>
  (θ_run Cert.AddPartialsReferenceIdeal.defs _ _).mono (fun r h => ⟨fun c => (h c).2, sem_eq_zero_of_no_sems (by decide) r.2⟩)
    (Cert.AddPartialsReferenceIdeal.Value.run (F := Ideal) m ρ)

theorem frame_add_partials_ref_ideal_pre : Cert.quiescent_AddPartialsReferenceIdeal_pre_a_chip := fun m ρ _ =>
  (θ_run Cert.AddPartialsReferenceIdeal.defs _ _).mono (fun r h => ⟨fun c => (h c).2, sem_eq_zero_of_no_sems (by decide) r.2⟩)
    (Cert.AddPartialsReferenceIdeal.Value.run (F := Ideal) m ρ)

theorem frame_add_partials_ref : Cert.quiescent_AddPartialsReference := fun m ρ _ =>
  (θ_run Cert.AddPartialsReferenceIdeal.defs _ _).mono (fun r h => ⟨fun c => (h c).2, sem_eq_zero_of_no_sems (by decide) r.2⟩)
    (Cert.AddPartialsReferenceIdeal.Value.run (F := Bits) m ρ)

theorem algebraic_add_partials : Cert.algebraic_AddPartialsIdeal_AddPartialsReferenceIdeal := fun m ρ m' ρ' hpre h =>
  have hw := Cert.AddPartialsIdeal.Total.chip_of_pre _ _ _ (hpre 0)
  ⟨_,
    (θ_run Cert.AddPartialsIdeal.defs _ _).mono (fun _ k c => ⟨k.1 c, k.2 c⟩)
      (θ_run_and (Cert.AddPartialsIdeal.Total.run (F := Ideal) m ρ ⟨_, hw⟩ rfl)
        (Cert.AddPartialsIdeal.Gen.unchanged (F := Ideal) m ρ (Cert.AddPartialsIdeal.Total.ok m hw))),
    (θ_run Cert.AddPartialsReferenceIdeal.defs _ _).mono (fun _ k c => Subsingleton.elim (α := Fin 1) 0 c ▸
        ⟨(k 0).1.trans (congrArg₂ (Cert.AddPartialsIdeal.Total.total _) (h 0).1 (h 0).2.1), (k 0).2⟩)
      (Cert.AddPartialsIdeal.Total.reference (F := Ideal) m' ρ' ⟨_, hw⟩ (congrArg BitVec.toNat (congrFun (h 0).2.2 _)))⟩

theorem bitexact_add_partials : Cert.bitexact_AddPartials_AddPartialsReference := fun m ρ m' ρ' hpre h => by
  have hw := Cert.AddPartialsIdeal.Total.chip_of_pre _ _ _ (hpre 0)
  simp only [defs_add_partials]
  exact ⟨_,
    (θ_run Cert.AddPartialsIdeal.defs _ _).mono (fun _ k c => ⟨k.1 c, k.2 c⟩)
      (θ_run_and (Cert.AddPartialsIdeal.Total.run (F := Bits) m ρ ⟨_, hw⟩ rfl)
        (Cert.AddPartialsIdeal.Gen.unchanged (F := Bits) m ρ (Cert.AddPartialsIdeal.Total.ok m hw))),
    (θ_run Cert.AddPartialsReferenceIdeal.defs _ _).mono (fun _ k c => Subsingleton.elim (α := Fin 1) 0 c ▸
        ⟨(k 0).1.trans (congrArg₂ (Cert.AddPartialsIdeal.Total.total _) (h 0).1 (h 0).2.1), (k 0).2⟩)
      (Cert.AddPartialsIdeal.Total.reference (F := Bits) m' ρ' ⟨_, hw⟩ (congrArg BitVec.toNat (congrFun (h 0).2.2 _)))⟩

theorem claim : Cert.Claim :=
  ⟨Cert.Gather.Gen.facts, Cert.GatherIdeal.Gen.facts, Cert.GatherReferenceIdeal.Gen.facts, Cert.GatherReference.Gen.facts,
    Cert.Swap.Gen.facts, Cert.SwapIdeal.Gen.facts, Cert.SwapReferenceIdeal.Gen.facts, Cert.SwapReference.Gen.facts,
    Cert.Send.Gen.facts, Cert.SendIdeal.Gen.facts, Cert.SendReferenceIdeal.Gen.facts, Cert.SendReference.Gen.facts,
    Cert.Share.Gen.facts, Cert.ShareIdeal.Gen.facts, Cert.ShareReferenceIdeal.Gen.facts, Cert.ShareReference.Gen.facts,
    Cert.AdamIn.Gen.facts, Cert.AdamInIdeal.Gen.facts, Cert.AdamInReferenceIdeal.Gen.facts,
    Cert.AdamConvDw.Gen.facts, Cert.AdamConvDwIdeal.Gen.facts, Cert.AdamConvDwReferenceIdeal.Gen.facts,
    Cert.AdamConvPw.Gen.facts, Cert.AdamConvPwIdeal.Gen.facts, Cert.AdamConvPwReferenceIdeal.Gen.facts,
    Cert.AdamOut.Gen.facts, Cert.AdamOutIdeal.Gen.facts, Cert.AdamOutReferenceIdeal.Gen.facts,
    Cert.AdamUp.Gen.facts, Cert.AdamUpIdeal.Gen.facts, Cert.AdamUpReferenceIdeal.Gen.facts,
    Cert.AdamFfnDw.Gen.facts, Cert.AdamFfnDwIdeal.Gen.facts, Cert.AdamFfnDwReferenceIdeal.Gen.facts,
    Cert.AdamDown.Gen.facts, Cert.AdamDownIdeal.Gen.facts, Cert.AdamDownReferenceIdeal.Gen.facts,
    Cert.AdamSmall.Gen.facts, Cert.AdamSmallIdeal.Gen.facts, Cert.AdamSmallReferenceIdeal.Gen.facts,
    Cert.AddSibling.Gen.facts, Cert.AddSiblingIdeal.Gen.facts, Cert.AddSiblingReferenceIdeal.Gen.facts, Cert.AddSiblingReference.Gen.facts,
    Cert.AddPartials.Gen.facts, Cert.AddPartialsIdeal.Gen.facts, Cert.AddPartialsReferenceIdeal.Gen.facts, Cert.AddPartialsReference.Gen.facts,
    Cert.Loss.Gen.facts, Cert.LossIdeal.Gen.facts, Cert.LossReferenceIdeal.Gen.facts,
    Cert.Norm.Gen.facts, Cert.NormIdeal.Gen.facts, Cert.NormReferenceIdeal.Gen.facts,
    Cert.Hidden.Gen.facts, Cert.HiddenIdeal.Gen.facts, Cert.HiddenReferenceIdeal.Gen.facts,
    Cert.Down.Gen.facts, Cert.DownIdeal.Gen.facts, Cert.DownReferenceIdeal.Gen.facts,
    Cert.ProjA.Gen.facts, Cert.ProjAIdeal.Gen.facts, Cert.ProjAReferenceIdeal.Gen.facts,
    Cert.ProjFg.Gen.facts, Cert.ProjFgIdeal.Gen.facts, Cert.ProjFgReferenceIdeal.Gen.facts,
    Cert.OutProj.Gen.facts, Cert.OutProjIdeal.Gen.facts, Cert.OutProjReferenceIdeal.Gen.facts,
    Cert.UpProj.Gen.facts, Cert.UpProjIdeal.Gen.facts, Cert.UpProjReferenceIdeal.Gen.facts,
    Cert.DownProj.Gen.facts, Cert.DownProjIdeal.Gen.facts, Cert.DownProjReferenceIdeal.Gen.facts,
    Cert.BackAct.Gen.facts, Cert.BackActIdeal.Gen.facts, Cert.BackActReferenceIdeal.Gen.facts,
    Cert.BackUp.Gen.facts, Cert.BackUpIdeal.Gen.facts, Cert.BackUpReferenceIdeal.Gen.facts,
    Cert.GradUp.Gen.facts, Cert.GradUpIdeal.Gen.facts, Cert.GradUpReferenceIdeal.Gen.facts,
    Cert.BackMix.Gen.facts, Cert.BackMixIdeal.Gen.facts, Cert.BackMixReferenceIdeal.Gen.facts,
    Cert.GradOut.Gen.facts, Cert.GradOutIdeal.Gen.facts, Cert.GradOutReferenceIdeal.Gen.facts,
    Cert.BackFg.Gen.facts, Cert.BackFgIdeal.Gen.facts, Cert.BackFgReferenceIdeal.Gen.facts,
    Cert.BackA.Gen.facts, Cert.BackAIdeal.Gen.facts, Cert.BackAReferenceIdeal.Gen.facts,
    Cert.GradA.Gen.facts, Cert.GradAIdeal.Gen.facts, Cert.GradAReferenceIdeal.Gen.facts,
    Cert.GradFg.Gen.facts, Cert.GradFgIdeal.Gen.facts, Cert.GradFgReferenceIdeal.Gen.facts,
    Cert.Pre_a_core.Gen.facts, Cert.Pre_a_chip.Gen.facts,
    frame_gather, frame_gather_ideal, frame_gather_ref_ideal, frame_gather_ref,
    frame_swap, frame_swap_ideal, frame_swap_ref_ideal, frame_swap_ref,
    frame_send, frame_send_ideal, frame_send_ref_ideal, frame_send_ref,
    frame_share, frame_share_ideal, frame_share_ref_ideal, frame_share_ref,
    frame_adam_in, frame_adam_in_ideal, frame_adam_in_ref_ideal,
    frame_adam_conv_dw, frame_adam_conv_dw_ideal, frame_adam_conv_dw_ref_ideal,
    frame_adam_conv_pw, frame_adam_conv_pw_ideal, frame_adam_conv_pw_ref_ideal,
    frame_adam_out, frame_adam_out_ideal, frame_adam_out_ref_ideal,
    frame_adam_up, frame_adam_up_ideal, frame_adam_up_ref_ideal,
    frame_adam_ffn_dw, frame_adam_ffn_dw_ideal, frame_adam_ffn_dw_ref_ideal,
    frame_adam_down, frame_adam_down_ideal, frame_adam_down_ref_ideal,
    frame_adam_small, frame_adam_small_ideal, frame_adam_small_ref_ideal,
    frame_add_sibling, frame_add_sibling_ideal, frame_add_sibling_ref_ideal, frame_add_sibling_ref_ideal_pre, frame_add_sibling_ref,
    frame_add_partials, frame_add_partials_ideal, frame_add_partials_ref_ideal, frame_add_partials_ref_ideal_pre, frame_add_partials_ref,
    frame_loss, frame_loss_ideal, frame_loss_ref_ideal,
    frame_norm, frame_norm_ideal, frame_norm_ref_ideal,
    frame_hidden, frame_hidden_ideal, frame_hidden_ref_ideal,
    frame_down, frame_down_ideal, frame_down_ref_ideal,
    frame_proj_a, frame_proj_a_ideal, frame_proj_a_ref_ideal,
    frame_proj_fg, frame_proj_fg_ideal, frame_proj_fg_ref_ideal,
    frame_out_proj, frame_out_proj_ideal, frame_out_proj_ref_ideal,
    frame_up_proj, frame_up_proj_ideal, frame_up_proj_ref_ideal,
    frame_down_proj, frame_down_proj_ideal, frame_down_proj_ref_ideal,
    frame_back_act, frame_back_act_ideal, frame_back_act_ref_ideal,
    frame_back_up, frame_back_up_ideal, frame_back_up_ref_ideal,
    frame_grad_up, frame_grad_up_ideal, frame_grad_up_ref_ideal,
    frame_back_mix, frame_back_mix_ideal, frame_back_mix_ref_ideal,
    frame_grad_out, frame_grad_out_ideal, frame_grad_out_ref_ideal,
    frame_back_fg, frame_back_fg_ideal, frame_back_fg_ref_ideal,
    frame_back_a, frame_back_a_ideal, frame_back_a_ref_ideal,
    frame_grad_a, frame_grad_a_ideal, frame_grad_a_ref_ideal,
    frame_grad_fg, frame_grad_fg_ideal, frame_grad_fg_ref_ideal,
    trivial, algebraic_gather, bitexact_gather,
    trivial, algebraic_swap, bitexact_swap,
    trivial, algebraic_send, bitexact_send,
    trivial, algebraic_share, bitexact_share,
    trivial, algebraic_adam_in,
    trivial, algebraic_adam_conv_dw,
    trivial, algebraic_adam_conv_pw,
    trivial, algebraic_adam_out,
    trivial, algebraic_adam_up,
    trivial, algebraic_adam_ffn_dw,
    trivial, algebraic_adam_down,
    trivial, algebraic_adam_small,
    trivial, algebraic_add_sibling, bitexact_add_sibling,
    trivial, algebraic_add_partials, bitexact_add_partials,
    trivial, algebraic_loss,
    trivial, algebraic_norm,
    trivial, algebraic_hidden,
    trivial, algebraic_down,
    trivial, algebraic_proj_a,
    trivial, algebraic_proj_fg,
    trivial, algebraic_out_proj,
    trivial, algebraic_up_proj,
    trivial, algebraic_down_proj,
    trivial, algebraic_back_act,
    trivial, algebraic_back_up,
    trivial, algebraic_grad_up,
    trivial, algebraic_back_mix,
    trivial, algebraic_grad_out,
    trivial, algebraic_back_fg,
    trivial, algebraic_back_a,
    trivial, algebraic_grad_a,
    trivial, algebraic_grad_fg⟩

end Cert.Proof

end
